-- ==== Defs.lean ====
def Pre_Relu2 (m : (ℓ : Loc Cert.Relu2.nD Cert.Relu2.τ Cert.Relu2.sig) → Buf (Elt Bits) ℓ) : Prop :=
  True

def Pre_Relu2Ideal (m : (ℓ : Loc Cert.Relu2Ideal.nD Cert.Relu2Ideal.τ Cert.Relu2Ideal.sig) → Buf (Elt Ideal) ℓ) : Prop :=
  True

def Pre_Relu2RefIdeal (m : (ℓ : Loc Cert.Relu2RefIdeal.nD Cert.Relu2RefIdeal.τ Cert.Relu2RefIdeal.sig) → Buf (Elt Ideal) ℓ) : Prop :=
  True

def Pre_NormBwd (m : (ℓ : Loc Cert.NormBwd.nD Cert.NormBwd.τ Cert.NormBwd.sig) → Buf (Elt Bits) ℓ) : Prop :=
  True

def Pre_NormBwdIdeal (m : (ℓ : Loc Cert.NormBwdIdeal.nD Cert.NormBwdIdeal.τ Cert.NormBwdIdeal.sig) → Buf (Elt Ideal) ℓ) : Prop :=
  True

def Pre_NormBwdRefIdeal (m : (ℓ : Loc Cert.NormBwdRefIdeal.nD Cert.NormBwdRefIdeal.τ Cert.NormBwdRefIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_MixerBwd (m : (ℓ : Loc Cert.MixerBwd.nD Cert.MixerBwd.τ Cert.MixerBwd.sig) → Buf (Elt Bits) ℓ) : Prop :=
  True

def Pre_MixerBwdIdeal (m : (ℓ : Loc Cert.MixerBwdIdeal.nD Cert.MixerBwdIdeal.τ Cert.MixerBwdIdeal.sig) → Buf (Elt Ideal) ℓ) : Prop :=
  True

def Pre_MixerBwdIdeal_pool_finite [hPre_pool_finite : Cert.Pre_pool_finite.Facts] (m : (ℓ : Loc Cert.MixerBwdIdeal.nD Cert.MixerBwdIdeal.τ Cert.MixerBwdIdeal.sig) → Buf (Elt Ideal) ℓ) : Prop :=
  ∀ c : Dev Cert.MixerBwdIdeal.nD,
    (Cert.Pre_pool_finite.fn (F := Ideal) (m ((c.tc : Thread Cert.MixerBwdIdeal.nD Cert.MixerBwdIdeal.τ).loc Cert.MixerBwdIdeal.main_arg0)) (m ((c.tc : Thread Cert.MixerBwdIdeal.nD Cert.MixerBwdIdeal.τ).loc Cert.MixerBwdIdeal.main_arg1)) (m ((c.tc : Thread Cert.MixerBwdIdeal.nD Cert.MixerBwdIdeal.τ).loc Cert.MixerBwdIdeal.main_arg2)) (m ((c.tc : Thread Cert.MixerBwdIdeal.nD Cert.MixerBwdIdeal.τ).loc Cert.MixerBwdIdeal.main_arg3)) (m ((c.tc : Thread Cert.MixerBwdIdeal.nD Cert.MixerBwdIdeal.τ).loc Cert.MixerBwdIdeal.main_arg4))).1 = (fun _ => 1#1)
    ∧ (Cert.Pre_pool_finite.fn (F := Ideal) (m ((c.tc : Thread Cert.MixerBwdIdeal.nD Cert.MixerBwdIdeal.τ).loc Cert.MixerBwdIdeal.main_arg0)) (m ((c.tc : Thread Cert.MixerBwdIdeal.nD Cert.MixerBwdIdeal.τ).loc Cert.MixerBwdIdeal.main_arg1)) (m ((c.tc : Thread Cert.MixerBwdIdeal.nD Cert.MixerBwdIdeal.τ).loc Cert.MixerBwdIdeal.main_arg2)) (m ((c.tc : Thread Cert.MixerBwdIdeal.nD Cert.MixerBwdIdeal.τ).loc Cert.MixerBwdIdeal.main_arg3)) (m ((c.tc : Thread Cert.MixerBwdIdeal.nD Cert.MixerBwdIdeal.τ).loc Cert.MixerBwdIdeal.main_arg4))).2.1 = (fun _ => 1#1)
    ∧ (Cert.Pre_pool_finite.fn (F := Ideal) (m ((c.tc : Thread Cert.MixerBwdIdeal.nD Cert.MixerBwdIdeal.τ).loc Cert.MixerBwdIdeal.main_arg0)) (m ((c.tc : Thread Cert.MixerBwdIdeal.nD Cert.MixerBwdIdeal.τ).loc Cert.MixerBwdIdeal.main_arg1)) (m ((c.tc : Thread Cert.MixerBwdIdeal.nD Cert.MixerBwdIdeal.τ).loc Cert.MixerBwdIdeal.main_arg2)) (m ((c.tc : Thread Cert.MixerBwdIdeal.nD Cert.MixerBwdIdeal.τ).loc Cert.MixerBwdIdeal.main_arg3)) (m ((c.tc : Thread Cert.MixerBwdIdeal.nD Cert.MixerBwdIdeal.τ).loc Cert.MixerBwdIdeal.main_arg4))).2.2.1 = (fun _ => 1#1)
    ∧ (Cert.Pre_pool_finite.fn (F := Ideal) (m ((c.tc : Thread Cert.MixerBwdIdeal.nD Cert.MixerBwdIdeal.τ).loc Cert.MixerBwdIdeal.main_arg0)) (m ((c.tc : Thread Cert.MixerBwdIdeal.nD Cert.MixerBwdIdeal.τ).loc Cert.MixerBwdIdeal.main_arg1)) (m ((c.tc : Thread Cert.MixerBwdIdeal.nD Cert.MixerBwdIdeal.τ).loc Cert.MixerBwdIdeal.main_arg2)) (m ((c.tc : Thread Cert.MixerBwdIdeal.nD Cert.MixerBwdIdeal.τ).loc Cert.MixerBwdIdeal.main_arg3)) (m ((c.tc : Thread Cert.MixerBwdIdeal.nD Cert.MixerBwdIdeal.τ).loc Cert.MixerBwdIdeal.main_arg4))).2.2.2 = (fun _ => 1#1)

def Pre_MixerBwdRefIdeal (m : (ℓ : Loc Cert.MixerBwdRefIdeal.nD Cert.MixerBwdRefIdeal.τ Cert.MixerBwdRefIdeal.sig) → Buf (Elt Ideal) ℓ) : Prop :=
  True

def Pre_MixerBwdRefIdeal_pool_finite [hPre_pool_finite : Cert.Pre_pool_finite.Facts] (m : (ℓ : Loc Cert.MixerBwdRefIdeal.nD Cert.MixerBwdRefIdeal.τ Cert.MixerBwdRefIdeal.sig) → Buf (Elt Ideal) ℓ) : Prop :=
  ∀ c : Dev Cert.MixerBwdRefIdeal.nD,
    (Cert.Pre_pool_finite.fn (F := Ideal) (m ((c.tc : Thread Cert.MixerBwdRefIdeal.nD Cert.MixerBwdRefIdeal.τ).loc Cert.MixerBwdRefIdeal.main_arg0)) (m ((c.tc : Thread Cert.MixerBwdRefIdeal.nD Cert.MixerBwdRefIdeal.τ).loc Cert.MixerBwdRefIdeal.main_arg1)) (m ((c.tc : Thread Cert.MixerBwdRefIdeal.nD Cert.MixerBwdRefIdeal.τ).loc Cert.MixerBwdRefIdeal.main_arg2)) (m ((c.tc : Thread Cert.MixerBwdRefIdeal.nD Cert.MixerBwdRefIdeal.τ).loc Cert.MixerBwdRefIdeal.main_arg3)) (m ((c.tc : Thread Cert.MixerBwdRefIdeal.nD Cert.MixerBwdRefIdeal.τ).loc Cert.MixerBwdRefIdeal.main_arg4))).1 = (fun _ => 1#1)
    ∧ (Cert.Pre_pool_finite.fn (F := Ideal) (m ((c.tc : Thread Cert.MixerBwdRefIdeal.nD Cert.MixerBwdRefIdeal.τ).loc Cert.MixerBwdRefIdeal.main_arg0)) (m ((c.tc : Thread Cert.MixerBwdRefIdeal.nD Cert.MixerBwdRefIdeal.τ).loc Cert.MixerBwdRefIdeal.main_arg1)) (m ((c.tc : Thread Cert.MixerBwdRefIdeal.nD Cert.MixerBwdRefIdeal.τ).loc Cert.MixerBwdRefIdeal.main_arg2)) (m ((c.tc : Thread Cert.MixerBwdRefIdeal.nD Cert.MixerBwdRefIdeal.τ).loc Cert.MixerBwdRefIdeal.main_arg3)) (m ((c.tc : Thread Cert.MixerBwdRefIdeal.nD Cert.MixerBwdRefIdeal.τ).loc Cert.MixerBwdRefIdeal.main_arg4))).2.1 = (fun _ => 1#1)
    ∧ (Cert.Pre_pool_finite.fn (F := Ideal) (m ((c.tc : Thread Cert.MixerBwdRefIdeal.nD Cert.MixerBwdRefIdeal.τ).loc Cert.MixerBwdRefIdeal.main_arg0)) (m ((c.tc : Thread Cert.MixerBwdRefIdeal.nD Cert.MixerBwdRefIdeal.τ).loc Cert.MixerBwdRefIdeal.main_arg1)) (m ((c.tc : Thread Cert.MixerBwdRefIdeal.nD Cert.MixerBwdRefIdeal.τ).loc Cert.MixerBwdRefIdeal.main_arg2)) (m ((c.tc : Thread Cert.MixerBwdRefIdeal.nD Cert.MixerBwdRefIdeal.τ).loc Cert.MixerBwdRefIdeal.main_arg3)) (m ((c.tc : Thread Cert.MixerBwdRefIdeal.nD Cert.MixerBwdRefIdeal.τ).loc Cert.MixerBwdRefIdeal.main_arg4))).2.2.1 = (fun _ => 1#1)
    ∧ (Cert.Pre_pool_finite.fn (F := Ideal) (m ((c.tc : Thread Cert.MixerBwdRefIdeal.nD Cert.MixerBwdRefIdeal.τ).loc Cert.MixerBwdRefIdeal.main_arg0)) (m ((c.tc : Thread Cert.MixerBwdRefIdeal.nD Cert.MixerBwdRefIdeal.τ).loc Cert.MixerBwdRefIdeal.main_arg1)) (m ((c.tc : Thread Cert.MixerBwdRefIdeal.nD Cert.MixerBwdRefIdeal.τ).loc Cert.MixerBwdRefIdeal.main_arg2)) (m ((c.tc : Thread Cert.MixerBwdRefIdeal.nD Cert.MixerBwdRefIdeal.τ).loc Cert.MixerBwdRefIdeal.main_arg3)) (m ((c.tc : Thread Cert.MixerBwdRefIdeal.nD Cert.MixerBwdRefIdeal.τ).loc Cert.MixerBwdRefIdeal.main_arg4))).2.2.2 = (fun _ => 1#1)

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_Mixer (m : (ℓ : Loc Cert.Mixer.nD Cert.Mixer.τ Cert.Mixer.sig) → Buf (Elt Bits) ℓ) : Prop :=
  True

def Pre_MixerIdeal (m : (ℓ : Loc Cert.MixerIdeal.nD Cert.MixerIdeal.τ Cert.MixerIdeal.sig) → Buf (Elt Ideal) ℓ) : Prop :=
  True

def Pre_MixerIdeal_pool_input_finite [hPre_pool_input_finite : Cert.Pre_pool_input_finite.Facts] (m : (ℓ : Loc Cert.MixerIdeal.nD Cert.MixerIdeal.τ Cert.MixerIdeal.sig) → Buf (Elt Ideal) ℓ) : Prop :=
  ∀ c : Dev Cert.MixerIdeal.nD,
    (Cert.Pre_pool_input_finite.fn (F := Ideal) (m ((c.tc : Thread Cert.MixerIdeal.nD Cert.MixerIdeal.τ).loc Cert.MixerIdeal.main_arg0)) (m ((c.tc : Thread Cert.MixerIdeal.nD Cert.MixerIdeal.τ).loc Cert.MixerIdeal.main_arg1)) (m ((c.tc : Thread Cert.MixerIdeal.nD Cert.MixerIdeal.τ).loc Cert.MixerIdeal.main_arg2)) (m ((c.tc : Thread Cert.MixerIdeal.nD Cert.MixerIdeal.τ).loc Cert.MixerIdeal.main_arg3))) = (fun _ => 1#1)

def Pre_MixerRefIdeal (m : (ℓ : Loc Cert.MixerRefIdeal.nD Cert.MixerRefIdeal.τ Cert.MixerRefIdeal.sig) → Buf (Elt Ideal) ℓ) : Prop :=
  True

def Pre_MixerRefIdeal_pool_input_finite [hPre_pool_input_finite : Cert.Pre_pool_input_finite.Facts] (m : (ℓ : Loc Cert.MixerRefIdeal.nD Cert.MixerRefIdeal.τ Cert.MixerRefIdeal.sig) → Buf (Elt Ideal) ℓ) : Prop :=
  ∀ c : Dev Cert.MixerRefIdeal.nD,
    (Cert.Pre_pool_input_finite.fn (F := Ideal) (m ((c.tc : Thread Cert.MixerRefIdeal.nD Cert.MixerRefIdeal.τ).loc Cert.MixerRefIdeal.main_arg0)) (m ((c.tc : Thread Cert.MixerRefIdeal.nD Cert.MixerRefIdeal.τ).loc Cert.MixerRefIdeal.main_arg1)) (m ((c.tc : Thread Cert.MixerRefIdeal.nD Cert.MixerRefIdeal.τ).loc Cert.MixerRefIdeal.main_arg2)) (m ((c.tc : Thread Cert.MixerRefIdeal.nD Cert.MixerRefIdeal.τ).loc Cert.MixerRefIdeal.main_arg3))) = (fun _ => 1#1)

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_UpDx (m : (ℓ : Loc Cert.UpDx.nD Cert.UpDx.τ Cert.UpDx.sig) → Buf (Elt Bits) ℓ) : Prop :=
  True

def Pre_UpDxIdeal (m : (ℓ : Loc Cert.UpDxIdeal.nD Cert.UpDxIdeal.τ Cert.UpDxIdeal.sig) → Buf (Elt Ideal) ℓ) : Prop :=
  True

def Pre_UpDxRefIdeal (m : (ℓ : Loc Cert.UpDxRefIdeal.nD Cert.UpDxRefIdeal.τ Cert.UpDxRefIdeal.sig) → Buf (Elt Ideal) ℓ) : Prop :=
  True

def Pre_DownDw (m : (ℓ : Loc Cert.DownDw.nD Cert.DownDw.τ Cert.DownDw.sig) → Buf (Elt Bits) ℓ) : Prop :=
  True

def Pre_DownDwIdeal (m : (ℓ : Loc Cert.DownDwIdeal.nD Cert.DownDwIdeal.τ Cert.DownDwIdeal.sig) → Buf (Elt Ideal) ℓ) : Prop :=
  True

def Pre_DownDwRefIdeal (m : (ℓ : Loc Cert.DownDwRefIdeal.nD Cert.DownDwRefIdeal.τ Cert.DownDwRefIdeal.sig) → Buf (Elt Ideal) ℓ) : Prop :=
  True

def Pre_Adamw (m : (ℓ : Loc Cert.Adamw.nD Cert.Adamw.τ Cert.Adamw.sig) → Buf (Elt Bits) ℓ) : Prop :=
  True

def Pre_AdamwIdeal (m : (ℓ : Loc Cert.AdamwIdeal.nD Cert.AdamwIdeal.τ Cert.AdamwIdeal.sig) → Buf (Elt Ideal) ℓ) : Prop :=
  True

def Pre_AdamwRefIdeal (m : (ℓ : Loc Cert.AdamwRefIdeal.nD Cert.AdamwRefIdeal.τ Cert.AdamwRefIdeal.sig) → Buf (Elt Ideal) ℓ) : Prop :=
  True

def Pre_Cast (m : (ℓ : Loc Cert.Cast.nD Cert.Cast.τ Cert.Cast.sig) → Buf (Elt Bits) ℓ) : Prop :=
  True

def Pre_CastIdeal (m : (ℓ : Loc Cert.CastIdeal.nD Cert.CastIdeal.τ Cert.CastIdeal.sig) → Buf (Elt Ideal) ℓ) : Prop :=
  True

def Pre_CastRefIdeal (m : (ℓ : Loc Cert.CastRefIdeal.nD Cert.CastRefIdeal.τ Cert.CastRefIdeal.sig) → Buf (Elt Ideal) ℓ) : Prop :=
  True

def Pre_Gather (m : (ℓ : Loc Cert.Gather.nD Cert.Gather.τ Cert.Gather.sig) → Buf (Elt Bits) ℓ) : Prop :=
  True

def Pre_GatherIdeal (m : (ℓ : Loc Cert.GatherIdeal.nD Cert.GatherIdeal.τ Cert.GatherIdeal.sig) → Buf (Elt Ideal) ℓ) : Prop :=
  True

def Pre_GatherRefIdeal (m : (ℓ : Loc Cert.GatherRefIdeal.nD Cert.GatherRefIdeal.τ Cert.GatherRefIdeal.sig) → Buf (Elt Ideal) ℓ) : Prop :=
  True

def Pre_AdamwOwn [hPre_own_block : Cert.Pre_own_block.Facts] (m : (ℓ : Loc Cert.AdamwOwn.nD Cert.AdamwOwn.τ Cert.AdamwOwn.sig) → Buf (Elt Bits) ℓ) : Prop :=
  ∀ c : Dev Cert.AdamwOwn.nD,
    (Cert.Pre_own_block.fn (F := Bits) (m ((c.tc : Thread Cert.AdamwOwn.nD Cert.AdamwOwn.τ).loc Cert.AdamwOwn.main_arg0)) (m ((c.tc : Thread Cert.AdamwOwn.nD Cert.AdamwOwn.τ).loc Cert.AdamwOwn.main_arg1)) (m ((c.tc : Thread Cert.AdamwOwn.nD Cert.AdamwOwn.τ).loc Cert.AdamwOwn.main_arg2)) (m ((c.tc : Thread Cert.AdamwOwn.nD Cert.AdamwOwn.τ).loc Cert.AdamwOwn.main_arg3)) (m ((c.tc : Thread Cert.AdamwOwn.nD Cert.AdamwOwn.τ).loc Cert.AdamwOwn.main_arg4)) (m ((c.tc : Thread Cert.AdamwOwn.nD Cert.AdamwOwn.τ).loc Cert.AdamwOwn.main_arg5))) = (fun _ => 1#1)

def Pre_AdamwOwnIdeal [hPre_own_block : Cert.Pre_own_block.Facts] (m : (ℓ : Loc Cert.AdamwOwnIdeal.nD Cert.AdamwOwnIdeal.τ Cert.AdamwOwnIdeal.sig) → Buf (Elt Ideal) ℓ) : Prop :=
  ∀ c : Dev Cert.AdamwOwnIdeal.nD,
    (Cert.Pre_own_block.fn (F := Ideal) (m ((c.tc : Thread Cert.AdamwOwnIdeal.nD Cert.AdamwOwnIdeal.τ).loc Cert.AdamwOwnIdeal.main_arg0)) (m ((c.tc : Thread Cert.AdamwOwnIdeal.nD Cert.AdamwOwnIdeal.τ).loc Cert.AdamwOwnIdeal.main_arg1)) (m ((c.tc : Thread Cert.AdamwOwnIdeal.nD Cert.AdamwOwnIdeal.τ).loc Cert.AdamwOwnIdeal.main_arg2)) (m ((c.tc : Thread Cert.AdamwOwnIdeal.nD Cert.AdamwOwnIdeal.τ).loc Cert.AdamwOwnIdeal.main_arg3)) (m ((c.tc : Thread Cert.AdamwOwnIdeal.nD Cert.AdamwOwnIdeal.τ).loc Cert.AdamwOwnIdeal.main_arg4)) (m ((c.tc : Thread Cert.AdamwOwnIdeal.nD Cert.AdamwOwnIdeal.τ).loc Cert.AdamwOwnIdeal.main_arg5))) = (fun _ => 1#1)

def Pre_AdamwOwnRefIdeal (m : (ℓ : Loc Cert.AdamwOwnRefIdeal.nD Cert.AdamwOwnRefIdeal.τ Cert.AdamwOwnRefIdeal.sig) → Buf (Elt Ideal) ℓ) : Prop :=
  True

def Pre_AdamwOwnRefIdeal_own_block [hPre_own_block : Cert.Pre_own_block.Facts] (m : (ℓ : Loc Cert.AdamwOwnRefIdeal.nD Cert.AdamwOwnRefIdeal.τ Cert.AdamwOwnRefIdeal.sig) → Buf (Elt Ideal) ℓ) : Prop :=
  ∀ c : Dev Cert.AdamwOwnRefIdeal.nD,
    (Cert.Pre_own_block.fn (F := Ideal) (m ((c.tc : Thread Cert.AdamwOwnRefIdeal.nD Cert.AdamwOwnRefIdeal.τ).loc Cert.AdamwOwnRefIdeal.main_arg0)) (m ((c.tc : Thread Cert.AdamwOwnRefIdeal.nD Cert.AdamwOwnRefIdeal.τ).loc Cert.AdamwOwnRefIdeal.main_arg1)) (m ((c.tc : Thread Cert.AdamwOwnRefIdeal.nD Cert.AdamwOwnRefIdeal.τ).loc Cert.AdamwOwnRefIdeal.main_arg2)) (m ((c.tc : Thread Cert.AdamwOwnRefIdeal.nD Cert.AdamwOwnRefIdeal.τ).loc Cert.AdamwOwnRefIdeal.main_arg3)) (m ((c.tc : Thread Cert.AdamwOwnRefIdeal.nD Cert.AdamwOwnRefIdeal.τ).loc Cert.AdamwOwnRefIdeal.main_arg4)) (m ((c.tc : Thread Cert.AdamwOwnRefIdeal.nD Cert.AdamwOwnRefIdeal.τ).loc Cert.AdamwOwnRefIdeal.main_arg5))) = (fun _ => 1#1)

def Pre_NormFirst (m : (ℓ : Loc Cert.NormFirst.nD Cert.NormFirst.τ Cert.NormFirst.sig) → Buf (Elt Bits) ℓ) : Prop :=
  True

def Pre_NormFirstIdeal (m : (ℓ : Loc Cert.NormFirstIdeal.nD Cert.NormFirstIdeal.τ Cert.NormFirstIdeal.sig) → Buf (Elt Ideal) ℓ) : Prop :=
  True

def Pre_NormFirstRefIdeal (m : (ℓ : Loc Cert.NormFirstRefIdeal.nD Cert.NormFirstRefIdeal.τ Cert.NormFirstRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_InProjDx (m : (ℓ : Loc Cert.InProjDx.nD Cert.InProjDx.τ Cert.InProjDx.sig) → Buf (Elt Bits) ℓ) : Prop :=
  True

def Pre_InProjDxIdeal (m : (ℓ : Loc Cert.InProjDxIdeal.nD Cert.InProjDxIdeal.τ Cert.InProjDxIdeal.sig) → Buf (Elt Ideal) ℓ) : Prop :=
  True

def Pre_InProjDxRefIdeal (m : (ℓ : Loc Cert.InProjDxRefIdeal.nD Cert.InProjDxRefIdeal.τ Cert.InProjDxRefIdeal.sig) → Buf (Elt Ideal) ℓ) : Prop :=
  True

def Pre_InProjDw (m : (ℓ : Loc Cert.InProjDw.nD Cert.InProjDw.τ Cert.InProjDw.sig) → Buf (Elt Bits) ℓ) : Prop :=
  True

def Pre_InProjDwIdeal (m : (ℓ : Loc Cert.InProjDwIdeal.nD Cert.InProjDwIdeal.τ Cert.InProjDwIdeal.sig) → Buf (Elt Ideal) ℓ) : Prop :=
  True

def Pre_InProjDwRefIdeal (m : (ℓ : Loc Cert.InProjDwRefIdeal.nD Cert.InProjDwRefIdeal.τ Cert.InProjDwRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_OutProjDx (m : (ℓ : Loc Cert.OutProjDx.nD Cert.OutProjDx.τ Cert.OutProjDx.sig) → Buf (Elt Bits) ℓ) : Prop :=
  True

def Pre_OutProjDxIdeal (m : (ℓ : Loc Cert.OutProjDxIdeal.nD Cert.OutProjDxIdeal.τ Cert.OutProjDxIdeal.sig) → Buf (Elt Ideal) ℓ) : Prop :=
  True

def Pre_OutProjDxRefIdeal (m : (ℓ : Loc Cert.OutProjDxRefIdeal.nD Cert.OutProjDxRefIdeal.τ Cert.OutProjDxRefIdeal.sig) → Buf (Elt Ideal) ℓ) : Prop :=
  True

def Pre_OutProjDw (m : (ℓ : Loc Cert.OutProjDw.nD Cert.OutProjDw.τ Cert.OutProjDw.sig) → Buf (Elt Bits) ℓ) : Prop :=
  True

def Pre_OutProjDwIdeal (m : (ℓ : Loc Cert.OutProjDwIdeal.nD Cert.OutProjDwIdeal.τ Cert.OutProjDwIdeal.sig) → Buf (Elt Ideal) ℓ) : Prop :=
  True

def Pre_OutProjDwRefIdeal (m : (ℓ : Loc Cert.OutProjDwRefIdeal.nD Cert.OutProjDwRefIdeal.τ Cert.OutProjDwRefIdeal.sig) → Buf (Elt Ideal) ℓ) : Prop :=
  True

def Pre_UpDw (m : (ℓ : Loc Cert.UpDw.nD Cert.UpDw.τ Cert.UpDw.sig) → Buf (Elt Bits) ℓ) : Prop :=
  True

def Pre_UpDwIdeal (m : (ℓ : Loc Cert.UpDwIdeal.nD Cert.UpDwIdeal.τ Cert.UpDwIdeal.sig) → Buf (Elt Ideal) ℓ) : Prop :=
  True

def Pre_UpDwRefIdeal (m : (ℓ : Loc Cert.UpDwRefIdeal.nD Cert.UpDwRefIdeal.τ Cert.UpDwRefIdeal.sig) → Buf (Elt Ideal) ℓ) : Prop :=
  True

def Pre_CastFirst (m : (ℓ : Loc Cert.CastFirst.nD Cert.CastFirst.τ Cert.CastFirst.sig) → Buf (Elt Bits) ℓ) : Prop :=
  True

def Pre_CastFirstIdeal (m : (ℓ : Loc Cert.CastFirstIdeal.nD Cert.CastFirstIdeal.τ Cert.CastFirstIdeal.sig) → Buf (Elt Ideal) ℓ) : Prop :=
  True

def Pre_CastFirstRefIdeal (m : (ℓ : Loc Cert.CastFirstRefIdeal.nD Cert.CastFirstRefIdeal.τ Cert.CastFirstRefIdeal.sig) → Buf (Elt Ideal) ℓ) : Prop :=
  True

def quiescent_Relu2 [hRelu2 : Cert.Relu2.Facts] : Prop :=
  ∀ (m : (ℓ : Loc Cert.Relu2.nD Cert.Relu2.τ Cert.Relu2.sig) → Buf (Elt Bits) ℓ) (g : Dev Cert.Relu2.nD → PrngReg), Pre_Relu2 m →
    θ_run (Cert.Relu2.defs (F := Bits)) (onTc (τ := Cert.Relu2.τ) (Cert.Relu2.main (F := Bits))) ⟨m, fun _ => 0, g⟩ (fun r => (∀ c : Dev Cert.Relu2.nD,
      r.2.mem ((c.tc : Thread Cert.Relu2.nD Cert.Relu2.τ).loc Cert.Relu2.main_arg0) = m ((c.tc : Thread Cert.Relu2.nD Cert.Relu2.τ).loc Cert.Relu2.main_arg0)
      ∧ r.2.mem ((c.tc : Thread Cert.Relu2.nD Cert.Relu2.τ).loc Cert.Relu2.main_arg1) = m ((c.tc : Thread Cert.Relu2.nD Cert.Relu2.τ).loc Cert.Relu2.main_arg1)
      ∧ r.2.mem ((c.tc : Thread Cert.Relu2.nD Cert.Relu2.τ).loc Cert.Relu2.main_arg2) = m ((c.tc : Thread Cert.Relu2.nD Cert.Relu2.τ).loc Cert.Relu2.main_arg2))
      ∧ r.2.sem = fun _ => 0)

def quiescent_Relu2Ideal [hRelu2Ideal : Cert.Relu2Ideal.Facts] : Prop :=
  ∀ (m : (ℓ : Loc Cert.Relu2Ideal.nD Cert.Relu2Ideal.τ Cert.Relu2Ideal.sig) → Buf (Elt Ideal) ℓ) (g : Dev Cert.Relu2Ideal.nD → PrngReg), Pre_Relu2Ideal m →
    θ_run (Cert.Relu2Ideal.defs (F := Ideal)) (onTc (τ := Cert.Relu2Ideal.τ) (Cert.Relu2Ideal.main (F := Ideal))) ⟨m, fun _ => 0, g⟩ (fun r => (∀ c : Dev Cert.Relu2Ideal.nD,
      r.2.mem ((c.tc : Thread Cert.Relu2Ideal.nD Cert.Relu2Ideal.τ).loc Cert.Relu2Ideal.main_arg0) = m ((c.tc : Thread Cert.Relu2Ideal.nD Cert.Relu2Ideal.τ).loc Cert.Relu2Ideal.main_arg0)
      ∧ r.2.mem ((c.tc : Thread Cert.Relu2Ideal.nD Cert.Relu2Ideal.τ).loc Cert.Relu2Ideal.main_arg1) = m ((c.tc : Thread Cert.Relu2Ideal.nD Cert.Relu2Ideal.τ).loc Cert.Relu2Ideal.main_arg1)
      ∧ r.2.mem ((c.tc : Thread Cert.Relu2Ideal.nD Cert.Relu2Ideal.τ).loc Cert.Relu2Ideal.main_arg2) = m ((c.tc : Thread Cert.Relu2Ideal.nD Cert.Relu2Ideal.τ).loc Cert.Relu2Ideal.main_arg2))
      ∧ r.2.sem = fun _ => 0)

def quiescent_Relu2RefIdeal [hRelu2RefIdeal : Cert.Relu2RefIdeal.Facts] : Prop :=
  ∀ (m : (ℓ : Loc Cert.Relu2RefIdeal.nD Cert.Relu2RefIdeal.τ Cert.Relu2RefIdeal.sig) → Buf (Elt Ideal) ℓ) (g : Dev Cert.Relu2RefIdeal.nD → PrngReg), Pre_Relu2RefIdeal m →
    θ_run (Cert.Relu2RefIdeal.defs (F := Ideal)) (onTc (τ := Cert.Relu2RefIdeal.τ) (Cert.Relu2RefIdeal.main (F := Ideal))) ⟨m, fun _ => 0, g⟩ (fun r => (∀ c : Dev Cert.Relu2RefIdeal.nD,
      r.2.mem ((c.tc : Thread Cert.Relu2RefIdeal.nD Cert.Relu2RefIdeal.τ).loc Cert.Relu2RefIdeal.main_arg0) = m ((c.tc : Thread Cert.Relu2RefIdeal.nD Cert.Relu2RefIdeal.τ).loc Cert.Relu2RefIdeal.main_arg0)
      ∧ r.2.mem ((c.tc : Thread Cert.Relu2RefIdeal.nD Cert.Relu2RefIdeal.τ).loc Cert.Relu2RefIdeal.main_arg1) = m ((c.tc : Thread Cert.Relu2RefIdeal.nD Cert.Relu2RefIdeal.τ).loc Cert.Relu2RefIdeal.main_arg1)
      ∧ r.2.mem ((c.tc : Thread Cert.Relu2RefIdeal.nD Cert.Relu2RefIdeal.τ).loc Cert.Relu2RefIdeal.main_arg2) = m ((c.tc : Thread Cert.Relu2RefIdeal.nD Cert.Relu2RefIdeal.τ).loc Cert.Relu2RefIdeal.main_arg2))
      ∧ r.2.sem = fun _ => 0)

def quiescent_NormBwd [hNormBwd : Cert.NormBwd.Facts] : Prop :=
  ∀ (m : (ℓ : Loc Cert.NormBwd.nD Cert.NormBwd.τ Cert.NormBwd.sig) → Buf (Elt Bits) ℓ) (g : Dev Cert.NormBwd.nD → PrngReg), Pre_NormBwd m →
    θ_run (Cert.NormBwd.defs (F := Bits)) (onTc (τ := Cert.NormBwd.τ) (Cert.NormBwd.main (F := Bits))) ⟨m, fun _ => 0, g⟩ (fun r => (∀ c : Dev Cert.NormBwd.nD,
      r.2.mem ((c.tc : Thread Cert.NormBwd.nD Cert.NormBwd.τ).loc Cert.NormBwd.main_arg0) = m ((c.tc : Thread Cert.NormBwd.nD Cert.NormBwd.τ).loc Cert.NormBwd.main_arg0)
      ∧ r.2.mem ((c.tc : Thread Cert.NormBwd.nD Cert.NormBwd.τ).loc Cert.NormBwd.main_arg1) = m ((c.tc : Thread Cert.NormBwd.nD Cert.NormBwd.τ).loc Cert.NormBwd.main_arg1)
      ∧ r.2.mem ((c.tc : Thread Cert.NormBwd.nD Cert.NormBwd.τ).loc Cert.NormBwd.main_arg2) = m ((c.tc : Thread Cert.NormBwd.nD Cert.NormBwd.τ).loc Cert.NormBwd.main_arg2)
      ∧ r.2.mem ((c.tc : Thread Cert.NormBwd.nD Cert.NormBwd.τ).loc Cert.NormBwd.main_arg3) = m ((c.tc : Thread Cert.NormBwd.nD Cert.NormBwd.τ).loc Cert.NormBwd.main_arg3))
      ∧ r.2.sem = fun _ => 0)

def quiescent_NormBwdIdeal [hNormBwdIdeal : Cert.NormBwdIdeal.Facts] : Prop :=
  ∀ (m : (ℓ : Loc Cert.NormBwdIdeal.nD Cert.NormBwdIdeal.τ Cert.NormBwdIdeal.sig) → Buf (Elt Ideal) ℓ) (g : Dev Cert.NormBwdIdeal.nD → PrngReg), Pre_NormBwdIdeal m →
    θ_run (Cert.NormBwdIdeal.defs (F := Ideal)) (onTc (τ := Cert.NormBwdIdeal.τ) (Cert.NormBwdIdeal.main (F := Ideal))) ⟨m, fun _ => 0, g⟩ (fun r => (∀ c : Dev Cert.NormBwdIdeal.nD,
      r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
      ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
      ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
      ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3))
      ∧ r.2.sem = fun _ => 0)

def quiescent_NormBwdRefIdeal [hNormBwdRefIdeal : Cert.NormBwdRefIdeal.Facts] : Prop :=
  ∀ (m : (ℓ : Loc Cert.NormBwdRefIdeal.nD Cert.NormBwdRefIdeal.τ Cert.NormBwdRefIdeal.sig) → Buf (Elt Ideal) ℓ) (g : Dev Cert.NormBwdRefIdeal.nD → PrngReg), Pre_NormBwdRefIdeal m →
    θ_run (Cert.NormBwdRefIdeal.defs (F := Ideal)) (onTc (τ := Cert.NormBwdRefIdeal.τ) (Cert.NormBwdRefIdeal.main (F := Ideal))) ⟨m, fun _ => 0, g⟩ (fun r => (∀ c : Dev Cert.NormBwdRefIdeal.nD,
      r.2.mem ((c.tc : Thread Cert.NormBwdRefIdeal.nD Cert.NormBwdRefIdeal.τ).loc Cert.NormBwdRefIdeal.main_arg0) = m ((c.tc : Thread Cert.NormBwdRefIdeal.nD Cert.NormBwdRefIdeal.τ).loc Cert.NormBwdRefIdeal.main_arg0)
      ∧ r.2.mem ((c.tc : Thread Cert.NormBwdRefIdeal.nD Cert.NormBwdRefIdeal.τ).loc Cert.NormBwdRefIdeal.main_arg1) = m ((c.tc : Thread Cert.NormBwdRefIdeal.nD Cert.NormBwdRefIdeal.τ).loc Cert.NormBwdRefIdeal.main_arg1)
      ∧ r.2.mem ((c.tc : Thread Cert.NormBwdRefIdeal.nD Cert.NormBwdRefIdeal.τ).loc Cert.NormBwdRefIdeal.main_arg2) = m ((c.tc : Thread Cert.NormBwdRefIdeal.nD Cert.NormBwdRefIdeal.τ).loc Cert.NormBwdRefIdeal.main_arg2)
      ∧ r.2.mem ((c.tc : Thread Cert.NormBwdRefIdeal.nD Cert.NormBwdRefIdeal.τ).loc Cert.NormBwdRefIdeal.main_arg3) = m ((c.tc : Thread Cert.NormBwdRefIdeal.nD Cert.NormBwdRefIdeal.τ).loc Cert.NormBwdRefIdeal.main_arg3))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2))
      ∧ r.2.sem = fun _ => 0)

def quiescent_MixerBwd [hMixerBwd : Cert.MixerBwd.Facts] : Prop :=
  ∀ (m : (ℓ : Loc Cert.MixerBwd.nD Cert.MixerBwd.τ Cert.MixerBwd.sig) → Buf (Elt Bits) ℓ) (g : Dev Cert.MixerBwd.nD → PrngReg), Pre_MixerBwd m →
    θ_run (Cert.MixerBwd.defs (F := Bits)) (onTc (τ := Cert.MixerBwd.τ) (Cert.MixerBwd.main (F := Bits))) ⟨m, fun _ => 0, g⟩ (fun r => (∀ c : Dev Cert.MixerBwd.nD,
      r.2.mem ((c.tc : Thread Cert.MixerBwd.nD Cert.MixerBwd.τ).loc Cert.MixerBwd.main_arg0) = m ((c.tc : Thread Cert.MixerBwd.nD Cert.MixerBwd.τ).loc Cert.MixerBwd.main_arg0)
      ∧ r.2.mem ((c.tc : Thread Cert.MixerBwd.nD Cert.MixerBwd.τ).loc Cert.MixerBwd.main_arg1) = m ((c.tc : Thread Cert.MixerBwd.nD Cert.MixerBwd.τ).loc Cert.MixerBwd.main_arg1)
      ∧ r.2.mem ((c.tc : Thread Cert.MixerBwd.nD Cert.MixerBwd.τ).loc Cert.MixerBwd.main_arg2) = m ((c.tc : Thread Cert.MixerBwd.nD Cert.MixerBwd.τ).loc Cert.MixerBwd.main_arg2)
      ∧ r.2.mem ((c.tc : Thread Cert.MixerBwd.nD Cert.MixerBwd.τ).loc Cert.MixerBwd.main_arg3) = m ((c.tc : Thread Cert.MixerBwd.nD Cert.MixerBwd.τ).loc Cert.MixerBwd.main_arg3)
      ∧ r.2.mem ((c.tc : Thread Cert.MixerBwd.nD Cert.MixerBwd.τ).loc Cert.MixerBwd.main_arg4) = m ((c.tc : Thread Cert.MixerBwd.nD Cert.MixerBwd.τ).loc Cert.MixerBwd.main_arg4))
      ∧ r.2.sem = fun _ => 0)

def quiescent_MixerBwdIdeal [hMixerBwdIdeal : Cert.MixerBwdIdeal.Facts] : Prop :=
  ∀ (m : (ℓ : Loc Cert.MixerBwdIdeal.nD Cert.MixerBwdIdeal.τ Cert.MixerBwdIdeal.sig) → Buf (Elt Ideal) ℓ) (g : Dev Cert.MixerBwdIdeal.nD → PrngReg), Pre_MixerBwdIdeal m →
    θ_run (Cert.MixerBwdIdeal.defs (F := Ideal)) (onTc (τ := Cert.MixerBwdIdeal.τ) (Cert.MixerBwdIdeal.main (F := Ideal))) ⟨m, fun _ => 0, g⟩ (fun r => (∀ c : Dev Cert.MixerBwdIdeal.nD,
      r.2.mem ((c.tc : Thread Cert.MixerBwdIdeal.nD Cert.MixerBwdIdeal.τ).loc Cert.MixerBwdIdeal.main_arg0) = m ((c.tc : Thread Cert.MixerBwdIdeal.nD Cert.MixerBwdIdeal.τ).loc Cert.MixerBwdIdeal.main_arg0)
      ∧ r.2.mem ((c.tc : Thread Cert.MixerBwdIdeal.nD Cert.MixerBwdIdeal.τ).loc Cert.MixerBwdIdeal.main_arg1) = m ((c.tc : Thread Cert.MixerBwdIdeal.nD Cert.MixerBwdIdeal.τ).loc Cert.MixerBwdIdeal.main_arg1)
      ∧ r.2.mem ((c.tc : Thread Cert.MixerBwdIdeal.nD Cert.MixerBwdIdeal.τ).loc Cert.MixerBwdIdeal.main_arg2) = m ((c.tc : Thread Cert.MixerBwdIdeal.nD Cert.MixerBwdIdeal.τ).loc Cert.MixerBwdIdeal.main_arg2)
      ∧ r.2.mem ((c.tc : Thread Cert.MixerBwdIdeal.nD Cert.MixerBwdIdeal.τ).loc Cert.MixerBwdIdeal.main_arg3) = m ((c.tc : Thread Cert.MixerBwdIdeal.nD Cert.MixerBwdIdeal.τ).loc Cert.MixerBwdIdeal.main_arg3)
      ∧ r.2.mem ((c.tc : Thread Cert.MixerBwdIdeal.nD Cert.MixerBwdIdeal.τ).loc Cert.MixerBwdIdeal.main_arg4) = m ((c.tc : Thread Cert.MixerBwdIdeal.nD Cert.MixerBwdIdeal.τ).loc Cert.MixerBwdIdeal.main_arg4))
      ∧ r.2.sem = fun _ => 0)

def quiescent_MixerBwdIdeal_pre_pool_finite [hMixerBwdIdeal : Cert.MixerBwdIdeal.Facts] [hPre_pool_finite : Cert.Pre_pool_finite.Facts] : Prop :=
  ∀ (m : (ℓ : Loc Cert.MixerBwdIdeal.nD Cert.MixerBwdIdeal.τ Cert.MixerBwdIdeal.sig) → Buf (Elt Ideal) ℓ) (g : Dev Cert.MixerBwdIdeal.nD → PrngReg), Pre_MixerBwdIdeal_pool_finite m →
    θ_run (Cert.MixerBwdIdeal.defs (F := Ideal)) (onTc (τ := Cert.MixerBwdIdeal.τ) (Cert.MixerBwdIdeal.main (F := Ideal))) ⟨m, fun _ => 0, g⟩ (fun r => (∀ c : Dev Cert.MixerBwdIdeal.nD,
      r.2.mem ((c.tc : Thread Cert.MixerBwdIdeal.nD Cert.MixerBwdIdeal.τ).loc Cert.MixerBwdIdeal.main_arg0) = m ((c.tc : Thread Cert.MixerBwdIdeal.nD Cert.MixerBwdIdeal.τ).loc Cert.MixerBwdIdeal.main_arg0)
      ∧ r.2.mem ((c.tc : Thread Cert.MixerBwdIdeal.nD Cert.MixerBwdIdeal.τ).loc Cert.MixerBwdIdeal.main_arg1) = m ((c.tc : Thread Cert.MixerBwdIdeal.nD Cert.MixerBwdIdeal.τ).loc Cert.MixerBwdIdeal.main_arg1)
      ∧ r.2.mem ((c.tc : Thread Cert.MixerBwdIdeal.nD Cert.MixerBwdIdeal.τ).loc Cert.MixerBwdIdeal.main_arg2) = m ((c.tc : Thread Cert.MixerBwdIdeal.nD Cert.MixerBwdIdeal.τ).loc Cert.MixerBwdIdeal.main_arg2)
      ∧ r.2.mem ((c.tc : Thread Cert.MixerBwdIdeal.nD Cert.MixerBwdIdeal.τ).loc Cert.MixerBwdIdeal.main_arg3) = m ((c.tc : Thread Cert.MixerBwdIdeal.nD Cert.MixerBwdIdeal.τ).loc Cert.MixerBwdIdeal.main_arg3)
      ∧ r.2.mem ((c.tc : Thread Cert.MixerBwdIdeal.nD Cert.MixerBwdIdeal.τ).loc Cert.MixerBwdIdeal.main_arg4) = m ((c.tc : Thread Cert.MixerBwdIdeal.nD Cert.MixerBwdIdeal.τ).loc Cert.MixerBwdIdeal.main_arg4))
      ∧ r.2.sem = fun _ => 0)

def quiescent_MixerBwdRefIdeal [hMixerBwdRefIdeal : Cert.MixerBwdRefIdeal.Facts] : Prop :=
  ∀ (m : (ℓ : Loc Cert.MixerBwdRefIdeal.nD Cert.MixerBwdRefIdeal.τ Cert.MixerBwdRefIdeal.sig) → Buf (Elt Ideal) ℓ) (g : Dev Cert.MixerBwdRefIdeal.nD → PrngReg), Pre_MixerBwdRefIdeal m →
    θ_run (Cert.MixerBwdRefIdeal.defs (F := Ideal)) (onTc (τ := Cert.MixerBwdRefIdeal.τ) (Cert.MixerBwdRefIdeal.main (F := Ideal))) ⟨m, fun _ => 0, g⟩ (fun r => (∀ c : Dev Cert.MixerBwdRefIdeal.nD,
      r.2.mem ((c.tc : Thread Cert.MixerBwdRefIdeal.nD Cert.MixerBwdRefIdeal.τ).loc Cert.MixerBwdRefIdeal.main_arg0) = m ((c.tc : Thread Cert.MixerBwdRefIdeal.nD Cert.MixerBwdRefIdeal.τ).loc Cert.MixerBwdRefIdeal.main_arg0)
      ∧ r.2.mem ((c.tc : Thread Cert.MixerBwdRefIdeal.nD Cert.MixerBwdRefIdeal.τ).loc Cert.MixerBwdRefIdeal.main_arg1) = m ((c.tc : Thread Cert.MixerBwdRefIdeal.nD Cert.MixerBwdRefIdeal.τ).loc Cert.MixerBwdRefIdeal.main_arg1)
      ∧ r.2.mem ((c.tc : Thread Cert.MixerBwdRefIdeal.nD Cert.MixerBwdRefIdeal.τ).loc Cert.MixerBwdRefIdeal.main_arg2) = m ((c.tc : Thread Cert.MixerBwdRefIdeal.nD Cert.MixerBwdRefIdeal.τ).loc Cert.MixerBwdRefIdeal.main_arg2)
      ∧ r.2.mem ((c.tc : Thread Cert.MixerBwdRefIdeal.nD Cert.MixerBwdRefIdeal.τ).loc Cert.MixerBwdRefIdeal.main_arg3) = m ((c.tc : Thread Cert.MixerBwdRefIdeal.nD Cert.MixerBwdRefIdeal.τ).loc Cert.MixerBwdRefIdeal.main_arg3)
      ∧ r.2.mem ((c.tc : Thread Cert.MixerBwdRefIdeal.nD Cert.MixerBwdRefIdeal.τ).loc Cert.MixerBwdRefIdeal.main_arg4) = m ((c.tc : Thread Cert.MixerBwdRefIdeal.nD Cert.MixerBwdRefIdeal.τ).loc Cert.MixerBwdRefIdeal.main_arg4))
      ∧ r.2.sem = fun _ => 0)

def quiescent_MixerBwdRefIdeal_pre_pool_finite [hMixerBwdRefIdeal : Cert.MixerBwdRefIdeal.Facts] [hPre_pool_finite : Cert.Pre_pool_finite.Facts] : Prop :=
  ∀ (m : (ℓ : Loc Cert.MixerBwdRefIdeal.nD Cert.MixerBwdRefIdeal.τ Cert.MixerBwdRefIdeal.sig) → Buf (Elt Ideal) ℓ) (g : Dev Cert.MixerBwdRefIdeal.nD → PrngReg), Pre_MixerBwdRefIdeal_pool_finite m →
    θ_run (Cert.MixerBwdRefIdeal.defs (F := Ideal)) (onTc (τ := Cert.MixerBwdRefIdeal.τ) (Cert.MixerBwdRefIdeal.main (F := Ideal))) ⟨m, fun _ => 0, g⟩ (fun r => (∀ c : Dev Cert.MixerBwdRefIdeal.nD,
      r.2.mem ((c.tc : Thread Cert.MixerBwdRefIdeal.nD Cert.MixerBwdRefIdeal.τ).loc Cert.MixerBwdRefIdeal.main_arg0) = m ((c.tc : Thread Cert.MixerBwdRefIdeal.nD Cert.MixerBwdRefIdeal.τ).loc Cert.MixerBwdRefIdeal.main_arg0)
      ∧ r.2.mem ((c.tc : Thread Cert.MixerBwdRefIdeal.nD Cert.MixerBwdRefIdeal.τ).loc Cert.MixerBwdRefIdeal.main_arg1) = m ((c.tc : Thread Cert.MixerBwdRefIdeal.nD Cert.MixerBwdRefIdeal.τ).loc Cert.MixerBwdRefIdeal.main_arg1)
      ∧ r.2.mem ((c.tc : Thread Cert.MixerBwdRefIdeal.nD Cert.MixerBwdRefIdeal.τ).loc Cert.MixerBwdRefIdeal.main_arg2) = m ((c.tc : Thread Cert.MixerBwdRefIdeal.nD Cert.MixerBwdRefIdeal.τ).loc Cert.MixerBwdRefIdeal.main_arg2)
      ∧ r.2.mem ((c.tc : Thread Cert.MixerBwdRefIdeal.nD Cert.MixerBwdRefIdeal.τ).loc Cert.MixerBwdRefIdeal.main_arg3) = m ((c.tc : Thread Cert.MixerBwdRefIdeal.nD Cert.MixerBwdRefIdeal.τ).loc Cert.MixerBwdRefIdeal.main_arg3)
      ∧ r.2.mem ((c.tc : Thread Cert.MixerBwdRefIdeal.nD Cert.MixerBwdRefIdeal.τ).loc Cert.MixerBwdRefIdeal.main_arg4) = m ((c.tc : Thread Cert.MixerBwdRefIdeal.nD Cert.MixerBwdRefIdeal.τ).loc Cert.MixerBwdRefIdeal.main_arg4))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1))
      ∧ r.2.sem = fun _ => 0)

def quiescent_Mixer [hMixer : Cert.Mixer.Facts] : Prop :=
  ∀ (m : (ℓ : Loc Cert.Mixer.nD Cert.Mixer.τ Cert.Mixer.sig) → Buf (Elt Bits) ℓ) (g : Dev Cert.Mixer.nD → PrngReg), Pre_Mixer m →
    θ_run (Cert.Mixer.defs (F := Bits)) (onTc (τ := Cert.Mixer.τ) (Cert.Mixer.main (F := Bits))) ⟨m, fun _ => 0, g⟩ (fun r => (∀ c : Dev Cert.Mixer.nD,
      r.2.mem ((c.tc : Thread Cert.Mixer.nD Cert.Mixer.τ).loc Cert.Mixer.main_arg0) = m ((c.tc : Thread Cert.Mixer.nD Cert.Mixer.τ).loc Cert.Mixer.main_arg0)
      ∧ r.2.mem ((c.tc : Thread Cert.Mixer.nD Cert.Mixer.τ).loc Cert.Mixer.main_arg1) = m ((c.tc : Thread Cert.Mixer.nD Cert.Mixer.τ).loc Cert.Mixer.main_arg1)
      ∧ r.2.mem ((c.tc : Thread Cert.Mixer.nD Cert.Mixer.τ).loc Cert.Mixer.main_arg2) = m ((c.tc : Thread Cert.Mixer.nD Cert.Mixer.τ).loc Cert.Mixer.main_arg2)
      ∧ r.2.mem ((c.tc : Thread Cert.Mixer.nD Cert.Mixer.τ).loc Cert.Mixer.main_arg3) = m ((c.tc : Thread Cert.Mixer.nD Cert.Mixer.τ).loc Cert.Mixer.main_arg3))
      ∧ r.2.sem = fun _ => 0)

def quiescent_MixerIdeal [hMixerIdeal : Cert.MixerIdeal.Facts] : Prop :=
  ∀ (m : (ℓ : Loc Cert.MixerIdeal.nD Cert.MixerIdeal.τ Cert.MixerIdeal.sig) → Buf (Elt Ideal) ℓ) (g : Dev Cert.MixerIdeal.nD → PrngReg), Pre_MixerIdeal m →
    θ_run (Cert.MixerIdeal.defs (F := Ideal)) (onTc (τ := Cert.MixerIdeal.τ) (Cert.MixerIdeal.main (F := Ideal))) ⟨m, fun _ => 0, g⟩ (fun r => (∀ c : Dev Cert.MixerIdeal.nD,
      r.2.mem ((c.tc : Thread Cert.MixerIdeal.nD Cert.MixerIdeal.τ).loc Cert.MixerIdeal.main_arg0) = m ((c.tc : Thread Cert.MixerIdeal.nD Cert.MixerIdeal.τ).loc Cert.MixerIdeal.main_arg0)
      ∧ r.2.mem ((c.tc : Thread Cert.MixerIdeal.nD Cert.MixerIdeal.τ).loc Cert.MixerIdeal.main_arg1) = m ((c.tc : Thread Cert.MixerIdeal.nD Cert.MixerIdeal.τ).loc Cert.MixerIdeal.main_arg1)
      ∧ r.2.mem ((c.tc : Thread Cert.MixerIdeal.nD Cert.MixerIdeal.τ).loc Cert.MixerIdeal.main_arg2) = m ((c.tc : Thread Cert.MixerIdeal.nD Cert.MixerIdeal.τ).loc Cert.MixerIdeal.main_arg2)
      ∧ r.2.mem ((c.tc : Thread Cert.MixerIdeal.nD Cert.MixerIdeal.τ).loc Cert.MixerIdeal.main_arg3) = m ((c.tc : Thread Cert.MixerIdeal.nD Cert.MixerIdeal.τ).loc Cert.MixerIdeal.main_arg3))
      ∧ r.2.sem = fun _ => 0)

def quiescent_MixerIdeal_pre_pool_input_finite [hMixerIdeal : Cert.MixerIdeal.Facts] [hPre_pool_input_finite : Cert.Pre_pool_input_finite.Facts] : Prop :=
  ∀ (m : (ℓ : Loc Cert.MixerIdeal.nD Cert.MixerIdeal.τ Cert.MixerIdeal.sig) → Buf (Elt Ideal) ℓ) (g : Dev Cert.MixerIdeal.nD → PrngReg), Pre_MixerIdeal_pool_input_finite m →
    θ_run (Cert.MixerIdeal.defs (F := Ideal)) (onTc (τ := Cert.MixerIdeal.τ) (Cert.MixerIdeal.main (F := Ideal))) ⟨m, fun _ => 0, g⟩ (fun r => (∀ c : Dev Cert.MixerIdeal.nD,
      r.2.mem ((c.tc : Thread Cert.MixerIdeal.nD Cert.MixerIdeal.τ).loc Cert.MixerIdeal.main_arg0) = m ((c.tc : Thread Cert.MixerIdeal.nD Cert.MixerIdeal.τ).loc Cert.MixerIdeal.main_arg0)
      ∧ r.2.mem ((c.tc : Thread Cert.MixerIdeal.nD Cert.MixerIdeal.τ).loc Cert.MixerIdeal.main_arg1) = m ((c.tc : Thread Cert.MixerIdeal.nD Cert.MixerIdeal.τ).loc Cert.MixerIdeal.main_arg1)
      ∧ r.2.mem ((c.tc : Thread Cert.MixerIdeal.nD Cert.MixerIdeal.τ).loc Cert.MixerIdeal.main_arg2) = m ((c.tc : Thread Cert.MixerIdeal.nD Cert.MixerIdeal.τ).loc Cert.MixerIdeal.main_arg2)
      ∧ r.2.mem ((c.tc : Thread Cert.MixerIdeal.nD Cert.MixerIdeal.τ).loc Cert.MixerIdeal.main_arg3) = m ((c.tc : Thread Cert.MixerIdeal.nD Cert.MixerIdeal.τ).loc Cert.MixerIdeal.main_arg3))
      ∧ r.2.sem = fun _ => 0)

def quiescent_MixerRefIdeal [hMixerRefIdeal : Cert.MixerRefIdeal.Facts] : Prop :=
  ∀ (m : (ℓ : Loc Cert.MixerRefIdeal.nD Cert.MixerRefIdeal.τ Cert.MixerRefIdeal.sig) → Buf (Elt Ideal) ℓ) (g : Dev Cert.MixerRefIdeal.nD → PrngReg), Pre_MixerRefIdeal m →
    θ_run (Cert.MixerRefIdeal.defs (F := Ideal)) (onTc (τ := Cert.MixerRefIdeal.τ) (Cert.MixerRefIdeal.main (F := Ideal))) ⟨m, fun _ => 0, g⟩ (fun r => (∀ c : Dev Cert.MixerRefIdeal.nD,
      r.2.mem ((c.tc : Thread Cert.MixerRefIdeal.nD Cert.MixerRefIdeal.τ).loc Cert.MixerRefIdeal.main_arg0) = m ((c.tc : Thread Cert.MixerRefIdeal.nD Cert.MixerRefIdeal.τ).loc Cert.MixerRefIdeal.main_arg0)
      ∧ r.2.mem ((c.tc : Thread Cert.MixerRefIdeal.nD Cert.MixerRefIdeal.τ).loc Cert.MixerRefIdeal.main_arg1) = m ((c.tc : Thread Cert.MixerRefIdeal.nD Cert.MixerRefIdeal.τ).loc Cert.MixerRefIdeal.main_arg1)
      ∧ r.2.mem ((c.tc : Thread Cert.MixerRefIdeal.nD Cert.MixerRefIdeal.τ).loc Cert.MixerRefIdeal.main_arg2) = m ((c.tc : Thread Cert.MixerRefIdeal.nD Cert.MixerRefIdeal.τ).loc Cert.MixerRefIdeal.main_arg2)
      ∧ r.2.mem ((c.tc : Thread Cert.MixerRefIdeal.nD Cert.MixerRefIdeal.τ).loc Cert.MixerRefIdeal.main_arg3) = m ((c.tc : Thread Cert.MixerRefIdeal.nD Cert.MixerRefIdeal.τ).loc Cert.MixerRefIdeal.main_arg3))
      ∧ r.2.sem = fun _ => 0)

def quiescent_MixerRefIdeal_pre_pool_input_finite [hMixerRefIdeal : Cert.MixerRefIdeal.Facts] [hPre_pool_input_finite : Cert.Pre_pool_input_finite.Facts] : Prop :=
  ∀ (m : (ℓ : Loc Cert.MixerRefIdeal.nD Cert.MixerRefIdeal.τ Cert.MixerRefIdeal.sig) → Buf (Elt Ideal) ℓ) (g : Dev Cert.MixerRefIdeal.nD → PrngReg), Pre_MixerRefIdeal_pool_input_finite m →
    θ_run (Cert.MixerRefIdeal.defs (F := Ideal)) (onTc (τ := Cert.MixerRefIdeal.τ) (Cert.MixerRefIdeal.main (F := Ideal))) ⟨m, fun _ => 0, g⟩ (fun r => (∀ c : Dev Cert.MixerRefIdeal.nD,
      r.2.mem ((c.tc : Thread Cert.MixerRefIdeal.nD Cert.MixerRefIdeal.τ).loc Cert.MixerRefIdeal.main_arg0) = m ((c.tc : Thread Cert.MixerRefIdeal.nD Cert.MixerRefIdeal.τ).loc Cert.MixerRefIdeal.main_arg0)
      ∧ r.2.mem ((c.tc : Thread Cert.MixerRefIdeal.nD Cert.MixerRefIdeal.τ).loc Cert.MixerRefIdeal.main_arg1) = m ((c.tc : Thread Cert.MixerRefIdeal.nD Cert.MixerRefIdeal.τ).loc Cert.MixerRefIdeal.main_arg1)
      ∧ r.2.mem ((c.tc : Thread Cert.MixerRefIdeal.nD Cert.MixerRefIdeal.τ).loc Cert.MixerRefIdeal.main_arg2) = m ((c.tc : Thread Cert.MixerRefIdeal.nD Cert.MixerRefIdeal.τ).loc Cert.MixerRefIdeal.main_arg2)
      ∧ r.2.mem ((c.tc : Thread Cert.MixerRefIdeal.nD Cert.MixerRefIdeal.τ).loc Cert.MixerRefIdeal.main_arg3) = m ((c.tc : Thread Cert.MixerRefIdeal.nD Cert.MixerRefIdeal.τ).loc Cert.MixerRefIdeal.main_arg3))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2))
      ∧ r.2.sem = fun _ => 0)

def quiescent_UpDx [hUpDx : Cert.UpDx.Facts] : Prop :=
  ∀ (m : (ℓ : Loc Cert.UpDx.nD Cert.UpDx.τ Cert.UpDx.sig) → Buf (Elt Bits) ℓ) (g : Dev Cert.UpDx.nD → PrngReg), Pre_UpDx m →
    θ_run (Cert.UpDx.defs (F := Bits)) (onTc (τ := Cert.UpDx.τ) (Cert.UpDx.main (F := Bits))) ⟨m, fun _ => 0, g⟩ (fun r => (∀ c : Dev Cert.UpDx.nD,
      r.2.mem ((c.tc : Thread Cert.UpDx.nD Cert.UpDx.τ).loc Cert.UpDx.main_arg0) = m ((c.tc : Thread Cert.UpDx.nD Cert.UpDx.τ).loc Cert.UpDx.main_arg0)
      ∧ r.2.mem ((c.tc : Thread Cert.UpDx.nD Cert.UpDx.τ).loc Cert.UpDx.main_arg1) = m ((c.tc : Thread Cert.UpDx.nD Cert.UpDx.τ).loc Cert.UpDx.main_arg1))
      ∧ r.2.sem = fun _ => 0)

def quiescent_UpDxIdeal [hUpDxIdeal : Cert.UpDxIdeal.Facts] : Prop :=
  ∀ (m : (ℓ : Loc Cert.UpDxIdeal.nD Cert.UpDxIdeal.τ Cert.UpDxIdeal.sig) → Buf (Elt Ideal) ℓ) (g : Dev Cert.UpDxIdeal.nD → PrngReg), Pre_UpDxIdeal m →
    θ_run (Cert.UpDxIdeal.defs (F := Ideal)) (onTc (τ := Cert.UpDxIdeal.τ) (Cert.UpDxIdeal.main (F := Ideal))) ⟨m, fun _ => 0, g⟩ (fun r => (∀ c : Dev Cert.UpDxIdeal.nD,
      r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
      ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1))
      ∧ r.2.sem = fun _ => 0)

def quiescent_UpDxRefIdeal [hUpDxRefIdeal : Cert.UpDxRefIdeal.Facts] : Prop :=
  ∀ (m : (ℓ : Loc Cert.UpDxRefIdeal.nD Cert.UpDxRefIdeal.τ Cert.UpDxRefIdeal.sig) → Buf (Elt Ideal) ℓ) (g : Dev Cert.UpDxRefIdeal.nD → PrngReg), Pre_UpDxRefIdeal m →
    θ_run (Cert.UpDxRefIdeal.defs (F := Ideal)) (onTc (τ := Cert.UpDxRefIdeal.τ) (Cert.UpDxRefIdeal.main (F := Ideal))) ⟨m, fun _ => 0, g⟩ (fun r => (∀ c : Dev Cert.UpDxRefIdeal.nD,
      r.2.mem ((c.tc : Thread Cert.UpDxRefIdeal.nD Cert.UpDxRefIdeal.τ).loc Cert.UpDxRefIdeal.main_arg0) = m ((c.tc : Thread Cert.UpDxRefIdeal.nD Cert.UpDxRefIdeal.τ).loc Cert.UpDxRefIdeal.main_arg0)
      ∧ r.2.mem ((c.tc : Thread Cert.UpDxRefIdeal.nD Cert.UpDxRefIdeal.τ).loc Cert.UpDxRefIdeal.main_arg1) = m ((c.tc : Thread Cert.UpDxRefIdeal.nD Cert.UpDxRefIdeal.τ).loc Cert.UpDxRefIdeal.main_arg1))
      ∧ r.2.sem = fun _ => 0)

def quiescent_DownDw [hDownDw : Cert.DownDw.Facts] : Prop :=
  ∀ (m : (ℓ : Loc Cert.DownDw.nD Cert.DownDw.τ Cert.DownDw.sig) → Buf (Elt Bits) ℓ) (g : Dev Cert.DownDw.nD → PrngReg), Pre_DownDw m →
    θ_run (Cert.DownDw.defs (F := Bits)) (onTc (τ := Cert.DownDw.τ) (Cert.DownDw.main (F := Bits))) ⟨m, fun _ => 0, g⟩ (fun r => (∀ c : Dev Cert.DownDw.nD,
      r.2.mem ((c.tc : Thread Cert.DownDw.nD Cert.DownDw.τ).loc Cert.DownDw.main_arg0) = m ((c.tc : Thread Cert.DownDw.nD Cert.DownDw.τ).loc Cert.DownDw.main_arg0)
      ∧ r.2.mem ((c.tc : Thread Cert.DownDw.nD Cert.DownDw.τ).loc Cert.DownDw.main_arg1) = m ((c.tc : Thread Cert.DownDw.nD Cert.DownDw.τ).loc Cert.DownDw.main_arg1))
      ∧ r.2.sem = fun _ => 0)

def quiescent_DownDwIdeal [hDownDwIdeal : Cert.DownDwIdeal.Facts] : Prop :=
  ∀ (m : (ℓ : Loc Cert.DownDwIdeal.nD Cert.DownDwIdeal.τ Cert.DownDwIdeal.sig) → Buf (Elt Ideal) ℓ) (g : Dev Cert.DownDwIdeal.nD → PrngReg), Pre_DownDwIdeal m →
    θ_run (Cert.DownDwIdeal.defs (F := Ideal)) (onTc (τ := Cert.DownDwIdeal.τ) (Cert.DownDwIdeal.main (F := Ideal))) ⟨m, fun _ => 0, g⟩ (fun r => (∀ c : Dev Cert.DownDwIdeal.nD,
      r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
      ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ r.2.sem = fun _ => 0)

def quiescent_DownDwRefIdeal [hDownDwRefIdeal : Cert.DownDwRefIdeal.Facts] : Prop :=
  ∀ (m : (ℓ : Loc Cert.DownDwRefIdeal.nD Cert.DownDwRefIdeal.τ Cert.DownDwRefIdeal.sig) → Buf (Elt Ideal) ℓ) (g : Dev Cert.DownDwRefIdeal.nD → PrngReg), Pre_DownDwRefIdeal m →
    θ_run (Cert.DownDwRefIdeal.defs (F := Ideal)) (onTc (τ := Cert.DownDwRefIdeal.τ) (Cert.DownDwRefIdeal.main (F := Ideal))) ⟨m, fun _ => 0, g⟩ (fun r => (∀ c : Dev Cert.DownDwRefIdeal.nD,
      r.2.mem ((c.tc : Thread Cert.DownDwRefIdeal.nD Cert.DownDwRefIdeal.τ).loc Cert.DownDwRefIdeal.main_arg0) = m ((c.tc : Thread Cert.DownDwRefIdeal.nD Cert.DownDwRefIdeal.τ).loc Cert.DownDwRefIdeal.main_arg0)
      ∧ r.2.mem ((c.tc : Thread Cert.DownDwRefIdeal.nD Cert.DownDwRefIdeal.τ).loc Cert.DownDwRefIdeal.main_arg1) = m ((c.tc : Thread Cert.DownDwRefIdeal.nD Cert.DownDwRefIdeal.τ).loc Cert.DownDwRefIdeal.main_arg1))
      ∧ r.2.sem = fun _ => 0)

def quiescent_Adamw [hAdamw : Cert.Adamw.Facts] : Prop :=
  ∀ (m : (ℓ : Loc Cert.Adamw.nD Cert.Adamw.τ Cert.Adamw.sig) → Buf (Elt Bits) ℓ) (g : Dev Cert.Adamw.nD → PrngReg), Pre_Adamw m →
    θ_run (Cert.Adamw.defs (F := Bits)) (onTc (τ := Cert.Adamw.τ) (Cert.Adamw.main (F := Bits))) ⟨m, fun _ => 0, g⟩ (fun r => (∀ c : Dev Cert.Adamw.nD,
      r.2.mem ((c.tc : Thread Cert.Adamw.nD Cert.Adamw.τ).loc Cert.Adamw.main_arg0) = m ((c.tc : Thread Cert.Adamw.nD Cert.Adamw.τ).loc Cert.Adamw.main_arg0)
      ∧ r.2.mem ((c.tc : Thread Cert.Adamw.nD Cert.Adamw.τ).loc Cert.Adamw.main_arg1) = m ((c.tc : Thread Cert.Adamw.nD Cert.Adamw.τ).loc Cert.Adamw.main_arg1)
      ∧ r.2.mem ((c.tc : Thread Cert.Adamw.nD Cert.Adamw.τ).loc Cert.Adamw.main_arg2) = m ((c.tc : Thread Cert.Adamw.nD Cert.Adamw.τ).loc Cert.Adamw.main_arg2)
      ∧ r.2.mem ((c.tc : Thread Cert.Adamw.nD Cert.Adamw.τ).loc Cert.Adamw.main_arg3) = m ((c.tc : Thread Cert.Adamw.nD Cert.Adamw.τ).loc Cert.Adamw.main_arg3)
      ∧ r.2.mem ((c.tc : Thread Cert.Adamw.nD Cert.Adamw.τ).loc Cert.Adamw.main_arg4) = m ((c.tc : Thread Cert.Adamw.nD Cert.Adamw.τ).loc Cert.Adamw.main_arg4))
      ∧ r.2.sem = fun _ => 0)

def quiescent_AdamwIdeal [hAdamwIdeal : Cert.AdamwIdeal.Facts] : Prop :=
  ∀ (m : (ℓ : Loc Cert.AdamwIdeal.nD Cert.AdamwIdeal.τ Cert.AdamwIdeal.sig) → Buf (Elt Ideal) ℓ) (g : Dev Cert.AdamwIdeal.nD → PrngReg), Pre_AdamwIdeal m →
    θ_run (Cert.AdamwIdeal.defs (F := Ideal)) (onTc (τ := Cert.AdamwIdeal.τ) (Cert.AdamwIdeal.main (F := Ideal))) ⟨m, fun _ => 0, g⟩ (fun r => (∀ c : Dev Cert.AdamwIdeal.nD,
      r.2.mem ((c.tc : Thread Cert.AdamwIdeal.nD Cert.AdamwIdeal.τ).loc Cert.AdamwIdeal.main_arg0) = m ((c.tc : Thread Cert.AdamwIdeal.nD Cert.AdamwIdeal.τ).loc Cert.AdamwIdeal.main_arg0)
      ∧ r.2.mem ((c.tc : Thread Cert.AdamwIdeal.nD Cert.AdamwIdeal.τ).loc Cert.AdamwIdeal.main_arg1) = m ((c.tc : Thread Cert.AdamwIdeal.nD Cert.AdamwIdeal.τ).loc Cert.AdamwIdeal.main_arg1)
      ∧ r.2.mem ((c.tc : Thread Cert.AdamwIdeal.nD Cert.AdamwIdeal.τ).loc Cert.AdamwIdeal.main_arg2) = m ((c.tc : Thread Cert.AdamwIdeal.nD Cert.AdamwIdeal.τ).loc Cert.AdamwIdeal.main_arg2)
      ∧ r.2.mem ((c.tc : Thread Cert.AdamwIdeal.nD Cert.AdamwIdeal.τ).loc Cert.AdamwIdeal.main_arg3) = m ((c.tc : Thread Cert.AdamwIdeal.nD Cert.AdamwIdeal.τ).loc Cert.AdamwIdeal.main_arg3)
      ∧ r.2.mem ((c.tc : Thread Cert.AdamwIdeal.nD Cert.AdamwIdeal.τ).loc Cert.AdamwIdeal.main_arg4) = m ((c.tc : Thread Cert.AdamwIdeal.nD Cert.AdamwIdeal.τ).loc Cert.AdamwIdeal.main_arg4))
      ∧ r.2.sem = fun _ => 0)

def quiescent_AdamwRefIdeal [hAdamwRefIdeal : Cert.AdamwRefIdeal.Facts] : Prop :=
  ∀ (m : (ℓ : Loc Cert.AdamwRefIdeal.nD Cert.AdamwRefIdeal.τ Cert.AdamwRefIdeal.sig) → Buf (Elt Ideal) ℓ) (g : Dev Cert.AdamwRefIdeal.nD → PrngReg), Pre_AdamwRefIdeal m →
    θ_run (Cert.AdamwRefIdeal.defs (F := Ideal)) (onTc (τ := Cert.AdamwRefIdeal.τ) (Cert.AdamwRefIdeal.main (F := Ideal))) ⟨m, fun _ => 0, g⟩ (fun r => (∀ c : Dev Cert.AdamwRefIdeal.nD,
      r.2.mem ((c.tc : Thread Cert.AdamwRefIdeal.nD Cert.AdamwRefIdeal.τ).loc Cert.AdamwRefIdeal.main_arg0) = m ((c.tc : Thread Cert.AdamwRefIdeal.nD Cert.AdamwRefIdeal.τ).loc Cert.AdamwRefIdeal.main_arg0)
      ∧ r.2.mem ((c.tc : Thread Cert.AdamwRefIdeal.nD Cert.AdamwRefIdeal.τ).loc Cert.AdamwRefIdeal.main_arg1) = m ((c.tc : Thread Cert.AdamwRefIdeal.nD Cert.AdamwRefIdeal.τ).loc Cert.AdamwRefIdeal.main_arg1)
      ∧ r.2.mem ((c.tc : Thread Cert.AdamwRefIdeal.nD Cert.AdamwRefIdeal.τ).loc Cert.AdamwRefIdeal.main_arg2) = m ((c.tc : Thread Cert.AdamwRefIdeal.nD Cert.AdamwRefIdeal.τ).loc Cert.AdamwRefIdeal.main_arg2)
      ∧ r.2.mem ((c.tc : Thread Cert.AdamwRefIdeal.nD Cert.AdamwRefIdeal.τ).loc Cert.AdamwRefIdeal.main_arg3) = m ((c.tc : Thread Cert.AdamwRefIdeal.nD Cert.AdamwRefIdeal.τ).loc Cert.AdamwRefIdeal.main_arg3)
      ∧ r.2.mem ((c.tc : Thread Cert.AdamwRefIdeal.nD Cert.AdamwRefIdeal.τ).loc Cert.AdamwRefIdeal.main_arg4) = m ((c.tc : Thread Cert.AdamwRefIdeal.nD Cert.AdamwRefIdeal.τ).loc Cert.AdamwRefIdeal.main_arg4))
      ∧ r.2.sem = fun _ => 0)

def quiescent_Cast [hCast : Cert.Cast.Facts] : Prop :=
  ∀ (m : (ℓ : Loc Cert.Cast.nD Cert.Cast.τ Cert.Cast.sig) → Buf (Elt Bits) ℓ) (g : Dev Cert.Cast.nD → PrngReg), Pre_Cast m →
    θ_run (Cert.Cast.defs (F := Bits)) (onTc (τ := Cert.Cast.τ) (Cert.Cast.main (F := Bits))) ⟨m, fun _ => 0, g⟩ (fun r => (∀ c : Dev Cert.Cast.nD,
      r.2.mem ((c.tc : Thread Cert.Cast.nD Cert.Cast.τ).loc Cert.Cast.main_arg0) = m ((c.tc : Thread Cert.Cast.nD Cert.Cast.τ).loc Cert.Cast.main_arg0))
      ∧ r.2.sem = fun _ => 0)

def quiescent_CastIdeal [hCastIdeal : Cert.CastIdeal.Facts] : Prop :=
  ∀ (m : (ℓ : Loc Cert.CastIdeal.nD Cert.CastIdeal.τ Cert.CastIdeal.sig) → Buf (Elt Ideal) ℓ) (g : Dev Cert.CastIdeal.nD → PrngReg), Pre_CastIdeal m →
    θ_run (Cert.CastIdeal.defs (F := Ideal)) (onTc (τ := Cert.CastIdeal.τ) (Cert.CastIdeal.main (F := Ideal))) ⟨m, fun _ => 0, g⟩ (fun r => (∀ c : Dev Cert.CastIdeal.nD,
      r.2.mem ((c.tc : Thread Cert.CastIdeal.nD Cert.CastIdeal.τ).loc Cert.CastIdeal.main_arg0) = m ((c.tc : Thread Cert.CastIdeal.nD Cert.CastIdeal.τ).loc Cert.CastIdeal.main_arg0))
      ∧ r.2.sem = fun _ => 0)

def quiescent_CastRefIdeal [hCastRefIdeal : Cert.CastRefIdeal.Facts] : Prop :=
  ∀ (m : (ℓ : Loc Cert.CastRefIdeal.nD Cert.CastRefIdeal.τ Cert.CastRefIdeal.sig) → Buf (Elt Ideal) ℓ) (g : Dev Cert.CastRefIdeal.nD → PrngReg), Pre_CastRefIdeal m →
    θ_run (Cert.CastRefIdeal.defs (F := Ideal)) (onTc (τ := Cert.CastRefIdeal.τ) (Cert.CastRefIdeal.main (F := Ideal))) ⟨m, fun _ => 0, g⟩ (fun r => (∀ c : Dev Cert.CastRefIdeal.nD,
      r.2.mem ((c.tc : Thread Cert.CastRefIdeal.nD Cert.CastRefIdeal.τ).loc Cert.CastRefIdeal.main_arg0) = m ((c.tc : Thread Cert.CastRefIdeal.nD Cert.CastRefIdeal.τ).loc Cert.CastRefIdeal.main_arg0))
      ∧ r.2.sem = fun _ => 0)

def quiescent_Gather [hGather : Cert.Gather.Facts] : Prop :=
  ∀ (m : (ℓ : Loc Cert.Gather.nD Cert.Gather.τ Cert.Gather.sig) → Buf (Elt Bits) ℓ) (g : Dev Cert.Gather.nD → PrngReg), Pre_Gather m →
    θ_run (Cert.Gather.defs (F := Bits)) (onTc (τ := Cert.Gather.τ) (Cert.Gather.main (F := Bits))) ⟨m, fun _ => 0, g⟩ (fun r => (∀ c : Dev Cert.Gather.nD,
      r.2.mem ((c.tc : Thread Cert.Gather.nD Cert.Gather.τ).loc Cert.Gather.main_arg0) = m ((c.tc : Thread Cert.Gather.nD Cert.Gather.τ).loc Cert.Gather.main_arg0)
      ∧ r.2.mem ((c.tc : Thread Cert.Gather.nD Cert.Gather.τ).loc Cert.Gather.main_arg1) = m ((c.tc : Thread Cert.Gather.nD Cert.Gather.τ).loc Cert.Gather.main_arg1)
      ∧ r.2.mem ((c.tc : Thread Cert.Gather.nD Cert.Gather.τ).loc Cert.Gather.main_arg2) = m ((c.tc : Thread Cert.Gather.nD Cert.Gather.τ).loc Cert.Gather.main_arg2)
      ∧ r.2.mem ((c.tc : Thread Cert.Gather.nD Cert.Gather.τ).loc Cert.Gather.main_arg3) = m ((c.tc : Thread Cert.Gather.nD Cert.Gather.τ).loc Cert.Gather.main_arg3)
      ∧ r.2.mem ((c.tc : Thread Cert.Gather.nD Cert.Gather.τ).loc Cert.Gather.main_arg4) = m ((c.tc : Thread Cert.Gather.nD Cert.Gather.τ).loc Cert.Gather.main_arg4))
      ∧ r.2.sem = fun _ => 0)

def quiescent_GatherIdeal [hGatherIdeal : Cert.GatherIdeal.Facts] : Prop :=
  ∀ (m : (ℓ : Loc Cert.GatherIdeal.nD Cert.GatherIdeal.τ Cert.GatherIdeal.sig) → Buf (Elt Ideal) ℓ) (g : Dev Cert.GatherIdeal.nD → PrngReg), Pre_GatherIdeal m →
    θ_run (Cert.GatherIdeal.defs (F := Ideal)) (onTc (τ := Cert.GatherIdeal.τ) (Cert.GatherIdeal.main (F := Ideal))) ⟨m, fun _ => 0, g⟩ (fun r => (∀ c : Dev Cert.GatherIdeal.nD,
      r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0)
      ∧ r.2.mem ((c.tc : Thread Cert.GatherIdeal.nD Cert.GatherIdeal.τ).loc Cert.GatherIdeal.main_arg1) = m ((c.tc : Thread Cert.GatherIdeal.nD Cert.GatherIdeal.τ).loc Cert.GatherIdeal.main_arg1)
      ∧ r.2.mem ((c.tc : Thread Cert.GatherIdeal.nD Cert.GatherIdeal.τ).loc Cert.GatherIdeal.main_arg2) = m ((c.tc : Thread Cert.GatherIdeal.nD Cert.GatherIdeal.τ).loc Cert.GatherIdeal.main_arg2)
      ∧ r.2.mem ((c.tc : Thread Cert.GatherIdeal.nD Cert.GatherIdeal.τ).loc Cert.GatherIdeal.main_arg3) = m ((c.tc : Thread Cert.GatherIdeal.nD Cert.GatherIdeal.τ).loc Cert.GatherIdeal.main_arg3)
      ∧ r.2.mem ((c.tc : Thread Cert.GatherIdeal.nD Cert.GatherIdeal.τ).loc Cert.GatherIdeal.main_arg4) = m ((c.tc : Thread Cert.GatherIdeal.nD Cert.GatherIdeal.τ).loc Cert.GatherIdeal.main_arg4))
      ∧ r.2.sem = fun _ => 0)

def quiescent_GatherRefIdeal [hGatherRefIdeal : Cert.GatherRefIdeal.Facts] : Prop :=
  ∀ (m : (ℓ : Loc Cert.GatherRefIdeal.nD Cert.GatherRefIdeal.τ Cert.GatherRefIdeal.sig) → Buf (Elt Ideal) ℓ) (g : Dev Cert.GatherRefIdeal.nD → PrngReg), Pre_GatherRefIdeal m →
    θ_run (Cert.GatherRefIdeal.defs (F := Ideal)) (onTc (τ := Cert.GatherRefIdeal.τ) (Cert.GatherRefIdeal.main (F := Ideal))) ⟨m, fun _ => 0, g⟩ (fun r => (∀ c : Dev Cert.GatherRefIdeal.nD,
      r.2.mem ((c.tc : Thread Cert.GatherRefIdeal.nD Cert.GatherRefIdeal.τ).loc Cert.GatherRefIdeal.main_arg0) = m ((c.tc : Thread Cert.GatherRefIdeal.nD Cert.GatherRefIdeal.τ).loc Cert.GatherRefIdeal.main_arg0)
      ∧ r.2.mem ((c.tc : Thread Cert.GatherRefIdeal.nD Cert.GatherRefIdeal.τ).loc Cert.GatherRefIdeal.main_arg1) = m ((c.tc : Thread Cert.GatherRefIdeal.nD Cert.GatherRefIdeal.τ).loc Cert.GatherRefIdeal.main_arg1)
      ∧ r.2.mem ((c.tc : Thread Cert.GatherRefIdeal.nD Cert.GatherRefIdeal.τ).loc Cert.GatherRefIdeal.main_arg2) = m ((c.tc : Thread Cert.GatherRefIdeal.nD Cert.GatherRefIdeal.τ).loc Cert.GatherRefIdeal.main_arg2)
      ∧ r.2.mem ((c.tc : Thread Cert.GatherRefIdeal.nD Cert.GatherRefIdeal.τ).loc Cert.GatherRefIdeal.main_arg3) = m ((c.tc : Thread Cert.GatherRefIdeal.nD Cert.GatherRefIdeal.τ).loc Cert.GatherRefIdeal.main_arg3)
      ∧ r.2.mem ((c.tc : Thread Cert.GatherRefIdeal.nD Cert.GatherRefIdeal.τ).loc Cert.GatherRefIdeal.main_arg4) = m ((c.tc : Thread Cert.GatherRefIdeal.nD Cert.GatherRefIdeal.τ).loc Cert.GatherRefIdeal.main_arg4))
      ∧ r.2.sem = fun _ => 0)

def quiescent_AdamwOwn [hAdamwOwn : Cert.AdamwOwn.Facts] [hPre_own_block : Cert.Pre_own_block.Facts] : Prop :=
  ∀ (m : (ℓ : Loc Cert.AdamwOwn.nD Cert.AdamwOwn.τ Cert.AdamwOwn.sig) → Buf (Elt Bits) ℓ) (g : Dev Cert.AdamwOwn.nD → PrngReg), Pre_AdamwOwn m →
    θ_run (Cert.AdamwOwn.defs (F := Bits)) (onTc (τ := Cert.AdamwOwn.τ) (Cert.AdamwOwn.main (F := Bits))) ⟨m, fun _ => 0, g⟩ (fun r => (∀ c : Dev Cert.AdamwOwn.nD,
      r.2.mem ((c.tc : Thread Cert.AdamwOwn.nD Cert.AdamwOwn.τ).loc Cert.AdamwOwn.main_arg0) = m ((c.tc : Thread Cert.AdamwOwn.nD Cert.AdamwOwn.τ).loc Cert.AdamwOwn.main_arg0)
      ∧ r.2.mem ((c.tc : Thread Cert.AdamwOwn.nD Cert.AdamwOwn.τ).loc Cert.AdamwOwn.main_arg1) = m ((c.tc : Thread Cert.AdamwOwn.nD Cert.AdamwOwn.τ).loc Cert.AdamwOwn.main_arg1)
      ∧ r.2.mem ((c.tc : Thread Cert.AdamwOwn.nD Cert.AdamwOwn.τ).loc Cert.AdamwOwn.main_arg2) = m ((c.tc : Thread Cert.AdamwOwn.nD Cert.AdamwOwn.τ).loc Cert.AdamwOwn.main_arg2)
      ∧ r.2.mem ((c.tc : Thread Cert.AdamwOwn.nD Cert.AdamwOwn.τ).loc Cert.AdamwOwn.main_arg3) = m ((c.tc : Thread Cert.AdamwOwn.nD Cert.AdamwOwn.τ).loc Cert.AdamwOwn.main_arg3)
      ∧ r.2.mem ((c.tc : Thread Cert.AdamwOwn.nD Cert.AdamwOwn.τ).loc Cert.AdamwOwn.main_arg4) = m ((c.tc : Thread Cert.AdamwOwn.nD Cert.AdamwOwn.τ).loc Cert.AdamwOwn.main_arg4)
      ∧ r.2.mem ((c.tc : Thread Cert.AdamwOwn.nD Cert.AdamwOwn.τ).loc Cert.AdamwOwn.main_arg5) = m ((c.tc : Thread Cert.AdamwOwn.nD Cert.AdamwOwn.τ).loc Cert.AdamwOwn.main_arg5))
      ∧ r.2.sem = fun _ => 0)

def quiescent_AdamwOwnIdeal [hAdamwOwnIdeal : Cert.AdamwOwnIdeal.Facts] [hPre_own_block : Cert.Pre_own_block.Facts] : Prop :=
  ∀ (m : (ℓ : Loc Cert.AdamwOwnIdeal.nD Cert.AdamwOwnIdeal.τ Cert.AdamwOwnIdeal.sig) → Buf (Elt Ideal) ℓ) (g : Dev Cert.AdamwOwnIdeal.nD → PrngReg), Pre_AdamwOwnIdeal m →
    θ_run (Cert.AdamwOwnIdeal.defs (F := Ideal)) (onTc (τ := Cert.AdamwOwnIdeal.τ) (Cert.AdamwOwnIdeal.main (F := Ideal))) ⟨m, fun _ => 0, g⟩ (fun r => (∀ c : Dev Cert.AdamwOwnIdeal.nD,
      r.2.mem ((c.tc : Thread Cert.AdamwOwnIdeal.nD Cert.AdamwOwnIdeal.τ).loc Cert.AdamwOwnIdeal.main_arg0) = m ((c.tc : Thread Cert.AdamwOwnIdeal.nD Cert.AdamwOwnIdeal.τ).loc Cert.AdamwOwnIdeal.main_arg0)
      ∧ r.2.mem ((c.tc : Thread Cert.AdamwOwnIdeal.nD Cert.AdamwOwnIdeal.τ).loc Cert.AdamwOwnIdeal.main_arg1) = m ((c.tc : Thread Cert.AdamwOwnIdeal.nD Cert.AdamwOwnIdeal.τ).loc Cert.AdamwOwnIdeal.main_arg1)
      ∧ r.2.mem ((c.tc : Thread Cert.AdamwOwnIdeal.nD Cert.AdamwOwnIdeal.τ).loc Cert.AdamwOwnIdeal.main_arg2) = m ((c.tc : Thread Cert.AdamwOwnIdeal.nD Cert.AdamwOwnIdeal.τ).loc Cert.AdamwOwnIdeal.main_arg2)
      ∧ r.2.mem ((c.tc : Thread Cert.AdamwOwnIdeal.nD Cert.AdamwOwnIdeal.τ).loc Cert.AdamwOwnIdeal.main_arg3) = m ((c.tc : Thread Cert.AdamwOwnIdeal.nD Cert.AdamwOwnIdeal.τ).loc Cert.AdamwOwnIdeal.main_arg3)
      ∧ r.2.mem ((c.tc : Thread Cert.AdamwOwnIdeal.nD Cert.AdamwOwnIdeal.τ).loc Cert.AdamwOwnIdeal.main_arg4) = m ((c.tc : Thread Cert.AdamwOwnIdeal.nD Cert.AdamwOwnIdeal.τ).loc Cert.AdamwOwnIdeal.main_arg4)
      ∧ r.2.mem ((c.tc : Thread Cert.AdamwOwnIdeal.nD Cert.AdamwOwnIdeal.τ).loc Cert.AdamwOwnIdeal.main_arg5) = m ((c.tc : Thread Cert.AdamwOwnIdeal.nD Cert.AdamwOwnIdeal.τ).loc Cert.AdamwOwnIdeal.main_arg5))
      ∧ r.2.sem = fun _ => 0)

def quiescent_AdamwOwnRefIdeal [hAdamwOwnRefIdeal : Cert.AdamwOwnRefIdeal.Facts] : Prop :=
  ∀ (m : (ℓ : Loc Cert.AdamwOwnRefIdeal.nD Cert.AdamwOwnRefIdeal.τ Cert.AdamwOwnRefIdeal.sig) → Buf (Elt Ideal) ℓ) (g : Dev Cert.AdamwOwnRefIdeal.nD → PrngReg), Pre_AdamwOwnRefIdeal m →
    θ_run (Cert.AdamwOwnRefIdeal.defs (F := Ideal)) (onTc (τ := Cert.AdamwOwnRefIdeal.τ) (Cert.AdamwOwnRefIdeal.main (F := Ideal))) ⟨m, fun _ => 0, g⟩ (fun r => (∀ c : Dev Cert.AdamwOwnRefIdeal.nD,
      r.2.mem ((c.tc : Thread Cert.AdamwOwnRefIdeal.nD Cert.AdamwOwnRefIdeal.τ).loc Cert.AdamwOwnRefIdeal.main_arg0) = m ((c.tc : Thread Cert.AdamwOwnRefIdeal.nD Cert.AdamwOwnRefIdeal.τ).loc Cert.AdamwOwnRefIdeal.main_arg0)
      ∧ r.2.mem ((c.tc : Thread Cert.AdamwOwnRefIdeal.nD Cert.AdamwOwnRefIdeal.τ).loc Cert.AdamwOwnRefIdeal.main_arg1) = m ((c.tc : Thread Cert.AdamwOwnRefIdeal.nD Cert.AdamwOwnRefIdeal.τ).loc Cert.AdamwOwnRefIdeal.main_arg1)
      ∧ r.2.mem ((c.tc : Thread Cert.AdamwOwnRefIdeal.nD Cert.AdamwOwnRefIdeal.τ).loc Cert.AdamwOwnRefIdeal.main_arg2) = m ((c.tc : Thread Cert.AdamwOwnRefIdeal.nD Cert.AdamwOwnRefIdeal.τ).loc Cert.AdamwOwnRefIdeal.main_arg2)
      ∧ r.2.mem ((c.tc : Thread Cert.AdamwOwnRefIdeal.nD Cert.AdamwOwnRefIdeal.τ).loc Cert.AdamwOwnRefIdeal.main_arg3) = m ((c.tc : Thread Cert.AdamwOwnRefIdeal.nD Cert.AdamwOwnRefIdeal.τ).loc Cert.AdamwOwnRefIdeal.main_arg3)
      ∧ r.2.mem ((c.tc : Thread Cert.AdamwOwnRefIdeal.nD Cert.AdamwOwnRefIdeal.τ).loc Cert.AdamwOwnRefIdeal.main_arg4) = m ((c.tc : Thread Cert.AdamwOwnRefIdeal.nD Cert.AdamwOwnRefIdeal.τ).loc Cert.AdamwOwnRefIdeal.main_arg4)
      ∧ r.2.mem ((c.tc : Thread Cert.AdamwOwnRefIdeal.nD Cert.AdamwOwnRefIdeal.τ).loc Cert.AdamwOwnRefIdeal.main_arg5) = m ((c.tc : Thread Cert.AdamwOwnRefIdeal.nD Cert.AdamwOwnRefIdeal.τ).loc Cert.AdamwOwnRefIdeal.main_arg5))
      ∧ r.2.sem = fun _ => 0)

def quiescent_AdamwOwnRefIdeal_pre_own_block [hAdamwOwnRefIdeal : Cert.AdamwOwnRefIdeal.Facts] [hPre_own_block : Cert.Pre_own_block.Facts] : Prop :=
  ∀ (m : (ℓ : Loc Cert.AdamwOwnRefIdeal.nD Cert.AdamwOwnRefIdeal.τ Cert.AdamwOwnRefIdeal.sig) → Buf (Elt Ideal) ℓ) (g : Dev Cert.AdamwOwnRefIdeal.nD → PrngReg), Pre_AdamwOwnRefIdeal_own_block m →
    θ_run (Cert.AdamwOwnRefIdeal.defs (F := Ideal)) (onTc (τ := Cert.AdamwOwnRefIdeal.τ) (Cert.AdamwOwnRefIdeal.main (F := Ideal))) ⟨m, fun _ => 0, g⟩ (fun r => (∀ c : Dev Cert.AdamwOwnRefIdeal.nD,
      r.2.mem ((c.tc : Thread Cert.AdamwOwnRefIdeal.nD Cert.AdamwOwnRefIdeal.τ).loc Cert.AdamwOwnRefIdeal.main_arg0) = m ((c.tc : Thread Cert.AdamwOwnRefIdeal.nD Cert.AdamwOwnRefIdeal.τ).loc Cert.AdamwOwnRefIdeal.main_arg0)
      ∧ r.2.mem ((c.tc : Thread Cert.AdamwOwnRefIdeal.nD Cert.AdamwOwnRefIdeal.τ).loc Cert.AdamwOwnRefIdeal.main_arg1) = m ((c.tc : Thread Cert.AdamwOwnRefIdeal.nD Cert.AdamwOwnRefIdeal.τ).loc Cert.AdamwOwnRefIdeal.main_arg1)
      ∧ r.2.mem ((c.tc : Thread Cert.AdamwOwnRefIdeal.nD Cert.AdamwOwnRefIdeal.τ).loc Cert.AdamwOwnRefIdeal.main_arg2) = m ((c.tc : Thread Cert.AdamwOwnRefIdeal.nD Cert.AdamwOwnRefIdeal.τ).loc Cert.AdamwOwnRefIdeal.main_arg2)
      ∧ r.2.mem ((c.tc : Thread Cert.AdamwOwnRefIdeal.nD Cert.AdamwOwnRefIdeal.τ).loc Cert.AdamwOwnRefIdeal.main_arg3) = m ((c.tc : Thread Cert.AdamwOwnRefIdeal.nD Cert.AdamwOwnRefIdeal.τ).loc Cert.AdamwOwnRefIdeal.main_arg3)
      ∧ r.2.mem ((c.tc : Thread Cert.AdamwOwnRefIdeal.nD Cert.AdamwOwnRefIdeal.τ).loc Cert.AdamwOwnRefIdeal.main_arg4) = m ((c.tc : Thread Cert.AdamwOwnRefIdeal.nD Cert.AdamwOwnRefIdeal.τ).loc Cert.AdamwOwnRefIdeal.main_arg4)
      ∧ r.2.mem ((c.tc : Thread Cert.AdamwOwnRefIdeal.nD Cert.AdamwOwnRefIdeal.τ).loc Cert.AdamwOwnRefIdeal.main_arg5) = m ((c.tc : Thread Cert.AdamwOwnRefIdeal.nD Cert.AdamwOwnRefIdeal.τ).loc Cert.AdamwOwnRefIdeal.main_arg5))
      ∧ r.2.sem = fun _ => 0)

def quiescent_NormFirst [hNormFirst : Cert.NormFirst.Facts] : Prop :=
  ∀ (m : (ℓ : Loc Cert.NormFirst.nD Cert.NormFirst.τ Cert.NormFirst.sig) → Buf (Elt Bits) ℓ) (g : Dev Cert.NormFirst.nD → PrngReg), Pre_NormFirst m →
    θ_run (Cert.NormFirst.defs (F := Bits)) (onTc (τ := Cert.NormFirst.τ) (Cert.NormFirst.main (F := Bits))) ⟨m, fun _ => 0, g⟩ (fun r => (∀ c : Dev Cert.NormFirst.nD,
      r.2.mem ((c.tc : Thread Cert.NormFirst.nD Cert.NormFirst.τ).loc Cert.NormFirst.main_arg0) = m ((c.tc : Thread Cert.NormFirst.nD Cert.NormFirst.τ).loc Cert.NormFirst.main_arg0)
      ∧ r.2.mem ((c.tc : Thread Cert.NormFirst.nD Cert.NormFirst.τ).loc Cert.NormFirst.main_arg1) = m ((c.tc : Thread Cert.NormFirst.nD Cert.NormFirst.τ).loc Cert.NormFirst.main_arg1)
      ∧ r.2.mem ((c.tc : Thread Cert.NormFirst.nD Cert.NormFirst.τ).loc Cert.NormFirst.main_arg2) = m ((c.tc : Thread Cert.NormFirst.nD Cert.NormFirst.τ).loc Cert.NormFirst.main_arg2)
      ∧ r.2.mem ((c.tc : Thread Cert.NormFirst.nD Cert.NormFirst.τ).loc Cert.NormFirst.main_arg3) = m ((c.tc : Thread Cert.NormFirst.nD Cert.NormFirst.τ).loc Cert.NormFirst.main_arg3))
      ∧ r.2.sem = fun _ => 0)

def quiescent_NormFirstIdeal [hNormFirstIdeal : Cert.NormFirstIdeal.Facts] : Prop :=
  ∀ (m : (ℓ : Loc Cert.NormFirstIdeal.nD Cert.NormFirstIdeal.τ Cert.NormFirstIdeal.sig) → Buf (Elt Ideal) ℓ) (g : Dev Cert.NormFirstIdeal.nD → PrngReg), Pre_NormFirstIdeal m →
    θ_run (Cert.NormFirstIdeal.defs (F := Ideal)) (onTc (τ := Cert.NormFirstIdeal.τ) (Cert.NormFirstIdeal.main (F := Ideal))) ⟨m, fun _ => 0, g⟩ (fun r => (∀ c : Dev Cert.NormFirstIdeal.nD,
      r.2.mem ((c.tc : Thread Cert.NormFirstIdeal.nD Cert.NormFirstIdeal.τ).loc Cert.NormFirstIdeal.main_arg0) = m ((c.tc : Thread Cert.NormFirstIdeal.nD Cert.NormFirstIdeal.τ).loc Cert.NormFirstIdeal.main_arg0)
      ∧ r.2.mem ((c.tc : Thread Cert.NormFirstIdeal.nD Cert.NormFirstIdeal.τ).loc Cert.NormFirstIdeal.main_arg1) = m ((c.tc : Thread Cert.NormFirstIdeal.nD Cert.NormFirstIdeal.τ).loc Cert.NormFirstIdeal.main_arg1)
      ∧ r.2.mem ((c.tc : Thread Cert.NormFirstIdeal.nD Cert.NormFirstIdeal.τ).loc Cert.NormFirstIdeal.main_arg2) = m ((c.tc : Thread Cert.NormFirstIdeal.nD Cert.NormFirstIdeal.τ).loc Cert.NormFirstIdeal.main_arg2)
      ∧ r.2.mem ((c.tc : Thread Cert.NormFirstIdeal.nD Cert.NormFirstIdeal.τ).loc Cert.NormFirstIdeal.main_arg3) = m ((c.tc : Thread Cert.NormFirstIdeal.nD Cert.NormFirstIdeal.τ).loc Cert.NormFirstIdeal.main_arg3))
      ∧ r.2.sem = fun _ => 0)

def quiescent_NormFirstRefIdeal [hNormFirstRefIdeal : Cert.NormFirstRefIdeal.Facts] : Prop :=
  ∀ (m : (ℓ : Loc Cert.NormFirstRefIdeal.nD Cert.NormFirstRefIdeal.τ Cert.NormFirstRefIdeal.sig) → Buf (Elt Ideal) ℓ) (g : Dev Cert.NormFirstRefIdeal.nD → PrngReg), Pre_NormFirstRefIdeal m →
    θ_run (Cert.NormFirstRefIdeal.defs (F := Ideal)) (onTc (τ := Cert.NormFirstRefIdeal.τ) (Cert.NormFirstRefIdeal.main (F := Ideal))) ⟨m, fun _ => 0, g⟩ (fun r => (∀ c : Dev Cert.NormFirstRefIdeal.nD,
      r.2.mem ((c.tc : Thread Cert.NormFirstRefIdeal.nD Cert.NormFirstRefIdeal.τ).loc Cert.NormFirstRefIdeal.main_arg0) = m ((c.tc : Thread Cert.NormFirstRefIdeal.nD Cert.NormFirstRefIdeal.τ).loc Cert.NormFirstRefIdeal.main_arg0)
      ∧ r.2.mem ((c.tc : Thread Cert.NormFirstRefIdeal.nD Cert.NormFirstRefIdeal.τ).loc Cert.NormFirstRefIdeal.main_arg1) = m ((c.tc : Thread Cert.NormFirstRefIdeal.nD Cert.NormFirstRefIdeal.τ).loc Cert.NormFirstRefIdeal.main_arg1)
      ∧ r.2.mem ((c.tc : Thread Cert.NormFirstRefIdeal.nD Cert.NormFirstRefIdeal.τ).loc Cert.NormFirstRefIdeal.main_arg2) = m ((c.tc : Thread Cert.NormFirstRefIdeal.nD Cert.NormFirstRefIdeal.τ).loc Cert.NormFirstRefIdeal.main_arg2)
      ∧ r.2.mem ((c.tc : Thread Cert.NormFirstRefIdeal.nD Cert.NormFirstRefIdeal.τ).loc Cert.NormFirstRefIdeal.main_arg3) = m ((c.tc : Thread Cert.NormFirstRefIdeal.nD Cert.NormFirstRefIdeal.τ).loc Cert.NormFirstRefIdeal.main_arg3))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1))
      ∧ r.2.sem = fun _ => 0)

def quiescent_InProjDx [hInProjDx : Cert.InProjDx.Facts] : Prop :=
  ∀ (m : (ℓ : Loc Cert.InProjDx.nD Cert.InProjDx.τ Cert.InProjDx.sig) → Buf (Elt Bits) ℓ) (g : Dev Cert.InProjDx.nD → PrngReg), Pre_InProjDx m →
    θ_run (Cert.InProjDx.defs (F := Bits)) (onTc (τ := Cert.InProjDx.τ) (Cert.InProjDx.main (F := Bits))) ⟨m, fun _ => 0, g⟩ (fun r => (∀ c : Dev Cert.InProjDx.nD,
      r.2.mem ((c.tc : Thread Cert.InProjDx.nD Cert.InProjDx.τ).loc Cert.InProjDx.main_arg0) = m ((c.tc : Thread Cert.InProjDx.nD Cert.InProjDx.τ).loc Cert.InProjDx.main_arg0)
      ∧ r.2.mem ((c.tc : Thread Cert.InProjDx.nD Cert.InProjDx.τ).loc Cert.InProjDx.main_arg1) = m ((c.tc : Thread Cert.InProjDx.nD Cert.InProjDx.τ).loc Cert.InProjDx.main_arg1))
      ∧ r.2.sem = fun _ => 0)

def quiescent_InProjDxIdeal [hInProjDxIdeal : Cert.InProjDxIdeal.Facts] : Prop :=
  ∀ (m : (ℓ : Loc Cert.InProjDxIdeal.nD Cert.InProjDxIdeal.τ Cert.InProjDxIdeal.sig) → Buf (Elt Ideal) ℓ) (g : Dev Cert.InProjDxIdeal.nD → PrngReg), Pre_InProjDxIdeal m →
    θ_run (Cert.InProjDxIdeal.defs (F := Ideal)) (onTc (τ := Cert.InProjDxIdeal.τ) (Cert.InProjDxIdeal.main (F := Ideal))) ⟨m, fun _ => 0, g⟩ (fun r => (∀ c : Dev Cert.InProjDxIdeal.nD,
      r.2.mem ((c.tc : Thread Cert.InProjDxIdeal.nD Cert.InProjDxIdeal.τ).loc Cert.InProjDxIdeal.main_arg0) = m ((c.tc : Thread Cert.InProjDxIdeal.nD Cert.InProjDxIdeal.τ).loc Cert.InProjDxIdeal.main_arg0)
      ∧ r.2.mem ((c.tc : Thread Cert.InProjDxIdeal.nD Cert.InProjDxIdeal.τ).loc Cert.InProjDxIdeal.main_arg1) = m ((c.tc : Thread Cert.InProjDxIdeal.nD Cert.InProjDxIdeal.τ).loc Cert.InProjDxIdeal.main_arg1))
      ∧ r.2.sem = fun _ => 0)

def quiescent_InProjDxRefIdeal [hInProjDxRefIdeal : Cert.InProjDxRefIdeal.Facts] : Prop :=
  ∀ (m : (ℓ : Loc Cert.InProjDxRefIdeal.nD Cert.InProjDxRefIdeal.τ Cert.InProjDxRefIdeal.sig) → Buf (Elt Ideal) ℓ) (g : Dev Cert.InProjDxRefIdeal.nD → PrngReg), Pre_InProjDxRefIdeal m →
    θ_run (Cert.InProjDxRefIdeal.defs (F := Ideal)) (onTc (τ := Cert.InProjDxRefIdeal.τ) (Cert.InProjDxRefIdeal.main (F := Ideal))) ⟨m, fun _ => 0, g⟩ (fun r => (∀ c : Dev Cert.InProjDxRefIdeal.nD,
      r.2.mem ((c.tc : Thread Cert.InProjDxRefIdeal.nD Cert.InProjDxRefIdeal.τ).loc Cert.InProjDxRefIdeal.main_arg0) = m ((c.tc : Thread Cert.InProjDxRefIdeal.nD Cert.InProjDxRefIdeal.τ).loc Cert.InProjDxRefIdeal.main_arg0)
      ∧ r.2.mem ((c.tc : Thread Cert.InProjDxRefIdeal.nD Cert.InProjDxRefIdeal.τ).loc Cert.InProjDxRefIdeal.main_arg1) = m ((c.tc : Thread Cert.InProjDxRefIdeal.nD Cert.InProjDxRefIdeal.τ).loc Cert.InProjDxRefIdeal.main_arg1))
      ∧ r.2.sem = fun _ => 0)

def quiescent_InProjDw [hInProjDw : Cert.InProjDw.Facts] : Prop :=
  ∀ (m : (ℓ : Loc Cert.InProjDw.nD Cert.InProjDw.τ Cert.InProjDw.sig) → Buf (Elt Bits) ℓ) (g : Dev Cert.InProjDw.nD → PrngReg), Pre_InProjDw m →
    θ_run (Cert.InProjDw.defs (F := Bits)) (onTc (τ := Cert.InProjDw.τ) (Cert.InProjDw.main (F := Bits))) ⟨m, fun _ => 0, g⟩ (fun r => (∀ c : Dev Cert.InProjDw.nD,
      r.2.mem ((c.tc : Thread Cert.InProjDw.nD Cert.InProjDw.τ).loc Cert.InProjDw.main_arg0) = m ((c.tc : Thread Cert.InProjDw.nD Cert.InProjDw.τ).loc Cert.InProjDw.main_arg0)
      ∧ r.2.mem ((c.tc : Thread Cert.InProjDw.nD Cert.InProjDw.τ).loc Cert.InProjDw.main_arg1) = m ((c.tc : Thread Cert.InProjDw.nD Cert.InProjDw.τ).loc Cert.InProjDw.main_arg1))
      ∧ r.2.sem = fun _ => 0)

def quiescent_InProjDwIdeal [hInProjDwIdeal : Cert.InProjDwIdeal.Facts] : Prop :=
  ∀ (m : (ℓ : Loc Cert.InProjDwIdeal.nD Cert.InProjDwIdeal.τ Cert.InProjDwIdeal.sig) → Buf (Elt Ideal) ℓ) (g : Dev Cert.InProjDwIdeal.nD → PrngReg), Pre_InProjDwIdeal m →
    θ_run (Cert.InProjDwIdeal.defs (F := Ideal)) (onTc (τ := Cert.InProjDwIdeal.τ) (Cert.InProjDwIdeal.main (F := Ideal))) ⟨m, fun _ => 0, g⟩ (fun r => (∀ c : Dev Cert.InProjDwIdeal.nD,
      r.2.mem ((c.tc : Thread Cert.InProjDwIdeal.nD Cert.InProjDwIdeal.τ).loc Cert.InProjDwIdeal.main_arg0) = m ((c.tc : Thread Cert.InProjDwIdeal.nD Cert.InProjDwIdeal.τ).loc Cert.InProjDwIdeal.main_arg0)
      ∧ r.2.mem ((c.tc : Thread Cert.InProjDwIdeal.nD Cert.InProjDwIdeal.τ).loc Cert.InProjDwIdeal.main_arg1) = m ((c.tc : Thread Cert.InProjDwIdeal.nD Cert.InProjDwIdeal.τ).loc Cert.InProjDwIdeal.main_arg1))
      ∧ r.2.sem = fun _ => 0)

def quiescent_InProjDwRefIdeal [hInProjDwRefIdeal : Cert.InProjDwRefIdeal.Facts] : Prop :=
  ∀ (m : (ℓ : Loc Cert.InProjDwRefIdeal.nD Cert.InProjDwRefIdeal.τ Cert.InProjDwRefIdeal.sig) → Buf (Elt Ideal) ℓ) (g : Dev Cert.InProjDwRefIdeal.nD → PrngReg), Pre_InProjDwRefIdeal m →
    θ_run (Cert.InProjDwRefIdeal.defs (F := Ideal)) (onTc (τ := Cert.InProjDwRefIdeal.τ) (Cert.InProjDwRefIdeal.main (F := Ideal))) ⟨m, fun _ => 0, g⟩ (fun r => (∀ c : Dev Cert.InProjDwRefIdeal.nD,
      r.2.mem ((c.tc : Thread Cert.InProjDwRefIdeal.nD Cert.InProjDwRefIdeal.τ).loc Cert.InProjDwRefIdeal.main_arg0) = m ((c.tc : Thread Cert.InProjDwRefIdeal.nD Cert.InProjDwRefIdeal.τ).loc Cert.InProjDwRefIdeal.main_arg0)
      ∧ r.2.mem ((c.tc : Thread Cert.InProjDwRefIdeal.nD Cert.InProjDwRefIdeal.τ).loc Cert.InProjDwRefIdeal.main_arg1) = m ((c.tc : Thread Cert.InProjDwRefIdeal.nD Cert.InProjDwRefIdeal.τ).loc Cert.InProjDwRefIdeal.main_arg1))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2))
      ∧ r.2.sem = fun _ => 0)

def quiescent_OutProjDx [hOutProjDx : Cert.OutProjDx.Facts] : Prop :=
  ∀ (m : (ℓ : Loc Cert.OutProjDx.nD Cert.OutProjDx.τ Cert.OutProjDx.sig) → Buf (Elt Bits) ℓ) (g : Dev Cert.OutProjDx.nD → PrngReg), Pre_OutProjDx m →
    θ_run (Cert.OutProjDx.defs (F := Bits)) (onTc (τ := Cert.OutProjDx.τ) (Cert.OutProjDx.main (F := Bits))) ⟨m, fun _ => 0, g⟩ (fun r => (∀ c : Dev Cert.OutProjDx.nD,
      r.2.mem ((c.tc : Thread Cert.OutProjDx.nD Cert.OutProjDx.τ).loc Cert.OutProjDx.main_arg0) = m ((c.tc : Thread Cert.OutProjDx.nD Cert.OutProjDx.τ).loc Cert.OutProjDx.main_arg0)
      ∧ r.2.mem ((c.tc : Thread Cert.OutProjDx.nD Cert.OutProjDx.τ).loc Cert.OutProjDx.main_arg1) = m ((c.tc : Thread Cert.OutProjDx.nD Cert.OutProjDx.τ).loc Cert.OutProjDx.main_arg1))
      ∧ r.2.sem = fun _ => 0)

def quiescent_OutProjDxIdeal [hOutProjDxIdeal : Cert.OutProjDxIdeal.Facts] : Prop :=
  ∀ (m : (ℓ : Loc Cert.OutProjDxIdeal.nD Cert.OutProjDxIdeal.τ Cert.OutProjDxIdeal.sig) → Buf (Elt Ideal) ℓ) (g : Dev Cert.OutProjDxIdeal.nD → PrngReg), Pre_OutProjDxIdeal m →
    θ_run (Cert.OutProjDxIdeal.defs (F := Ideal)) (onTc (τ := Cert.OutProjDxIdeal.τ) (Cert.OutProjDxIdeal.main (F := Ideal))) ⟨m, fun _ => 0, g⟩ (fun r => (∀ c : Dev Cert.OutProjDxIdeal.nD,
      r.2.mem ((c.tc : Thread Cert.OutProjDxIdeal.nD Cert.OutProjDxIdeal.τ).loc Cert.OutProjDxIdeal.main_arg0) = m ((c.tc : Thread Cert.OutProjDxIdeal.nD Cert.OutProjDxIdeal.τ).loc Cert.OutProjDxIdeal.main_arg0)
      ∧ r.2.mem ((c.tc : Thread Cert.OutProjDxIdeal.nD Cert.OutProjDxIdeal.τ).loc Cert.OutProjDxIdeal.main_arg1) = m ((c.tc : Thread Cert.OutProjDxIdeal.nD Cert.OutProjDxIdeal.τ).loc Cert.OutProjDxIdeal.main_arg1))
      ∧ r.2.sem = fun _ => 0)

def quiescent_OutProjDxRefIdeal [hOutProjDxRefIdeal : Cert.OutProjDxRefIdeal.Facts] : Prop :=
  ∀ (m : (ℓ : Loc Cert.OutProjDxRefIdeal.nD Cert.OutProjDxRefIdeal.τ Cert.OutProjDxRefIdeal.sig) → Buf (Elt Ideal) ℓ) (g : Dev Cert.OutProjDxRefIdeal.nD → PrngReg), Pre_OutProjDxRefIdeal m →
    θ_run (Cert.OutProjDxRefIdeal.defs (F := Ideal)) (onTc (τ := Cert.OutProjDxRefIdeal.τ) (Cert.OutProjDxRefIdeal.main (F := Ideal))) ⟨m, fun _ => 0, g⟩ (fun r => (∀ c : Dev Cert.OutProjDxRefIdeal.nD,
      r.2.mem ((c.tc : Thread Cert.OutProjDxRefIdeal.nD Cert.OutProjDxRefIdeal.τ).loc Cert.OutProjDxRefIdeal.main_arg0) = m ((c.tc : Thread Cert.OutProjDxRefIdeal.nD Cert.OutProjDxRefIdeal.τ).loc Cert.OutProjDxRefIdeal.main_arg0)
      ∧ r.2.mem ((c.tc : Thread Cert.OutProjDxRefIdeal.nD Cert.OutProjDxRefIdeal.τ).loc Cert.OutProjDxRefIdeal.main_arg1) = m ((c.tc : Thread Cert.OutProjDxRefIdeal.nD Cert.OutProjDxRefIdeal.τ).loc Cert.OutProjDxRefIdeal.main_arg1))
      ∧ r.2.sem = fun _ => 0)

def quiescent_OutProjDw [hOutProjDw : Cert.OutProjDw.Facts] : Prop :=
  ∀ (m : (ℓ : Loc Cert.OutProjDw.nD Cert.OutProjDw.τ Cert.OutProjDw.sig) → Buf (Elt Bits) ℓ) (g : Dev Cert.OutProjDw.nD → PrngReg), Pre_OutProjDw m →
    θ_run (Cert.OutProjDw.defs (F := Bits)) (onTc (τ := Cert.OutProjDw.τ) (Cert.OutProjDw.main (F := Bits))) ⟨m, fun _ => 0, g⟩ (fun r => (∀ c : Dev Cert.OutProjDw.nD,
      r.2.mem ((c.tc : Thread Cert.OutProjDw.nD Cert.OutProjDw.τ).loc Cert.OutProjDw.main_arg0) = m ((c.tc : Thread Cert.OutProjDw.nD Cert.OutProjDw.τ).loc Cert.OutProjDw.main_arg0)
      ∧ r.2.mem ((c.tc : Thread Cert.OutProjDw.nD Cert.OutProjDw.τ).loc Cert.OutProjDw.main_arg1) = m ((c.tc : Thread Cert.OutProjDw.nD Cert.OutProjDw.τ).loc Cert.OutProjDw.main_arg1))
      ∧ r.2.sem = fun _ => 0)

def quiescent_OutProjDwIdeal [hOutProjDwIdeal : Cert.OutProjDwIdeal.Facts] : Prop :=
  ∀ (m : (ℓ : Loc Cert.OutProjDwIdeal.nD Cert.OutProjDwIdeal.τ Cert.OutProjDwIdeal.sig) → Buf (Elt Ideal) ℓ) (g : Dev Cert.OutProjDwIdeal.nD → PrngReg), Pre_OutProjDwIdeal m →
    θ_run (Cert.OutProjDwIdeal.defs (F := Ideal)) (onTc (τ := Cert.OutProjDwIdeal.τ) (Cert.OutProjDwIdeal.main (F := Ideal))) ⟨m, fun _ => 0, g⟩ (fun r => (∀ c : Dev Cert.OutProjDwIdeal.nD,
      r.2.mem ((c.tc : Thread Cert.OutProjDwIdeal.nD Cert.OutProjDwIdeal.τ).loc Cert.OutProjDwIdeal.main_arg0) = m ((c.tc : Thread Cert.OutProjDwIdeal.nD Cert.OutProjDwIdeal.τ).loc Cert.OutProjDwIdeal.main_arg0)
      ∧ r.2.mem ((c.tc : Thread Cert.OutProjDwIdeal.nD Cert.OutProjDwIdeal.τ).loc Cert.OutProjDwIdeal.main_arg1) = m ((c.tc : Thread Cert.OutProjDwIdeal.nD Cert.OutProjDwIdeal.τ).loc Cert.OutProjDwIdeal.main_arg1))
      ∧ r.2.sem = fun _ => 0)

def quiescent_OutProjDwRefIdeal [hOutProjDwRefIdeal : Cert.OutProjDwRefIdeal.Facts] : Prop :=
  ∀ (m : (ℓ : Loc Cert.OutProjDwRefIdeal.nD Cert.OutProjDwRefIdeal.τ Cert.OutProjDwRefIdeal.sig) → Buf (Elt Ideal) ℓ) (g : Dev Cert.OutProjDwRefIdeal.nD → PrngReg), Pre_OutProjDwRefIdeal m →
    θ_run (Cert.OutProjDwRefIdeal.defs (F := Ideal)) (onTc (τ := Cert.OutProjDwRefIdeal.τ) (Cert.OutProjDwRefIdeal.main (F := Ideal))) ⟨m, fun _ => 0, g⟩ (fun r => (∀ c : Dev Cert.OutProjDwRefIdeal.nD,
      r.2.mem ((c.tc : Thread Cert.OutProjDwRefIdeal.nD Cert.OutProjDwRefIdeal.τ).loc Cert.OutProjDwRefIdeal.main_arg0) = m ((c.tc : Thread Cert.OutProjDwRefIdeal.nD Cert.OutProjDwRefIdeal.τ).loc Cert.OutProjDwRefIdeal.main_arg0)
      ∧ r.2.mem ((c.tc : Thread Cert.OutProjDwRefIdeal.nD Cert.OutProjDwRefIdeal.τ).loc Cert.OutProjDwRefIdeal.main_arg1) = m ((c.tc : Thread Cert.OutProjDwRefIdeal.nD Cert.OutProjDwRefIdeal.τ).loc Cert.OutProjDwRefIdeal.main_arg1))
      ∧ r.2.sem = fun _ => 0)

def quiescent_UpDw [hUpDw : Cert.UpDw.Facts] : Prop :=
  ∀ (m : (ℓ : Loc Cert.UpDw.nD Cert.UpDw.τ Cert.UpDw.sig) → Buf (Elt Bits) ℓ) (g : Dev Cert.UpDw.nD → PrngReg), Pre_UpDw m →
    θ_run (Cert.UpDw.defs (F := Bits)) (onTc (τ := Cert.UpDw.τ) (Cert.UpDw.main (F := Bits))) ⟨m, fun _ => 0, g⟩ (fun r => (∀ c : Dev Cert.UpDw.nD,
      r.2.mem ((c.tc : Thread Cert.UpDw.nD Cert.UpDw.τ).loc Cert.UpDw.main_arg0) = m ((c.tc : Thread Cert.UpDw.nD Cert.UpDw.τ).loc Cert.UpDw.main_arg0)
      ∧ r.2.mem ((c.tc : Thread Cert.UpDw.nD Cert.UpDw.τ).loc Cert.UpDw.main_arg1) = m ((c.tc : Thread Cert.UpDw.nD Cert.UpDw.τ).loc Cert.UpDw.main_arg1))
      ∧ r.2.sem = fun _ => 0)

def quiescent_UpDwIdeal [hUpDwIdeal : Cert.UpDwIdeal.Facts] : Prop :=
  ∀ (m : (ℓ : Loc Cert.UpDwIdeal.nD Cert.UpDwIdeal.τ Cert.UpDwIdeal.sig) → Buf (Elt Ideal) ℓ) (g : Dev Cert.UpDwIdeal.nD → PrngReg), Pre_UpDwIdeal m →
    θ_run (Cert.UpDwIdeal.defs (F := Ideal)) (onTc (τ := Cert.UpDwIdeal.τ) (Cert.UpDwIdeal.main (F := Ideal))) ⟨m, fun _ => 0, g⟩ (fun r => (∀ c : Dev Cert.UpDwIdeal.nD,
      r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
      ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1))
      ∧ r.2.sem = fun _ => 0)

def quiescent_UpDwRefIdeal [hUpDwRefIdeal : Cert.UpDwRefIdeal.Facts] : Prop :=
  ∀ (m : (ℓ : Loc Cert.UpDwRefIdeal.nD Cert.UpDwRefIdeal.τ Cert.UpDwRefIdeal.sig) → Buf (Elt Ideal) ℓ) (g : Dev Cert.UpDwRefIdeal.nD → PrngReg), Pre_UpDwRefIdeal m →
    θ_run (Cert.UpDwRefIdeal.defs (F := Ideal)) (onTc (τ := Cert.UpDwRefIdeal.τ) (Cert.UpDwRefIdeal.main (F := Ideal))) ⟨m, fun _ => 0, g⟩ (fun r => (∀ c : Dev Cert.UpDwRefIdeal.nD,
      r.2.mem ((c.tc : Thread Cert.UpDwRefIdeal.nD Cert.UpDwRefIdeal.τ).loc Cert.UpDwRefIdeal.main_arg0) = m ((c.tc : Thread Cert.UpDwRefIdeal.nD Cert.UpDwRefIdeal.τ).loc Cert.UpDwRefIdeal.main_arg0)
      ∧ r.2.mem ((c.tc : Thread Cert.UpDwRefIdeal.nD Cert.UpDwRefIdeal.τ).loc Cert.UpDwRefIdeal.main_arg1) = m ((c.tc : Thread Cert.UpDwRefIdeal.nD Cert.UpDwRefIdeal.τ).loc Cert.UpDwRefIdeal.main_arg1))
      ∧ r.2.sem = fun _ => 0)

def quiescent_CastFirst [hCastFirst : Cert.CastFirst.Facts] : Prop :=
  ∀ (m : (ℓ : Loc Cert.CastFirst.nD Cert.CastFirst.τ Cert.CastFirst.sig) → Buf (Elt Bits) ℓ) (g : Dev Cert.CastFirst.nD → PrngReg), Pre_CastFirst m →
    θ_run (Cert.CastFirst.defs (F := Bits)) (onTc (τ := Cert.CastFirst.τ) (Cert.CastFirst.main (F := Bits))) ⟨m, fun _ => 0, g⟩ (fun r => (∀ c : Dev Cert.CastFirst.nD,
      r.2.mem ((c.tc : Thread Cert.CastFirst.nD Cert.CastFirst.τ).loc Cert.CastFirst.main_arg0) = m ((c.tc : Thread Cert.CastFirst.nD Cert.CastFirst.τ).loc Cert.CastFirst.main_arg0))
      ∧ r.2.sem = fun _ => 0)

def quiescent_CastFirstIdeal [hCastFirstIdeal : Cert.CastFirstIdeal.Facts] : Prop :=
  ∀ (m : (ℓ : Loc Cert.CastFirstIdeal.nD Cert.CastFirstIdeal.τ Cert.CastFirstIdeal.sig) → Buf (Elt Ideal) ℓ) (g : Dev Cert.CastFirstIdeal.nD → PrngReg), Pre_CastFirstIdeal m →
    θ_run (Cert.CastFirstIdeal.defs (F := Ideal)) (onTc (τ := Cert.CastFirstIdeal.τ) (Cert.CastFirstIdeal.main (F := Ideal))) ⟨m, fun _ => 0, g⟩ (fun r => (∀ c : Dev Cert.CastFirstIdeal.nD,
      r.2.mem ((c.tc : Thread Cert.CastFirstIdeal.nD Cert.CastFirstIdeal.τ).loc Cert.CastFirstIdeal.main_arg0) = m ((c.tc : Thread Cert.CastFirstIdeal.nD Cert.CastFirstIdeal.τ).loc Cert.CastFirstIdeal.main_arg0))
      ∧ r.2.sem = fun _ => 0)

def quiescent_CastFirstRefIdeal [hCastFirstRefIdeal : Cert.CastFirstRefIdeal.Facts] : Prop :=
  ∀ (m : (ℓ : Loc Cert.CastFirstRefIdeal.nD Cert.CastFirstRefIdeal.τ Cert.CastFirstRefIdeal.sig) → Buf (Elt Ideal) ℓ) (g : Dev Cert.CastFirstRefIdeal.nD → PrngReg), Pre_CastFirstRefIdeal m →
    θ_run (Cert.CastFirstRefIdeal.defs (F := Ideal)) (onTc (τ := Cert.CastFirstRefIdeal.τ) (Cert.CastFirstRefIdeal.main (F := Ideal))) ⟨m, fun _ => 0, g⟩ (fun r => (∀ c : Dev Cert.CastFirstRefIdeal.nD,
      r.2.mem ((c.tc : Thread Cert.CastFirstRefIdeal.nD Cert.CastFirstRefIdeal.τ).loc Cert.CastFirstRefIdeal.main_arg0) = m ((c.tc : Thread Cert.CastFirstRefIdeal.nD Cert.CastFirstRefIdeal.τ).loc Cert.CastFirstRefIdeal.main_arg0))
      ∧ r.2.sem = fun _ => 0)

def preserves_Relu2_Relu2Ideal : Prop :=
  True

def algebraic_Relu2Ideal_Relu2RefIdeal [hRelu2Ideal : Cert.Relu2Ideal.Facts] [hRelu2RefIdeal : Cert.Relu2RefIdeal.Facts] : Prop :=
  ∀ (m : (ℓ : Loc Cert.Relu2Ideal.nD Cert.Relu2Ideal.τ Cert.Relu2Ideal.sig) → Buf (Elt Ideal) ℓ) (g : Dev Cert.Relu2Ideal.nD → PrngReg)
    (m' : (ℓ : Loc Cert.Relu2RefIdeal.nD Cert.Relu2RefIdeal.τ Cert.Relu2RefIdeal.sig) → Buf (Elt Ideal) ℓ) (g' : Dev Cert.Relu2RefIdeal.nD → PrngReg), Pre_Relu2Ideal m →
    (∀ c : Dev Cert.Relu2Ideal.nD,
      m' ((c.tc : Thread Cert.Relu2RefIdeal.nD Cert.Relu2RefIdeal.τ).loc Cert.Relu2RefIdeal.main_arg0) = m ((c.tc : Thread Cert.Relu2Ideal.nD Cert.Relu2Ideal.τ).loc Cert.Relu2Ideal.main_arg0)
      ∧ m' ((c.tc : Thread Cert.Relu2RefIdeal.nD Cert.Relu2RefIdeal.τ).loc Cert.Relu2RefIdeal.main_arg1) = m ((c.tc : Thread Cert.Relu2Ideal.nD Cert.Relu2Ideal.τ).loc Cert.Relu2Ideal.main_arg1)
      ∧ m' ((c.tc : Thread Cert.Relu2RefIdeal.nD Cert.Relu2RefIdeal.τ).loc Cert.Relu2RefIdeal.main_arg2) = m ((c.tc : Thread Cert.Relu2Ideal.nD Cert.Relu2Ideal.τ).loc Cert.Relu2Ideal.main_arg2)) →
    ∃ (v0 : (c : Dev Cert.Relu2Ideal.nD) → Buf (Elt Ideal) ((c.tc : Thread Cert.Relu2Ideal.nD Cert.Relu2Ideal.τ).loc Cert.Relu2Ideal.main_v1)),
      θ_run (Cert.Relu2Ideal.defs (F := Ideal)) (onTc (τ := Cert.Relu2Ideal.τ) (Cert.Relu2Ideal.main (F := Ideal))) ⟨m, fun _ => 0, g⟩ (fun r => ∀ c : Dev Cert.Relu2Ideal.nD,
          r.2.mem ((c.tc : Thread Cert.Relu2Ideal.nD Cert.Relu2Ideal.τ).loc Cert.Relu2Ideal.main_v1) = v0 c
          ∧ r.2.mem ((c.tc : Thread Cert.Relu2Ideal.nD Cert.Relu2Ideal.τ).loc Cert.Relu2Ideal.main_arg0) = m ((c.tc : Thread Cert.Relu2Ideal.nD Cert.Relu2Ideal.τ).loc Cert.Relu2Ideal.main_arg0)
          ∧ r.2.mem ((c.tc : Thread Cert.Relu2Ideal.nD Cert.Relu2Ideal.τ).loc Cert.Relu2Ideal.main_arg1) = m ((c.tc : Thread Cert.Relu2Ideal.nD Cert.Relu2Ideal.τ).loc Cert.Relu2Ideal.main_arg1)
          ∧ r.2.mem ((c.tc : Thread Cert.Relu2Ideal.nD Cert.Relu2Ideal.τ).loc Cert.Relu2Ideal.main_arg2) = m ((c.tc : Thread Cert.Relu2Ideal.nD Cert.Relu2Ideal.τ).loc Cert.Relu2Ideal.main_arg2))
      ∧ θ_run (Cert.Relu2RefIdeal.defs (F := Ideal)) (onTc (τ := Cert.Relu2RefIdeal.τ) (Cert.Relu2RefIdeal.main (F := Ideal))) ⟨m', fun _ => 0, g'⟩ (fun r => ∀ c : Dev Cert.Relu2RefIdeal.nD,
          r.2.mem ((c.tc : Thread Cert.Relu2RefIdeal.nD Cert.Relu2RefIdeal.τ).loc Cert.Relu2RefIdeal.main_v15) = v0 c
          ∧ r.2.mem ((c.tc : Thread Cert.Relu2RefIdeal.nD Cert.Relu2RefIdeal.τ).loc Cert.Relu2RefIdeal.main_arg0) = m' ((c.tc : Thread Cert.Relu2RefIdeal.nD Cert.Relu2RefIdeal.τ).loc Cert.Relu2RefIdeal.main_arg0)
          ∧ r.2.mem ((c.tc : Thread Cert.Relu2RefIdeal.nD Cert.Relu2RefIdeal.τ).loc Cert.Relu2RefIdeal.main_arg1) = m' ((c.tc : Thread Cert.Relu2RefIdeal.nD Cert.Relu2RefIdeal.τ).loc Cert.Relu2RefIdeal.main_arg1)
          ∧ r.2.mem ((c.tc : Thread Cert.Relu2RefIdeal.nD Cert.Relu2RefIdeal.τ).loc Cert.Relu2RefIdeal.main_arg2) = m' ((c.tc : Thread Cert.Relu2RefIdeal.nD Cert.Relu2RefIdeal.τ).loc Cert.Relu2RefIdeal.main_arg2))

def preserves_NormBwd_NormBwdIdeal : Prop :=
  True

def algebraic_NormBwdIdeal_NormBwdRefIdeal [hNormBwdIdeal : Cert.NormBwdIdeal.Facts] [hNormBwdRefIdeal : Cert.NormBwdRefIdeal.Facts] : Prop :=
  ∀ (m : (ℓ : Loc Cert.NormBwdIdeal.nD Cert.NormBwdIdeal.τ Cert.NormBwdIdeal.sig) → Buf (Elt Ideal) ℓ) (g : Dev Cert.NormBwdIdeal.nD → PrngReg)
    (m' : (ℓ : Loc Cert.NormBwdRefIdeal.nD Cert.NormBwdRefIdeal.τ Cert.NormBwdRefIdeal.sig) → Buf (Elt Ideal) ℓ) (g' : Dev Cert.NormBwdRefIdeal.nD → PrngReg), Pre_NormBwdIdeal m →
    (∀ c : Dev Cert.NormBwdIdeal.nD,
      m' ((c.tc : Thread Cert.NormBwdRefIdeal.nD Cert.NormBwdRefIdeal.τ).loc Cert.NormBwdRefIdeal.main_arg0) = m ((c.tc : Thread Cert.NormBwdIdeal.nD Cert.NormBwdIdeal.τ).loc Cert.NormBwdIdeal.main_arg0)
      ∧ m' ((c.tc : Thread Cert.NormBwdRefIdeal.nD Cert.NormBwdRefIdeal.τ).loc Cert.NormBwdRefIdeal.main_arg1) = m ((c.tc : Thread Cert.NormBwdIdeal.nD Cert.NormBwdIdeal.τ).loc Cert.NormBwdIdeal.main_arg1)
      ∧ m' ((c.tc : Thread Cert.NormBwdRefIdeal.nD Cert.NormBwdRefIdeal.τ).loc Cert.NormBwdRefIdeal.main_arg2) = m ((c.tc : Thread Cert.NormBwdIdeal.nD Cert.NormBwdIdeal.τ).loc Cert.NormBwdIdeal.main_arg2)
      ∧ m' ((c.tc : Thread Cert.NormBwdRefIdeal.nD Cert.NormBwdRefIdeal.τ).loc Cert.NormBwdRefIdeal.main_arg3) = m ((c.tc : Thread Cert.NormBwdIdeal.nD Cert.NormBwdIdeal.τ).loc Cert.NormBwdIdeal.main_arg3)) →
    ∃ (v0 : (c : Dev Cert.NormBwdIdeal.nD) → Buf (Elt Ideal) ((c.tc : Thread Cert.NormBwdIdeal.nD Cert.NormBwdIdeal.τ).loc Cert.NormBwdIdeal.main_v2_0)) (v1 : (c : Dev Cert.NormBwdIdeal.nD) → Buf (Elt Ideal) ((c.tc : Thread Cert.NormBwdIdeal.nD Cert.NormBwdIdeal.τ).loc Cert.NormBwdIdeal.main_v2_1)),
      θ_run (Cert.NormBwdIdeal.defs (F := Ideal)) (onTc (τ := Cert.NormBwdIdeal.τ) (Cert.NormBwdIdeal.main (F := Ideal))) ⟨m, fun _ => 0, g⟩ (fun r => ∀ c : Dev Cert.NormBwdIdeal.nD,
          r.2.mem ((c.tc : Thread Cert.NormBwdIdeal.nD Cert.NormBwdIdeal.τ).loc Cert.NormBwdIdeal.main_v2_0) = v0 c
          ∧ r.2.mem ((c.tc : Thread Cert.NormBwdIdeal.nD Cert.NormBwdIdeal.τ).loc Cert.NormBwdIdeal.main_v2_1) = v1 c
          ∧ r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
          ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
          ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
          ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3))
      ∧ θ_run (Cert.NormBwdRefIdeal.defs (F := Ideal)) (onTc (τ := Cert.NormBwdRefIdeal.τ) (Cert.NormBwdRefIdeal.main (F := Ideal))) ⟨m', fun _ => 0, g'⟩ (fun r => ∀ c : Dev Cert.NormBwdRefIdeal.nD,
          r.2.mem ((c.tc : Thread Cert.NormBwdRefIdeal.nD Cert.NormBwdRefIdeal.τ).loc Cert.NormBwdRefIdeal.main_v39) = v0 c
          ∧ r.2.mem ((c.tc : Thread Cert.NormBwdRefIdeal.nD Cert.NormBwdRefIdeal.τ).loc Cert.NormBwdRefIdeal.main_v40) = v1 c
          ∧ r.2.mem ((c.tc : Thread Cert.NormBwdRefIdeal.nD Cert.NormBwdRefIdeal.τ).loc Cert.NormBwdRefIdeal.main_arg0) = m' ((c.tc : Thread Cert.NormBwdRefIdeal.nD Cert.NormBwdRefIdeal.τ).loc Cert.NormBwdRefIdeal.main_arg0)
          ∧ r.2.mem ((c.tc : Thread Cert.NormBwdRefIdeal.nD Cert.NormBwdRefIdeal.τ).loc Cert.NormBwdRefIdeal.main_arg1) = m' ((c.tc : Thread Cert.NormBwdRefIdeal.nD Cert.NormBwdRefIdeal.τ).loc Cert.NormBwdRefIdeal.main_arg1)
          ∧ r.2.mem ((c.tc : Thread Cert.NormBwdRefIdeal.nD Cert.NormBwdRefIdeal.τ).loc Cert.NormBwdRefIdeal.main_arg2) = m' ((c.tc : Thread Cert.NormBwdRefIdeal.nD Cert.NormBwdRefIdeal.τ).loc Cert.NormBwdRefIdeal.main_arg2)
          ∧ r.2.mem ((c.tc : Thread Cert.NormBwdRefIdeal.nD Cert.NormBwdRefIdeal.τ).loc Cert.NormBwdRefIdeal.main_arg3) = m' ((c.tc : Thread Cert.NormBwdRefIdeal.nD Cert.NormBwdRefIdeal.τ).loc Cert.NormBwdRefIdeal.main_arg3))

def preserves_Loss_LossIdeal : Prop :=
  True

def algebraic_LossIdeal_LossRefIdeal [hLossIdeal : Cert.LossIdeal.Facts] [hLossRefIdeal : Cert.LossRefIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)) →
    ∃ (v0 : (c : Dev Cert.LossIdeal.nD) → Buf (Elt Ideal) ((c.tc : Thread Cert.LossIdeal.nD Cert.LossIdeal.τ).loc Cert.LossIdeal.main_v1_0)) (v1 : (c : Dev Cert.LossIdeal.nD) → Buf (Elt Ideal) ((c.tc : Thread Cert.LossIdeal.nD Cert.LossIdeal.τ).loc Cert.LossIdeal.main_v1_1)) (v2 : (c : Dev Cert.LossIdeal.nD) → Buf (Elt Ideal) ((c.tc : Thread Cert.LossIdeal.nD Cert.LossIdeal.τ).loc Cert.LossIdeal.main_v1_2)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v1_0) = v0 c
          ∧ r.2.mem ((c.tc : Thread Cert.LossIdeal.nD Cert.LossIdeal.τ).loc Cert.LossIdeal.main_v1_1) = v1 c
          ∧ r.2.mem ((c.tc : Thread Cert.LossIdeal.nD Cert.LossIdeal.τ).loc Cert.LossIdeal.main_v1_2) = v2 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v51) = v0 c
          ∧ r.2.mem ((c.tc : Thread Cert.LossRefIdeal.nD Cert.LossRefIdeal.τ).loc Cert.LossRefIdeal.main_v52) = v1 c
          ∧ r.2.mem ((c.tc : Thread Cert.LossRefIdeal.nD Cert.LossRefIdeal.τ).loc Cert.LossRefIdeal.main_v53) = v2 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2))

def preserves_MixerBwd_MixerBwdIdeal : Prop :=
  True

def algebraic_MixerBwdIdeal_MixerBwdRefIdeal_pre_pool_finite [hMixerBwdIdeal : Cert.MixerBwdIdeal.Facts] [hMixerBwdRefIdeal : Cert.MixerBwdRefIdeal.Facts] [hPre_pool_finite : Cert.Pre_pool_finite.Facts] : Prop :=
  ∀ (m : (ℓ : Loc Cert.MixerBwdIdeal.nD Cert.MixerBwdIdeal.τ Cert.MixerBwdIdeal.sig) → Buf (Elt Ideal) ℓ) (g : Dev Cert.MixerBwdIdeal.nD → PrngReg)
    (m' : (ℓ : Loc Cert.MixerBwdRefIdeal.nD Cert.MixerBwdRefIdeal.τ Cert.MixerBwdRefIdeal.sig) → Buf (Elt Ideal) ℓ) (g' : Dev Cert.MixerBwdRefIdeal.nD → PrngReg), Pre_MixerBwdIdeal_pool_finite m →
    (∀ c : Dev Cert.MixerBwdIdeal.nD,
      m' ((c.tc : Thread Cert.MixerBwdRefIdeal.nD Cert.MixerBwdRefIdeal.τ).loc Cert.MixerBwdRefIdeal.main_arg0) = m ((c.tc : Thread Cert.MixerBwdIdeal.nD Cert.MixerBwdIdeal.τ).loc Cert.MixerBwdIdeal.main_arg0)
      ∧ m' ((c.tc : Thread Cert.MixerBwdRefIdeal.nD Cert.MixerBwdRefIdeal.τ).loc Cert.MixerBwdRefIdeal.main_arg1) = m ((c.tc : Thread Cert.MixerBwdIdeal.nD Cert.MixerBwdIdeal.τ).loc Cert.MixerBwdIdeal.main_arg1)
      ∧ m' ((c.tc : Thread Cert.MixerBwdRefIdeal.nD Cert.MixerBwdRefIdeal.τ).loc Cert.MixerBwdRefIdeal.main_arg2) = m ((c.tc : Thread Cert.MixerBwdIdeal.nD Cert.MixerBwdIdeal.τ).loc Cert.MixerBwdIdeal.main_arg2)
      ∧ m' ((c.tc : Thread Cert.MixerBwdRefIdeal.nD Cert.MixerBwdRefIdeal.τ).loc Cert.MixerBwdRefIdeal.main_arg3) = m ((c.tc : Thread Cert.MixerBwdIdeal.nD Cert.MixerBwdIdeal.τ).loc Cert.MixerBwdIdeal.main_arg3)
      ∧ m' ((c.tc : Thread Cert.MixerBwdRefIdeal.nD Cert.MixerBwdRefIdeal.τ).loc Cert.MixerBwdRefIdeal.main_arg4) = m ((c.tc : Thread Cert.MixerBwdIdeal.nD Cert.MixerBwdIdeal.τ).loc Cert.MixerBwdIdeal.main_arg4)) →
    ∃ (v0 : (c : Dev Cert.MixerBwdIdeal.nD) → Buf (Elt Ideal) ((c.tc : Thread Cert.MixerBwdIdeal.nD Cert.MixerBwdIdeal.τ).loc Cert.MixerBwdIdeal.main_v2_0)) (v1 : (c : Dev Cert.MixerBwdIdeal.nD) → Buf (Elt Ideal) ((c.tc : Thread Cert.MixerBwdIdeal.nD Cert.MixerBwdIdeal.τ).loc Cert.MixerBwdIdeal.main_v2_1)) (v2 : (c : Dev Cert.MixerBwdIdeal.nD) → Buf (Elt Ideal) ((c.tc : Thread Cert.MixerBwdIdeal.nD Cert.MixerBwdIdeal.τ).loc Cert.MixerBwdIdeal.main_v2_2)) (v3 : (c : Dev Cert.MixerBwdIdeal.nD) → Buf (Elt Ideal) ((c.tc : Thread Cert.MixerBwdIdeal.nD Cert.MixerBwdIdeal.τ).loc Cert.MixerBwdIdeal.main_v2_3)),
      θ_run (Cert.MixerBwdIdeal.defs (F := Ideal)) (onTc (τ := Cert.MixerBwdIdeal.τ) (Cert.MixerBwdIdeal.main (F := Ideal))) ⟨m, fun _ => 0, g⟩ (fun r => ∀ c : Dev Cert.MixerBwdIdeal.nD,
          r.2.mem ((c.tc : Thread Cert.MixerBwdIdeal.nD Cert.MixerBwdIdeal.τ).loc Cert.MixerBwdIdeal.main_v2_0) = v0 c
          ∧ r.2.mem ((c.tc : Thread Cert.MixerBwdIdeal.nD Cert.MixerBwdIdeal.τ).loc Cert.MixerBwdIdeal.main_v2_1) = v1 c
          ∧ r.2.mem ((c.tc : Thread Cert.MixerBwdIdeal.nD Cert.MixerBwdIdeal.τ).loc Cert.MixerBwdIdeal.main_v2_2) = v2 c
          ∧ r.2.mem ((c.tc : Thread Cert.MixerBwdIdeal.nD Cert.MixerBwdIdeal.τ).loc Cert.MixerBwdIdeal.main_v2_3) = v3 c
          ∧ r.2.mem ((c.tc : Thread Cert.MixerBwdIdeal.nD Cert.MixerBwdIdeal.τ).loc Cert.MixerBwdIdeal.main_arg0) = m ((c.tc : Thread Cert.MixerBwdIdeal.nD Cert.MixerBwdIdeal.τ).loc Cert.MixerBwdIdeal.main_arg0)
          ∧ r.2.mem ((c.tc : Thread Cert.MixerBwdIdeal.nD Cert.MixerBwdIdeal.τ).loc Cert.MixerBwdIdeal.main_arg1) = m ((c.tc : Thread Cert.MixerBwdIdeal.nD Cert.MixerBwdIdeal.τ).loc Cert.MixerBwdIdeal.main_arg1)
          ∧ r.2.mem ((c.tc : Thread Cert.MixerBwdIdeal.nD Cert.MixerBwdIdeal.τ).loc Cert.MixerBwdIdeal.main_arg2) = m ((c.tc : Thread Cert.MixerBwdIdeal.nD Cert.MixerBwdIdeal.τ).loc Cert.MixerBwdIdeal.main_arg2)
          ∧ r.2.mem ((c.tc : Thread Cert.MixerBwdIdeal.nD Cert.MixerBwdIdeal.τ).loc Cert.MixerBwdIdeal.main_arg3) = m ((c.tc : Thread Cert.MixerBwdIdeal.nD Cert.MixerBwdIdeal.τ).loc Cert.MixerBwdIdeal.main_arg3)
          ∧ r.2.mem ((c.tc : Thread Cert.MixerBwdIdeal.nD Cert.MixerBwdIdeal.τ).loc Cert.MixerBwdIdeal.main_arg4) = m ((c.tc : Thread Cert.MixerBwdIdeal.nD Cert.MixerBwdIdeal.τ).loc Cert.MixerBwdIdeal.main_arg4))
      ∧ θ_run (Cert.MixerBwdRefIdeal.defs (F := Ideal)) (onTc (τ := Cert.MixerBwdRefIdeal.τ) (Cert.MixerBwdRefIdeal.main (F := Ideal))) ⟨m', fun _ => 0, g'⟩ (fun r => ∀ c : Dev Cert.MixerBwdRefIdeal.nD,
          r.2.mem ((c.tc : Thread Cert.MixerBwdRefIdeal.nD Cert.MixerBwdRefIdeal.τ).loc Cert.MixerBwdRefIdeal.main_v237) = v0 c
          ∧ r.2.mem ((c.tc : Thread Cert.MixerBwdRefIdeal.nD Cert.MixerBwdRefIdeal.τ).loc Cert.MixerBwdRefIdeal.main_v225) = v1 c
          ∧ r.2.mem ((c.tc : Thread Cert.MixerBwdRefIdeal.nD Cert.MixerBwdRefIdeal.τ).loc Cert.MixerBwdRefIdeal.main_v127) = v2 c
          ∧ r.2.mem ((c.tc : Thread Cert.MixerBwdRefIdeal.nD Cert.MixerBwdRefIdeal.τ).loc Cert.MixerBwdRefIdeal.main_v238) = v3 c
          ∧ r.2.mem ((c.tc : Thread Cert.MixerBwdRefIdeal.nD Cert.MixerBwdRefIdeal.τ).loc Cert.MixerBwdRefIdeal.main_arg0) = m' ((c.tc : Thread Cert.MixerBwdRefIdeal.nD Cert.MixerBwdRefIdeal.τ).loc Cert.MixerBwdRefIdeal.main_arg0)
          ∧ r.2.mem ((c.tc : Thread Cert.MixerBwdRefIdeal.nD Cert.MixerBwdRefIdeal.τ).loc Cert.MixerBwdRefIdeal.main_arg1) = m' ((c.tc : Thread Cert.MixerBwdRefIdeal.nD Cert.MixerBwdRefIdeal.τ).loc Cert.MixerBwdRefIdeal.main_arg1)
          ∧ r.2.mem ((c.tc : Thread Cert.MixerBwdRefIdeal.nD Cert.MixerBwdRefIdeal.τ).loc Cert.MixerBwdRefIdeal.main_arg2) = m' ((c.tc : Thread Cert.MixerBwdRefIdeal.nD Cert.MixerBwdRefIdeal.τ).loc Cert.MixerBwdRefIdeal.main_arg2)
          ∧ r.2.mem ((c.tc : Thread Cert.MixerBwdRefIdeal.nD Cert.MixerBwdRefIdeal.τ).loc Cert.MixerBwdRefIdeal.main_arg3) = m' ((c.tc : Thread Cert.MixerBwdRefIdeal.nD Cert.MixerBwdRefIdeal.τ).loc Cert.MixerBwdRefIdeal.main_arg3)
          ∧ r.2.mem ((c.tc : Thread Cert.MixerBwdRefIdeal.nD Cert.MixerBwdRefIdeal.τ).loc Cert.MixerBwdRefIdeal.main_arg4) = m' ((c.tc : Thread Cert.MixerBwdRefIdeal.nD Cert.MixerBwdRefIdeal.τ).loc Cert.MixerBwdRefIdeal.main_arg4))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)) →
    ∃ (v0 : (c : Dev Cert.NormIdeal.nD) → Buf (Elt Ideal) ((c.tc : Thread Cert.NormIdeal.nD Cert.NormIdeal.τ).loc Cert.NormIdeal.main_v1_0)) (v1 : (c : Dev Cert.NormIdeal.nD) → Buf (Elt Ideal) ((c.tc : Thread Cert.NormIdeal.nD Cert.NormIdeal.τ).loc Cert.NormIdeal.main_v1_1)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v1_0) = v0 c
          ∧ r.2.mem ((c.tc : Thread Cert.NormIdeal.nD Cert.NormIdeal.τ).loc Cert.NormIdeal.main_v1_1) = v1 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v13) = v0 c
          ∧ r.2.mem ((c.tc : Thread Cert.NormRefIdeal.nD Cert.NormRefIdeal.τ).loc Cert.NormRefIdeal.main_v14) = v1 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)) →
    ∃ (v0 : (c : Dev Cert.UpIdeal.nD) → Buf (Elt Ideal) ((c.tc : Thread Cert.UpIdeal.nD Cert.UpIdeal.τ).loc Cert.UpIdeal.main_v2_0)) (v1 : (c : Dev Cert.UpIdeal.nD) → Buf (Elt Ideal) ((c.tc : Thread Cert.UpIdeal.nD Cert.UpIdeal.τ).loc Cert.UpIdeal.main_v2_1)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v2_0) = v0 c
          ∧ r.2.mem ((c.tc : Thread Cert.UpIdeal.nD Cert.UpIdeal.τ).loc Cert.UpIdeal.main_v2_1) = v1 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v4) = v0 c
          ∧ r.2.mem ((c.tc : Thread Cert.UpRefIdeal.nD Cert.UpRefIdeal.τ).loc Cert.UpRefIdeal.main_v6) = v1 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1))

def preserves_Mixer_MixerIdeal : Prop :=
  True

def algebraic_MixerIdeal_MixerRefIdeal_pre_pool_input_finite [hMixerIdeal : Cert.MixerIdeal.Facts] [hMixerRefIdeal : Cert.MixerRefIdeal.Facts] [hPre_pool_input_finite : Cert.Pre_pool_input_finite.Facts] : Prop :=
  ∀ (m : (ℓ : Loc Cert.MixerIdeal.nD Cert.MixerIdeal.τ Cert.MixerIdeal.sig) → Buf (Elt Ideal) ℓ) (g : Dev Cert.MixerIdeal.nD → PrngReg)
    (m' : (ℓ : Loc Cert.MixerRefIdeal.nD Cert.MixerRefIdeal.τ Cert.MixerRefIdeal.sig) → Buf (Elt Ideal) ℓ) (g' : Dev Cert.MixerRefIdeal.nD → PrngReg), Pre_MixerIdeal_pool_input_finite m →
    (∀ c : Dev Cert.MixerIdeal.nD,
      m' ((c.tc : Thread Cert.MixerRefIdeal.nD Cert.MixerRefIdeal.τ).loc Cert.MixerRefIdeal.main_arg0) = m ((c.tc : Thread Cert.MixerIdeal.nD Cert.MixerIdeal.τ).loc Cert.MixerIdeal.main_arg0)
      ∧ m' ((c.tc : Thread Cert.MixerRefIdeal.nD Cert.MixerRefIdeal.τ).loc Cert.MixerRefIdeal.main_arg1) = m ((c.tc : Thread Cert.MixerIdeal.nD Cert.MixerIdeal.τ).loc Cert.MixerIdeal.main_arg1)
      ∧ m' ((c.tc : Thread Cert.MixerRefIdeal.nD Cert.MixerRefIdeal.τ).loc Cert.MixerRefIdeal.main_arg2) = m ((c.tc : Thread Cert.MixerIdeal.nD Cert.MixerIdeal.τ).loc Cert.MixerIdeal.main_arg2)
      ∧ m' ((c.tc : Thread Cert.MixerRefIdeal.nD Cert.MixerRefIdeal.τ).loc Cert.MixerRefIdeal.main_arg3) = m ((c.tc : Thread Cert.MixerIdeal.nD Cert.MixerIdeal.τ).loc Cert.MixerIdeal.main_arg3)) →
    ∃ (v0 : (c : Dev Cert.MixerIdeal.nD) → Buf (Elt Ideal) ((c.tc : Thread Cert.MixerIdeal.nD Cert.MixerIdeal.τ).loc Cert.MixerIdeal.main_v2)),
      θ_run (Cert.MixerIdeal.defs (F := Ideal)) (onTc (τ := Cert.MixerIdeal.τ) (Cert.MixerIdeal.main (F := Ideal))) ⟨m, fun _ => 0, g⟩ (fun r => ∀ c : Dev Cert.MixerIdeal.nD,
          r.2.mem ((c.tc : Thread Cert.MixerIdeal.nD Cert.MixerIdeal.τ).loc Cert.MixerIdeal.main_v2) = v0 c
          ∧ r.2.mem ((c.tc : Thread Cert.MixerIdeal.nD Cert.MixerIdeal.τ).loc Cert.MixerIdeal.main_arg0) = m ((c.tc : Thread Cert.MixerIdeal.nD Cert.MixerIdeal.τ).loc Cert.MixerIdeal.main_arg0)
          ∧ r.2.mem ((c.tc : Thread Cert.MixerIdeal.nD Cert.MixerIdeal.τ).loc Cert.MixerIdeal.main_arg1) = m ((c.tc : Thread Cert.MixerIdeal.nD Cert.MixerIdeal.τ).loc Cert.MixerIdeal.main_arg1)
          ∧ r.2.mem ((c.tc : Thread Cert.MixerIdeal.nD Cert.MixerIdeal.τ).loc Cert.MixerIdeal.main_arg2) = m ((c.tc : Thread Cert.MixerIdeal.nD Cert.MixerIdeal.τ).loc Cert.MixerIdeal.main_arg2)
          ∧ r.2.mem ((c.tc : Thread Cert.MixerIdeal.nD Cert.MixerIdeal.τ).loc Cert.MixerIdeal.main_arg3) = m ((c.tc : Thread Cert.MixerIdeal.nD Cert.MixerIdeal.τ).loc Cert.MixerIdeal.main_arg3))
      ∧ θ_run (Cert.MixerRefIdeal.defs (F := Ideal)) (onTc (τ := Cert.MixerRefIdeal.τ) (Cert.MixerRefIdeal.main (F := Ideal))) ⟨m', fun _ => 0, g'⟩ (fun r => ∀ c : Dev Cert.MixerRefIdeal.nD,
          r.2.mem ((c.tc : Thread Cert.MixerRefIdeal.nD Cert.MixerRefIdeal.τ).loc Cert.MixerRefIdeal.main_v108) = v0 c
          ∧ r.2.mem ((c.tc : Thread Cert.MixerRefIdeal.nD Cert.MixerRefIdeal.τ).loc Cert.MixerRefIdeal.main_arg0) = m' ((c.tc : Thread Cert.MixerRefIdeal.nD Cert.MixerRefIdeal.τ).loc Cert.MixerRefIdeal.main_arg0)
          ∧ r.2.mem ((c.tc : Thread Cert.MixerRefIdeal.nD Cert.MixerRefIdeal.τ).loc Cert.MixerRefIdeal.main_arg1) = m' ((c.tc : Thread Cert.MixerRefIdeal.nD Cert.MixerRefIdeal.τ).loc Cert.MixerRefIdeal.main_arg1)
          ∧ r.2.mem ((c.tc : Thread Cert.MixerRefIdeal.nD Cert.MixerRefIdeal.τ).loc Cert.MixerRefIdeal.main_arg2) = m' ((c.tc : Thread Cert.MixerRefIdeal.nD Cert.MixerRefIdeal.τ).loc Cert.MixerRefIdeal.main_arg2)
          ∧ r.2.mem ((c.tc : Thread Cert.MixerRefIdeal.nD Cert.MixerRefIdeal.τ).loc Cert.MixerRefIdeal.main_arg3) = m' ((c.tc : Thread Cert.MixerRefIdeal.nD Cert.MixerRefIdeal.τ).loc Cert.MixerRefIdeal.main_arg3))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)) →
    ∃ (v0 : (c : Dev Cert.DownIdeal.nD) → Buf (Elt Ideal) ((c.tc : Thread Cert.DownIdeal.nD Cert.DownIdeal.τ).loc Cert.DownIdeal.main_v1)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v1) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v3) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2))

def preserves_UpDx_UpDxIdeal : Prop :=
  True

def algebraic_UpDxIdeal_UpDxRefIdeal [hUpDxIdeal : Cert.UpDxIdeal.Facts] [hUpDxRefIdeal : Cert.UpDxRefIdeal.Facts] : Prop :=
  ∀ (m : (ℓ : Loc Cert.UpDxIdeal.nD Cert.UpDxIdeal.τ Cert.UpDxIdeal.sig) → Buf (Elt Ideal) ℓ) (g : Dev Cert.UpDxIdeal.nD → PrngReg)
    (m' : (ℓ : Loc Cert.UpDxRefIdeal.nD Cert.UpDxRefIdeal.τ Cert.UpDxRefIdeal.sig) → Buf (Elt Ideal) ℓ) (g' : Dev Cert.UpDxRefIdeal.nD → PrngReg), Pre_UpDxIdeal m →
    (∀ c : Dev Cert.UpDxIdeal.nD,
      m' ((c.tc : Thread Cert.UpDxRefIdeal.nD Cert.UpDxRefIdeal.τ).loc Cert.UpDxRefIdeal.main_arg0) = m ((c.tc : Thread Cert.UpDxIdeal.nD Cert.UpDxIdeal.τ).loc Cert.UpDxIdeal.main_arg0)
      ∧ m' ((c.tc : Thread Cert.UpDxRefIdeal.nD Cert.UpDxRefIdeal.τ).loc Cert.UpDxRefIdeal.main_arg1) = m ((c.tc : Thread Cert.UpDxIdeal.nD Cert.UpDxIdeal.τ).loc Cert.UpDxIdeal.main_arg1)) →
    ∃ (v0 : (c : Dev Cert.UpDxIdeal.nD) → Buf (Elt Ideal) ((c.tc : Thread Cert.UpDxIdeal.nD Cert.UpDxIdeal.τ).loc Cert.UpDxIdeal.main_v2)),
      θ_run (Cert.UpDxIdeal.defs (F := Ideal)) (onTc (τ := Cert.UpDxIdeal.τ) (Cert.UpDxIdeal.main (F := Ideal))) ⟨m, fun _ => 0, g⟩ (fun r => ∀ c : Dev Cert.UpDxIdeal.nD,
          r.2.mem ((c.tc : Thread Cert.UpDxIdeal.nD Cert.UpDxIdeal.τ).loc Cert.UpDxIdeal.main_v2) = v0 c
          ∧ r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
          ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1))
      ∧ θ_run (Cert.UpDxRefIdeal.defs (F := Ideal)) (onTc (τ := Cert.UpDxRefIdeal.τ) (Cert.UpDxRefIdeal.main (F := Ideal))) ⟨m', fun _ => 0, g'⟩ (fun r => ∀ c : Dev Cert.UpDxRefIdeal.nD,
          r.2.mem ((c.tc : Thread Cert.UpDxRefIdeal.nD Cert.UpDxRefIdeal.τ).loc Cert.UpDxRefIdeal.main_v6) = v0 c
          ∧ r.2.mem ((c.tc : Thread Cert.UpDxRefIdeal.nD Cert.UpDxRefIdeal.τ).loc Cert.UpDxRefIdeal.main_arg0) = m' ((c.tc : Thread Cert.UpDxRefIdeal.nD Cert.UpDxRefIdeal.τ).loc Cert.UpDxRefIdeal.main_arg0)
          ∧ r.2.mem ((c.tc : Thread Cert.UpDxRefIdeal.nD Cert.UpDxRefIdeal.τ).loc Cert.UpDxRefIdeal.main_arg1) = m' ((c.tc : Thread Cert.UpDxRefIdeal.nD Cert.UpDxRefIdeal.τ).loc Cert.UpDxRefIdeal.main_arg1))

def preserves_DownDw_DownDwIdeal : Prop :=
  True

def algebraic_DownDwIdeal_DownDwRefIdeal [hDownDwIdeal : Cert.DownDwIdeal.Facts] [hDownDwRefIdeal : Cert.DownDwRefIdeal.Facts] : Prop :=
  ∀ (m : (ℓ : Loc Cert.DownDwIdeal.nD Cert.DownDwIdeal.τ Cert.DownDwIdeal.sig) → Buf (Elt Ideal) ℓ) (g : Dev Cert.DownDwIdeal.nD → PrngReg)
    (m' : (ℓ : Loc Cert.DownDwRefIdeal.nD Cert.DownDwRefIdeal.τ Cert.DownDwRefIdeal.sig) → Buf (Elt Ideal) ℓ) (g' : Dev Cert.DownDwRefIdeal.nD → PrngReg), Pre_DownDwIdeal m →
    (∀ c : Dev Cert.DownDwIdeal.nD,
      m' ((c.tc : Thread Cert.DownDwRefIdeal.nD Cert.DownDwRefIdeal.τ).loc Cert.DownDwRefIdeal.main_arg0) = m ((c.tc : Thread Cert.DownDwIdeal.nD Cert.DownDwIdeal.τ).loc Cert.DownDwIdeal.main_arg0)
      ∧ m' ((c.tc : Thread Cert.DownDwRefIdeal.nD Cert.DownDwRefIdeal.τ).loc Cert.DownDwRefIdeal.main_arg1) = m ((c.tc : Thread Cert.DownDwIdeal.nD Cert.DownDwIdeal.τ).loc Cert.DownDwIdeal.main_arg1)) →
    ∃ (v0 : (c : Dev Cert.DownDwIdeal.nD) → Buf (Elt Ideal) ((c.tc : Thread Cert.DownDwIdeal.nD Cert.DownDwIdeal.τ).loc Cert.DownDwIdeal.main_v0)),
      θ_run (Cert.DownDwIdeal.defs (F := Ideal)) (onTc (τ := Cert.DownDwIdeal.τ) (Cert.DownDwIdeal.main (F := Ideal))) ⟨m, fun _ => 0, g⟩ (fun r => ∀ c : Dev Cert.DownDwIdeal.nD,
          r.2.mem ((c.tc : Thread Cert.DownDwIdeal.nD Cert.DownDwIdeal.τ).loc Cert.DownDwIdeal.main_v0) = v0 c
          ∧ r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
          ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ θ_run (Cert.DownDwRefIdeal.defs (F := Ideal)) (onTc (τ := Cert.DownDwRefIdeal.τ) (Cert.DownDwRefIdeal.main (F := Ideal))) ⟨m', fun _ => 0, g'⟩ (fun r => ∀ c : Dev Cert.DownDwRefIdeal.nD,
          r.2.mem ((c.tc : Thread Cert.DownDwRefIdeal.nD Cert.DownDwRefIdeal.τ).loc Cert.DownDwRefIdeal.main_v8) = v0 c
          ∧ r.2.mem ((c.tc : Thread Cert.DownDwRefIdeal.nD Cert.DownDwRefIdeal.τ).loc Cert.DownDwRefIdeal.main_arg0) = m' ((c.tc : Thread Cert.DownDwRefIdeal.nD Cert.DownDwRefIdeal.τ).loc Cert.DownDwRefIdeal.main_arg0)
          ∧ r.2.mem ((c.tc : Thread Cert.DownDwRefIdeal.nD Cert.DownDwRefIdeal.τ).loc Cert.DownDwRefIdeal.main_arg1) = m' ((c.tc : Thread Cert.DownDwRefIdeal.nD Cert.DownDwRefIdeal.τ).loc Cert.DownDwRefIdeal.main_arg1))

def preserves_Adamw_AdamwIdeal : Prop :=
  True

def algebraic_AdamwIdeal_AdamwRefIdeal [hAdamwIdeal : Cert.AdamwIdeal.Facts] [hAdamwRefIdeal : Cert.AdamwRefIdeal.Facts] : Prop :=
  ∀ (m : (ℓ : Loc Cert.AdamwIdeal.nD Cert.AdamwIdeal.τ Cert.AdamwIdeal.sig) → Buf (Elt Ideal) ℓ) (g : Dev Cert.AdamwIdeal.nD → PrngReg)
    (m' : (ℓ : Loc Cert.AdamwRefIdeal.nD Cert.AdamwRefIdeal.τ Cert.AdamwRefIdeal.sig) → Buf (Elt Ideal) ℓ) (g' : Dev Cert.AdamwRefIdeal.nD → PrngReg), Pre_AdamwIdeal m →
    (∀ c : Dev Cert.AdamwIdeal.nD,
      m' ((c.tc : Thread Cert.AdamwRefIdeal.nD Cert.AdamwRefIdeal.τ).loc Cert.AdamwRefIdeal.main_arg0) = m ((c.tc : Thread Cert.AdamwIdeal.nD Cert.AdamwIdeal.τ).loc Cert.AdamwIdeal.main_arg0)
      ∧ m' ((c.tc : Thread Cert.AdamwRefIdeal.nD Cert.AdamwRefIdeal.τ).loc Cert.AdamwRefIdeal.main_arg1) = m ((c.tc : Thread Cert.AdamwIdeal.nD Cert.AdamwIdeal.τ).loc Cert.AdamwIdeal.main_arg1)
      ∧ m' ((c.tc : Thread Cert.AdamwRefIdeal.nD Cert.AdamwRefIdeal.τ).loc Cert.AdamwRefIdeal.main_arg2) = m ((c.tc : Thread Cert.AdamwIdeal.nD Cert.AdamwIdeal.τ).loc Cert.AdamwIdeal.main_arg2)
      ∧ m' ((c.tc : Thread Cert.AdamwRefIdeal.nD Cert.AdamwRefIdeal.τ).loc Cert.AdamwRefIdeal.main_arg3) = m ((c.tc : Thread Cert.AdamwIdeal.nD Cert.AdamwIdeal.τ).loc Cert.AdamwIdeal.main_arg3)
      ∧ m' ((c.tc : Thread Cert.AdamwRefIdeal.nD Cert.AdamwRefIdeal.τ).loc Cert.AdamwRefIdeal.main_arg4) = m ((c.tc : Thread Cert.AdamwIdeal.nD Cert.AdamwIdeal.τ).loc Cert.AdamwIdeal.main_arg4)) →
    ∃ (v0 : (c : Dev Cert.AdamwIdeal.nD) → Buf (Elt Ideal) ((c.tc : Thread Cert.AdamwIdeal.nD Cert.AdamwIdeal.τ).loc Cert.AdamwIdeal.main_v4_0)) (v1 : (c : Dev Cert.AdamwIdeal.nD) → Buf (Elt Ideal) ((c.tc : Thread Cert.AdamwIdeal.nD Cert.AdamwIdeal.τ).loc Cert.AdamwIdeal.main_v4_1)) (v2 : (c : Dev Cert.AdamwIdeal.nD) → Buf (Elt Ideal) ((c.tc : Thread Cert.AdamwIdeal.nD Cert.AdamwIdeal.τ).loc Cert.AdamwIdeal.main_v4_2)) (v3 : (c : Dev Cert.AdamwIdeal.nD) → Buf (Elt Ideal) ((c.tc : Thread Cert.AdamwIdeal.nD Cert.AdamwIdeal.τ).loc Cert.AdamwIdeal.main_v4_3)),
      θ_run (Cert.AdamwIdeal.defs (F := Ideal)) (onTc (τ := Cert.AdamwIdeal.τ) (Cert.AdamwIdeal.main (F := Ideal))) ⟨m, fun _ => 0, g⟩ (fun r => ∀ c : Dev Cert.AdamwIdeal.nD,
          r.2.mem ((c.tc : Thread Cert.AdamwIdeal.nD Cert.AdamwIdeal.τ).loc Cert.AdamwIdeal.main_v4_0) = v0 c
          ∧ r.2.mem ((c.tc : Thread Cert.AdamwIdeal.nD Cert.AdamwIdeal.τ).loc Cert.AdamwIdeal.main_v4_1) = v1 c
          ∧ r.2.mem ((c.tc : Thread Cert.AdamwIdeal.nD Cert.AdamwIdeal.τ).loc Cert.AdamwIdeal.main_v4_2) = v2 c
          ∧ r.2.mem ((c.tc : Thread Cert.AdamwIdeal.nD Cert.AdamwIdeal.τ).loc Cert.AdamwIdeal.main_v4_3) = v3 c
          ∧ r.2.mem ((c.tc : Thread Cert.AdamwIdeal.nD Cert.AdamwIdeal.τ).loc Cert.AdamwIdeal.main_arg0) = m ((c.tc : Thread Cert.AdamwIdeal.nD Cert.AdamwIdeal.τ).loc Cert.AdamwIdeal.main_arg0)
          ∧ r.2.mem ((c.tc : Thread Cert.AdamwIdeal.nD Cert.AdamwIdeal.τ).loc Cert.AdamwIdeal.main_arg1) = m ((c.tc : Thread Cert.AdamwIdeal.nD Cert.AdamwIdeal.τ).loc Cert.AdamwIdeal.main_arg1)
          ∧ r.2.mem ((c.tc : Thread Cert.AdamwIdeal.nD Cert.AdamwIdeal.τ).loc Cert.AdamwIdeal.main_arg2) = m ((c.tc : Thread Cert.AdamwIdeal.nD Cert.AdamwIdeal.τ).loc Cert.AdamwIdeal.main_arg2)
          ∧ r.2.mem ((c.tc : Thread Cert.AdamwIdeal.nD Cert.AdamwIdeal.τ).loc Cert.AdamwIdeal.main_arg3) = m ((c.tc : Thread Cert.AdamwIdeal.nD Cert.AdamwIdeal.τ).loc Cert.AdamwIdeal.main_arg3)
          ∧ r.2.mem ((c.tc : Thread Cert.AdamwIdeal.nD Cert.AdamwIdeal.τ).loc Cert.AdamwIdeal.main_arg4) = m ((c.tc : Thread Cert.AdamwIdeal.nD Cert.AdamwIdeal.τ).loc Cert.AdamwIdeal.main_arg4))
      ∧ θ_run (Cert.AdamwRefIdeal.defs (F := Ideal)) (onTc (τ := Cert.AdamwRefIdeal.τ) (Cert.AdamwRefIdeal.main (F := Ideal))) ⟨m', fun _ => 0, g'⟩ (fun r => ∀ c : Dev Cert.AdamwRefIdeal.nD,
          r.2.mem ((c.tc : Thread Cert.AdamwRefIdeal.nD Cert.AdamwRefIdeal.τ).loc Cert.AdamwRefIdeal.main_v25) = v0 c
          ∧ r.2.mem ((c.tc : Thread Cert.AdamwRefIdeal.nD Cert.AdamwRefIdeal.τ).loc Cert.AdamwRefIdeal.main_v26) = v1 c
          ∧ r.2.mem ((c.tc : Thread Cert.AdamwRefIdeal.nD Cert.AdamwRefIdeal.τ).loc Cert.AdamwRefIdeal.main_v27) = v2 c
          ∧ r.2.mem ((c.tc : Thread Cert.AdamwRefIdeal.nD Cert.AdamwRefIdeal.τ).loc Cert.AdamwRefIdeal.main_v28) = v3 c
          ∧ r.2.mem ((c.tc : Thread Cert.AdamwRefIdeal.nD Cert.AdamwRefIdeal.τ).loc Cert.AdamwRefIdeal.main_arg0) = m' ((c.tc : Thread Cert.AdamwRefIdeal.nD Cert.AdamwRefIdeal.τ).loc Cert.AdamwRefIdeal.main_arg0)
          ∧ r.2.mem ((c.tc : Thread Cert.AdamwRefIdeal.nD Cert.AdamwRefIdeal.τ).loc Cert.AdamwRefIdeal.main_arg1) = m' ((c.tc : Thread Cert.AdamwRefIdeal.nD Cert.AdamwRefIdeal.τ).loc Cert.AdamwRefIdeal.main_arg1)
          ∧ r.2.mem ((c.tc : Thread Cert.AdamwRefIdeal.nD Cert.AdamwRefIdeal.τ).loc Cert.AdamwRefIdeal.main_arg2) = m' ((c.tc : Thread Cert.AdamwRefIdeal.nD Cert.AdamwRefIdeal.τ).loc Cert.AdamwRefIdeal.main_arg2)
          ∧ r.2.mem ((c.tc : Thread Cert.AdamwRefIdeal.nD Cert.AdamwRefIdeal.τ).loc Cert.AdamwRefIdeal.main_arg3) = m' ((c.tc : Thread Cert.AdamwRefIdeal.nD Cert.AdamwRefIdeal.τ).loc Cert.AdamwRefIdeal.main_arg3)
          ∧ r.2.mem ((c.tc : Thread Cert.AdamwRefIdeal.nD Cert.AdamwRefIdeal.τ).loc Cert.AdamwRefIdeal.main_arg4) = m' ((c.tc : Thread Cert.AdamwRefIdeal.nD Cert.AdamwRefIdeal.τ).loc Cert.AdamwRefIdeal.main_arg4))

def preserves_Cast_CastIdeal : Prop :=
  True

def algebraic_CastIdeal_CastRefIdeal [hCastIdeal : Cert.CastIdeal.Facts] [hCastRefIdeal : Cert.CastRefIdeal.Facts] : Prop :=
  ∀ (m : (ℓ : Loc Cert.CastIdeal.nD Cert.CastIdeal.τ Cert.CastIdeal.sig) → Buf (Elt Ideal) ℓ) (g : Dev Cert.CastIdeal.nD → PrngReg)
    (m' : (ℓ : Loc Cert.CastRefIdeal.nD Cert.CastRefIdeal.τ Cert.CastRefIdeal.sig) → Buf (Elt Ideal) ℓ) (g' : Dev Cert.CastRefIdeal.nD → PrngReg), Pre_CastIdeal m →
    (∀ c : Dev Cert.CastIdeal.nD,
      m' ((c.tc : Thread Cert.CastRefIdeal.nD Cert.CastRefIdeal.τ).loc Cert.CastRefIdeal.main_arg0) = m ((c.tc : Thread Cert.CastIdeal.nD Cert.CastIdeal.τ).loc Cert.CastIdeal.main_arg0)) →
    ∃ (v0 : (c : Dev Cert.CastIdeal.nD) → Buf (Elt Ideal) ((c.tc : Thread Cert.CastIdeal.nD Cert.CastIdeal.τ).loc Cert.CastIdeal.main_v0)),
      θ_run (Cert.CastIdeal.defs (F := Ideal)) (onTc (τ := Cert.CastIdeal.τ) (Cert.CastIdeal.main (F := Ideal))) ⟨m, fun _ => 0, g⟩ (fun r => ∀ c : Dev Cert.CastIdeal.nD,
          r.2.mem ((c.tc : Thread Cert.CastIdeal.nD Cert.CastIdeal.τ).loc Cert.CastIdeal.main_v0) = v0 c
          ∧ r.2.mem ((c.tc : Thread Cert.CastIdeal.nD Cert.CastIdeal.τ).loc Cert.CastIdeal.main_arg0) = m ((c.tc : Thread Cert.CastIdeal.nD Cert.CastIdeal.τ).loc Cert.CastIdeal.main_arg0))
      ∧ θ_run (Cert.CastRefIdeal.defs (F := Ideal)) (onTc (τ := Cert.CastRefIdeal.τ) (Cert.CastRefIdeal.main (F := Ideal))) ⟨m', fun _ => 0, g'⟩ (fun r => ∀ c : Dev Cert.CastRefIdeal.nD,
          r.2.mem ((c.tc : Thread Cert.CastRefIdeal.nD Cert.CastRefIdeal.τ).loc Cert.CastRefIdeal.main_v1) = v0 c
          ∧ r.2.mem ((c.tc : Thread Cert.CastRefIdeal.nD Cert.CastRefIdeal.τ).loc Cert.CastRefIdeal.main_arg0) = m' ((c.tc : Thread Cert.CastRefIdeal.nD Cert.CastRefIdeal.τ).loc Cert.CastRefIdeal.main_arg0))

def preserves_Gather_GatherIdeal : Prop :=
  True

def algebraic_GatherIdeal_GatherRefIdeal [hGatherIdeal : Cert.GatherIdeal.Facts] [hGatherRefIdeal : Cert.GatherRefIdeal.Facts] : Prop :=
  ∀ (m : (ℓ : Loc Cert.GatherIdeal.nD Cert.GatherIdeal.τ Cert.GatherIdeal.sig) → Buf (Elt Ideal) ℓ) (g : Dev Cert.GatherIdeal.nD → PrngReg)
    (m' : (ℓ : Loc Cert.GatherRefIdeal.nD Cert.GatherRefIdeal.τ Cert.GatherRefIdeal.sig) → Buf (Elt Ideal) ℓ) (g' : Dev Cert.GatherRefIdeal.nD → PrngReg), Pre_GatherIdeal m →
    (∀ c : Dev Cert.GatherIdeal.nD,
      m' ((c.tc : Thread Cert.GatherRefIdeal.nD Cert.GatherRefIdeal.τ).loc Cert.GatherRefIdeal.main_arg0) = m ((c.tc : Thread Cert.GatherIdeal.nD Cert.GatherIdeal.τ).loc Cert.GatherIdeal.main_arg0)
      ∧ m' ((c.tc : Thread Cert.GatherRefIdeal.nD Cert.GatherRefIdeal.τ).loc Cert.GatherRefIdeal.main_arg1) = m ((c.tc : Thread Cert.GatherIdeal.nD Cert.GatherIdeal.τ).loc Cert.GatherIdeal.main_arg1)
      ∧ m' ((c.tc : Thread Cert.GatherRefIdeal.nD Cert.GatherRefIdeal.τ).loc Cert.GatherRefIdeal.main_arg2) = m ((c.tc : Thread Cert.GatherIdeal.nD Cert.GatherIdeal.τ).loc Cert.GatherIdeal.main_arg2)
      ∧ m' ((c.tc : Thread Cert.GatherRefIdeal.nD Cert.GatherRefIdeal.τ).loc Cert.GatherRefIdeal.main_arg3) = m ((c.tc : Thread Cert.GatherIdeal.nD Cert.GatherIdeal.τ).loc Cert.GatherIdeal.main_arg3)
      ∧ m' ((c.tc : Thread Cert.GatherRefIdeal.nD Cert.GatherRefIdeal.τ).loc Cert.GatherRefIdeal.main_arg4) = m ((c.tc : Thread Cert.GatherIdeal.nD Cert.GatherIdeal.τ).loc Cert.GatherIdeal.main_arg4)) →
    ∃ (v0 : (c : Dev Cert.GatherIdeal.nD) → Buf (Elt Ideal) ((c.tc : Thread Cert.GatherIdeal.nD Cert.GatherIdeal.τ).loc Cert.GatherIdeal.main_v1_0)) (v1 : (c : Dev Cert.GatherIdeal.nD) → Buf (Elt Ideal) ((c.tc : Thread Cert.GatherIdeal.nD Cert.GatherIdeal.τ).loc Cert.GatherIdeal.main_v1_1)) (v2 : (c : Dev Cert.GatherIdeal.nD) → Buf (Elt Ideal) ((c.tc : Thread Cert.GatherIdeal.nD Cert.GatherIdeal.τ).loc Cert.GatherIdeal.main_v1_2)) (v3 : (c : Dev Cert.GatherIdeal.nD) → Buf (Elt Ideal) ((c.tc : Thread Cert.GatherIdeal.nD Cert.GatherIdeal.τ).loc Cert.GatherIdeal.main_v1_3)) (v4 : (c : Dev Cert.GatherIdeal.nD) → Buf (Elt Ideal) ((c.tc : Thread Cert.GatherIdeal.nD Cert.GatherIdeal.τ).loc Cert.GatherIdeal.main_v1_4)),
      θ_run (Cert.GatherIdeal.defs (F := Ideal)) (onTc (τ := Cert.GatherIdeal.τ) (Cert.GatherIdeal.main (F := Ideal))) ⟨m, fun _ => 0, g⟩ (fun r => ∀ c : Dev Cert.GatherIdeal.nD,
          r.2.mem ((c.tc : Thread Cert.GatherIdeal.nD Cert.GatherIdeal.τ).loc Cert.GatherIdeal.main_v1_0) = v0 c
          ∧ r.2.mem ((c.tc : Thread Cert.GatherIdeal.nD Cert.GatherIdeal.τ).loc Cert.GatherIdeal.main_v1_1) = v1 c
          ∧ r.2.mem ((c.tc : Thread Cert.GatherIdeal.nD Cert.GatherIdeal.τ).loc Cert.GatherIdeal.main_v1_2) = v2 c
          ∧ r.2.mem ((c.tc : Thread Cert.GatherIdeal.nD Cert.GatherIdeal.τ).loc Cert.GatherIdeal.main_v1_3) = v3 c
          ∧ r.2.mem ((c.tc : Thread Cert.GatherIdeal.nD Cert.GatherIdeal.τ).loc Cert.GatherIdeal.main_v1_4) = v4 c
          ∧ r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0)
          ∧ r.2.mem ((c.tc : Thread Cert.GatherIdeal.nD Cert.GatherIdeal.τ).loc Cert.GatherIdeal.main_arg1) = m ((c.tc : Thread Cert.GatherIdeal.nD Cert.GatherIdeal.τ).loc Cert.GatherIdeal.main_arg1)
          ∧ r.2.mem ((c.tc : Thread Cert.GatherIdeal.nD Cert.GatherIdeal.τ).loc Cert.GatherIdeal.main_arg2) = m ((c.tc : Thread Cert.GatherIdeal.nD Cert.GatherIdeal.τ).loc Cert.GatherIdeal.main_arg2)
          ∧ r.2.mem ((c.tc : Thread Cert.GatherIdeal.nD Cert.GatherIdeal.τ).loc Cert.GatherIdeal.main_arg3) = m ((c.tc : Thread Cert.GatherIdeal.nD Cert.GatherIdeal.τ).loc Cert.GatherIdeal.main_arg3)
          ∧ r.2.mem ((c.tc : Thread Cert.GatherIdeal.nD Cert.GatherIdeal.τ).loc Cert.GatherIdeal.main_arg4) = m ((c.tc : Thread Cert.GatherIdeal.nD Cert.GatherIdeal.τ).loc Cert.GatherIdeal.main_arg4))
      ∧ θ_run (Cert.GatherRefIdeal.defs (F := Ideal)) (onTc (τ := Cert.GatherRefIdeal.τ) (Cert.GatherRefIdeal.main (F := Ideal))) ⟨m', fun _ => 0, g'⟩ (fun r => ∀ c : Dev Cert.GatherRefIdeal.nD,
          r.2.mem ((c.tc : Thread Cert.GatherRefIdeal.nD Cert.GatherRefIdeal.τ).loc Cert.GatherRefIdeal.main_v2) = v0 c
          ∧ r.2.mem ((c.tc : Thread Cert.GatherRefIdeal.nD Cert.GatherRefIdeal.τ).loc Cert.GatherRefIdeal.main_v4) = v1 c
          ∧ r.2.mem ((c.tc : Thread Cert.GatherRefIdeal.nD Cert.GatherRefIdeal.τ).loc Cert.GatherRefIdeal.main_v6) = v2 c
          ∧ r.2.mem ((c.tc : Thread Cert.GatherRefIdeal.nD Cert.GatherRefIdeal.τ).loc Cert.GatherRefIdeal.main_v8) = v3 c
          ∧ r.2.mem ((c.tc : Thread Cert.GatherRefIdeal.nD Cert.GatherRefIdeal.τ).loc Cert.GatherRefIdeal.main_v10) = v4 c
          ∧ r.2.mem ((c.tc : Thread Cert.GatherRefIdeal.nD Cert.GatherRefIdeal.τ).loc Cert.GatherRefIdeal.main_arg0) = m' ((c.tc : Thread Cert.GatherRefIdeal.nD Cert.GatherRefIdeal.τ).loc Cert.GatherRefIdeal.main_arg0)
          ∧ r.2.mem ((c.tc : Thread Cert.GatherRefIdeal.nD Cert.GatherRefIdeal.τ).loc Cert.GatherRefIdeal.main_arg1) = m' ((c.tc : Thread Cert.GatherRefIdeal.nD Cert.GatherRefIdeal.τ).loc Cert.GatherRefIdeal.main_arg1)
          ∧ r.2.mem ((c.tc : Thread Cert.GatherRefIdeal.nD Cert.GatherRefIdeal.τ).loc Cert.GatherRefIdeal.main_arg2) = m' ((c.tc : Thread Cert.GatherRefIdeal.nD Cert.GatherRefIdeal.τ).loc Cert.GatherRefIdeal.main_arg2)
          ∧ r.2.mem ((c.tc : Thread Cert.GatherRefIdeal.nD Cert.GatherRefIdeal.τ).loc Cert.GatherRefIdeal.main_arg3) = m' ((c.tc : Thread Cert.GatherRefIdeal.nD Cert.GatherRefIdeal.τ).loc Cert.GatherRefIdeal.main_arg3)
          ∧ r.2.mem ((c.tc : Thread Cert.GatherRefIdeal.nD Cert.GatherRefIdeal.τ).loc Cert.GatherRefIdeal.main_arg4) = m' ((c.tc : Thread Cert.GatherRefIdeal.nD Cert.GatherRefIdeal.τ).loc Cert.GatherRefIdeal.main_arg4))

def preserves_AdamwOwn_AdamwOwnIdeal : Prop :=
  True

def algebraic_AdamwOwnIdeal_AdamwOwnRefIdeal [hAdamwOwnIdeal : Cert.AdamwOwnIdeal.Facts] [hAdamwOwnRefIdeal : Cert.AdamwOwnRefIdeal.Facts] [hPre_own_block : Cert.Pre_own_block.Facts] : Prop :=
  ∀ (m : (ℓ : Loc Cert.AdamwOwnIdeal.nD Cert.AdamwOwnIdeal.τ Cert.AdamwOwnIdeal.sig) → Buf (Elt Ideal) ℓ) (g : Dev Cert.AdamwOwnIdeal.nD → PrngReg)
    (m' : (ℓ : Loc Cert.AdamwOwnRefIdeal.nD Cert.AdamwOwnRefIdeal.τ Cert.AdamwOwnRefIdeal.sig) → Buf (Elt Ideal) ℓ) (g' : Dev Cert.AdamwOwnRefIdeal.nD → PrngReg), Pre_AdamwOwnIdeal m →
    (∀ c : Dev Cert.AdamwOwnIdeal.nD,
      m' ((c.tc : Thread Cert.AdamwOwnRefIdeal.nD Cert.AdamwOwnRefIdeal.τ).loc Cert.AdamwOwnRefIdeal.main_arg0) = m ((c.tc : Thread Cert.AdamwOwnIdeal.nD Cert.AdamwOwnIdeal.τ).loc Cert.AdamwOwnIdeal.main_arg0)
      ∧ m' ((c.tc : Thread Cert.AdamwOwnRefIdeal.nD Cert.AdamwOwnRefIdeal.τ).loc Cert.AdamwOwnRefIdeal.main_arg1) = m ((c.tc : Thread Cert.AdamwOwnIdeal.nD Cert.AdamwOwnIdeal.τ).loc Cert.AdamwOwnIdeal.main_arg1)
      ∧ m' ((c.tc : Thread Cert.AdamwOwnRefIdeal.nD Cert.AdamwOwnRefIdeal.τ).loc Cert.AdamwOwnRefIdeal.main_arg2) = m ((c.tc : Thread Cert.AdamwOwnIdeal.nD Cert.AdamwOwnIdeal.τ).loc Cert.AdamwOwnIdeal.main_arg2)
      ∧ m' ((c.tc : Thread Cert.AdamwOwnRefIdeal.nD Cert.AdamwOwnRefIdeal.τ).loc Cert.AdamwOwnRefIdeal.main_arg3) = m ((c.tc : Thread Cert.AdamwOwnIdeal.nD Cert.AdamwOwnIdeal.τ).loc Cert.AdamwOwnIdeal.main_arg3)
      ∧ m' ((c.tc : Thread Cert.AdamwOwnRefIdeal.nD Cert.AdamwOwnRefIdeal.τ).loc Cert.AdamwOwnRefIdeal.main_arg4) = m ((c.tc : Thread Cert.AdamwOwnIdeal.nD Cert.AdamwOwnIdeal.τ).loc Cert.AdamwOwnIdeal.main_arg4)
      ∧ m' ((c.tc : Thread Cert.AdamwOwnRefIdeal.nD Cert.AdamwOwnRefIdeal.τ).loc Cert.AdamwOwnRefIdeal.main_arg5) = m ((c.tc : Thread Cert.AdamwOwnIdeal.nD Cert.AdamwOwnIdeal.τ).loc Cert.AdamwOwnIdeal.main_arg5)) →
    ∃ (v0 : (c : Dev Cert.AdamwOwnIdeal.nD) → Buf (Elt Ideal) ((c.tc : Thread Cert.AdamwOwnIdeal.nD Cert.AdamwOwnIdeal.τ).loc Cert.AdamwOwnIdeal.main_v17_0)) (v1 : (c : Dev Cert.AdamwOwnIdeal.nD) → Buf (Elt Ideal) ((c.tc : Thread Cert.AdamwOwnIdeal.nD Cert.AdamwOwnIdeal.τ).loc Cert.AdamwOwnIdeal.main_v17_1)) (v2 : (c : Dev Cert.AdamwOwnIdeal.nD) → Buf (Elt Ideal) ((c.tc : Thread Cert.AdamwOwnIdeal.nD Cert.AdamwOwnIdeal.τ).loc Cert.AdamwOwnIdeal.main_v17_2)) (v3 : (c : Dev Cert.AdamwOwnIdeal.nD) → Buf (Elt Ideal) ((c.tc : Thread Cert.AdamwOwnIdeal.nD Cert.AdamwOwnIdeal.τ).loc Cert.AdamwOwnIdeal.main_v17_3)),
      θ_run (Cert.AdamwOwnIdeal.defs (F := Ideal)) (onTc (τ := Cert.AdamwOwnIdeal.τ) (Cert.AdamwOwnIdeal.main (F := Ideal))) ⟨m, fun _ => 0, g⟩ (fun r => ∀ c : Dev Cert.AdamwOwnIdeal.nD,
          r.2.mem ((c.tc : Thread Cert.AdamwOwnIdeal.nD Cert.AdamwOwnIdeal.τ).loc Cert.AdamwOwnIdeal.main_v17_0) = v0 c
          ∧ r.2.mem ((c.tc : Thread Cert.AdamwOwnIdeal.nD Cert.AdamwOwnIdeal.τ).loc Cert.AdamwOwnIdeal.main_v17_1) = v1 c
          ∧ r.2.mem ((c.tc : Thread Cert.AdamwOwnIdeal.nD Cert.AdamwOwnIdeal.τ).loc Cert.AdamwOwnIdeal.main_v17_2) = v2 c
          ∧ r.2.mem ((c.tc : Thread Cert.AdamwOwnIdeal.nD Cert.AdamwOwnIdeal.τ).loc Cert.AdamwOwnIdeal.main_v17_3) = v3 c
          ∧ r.2.mem ((c.tc : Thread Cert.AdamwOwnIdeal.nD Cert.AdamwOwnIdeal.τ).loc Cert.AdamwOwnIdeal.main_arg0) = m ((c.tc : Thread Cert.AdamwOwnIdeal.nD Cert.AdamwOwnIdeal.τ).loc Cert.AdamwOwnIdeal.main_arg0)
          ∧ r.2.mem ((c.tc : Thread Cert.AdamwOwnIdeal.nD Cert.AdamwOwnIdeal.τ).loc Cert.AdamwOwnIdeal.main_arg1) = m ((c.tc : Thread Cert.AdamwOwnIdeal.nD Cert.AdamwOwnIdeal.τ).loc Cert.AdamwOwnIdeal.main_arg1)
          ∧ r.2.mem ((c.tc : Thread Cert.AdamwOwnIdeal.nD Cert.AdamwOwnIdeal.τ).loc Cert.AdamwOwnIdeal.main_arg2) = m ((c.tc : Thread Cert.AdamwOwnIdeal.nD Cert.AdamwOwnIdeal.τ).loc Cert.AdamwOwnIdeal.main_arg2)
          ∧ r.2.mem ((c.tc : Thread Cert.AdamwOwnIdeal.nD Cert.AdamwOwnIdeal.τ).loc Cert.AdamwOwnIdeal.main_arg3) = m ((c.tc : Thread Cert.AdamwOwnIdeal.nD Cert.AdamwOwnIdeal.τ).loc Cert.AdamwOwnIdeal.main_arg3)
          ∧ r.2.mem ((c.tc : Thread Cert.AdamwOwnIdeal.nD Cert.AdamwOwnIdeal.τ).loc Cert.AdamwOwnIdeal.main_arg4) = m ((c.tc : Thread Cert.AdamwOwnIdeal.nD Cert.AdamwOwnIdeal.τ).loc Cert.AdamwOwnIdeal.main_arg4)
          ∧ r.2.mem ((c.tc : Thread Cert.AdamwOwnIdeal.nD Cert.AdamwOwnIdeal.τ).loc Cert.AdamwOwnIdeal.main_arg5) = m ((c.tc : Thread Cert.AdamwOwnIdeal.nD Cert.AdamwOwnIdeal.τ).loc Cert.AdamwOwnIdeal.main_arg5))
      ∧ θ_run (Cert.AdamwOwnRefIdeal.defs (F := Ideal)) (onTc (τ := Cert.AdamwOwnRefIdeal.τ) (Cert.AdamwOwnRefIdeal.main (F := Ideal))) ⟨m', fun _ => 0, g'⟩ (fun r => ∀ c : Dev Cert.AdamwOwnRefIdeal.nD,
          r.2.mem ((c.tc : Thread Cert.AdamwOwnRefIdeal.nD Cert.AdamwOwnRefIdeal.τ).loc Cert.AdamwOwnRefIdeal.main_v9) = v0 c
          ∧ r.2.mem ((c.tc : Thread Cert.AdamwOwnRefIdeal.nD Cert.AdamwOwnRefIdeal.τ).loc Cert.AdamwOwnRefIdeal.main_v33) = v1 c
          ∧ r.2.mem ((c.tc : Thread Cert.AdamwOwnRefIdeal.nD Cert.AdamwOwnRefIdeal.τ).loc Cert.AdamwOwnRefIdeal.main_v14) = v2 c
          ∧ r.2.mem ((c.tc : Thread Cert.AdamwOwnRefIdeal.nD Cert.AdamwOwnRefIdeal.τ).loc Cert.AdamwOwnRefIdeal.main_v20) = v3 c
          ∧ r.2.mem ((c.tc : Thread Cert.AdamwOwnRefIdeal.nD Cert.AdamwOwnRefIdeal.τ).loc Cert.AdamwOwnRefIdeal.main_arg0) = m' ((c.tc : Thread Cert.AdamwOwnRefIdeal.nD Cert.AdamwOwnRefIdeal.τ).loc Cert.AdamwOwnRefIdeal.main_arg0)
          ∧ r.2.mem ((c.tc : Thread Cert.AdamwOwnRefIdeal.nD Cert.AdamwOwnRefIdeal.τ).loc Cert.AdamwOwnRefIdeal.main_arg1) = m' ((c.tc : Thread Cert.AdamwOwnRefIdeal.nD Cert.AdamwOwnRefIdeal.τ).loc Cert.AdamwOwnRefIdeal.main_arg1)
          ∧ r.2.mem ((c.tc : Thread Cert.AdamwOwnRefIdeal.nD Cert.AdamwOwnRefIdeal.τ).loc Cert.AdamwOwnRefIdeal.main_arg2) = m' ((c.tc : Thread Cert.AdamwOwnRefIdeal.nD Cert.AdamwOwnRefIdeal.τ).loc Cert.AdamwOwnRefIdeal.main_arg2)
          ∧ r.2.mem ((c.tc : Thread Cert.AdamwOwnRefIdeal.nD Cert.AdamwOwnRefIdeal.τ).loc Cert.AdamwOwnRefIdeal.main_arg3) = m' ((c.tc : Thread Cert.AdamwOwnRefIdeal.nD Cert.AdamwOwnRefIdeal.τ).loc Cert.AdamwOwnRefIdeal.main_arg3)
          ∧ r.2.mem ((c.tc : Thread Cert.AdamwOwnRefIdeal.nD Cert.AdamwOwnRefIdeal.τ).loc Cert.AdamwOwnRefIdeal.main_arg4) = m' ((c.tc : Thread Cert.AdamwOwnRefIdeal.nD Cert.AdamwOwnRefIdeal.τ).loc Cert.AdamwOwnRefIdeal.main_arg4)
          ∧ r.2.mem ((c.tc : Thread Cert.AdamwOwnRefIdeal.nD Cert.AdamwOwnRefIdeal.τ).loc Cert.AdamwOwnRefIdeal.main_arg5) = m' ((c.tc : Thread Cert.AdamwOwnRefIdeal.nD Cert.AdamwOwnRefIdeal.τ).loc Cert.AdamwOwnRefIdeal.main_arg5))

def preserves_NormFirst_NormFirstIdeal : Prop :=
  True

def algebraic_NormFirstIdeal_NormFirstRefIdeal [hNormFirstIdeal : Cert.NormFirstIdeal.Facts] [hNormFirstRefIdeal : Cert.NormFirstRefIdeal.Facts] : Prop :=
  ∀ (m : (ℓ : Loc Cert.NormFirstIdeal.nD Cert.NormFirstIdeal.τ Cert.NormFirstIdeal.sig) → Buf (Elt Ideal) ℓ) (g : Dev Cert.NormFirstIdeal.nD → PrngReg)
    (m' : (ℓ : Loc Cert.NormFirstRefIdeal.nD Cert.NormFirstRefIdeal.τ Cert.NormFirstRefIdeal.sig) → Buf (Elt Ideal) ℓ) (g' : Dev Cert.NormFirstRefIdeal.nD → PrngReg), Pre_NormFirstIdeal m →
    (∀ c : Dev Cert.NormFirstIdeal.nD,
      m' ((c.tc : Thread Cert.NormFirstRefIdeal.nD Cert.NormFirstRefIdeal.τ).loc Cert.NormFirstRefIdeal.main_arg0) = m ((c.tc : Thread Cert.NormFirstIdeal.nD Cert.NormFirstIdeal.τ).loc Cert.NormFirstIdeal.main_arg0)
      ∧ m' ((c.tc : Thread Cert.NormFirstRefIdeal.nD Cert.NormFirstRefIdeal.τ).loc Cert.NormFirstRefIdeal.main_arg1) = m ((c.tc : Thread Cert.NormFirstIdeal.nD Cert.NormFirstIdeal.τ).loc Cert.NormFirstIdeal.main_arg1)
      ∧ m' ((c.tc : Thread Cert.NormFirstRefIdeal.nD Cert.NormFirstRefIdeal.τ).loc Cert.NormFirstRefIdeal.main_arg2) = m ((c.tc : Thread Cert.NormFirstIdeal.nD Cert.NormFirstIdeal.τ).loc Cert.NormFirstIdeal.main_arg2)
      ∧ m' ((c.tc : Thread Cert.NormFirstRefIdeal.nD Cert.NormFirstRefIdeal.τ).loc Cert.NormFirstRefIdeal.main_arg3) = m ((c.tc : Thread Cert.NormFirstIdeal.nD Cert.NormFirstIdeal.τ).loc Cert.NormFirstIdeal.main_arg3)) →
    ∃ (v0 : (c : Dev Cert.NormFirstIdeal.nD) → Buf (Elt Ideal) ((c.tc : Thread Cert.NormFirstIdeal.nD Cert.NormFirstIdeal.τ).loc Cert.NormFirstIdeal.main_v2_0)) (v1 : (c : Dev Cert.NormFirstIdeal.nD) → Buf (Elt Ideal) ((c.tc : Thread Cert.NormFirstIdeal.nD Cert.NormFirstIdeal.τ).loc Cert.NormFirstIdeal.main_v2_1)),
      θ_run (Cert.NormFirstIdeal.defs (F := Ideal)) (onTc (τ := Cert.NormFirstIdeal.τ) (Cert.NormFirstIdeal.main (F := Ideal))) ⟨m, fun _ => 0, g⟩ (fun r => ∀ c : Dev Cert.NormFirstIdeal.nD,
          r.2.mem ((c.tc : Thread Cert.NormFirstIdeal.nD Cert.NormFirstIdeal.τ).loc Cert.NormFirstIdeal.main_v2_0) = v0 c
          ∧ r.2.mem ((c.tc : Thread Cert.NormFirstIdeal.nD Cert.NormFirstIdeal.τ).loc Cert.NormFirstIdeal.main_v2_1) = v1 c
          ∧ r.2.mem ((c.tc : Thread Cert.NormFirstIdeal.nD Cert.NormFirstIdeal.τ).loc Cert.NormFirstIdeal.main_arg0) = m ((c.tc : Thread Cert.NormFirstIdeal.nD Cert.NormFirstIdeal.τ).loc Cert.NormFirstIdeal.main_arg0)
          ∧ r.2.mem ((c.tc : Thread Cert.NormFirstIdeal.nD Cert.NormFirstIdeal.τ).loc Cert.NormFirstIdeal.main_arg1) = m ((c.tc : Thread Cert.NormFirstIdeal.nD Cert.NormFirstIdeal.τ).loc Cert.NormFirstIdeal.main_arg1)
          ∧ r.2.mem ((c.tc : Thread Cert.NormFirstIdeal.nD Cert.NormFirstIdeal.τ).loc Cert.NormFirstIdeal.main_arg2) = m ((c.tc : Thread Cert.NormFirstIdeal.nD Cert.NormFirstIdeal.τ).loc Cert.NormFirstIdeal.main_arg2)
          ∧ r.2.mem ((c.tc : Thread Cert.NormFirstIdeal.nD Cert.NormFirstIdeal.τ).loc Cert.NormFirstIdeal.main_arg3) = m ((c.tc : Thread Cert.NormFirstIdeal.nD Cert.NormFirstIdeal.τ).loc Cert.NormFirstIdeal.main_arg3))
      ∧ θ_run (Cert.NormFirstRefIdeal.defs (F := Ideal)) (onTc (τ := Cert.NormFirstRefIdeal.τ) (Cert.NormFirstRefIdeal.main (F := Ideal))) ⟨m', fun _ => 0, g'⟩ (fun r => ∀ c : Dev Cert.NormFirstRefIdeal.nD,
          r.2.mem ((c.tc : Thread Cert.NormFirstRefIdeal.nD Cert.NormFirstRefIdeal.τ).loc Cert.NormFirstRefIdeal.main_v38) = v0 c
          ∧ r.2.mem ((c.tc : Thread Cert.NormFirstRefIdeal.nD Cert.NormFirstRefIdeal.τ).loc Cert.NormFirstRefIdeal.main_v39) = v1 c
          ∧ r.2.mem ((c.tc : Thread Cert.NormFirstRefIdeal.nD Cert.NormFirstRefIdeal.τ).loc Cert.NormFirstRefIdeal.main_arg0) = m' ((c.tc : Thread Cert.NormFirstRefIdeal.nD Cert.NormFirstRefIdeal.τ).loc Cert.NormFirstRefIdeal.main_arg0)
          ∧ r.2.mem ((c.tc : Thread Cert.NormFirstRefIdeal.nD Cert.NormFirstRefIdeal.τ).loc Cert.NormFirstRefIdeal.main_arg1) = m' ((c.tc : Thread Cert.NormFirstRefIdeal.nD Cert.NormFirstRefIdeal.τ).loc Cert.NormFirstRefIdeal.main_arg1)
          ∧ r.2.mem ((c.tc : Thread Cert.NormFirstRefIdeal.nD Cert.NormFirstRefIdeal.τ).loc Cert.NormFirstRefIdeal.main_arg2) = m' ((c.tc : Thread Cert.NormFirstRefIdeal.nD Cert.NormFirstRefIdeal.τ).loc Cert.NormFirstRefIdeal.main_arg2)
          ∧ r.2.mem ((c.tc : Thread Cert.NormFirstRefIdeal.nD Cert.NormFirstRefIdeal.τ).loc Cert.NormFirstRefIdeal.main_arg3) = m' ((c.tc : Thread Cert.NormFirstRefIdeal.nD Cert.NormFirstRefIdeal.τ).loc Cert.NormFirstRefIdeal.main_arg3))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)) →
    ∃ (v0 : (c : Dev Cert.InProjIdeal.nD) → Buf (Elt Ideal) ((c.tc : Thread Cert.InProjIdeal.nD Cert.InProjIdeal.τ).loc Cert.InProjIdeal.main_v2)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v2) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v3) = v0 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1))

def preserves_InProjDx_InProjDxIdeal : Prop :=
  True

def algebraic_InProjDxIdeal_InProjDxRefIdeal [hInProjDxIdeal : Cert.InProjDxIdeal.Facts] [hInProjDxRefIdeal : Cert.InProjDxRefIdeal.Facts] : Prop :=
  ∀ (m : (ℓ : Loc Cert.InProjDxIdeal.nD Cert.InProjDxIdeal.τ Cert.InProjDxIdeal.sig) → Buf (Elt Ideal) ℓ) (g : Dev Cert.InProjDxIdeal.nD → PrngReg)
    (m' : (ℓ : Loc Cert.InProjDxRefIdeal.nD Cert.InProjDxRefIdeal.τ Cert.InProjDxRefIdeal.sig) → Buf (Elt Ideal) ℓ) (g' : Dev Cert.InProjDxRefIdeal.nD → PrngReg), Pre_InProjDxIdeal m →
    (∀ c : Dev Cert.InProjDxIdeal.nD,
      m' ((c.tc : Thread Cert.InProjDxRefIdeal.nD Cert.InProjDxRefIdeal.τ).loc Cert.InProjDxRefIdeal.main_arg0) = m ((c.tc : Thread Cert.InProjDxIdeal.nD Cert.InProjDxIdeal.τ).loc Cert.InProjDxIdeal.main_arg0)
      ∧ m' ((c.tc : Thread Cert.InProjDxRefIdeal.nD Cert.InProjDxRefIdeal.τ).loc Cert.InProjDxRefIdeal.main_arg1) = m ((c.tc : Thread Cert.InProjDxIdeal.nD Cert.InProjDxIdeal.τ).loc Cert.InProjDxIdeal.main_arg1)) →
    ∃ (v0 : (c : Dev Cert.InProjDxIdeal.nD) → Buf (Elt Ideal) ((c.tc : Thread Cert.InProjDxIdeal.nD Cert.InProjDxIdeal.τ).loc Cert.InProjDxIdeal.main_v2)),
      θ_run (Cert.InProjDxIdeal.defs (F := Ideal)) (onTc (τ := Cert.InProjDxIdeal.τ) (Cert.InProjDxIdeal.main (F := Ideal))) ⟨m, fun _ => 0, g⟩ (fun r => ∀ c : Dev Cert.InProjDxIdeal.nD,
          r.2.mem ((c.tc : Thread Cert.InProjDxIdeal.nD Cert.InProjDxIdeal.τ).loc Cert.InProjDxIdeal.main_v2) = v0 c
          ∧ r.2.mem ((c.tc : Thread Cert.InProjDxIdeal.nD Cert.InProjDxIdeal.τ).loc Cert.InProjDxIdeal.main_arg0) = m ((c.tc : Thread Cert.InProjDxIdeal.nD Cert.InProjDxIdeal.τ).loc Cert.InProjDxIdeal.main_arg0)
          ∧ r.2.mem ((c.tc : Thread Cert.InProjDxIdeal.nD Cert.InProjDxIdeal.τ).loc Cert.InProjDxIdeal.main_arg1) = m ((c.tc : Thread Cert.InProjDxIdeal.nD Cert.InProjDxIdeal.τ).loc Cert.InProjDxIdeal.main_arg1))
      ∧ θ_run (Cert.InProjDxRefIdeal.defs (F := Ideal)) (onTc (τ := Cert.InProjDxRefIdeal.τ) (Cert.InProjDxRefIdeal.main (F := Ideal))) ⟨m', fun _ => 0, g'⟩ (fun r => ∀ c : Dev Cert.InProjDxRefIdeal.nD,
          r.2.mem ((c.tc : Thread Cert.InProjDxRefIdeal.nD Cert.InProjDxRefIdeal.τ).loc Cert.InProjDxRefIdeal.main_v6) = v0 c
          ∧ r.2.mem ((c.tc : Thread Cert.InProjDxRefIdeal.nD Cert.InProjDxRefIdeal.τ).loc Cert.InProjDxRefIdeal.main_arg0) = m' ((c.tc : Thread Cert.InProjDxRefIdeal.nD Cert.InProjDxRefIdeal.τ).loc Cert.InProjDxRefIdeal.main_arg0)
          ∧ r.2.mem ((c.tc : Thread Cert.InProjDxRefIdeal.nD Cert.InProjDxRefIdeal.τ).loc Cert.InProjDxRefIdeal.main_arg1) = m' ((c.tc : Thread Cert.InProjDxRefIdeal.nD Cert.InProjDxRefIdeal.τ).loc Cert.InProjDxRefIdeal.main_arg1))

def preserves_InProjDw_InProjDwIdeal : Prop :=
  True

def algebraic_InProjDwIdeal_InProjDwRefIdeal [hInProjDwIdeal : Cert.InProjDwIdeal.Facts] [hInProjDwRefIdeal : Cert.InProjDwRefIdeal.Facts] : Prop :=
  ∀ (m : (ℓ : Loc Cert.InProjDwIdeal.nD Cert.InProjDwIdeal.τ Cert.InProjDwIdeal.sig) → Buf (Elt Ideal) ℓ) (g : Dev Cert.InProjDwIdeal.nD → PrngReg)
    (m' : (ℓ : Loc Cert.InProjDwRefIdeal.nD Cert.InProjDwRefIdeal.τ Cert.InProjDwRefIdeal.sig) → Buf (Elt Ideal) ℓ) (g' : Dev Cert.InProjDwRefIdeal.nD → PrngReg), Pre_InProjDwIdeal m →
    (∀ c : Dev Cert.InProjDwIdeal.nD,
      m' ((c.tc : Thread Cert.InProjDwRefIdeal.nD Cert.InProjDwRefIdeal.τ).loc Cert.InProjDwRefIdeal.main_arg0) = m ((c.tc : Thread Cert.InProjDwIdeal.nD Cert.InProjDwIdeal.τ).loc Cert.InProjDwIdeal.main_arg0)
      ∧ m' ((c.tc : Thread Cert.InProjDwRefIdeal.nD Cert.InProjDwRefIdeal.τ).loc Cert.InProjDwRefIdeal.main_arg1) = m ((c.tc : Thread Cert.InProjDwIdeal.nD Cert.InProjDwIdeal.τ).loc Cert.InProjDwIdeal.main_arg1)) →
    ∃ (v0 : (c : Dev Cert.InProjDwIdeal.nD) → Buf (Elt Ideal) ((c.tc : Thread Cert.InProjDwIdeal.nD Cert.InProjDwIdeal.τ).loc Cert.InProjDwIdeal.main_v0)),
      θ_run (Cert.InProjDwIdeal.defs (F := Ideal)) (onTc (τ := Cert.InProjDwIdeal.τ) (Cert.InProjDwIdeal.main (F := Ideal))) ⟨m, fun _ => 0, g⟩ (fun r => ∀ c : Dev Cert.InProjDwIdeal.nD,
          r.2.mem ((c.tc : Thread Cert.InProjDwIdeal.nD Cert.InProjDwIdeal.τ).loc Cert.InProjDwIdeal.main_v0) = v0 c
          ∧ r.2.mem ((c.tc : Thread Cert.InProjDwIdeal.nD Cert.InProjDwIdeal.τ).loc Cert.InProjDwIdeal.main_arg0) = m ((c.tc : Thread Cert.InProjDwIdeal.nD Cert.InProjDwIdeal.τ).loc Cert.InProjDwIdeal.main_arg0)
          ∧ r.2.mem ((c.tc : Thread Cert.InProjDwIdeal.nD Cert.InProjDwIdeal.τ).loc Cert.InProjDwIdeal.main_arg1) = m ((c.tc : Thread Cert.InProjDwIdeal.nD Cert.InProjDwIdeal.τ).loc Cert.InProjDwIdeal.main_arg1))
      ∧ θ_run (Cert.InProjDwRefIdeal.defs (F := Ideal)) (onTc (τ := Cert.InProjDwRefIdeal.τ) (Cert.InProjDwRefIdeal.main (F := Ideal))) ⟨m', fun _ => 0, g'⟩ (fun r => ∀ c : Dev Cert.InProjDwRefIdeal.nD,
          r.2.mem ((c.tc : Thread Cert.InProjDwRefIdeal.nD Cert.InProjDwRefIdeal.τ).loc Cert.InProjDwRefIdeal.main_v9) = v0 c
          ∧ r.2.mem ((c.tc : Thread Cert.InProjDwRefIdeal.nD Cert.InProjDwRefIdeal.τ).loc Cert.InProjDwRefIdeal.main_arg0) = m' ((c.tc : Thread Cert.InProjDwRefIdeal.nD Cert.InProjDwRefIdeal.τ).loc Cert.InProjDwRefIdeal.main_arg0)
          ∧ r.2.mem ((c.tc : Thread Cert.InProjDwRefIdeal.nD Cert.InProjDwRefIdeal.τ).loc Cert.InProjDwRefIdeal.main_arg1) = m' ((c.tc : Thread Cert.InProjDwRefIdeal.nD Cert.InProjDwRefIdeal.τ).loc Cert.InProjDwRefIdeal.main_arg1))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)) →
    ∃ (v0 : (c : Dev Cert.OutProjIdeal.nD) → Buf (Elt Ideal) ((c.tc : Thread Cert.OutProjIdeal.nD Cert.OutProjIdeal.τ).loc Cert.OutProjIdeal.main_v1)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v1) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v3) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2))

def preserves_OutProjDx_OutProjDxIdeal : Prop :=
  True

def algebraic_OutProjDxIdeal_OutProjDxRefIdeal [hOutProjDxIdeal : Cert.OutProjDxIdeal.Facts] [hOutProjDxRefIdeal : Cert.OutProjDxRefIdeal.Facts] : Prop :=
  ∀ (m : (ℓ : Loc Cert.OutProjDxIdeal.nD Cert.OutProjDxIdeal.τ Cert.OutProjDxIdeal.sig) → Buf (Elt Ideal) ℓ) (g : Dev Cert.OutProjDxIdeal.nD → PrngReg)
    (m' : (ℓ : Loc Cert.OutProjDxRefIdeal.nD Cert.OutProjDxRefIdeal.τ Cert.OutProjDxRefIdeal.sig) → Buf (Elt Ideal) ℓ) (g' : Dev Cert.OutProjDxRefIdeal.nD → PrngReg), Pre_OutProjDxIdeal m →
    (∀ c : Dev Cert.OutProjDxIdeal.nD,
      m' ((c.tc : Thread Cert.OutProjDxRefIdeal.nD Cert.OutProjDxRefIdeal.τ).loc Cert.OutProjDxRefIdeal.main_arg0) = m ((c.tc : Thread Cert.OutProjDxIdeal.nD Cert.OutProjDxIdeal.τ).loc Cert.OutProjDxIdeal.main_arg0)
      ∧ m' ((c.tc : Thread Cert.OutProjDxRefIdeal.nD Cert.OutProjDxRefIdeal.τ).loc Cert.OutProjDxRefIdeal.main_arg1) = m ((c.tc : Thread Cert.OutProjDxIdeal.nD Cert.OutProjDxIdeal.τ).loc Cert.OutProjDxIdeal.main_arg1)) →
    ∃ (v0 : (c : Dev Cert.OutProjDxIdeal.nD) → Buf (Elt Ideal) ((c.tc : Thread Cert.OutProjDxIdeal.nD Cert.OutProjDxIdeal.τ).loc Cert.OutProjDxIdeal.main_v1)),
      θ_run (Cert.OutProjDxIdeal.defs (F := Ideal)) (onTc (τ := Cert.OutProjDxIdeal.τ) (Cert.OutProjDxIdeal.main (F := Ideal))) ⟨m, fun _ => 0, g⟩ (fun r => ∀ c : Dev Cert.OutProjDxIdeal.nD,
          r.2.mem ((c.tc : Thread Cert.OutProjDxIdeal.nD Cert.OutProjDxIdeal.τ).loc Cert.OutProjDxIdeal.main_v1) = v0 c
          ∧ r.2.mem ((c.tc : Thread Cert.OutProjDxIdeal.nD Cert.OutProjDxIdeal.τ).loc Cert.OutProjDxIdeal.main_arg0) = m ((c.tc : Thread Cert.OutProjDxIdeal.nD Cert.OutProjDxIdeal.τ).loc Cert.OutProjDxIdeal.main_arg0)
          ∧ r.2.mem ((c.tc : Thread Cert.OutProjDxIdeal.nD Cert.OutProjDxIdeal.τ).loc Cert.OutProjDxIdeal.main_arg1) = m ((c.tc : Thread Cert.OutProjDxIdeal.nD Cert.OutProjDxIdeal.τ).loc Cert.OutProjDxIdeal.main_arg1))
      ∧ θ_run (Cert.OutProjDxRefIdeal.defs (F := Ideal)) (onTc (τ := Cert.OutProjDxRefIdeal.τ) (Cert.OutProjDxRefIdeal.main (F := Ideal))) ⟨m', fun _ => 0, g'⟩ (fun r => ∀ c : Dev Cert.OutProjDxRefIdeal.nD,
          r.2.mem ((c.tc : Thread Cert.OutProjDxRefIdeal.nD Cert.OutProjDxRefIdeal.τ).loc Cert.OutProjDxRefIdeal.main_v6) = v0 c
          ∧ r.2.mem ((c.tc : Thread Cert.OutProjDxRefIdeal.nD Cert.OutProjDxRefIdeal.τ).loc Cert.OutProjDxRefIdeal.main_arg0) = m' ((c.tc : Thread Cert.OutProjDxRefIdeal.nD Cert.OutProjDxRefIdeal.τ).loc Cert.OutProjDxRefIdeal.main_arg0)
          ∧ r.2.mem ((c.tc : Thread Cert.OutProjDxRefIdeal.nD Cert.OutProjDxRefIdeal.τ).loc Cert.OutProjDxRefIdeal.main_arg1) = m' ((c.tc : Thread Cert.OutProjDxRefIdeal.nD Cert.OutProjDxRefIdeal.τ).loc Cert.OutProjDxRefIdeal.main_arg1))

def preserves_OutProjDw_OutProjDwIdeal : Prop :=
  True

def algebraic_OutProjDwIdeal_OutProjDwRefIdeal [hOutProjDwIdeal : Cert.OutProjDwIdeal.Facts] [hOutProjDwRefIdeal : Cert.OutProjDwRefIdeal.Facts] : Prop :=
  ∀ (m : (ℓ : Loc Cert.OutProjDwIdeal.nD Cert.OutProjDwIdeal.τ Cert.OutProjDwIdeal.sig) → Buf (Elt Ideal) ℓ) (g : Dev Cert.OutProjDwIdeal.nD → PrngReg)
    (m' : (ℓ : Loc Cert.OutProjDwRefIdeal.nD Cert.OutProjDwRefIdeal.τ Cert.OutProjDwRefIdeal.sig) → Buf (Elt Ideal) ℓ) (g' : Dev Cert.OutProjDwRefIdeal.nD → PrngReg), Pre_OutProjDwIdeal m →
    (∀ c : Dev Cert.OutProjDwIdeal.nD,
      m' ((c.tc : Thread Cert.OutProjDwRefIdeal.nD Cert.OutProjDwRefIdeal.τ).loc Cert.OutProjDwRefIdeal.main_arg0) = m ((c.tc : Thread Cert.OutProjDwIdeal.nD Cert.OutProjDwIdeal.τ).loc Cert.OutProjDwIdeal.main_arg0)
      ∧ m' ((c.tc : Thread Cert.OutProjDwRefIdeal.nD Cert.OutProjDwRefIdeal.τ).loc Cert.OutProjDwRefIdeal.main_arg1) = m ((c.tc : Thread Cert.OutProjDwIdeal.nD Cert.OutProjDwIdeal.τ).loc Cert.OutProjDwIdeal.main_arg1)) →
    ∃ (v0 : (c : Dev Cert.OutProjDwIdeal.nD) → Buf (Elt Ideal) ((c.tc : Thread Cert.OutProjDwIdeal.nD Cert.OutProjDwIdeal.τ).loc Cert.OutProjDwIdeal.main_v0)),
      θ_run (Cert.OutProjDwIdeal.defs (F := Ideal)) (onTc (τ := Cert.OutProjDwIdeal.τ) (Cert.OutProjDwIdeal.main (F := Ideal))) ⟨m, fun _ => 0, g⟩ (fun r => ∀ c : Dev Cert.OutProjDwIdeal.nD,
          r.2.mem ((c.tc : Thread Cert.OutProjDwIdeal.nD Cert.OutProjDwIdeal.τ).loc Cert.OutProjDwIdeal.main_v0) = v0 c
          ∧ r.2.mem ((c.tc : Thread Cert.OutProjDwIdeal.nD Cert.OutProjDwIdeal.τ).loc Cert.OutProjDwIdeal.main_arg0) = m ((c.tc : Thread Cert.OutProjDwIdeal.nD Cert.OutProjDwIdeal.τ).loc Cert.OutProjDwIdeal.main_arg0)
          ∧ r.2.mem ((c.tc : Thread Cert.OutProjDwIdeal.nD Cert.OutProjDwIdeal.τ).loc Cert.OutProjDwIdeal.main_arg1) = m ((c.tc : Thread Cert.OutProjDwIdeal.nD Cert.OutProjDwIdeal.τ).loc Cert.OutProjDwIdeal.main_arg1))
      ∧ θ_run (Cert.OutProjDwRefIdeal.defs (F := Ideal)) (onTc (τ := Cert.OutProjDwRefIdeal.τ) (Cert.OutProjDwRefIdeal.main (F := Ideal))) ⟨m', fun _ => 0, g'⟩ (fun r => ∀ c : Dev Cert.OutProjDwRefIdeal.nD,
          r.2.mem ((c.tc : Thread Cert.OutProjDwRefIdeal.nD Cert.OutProjDwRefIdeal.τ).loc Cert.OutProjDwRefIdeal.main_v8) = v0 c
          ∧ r.2.mem ((c.tc : Thread Cert.OutProjDwRefIdeal.nD Cert.OutProjDwRefIdeal.τ).loc Cert.OutProjDwRefIdeal.main_arg0) = m' ((c.tc : Thread Cert.OutProjDwRefIdeal.nD Cert.OutProjDwRefIdeal.τ).loc Cert.OutProjDwRefIdeal.main_arg0)
          ∧ r.2.mem ((c.tc : Thread Cert.OutProjDwRefIdeal.nD Cert.OutProjDwRefIdeal.τ).loc Cert.OutProjDwRefIdeal.main_arg1) = m' ((c.tc : Thread Cert.OutProjDwRefIdeal.nD Cert.OutProjDwRefIdeal.τ).loc Cert.OutProjDwRefIdeal.main_arg1))

def preserves_UpDw_UpDwIdeal : Prop :=
  True

def algebraic_UpDwIdeal_UpDwRefIdeal [hUpDwIdeal : Cert.UpDwIdeal.Facts] [hUpDwRefIdeal : Cert.UpDwRefIdeal.Facts] : Prop :=
  ∀ (m : (ℓ : Loc Cert.UpDwIdeal.nD Cert.UpDwIdeal.τ Cert.UpDwIdeal.sig) → Buf (Elt Ideal) ℓ) (g : Dev Cert.UpDwIdeal.nD → PrngReg)
    (m' : (ℓ : Loc Cert.UpDwRefIdeal.nD Cert.UpDwRefIdeal.τ Cert.UpDwRefIdeal.sig) → Buf (Elt Ideal) ℓ) (g' : Dev Cert.UpDwRefIdeal.nD → PrngReg), Pre_UpDwIdeal m →
    (∀ c : Dev Cert.UpDwIdeal.nD,
      m' ((c.tc : Thread Cert.UpDwRefIdeal.nD Cert.UpDwRefIdeal.τ).loc Cert.UpDwRefIdeal.main_arg0) = m ((c.tc : Thread Cert.UpDwIdeal.nD Cert.UpDwIdeal.τ).loc Cert.UpDwIdeal.main_arg0)
      ∧ m' ((c.tc : Thread Cert.UpDwRefIdeal.nD Cert.UpDwRefIdeal.τ).loc Cert.UpDwRefIdeal.main_arg1) = m ((c.tc : Thread Cert.UpDwIdeal.nD Cert.UpDwIdeal.τ).loc Cert.UpDwIdeal.main_arg1)) →
    ∃ (v0 : (c : Dev Cert.UpDwIdeal.nD) → Buf (Elt Ideal) ((c.tc : Thread Cert.UpDwIdeal.nD Cert.UpDwIdeal.τ).loc Cert.UpDwIdeal.main_v0)),
      θ_run (Cert.UpDwIdeal.defs (F := Ideal)) (onTc (τ := Cert.UpDwIdeal.τ) (Cert.UpDwIdeal.main (F := Ideal))) ⟨m, fun _ => 0, g⟩ (fun r => ∀ c : Dev Cert.UpDwIdeal.nD,
          r.2.mem ((c.tc : Thread Cert.UpDwIdeal.nD Cert.UpDwIdeal.τ).loc Cert.UpDwIdeal.main_v0) = v0 c
          ∧ r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
          ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1))
      ∧ θ_run (Cert.UpDwRefIdeal.defs (F := Ideal)) (onTc (τ := Cert.UpDwRefIdeal.τ) (Cert.UpDwRefIdeal.main (F := Ideal))) ⟨m', fun _ => 0, g'⟩ (fun r => ∀ c : Dev Cert.UpDwRefIdeal.nD,
          r.2.mem ((c.tc : Thread Cert.UpDwRefIdeal.nD Cert.UpDwRefIdeal.τ).loc Cert.UpDwRefIdeal.main_v9) = v0 c
          ∧ r.2.mem ((c.tc : Thread Cert.UpDwRefIdeal.nD Cert.UpDwRefIdeal.τ).loc Cert.UpDwRefIdeal.main_arg0) = m' ((c.tc : Thread Cert.UpDwRefIdeal.nD Cert.UpDwRefIdeal.τ).loc Cert.UpDwRefIdeal.main_arg0)
          ∧ r.2.mem ((c.tc : Thread Cert.UpDwRefIdeal.nD Cert.UpDwRefIdeal.τ).loc Cert.UpDwRefIdeal.main_arg1) = m' ((c.tc : Thread Cert.UpDwRefIdeal.nD Cert.UpDwRefIdeal.τ).loc Cert.UpDwRefIdeal.main_arg1))

def preserves_CastFirst_CastFirstIdeal : Prop :=
  True

def algebraic_CastFirstIdeal_CastFirstRefIdeal [hCastFirstIdeal : Cert.CastFirstIdeal.Facts] [hCastFirstRefIdeal : Cert.CastFirstRefIdeal.Facts] : Prop :=
  ∀ (m : (ℓ : Loc Cert.CastFirstIdeal.nD Cert.CastFirstIdeal.τ Cert.CastFirstIdeal.sig) → Buf (Elt Ideal) ℓ) (g : Dev Cert.CastFirstIdeal.nD → PrngReg)
    (m' : (ℓ : Loc Cert.CastFirstRefIdeal.nD Cert.CastFirstRefIdeal.τ Cert.CastFirstRefIdeal.sig) → Buf (Elt Ideal) ℓ) (g' : Dev Cert.CastFirstRefIdeal.nD → PrngReg), Pre_CastFirstIdeal m →
    (∀ c : Dev Cert.CastFirstIdeal.nD,
      m' ((c.tc : Thread Cert.CastFirstRefIdeal.nD Cert.CastFirstRefIdeal.τ).loc Cert.CastFirstRefIdeal.main_arg0) = m ((c.tc : Thread Cert.CastFirstIdeal.nD Cert.CastFirstIdeal.τ).loc Cert.CastFirstIdeal.main_arg0)) →
    ∃ (v0 : (c : Dev Cert.CastFirstIdeal.nD) → Buf (Elt Ideal) ((c.tc : Thread Cert.CastFirstIdeal.nD Cert.CastFirstIdeal.τ).loc Cert.CastFirstIdeal.main_v0)),
      θ_run (Cert.CastFirstIdeal.defs (F := Ideal)) (onTc (τ := Cert.CastFirstIdeal.τ) (Cert.CastFirstIdeal.main (F := Ideal))) ⟨m, fun _ => 0, g⟩ (fun r => ∀ c : Dev Cert.CastFirstIdeal.nD,
          r.2.mem ((c.tc : Thread Cert.CastFirstIdeal.nD Cert.CastFirstIdeal.τ).loc Cert.CastFirstIdeal.main_v0) = v0 c
          ∧ r.2.mem ((c.tc : Thread Cert.CastFirstIdeal.nD Cert.CastFirstIdeal.τ).loc Cert.CastFirstIdeal.main_arg0) = m ((c.tc : Thread Cert.CastFirstIdeal.nD Cert.CastFirstIdeal.τ).loc Cert.CastFirstIdeal.main_arg0))
      ∧ θ_run (Cert.CastFirstRefIdeal.defs (F := Ideal)) (onTc (τ := Cert.CastFirstRefIdeal.τ) (Cert.CastFirstRefIdeal.main (F := Ideal))) ⟨m', fun _ => 0, g'⟩ (fun r => ∀ c : Dev Cert.CastFirstRefIdeal.nD,
          r.2.mem ((c.tc : Thread Cert.CastFirstRefIdeal.nD Cert.CastFirstRefIdeal.τ).loc Cert.CastFirstRefIdeal.main_v1) = v0 c
          ∧ r.2.mem ((c.tc : Thread Cert.CastFirstRefIdeal.nD Cert.CastFirstRefIdeal.τ).loc Cert.CastFirstRefIdeal.main_arg0) = m' ((c.tc : Thread Cert.CastFirstRefIdeal.nD Cert.CastFirstRefIdeal.τ).loc Cert.CastFirstRefIdeal.main_arg0))

def Claim : Prop :=
  ∃ (hRelu2 : Cert.Relu2.Facts) (hRelu2Ideal : Cert.Relu2Ideal.Facts) (hRelu2RefIdeal : Cert.Relu2RefIdeal.Facts) (hNormBwd : Cert.NormBwd.Facts) (hNormBwdIdeal : Cert.NormBwdIdeal.Facts) (hNormBwdRefIdeal : Cert.NormBwdRefIdeal.Facts) (hLoss : Cert.Loss.Facts) (hLossIdeal : Cert.LossIdeal.Facts) (hLossRefIdeal : Cert.LossRefIdeal.Facts) (hMixerBwd : Cert.MixerBwd.Facts) (hMixerBwdIdeal : Cert.MixerBwdIdeal.Facts) (hMixerBwdRefIdeal : Cert.MixerBwdRefIdeal.Facts) (hNorm : Cert.Norm.Facts) (hNormIdeal : Cert.NormIdeal.Facts) (hNormRefIdeal : Cert.NormRefIdeal.Facts) (hUp : Cert.Up.Facts) (hUpIdeal : Cert.UpIdeal.Facts) (hUpRefIdeal : Cert.UpRefIdeal.Facts) (hMixer : Cert.Mixer.Facts) (hMixerIdeal : Cert.MixerIdeal.Facts) (hMixerRefIdeal : Cert.MixerRefIdeal.Facts) (hDown : Cert.Down.Facts) (hDownIdeal : Cert.DownIdeal.Facts) (hDownRefIdeal : Cert.DownRefIdeal.Facts) (hUpDx : Cert.UpDx.Facts) (hUpDxIdeal : Cert.UpDxIdeal.Facts) (hUpDxRefIdeal : Cert.UpDxRefIdeal.Facts) (hDownDw : Cert.DownDw.Facts) (hDownDwIdeal : Cert.DownDwIdeal.Facts) (hDownDwRefIdeal : Cert.DownDwRefIdeal.Facts) (hAdamw : Cert.Adamw.Facts) (hAdamwIdeal : Cert.AdamwIdeal.Facts) (hAdamwRefIdeal : Cert.AdamwRefIdeal.Facts) (hCast : Cert.Cast.Facts) (hCastIdeal : Cert.CastIdeal.Facts) (hCastRefIdeal : Cert.CastRefIdeal.Facts) (hGather : Cert.Gather.Facts) (hGatherIdeal : Cert.GatherIdeal.Facts) (hGatherRefIdeal : Cert.GatherRefIdeal.Facts) (hAdamwOwn : Cert.AdamwOwn.Facts) (hAdamwOwnIdeal : Cert.AdamwOwnIdeal.Facts) (hAdamwOwnRefIdeal : Cert.AdamwOwnRefIdeal.Facts) (hNormFirst : Cert.NormFirst.Facts) (hNormFirstIdeal : Cert.NormFirstIdeal.Facts) (hNormFirstRefIdeal : Cert.NormFirstRefIdeal.Facts) (hInProj : Cert.InProj.Facts) (hInProjIdeal : Cert.InProjIdeal.Facts) (hInProjRefIdeal : Cert.InProjRefIdeal.Facts) (hInProjDx : Cert.InProjDx.Facts) (hInProjDxIdeal : Cert.InProjDxIdeal.Facts) (hInProjDxRefIdeal : Cert.InProjDxRefIdeal.Facts) (hInProjDw : Cert.InProjDw.Facts) (hInProjDwIdeal : Cert.InProjDwIdeal.Facts) (hInProjDwRefIdeal : Cert.InProjDwRefIdeal.Facts) (hOutProj : Cert.OutProj.Facts) (hOutProjIdeal : Cert.OutProjIdeal.Facts) (hOutProjRefIdeal : Cert.OutProjRefIdeal.Facts) (hOutProjDx : Cert.OutProjDx.Facts) (hOutProjDxIdeal : Cert.OutProjDxIdeal.Facts) (hOutProjDxRefIdeal : Cert.OutProjDxRefIdeal.Facts) (hOutProjDw : Cert.OutProjDw.Facts) (hOutProjDwIdeal : Cert.OutProjDwIdeal.Facts) (hOutProjDwRefIdeal : Cert.OutProjDwRefIdeal.Facts) (hUpDw : Cert.UpDw.Facts) (hUpDwIdeal : Cert.UpDwIdeal.Facts) (hUpDwRefIdeal : Cert.UpDwRefIdeal.Facts) (hCastFirst : Cert.CastFirst.Facts) (hCastFirstIdeal : Cert.CastFirstIdeal.Facts) (hCastFirstRefIdeal : Cert.CastFirstRefIdeal.Facts) (hPre_pool_finite : Cert.Pre_pool_finite.Facts) (hPre_pool_input_finite : Cert.Pre_pool_input_finite.Facts) (hPre_own_block : Cert.Pre_own_block.Facts),
    quiescent_Relu2 (hRelu2 := hRelu2)
    ∧ quiescent_Relu2Ideal (hRelu2Ideal := hRelu2Ideal)
    ∧ quiescent_Relu2RefIdeal (hRelu2RefIdeal := hRelu2RefIdeal)
    ∧ quiescent_NormBwd (hNormBwd := hNormBwd)
    ∧ quiescent_NormBwdIdeal (hNormBwdIdeal := hNormBwdIdeal)
    ∧ quiescent_NormBwdRefIdeal (hNormBwdRefIdeal := hNormBwdRefIdeal)
    ∧ quiescent_Loss (hLoss := hLoss)
    ∧ quiescent_LossIdeal (hLossIdeal := hLossIdeal)
    ∧ quiescent_LossRefIdeal (hLossRefIdeal := hLossRefIdeal)
    ∧ quiescent_MixerBwd (hMixerBwd := hMixerBwd)
    ∧ quiescent_MixerBwdIdeal (hMixerBwdIdeal := hMixerBwdIdeal)
    ∧ quiescent_MixerBwdIdeal_pre_pool_finite (hMixerBwdIdeal := hMixerBwdIdeal) (hPre_pool_finite := hPre_pool_finite)
    ∧ quiescent_MixerBwdRefIdeal (hMixerBwdRefIdeal := hMixerBwdRefIdeal)
    ∧ quiescent_MixerBwdRefIdeal_pre_pool_finite (hMixerBwdRefIdeal := hMixerBwdRefIdeal) (hPre_pool_finite := hPre_pool_finite)
    ∧ quiescent_Norm (hNorm := hNorm)
    ∧ quiescent_NormIdeal (hNormIdeal := hNormIdeal)
    ∧ quiescent_NormRefIdeal (hNormRefIdeal := hNormRefIdeal)
    ∧ quiescent_Up (hUp := hUp)
    ∧ quiescent_UpIdeal (hUpIdeal := hUpIdeal)
    ∧ quiescent_UpRefIdeal (hUpRefIdeal := hUpRefIdeal)
    ∧ quiescent_Mixer (hMixer := hMixer)
    ∧ quiescent_MixerIdeal (hMixerIdeal := hMixerIdeal)
    ∧ quiescent_MixerIdeal_pre_pool_input_finite (hMixerIdeal := hMixerIdeal) (hPre_pool_input_finite := hPre_pool_input_finite)
    ∧ quiescent_MixerRefIdeal (hMixerRefIdeal := hMixerRefIdeal)
    ∧ quiescent_MixerRefIdeal_pre_pool_input_finite (hMixerRefIdeal := hMixerRefIdeal) (hPre_pool_input_finite := hPre_pool_input_finite)
    ∧ quiescent_Down (hDown := hDown)
    ∧ quiescent_DownIdeal (hDownIdeal := hDownIdeal)
    ∧ quiescent_DownRefIdeal (hDownRefIdeal := hDownRefIdeal)
    ∧ quiescent_UpDx (hUpDx := hUpDx)
    ∧ quiescent_UpDxIdeal (hUpDxIdeal := hUpDxIdeal)
    ∧ quiescent_UpDxRefIdeal (hUpDxRefIdeal := hUpDxRefIdeal)
    ∧ quiescent_DownDw (hDownDw := hDownDw)
    ∧ quiescent_DownDwIdeal (hDownDwIdeal := hDownDwIdeal)
    ∧ quiescent_DownDwRefIdeal (hDownDwRefIdeal := hDownDwRefIdeal)
    ∧ quiescent_Adamw (hAdamw := hAdamw)
    ∧ quiescent_AdamwIdeal (hAdamwIdeal := hAdamwIdeal)
    ∧ quiescent_AdamwRefIdeal (hAdamwRefIdeal := hAdamwRefIdeal)
    ∧ quiescent_Cast (hCast := hCast)
    ∧ quiescent_CastIdeal (hCastIdeal := hCastIdeal)
    ∧ quiescent_CastRefIdeal (hCastRefIdeal := hCastRefIdeal)
    ∧ quiescent_Gather (hGather := hGather)
    ∧ quiescent_GatherIdeal (hGatherIdeal := hGatherIdeal)
    ∧ quiescent_GatherRefIdeal (hGatherRefIdeal := hGatherRefIdeal)
    ∧ quiescent_AdamwOwn (hAdamwOwn := hAdamwOwn) (hPre_own_block := hPre_own_block)
    ∧ quiescent_AdamwOwnIdeal (hAdamwOwnIdeal := hAdamwOwnIdeal) (hPre_own_block := hPre_own_block)
    ∧ quiescent_AdamwOwnRefIdeal (hAdamwOwnRefIdeal := hAdamwOwnRefIdeal)
    ∧ quiescent_AdamwOwnRefIdeal_pre_own_block (hAdamwOwnRefIdeal := hAdamwOwnRefIdeal) (hPre_own_block := hPre_own_block)
    ∧ quiescent_NormFirst (hNormFirst := hNormFirst)
    ∧ quiescent_NormFirstIdeal (hNormFirstIdeal := hNormFirstIdeal)
    ∧ quiescent_NormFirstRefIdeal (hNormFirstRefIdeal := hNormFirstRefIdeal)
    ∧ quiescent_InProj (hInProj := hInProj)
    ∧ quiescent_InProjIdeal (hInProjIdeal := hInProjIdeal)
    ∧ quiescent_InProjRefIdeal (hInProjRefIdeal := hInProjRefIdeal)
    ∧ quiescent_InProjDx (hInProjDx := hInProjDx)
    ∧ quiescent_InProjDxIdeal (hInProjDxIdeal := hInProjDxIdeal)
    ∧ quiescent_InProjDxRefIdeal (hInProjDxRefIdeal := hInProjDxRefIdeal)
    ∧ quiescent_InProjDw (hInProjDw := hInProjDw)
    ∧ quiescent_InProjDwIdeal (hInProjDwIdeal := hInProjDwIdeal)
    ∧ quiescent_InProjDwRefIdeal (hInProjDwRefIdeal := hInProjDwRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_OutProjDx (hOutProjDx := hOutProjDx)
    ∧ quiescent_OutProjDxIdeal (hOutProjDxIdeal := hOutProjDxIdeal)
    ∧ quiescent_OutProjDxRefIdeal (hOutProjDxRefIdeal := hOutProjDxRefIdeal)
    ∧ quiescent_OutProjDw (hOutProjDw := hOutProjDw)
    ∧ quiescent_OutProjDwIdeal (hOutProjDwIdeal := hOutProjDwIdeal)
    ∧ quiescent_OutProjDwRefIdeal (hOutProjDwRefIdeal := hOutProjDwRefIdeal)
    ∧ quiescent_UpDw (hUpDw := hUpDw)
    ∧ quiescent_UpDwIdeal (hUpDwIdeal := hUpDwIdeal)
    ∧ quiescent_UpDwRefIdeal (hUpDwRefIdeal := hUpDwRefIdeal)
    ∧ quiescent_CastFirst (hCastFirst := hCastFirst)
    ∧ quiescent_CastFirstIdeal (hCastFirstIdeal := hCastFirstIdeal)
    ∧ quiescent_CastFirstRefIdeal (hCastFirstRefIdeal := hCastFirstRefIdeal)
    ∧ preserves_Relu2_Relu2Ideal
    ∧ algebraic_Relu2Ideal_Relu2RefIdeal (hRelu2Ideal := hRelu2Ideal) (hRelu2RefIdeal := hRelu2RefIdeal)
    ∧ preserves_NormBwd_NormBwdIdeal
    ∧ algebraic_NormBwdIdeal_NormBwdRefIdeal (hNormBwdIdeal := hNormBwdIdeal) (hNormBwdRefIdeal := hNormBwdRefIdeal)
    ∧ preserves_Loss_LossIdeal
    ∧ algebraic_LossIdeal_LossRefIdeal (hLossIdeal := hLossIdeal) (hLossRefIdeal := hLossRefIdeal)
    ∧ preserves_MixerBwd_MixerBwdIdeal
    ∧ algebraic_MixerBwdIdeal_MixerBwdRefIdeal_pre_pool_finite (hMixerBwdIdeal := hMixerBwdIdeal) (hMixerBwdRefIdeal := hMixerBwdRefIdeal) (hPre_pool_finite := hPre_pool_finite)
    ∧ preserves_Norm_NormIdeal
    ∧ algebraic_NormIdeal_NormRefIdeal (hNormIdeal := hNormIdeal) (hNormRefIdeal := hNormRefIdeal)
    ∧ preserves_Up_UpIdeal
    ∧ algebraic_UpIdeal_UpRefIdeal (hUpIdeal := hUpIdeal) (hUpRefIdeal := hUpRefIdeal)
    ∧ preserves_Mixer_MixerIdeal
    ∧ algebraic_MixerIdeal_MixerRefIdeal_pre_pool_input_finite (hMixerIdeal := hMixerIdeal) (hMixerRefIdeal := hMixerRefIdeal) (hPre_pool_input_finite := hPre_pool_input_finite)
    ∧ preserves_Down_DownIdeal
    ∧ algebraic_DownIdeal_DownRefIdeal (hDownIdeal := hDownIdeal) (hDownRefIdeal := hDownRefIdeal)
    ∧ preserves_UpDx_UpDxIdeal
    ∧ algebraic_UpDxIdeal_UpDxRefIdeal (hUpDxIdeal := hUpDxIdeal) (hUpDxRefIdeal := hUpDxRefIdeal)
    ∧ preserves_DownDw_DownDwIdeal
    ∧ algebraic_DownDwIdeal_DownDwRefIdeal (hDownDwIdeal := hDownDwIdeal) (hDownDwRefIdeal := hDownDwRefIdeal)
    ∧ preserves_Adamw_AdamwIdeal
    ∧ algebraic_AdamwIdeal_AdamwRefIdeal (hAdamwIdeal := hAdamwIdeal) (hAdamwRefIdeal := hAdamwRefIdeal)
    ∧ preserves_Cast_CastIdeal
    ∧ algebraic_CastIdeal_CastRefIdeal (hCastIdeal := hCastIdeal) (hCastRefIdeal := hCastRefIdeal)
    ∧ preserves_Gather_GatherIdeal
    ∧ algebraic_GatherIdeal_GatherRefIdeal (hGatherIdeal := hGatherIdeal) (hGatherRefIdeal := hGatherRefIdeal)
    ∧ preserves_AdamwOwn_AdamwOwnIdeal
    ∧ algebraic_AdamwOwnIdeal_AdamwOwnRefIdeal (hAdamwOwnIdeal := hAdamwOwnIdeal) (hAdamwOwnRefIdeal := hAdamwOwnRefIdeal) (hPre_own_block := hPre_own_block)
    ∧ preserves_NormFirst_NormFirstIdeal
    ∧ algebraic_NormFirstIdeal_NormFirstRefIdeal (hNormFirstIdeal := hNormFirstIdeal) (hNormFirstRefIdeal := hNormFirstRefIdeal)
    ∧ preserves_InProj_InProjIdeal
    ∧ algebraic_InProjIdeal_InProjRefIdeal (hInProjIdeal := hInProjIdeal) (hInProjRefIdeal := hInProjRefIdeal)
    ∧ preserves_InProjDx_InProjDxIdeal
    ∧ algebraic_InProjDxIdeal_InProjDxRefIdeal (hInProjDxIdeal := hInProjDxIdeal) (hInProjDxRefIdeal := hInProjDxRefIdeal)
    ∧ preserves_InProjDw_InProjDwIdeal
    ∧ algebraic_InProjDwIdeal_InProjDwRefIdeal (hInProjDwIdeal := hInProjDwIdeal) (hInProjDwRefIdeal := hInProjDwRefIdeal)
    ∧ preserves_OutProj_OutProjIdeal
    ∧ algebraic_OutProjIdeal_OutProjRefIdeal (hOutProjIdeal := hOutProjIdeal) (hOutProjRefIdeal := hOutProjRefIdeal)
    ∧ preserves_OutProjDx_OutProjDxIdeal
    ∧ algebraic_OutProjDxIdeal_OutProjDxRefIdeal (hOutProjDxIdeal := hOutProjDxIdeal) (hOutProjDxRefIdeal := hOutProjDxRefIdeal)
    ∧ preserves_OutProjDw_OutProjDwIdeal
    ∧ algebraic_OutProjDwIdeal_OutProjDwRefIdeal (hOutProjDwIdeal := hOutProjDwIdeal) (hOutProjDwRefIdeal := hOutProjDwRefIdeal)
    ∧ preserves_UpDw_UpDwIdeal
    ∧ algebraic_UpDwIdeal_UpDwRefIdeal (hUpDwIdeal := hUpDwIdeal) (hUpDwRefIdeal := hUpDwRefIdeal)
    ∧ preserves_CastFirst_CastFirstIdeal
    ∧ algebraic_CastFirstIdeal_CastFirstRefIdeal (hCastFirstIdeal := hCastFirstIdeal) (hCastFirstRefIdeal := hCastFirstRefIdeal)
-- ==== Pre_own_block.lean ====
abbrev S_ : Shape := ⟨0, ![]⟩
abbrev S4x8x256x2048 : Shape := ⟨4, ![4, 8, 256, 2048]⟩
abbrev S4x7x256x2048 : Shape := ⟨4, ![4, 7, 256, 2048]⟩
abbrev S4x256x2048 : Shape := ⟨3, ![4, 256, 2048]⟩

class Facts : Prop where

variable [Facts]

def fn {F : FTy → Type} [FloatOps F] (main_arg0 : IVec S_ 32) (main_arg1 : FVec F S4x8x256x2048 .bf16) (main_arg2 : FVec F S4x7x256x2048 .bf16) (main_arg3 : FVec F S4x256x2048 .f32) (main_arg4 : FVec F S4x256x2048 .f32) (main_arg5 : FVec F S4x256x2048 .f32) : IVec S_ 1 :=
  let main_c : IVec S_ 32 := constantI S_ 32 0#32
  let main_v0 : IVec S_ 1 := cmpi .sge main_arg0 main_c
  let main_c_0 : IVec S_ 32 := constantI S_ 32 8#32
  let main_v1 : IVec S_ 1 := cmpi .slt main_arg0 main_c_0
  let main_v2 : IVec S_ 1 := andi main_v0 main_v1
  main_v2
-- ==== Pre_pool_finite.lean ====
abbrev S4096x4096 : Shape := ⟨2, ![4096, 4096]⟩
abbrev S4096x2048 : Shape := ⟨2, ![4096, 2048]⟩
abbrev S3x1024 : Shape := ⟨2, ![3, 1024]⟩
abbrev S4x256x256 : Shape := ⟨3, ![4, 256, 256]⟩
abbrev S1024 : Shape := ⟨1, ![1024]⟩
abbrev S4096x1024 : Shape := ⟨2, ![4096, 1024]⟩
abbrev S_ : Shape := ⟨0, ![]⟩

class Facts : Prop where
  slices_S4096x4096_S4096x1024_0_3072 : S4096x4096.Slices ![0, 3072] S4096x1024
  bitsLt_bf16_f32 : FTy.bits .bf16 < FTy.bits .f32
  bcast_S_S4096x1024 : S_.BroadcastsInDim S4096x1024 (![] : Fin 0 → Fin S4096x1024.rank)
  slices_S4096x2048_S4096x1024_0_1024 : S4096x2048.Slices ![0, 1024] S4096x1024
  bcast_S_S4x256x256 : S_.BroadcastsInDim S4x256x256 (![] : Fin 0 → Fin S4x256x256.rank)
  bcast_S_S1024 : S_.BroadcastsInDim S1024 (![] : Fin 0 → Fin S1024.rank)

variable [Facts]

def fn {F : FTy → Type} [FloatOps F] (main_arg0 : FVec F S4096x4096 .bf16) (main_arg1 : FVec F S4096x2048 .bf16) (main_arg2 : FVec F S3x1024 .f32) (main_arg3 : FVec F S4x256x256 .f32) (main_arg4 : FVec F S1024 .f32) : IVec S4096x1024 1 × IVec S4096x1024 1 × IVec S4x256x256 1 × IVec S1024 1 :=
  let main_v0 : FVec F S4096x1024 .bf16 := (extractStridedSlice S4096x1024 ![0, 3072] · slices_S4096x4096_S4096x1024_0_3072) main_arg0
  let main_v1 : FVec F S4096x1024 .f32 := (extf .f32 · bitsLt_bf16_f32) main_v0
  let main_v2 : FVec F S4096x1024 .f32 := Host.absf main_v1
  let main_cst : FVec F S_ .f32 := constant S_ .f32 0x7F800000#32
  let main_v3 : FVec F S4096x1024 .f32 := broadcastInDim S4096x1024 ![] bcast_S_S4096x1024 main_cst
  let main_v4 : IVec S4096x1024 1 := cmpf .olt main_v2 main_v3
  let main_v5 : FVec F S4096x1024 .bf16 := (extractStridedSlice S4096x1024 ![0, 1024] · slices_S4096x2048_S4096x1024_0_1024) main_arg1
  let main_v6 : FVec F S4096x1024 .f32 := (extf .f32 · bitsLt_bf16_f32) main_v5
  let main_v7 : FVec F S4096x1024 .f32 := Host.absf main_v6
  let main_cst_0 : FVec F S_ .f32 := constant S_ .f32 0x7F800000#32
  let main_v8 : FVec F S4096x1024 .f32 := broadcastInDim S4096x1024 ![] bcast_S_S4096x1024 main_cst_0
  let main_v9 : IVec S4096x1024 1 := cmpf .olt main_v7 main_v8
  let main_v10 : FVec F S4x256x256 .f32 := Host.absf main_arg3
  let main_cst_1 : FVec F S_ .f32 := constant S_ .f32 0x7F800000#32
  let main_v11 : FVec F S4x256x256 .f32 := broadcastInDim S4x256x256 ![] bcast_S_S4x256x256 main_cst_1
  let main_v12 : IVec S4x256x256 1 := cmpf .olt main_v10 main_v11
  let main_v13 : FVec F S1024 .f32 := Host.absf main_arg4
  let main_cst_2 : FVec F S_ .f32 := constant S_ .f32 0x7F800000#32
  let main_v14 : FVec F S1024 .f32 := broadcastInDim S1024 ![] bcast_S_S1024 main_cst_2
  let main_v15 : IVec S1024 1 := cmpf .olt main_v13 main_v14
  (main_v4, main_v9, main_v12, main_v15)
-- ==== Pre_pool_input_finite.lean ====
abbrev S4096x4096 : Shape := ⟨2, ![4096, 4096]⟩
abbrev S3x1024 : Shape := ⟨2, ![3, 1024]⟩
abbrev S4x256x256 : Shape := ⟨3, ![4, 256, 256]⟩
abbrev S1024 : Shape := ⟨1, ![1024]⟩
abbrev S4096x1024 : Shape := ⟨2, ![4096, 1024]⟩
abbrev S_ : Shape := ⟨0, ![]⟩

class Facts : Prop where
  slices_S4096x4096_S4096x1024_0_3072 : S4096x4096.Slices ![0, 3072] S4096x1024
  bitsLt_bf16_f32 : FTy.bits .bf16 < FTy.bits .f32
  bcast_S_S4096x1024 : S_.BroadcastsInDim S4096x1024 (![] : Fin 0 → Fin S4096x1024.rank)

variable [Facts]

def fn {F : FTy → Type} [FloatOps F] (main_arg0 : FVec F S4096x4096 .bf16) (main_arg1 : FVec F S3x1024 .f32) (main_arg2 : FVec F S4x256x256 .f32) (main_arg3 : FVec F S1024 .f32) : IVec S4096x1024 1 :=
  let main_v0 : FVec F S4096x1024 .bf16 := (extractStridedSlice S4096x1024 ![0, 3072] · slices_S4096x4096_S4096x1024_0_3072) main_arg0
  let main_v1 : FVec F S4096x1024 .f32 := (extf .f32 · bitsLt_bf16_f32) main_v0
  let main_v2 : FVec F S4096x1024 .f32 := Host.absf main_v1
  let main_cst : FVec F S_ .f32 := constant S_ .f32 0x7F800000#32
  let main_v3 : FVec F S4096x1024 .f32 := broadcastInDim S4096x1024 ![] bcast_S_S4096x1024 main_cst
  let main_v4 : IVec S4096x1024 1 := cmpf .olt main_v2 main_v3
  main_v4
-- ==== Relu2.lean ====
abbrev S4096x2048 : Shape := ⟨2, ![4096, 2048]⟩
abbrev S4096x8192 : Shape := ⟨2, ![4096, 8192]⟩
abbrev S8192x2048 : Shape := ⟨2, ![8192, 2048]⟩
abbrev S1x8192x2048 : Shape := ⟨3, ![1, 8192, 2048]⟩
abbrev S1024x2048 : Shape := ⟨2, ![1024, 2048]⟩
abbrev S1x1024x2048 : Shape := ⟨3, ![1, 1024, 2048]⟩
abbrev S1024x1024 : Shape := ⟨2, ![1024, 1024]⟩

abbrev nBuf : Space → Nat
  | .hbm => 5
  | .vmem => 8
  | .smem => 0
  | _ => 0

abbrev bufTy : (tb : Table) → Fin (tcTables nBuf tb) → BufTy
  | .hbm, ⟨0, _⟩ => ⟨S4096x2048, .bf16⟩
  | .hbm, ⟨1, _⟩ => ⟨S4096x8192, .bf16⟩
  | .hbm, ⟨2, _⟩ => ⟨S8192x2048, .bf16⟩
  | .hbm, ⟨3, _⟩ => ⟨S1x8192x2048, .bf16⟩
  | .hbm, ⟨4, _⟩ => ⟨S4096x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Relu2RefIdeal.lean ====
abbrev S4096x2048 : Shape := ⟨2, ![4096, 2048]⟩
abbrev S4096x8192 : Shape := ⟨2, ![4096, 8192]⟩
abbrev S8192x2048 : Shape := ⟨2, ![8192, 2048]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x8192, .bf16⟩
  | .hbm, ⟨2, _⟩ => ⟨S8192x2048, .bf16⟩
  | .hbm, ⟨3, _⟩ => ⟨S4096x8192, .f32⟩
  | .hbm, ⟨4, _⟩ => ⟨S_, .f32⟩
  | .hbm, ⟨5, _⟩ => ⟨S4096x8192, .f32⟩
  | .hbm, ⟨6, _⟩ => ⟨S4096x8192, .f32⟩
  | .hbm, ⟨7, _⟩ => ⟨S_, .f32⟩
  | .hbm, ⟨8, _⟩ => ⟨S4096x8192, .f32⟩
  | .hbm, ⟨9, _⟩ => ⟨S4096x8192, .i1⟩
  | .hbm, ⟨10, _⟩ => ⟨S_, .f32⟩
  | .hbm, ⟨11, _⟩ => ⟨S4096x8192, .f32⟩
  | .hbm, ⟨12, _⟩ => ⟨S4096x8192, .f32⟩
  | .hbm, ⟨13, _⟩ => ⟨S8192x2048, .f32⟩
  | .hbm, ⟨14, _⟩ => ⟨S4096x2048, .f32⟩
  | .hbm, ⟨15, _⟩ => ⟨S4096x2048, .f32⟩
  | .hbm, ⟨16, _⟩ => ⟨S4096x8192, .f32⟩
  | .hbm, ⟨17, _⟩ => ⟨S4096x8192, .f32⟩
  | .hbm, ⟨18, _⟩ => ⟨S4096x8192, .f32⟩
  | .hbm, ⟨19, _⟩ => ⟨S4096x8192, .f32⟩
  | .hbm, ⟨20, _⟩ => ⟨S_, .f32⟩
  | .hbm, ⟨21, _⟩ => ⟨S4096x8192, .f32⟩
  | .hbm, ⟨22, _⟩ => ⟨S4096x8192, .f32⟩
  | .hbm, ⟨23, _⟩ => ⟨S4096x8192, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩

abbrev nD : Nat := 1
abbrev τ : Topo := Topo.v7x

variable {F : FTy → Type} [FloatOps F]
-- ==== NormBwd.lean ====
abbrev S4096x2048 : Shape := ⟨2, ![4096, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 8
  | .vmem => 10
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .f32⟩
  | .hbm, ⟨2, _⟩ => ⟨S2048, .f32⟩
  | .hbm, ⟨3, _⟩ => ⟨S4096x2048, .bf16⟩
  | .hbm, ⟨4, _⟩ => ⟨S4096x2048, .bf16⟩
  | .hbm, ⟨5, _⟩ => ⟨S1x2048, .f32⟩
  | .hbm, ⟨6, _⟩ => ⟨S4096x2048, .bf16⟩
  | .hbm, ⟨7, _⟩ => ⟨S1x2048, .f32⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S1x2048, .f32⟩
  | .local _ .vmem, ⟨5, _⟩ => ⟨S512x2048, .bf16⟩
  | .local _ .vmem, ⟨6, _⟩ => ⟨S512x2048, .bf16⟩
  | .local _ .vmem, ⟨7, _⟩ => ⟨S512x2048, .bf16⟩
  | .local _ .vmem, ⟨8, _⟩ => ⟨S512x2048, .bf16⟩
  | .local _ .vmem, ⟨9, _⟩ => ⟨S1x2048, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v37 : BitVec 1 := Scalar.cmpi .eq arg0 c0_i32
  let v38 : BitVec 32 := Scalar.extui v37
  let c0_i32_14 : BitVec 32 := 0#32
  let v39 : BitVec 1 := Scalar.cmpi .ne v38 c0_i32_14
  v39

def k0_cond2 (i : grid0.Coords) : BitVec 1 :=
  let arg0 : BitVec 32 := BitVec.ofNat 32 (i 0).val
  let c0_i32_15 : BitVec 32 := 0#32
  let v40 : BitVec 1 := Scalar.cmpi .sgt arg0 c0_i32_15
  let v41 : BitVec 32 := Scalar.extui v40
  let c0_i32_16 : BitVec 32 := 0#32
  let v42 : BitVec 1 := Scalar.cmpi .ne v41 c0_i32_16
  v42

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== NormBwdRefIdeal.lean ====
abbrev S4096x2048 : Shape := ⟨2, ![4096, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩

abbrev nBuf : Space → Nat
  | .hbm => 54
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .f32⟩
  | .hbm, ⟨2, _⟩ => ⟨S2048, .f32⟩
  | .hbm, ⟨3, _⟩ => ⟨S4096x2048, .bf16⟩
  | .hbm, ⟨4, _⟩ => ⟨S4096x2048, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x2048, .f32⟩
  | .hbm, ⟨20, _⟩ => ⟨S4096x2048, .f32⟩
  | .hbm, ⟨21, _⟩ => ⟨S1x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S4096x2048, .f32⟩
  | .hbm, ⟨27, _⟩ => ⟨S_, .f32⟩
  | .hbm, ⟨28, _⟩ => ⟨S2048, .f32⟩
  | .hbm, ⟨29, _⟩ => ⟨S1x2048, .f32⟩
  | .hbm, ⟨30, _⟩ => ⟨S4096x2048, .f32⟩
  | .hbm, ⟨31, _⟩ => ⟨S4096x2048, .f32⟩
  | .hbm, ⟨32, _⟩ => ⟨S_, .f32⟩
  | .hbm, ⟨33, _⟩ => ⟨S2048, .f32⟩
  | .hbm, ⟨34, _⟩ => ⟨S4096x2048, .f32⟩
  | .hbm, ⟨35, _⟩ => ⟨S_, .f32⟩
  | .hbm, ⟨36, _⟩ => ⟨S4096, .f32⟩
  | .hbm, ⟨37, _⟩ => ⟨S4096x1, .f32⟩
  | .hbm, ⟨38, _⟩ => ⟨S4096x2048, .f32⟩
  | .hbm, ⟨39, _⟩ => ⟨S4096x2048, .f32⟩
  | .hbm, ⟨40, _⟩ => ⟨S4096x2048, .f32⟩
  | .hbm, ⟨41, _⟩ => ⟨S4096x1, .f32⟩
  | .hbm, ⟨42, _⟩ => ⟨S_, .f32⟩
  | .hbm, ⟨43, _⟩ => ⟨S4096x1, .f32⟩
  | .hbm, ⟨44, _⟩ => ⟨S4096x1, .f32⟩
  | .hbm, ⟨45, _⟩ => ⟨S_, .f32⟩
  | .hbm, ⟨46, _⟩ => ⟨S4096, .f32⟩
  | .hbm, ⟨47, _⟩ => ⟨S4096x2048, .f32⟩
  | .hbm, ⟨48, _⟩ => ⟨S4096x2048, .f32⟩
  | .hbm, ⟨49, _⟩ => ⟨S4096x2048, .f32⟩
  | .hbm, ⟨50, _⟩ => ⟨S4096x2048, .f32⟩
  | .hbm, ⟨51, _⟩ => ⟨S4096x2048, .f32⟩
  | .hbm, ⟨52, _⟩ => ⟨S4096x2048, .bf16⟩
  | .hbm, ⟨53, _⟩ => ⟨S1x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_4 : Ref sig .tc := ⟨.hbm, 32, rfl⟩
abbrev main_v23 : Ref sig .tc := ⟨.hbm, 33, rfl⟩
abbrev main_v24 : Ref sig .tc := ⟨.hbm, 34, rfl⟩
abbrev main_cst_5 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_6 : Ref sig .tc := ⟨.hbm, 42, rfl⟩
abbrev main_v31 : Ref sig .tc := ⟨.hbm, 43, rfl⟩
abbrev main_v32 : Ref sig .tc := ⟨.hbm, 44, rfl⟩
abbrev main_cst_7 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩

abbrev nD : Nat := 1
abbrev τ : Topo := Topo.v7x

variable {F : FTy → Type} [FloatOps F]
-- ==== Loss.lean ====
abbrev S4096x2048 : Shape := ⟨2, ![4096, 2048]⟩
abbrev S2048 : Shape := ⟨1, ![2048]⟩
abbrev S1x2048 : Shape := ⟨2, ![1, 2048]⟩
abbrev S1x1 : Shape := ⟨2, ![1, 1]⟩
abbrev S512x2048 : Shape := ⟨2, ![512, 2048]⟩
abbrev S512 : Shape := ⟨1, ![512]⟩
abbrev S512x1 : Shape := ⟨2, ![512, 1]⟩
abbrev S1 : Shape := ⟨1, ![1]⟩

abbrev nBuf : Space → Nat
  | .hbm => 7
  | .vmem => 10
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S4096x2048, .f32⟩
  | .hbm, ⟨3, _⟩ => ⟨S1x2048, .f32⟩
  | .hbm, ⟨4, _⟩ => ⟨S1x1, .f32⟩
  | .hbm, ⟨5, _⟩ => ⟨S4096x2048, .bf16⟩
  | .hbm, ⟨6, _⟩ => ⟨S1x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .f32⟩
  | .local _ .vmem, ⟨4, _⟩ => ⟨S512x2048, .f32⟩
  | .local _ .vmem, ⟨5, _⟩ => ⟨S1x1, .f32⟩
  | .local _ .vmem, ⟨6, _⟩ => ⟨S512x2048, .bf16⟩
  | .local _ .vmem, ⟨7, _⟩ => ⟨S512x2048, .bf16⟩
  | .local _ .vmem, ⟨8, _⟩ => ⟨S1x2048, .f32⟩
  | .local _ .vmem, ⟨9, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨1, ![8], ![false]⟩

def k0_cond3 (i : grid0.Coords) : BitVec 1 :=
  let arg0 : BitVec 32 := BitVec.ofNat 32 (i 0).val
  let c7_i32 : BitVec 32 := 7#32
  let v45 : BitVec 1 := Scalar.cmpi .eq arg0 c7_i32
  let v46 : BitVec 32 := Scalar.extui v45
  let c0_i32_17 : BitVec 32 := 0#32
  let v47 : BitVec 1 := Scalar.cmpi .ne v46 c0_i32_17
  v47

def k0_cond1 (i : grid0.Coords) : BitVec 1 :=
  let arg0 : BitVec 32 := BitVec.ofNat 32 (i 0).val
  let c0_i32 : BitVec 32 := 0#32
  let v39 : BitVec 1 := Scalar.cmpi .eq arg0 c0_i32
  let v40 : BitVec 32 := Scalar.extui v39
  let c0_i32_14 : BitVec 32 := 0#32
  let v41 : BitVec 1 := Scalar.cmpi .ne v40 c0_i32_14
  v41

def k0_cond2 (i : grid0.Coords) : BitVec 1 :=
  let arg0 : BitVec 32 := BitVec.ofNat 32 (i 0).val
  let c0_i32_15 : BitVec 32 := 0#32
  let v42 : BitVec 1 := Scalar.cmpi .sgt arg0 c0_i32_15
  let v43 : BitVec 32 := Scalar.extui v42
  let c0_i32_16 : BitVec 32 := 0#32
  let v44 : BitVec 1 := Scalar.cmpi .ne v43 c0_i32_16
  v44

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== LossRefIdeal.lean ====
abbrev S4096x2048 : Shape := ⟨2, ![4096, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩
abbrev S1x1 : Shape := ⟨2, ![1, 1]⟩

abbrev nBuf : Space → Nat
  | .hbm => 74
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S4096x2048, .f32⟩
  | .hbm, ⟨3, _⟩ => ⟨S4096x2048, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x2048, .f32⟩
  | .hbm, ⟨19, _⟩ => ⟨S4096x2048, .f32⟩
  | .hbm, ⟨20, _⟩ => ⟨S1x2048, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S_, .f32⟩
  | .hbm, ⟨26, _⟩ => ⟨S4096x2048, .f32⟩
  | .hbm, ⟨27, _⟩ => ⟨S4096x2048, .f32⟩
  | .hbm, ⟨28, _⟩ => ⟨S_, .f32⟩
  | .hbm, ⟨29, _⟩ => ⟨S4096, .f32⟩
  | .hbm, ⟨30, _⟩ => ⟨S_, .f32⟩
  | .hbm, ⟨31, _⟩ => ⟨S4096, .f32⟩
  | .hbm, ⟨32, _⟩ => ⟨S4096, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S4096, .f32⟩
  | .hbm, ⟨41, _⟩ => ⟨S_, .f32⟩
  | .hbm, ⟨42, _⟩ => ⟨S4096, .f32⟩
  | .hbm, ⟨43, _⟩ => ⟨S4096, .f32⟩
  | .hbm, ⟨44, _⟩ => ⟨S4096x2048, .f32⟩
  | .hbm, ⟨45, _⟩ => ⟨S4096x2048, .f32⟩
  | .hbm, ⟨46, _⟩ => ⟨S4096x2048, .f32⟩
  | .hbm, ⟨47, _⟩ => ⟨S_, .f32⟩
  | .hbm, ⟨48, _⟩ => ⟨S2048, .f32⟩
  | .hbm, ⟨49, _⟩ => ⟨S1x2048, .f32⟩
  | .hbm, ⟨50, _⟩ => ⟨S4096x2048, .f32⟩
  | .hbm, ⟨51, _⟩ => ⟨S4096x2048, .f32⟩
  | .hbm, ⟨52, _⟩ => ⟨S_, .f32⟩
  | .hbm, ⟨53, _⟩ => ⟨S2048, .f32⟩
  | .hbm, ⟨54, _⟩ => ⟨S4096x2048, .f32⟩
  | .hbm, ⟨55, _⟩ => ⟨S_, .f32⟩
  | .hbm, ⟨56, _⟩ => ⟨S4096, .f32⟩
  | .hbm, ⟨57, _⟩ => ⟨S4096x1, .f32⟩
  | .hbm, ⟨58, _⟩ => ⟨S4096x2048, .f32⟩
  | .hbm, ⟨59, _⟩ => ⟨S4096x2048, .f32⟩
  | .hbm, ⟨60, _⟩ => ⟨S4096x1, .f32⟩
  | .hbm, ⟨61, _⟩ => ⟨S_, .f32⟩
  | .hbm, ⟨62, _⟩ => ⟨S4096x1, .f32⟩
  | .hbm, ⟨63, _⟩ => ⟨S4096x1, .f32⟩
  | .hbm, ⟨64, _⟩ => ⟨S_, .f32⟩
  | .hbm, ⟨65, _⟩ => ⟨S4096, .f32⟩
  | .hbm, ⟨66, _⟩ => ⟨S4096x2048, .f32⟩
  | .hbm, ⟨67, _⟩ => ⟨S4096x2048, .f32⟩
  | .hbm, ⟨68, _⟩ => ⟨S4096x2048, .f32⟩
  | .hbm, ⟨69, _⟩ => ⟨S4096x2048, .f32⟩
  | .hbm, ⟨70, _⟩ => ⟨S4096x2048, .f32⟩
  | .hbm, ⟨71, _⟩ => ⟨S1x1, .f32⟩
  | .hbm, ⟨72, _⟩ => ⟨S4096x2048, .bf16⟩
  | .hbm, ⟨73, _⟩ => ⟨S1x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩

abbrev nD : Nat := 1
abbrev τ : Topo := Topo.v7x

variable {F : FTy → Type} [FloatOps F]
-- ==== MixerBwd.lean ====
abbrev S4096x4096 : Shape := ⟨2, ![4096, 4096]⟩
abbrev S4096x2048 : Shape := ⟨2, ![4096, 2048]⟩
abbrev S3x1024 : Shape := ⟨2, ![3, 1024]⟩
abbrev S4x256x256 : Shape := ⟨3, ![4, 256, 256]⟩
abbrev S1024 : Shape := ⟨1, ![1024]⟩
abbrev S1x1024 : Shape := ⟨2, ![1, 1024]⟩
abbrev S512x4096 : Shape := ⟨2, ![512, 4096]⟩
abbrev S16x4096 : Shape := ⟨2, ![16, 4096]⟩
abbrev S512x2048 : Shape := ⟨2, ![512, 2048]⟩
abbrev S16x2048 : Shape := ⟨2, ![16, 2048]⟩
abbrev S512x256 : Shape := ⟨2, ![512, 256]⟩
abbrev S16x256 : Shape := ⟨2, ![16, 256]⟩
abbrev S528x256 : Shape := ⟨2, ![528, 256]⟩
abbrev S1x256 : Shape := ⟨2, ![1, 256]⟩
abbrev S256 : Shape := ⟨1, ![256]⟩
abbrev S1x256x256 : Shape := ⟨3, ![1, 256, 256]⟩
abbrev S256x256 : Shape := ⟨2, ![256, 256]⟩

abbrev nBuf : Space → Nat
  | .hbm => 11
  | .vmem => 18
  | .smem => 0
  | _ => 0

abbrev bufTy : (tb : Table) → Fin (tcTables nBuf tb) → BufTy
  | .hbm, ⟨0, _⟩ => ⟨S4096x4096, .bf16⟩
  | .hbm, ⟨1, _⟩ => ⟨S4096x2048, .bf16⟩
  | .hbm, ⟨2, _⟩ => ⟨S3x1024, .f32⟩
  | .hbm, ⟨3, _⟩ => ⟨S4x256x256, .f32⟩
  | .hbm, ⟨4, _⟩ => ⟨S1024, .f32⟩
  | .hbm, ⟨5, _⟩ => ⟨S4x256x256, .bf16⟩
  | .hbm, ⟨6, _⟩ => ⟨S1x1024, .f32⟩
  | .hbm, ⟨7, _⟩ => ⟨S4096x4096, .bf16⟩
  | .hbm, ⟨8, _⟩ => ⟨S3x1024, .f32⟩
  | .hbm, ⟨9, _⟩ => ⟨S4x256x256, .f32⟩
  | .hbm, ⟨10, _⟩ => ⟨S1x1024, .f32⟩
  | .local _ .vmem, ⟨0, _⟩ => ⟨S512x4096, .bf16⟩
  | .local _ .vmem, ⟨1, _⟩ => ⟨S512x4096, .bf16⟩
  | .local _ .vmem, ⟨2, _⟩ => ⟨S16x4096, .bf16⟩
  | .local _ .vmem, ⟨3, _⟩ => ⟨S16x4096, .bf16⟩
  | .local _ .vmem, ⟨4, _⟩ => ⟨S16x4096, .bf16⟩
  | .local _ .vmem, ⟨5, _⟩ => ⟨S16x4096, .bf16⟩
  | .local _ .vmem, ⟨6, _⟩ => ⟨S512x2048, .bf16⟩
  | .local _ .vmem, ⟨7, _⟩ => ⟨S512x2048, .bf16⟩
  | .local _ .vmem, ⟨8, _⟩ => ⟨S16x2048, .bf16⟩
  | .local _ .vmem, ⟨9, _⟩ => ⟨S16x2048, .bf16⟩
  | .local _ .vmem, ⟨10, _⟩ => ⟨S3x1024, .f32⟩
  | .local _ .vmem, ⟨11, _⟩ => ⟨S4x256x256, .bf16⟩
  | .local _ .vmem, ⟨12, _⟩ => ⟨S1x1024, .f32⟩
  | .local _ .vmem, ⟨13, _⟩ => ⟨S512x4096, .bf16⟩
  | .local _ .vmem, ⟨14, _⟩ => ⟨S512x4096, .bf16⟩
  | .local _ .vmem, ⟨15, _⟩ => ⟨S3x1024, .f32⟩
  | .local _ .vmem, ⟨16, _⟩ => ⟨S4x256x256, .f32⟩
  | .local _ .vmem, ⟨17, _⟩ => ⟨S1x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem10_0 : DmaSem sig := 16
abbrev cc0_sem11_0 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c255_i32 : BitVec 32 := 255#32
  let v2 : BitVec 32 := Scalar.minsi v1 c255_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c255_i32 : BitVec 32 := 255#32
  let v2 : BitVec 32 := Scalar.minsi v1 c255_i32
  let c0_i32 : BitVec 32 := 0#32
  let c0_i32_0 : BitVec 32 := 0#32
  ![v2.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S3x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x4096 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S3x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S4x256x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== MixerBwdRefIdeal.lean ====
abbrev S4096x4096 : Shape := ⟨2, ![4096, 4096]⟩
abbrev S4096x2048 : Shape := ⟨2, ![4096, 2048]⟩
abbrev S3x1024 : Shape := ⟨2, ![3, 1024]⟩
abbrev S4x256x256 : Shape := ⟨3, ![4, 256, 256]⟩
abbrev S1024 : Shape := ⟨1, ![1024]⟩
abbrev S4096x1024 : Shape := ⟨2, ![4096, 1024]⟩
abbrev S_ : Shape := ⟨0, ![]⟩
abbrev S2x1024 : Shape := ⟨2, ![2, 1024]⟩
abbrev S4098x1024 : Shape := ⟨2, ![4098, 1024]⟩
abbrev S1x1024 : Shape := ⟨2, ![1, 1024]⟩
abbrev S4096x4x256 : Shape := ⟨3, ![4096, 4, 256]⟩
abbrev S4096 : Shape := ⟨1, ![4096]⟩
abbrev S4096x1x256 : Shape := ⟨3, ![4096, 1, 256]⟩
abbrev S4096x256 : Shape := ⟨2, ![4096, 256]⟩
abbrev S2x256 : Shape := ⟨2, ![2, 256]⟩
abbrev S4094x256 : Shape := ⟨2, ![4094, 256]⟩
abbrev S4096x1 : Shape := ⟨2, ![4096, 1]⟩
abbrev S4x256 : Shape := ⟨2, ![4, 256]⟩
abbrev S4092x256 : Shape := ⟨2, ![4092, 256]⟩
abbrev S8x256 : Shape := ⟨2, ![8, 256]⟩
abbrev S4088x256 : Shape := ⟨2, ![4088, 256]⟩
abbrev S16x256 : Shape := ⟨2, ![16, 256]⟩
abbrev S4080x256 : Shape := ⟨2, ![4080, 256]⟩
abbrev S4x256x4096 : Shape := ⟨3, ![4, 256, 4096]⟩
abbrev S4x4096x256 : Shape := ⟨3, ![4, 4096, 256]⟩

abbrev nBuf : Space → Nat
  | .hbm => 296
  | .vmem => 0
  | .smem => 0
  | _ => 0

abbrev hbmTy0_0 (i : Nat) : BufTy := match i % 128 with
  | 0 => ⟨S4096x4096, .bf16⟩
  | 1 => ⟨S4096x2048, .bf16⟩
  | 2 => ⟨S3x1024, .f32⟩
  | 3 => ⟨S4x256x256, .f32⟩
  | 4 => ⟨S1024, .f32⟩
  | 5 => ⟨S4096x4096, .f32⟩
  | 6 => ⟨S4096x1024, .f32⟩
  | 7 => ⟨S4096x1024, .f32⟩
  | 8 => ⟨S4096x1024, .f32⟩
  | 9 => ⟨S4096x1024, .f32⟩
  | 10 => ⟨S4096x1024, .f32⟩
  | 11 => ⟨S_, .f32⟩
  | 12 => ⟨S2x1024, .f32⟩
  | 13 => ⟨S4098x1024, .f32⟩
  | 14 => ⟨S_, .f32⟩
  | 15 => ⟨S2x1024, .f32⟩
  | 16 => ⟨S1x1024, .f32⟩
  | 17 => ⟨S1024, .f32⟩
  | 18 => ⟨S4096x1024, .f32⟩
  | 19 => ⟨S1x1024, .f32⟩
  | 20 => ⟨S4096x1024, .f32⟩
  | 21 => ⟨S4096x1024, .f32⟩
  | 22 => ⟨S1x1024, .f32⟩
  | 23 => ⟨S1024, .f32⟩
  | 24 => ⟨S4096x1024, .f32⟩
  | 25 => ⟨S1x1024, .f32⟩
  | 26 => ⟨S4096x1024, .f32⟩
  | 27 => ⟨S4096x1024, .f32⟩
  | 28 => ⟨S4096x1024, .f32⟩
  | 29 => ⟨S1x1024, .f32⟩
  | 30 => ⟨S1024, .f32⟩
  | 31 => ⟨S4096x1024, .f32⟩
  | 32 => ⟨S1x1024, .f32⟩
  | 33 => ⟨S4096x1024, .f32⟩
  | 34 => ⟨S4096x1024, .f32⟩
  | 35 => ⟨S4096x1024, .f32⟩
  | 36 => ⟨S4096x1024, .f32⟩
  | 37 => ⟨S4096x4x256, .f32⟩
  | 38 => ⟨S_, .f32⟩
  | 39 => ⟨S_, .f32⟩
  | 40 => ⟨S4096x4x256, .f32⟩
  | 41 => ⟨S4096, .f32⟩
  | 42 => ⟨S4096x1x256, .f32⟩
  | 43 => ⟨S4096x256, .f32⟩
  | 44 => ⟨S_, .f32⟩
  | 45 => ⟨S2x256, .f32⟩
  | 46 => ⟨S4094x256, .f32⟩
  | 47 => ⟨S4096x256, .f32⟩
  | 48 => ⟨S_, .f32⟩
  | 49 => ⟨S2x256, .f32⟩
  | 50 => ⟨S_, .f32⟩
  | 51 => ⟨S4096, .f32⟩
  | 52 => ⟨S4096, .f32⟩
  | 53 => ⟨S_, .f32⟩
  | 54 => ⟨S4096, .f32⟩
  | 55 => ⟨S4096, .f32⟩
  | 56 => ⟨S4096x1, .f32⟩
  | 57 => ⟨S4096x256, .f32⟩
  | 58 => ⟨S4096x256, .f32⟩
  | 59 => ⟨S4096x256, .f32⟩
  | 60 => ⟨S4096x1x256, .f32⟩
  | 61 => ⟨S4096x256, .f32⟩
  | 62 => ⟨S4096x256, .f32⟩
  | 63 => ⟨S4096x1x256, .f32⟩
  | 64 => ⟨S4096x256, .f32⟩
  | 65 => ⟨S_, .f32⟩
  | 66 => ⟨S4x256, .f32⟩
  | 67 => ⟨S4092x256, .f32⟩
  | 68 => ⟨S4096x256, .f32⟩
  | 69 => ⟨S_, .f32⟩
  | 70 => ⟨S4x256, .f32⟩
  | 71 => ⟨S_, .f32⟩
  | 72 => ⟨S4096, .f32⟩
  | 73 => ⟨S4096, .f32⟩
  | 74 => ⟨S_, .f32⟩
  | 75 => ⟨S4096, .f32⟩
  | 76 => ⟨S4096, .f32⟩
  | 77 => ⟨S4096x1, .f32⟩
  | 78 => ⟨S4096x256, .f32⟩
  | 79 => ⟨S4096x256, .f32⟩
  | 80 => ⟨S4096x256, .f32⟩
  | 81 => ⟨S4096x1x256, .f32⟩
  | 82 => ⟨S4096x256, .f32⟩
  | 83 => ⟨S4096x256, .f32⟩
  | 84 => ⟨S4096x1x256, .f32⟩
  | 85 => ⟨S4096x256, .f32⟩
  | 86 => ⟨S_, .f32⟩
  | 87 => ⟨S8x256, .f32⟩
  | 88 => ⟨S4088x256, .f32⟩
  | 89 => ⟨S4096x256, .f32⟩
  | 90 => ⟨S_, .f32⟩
  | 91 => ⟨S8x256, .f32⟩
  | 92 => ⟨S_, .f32⟩
  | 93 => ⟨S4096, .f32⟩
  | 94 => ⟨S4096, .f32⟩
  | 95 => ⟨S_, .f32⟩
  | 96 => ⟨S4096, .f32⟩
  | 97 => ⟨S4096, .f32⟩
  | 98 => ⟨S4096x1, .f32⟩
  | 99 => ⟨S4096x256, .f32⟩
  | 100 => ⟨S4096x256, .f32⟩
  | 101 => ⟨S4096x256, .f32⟩
  | 102 => ⟨S4096x1x256, .f32⟩
  | 103 => ⟨S4096x256, .f32⟩
  | 104 => ⟨S4096x256, .f32⟩
  | 105 => ⟨S4096x1x256, .f32⟩
  | 106 => ⟨S4096x256, .f32⟩
  | 107 => ⟨S_, .f32⟩
  | 108 => ⟨S16x256, .f32⟩
  | 109 => ⟨S4080x256, .f32⟩
  | 110 => ⟨S4096x256, .f32⟩
  | 111 => ⟨S_, .f32⟩
  | 112 => ⟨S16x256, .f32⟩
  | 113 => ⟨S_, .f32⟩
  | 114 => ⟨S4096, .f32⟩
  | 115 => ⟨S4096, .f32⟩
  | 116 => ⟨S_, .f32⟩
  | 117 => ⟨S4096, .f32⟩
  | 118 => ⟨S4096, .f32⟩
  | 119 => ⟨S4096x1, .f32⟩
  | 120 => ⟨S4096x256, .f32⟩
  | 121 => ⟨S4096x256, .f32⟩
  | 122 => ⟨S4096x256, .f32⟩
  | 123 => ⟨S4096x1x256, .f32⟩
  | 124 => ⟨S4096x256, .f32⟩
  | 125 => ⟨S4096x256, .f32⟩
  | 126 => ⟨S4096x1x256, .f32⟩
  | 127 => ⟨S4096x1x256, .f32⟩
  | _ => ⟨S4096x4096, .bf16⟩

abbrev hbmTy0_1 (i : Nat) : BufTy := match i % 128 with
  | 0 => ⟨S4096x1x256, .f32⟩
  | 1 => ⟨S4096x1x256, .f32⟩
  | 2 => ⟨S4096x4x256, .f32⟩
  | 3 => ⟨S4x256x4096, .f32⟩
  | 4 => ⟨S4096x4x256, .f32⟩
  | 5 => ⟨S4096x1024, .f32⟩
  | 6 => ⟨S1x1024, .f32⟩
  | 7 => ⟨S4096x1024, .f32⟩
  | 8 => ⟨S4096x1024, .f32⟩
  | 9 => ⟨S4096x2048, .f32⟩
  | 10 => ⟨S4096x2048, .f32⟩
  | 11 => ⟨S4096x1024, .f32⟩
  | 12 => ⟨S4096x1024, .f32⟩
  | 13 => ⟨S4096x1024, .f32⟩
  | 14 => ⟨S_, .f32⟩
  | 15 => ⟨S1024, .f32⟩
  | 16 => ⟨S1x1024, .f32⟩
  | 17 => ⟨S4096x1024, .f32⟩
  | 18 => ⟨S4096x1024, .f32⟩
  | 19 => ⟨S_, .f32⟩
  | 20 => ⟨S1024, .f32⟩
  | 21 => ⟨S4096x4x256, .f32⟩
  | 22 => ⟨S4x256x4096, .f32⟩
  | 23 => ⟨S4x4096x256, .f32⟩
  | 24 => ⟨S4096x4x256, .f32⟩
  | 25 => ⟨S4x256x256, .f32⟩
  | 26 => ⟨S4x256x256, .f32⟩
  | 27 => ⟨S4096x1x256, .f32⟩
  | 28 => ⟨S4096x256, .f32⟩
  | 29 => ⟨S4096x1x256, .f32⟩
  | 30 => ⟨S4096x256, .f32⟩
  | 31 => ⟨S4096x1x256, .f32⟩
  | 32 => ⟨S4096x256, .f32⟩
  | 33 => ⟨S4096x1x256, .f32⟩
  | 34 => ⟨S4096x256, .f32⟩
  | 35 => ⟨S4096x256, .f32⟩
  | 36 => ⟨S4096x1x256, .f32⟩
  | 37 => ⟨S_, .f32⟩
  | 38 => ⟨S4096x4x256, .f32⟩
  | 39 => ⟨S4096x256, .f32⟩
  | 40 => ⟨S4096x256, .f32⟩
  | 41 => ⟨S4096x256, .f32⟩
  | 42 => ⟨S16x256, .f32⟩
  | 43 => ⟨S4080x256, .f32⟩
  | 44 => ⟨S_, .f32⟩
  | 45 => ⟨S4096x256, .f32⟩
  | 46 => ⟨S4096x256, .f32⟩
  | 47 => ⟨S4096x1x256, .f32⟩
  | 48 => ⟨S_, .f32⟩
  | 49 => ⟨S4096x4x256, .f32⟩
  | 50 => ⟨S4096x256, .f32⟩
  | 51 => ⟨S4096x1x256, .f32⟩
  | 52 => ⟨S_, .f32⟩
  | 53 => ⟨S4096x4x256, .f32⟩
  | 54 => ⟨S4096x4x256, .f32⟩
  | 55 => ⟨S4096x256, .f32⟩
  | 56 => ⟨S4096x256, .f32⟩
  | 57 => ⟨S4096x256, .f32⟩
  | 58 => ⟨S8x256, .f32⟩
  | 59 => ⟨S4088x256, .f32⟩
  | 60 => ⟨S_, .f32⟩
  | 61 => ⟨S4096x256, .f32⟩
  | 62 => ⟨S4096x256, .f32⟩
  | 63 => ⟨S4096x1x256, .f32⟩
  | 64 => ⟨S_, .f32⟩
  | 65 => ⟨S4096x4x256, .f32⟩
  | 66 => ⟨S4096x4x256, .f32⟩
  | 67 => ⟨S4096x256, .f32⟩
  | 68 => ⟨S4096x1x256, .f32⟩
  | 69 => ⟨S_, .f32⟩
  | 70 => ⟨S4096x4x256, .f32⟩
  | 71 => ⟨S4096x4x256, .f32⟩
  | 72 => ⟨S4096x256, .f32⟩
  | 73 => ⟨S4096x256, .f32⟩
  | 74 => ⟨S4096x256, .f32⟩
  | 75 => ⟨S4x256, .f32⟩
  | 76 => ⟨S4092x256, .f32⟩
  | 77 => ⟨S_, .f32⟩
  | 78 => ⟨S4096x256, .f32⟩
  | 79 => ⟨S4096x256, .f32⟩
  | 80 => ⟨S4096x1x256, .f32⟩
  | 81 => ⟨S_, .f32⟩
  | 82 => ⟨S4096x4x256, .f32⟩
  | 83 => ⟨S4096x4x256, .f32⟩
  | 84 => ⟨S4096x256, .f32⟩
  | 85 => ⟨S4096x1x256, .f32⟩
  | 86 => ⟨S_, .f32⟩
  | 87 => ⟨S4096x4x256, .f32⟩
  | 88 => ⟨S4096x4x256, .f32⟩
  | 89 => ⟨S4096x256, .f32⟩
  | 90 => ⟨S4096x256, .f32⟩
  | 91 => ⟨S4096x256, .f32⟩
  | 92 => ⟨S2x256, .f32⟩
  | 93 => ⟨S4094x256, .f32⟩
  | 94 => ⟨S_, .f32⟩
  | 95 => ⟨S4096x256, .f32⟩
  | 96 => ⟨S4096x256, .f32⟩
  | 97 => ⟨S4096x1x256, .f32⟩
  | 98 => ⟨S_, .f32⟩
  | 99 => ⟨S4096x4x256, .f32⟩
  | 100 => ⟨S4096x4x256, .f32⟩
  | 101 => ⟨S_, .f32⟩
  | 102 => ⟨S_, .f32⟩
  | 103 => ⟨S4096x4x256, .f32⟩
  | 104 => ⟨S4096x4x256, .f32⟩
  | 105 => ⟨S4096x1024, .f32⟩
  | 106 => ⟨S4096x1024, .f32⟩
  | 107 => ⟨S4096x1024, .f32⟩
  | 108 => ⟨S4096x1024, .f32⟩
  | 109 => ⟨S4096x1024, .f32⟩
  | 110 => ⟨S4096x1024, .f32⟩
  | 111 => ⟨S_, .f32⟩
  | 112 => ⟨S1024, .f32⟩
  | 113 => ⟨S1x1024, .f32⟩
  | 114 => ⟨S_, .f32⟩
  | 115 => ⟨S1024, .f32⟩
  | 116 => ⟨S_, .f32⟩
  | 117 => ⟨S4098x1024, .f32⟩
  | 118 => ⟨S1x1024, .f32⟩
  | 119 => ⟨S_, .f32⟩
  | 120 => ⟨S3x1024, .f32⟩
  | 121 => ⟨S4096x1024, .f32⟩
  | 122 => ⟨S4096x1024, .f32⟩
  | 123 => ⟨S4096x1024, .f32⟩
  | 124 => ⟨S_, .f32⟩
  | 125 => ⟨S1024, .f32⟩
  | 126 => ⟨S1x1024, .f32⟩
  | 127 => ⟨S_, .f32⟩
  | _ => ⟨S4096x4096, .bf16⟩

abbrev hbmTy0_2 (i : Nat) : BufTy := match i % 128 with
  | 0 => ⟨S1024, .f32⟩
  | 1 => ⟨S_, .f32⟩
  | 2 => ⟨S4098x1024, .f32⟩
  | 3 => ⟨S4098x1024, .f32⟩
  | 4 => ⟨S1x1024, .f32⟩
  | 5 => ⟨S_, .f32⟩
  | 6 => ⟨S3x1024, .f32⟩
  | 7 => ⟨S3x1024, .f32⟩
  | 8 => ⟨S4096x1024, .f32⟩
  | 9 => ⟨S4096x1024, .f32⟩
  | 10 => ⟨S4096x1024, .f32⟩
  | 11 => ⟨S_, .f32⟩
  | 12 => ⟨S1024, .f32⟩
  | 13 => ⟨S1x1024, .f32⟩
  | 14 => ⟨S_, .f32⟩
  | 15 => ⟨S1024, .f32⟩
  | 16 => ⟨S_, .f32⟩
  | 17 => ⟨S4098x1024, .f32⟩
  | 18 => ⟨S4098x1024, .f32⟩
  | 19 => ⟨S1x1024, .f32⟩
  | 20 => ⟨S_, .f32⟩
  | 21 => ⟨S3x1024, .f32⟩
  | 22 => ⟨S3x1024, .f32⟩
  | 23 => ⟨S2x1024, .f32⟩
  | 24 => ⟨S4096x1024, .f32⟩
  | 25 => ⟨S4096x1024, .f32⟩
  | 26 => ⟨S4096x1024, .f32⟩
  | 27 => ⟨S_, .f32⟩
  | 28 => ⟨S4096x4096, .f32⟩
  | 29 => ⟨S_, .f32⟩
  | 30 => ⟨S4096x4096, .f32⟩
  | 31 => ⟨S4096x4096, .f32⟩
  | 32 => ⟨S_, .f32⟩
  | 33 => ⟨S4096x4096, .f32⟩
  | 34 => ⟨S4096x4096, .f32⟩
  | 35 => ⟨S_, .f32⟩
  | 36 => ⟨S4096x4096, .f32⟩
  | 37 => ⟨S4096x4096, .f32⟩
  | 38 => ⟨S4096x4096, .bf16⟩
  | 39 => ⟨S1x1024, .f32⟩
  | _ => ⟨S4096x4096, .bf16⟩

abbrev hbmTy (i : Nat) : BufTy := match i / 128 with
  | 0 => hbmTy0_0 i
  | 1 => hbmTy0_1 i
  | 2 => hbmTy0_2 i
  | _ => ⟨S4096x4096, .bf16⟩

abbrev bufTy : (tb : Table) → Fin (tcTables nBuf tb) → BufTy
  | .hbm, ⟨i, _⟩ => hbmTy i
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_call0_call0_cst : Ref sig .tc := ⟨.hbm, 38, rfl⟩
abbrev main_call0_call0_v0 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_cst_1 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_cst_2 : Ref sig .tc := ⟨.hbm, 48, rfl⟩
abbrev main_v38 : Ref sig .tc := ⟨.hbm, 49, rfl⟩
abbrev main_cst_3 : Ref sig .tc := ⟨.hbm, 50, rfl⟩
abbrev main_v39 : Ref sig .tc := ⟨.hbm, 51, rfl⟩
abbrev main_v40 : Ref sig .tc := ⟨.hbm, 52, rfl⟩
abbrev main_cst_4 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_cst_5 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_cst_6 : Ref sig .tc := ⟨.hbm, 69, rfl⟩
abbrev main_v55 : Ref sig .tc := ⟨.hbm, 70, rfl⟩
abbrev main_cst_7 : Ref sig .tc := ⟨.hbm, 71, rfl⟩
abbrev main_v56 : Ref sig .tc := ⟨.hbm, 72, rfl⟩
abbrev main_v57 : Ref sig .tc := ⟨.hbm, 73, rfl⟩
abbrev main_cst_8 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_cst_9 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_cst_10 : Ref sig .tc := ⟨.hbm, 90, rfl⟩
abbrev main_v72 : Ref sig .tc := ⟨.hbm, 91, rfl⟩
abbrev main_cst_11 : Ref sig .tc := ⟨.hbm, 92, rfl⟩
abbrev main_v73 : Ref sig .tc := ⟨.hbm, 93, rfl⟩
abbrev main_v74 : Ref sig .tc := ⟨.hbm, 94, rfl⟩
abbrev main_cst_12 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_cst_13 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_cst_14 : Ref sig .tc := ⟨.hbm, 111, rfl⟩
abbrev main_v89 : Ref sig .tc := ⟨.hbm, 112, rfl⟩
abbrev main_cst_15 : Ref sig .tc := ⟨.hbm, 113, rfl⟩
abbrev main_v90 : Ref sig .tc := ⟨.hbm, 114, rfl⟩
abbrev main_v91 : Ref sig .tc := ⟨.hbm, 115, rfl⟩
abbrev main_cst_16 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_v107 : Ref sig .tc := ⟨.hbm, 132, rfl⟩
abbrev main_v108 : Ref sig .tc := ⟨.hbm, 133, rfl⟩
abbrev main_v109 : Ref sig .tc := ⟨.hbm, 134, rfl⟩
abbrev main_v110 : Ref sig .tc := ⟨.hbm, 135, rfl⟩
abbrev main_v111 : Ref sig .tc := ⟨.hbm, 136, rfl⟩
abbrev main_v112 : Ref sig .tc := ⟨.hbm, 137, rfl⟩
abbrev main_v113 : Ref sig .tc := ⟨.hbm, 138, rfl⟩
abbrev main_v114 : Ref sig .tc := ⟨.hbm, 139, rfl⟩
abbrev main_v115 : Ref sig .tc := ⟨.hbm, 140, rfl⟩
abbrev main_v116 : Ref sig .tc := ⟨.hbm, 141, rfl⟩
abbrev main_cst_17 : Ref sig .tc := ⟨.hbm, 142, rfl⟩
abbrev main_v117 : Ref sig .tc := ⟨.hbm, 143, rfl⟩
abbrev main_v118 : Ref sig .tc := ⟨.hbm, 144, rfl⟩
abbrev main_v119 : Ref sig .tc := ⟨.hbm, 145, rfl⟩
abbrev main_v120 : Ref sig .tc := ⟨.hbm, 146, rfl⟩
abbrev main_cst_18 : Ref sig .tc := ⟨.hbm, 147, rfl⟩
abbrev main_v121 : Ref sig .tc := ⟨.hbm, 148, rfl⟩
abbrev main_v122 : Ref sig .tc := ⟨.hbm, 149, rfl⟩
abbrev main_v123 : Ref sig .tc := ⟨.hbm, 150, rfl⟩
abbrev main_v124 : Ref sig .tc := ⟨.hbm, 151, rfl⟩
abbrev main_v125 : Ref sig .tc := ⟨.hbm, 152, rfl⟩
abbrev main_v126 : Ref sig .tc := ⟨.hbm, 153, rfl⟩
abbrev main_v127 : Ref sig .tc := ⟨.hbm, 154, rfl⟩
abbrev main_v128 : Ref sig .tc := ⟨.hbm, 155, rfl⟩
abbrev main_v129 : Ref sig .tc := ⟨.hbm, 156, rfl⟩
abbrev main_v130 : Ref sig .tc := ⟨.hbm, 157, rfl⟩
abbrev main_v131 : Ref sig .tc := ⟨.hbm, 158, rfl⟩
abbrev main_v132 : Ref sig .tc := ⟨.hbm, 159, rfl⟩
abbrev main_v133 : Ref sig .tc := ⟨.hbm, 160, rfl⟩
abbrev main_v134 : Ref sig .tc := ⟨.hbm, 161, rfl⟩
abbrev main_v135 : Ref sig .tc := ⟨.hbm, 162, rfl⟩
abbrev main_v136 : Ref sig .tc := ⟨.hbm, 163, rfl⟩
abbrev main_v137 : Ref sig .tc := ⟨.hbm, 164, rfl⟩
abbrev main_cst_19 : Ref sig .tc := ⟨.hbm, 165, rfl⟩
abbrev main_v138 : Ref sig .tc := ⟨.hbm, 166, rfl⟩
abbrev main_v139 : Ref sig .tc := ⟨.hbm, 167, rfl⟩
abbrev main_v140 : Ref sig .tc := ⟨.hbm, 168, rfl⟩
abbrev main_v141 : Ref sig .tc := ⟨.hbm, 169, rfl⟩
abbrev main_v142 : Ref sig .tc := ⟨.hbm, 170, rfl⟩
abbrev main_v143 : Ref sig .tc := ⟨.hbm, 171, rfl⟩
abbrev main_cst_20 : Ref sig .tc := ⟨.hbm, 172, rfl⟩
abbrev main_v144 : Ref sig .tc := ⟨.hbm, 173, rfl⟩
abbrev main_v145 : Ref sig .tc := ⟨.hbm, 174, rfl⟩
abbrev main_v146 : Ref sig .tc := ⟨.hbm, 175, rfl⟩
abbrev main_cst_21 : Ref sig .tc := ⟨.hbm, 176, rfl⟩
abbrev main_v147 : Ref sig .tc := ⟨.hbm, 177, rfl⟩
abbrev main_v148 : Ref sig .tc := ⟨.hbm, 178, rfl⟩
abbrev main_v149 : Ref sig .tc := ⟨.hbm, 179, rfl⟩
abbrev main_cst_22 : Ref sig .tc := ⟨.hbm, 180, rfl⟩
abbrev main_v150 : Ref sig .tc := ⟨.hbm, 181, rfl⟩
abbrev main_v151 : Ref sig .tc := ⟨.hbm, 182, rfl⟩
abbrev main_v152 : Ref sig .tc := ⟨.hbm, 183, rfl⟩
abbrev main_v153 : Ref sig .tc := ⟨.hbm, 184, rfl⟩
abbrev main_v154 : Ref sig .tc := ⟨.hbm, 185, rfl⟩
abbrev main_v155 : Ref sig .tc := ⟨.hbm, 186, rfl⟩
abbrev main_v156 : Ref sig .tc := ⟨.hbm, 187, rfl⟩
abbrev main_cst_23 : Ref sig .tc := ⟨.hbm, 188, rfl⟩
abbrev main_v157 : Ref sig .tc := ⟨.hbm, 189, rfl⟩
abbrev main_v158 : Ref sig .tc := ⟨.hbm, 190, rfl⟩
abbrev main_v159 : Ref sig .tc := ⟨.hbm, 191, rfl⟩
abbrev main_cst_24 : Ref sig .tc := ⟨.hbm, 192, rfl⟩
abbrev main_v160 : Ref sig .tc := ⟨.hbm, 193, rfl⟩
abbrev main_v161 : Ref sig .tc := ⟨.hbm, 194, rfl⟩
abbrev main_v162 : Ref sig .tc := ⟨.hbm, 195, rfl⟩
abbrev main_v163 : Ref sig .tc := ⟨.hbm, 196, rfl⟩
abbrev main_cst_25 : Ref sig .tc := ⟨.hbm, 197, rfl⟩
abbrev main_v164 : Ref sig .tc := ⟨.hbm, 198, rfl⟩
abbrev main_v165 : Ref sig .tc := ⟨.hbm, 199, rfl⟩
abbrev main_v166 : Ref sig .tc := ⟨.hbm, 200, rfl⟩
abbrev main_v167 : Ref sig .tc := ⟨.hbm, 201, rfl⟩
abbrev main_v168 : Ref sig .tc := ⟨.hbm, 202, rfl⟩
abbrev main_v169 : Ref sig .tc := ⟨.hbm, 203, rfl⟩
abbrev main_v170 : Ref sig .tc := ⟨.hbm, 204, rfl⟩
abbrev main_cst_26 : Ref sig .tc := ⟨.hbm, 205, rfl⟩
abbrev main_v171 : Ref sig .tc := ⟨.hbm, 206, rfl⟩
abbrev main_v172 : Ref sig .tc := ⟨.hbm, 207, rfl⟩
abbrev main_v173 : Ref sig .tc := ⟨.hbm, 208, rfl⟩
abbrev main_cst_27 : Ref sig .tc := ⟨.hbm, 209, rfl⟩
abbrev main_v174 : Ref sig .tc := ⟨.hbm, 210, rfl⟩
abbrev main_v175 : Ref sig .tc := ⟨.hbm, 211, rfl⟩
abbrev main_v176 : Ref sig .tc := ⟨.hbm, 212, rfl⟩
abbrev main_v177 : Ref sig .tc := ⟨.hbm, 213, rfl⟩
abbrev main_cst_28 : Ref sig .tc := ⟨.hbm, 214, rfl⟩
abbrev main_v178 : Ref sig .tc := ⟨.hbm, 215, rfl⟩
abbrev main_v179 : Ref sig .tc := ⟨.hbm, 216, rfl⟩
abbrev main_v180 : Ref sig .tc := ⟨.hbm, 217, rfl⟩
abbrev main_v181 : Ref sig .tc := ⟨.hbm, 218, rfl⟩
abbrev main_v182 : Ref sig .tc := ⟨.hbm, 219, rfl⟩
abbrev main_v183 : Ref sig .tc := ⟨.hbm, 220, rfl⟩
abbrev main_v184 : Ref sig .tc := ⟨.hbm, 221, rfl⟩
abbrev main_cst_29 : Ref sig .tc := ⟨.hbm, 222, rfl⟩
abbrev main_v185 : Ref sig .tc := ⟨.hbm, 223, rfl⟩
abbrev main_v186 : Ref sig .tc := ⟨.hbm, 224, rfl⟩
abbrev main_v187 : Ref sig .tc := ⟨.hbm, 225, rfl⟩
abbrev main_cst_30 : Ref sig .tc := ⟨.hbm, 226, rfl⟩
abbrev main_v188 : Ref sig .tc := ⟨.hbm, 227, rfl⟩
abbrev main_v189 : Ref sig .tc := ⟨.hbm, 228, rfl⟩
abbrev main_call1_call0_cst : Ref sig .tc := ⟨.hbm, 229, rfl⟩
abbrev main_call1_call0_v0 : Ref sig .tc := ⟨.hbm, 230, rfl⟩
abbrev main_v190 : Ref sig .tc := ⟨.hbm, 231, rfl⟩
abbrev main_v191 : Ref sig .tc := ⟨.hbm, 232, rfl⟩
abbrev main_v192 : Ref sig .tc := ⟨.hbm, 233, rfl⟩
abbrev main_v193 : Ref sig .tc := ⟨.hbm, 234, rfl⟩
abbrev main_v194 : Ref sig .tc := ⟨.hbm, 235, rfl⟩
abbrev main_v195 : Ref sig .tc := ⟨.hbm, 236, rfl⟩
abbrev main_v196 : Ref sig .tc := ⟨.hbm, 237, rfl⟩
abbrev main_v197 : Ref sig .tc := ⟨.hbm, 238, rfl⟩
abbrev main_cst_31 : Ref sig .tc := ⟨.hbm, 239, rfl⟩
abbrev main_v198 : Ref sig .tc := ⟨.hbm, 240, rfl⟩
abbrev main_v199 : Ref sig .tc := ⟨.hbm, 241, rfl⟩
abbrev main_cst_32 : Ref sig .tc := ⟨.hbm, 242, rfl⟩
abbrev main_v200 : Ref sig .tc := ⟨.hbm, 243, rfl⟩
abbrev main_cst_33 : Ref sig .tc := ⟨.hbm, 244, rfl⟩
abbrev main_v201 : Ref sig .tc := ⟨.hbm, 245, rfl⟩
abbrev main_v202 : Ref sig .tc := ⟨.hbm, 246, rfl⟩
abbrev main_cst_34 : Ref sig .tc := ⟨.hbm, 247, rfl⟩
abbrev main_v203 : Ref sig .tc := ⟨.hbm, 248, rfl⟩
abbrev main_v204 : Ref sig .tc := ⟨.hbm, 249, rfl⟩
abbrev main_v205 : Ref sig .tc := ⟨.hbm, 250, rfl⟩
abbrev main_v206 : Ref sig .tc := ⟨.hbm, 251, rfl⟩
abbrev main_cst_35 : Ref sig .tc := ⟨.hbm, 252, rfl⟩
abbrev main_v207 : Ref sig .tc := ⟨.hbm, 253, rfl⟩
abbrev main_v208 : Ref sig .tc := ⟨.hbm, 254, rfl⟩
abbrev main_cst_36 : Ref sig .tc := ⟨.hbm, 255, rfl⟩
abbrev main_v209 : Ref sig .tc := ⟨.hbm, 256, rfl⟩
abbrev main_cst_37 : Ref sig .tc := ⟨.hbm, 257, rfl⟩
abbrev main_v210 : Ref sig .tc := ⟨.hbm, 258, rfl⟩
abbrev main_v211 : Ref sig .tc := ⟨.hbm, 259, rfl⟩
abbrev main_v212 : Ref sig .tc := ⟨.hbm, 260, rfl⟩
abbrev main_cst_38 : Ref sig .tc := ⟨.hbm, 261, rfl⟩
abbrev main_v213 : Ref sig .tc := ⟨.hbm, 262, rfl⟩
abbrev main_v214 : Ref sig .tc := ⟨.hbm, 263, rfl⟩
abbrev main_v215 : Ref sig .tc := ⟨.hbm, 264, rfl⟩
abbrev main_v216 : Ref sig .tc := ⟨.hbm, 265, rfl⟩
abbrev main_v217 : Ref sig .tc := ⟨.hbm, 266, rfl⟩
abbrev main_cst_39 : Ref sig .tc := ⟨.hbm, 267, rfl⟩
abbrev main_v218 : Ref sig .tc := ⟨.hbm, 268, rfl⟩
abbrev main_v219 : Ref sig .tc := ⟨.hbm, 269, rfl⟩
abbrev main_cst_40 : Ref sig .tc := ⟨.hbm, 270, rfl⟩
abbrev main_v220 : Ref sig .tc := ⟨.hbm, 271, rfl⟩
abbrev main_cst_41 : Ref sig .tc := ⟨.hbm, 272, rfl⟩
abbrev main_v221 : Ref sig .tc := ⟨.hbm, 273, rfl⟩
abbrev main_v222 : Ref sig .tc := ⟨.hbm, 274, rfl⟩
abbrev main_v223 : Ref sig .tc := ⟨.hbm, 275, rfl⟩
abbrev main_cst_42 : Ref sig .tc := ⟨.hbm, 276, rfl⟩
abbrev main_v224 : Ref sig .tc := ⟨.hbm, 277, rfl⟩
abbrev main_v225 : Ref sig .tc := ⟨.hbm, 278, rfl⟩
abbrev main_v226 : Ref sig .tc := ⟨.hbm, 279, rfl⟩
abbrev main_v227 : Ref sig .tc := ⟨.hbm, 280, rfl⟩
abbrev main_v228 : Ref sig .tc := ⟨.hbm, 281, rfl⟩
abbrev main_v229 : Ref sig .tc := ⟨.hbm, 282, rfl⟩
abbrev main_cst_43 : Ref sig .tc := ⟨.hbm, 283, rfl⟩
abbrev main_v230 : Ref sig .tc := ⟨.hbm, 284, rfl⟩
abbrev main_cst_44 : Ref sig .tc := ⟨.hbm, 285, rfl⟩
abbrev main_v231 : Ref sig .tc := ⟨.hbm, 286, rfl⟩
abbrev main_v232 : Ref sig .tc := ⟨.hbm, 287, rfl⟩
abbrev main_cst_45 : Ref sig .tc := ⟨.hbm, 288, rfl⟩
abbrev main_v233 : Ref sig .tc := ⟨.hbm, 289, rfl⟩
abbrev main_v234 : Ref sig .tc := ⟨.hbm, 290, rfl⟩
abbrev main_cst_46 : Ref sig .tc := ⟨.hbm, 291, rfl⟩
abbrev main_v235 : Ref sig .tc := ⟨.hbm, 292, rfl⟩
abbrev main_v236 : Ref sig .tc := ⟨.hbm, 293, rfl⟩
abbrev main_v237 : Ref sig .tc := ⟨.hbm, 294, rfl⟩
abbrev main_v238 : Ref sig .tc := ⟨.hbm, 295, rfl⟩

abbrev nD : Nat := 1
abbrev τ : Topo := Topo.v7x

variable {F : FTy → Type} [FloatOps F]
-- ==== Norm.lean ====
abbrev S4096x2048 : Shape := ⟨2, ![4096, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 5
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S1x2048, .f32⟩
  | .hbm, ⟨3, _⟩ => ⟨S4096x2048, .bf16⟩
  | .hbm, ⟨4, _⟩ => ⟨S4096x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | .local _ .vmem, ⟨5, _⟩ => ⟨S512x2048, .bf16⟩
  | .local _ .vmem, ⟨6, _⟩ => ⟨S512x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== NormRefIdeal.lean ====
abbrev S4096x2048 : Shape := ⟨2, ![4096, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩

abbrev nBuf : Space → Nat
  | .hbm => 20
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S4096x2048, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x2048, .f32⟩
  | .hbm, ⟨14, _⟩ => ⟨S4096x2048, .f32⟩
  | .hbm, ⟨15, _⟩ => ⟨S1x2048, .f32⟩
  | .hbm, ⟨16, _⟩ => ⟨S4096x2048, .f32⟩
  | .hbm, ⟨17, _⟩ => ⟨S4096x2048, .f32⟩
  | .hbm, ⟨18, _⟩ => ⟨S4096x2048, .bf16⟩
  | .hbm, ⟨19, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== Up.lean ====
abbrev S4096x2048 : Shape := ⟨2, ![4096, 2048]⟩
abbrev S2048x8192 : Shape := ⟨2, ![2048, 8192]⟩
abbrev S2048x8x1024 : Shape := ⟨3, ![2048, 8, 1024]⟩
abbrev S8x2048x1024 : Shape := ⟨3, ![8, 2048, 1024]⟩
abbrev S4096x8192 : Shape := ⟨2, ![4096, 8192]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 6
  | .vmem => 8
  | .smem => 0
  | _ => 0

abbrev bufTy : (tb : Table) → Fin (tcTables nBuf tb) → BufTy
  | .hbm, ⟨0, _⟩ => ⟨S4096x2048, .bf16⟩
  | .hbm, ⟨1, _⟩ => ⟨S2048x8192, .bf16⟩
  | .hbm, ⟨2, _⟩ => ⟨S2048x8x1024, .bf16⟩
  | .hbm, ⟨3, _⟩ => ⟨S8x2048x1024, .bf16⟩
  | .hbm, ⟨4, _⟩ => ⟨S4096x8192, .bf16⟩
  | .hbm, ⟨5, _⟩ => ⟨S4096x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== UpRefIdeal.lean ====
abbrev S4096x2048 : Shape := ⟨2, ![4096, 2048]⟩
abbrev S2048x8192 : Shape := ⟨2, ![2048, 8192]⟩
abbrev S4096x8192 : Shape := ⟨2, ![4096, 8192]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x8192, .bf16⟩
  | .hbm, ⟨2, _⟩ => ⟨S4096x2048, .f32⟩
  | .hbm, ⟨3, _⟩ => ⟨S2048x8192, .f32⟩
  | .hbm, ⟨4, _⟩ => ⟨S4096x8192, .f32⟩
  | .hbm, ⟨5, _⟩ => ⟨S_, .f32⟩
  | .hbm, ⟨6, _⟩ => ⟨S4096x8192, .f32⟩
  | .hbm, ⟨7, _⟩ => ⟨S4096x8192, .f32⟩
  | .hbm, ⟨8, _⟩ => ⟨S4096x8192, .bf16⟩
  | .hbm, ⟨9, _⟩ => ⟨S4096x8192, .f32⟩
  | .hbm, ⟨10, _⟩ => ⟨S4096x8192, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_cst : Ref sig .tc := ⟨.hbm, 5, rfl⟩
abbrev main_call0_v0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Mixer.lean ====
abbrev S4096x4096 : Shape := ⟨2, ![4096, 4096]⟩
abbrev S3x1024 : Shape := ⟨2, ![3, 1024]⟩
abbrev S4x256x256 : Shape := ⟨3, ![4, 256, 256]⟩
abbrev S1024 : Shape := ⟨1, ![1024]⟩
abbrev S1x1024 : Shape := ⟨2, ![1, 1024]⟩
abbrev S4096x2048 : Shape := ⟨2, ![4096, 2048]⟩
abbrev S512x4096 : Shape := ⟨2, ![512, 4096]⟩
abbrev S16x4096 : Shape := ⟨2, ![16, 4096]⟩
abbrev S512x2048 : Shape := ⟨2, ![512, 2048]⟩
abbrev S512x256 : Shape := ⟨2, ![512, 256]⟩
abbrev S16x256 : Shape := ⟨2, ![16, 256]⟩
abbrev S528x256 : Shape := ⟨2, ![528, 256]⟩
abbrev S1x256 : Shape := ⟨2, ![1, 256]⟩
abbrev S1x256x256 : Shape := ⟨3, ![1, 256, 256]⟩
abbrev S256x256 : Shape := ⟨2, ![256, 256]⟩

abbrev nBuf : Space → Nat
  | .hbm => 7
  | .vmem => 9
  | .smem => 0
  | _ => 0

abbrev bufTy : (tb : Table) → Fin (tcTables nBuf tb) → BufTy
  | .hbm, ⟨0, _⟩ => ⟨S4096x4096, .bf16⟩
  | .hbm, ⟨1, _⟩ => ⟨S3x1024, .f32⟩
  | .hbm, ⟨2, _⟩ => ⟨S4x256x256, .f32⟩
  | .hbm, ⟨3, _⟩ => ⟨S1024, .f32⟩
  | .hbm, ⟨4, _⟩ => ⟨S4x256x256, .bf16⟩
  | .hbm, ⟨5, _⟩ => ⟨S1x1024, .f32⟩
  | .hbm, ⟨6, _⟩ => ⟨S4096x2048, .bf16⟩
  | .local _ .vmem, ⟨0, _⟩ => ⟨S512x4096, .bf16⟩
  | .local _ .vmem, ⟨1, _⟩ => ⟨S512x4096, .bf16⟩
  | .local _ .vmem, ⟨2, _⟩ => ⟨S16x4096, .bf16⟩
  | .local _ .vmem, ⟨3, _⟩ => ⟨S16x4096, .bf16⟩
  | .local _ .vmem, ⟨4, _⟩ => ⟨S3x1024, .f32⟩
  | .local _ .vmem, ⟨5, _⟩ => ⟨S4x256x256, .bf16⟩
  | .local _ .vmem, ⟨6, _⟩ => ⟨S1x1024, .f32⟩
  | .local _ .vmem, ⟨7, _⟩ => ⟨S512x2048, .bf16⟩
  | .local _ .vmem, ⟨8, _⟩ => ⟨S512x2048, .bf16⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== MixerRefIdeal.lean ====
abbrev S4096x4096 : Shape := ⟨2, ![4096, 4096]⟩
abbrev S3x1024 : Shape := ⟨2, ![3, 1024]⟩
abbrev S4x256x256 : Shape := ⟨3, ![4, 256, 256]⟩
abbrev S1024 : Shape := ⟨1, ![1024]⟩
abbrev S4096x1024 : Shape := ⟨2, ![4096, 1024]⟩
abbrev S_ : Shape := ⟨0, ![]⟩
abbrev S2x1024 : Shape := ⟨2, ![2, 1024]⟩
abbrev S4098x1024 : Shape := ⟨2, ![4098, 1024]⟩
abbrev S1x1024 : Shape := ⟨2, ![1, 1024]⟩
abbrev S4096x4x256 : Shape := ⟨3, ![4096, 4, 256]⟩
abbrev S4096 : Shape := ⟨1, ![4096]⟩
abbrev S4096x1x256 : Shape := ⟨3, ![4096, 1, 256]⟩
abbrev S4096x256 : Shape := ⟨2, ![4096, 256]⟩
abbrev S2x256 : Shape := ⟨2, ![2, 256]⟩
abbrev S4094x256 : Shape := ⟨2, ![4094, 256]⟩
abbrev S4096x1 : Shape := ⟨2, ![4096, 1]⟩
abbrev S4x256 : Shape := ⟨2, ![4, 256]⟩
abbrev S4092x256 : Shape := ⟨2, ![4092, 256]⟩
abbrev S8x256 : Shape := ⟨2, ![8, 256]⟩
abbrev S4088x256 : Shape := ⟨2, ![4088, 256]⟩
abbrev S16x256 : Shape := ⟨2, ![16, 256]⟩
abbrev S4080x256 : Shape := ⟨2, ![4080, 256]⟩
abbrev S4x256x4096 : Shape := ⟨3, ![4, 256, 4096]⟩
abbrev S4096x2048 : Shape := ⟨2, ![4096, 2048]⟩

abbrev nBuf : Space → Nat
  | .hbm => 128
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S3x1024, .f32⟩
  | .hbm, ⟨2, _⟩ => ⟨S4x256x256, .f32⟩
  | .hbm, ⟨3, _⟩ => ⟨S1024, .f32⟩
  | .hbm, ⟨4, _⟩ => ⟨S4096x4096, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S_, .f32⟩
  | .hbm, ⟨11, _⟩ => ⟨S2x1024, .f32⟩
  | .hbm, ⟨12, _⟩ => ⟨S4098x1024, .f32⟩
  | .hbm, ⟨13, _⟩ => ⟨S1x1024, .f32⟩
  | .hbm, ⟨14, _⟩ => ⟨S1024, .f32⟩
  | .hbm, ⟨15, _⟩ => ⟨S4096x1024, .f32⟩
  | .hbm, ⟨16, _⟩ => ⟨S1x1024, .f32⟩
  | .hbm, ⟨17, _⟩ => ⟨S4096x1024, .f32⟩
  | .hbm, ⟨18, _⟩ => ⟨S4096x1024, .f32⟩
  | .hbm, ⟨19, _⟩ => ⟨S1x1024, .f32⟩
  | .hbm, ⟨20, _⟩ => ⟨S1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S1x1024, .f32⟩
  | .hbm, ⟨27, _⟩ => ⟨S1024, .f32⟩
  | .hbm, ⟨28, _⟩ => ⟨S4096x1024, .f32⟩
  | .hbm, ⟨29, _⟩ => ⟨S1x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x4x256, .f32⟩
  | .hbm, ⟨35, _⟩ => ⟨S_, .f32⟩
  | .hbm, ⟨36, _⟩ => ⟨S_, .f32⟩
  | .hbm, ⟨37, _⟩ => ⟨S4096x4x256, .f32⟩
  | .hbm, ⟨38, _⟩ => ⟨S4096, .f32⟩
  | .hbm, ⟨39, _⟩ => ⟨S4096x1x256, .f32⟩
  | .hbm, ⟨40, _⟩ => ⟨S4096x256, .f32⟩
  | .hbm, ⟨41, _⟩ => ⟨S_, .f32⟩
  | .hbm, ⟨42, _⟩ => ⟨S2x256, .f32⟩
  | .hbm, ⟨43, _⟩ => ⟨S4094x256, .f32⟩
  | .hbm, ⟨44, _⟩ => ⟨S4096x256, .f32⟩
  | .hbm, ⟨45, _⟩ => ⟨S_, .f32⟩
  | .hbm, ⟨46, _⟩ => ⟨S4096, .f32⟩
  | .hbm, ⟨47, _⟩ => ⟨S4096, .f32⟩
  | .hbm, ⟨48, _⟩ => ⟨S_, .f32⟩
  | .hbm, ⟨49, _⟩ => ⟨S4096, .f32⟩
  | .hbm, ⟨50, _⟩ => ⟨S4096, .f32⟩
  | .hbm, ⟨51, _⟩ => ⟨S4096x1, .f32⟩
  | .hbm, ⟨52, _⟩ => ⟨S4096x256, .f32⟩
  | .hbm, ⟨53, _⟩ => ⟨S4096x256, .f32⟩
  | .hbm, ⟨54, _⟩ => ⟨S4096x256, .f32⟩
  | .hbm, ⟨55, _⟩ => ⟨S4096x1x256, .f32⟩
  | .hbm, ⟨56, _⟩ => ⟨S4096x256, .f32⟩
  | .hbm, ⟨57, _⟩ => ⟨S4096x256, .f32⟩
  | .hbm, ⟨58, _⟩ => ⟨S4096x1x256, .f32⟩
  | .hbm, ⟨59, _⟩ => ⟨S4096x256, .f32⟩
  | .hbm, ⟨60, _⟩ => ⟨S_, .f32⟩
  | .hbm, ⟨61, _⟩ => ⟨S4x256, .f32⟩
  | .hbm, ⟨62, _⟩ => ⟨S4092x256, .f32⟩
  | .hbm, ⟨63, _⟩ => ⟨S4096x256, .f32⟩
  | .hbm, ⟨64, _⟩ => ⟨S_, .f32⟩
  | .hbm, ⟨65, _⟩ => ⟨S4096, .f32⟩
  | .hbm, ⟨66, _⟩ => ⟨S4096, .f32⟩
  | .hbm, ⟨67, _⟩ => ⟨S_, .f32⟩
  | .hbm, ⟨68, _⟩ => ⟨S4096, .f32⟩
  | .hbm, ⟨69, _⟩ => ⟨S4096, .f32⟩
  | .hbm, ⟨70, _⟩ => ⟨S4096x1, .f32⟩
  | .hbm, ⟨71, _⟩ => ⟨S4096x256, .f32⟩
  | .hbm, ⟨72, _⟩ => ⟨S4096x256, .f32⟩
  | .hbm, ⟨73, _⟩ => ⟨S4096x256, .f32⟩
  | .hbm, ⟨74, _⟩ => ⟨S4096x1x256, .f32⟩
  | .hbm, ⟨75, _⟩ => ⟨S4096x256, .f32⟩
  | .hbm, ⟨76, _⟩ => ⟨S4096x256, .f32⟩
  | .hbm, ⟨77, _⟩ => ⟨S4096x1x256, .f32⟩
  | .hbm, ⟨78, _⟩ => ⟨S4096x256, .f32⟩
  | .hbm, ⟨79, _⟩ => ⟨S_, .f32⟩
  | .hbm, ⟨80, _⟩ => ⟨S8x256, .f32⟩
  | .hbm, ⟨81, _⟩ => ⟨S4088x256, .f32⟩
  | .hbm, ⟨82, _⟩ => ⟨S4096x256, .f32⟩
  | .hbm, ⟨83, _⟩ => ⟨S_, .f32⟩
  | .hbm, ⟨84, _⟩ => ⟨S4096, .f32⟩
  | .hbm, ⟨85, _⟩ => ⟨S4096, .f32⟩
  | .hbm, ⟨86, _⟩ => ⟨S_, .f32⟩
  | .hbm, ⟨87, _⟩ => ⟨S4096, .f32⟩
  | .hbm, ⟨88, _⟩ => ⟨S4096, .f32⟩
  | .hbm, ⟨89, _⟩ => ⟨S4096x1, .f32⟩
  | .hbm, ⟨90, _⟩ => ⟨S4096x256, .f32⟩
  | .hbm, ⟨91, _⟩ => ⟨S4096x256, .f32⟩
  | .hbm, ⟨92, _⟩ => ⟨S4096x256, .f32⟩
  | .hbm, ⟨93, _⟩ => ⟨S4096x1x256, .f32⟩
  | .hbm, ⟨94, _⟩ => ⟨S4096x256, .f32⟩
  | .hbm, ⟨95, _⟩ => ⟨S4096x256, .f32⟩
  | .hbm, ⟨96, _⟩ => ⟨S4096x1x256, .f32⟩
  | .hbm, ⟨97, _⟩ => ⟨S4096x256, .f32⟩
  | .hbm, ⟨98, _⟩ => ⟨S_, .f32⟩
  | .hbm, ⟨99, _⟩ => ⟨S16x256, .f32⟩
  | .hbm, ⟨100, _⟩ => ⟨S4080x256, .f32⟩
  | .hbm, ⟨101, _⟩ => ⟨S4096x256, .f32⟩
  | .hbm, ⟨102, _⟩ => ⟨S_, .f32⟩
  | .hbm, ⟨103, _⟩ => ⟨S4096, .f32⟩
  | .hbm, ⟨104, _⟩ => ⟨S4096, .f32⟩
  | .hbm, ⟨105, _⟩ => ⟨S_, .f32⟩
  | .hbm, ⟨106, _⟩ => ⟨S4096, .f32⟩
  | .hbm, ⟨107, _⟩ => ⟨S4096, .f32⟩
  | .hbm, ⟨108, _⟩ => ⟨S4096x1, .f32⟩
  | .hbm, ⟨109, _⟩ => ⟨S4096x256, .f32⟩
  | .hbm, ⟨110, _⟩ => ⟨S4096x256, .f32⟩
  | .hbm, ⟨111, _⟩ => ⟨S4096x256, .f32⟩
  | .hbm, ⟨112, _⟩ => ⟨S4096x1x256, .f32⟩
  | .hbm, ⟨113, _⟩ => ⟨S4096x256, .f32⟩
  | .hbm, ⟨114, _⟩ => ⟨S4096x256, .f32⟩
  | .hbm, ⟨115, _⟩ => ⟨S4096x1x256, .f32⟩
  | .hbm, ⟨116, _⟩ => ⟨S4096x1x256, .f32⟩
  | .hbm, ⟨117, _⟩ => ⟨S4096x1x256, .f32⟩
  | .hbm, ⟨118, _⟩ => ⟨S4096x1x256, .f32⟩
  | .hbm, ⟨119, _⟩ => ⟨S4096x4x256, .f32⟩
  | .hbm, ⟨120, _⟩ => ⟨S4x256x4096, .f32⟩
  | .hbm, ⟨121, _⟩ => ⟨S4096x4x256, .f32⟩
  | .hbm, ⟨122, _⟩ => ⟨S4096x1024, .f32⟩
  | .hbm, ⟨123, _⟩ => ⟨S1x1024, .f32⟩
  | .hbm, ⟨124, _⟩ => ⟨S4096x1024, .f32⟩
  | .hbm, ⟨125, _⟩ => ⟨S4096x1024, .f32⟩
  | .hbm, ⟨126, _⟩ => ⟨S4096x2048, .f32⟩
  | .hbm, ⟨127, _⟩ => ⟨S4096x2048, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_call0_call0_cst : Ref sig .tc := ⟨.hbm, 35, rfl⟩
abbrev main_call0_call0_v0 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_cst_0 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_cst_1 : Ref sig .tc := ⟨.hbm, 45, rfl⟩
abbrev main_v37 : Ref sig .tc := ⟨.hbm, 46, rfl⟩
abbrev main_v38 : Ref sig .tc := ⟨.hbm, 47, rfl⟩
abbrev main_cst_2 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_cst_3 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_cst_4 : Ref sig .tc := ⟨.hbm, 64, rfl⟩
abbrev main_v53 : Ref sig .tc := ⟨.hbm, 65, rfl⟩
abbrev main_v54 : Ref sig .tc := ⟨.hbm, 66, rfl⟩
abbrev main_cst_5 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_cst_6 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_cst_7 : Ref sig .tc := ⟨.hbm, 83, rfl⟩
abbrev main_v69 : Ref sig .tc := ⟨.hbm, 84, rfl⟩
abbrev main_v70 : Ref sig .tc := ⟨.hbm, 85, rfl⟩
abbrev main_cst_8 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_cst_9 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_cst_10 : Ref sig .tc := ⟨.hbm, 102, rfl⟩
abbrev main_v85 : Ref sig .tc := ⟨.hbm, 103, rfl⟩
abbrev main_v86 : Ref sig .tc := ⟨.hbm, 104, rfl⟩
abbrev main_cst_11 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_v102 : Ref sig .tc := ⟨.hbm, 121, rfl⟩
abbrev main_v103 : Ref sig .tc := ⟨.hbm, 122, rfl⟩
abbrev main_v104 : Ref sig .tc := ⟨.hbm, 123, rfl⟩
abbrev main_v105 : Ref sig .tc := ⟨.hbm, 124, rfl⟩
abbrev main_v106 : Ref sig .tc := ⟨.hbm, 125, rfl⟩
abbrev main_v107 : Ref sig .tc := ⟨.hbm, 126, rfl⟩
abbrev main_v108 : Ref sig .tc := ⟨.hbm, 127, rfl⟩

abbrev nD : Nat := 1
abbrev τ : Topo := Topo.v7x

variable {F : FTy → Type} [FloatOps F]
-- ==== Down.lean ====
abbrev S4096x8192 : Shape := ⟨2, ![4096, 8192]⟩
abbrev S8192x2048 : Shape := ⟨2, ![8192, 2048]⟩
abbrev S4096x2048 : Shape := ⟨2, ![4096, 2048]⟩
abbrev S1x8192x2048 : Shape := ⟨3, ![1, 8192, 2048]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 5
  | .vmem => 9
  | .smem => 0
  | _ => 0

abbrev bufTy : (tb : Table) → Fin (tcTables nBuf tb) → BufTy
  | .hbm, ⟨0, _⟩ => ⟨S4096x8192, .bf16⟩
  | .hbm, ⟨1, _⟩ => ⟨S8192x2048, .bf16⟩
  | .hbm, ⟨2, _⟩ => ⟨S4096x2048, .f32⟩
  | .hbm, ⟨3, _⟩ => ⟨S1x8192x2048, .bf16⟩
  | .hbm, ⟨4, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 4], ![false, false, false]⟩

def k0_cond3 (i : grid0.Coords) : BitVec 1 :=
  let arg2 : BitVec 32 := BitVec.ofNat 32 (i 2).val
  let c3_i32_2 : BitVec 32 := 3#32
  let v6 : BitVec 1 := Scalar.cmpi .eq arg2 c3_i32_2
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DownRefIdeal.lean ====
abbrev S4096x8192 : Shape := ⟨2, ![4096, 8192]⟩
abbrev S8192x2048 : Shape := ⟨2, ![8192, 2048]⟩
abbrev S4096x2048 : Shape := ⟨2, ![4096, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S8192x2048, .bf16⟩
  | .hbm, ⟨2, _⟩ => ⟨S4096x2048, .f32⟩
  | .hbm, ⟨3, _⟩ => ⟨S4096x8192, .f32⟩
  | .hbm, ⟨4, _⟩ => ⟨S8192x2048, .f32⟩
  | .hbm, ⟨5, _⟩ => ⟨S4096x2048, .f32⟩
  | .hbm, ⟨6, _⟩ => ⟨S4096x2048, .f32⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== UpDx.lean ====
abbrev S4096x8192 : Shape := ⟨2, ![4096, 8192]⟩
abbrev S2048x8192 : Shape := ⟨2, ![2048, 8192]⟩
abbrev S2048x8x1024 : Shape := ⟨3, ![2048, 8, 1024]⟩
abbrev S8x2048x1024 : Shape := ⟨3, ![8, 2048, 1024]⟩
abbrev S4096x2048 : Shape := ⟨2, ![4096, 2048]⟩
abbrev S1024x2048 : Shape := ⟨2, ![1024, 2048]⟩
abbrev S2x1024x1024 : Shape := ⟨3, ![2, 1024, 1024]⟩
abbrev S1024x1024 : Shape := ⟨2, ![1024, 1024]⟩
abbrev S1x1024x1024 : Shape := ⟨3, ![1, 1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x8192, .bf16⟩
  | .hbm, ⟨1, _⟩ => ⟨S2048x8192, .bf16⟩
  | .hbm, ⟨2, _⟩ => ⟨S2048x8x1024, .bf16⟩
  | .hbm, ⟨3, _⟩ => ⟨S8x2048x1024, .bf16⟩
  | .hbm, ⟨4, _⟩ => ⟨S4096x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2x1024x1024, .bf16⟩
  | .local _ .vmem, ⟨3, _⟩ => ⟨S2x1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond3 (i : grid0.Coords) : BitVec 1 :=
  let arg2 : BitVec 32 := BitVec.ofNat 32 (i 2).val
  let c3_i32_2 : BitVec 32 := 3#32
  let v6 : BitVec 1 := Scalar.cmpi .eq arg2 c3_i32_2
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpDxRefIdeal.lean ====
abbrev S4096x8192 : Shape := ⟨2, ![4096, 8192]⟩
abbrev S2048x8192 : Shape := ⟨2, ![2048, 8192]⟩
abbrev S_ : Shape := ⟨0, ![]⟩
abbrev S4096x2048 : Shape := ⟨2, ![4096, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S2048x8192, .bf16⟩
  | .hbm, ⟨2, _⟩ => ⟨S_, .bf16⟩
  | .hbm, ⟨3, _⟩ => ⟨S4096x2048, .bf16⟩
  | .hbm, ⟨4, _⟩ => ⟨S4096x2048, .f32⟩
  | .hbm, ⟨5, _⟩ => ⟨S2048x8192, .f32⟩
  | .hbm, ⟨6, _⟩ => ⟨S4096x8192, .f32⟩
  | .hbm, ⟨7, _⟩ => ⟨S4096x8192, .f32⟩
  | .hbm, ⟨8, _⟩ => ⟨S4096x2048, .f32⟩
  | .hbm, ⟨9, _⟩ => ⟨S4096x2048, .bf16⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DownDw.lean ====
abbrev S4096x8192 : Shape := ⟨2, ![4096, 8192]⟩
abbrev S4096x2048 : Shape := ⟨2, ![4096, 2048]⟩
abbrev S1x8192x2048 : Shape := ⟨3, ![1, 8192, 2048]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x8192, .bf16⟩
  | .hbm, ⟨1, _⟩ => ⟨S4096x2048, .bf16⟩
  | .hbm, ⟨2, _⟩ => ⟨S1x8192x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 2], ![false, false, false]⟩

def k0_cond3 (i : grid0.Coords) : BitVec 1 :=
  let arg2 : BitVec 32 := BitVec.ofNat 32 (i 2).val
  let c1_i32_2 : BitVec 32 := 1#32
  let v6 : BitVec 1 := Scalar.cmpi .eq arg2 c1_i32_2
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDwRefIdeal.lean ====
abbrev S4096x8192 : Shape := ⟨2, ![4096, 8192]⟩
abbrev S4096x2048 : Shape := ⟨2, ![4096, 2048]⟩
abbrev S_ : Shape := ⟨0, ![]⟩
abbrev S8192x2048 : Shape := ⟨2, ![8192, 2048]⟩
abbrev S2048x8192 : Shape := ⟨2, ![2048, 8192]⟩
abbrev S1x8192x2048 : Shape := ⟨3, ![1, 8192, 2048]⟩

abbrev nBuf : Space → Nat
  | .hbm => 12
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S4096x2048, .bf16⟩
  | .hbm, ⟨2, _⟩ => ⟨S_, .bf16⟩
  | .hbm, ⟨3, _⟩ => ⟨S8192x2048, .bf16⟩
  | .hbm, ⟨4, _⟩ => ⟨S4096x8192, .f32⟩
  | .hbm, ⟨5, _⟩ => ⟨S8192x2048, .f32⟩
  | .hbm, ⟨6, _⟩ => ⟨S4096x2048, .f32⟩
  | .hbm, ⟨7, _⟩ => ⟨S4096x2048, .f32⟩
  | .hbm, ⟨8, _⟩ => ⟨S2048x8192, .f32⟩
  | .hbm, ⟨9, _⟩ => ⟨S8192x2048, .f32⟩
  | .hbm, ⟨10, _⟩ => ⟨S8192x2048, .bf16⟩
  | .hbm, ⟨11, _⟩ => ⟨S1x8192x2048, .bf16⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Adamw.lean ====
abbrev S_ : Shape := ⟨0, ![]⟩
abbrev S8x4x2048 : Shape := ⟨3, ![8, 4, 2048]⟩
abbrev S4x2048 : Shape := ⟨2, ![4, 2048]⟩
abbrev S1x4x2048 : Shape := ⟨3, ![1, 4, 2048]⟩
abbrev S1 : Shape := ⟨1, ![1]⟩

abbrev nBuf : Space → Nat
  | .hbm => 12
  | .vmem => 8
  | .smem => 1
  | _ => 0

abbrev bufTy : (tb : Table) → Fin (tcTables nBuf tb) → BufTy
  | .hbm, ⟨0, _⟩ => ⟨S_, .i32⟩
  | .hbm, ⟨1, _⟩ => ⟨S8x4x2048, .f32⟩
  | .hbm, ⟨2, _⟩ => ⟨S4x2048, .f32⟩
  | .hbm, ⟨3, _⟩ => ⟨S4x2048, .f32⟩
  | .hbm, ⟨4, _⟩ => ⟨S4x2048, .f32⟩
  | .hbm, ⟨5, _⟩ => ⟨S1x4x2048, .f32⟩
  | .hbm, ⟨6, _⟩ => ⟨S1x4x2048, .f32⟩
  | .hbm, ⟨7, _⟩ => ⟨S1x4x2048, .f32⟩
  | .hbm, ⟨8, _⟩ => ⟨S1x4x2048, .f32⟩
  | .hbm, ⟨9, _⟩ => ⟨S1x4x2048, .f32⟩
  | .hbm, ⟨10, _⟩ => ⟨S1x4x2048, .f32⟩
  | .hbm, ⟨11, _⟩ => ⟨S1x4x2048, .f32⟩
  | .local _ .vmem, ⟨0, _⟩ => ⟨S8x4x2048, .f32⟩
  | .local _ .vmem, ⟨1, _⟩ => ⟨S1x4x2048, .f32⟩
  | .local _ .vmem, ⟨2, _⟩ => ⟨S1x4x2048, .f32⟩
  | .local _ .vmem, ⟨3, _⟩ => ⟨S1x4x2048, .f32⟩
  | .local _ .vmem, ⟨4, _⟩ => ⟨S1x4x2048, .f32⟩
  | .local _ .vmem, ⟨5, _⟩ => ⟨S1x4x2048, .f32⟩
  | .local _ .vmem, ⟨6, _⟩ => ⟨S1x4x2048, .f32⟩
  | .local _ .vmem, ⟨7, _⟩ => ⟨S1x4x2048, .f32⟩
  | .local _ .smem, ⟨0, _⟩ => ⟨S1, .i32⟩
  | _, _ => ⟨S_, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev main_v3 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_v3.idx], fun | 0 => main_v3.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S8x4x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x4x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x4x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x4x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x4x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x4x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x4x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x4x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamwRefIdeal.lean ====
abbrev S_ : Shape := ⟨0, ![]⟩
abbrev S8x4x2048 : Shape := ⟨3, ![8, 4, 2048]⟩
abbrev S4x2048 : Shape := ⟨2, ![4, 2048]⟩
abbrev S1x4x2048 : Shape := ⟨3, ![1, 4, 2048]⟩

abbrev nBuf : Space → Nat
  | .hbm => 44
  | .vmem => 0
  | .smem => 0
  | _ => 0

abbrev bufTy : (tb : Table) → Fin (tcTables nBuf tb) → BufTy
  | .hbm, ⟨0, _⟩ => ⟨S_, .i32⟩
  | .hbm, ⟨1, _⟩ => ⟨S8x4x2048, .f32⟩
  | .hbm, ⟨2, _⟩ => ⟨S4x2048, .f32⟩
  | .hbm, ⟨3, _⟩ => ⟨S4x2048, .f32⟩
  | .hbm, ⟨4, _⟩ => ⟨S4x2048, .f32⟩
  | .hbm, ⟨5, _⟩ => ⟨S_, .f32⟩
  | .hbm, ⟨6, _⟩ => ⟨S4x2048, .f32⟩
  | .hbm, ⟨7, _⟩ => ⟨S_, .f32⟩
  | .hbm, ⟨8, _⟩ => ⟨S4x2048, .f32⟩
  | .hbm, ⟨9, _⟩ => ⟨S4x2048, .f32⟩
  | .hbm, ⟨10, _⟩ => ⟨S_, .f32⟩
  | .hbm, ⟨11, _⟩ => ⟨S4x2048, .f32⟩
  | .hbm, ⟨12, _⟩ => ⟨S4x2048, .f32⟩
  | .hbm, ⟨13, _⟩ => ⟨S4x2048, .f32⟩
  | .hbm, ⟨14, _⟩ => ⟨S_, .f32⟩
  | .hbm, ⟨15, _⟩ => ⟨S4x2048, .f32⟩
  | .hbm, ⟨16, _⟩ => ⟨S4x2048, .f32⟩
  | .hbm, ⟨17, _⟩ => ⟨S4x2048, .f32⟩
  | .hbm, ⟨18, _⟩ => ⟨S_, .f32⟩
  | .hbm, ⟨19, _⟩ => ⟨S4x2048, .f32⟩
  | .hbm, ⟨20, _⟩ => ⟨S4x2048, .f32⟩
  | .hbm, ⟨21, _⟩ => ⟨S4x2048, .f32⟩
  | .hbm, ⟨22, _⟩ => ⟨S_, .f32⟩
  | .hbm, ⟨23, _⟩ => ⟨S4x2048, .f32⟩
  | .hbm, ⟨24, _⟩ => ⟨S4x2048, .f32⟩
  | .hbm, ⟨25, _⟩ => ⟨S_, .f32⟩
  | .hbm, ⟨26, _⟩ => ⟨S4x2048, .f32⟩
  | .hbm, ⟨27, _⟩ => ⟨S4x2048, .f32⟩
  | .hbm, ⟨28, _⟩ => ⟨S4x2048, .f32⟩
  | .hbm, ⟨29, _⟩ => ⟨S_, .f32⟩
  | .hbm, ⟨30, _⟩ => ⟨S4x2048, .f32⟩
  | .hbm, ⟨31, _⟩ => ⟨S4x2048, .f32⟩
  | .hbm, ⟨32, _⟩ => ⟨S4x2048, .f32⟩
  | .hbm, ⟨33, _⟩ => ⟨S_, .f32⟩
  | .hbm, ⟨34, _⟩ => ⟨S4x2048, .f32⟩
  | .hbm, ⟨35, _⟩ => ⟨S4x2048, .f32⟩
  | .hbm, ⟨36, _⟩ => ⟨S4x2048, .f32⟩
  | .hbm, ⟨37, _⟩ => ⟨S_, .f32⟩
  | .hbm, ⟨38, _⟩ => ⟨S4x2048, .f32⟩
  | .hbm, ⟨39, _⟩ => ⟨S4x2048, .f32⟩
  | .hbm, ⟨40, _⟩ => ⟨S1x4x2048, .f32⟩
  | .hbm, ⟨41, _⟩ => ⟨S1x4x2048, .f32⟩
  | .hbm, ⟨42, _⟩ => ⟨S1x4x2048, .f32⟩
  | .hbm, ⟨43, _⟩ => ⟨S1x4x2048, .f32⟩
  | _, _ => ⟨S_, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_cst_1 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_2 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_3 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_4 : Ref sig .tc := ⟨.hbm, 22, rfl⟩
abbrev main_v12 : Ref sig .tc := ⟨.hbm, 23, rfl⟩
abbrev main_v13 : Ref sig .tc := ⟨.hbm, 24, rfl⟩
abbrev main_cst_5 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_6 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_7 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_8 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩

abbrev nD : Nat := 1
abbrev τ : Topo := Topo.v7x

variable {F : FTy → Type} [FloatOps F]
-- ==== Cast.lean ====
abbrev S4x2048x1024 : Shape := ⟨3, ![4, 2048, 1024]⟩
abbrev S3x2048x1024 : Shape := ⟨3, ![3, 2048, 1024]⟩
abbrev S1x512x1024 : Shape := ⟨3, ![1, 512, 1024]⟩

abbrev nBuf : Space → Nat
  | .hbm => 2
  | .vmem => 4
  | .smem => 0
  | _ => 0

abbrev bufTy : (tb : Table) → Fin (tcTables nBuf tb) → BufTy
  | .hbm, ⟨0, _⟩ => ⟨S4x2048x1024, .f32⟩
  | .hbm, ⟨1, _⟩ => ⟨S3x2048x1024, .bf16⟩
  | .local _ .vmem, ⟨0, _⟩ => ⟨S1x512x1024, .f32⟩
  | .local _ .vmem, ⟨1, _⟩ => ⟨S1x512x1024, .f32⟩
  | .local _ .vmem, ⟨2, _⟩ => ⟨S1x512x1024, .bf16⟩
  | .local _ .vmem, ⟨3, _⟩ => ⟨S1x512x1024, .bf16⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![3, 4], ![false, false]⟩

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c0_i32 : BitVec 32 := 0#32
  let c0_i32_0 : BitVec 32 := 0#32
  ![v0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== CastRefIdeal.lean ====
abbrev S4x2048x1024 : Shape := ⟨3, ![4, 2048, 1024]⟩
abbrev S3x2048x1024 : Shape := ⟨3, ![3, 2048, 1024]⟩

abbrev nBuf : Space → Nat
  | .hbm => 3
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S3x2048x1024, .f32⟩
  | .hbm, ⟨2, _⟩ => ⟨S3x2048x1024, .bf16⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩

abbrev nD : Nat := 1
abbrev τ : Topo := Topo.v7x

variable {F : FTy → Type} [FloatOps F]
-- ==== Gather.lean ====
abbrev S12x1024 : Shape := ⟨2, ![12, 1024]⟩
abbrev S4x1024 : Shape := ⟨2, ![4, 1024]⟩
abbrev S4x2048 : Shape := ⟨2, ![4, 2048]⟩
abbrev S1x2048 : Shape := ⟨2, ![1, 2048]⟩
abbrev S8x12x1024 : Shape := ⟨3, ![8, 12, 1024]⟩
abbrev S8x4x1024 : Shape := ⟨3, ![8, 4, 1024]⟩
abbrev S8x4x2048 : Shape := ⟨3, ![8, 4, 2048]⟩
abbrev S8x1x2048 : Shape := ⟨3, ![8, 1, 2048]⟩
abbrev S5x7 : Shape := ⟨2, ![5, 7]⟩
abbrev S5 : Shape := ⟨1, ![5]⟩
abbrev S1 : Shape := ⟨1, ![1]⟩
abbrev S_ : Shape := ⟨0, ![]⟩
abbrev S1x12x1024 : Shape := ⟨3, ![1, 12, 1024]⟩
abbrev S1x4x1024 : Shape := ⟨3, ![1, 4, 1024]⟩
abbrev S1x4x2048 : Shape := ⟨3, ![1, 4, 2048]⟩
abbrev S1x1x2048 : Shape := ⟨3, ![1, 1, 2048]⟩
abbrev S1x1 : Shape := ⟨2, ![1, 1]⟩

abbrev nBuf : Space → Nat
  | .hbm => 10
  | .vmem => 0
  | .smem => 0
  | _ => 0

abbrev bufTy : (tb : Table) → Fin (tcTables nBuf tb) → BufTy
  | .hbm, ⟨0, _⟩ => ⟨S12x1024, .f32⟩
  | .hbm, ⟨1, _⟩ => ⟨S4x1024, .f32⟩
  | .hbm, ⟨2, _⟩ => ⟨S4x2048, .f32⟩
  | .hbm, ⟨3, _⟩ => ⟨S4x2048, .f32⟩
  | .hbm, ⟨4, _⟩ => ⟨S1x2048, .f32⟩
  | .hbm, ⟨5, _⟩ => ⟨S8x12x1024, .f32⟩
  | .hbm, ⟨6, _⟩ => ⟨S8x4x1024, .f32⟩
  | .hbm, ⟨7, _⟩ => ⟨S8x4x2048, .f32⟩
  | .hbm, ⟨8, _⟩ => ⟨S8x4x2048, .f32⟩
  | .hbm, ⟨9, _⟩ => ⟨S8x1x2048, .f32⟩
  | _, _ => ⟨S12x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 75 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | _ => false

abbrev sig : RefSig :=
  ofTc nBuf bufTy 0 75 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev main_v1_4 : Ref sig .tc := ⟨.hbm, 9, rfl⟩

abbrev nD : Nat := 8
abbrev τ : Topo := Topo.v7x

variable {F : FTy → Type} [FloatOps F]

abbrev grid0 : Pipeline.Grid := .none

def k0_off1 (d0 : Dev nD) : Fin 3 → Nat :=
  let c4_i32_8 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.muli c4_i32_8 v2
  let c2_i32_9 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.muli c2_i32_9 v5
  let v16 : BitVec 32 := Scalar.addi v14 v15
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.addi v16 v8
  let c0_i32_18 : BitVec 32 := 0#32
  let c0_i32_19 : BitVec 32 := 0#32
  ![v17.toNat, 0, 0]
def k0_off2 (d0 : Dev nD) : Fin 3 → Nat :=
  let c4_i32_10 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v18 : BitVec 32 := Scalar.muli c4_i32_10 v2
  let c2_i32_11 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v19 : BitVec 32 := Scalar.muli c2_i32_11 v5
  let v20 : BitVec 32 := Scalar.addi v18 v19
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v21 : BitVec 32 := Scalar.addi v20 v8
  let c0_i32_21 : BitVec 32 := 0#32
  let c0_i32_22 : BitVec 32 := 0#32
  ![v21.toNat, 0, 0]
def k0_off3 (d0 : Dev nD) : Fin 3 → Nat :=
  let c4_i32_12 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v22 : BitVec 32 := Scalar.muli c4_i32_12 v2
  let c2_i32_13 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v23 : BitVec 32 := Scalar.muli c2_i32_13 v5
  let v24 : BitVec 32 := Scalar.addi v22 v23
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v25 : BitVec 32 := Scalar.addi v24 v8
  let c0_i32_24 : BitVec 32 := 0#32
  let c0_i32_25 : BitVec 32 := 0#32
  ![v25.toNat, 0, 0]
def k0_off4 (d0 : Dev nD) : Fin 3 → Nat :=
  let c4_i32_16 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v30 : BitVec 32 := Scalar.muli c4_i32_16 v2
  let c2_i32_17 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v31 : BitVec 32 := Scalar.muli c2_i32_17 v5
  let v32 : BitVec 32 := Scalar.addi v30 v31
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v33 : BitVec 32 := Scalar.addi v32 v8
  let c0_i32_29 : BitVec 32 := 0#32
  let c0_i32_30 : BitVec 32 := 0#32
  ![v33.toNat, 0, 0]
def k0_dev1 (d0 : Dev nD) : Nat :=
  let c0_i32_76 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_75 : BitVec 32 := 4#32
  let v134 : BitVec 32 := Scalar.muli v2 c4_i32_75
  let v135 : BitVec 32 := Scalar.addi c0_i32_76 v134
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_77 : BitVec 32 := 2#32
  let v136 : BitVec 32 := Scalar.muli v5 c2_i32_77
  let v137 : BitVec 32 := Scalar.addi v135 v136
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_78 : BitVec 32 := 1#32
  let v138 : BitVec 32 := Scalar.muli v9 c1_i32_78
  let v139 : BitVec 32 := Scalar.addi v137 v138
  v139.toNat
def k0_dev2 (d0 : Dev nD) : Nat :=
  let c0_i32_86 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_85 : BitVec 32 := 4#32
  let v146 : BitVec 32 := Scalar.muli v10 c4_i32_85
  let v147 : BitVec 32 := Scalar.addi c0_i32_86 v146
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_87 : BitVec 32 := 2#32
  let v148 : BitVec 32 := Scalar.muli v5 c2_i32_87
  let v149 : BitVec 32 := Scalar.addi v147 v148
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_88 : BitVec 32 := 1#32
  let v150 : BitVec 32 := Scalar.muli v8 c1_i32_88
  let v151 : BitVec 32 := Scalar.addi v149 v150
  v151.toNat
def k0_dev3 (d0 : Dev nD) : Nat :=
  let c0_i32_96 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_95 : BitVec 32 := 4#32
  let v158 : BitVec 32 := Scalar.muli v2 c4_i32_95
  let v159 : BitVec 32 := Scalar.addi c0_i32_96 v158
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_97 : BitVec 32 := 2#32
  let v160 : BitVec 32 := Scalar.muli v11 c2_i32_97
  let v161 : BitVec 32 := Scalar.addi v159 v160
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_98 : BitVec 32 := 1#32
  let v162 : BitVec 32 := Scalar.muli v8 c1_i32_98
  let v163 : BitVec 32 := Scalar.addi v161 v162
  v163.toNat
def k0_dev4 (d0 : Dev nD) : Nat :=
  let c0_i32_106 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let c4_i32_105 : BitVec 32 := 4#32
  let v170 : BitVec 32 := Scalar.muli v12 c4_i32_105
  let v171 : BitVec 32 := Scalar.addi c0_i32_106 v170
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let c2_i32_107 : BitVec 32 := 2#32
  let v172 : BitVec 32 := Scalar.muli v13 c2_i32_107
  let v173 : BitVec 32 := Scalar.addi v171 v172
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_108 : BitVec 32 := 1#32
  let v174 : BitVec 32 := Scalar.muli v8 c1_i32_108
  let v175 : BitVec 32 := Scalar.addi v173 v174
  v175.toNat
def k0_dev5 (d0 : Dev nD) : Nat :=
  let c0_i32_116 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_115 : BitVec 32 := 4#32
  let v182 : BitVec 32 := Scalar.muli v2 c4_i32_115
  let v183 : BitVec 32 := Scalar.addi c0_i32_116 v182
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_117 : BitVec 32 := 2#32
  let v184 : BitVec 32 := Scalar.muli v5 c2_i32_117
  let v185 : BitVec 32 := Scalar.addi v183 v184
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_118 : BitVec 32 := 1#32
  let v186 : BitVec 32 := Scalar.muli v9 c1_i32_118
  let v187 : BitVec 32 := Scalar.addi v185 v186
  v187.toNat
def k0_dev6 (d0 : Dev nD) : Nat :=
  let c0_i32_126 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_125 : BitVec 32 := 4#32
  let v194 : BitVec 32 := Scalar.muli v10 c4_i32_125
  let v195 : BitVec 32 := Scalar.addi c0_i32_126 v194
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_127 : BitVec 32 := 2#32
  let v196 : BitVec 32 := Scalar.muli v5 c2_i32_127
  let v197 : BitVec 32 := Scalar.addi v195 v196
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_128 : BitVec 32 := 1#32
  let v198 : BitVec 32 := Scalar.muli v8 c1_i32_128
  let v199 : BitVec 32 := Scalar.addi v197 v198
  v199.toNat
def k0_dev7 (d0 : Dev nD) : Nat :=
  let c0_i32_136 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_135 : BitVec 32 := 4#32
  let v206 : BitVec 32 := Scalar.muli v2 c4_i32_135
  let v207 : BitVec 32 := Scalar.addi c0_i32_136 v206
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_137 : BitVec 32 := 2#32
  let v208 : BitVec 32 := Scalar.muli v11 c2_i32_137
  let v209 : BitVec 32 := Scalar.addi v207 v208
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_138 : BitVec 32 := 1#32
  let v210 : BitVec 32 := Scalar.muli v8 c1_i32_138
  let v211 : BitVec 32 := Scalar.addi v209 v210
  v211.toNat
def k0_dev8 (d0 : Dev nD) : Nat :=
  let c0_i32_146 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let c4_i32_145 : BitVec 32 := 4#32
  let v218 : BitVec 32 := Scalar.muli v12 c4_i32_145
  let v219 : BitVec 32 := Scalar.addi c0_i32_146 v218
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let c2_i32_147 : BitVec 32 := 2#32
  let v220 : BitVec 32 := Scalar.muli v13 c2_i32_147
  let v221 : BitVec 32 := Scalar.addi v219 v220
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_148 : BitVec 32 := 1#32
  let v222 : BitVec 32 := Scalar.muli v8 c1_i32_148
  let v223 : BitVec 32 := Scalar.addi v221 v222
  v223.toNat
def k0_dev9 (d0 : Dev nD) : Nat :=
  let c0_i32_156 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_155 : BitVec 32 := 4#32
  let v230 : BitVec 32 := Scalar.muli v2 c4_i32_155
  let v231 : BitVec 32 := Scalar.addi c0_i32_156 v230
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_157 : BitVec 32 := 2#32
  let v232 : BitVec 32 := Scalar.muli v5 c2_i32_157
  let v233 : BitVec 32 := Scalar.addi v231 v232
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_158 : BitVec 32 := 1#32
  let v234 : BitVec 32 := Scalar.muli v9 c1_i32_158
  let v235 : BitVec 32 := Scalar.addi v233 v234
  v235.toNat
def k0_dev10 (d0 : Dev nD) : Nat :=
  let c0_i32_166 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_165 : BitVec 32 := 4#32
  let v242 : BitVec 32 := Scalar.muli v10 c4_i32_165
  let v243 : BitVec 32 := Scalar.addi c0_i32_166 v242
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_167 : BitVec 32 := 2#32
  let v244 : BitVec 32 := Scalar.muli v5 c2_i32_167
  let v245 : BitVec 32 := Scalar.addi v243 v244
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_168 : BitVec 32 := 1#32
  let v246 : BitVec 32 := Scalar.muli v8 c1_i32_168
  let v247 : BitVec 32 := Scalar.addi v245 v246
  v247.toNat
def k0_dev11 (d0 : Dev nD) : Nat :=
  let c0_i32_176 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_175 : BitVec 32 := 4#32
  let v254 : BitVec 32 := Scalar.muli v2 c4_i32_175
  let v255 : BitVec 32 := Scalar.addi c0_i32_176 v254
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_177 : BitVec 32 := 2#32
  let v256 : BitVec 32 := Scalar.muli v11 c2_i32_177
  let v257 : BitVec 32 := Scalar.addi v255 v256
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_178 : BitVec 32 := 1#32
  let v258 : BitVec 32 := Scalar.muli v8 c1_i32_178
  let v259 : BitVec 32 := Scalar.addi v257 v258
  v259.toNat
def k0_dev12 (d0 : Dev nD) : Nat :=
  let c0_i32_186 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let c4_i32_185 : BitVec 32 := 4#32
  let v266 : BitVec 32 := Scalar.muli v12 c4_i32_185
  let v267 : BitVec 32 := Scalar.addi c0_i32_186 v266
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let c2_i32_187 : BitVec 32 := 2#32
  let v268 : BitVec 32 := Scalar.muli v13 c2_i32_187
  let v269 : BitVec 32 := Scalar.addi v267 v268
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_188 : BitVec 32 := 1#32
  let v270 : BitVec 32 := Scalar.muli v8 c1_i32_188
  let v271 : BitVec 32 := Scalar.addi v269 v270
  v271.toNat
def k0_dev13 (d0 : Dev nD) : Nat :=
  let c0_i32_196 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_195 : BitVec 32 := 4#32
  let v278 : BitVec 32 := Scalar.muli v2 c4_i32_195
  let v279 : BitVec 32 := Scalar.addi c0_i32_196 v278
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_197 : BitVec 32 := 2#32
  let v280 : BitVec 32 := Scalar.muli v5 c2_i32_197
  let v281 : BitVec 32 := Scalar.addi v279 v280
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_198 : BitVec 32 := 1#32
  let v282 : BitVec 32 := Scalar.muli v9 c1_i32_198
  let v283 : BitVec 32 := Scalar.addi v281 v282
  v283.toNat
def k0_dev14 (d0 : Dev nD) : Nat :=
  let c0_i32_206 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_205 : BitVec 32 := 4#32
  let v290 : BitVec 32 := Scalar.muli v10 c4_i32_205
  let v291 : BitVec 32 := Scalar.addi c0_i32_206 v290
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_207 : BitVec 32 := 2#32
  let v292 : BitVec 32 := Scalar.muli v5 c2_i32_207
  let v293 : BitVec 32 := Scalar.addi v291 v292
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_208 : BitVec 32 := 1#32
  let v294 : BitVec 32 := Scalar.muli v8 c1_i32_208
  let v295 : BitVec 32 := Scalar.addi v293 v294
  v295.toNat
def k0_dev15 (d0 : Dev nD) : Nat :=
  let c0_i32_216 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_215 : BitVec 32 := 4#32
  let v302 : BitVec 32 := Scalar.muli v2 c4_i32_215
  let v303 : BitVec 32 := Scalar.addi c0_i32_216 v302
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_217 : BitVec 32 := 2#32
  let v304 : BitVec 32 := Scalar.muli v11 c2_i32_217
  let v305 : BitVec 32 := Scalar.addi v303 v304
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_218 : BitVec 32 := 1#32
  let v306 : BitVec 32 := Scalar.muli v8 c1_i32_218
  let v307 : BitVec 32 := Scalar.addi v305 v306
  v307.toNat
def k0_dev16 (d0 : Dev nD) : Nat :=
  let c0_i32_226 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let c4_i32_225 : BitVec 32 := 4#32
  let v314 : BitVec 32 := Scalar.muli v12 c4_i32_225
  let v315 : BitVec 32 := Scalar.addi c0_i32_226 v314
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let c2_i32_227 : BitVec 32 := 2#32
  let v316 : BitVec 32 := Scalar.muli v13 c2_i32_227
  let v317 : BitVec 32 := Scalar.addi v315 v316
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_228 : BitVec 32 := 1#32
  let v318 : BitVec 32 := Scalar.muli v8 c1_i32_228
  let v319 : BitVec 32 := Scalar.addi v317 v318
  v319.toNat
def k0_dev17 (d0 : Dev nD) : Nat :=
  let c0_i32_236 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_235 : BitVec 32 := 4#32
  let v326 : BitVec 32 := Scalar.muli v2 c4_i32_235
  let v327 : BitVec 32 := Scalar.addi c0_i32_236 v326
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_237 : BitVec 32 := 2#32
  let v328 : BitVec 32 := Scalar.muli v5 c2_i32_237
  let v329 : BitVec 32 := Scalar.addi v327 v328
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_238 : BitVec 32 := 1#32
  let v330 : BitVec 32 := Scalar.muli v9 c1_i32_238
  let v331 : BitVec 32 := Scalar.addi v329 v330
  v331.toNat
def k0_dev18 (d0 : Dev nD) : Nat :=
  let c0_i32_246 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_245 : BitVec 32 := 4#32
  let v338 : BitVec 32 := Scalar.muli v10 c4_i32_245
  let v339 : BitVec 32 := Scalar.addi c0_i32_246 v338
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_247 : BitVec 32 := 2#32
  let v340 : BitVec 32 := Scalar.muli v5 c2_i32_247
  let v341 : BitVec 32 := Scalar.addi v339 v340
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_248 : BitVec 32 := 1#32
  let v342 : BitVec 32 := Scalar.muli v8 c1_i32_248
  let v343 : BitVec 32 := Scalar.addi v341 v342
  v343.toNat
def k0_dev19 (d0 : Dev nD) : Nat :=
  let c0_i32_256 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_255 : BitVec 32 := 4#32
  let v350 : BitVec 32 := Scalar.muli v2 c4_i32_255
  let v351 : BitVec 32 := Scalar.addi c0_i32_256 v350
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_257 : BitVec 32 := 2#32
  let v352 : BitVec 32 := Scalar.muli v11 c2_i32_257
  let v353 : BitVec 32 := Scalar.addi v351 v352
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_258 : BitVec 32 := 1#32
  let v354 : BitVec 32 := Scalar.muli v8 c1_i32_258
  let v355 : BitVec 32 := Scalar.addi v353 v354
  v355.toNat
def k0_dev20 (d0 : Dev nD) : Nat :=
  let c0_i32_266 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let c4_i32_265 : BitVec 32 := 4#32
  let v362 : BitVec 32 := Scalar.muli v12 c4_i32_265
  let v363 : BitVec 32 := Scalar.addi c0_i32_266 v362
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let c2_i32_267 : BitVec 32 := 2#32
  let v364 : BitVec 32 := Scalar.muli v13 c2_i32_267
  let v365 : BitVec 32 := Scalar.addi v363 v364
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_268 : BitVec 32 := 1#32
  let v366 : BitVec 32 := Scalar.muli v8 c1_i32_268
  let v367 : BitVec 32 := Scalar.addi v365 v366
  v367.toNat
def k0_off5 (d0 : Dev nD) : Fin 3 → Nat :=
  let c4_i32_271 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v374 : BitVec 32 := Scalar.muli c4_i32_271 v10
  let c2_i32_272 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v375 : BitVec 32 := Scalar.muli c2_i32_272 v5
  let v376 : BitVec 32 := Scalar.addi v374 v375
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v377 : BitVec 32 := Scalar.addi v376 v8
  let c0_i32_281 : BitVec 32 := 0#32
  let c0_i32_282 : BitVec 32 := 0#32
  ![v377.toNat, 0, 0]
def k0_dev21 (d0 : Dev nD) : Nat :=
  let c0_i32_292 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_291 : BitVec 32 := 4#32
  let v394 : BitVec 32 := Scalar.muli v2 c4_i32_291
  let v395 : BitVec 32 := Scalar.addi c0_i32_292 v394
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_293 : BitVec 32 := 2#32
  let v396 : BitVec 32 := Scalar.muli v5 c2_i32_293
  let v397 : BitVec 32 := Scalar.addi v395 v396
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_294 : BitVec 32 := 1#32
  let v398 : BitVec 32 := Scalar.muli v9 c1_i32_294
  let v399 : BitVec 32 := Scalar.addi v397 v398
  v399.toNat
def k0_off6 (d0 : Dev nD) : Fin 3 → Nat :=
  let c4_i32_299 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v408 : BitVec 32 := Scalar.muli c4_i32_299 v10
  let c2_i32_300 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v409 : BitVec 32 := Scalar.muli c2_i32_300 v5
  let v410 : BitVec 32 := Scalar.addi v408 v409
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v411 : BitVec 32 := Scalar.addi v410 v8
  let c0_i32_309 : BitVec 32 := 0#32
  let c0_i32_310 : BitVec 32 := 0#32
  ![v411.toNat, 0, 0]
def k0_dev22 (d0 : Dev nD) : Nat :=
  let c0_i32_320 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_319 : BitVec 32 := 4#32
  let v428 : BitVec 32 := Scalar.muli v2 c4_i32_319
  let v429 : BitVec 32 := Scalar.addi c0_i32_320 v428
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_321 : BitVec 32 := 2#32
  let v430 : BitVec 32 := Scalar.muli v5 c2_i32_321
  let v431 : BitVec 32 := Scalar.addi v429 v430
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_322 : BitVec 32 := 1#32
  let v432 : BitVec 32 := Scalar.muli v9 c1_i32_322
  let v433 : BitVec 32 := Scalar.addi v431 v432
  v433.toNat
def k0_off7 (d0 : Dev nD) : Fin 3 → Nat :=
  let c4_i32_327 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v442 : BitVec 32 := Scalar.muli c4_i32_327 v10
  let c2_i32_328 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v443 : BitVec 32 := Scalar.muli c2_i32_328 v5
  let v444 : BitVec 32 := Scalar.addi v442 v443
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v445 : BitVec 32 := Scalar.addi v444 v8
  let c0_i32_337 : BitVec 32 := 0#32
  let c0_i32_338 : BitVec 32 := 0#32
  ![v445.toNat, 0, 0]
def k0_dev23 (d0 : Dev nD) : Nat :=
  let c0_i32_348 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_347 : BitVec 32 := 4#32
  let v462 : BitVec 32 := Scalar.muli v2 c4_i32_347
  let v463 : BitVec 32 := Scalar.addi c0_i32_348 v462
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_349 : BitVec 32 := 2#32
  let v464 : BitVec 32 := Scalar.muli v5 c2_i32_349
  let v465 : BitVec 32 := Scalar.addi v463 v464
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_350 : BitVec 32 := 1#32
  let v466 : BitVec 32 := Scalar.muli v9 c1_i32_350
  let v467 : BitVec 32 := Scalar.addi v465 v466
  v467.toNat
def k0_dev24 (d0 : Dev nD) : Nat :=
  let c0_i32_376 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_375 : BitVec 32 := 4#32
  let v496 : BitVec 32 := Scalar.muli v2 c4_i32_375
  let v497 : BitVec 32 := Scalar.addi c0_i32_376 v496
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_377 : BitVec 32 := 2#32
  let v498 : BitVec 32 := Scalar.muli v5 c2_i32_377
  let v499 : BitVec 32 := Scalar.addi v497 v498
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_378 : BitVec 32 := 1#32
  let v500 : BitVec 32 := Scalar.muli v9 c1_i32_378
  let v501 : BitVec 32 := Scalar.addi v499 v500
  v501.toNat
def k0_off8 (d0 : Dev nD) : Fin 3 → Nat :=
  let c4_i32_383 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v510 : BitVec 32 := Scalar.muli c4_i32_383 v10
  let c2_i32_384 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v511 : BitVec 32 := Scalar.muli c2_i32_384 v5
  let v512 : BitVec 32 := Scalar.addi v510 v511
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v513 : BitVec 32 := Scalar.addi v512 v8
  let c0_i32_393 : BitVec 32 := 0#32
  let c0_i32_394 : BitVec 32 := 0#32
  ![v513.toNat, 0, 0]
def k0_dev25 (d0 : Dev nD) : Nat :=
  let c0_i32_404 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_403 : BitVec 32 := 4#32
  let v530 : BitVec 32 := Scalar.muli v2 c4_i32_403
  let v531 : BitVec 32 := Scalar.addi c0_i32_404 v530
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_405 : BitVec 32 := 2#32
  let v532 : BitVec 32 := Scalar.muli v5 c2_i32_405
  let v533 : BitVec 32 := Scalar.addi v531 v532
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_406 : BitVec 32 := 1#32
  let v534 : BitVec 32 := Scalar.muli v9 c1_i32_406
  let v535 : BitVec 32 := Scalar.addi v533 v534
  v535.toNat
def k0_off9 (d0 : Dev nD) : Fin 3 → Nat :=
  let c4_i32_411 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v544 : BitVec 32 := Scalar.muli c4_i32_411 v2
  let c2_i32_412 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v545 : BitVec 32 := Scalar.muli c2_i32_412 v11
  let v546 : BitVec 32 := Scalar.addi v544 v545
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v547 : BitVec 32 := Scalar.addi v546 v8
  let c0_i32_421 : BitVec 32 := 0#32
  let c0_i32_422 : BitVec 32 := 0#32
  ![v547.toNat, 0, 0]
def k0_dev26 (d0 : Dev nD) : Nat :=
  let c0_i32_431 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_430 : BitVec 32 := 4#32
  let v564 : BitVec 32 := Scalar.muli v2 c4_i32_430
  let v565 : BitVec 32 := Scalar.addi c0_i32_431 v564
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_432 : BitVec 32 := 2#32
  let v566 : BitVec 32 := Scalar.muli v5 c2_i32_432
  let v567 : BitVec 32 := Scalar.addi v565 v566
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_433 : BitVec 32 := 1#32
  let v568 : BitVec 32 := Scalar.muli v9 c1_i32_433
  let v569 : BitVec 32 := Scalar.addi v567 v568
  v569.toNat
def k0_off10 (d0 : Dev nD) : Fin 3 → Nat :=
  let c4_i32_438 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v578 : BitVec 32 := Scalar.muli c4_i32_438 v2
  let c2_i32_439 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v579 : BitVec 32 := Scalar.muli c2_i32_439 v11
  let v580 : BitVec 32 := Scalar.addi v578 v579
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v581 : BitVec 32 := Scalar.addi v580 v8
  let c0_i32_448 : BitVec 32 := 0#32
  let c0_i32_449 : BitVec 32 := 0#32
  ![v581.toNat, 0, 0]
def k0_dev27 (d0 : Dev nD) : Nat :=
  let c0_i32_459 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_458 : BitVec 32 := 4#32
  let v598 : BitVec 32 := Scalar.muli v2 c4_i32_458
  let v599 : BitVec 32 := Scalar.addi c0_i32_459 v598
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_460 : BitVec 32 := 2#32
  let v600 : BitVec 32 := Scalar.muli v5 c2_i32_460
  let v601 : BitVec 32 := Scalar.addi v599 v600
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_461 : BitVec 32 := 1#32
  let v602 : BitVec 32 := Scalar.muli v9 c1_i32_461
  let v603 : BitVec 32 := Scalar.addi v601 v602
  v603.toNat
def k0_off11 (d0 : Dev nD) : Fin 3 → Nat :=
  let c4_i32_466 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v612 : BitVec 32 := Scalar.muli c4_i32_466 v2
  let c2_i32_467 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v613 : BitVec 32 := Scalar.muli c2_i32_467 v11
  let v614 : BitVec 32 := Scalar.addi v612 v613
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v615 : BitVec 32 := Scalar.addi v614 v8
  let c0_i32_476 : BitVec 32 := 0#32
  let c0_i32_477 : BitVec 32 := 0#32
  ![v615.toNat, 0, 0]
def k0_dev28 (d0 : Dev nD) : Nat :=
  let c0_i32_487 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_486 : BitVec 32 := 4#32
  let v632 : BitVec 32 := Scalar.muli v2 c4_i32_486
  let v633 : BitVec 32 := Scalar.addi c0_i32_487 v632
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_488 : BitVec 32 := 2#32
  let v634 : BitVec 32 := Scalar.muli v5 c2_i32_488
  let v635 : BitVec 32 := Scalar.addi v633 v634
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_489 : BitVec 32 := 1#32
  let v636 : BitVec 32 := Scalar.muli v9 c1_i32_489
  let v637 : BitVec 32 := Scalar.addi v635 v636
  v637.toNat
def k0_dev29 (d0 : Dev nD) : Nat :=
  let c0_i32_515 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_514 : BitVec 32 := 4#32
  let v666 : BitVec 32 := Scalar.muli v2 c4_i32_514
  let v667 : BitVec 32 := Scalar.addi c0_i32_515 v666
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_516 : BitVec 32 := 2#32
  let v668 : BitVec 32 := Scalar.muli v5 c2_i32_516
  let v669 : BitVec 32 := Scalar.addi v667 v668
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_517 : BitVec 32 := 1#32
  let v670 : BitVec 32 := Scalar.muli v9 c1_i32_517
  let v671 : BitVec 32 := Scalar.addi v669 v670
  v671.toNat
def k0_off12 (d0 : Dev nD) : Fin 3 → Nat :=
  let c4_i32_522 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v680 : BitVec 32 := Scalar.muli c4_i32_522 v2
  let c2_i32_523 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v681 : BitVec 32 := Scalar.muli c2_i32_523 v11
  let v682 : BitVec 32 := Scalar.addi v680 v681
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v683 : BitVec 32 := Scalar.addi v682 v8
  let c0_i32_532 : BitVec 32 := 0#32
  let c0_i32_533 : BitVec 32 := 0#32
  ![v683.toNat, 0, 0]
def k0_dev30 (d0 : Dev nD) : Nat :=
  let c0_i32_543 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_542 : BitVec 32 := 4#32
  let v700 : BitVec 32 := Scalar.muli v2 c4_i32_542
  let v701 : BitVec 32 := Scalar.addi c0_i32_543 v700
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_544 : BitVec 32 := 2#32
  let v702 : BitVec 32 := Scalar.muli v5 c2_i32_544
  let v703 : BitVec 32 := Scalar.addi v701 v702
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_545 : BitVec 32 := 1#32
  let v704 : BitVec 32 := Scalar.muli v9 c1_i32_545
  let v705 : BitVec 32 := Scalar.addi v703 v704
  v705.toNat
def k0_off13 (d0 : Dev nD) : Fin 3 → Nat :=
  let c4_i32_550 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v714 : BitVec 32 := Scalar.muli c4_i32_550 v12
  let c2_i32_551 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v715 : BitVec 32 := Scalar.muli c2_i32_551 v13
  let v716 : BitVec 32 := Scalar.addi v714 v715
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v717 : BitVec 32 := Scalar.addi v716 v8
  let c0_i32_560 : BitVec 32 := 0#32
  let c0_i32_561 : BitVec 32 := 0#32
  ![v717.toNat, 0, 0]
def k0_dev31 (d0 : Dev nD) : Nat :=
  let c0_i32_570 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_569 : BitVec 32 := 4#32
  let v734 : BitVec 32 := Scalar.muli v2 c4_i32_569
  let v735 : BitVec 32 := Scalar.addi c0_i32_570 v734
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_571 : BitVec 32 := 2#32
  let v736 : BitVec 32 := Scalar.muli v5 c2_i32_571
  let v737 : BitVec 32 := Scalar.addi v735 v736
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_572 : BitVec 32 := 1#32
  let v738 : BitVec 32 := Scalar.muli v9 c1_i32_572
  let v739 : BitVec 32 := Scalar.addi v737 v738
  v739.toNat
def k0_off14 (d0 : Dev nD) : Fin 3 → Nat :=
  let c4_i32_577 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v748 : BitVec 32 := Scalar.muli c4_i32_577 v12
  let c2_i32_578 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v749 : BitVec 32 := Scalar.muli c2_i32_578 v13
  let v750 : BitVec 32 := Scalar.addi v748 v749
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v751 : BitVec 32 := Scalar.addi v750 v8
  let c0_i32_587 : BitVec 32 := 0#32
  let c0_i32_588 : BitVec 32 := 0#32
  ![v751.toNat, 0, 0]
def k0_dev32 (d0 : Dev nD) : Nat :=
  let c0_i32_598 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_597 : BitVec 32 := 4#32
  let v768 : BitVec 32 := Scalar.muli v2 c4_i32_597
  let v769 : BitVec 32 := Scalar.addi c0_i32_598 v768
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_599 : BitVec 32 := 2#32
  let v770 : BitVec 32 := Scalar.muli v5 c2_i32_599
  let v771 : BitVec 32 := Scalar.addi v769 v770
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_600 : BitVec 32 := 1#32
  let v772 : BitVec 32 := Scalar.muli v9 c1_i32_600
  let v773 : BitVec 32 := Scalar.addi v771 v772
  v773.toNat
def k0_off15 (d0 : Dev nD) : Fin 3 → Nat :=
  let c4_i32_605 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v782 : BitVec 32 := Scalar.muli c4_i32_605 v12
  let c2_i32_606 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v783 : BitVec 32 := Scalar.muli c2_i32_606 v13
  let v784 : BitVec 32 := Scalar.addi v782 v783
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v785 : BitVec 32 := Scalar.addi v784 v8
  let c0_i32_615 : BitVec 32 := 0#32
  let c0_i32_616 : BitVec 32 := 0#32
  ![v785.toNat, 0, 0]
def k0_dev33 (d0 : Dev nD) : Nat :=
  let c0_i32_626 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_625 : BitVec 32 := 4#32
  let v802 : BitVec 32 := Scalar.muli v2 c4_i32_625
  let v803 : BitVec 32 := Scalar.addi c0_i32_626 v802
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_627 : BitVec 32 := 2#32
  let v804 : BitVec 32 := Scalar.muli v5 c2_i32_627
  let v805 : BitVec 32 := Scalar.addi v803 v804
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_628 : BitVec 32 := 1#32
  let v806 : BitVec 32 := Scalar.muli v9 c1_i32_628
  let v807 : BitVec 32 := Scalar.addi v805 v806
  v807.toNat
def k0_dev34 (d0 : Dev nD) : Nat :=
  let c0_i32_654 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_653 : BitVec 32 := 4#32
  let v836 : BitVec 32 := Scalar.muli v2 c4_i32_653
  let v837 : BitVec 32 := Scalar.addi c0_i32_654 v836
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_655 : BitVec 32 := 2#32
  let v838 : BitVec 32 := Scalar.muli v5 c2_i32_655
  let v839 : BitVec 32 := Scalar.addi v837 v838
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_656 : BitVec 32 := 1#32
  let v840 : BitVec 32 := Scalar.muli v9 c1_i32_656
  let v841 : BitVec 32 := Scalar.addi v839 v840
  v841.toNat
def k0_off16 (d0 : Dev nD) : Fin 3 → Nat :=
  let c4_i32_661 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v850 : BitVec 32 := Scalar.muli c4_i32_661 v12
  let c2_i32_662 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v851 : BitVec 32 := Scalar.muli c2_i32_662 v13
  let v852 : BitVec 32 := Scalar.addi v850 v851
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v853 : BitVec 32 := Scalar.addi v852 v8
  let c0_i32_671 : BitVec 32 := 0#32
  let c0_i32_672 : BitVec 32 := 0#32
  ![v853.toNat, 0, 0]
def k0_dev35 (d0 : Dev nD) : Nat :=
  let c0_i32_682 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_681 : BitVec 32 := 4#32
  let v870 : BitVec 32 := Scalar.muli v2 c4_i32_681
  let v871 : BitVec 32 := Scalar.addi c0_i32_682 v870
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_683 : BitVec 32 := 2#32
  let v872 : BitVec 32 := Scalar.muli v5 c2_i32_683
  let v873 : BitVec 32 := Scalar.addi v871 v872
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_684 : BitVec 32 := 1#32
  let v874 : BitVec 32 := Scalar.muli v9 c1_i32_684
  let v875 : BitVec 32 := Scalar.addi v873 v874
  v875.toNat
def k0_off17 (d0 : Dev nD) : Fin 3 → Nat :=
  let c4_i32_689 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v884 : BitVec 32 := Scalar.muli c4_i32_689 v2
  let c2_i32_690 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v885 : BitVec 32 := Scalar.muli c2_i32_690 v5
  let v886 : BitVec 32 := Scalar.addi v884 v885
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let v887 : BitVec 32 := Scalar.addi v886 v9
  let c0_i32_699 : BitVec 32 := 0#32
  let c0_i32_700 : BitVec 32 := 0#32
  ![v887.toNat, 0, 0]
def k0_off18 (d0 : Dev nD) : Fin 3 → Nat :=
  let c4_i32_704 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v901 : BitVec 32 := Scalar.muli c4_i32_704 v10
  let c2_i32_705 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v902 : BitVec 32 := Scalar.muli c2_i32_705 v5
  let v903 : BitVec 32 := Scalar.addi v901 v902
  let c1_i32_703 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v900 : BitVec 32 := Scalar.subi c1_i32_703 v8
  let v904 : BitVec 32 := Scalar.addi v903 v900
  let c0_i32_714 : BitVec 32 := 0#32
  let c0_i32_715 : BitVec 32 := 0#32
  ![v904.toNat, 0, 0]
def k0_off19 (d0 : Dev nD) : Fin 3 → Nat :=
  let c4_i32_719 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v918 : BitVec 32 := Scalar.muli c4_i32_719 v2
  let c2_i32_720 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v919 : BitVec 32 := Scalar.muli c2_i32_720 v11
  let v920 : BitVec 32 := Scalar.addi v918 v919
  let c1_i32_718 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v917 : BitVec 32 := Scalar.subi c1_i32_718 v8
  let v921 : BitVec 32 := Scalar.addi v920 v917
  let c0_i32_729 : BitVec 32 := 0#32
  let c0_i32_730 : BitVec 32 := 0#32
  ![v921.toNat, 0, 0]
def k0_off20 (d0 : Dev nD) : Fin 3 → Nat :=
  let c4_i32_734 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v935 : BitVec 32 := Scalar.muli c4_i32_734 v12
  let c2_i32_735 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v936 : BitVec 32 := Scalar.muli c2_i32_735 v13
  let v937 : BitVec 32 := Scalar.addi v935 v936
  let c1_i32_733 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v934 : BitVec 32 := Scalar.subi c1_i32_733 v8
  let v938 : BitVec 32 := Scalar.addi v937 v934
  let c0_i32_744 : BitVec 32 := 0#32
  let c0_i32_745 : BitVec 32 := 0#32
  ![v938.toNat, 0, 0]
def k0_off21 (d0 : Dev nD) : Fin 3 → Nat :=
  let c4_i32_748 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v951 : BitVec 32 := Scalar.muli c4_i32_748 v2
  let c2_i32_749 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v952 : BitVec 32 := Scalar.muli c2_i32_749 v5
  let v953 : BitVec 32 := Scalar.addi v951 v952
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let v954 : BitVec 32 := Scalar.addi v953 v9
  let c0_i32_758 : BitVec 32 := 0#32
  let c0_i32_759 : BitVec 32 := 0#32
  ![v954.toNat, 0, 0]
def k0_off22 (d0 : Dev nD) : Fin 3 → Nat :=
  let c4_i32_763 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v968 : BitVec 32 := Scalar.muli c4_i32_763 v10
  let c2_i32_764 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v969 : BitVec 32 := Scalar.muli c2_i32_764 v5
  let v970 : BitVec 32 := Scalar.addi v968 v969
  let c1_i32_762 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v967 : BitVec 32 := Scalar.subi c1_i32_762 v8
  let v971 : BitVec 32 := Scalar.addi v970 v967
  let c0_i32_773 : BitVec 32 := 0#32
  let c0_i32_774 : BitVec 32 := 0#32
  ![v971.toNat, 0, 0]
def k0_off23 (d0 : Dev nD) : Fin 3 → Nat :=
  let c4_i32_778 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v985 : BitVec 32 := Scalar.muli c4_i32_778 v2
  let c2_i32_779 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v986 : BitVec 32 := Scalar.muli c2_i32_779 v11
  let v987 : BitVec 32 := Scalar.addi v985 v986
  let c1_i32_777 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v984 : BitVec 32 := Scalar.subi c1_i32_777 v8
  let v988 : BitVec 32 := Scalar.addi v987 v984
  let c0_i32_788 : BitVec 32 := 0#32
  let c0_i32_789 : BitVec 32 := 0#32
  ![v988.toNat, 0, 0]
def k0_off24 (d0 : Dev nD) : Fin 3 → Nat :=
  let c4_i32_793 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v1002 : BitVec 32 := Scalar.muli c4_i32_793 v12
  let c2_i32_794 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v1003 : BitVec 32 := Scalar.muli c2_i32_794 v13
  let v1004 : BitVec 32 := Scalar.addi v1002 v1003
  let c1_i32_792 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1001 : BitVec 32 := Scalar.subi c1_i32_792 v8
  let v1005 : BitVec 32 := Scalar.addi v1004 v1001
  let c0_i32_803 : BitVec 32 := 0#32
  let c0_i32_804 : BitVec 32 := 0#32
  ![v1005.toNat, 0, 0]
def k0_off25 (d0 : Dev nD) : Fin 3 → Nat :=
  let c4_i32_807 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1018 : BitVec 32 := Scalar.muli c4_i32_807 v2
  let c2_i32_808 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1019 : BitVec 32 := Scalar.muli c2_i32_808 v5
  let v1020 : BitVec 32 := Scalar.addi v1018 v1019
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let v1021 : BitVec 32 := Scalar.addi v1020 v9
  let c0_i32_817 : BitVec 32 := 0#32
  let c0_i32_818 : BitVec 32 := 0#32
  ![v1021.toNat, 0, 0]
def k0_off26 (d0 : Dev nD) : Fin 3 → Nat :=
  let c4_i32_822 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v1035 : BitVec 32 := Scalar.muli c4_i32_822 v10
  let c2_i32_823 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1036 : BitVec 32 := Scalar.muli c2_i32_823 v5
  let v1037 : BitVec 32 := Scalar.addi v1035 v1036
  let c1_i32_821 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1034 : BitVec 32 := Scalar.subi c1_i32_821 v8
  let v1038 : BitVec 32 := Scalar.addi v1037 v1034
  let c0_i32_832 : BitVec 32 := 0#32
  let c0_i32_833 : BitVec 32 := 0#32
  ![v1038.toNat, 0, 0]
def k0_off27 (d0 : Dev nD) : Fin 3 → Nat :=
  let c4_i32_837 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1052 : BitVec 32 := Scalar.muli c4_i32_837 v2
  let c2_i32_838 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v1053 : BitVec 32 := Scalar.muli c2_i32_838 v11
  let v1054 : BitVec 32 := Scalar.addi v1052 v1053
  let c1_i32_836 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1051 : BitVec 32 := Scalar.subi c1_i32_836 v8
  let v1055 : BitVec 32 := Scalar.addi v1054 v1051
  let c0_i32_847 : BitVec 32 := 0#32
  let c0_i32_848 : BitVec 32 := 0#32
  ![v1055.toNat, 0, 0]
def k0_off28 (d0 : Dev nD) : Fin 3 → Nat :=
  let c4_i32_852 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v1069 : BitVec 32 := Scalar.muli c4_i32_852 v12
  let c2_i32_853 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v1070 : BitVec 32 := Scalar.muli c2_i32_853 v13
  let v1071 : BitVec 32 := Scalar.addi v1069 v1070
  let c1_i32_851 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1068 : BitVec 32 := Scalar.subi c1_i32_851 v8
  let v1072 : BitVec 32 := Scalar.addi v1071 v1068
  let c0_i32_862 : BitVec 32 := 0#32
  let c0_i32_863 : BitVec 32 := 0#32
  ![v1072.toNat, 0, 0]
def k0_off29 (d0 : Dev nD) : Fin 3 → Nat :=
  let c4_i32_925 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1152 : BitVec 32 := Scalar.muli c4_i32_925 v2
  let c2_i32_926 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1153 : BitVec 32 := Scalar.muli c2_i32_926 v5
  let v1154 : BitVec 32 := Scalar.addi v1152 v1153
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let v1155 : BitVec 32 := Scalar.addi v1154 v9
  let c0_i32_935 : BitVec 32 := 0#32
  let c0_i32_936 : BitVec 32 := 0#32
  ![v1155.toNat, 0, 0]
def k0_off30 (d0 : Dev nD) : Fin 3 → Nat :=
  let c4_i32_940 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v1169 : BitVec 32 := Scalar.muli c4_i32_940 v10
  let c2_i32_941 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1170 : BitVec 32 := Scalar.muli c2_i32_941 v5
  let v1171 : BitVec 32 := Scalar.addi v1169 v1170
  let c1_i32_939 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1168 : BitVec 32 := Scalar.subi c1_i32_939 v8
  let v1172 : BitVec 32 := Scalar.addi v1171 v1168
  let c0_i32_950 : BitVec 32 := 0#32
  let c0_i32_951 : BitVec 32 := 0#32
  ![v1172.toNat, 0, 0]
def k0_off31 (d0 : Dev nD) : Fin 3 → Nat :=
  let c4_i32_955 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1186 : BitVec 32 := Scalar.muli c4_i32_955 v2
  let c2_i32_956 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v1187 : BitVec 32 := Scalar.muli c2_i32_956 v11
  let v1188 : BitVec 32 := Scalar.addi v1186 v1187
  let c1_i32_954 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1185 : BitVec 32 := Scalar.subi c1_i32_954 v8
  let v1189 : BitVec 32 := Scalar.addi v1188 v1185
  let c0_i32_965 : BitVec 32 := 0#32
  let c0_i32_966 : BitVec 32 := 0#32
  ![v1189.toNat, 0, 0]
def k0_off32 (d0 : Dev nD) : Fin 3 → Nat :=
  let c4_i32_970 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v1203 : BitVec 32 := Scalar.muli c4_i32_970 v12
  let c2_i32_971 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v1204 : BitVec 32 := Scalar.muli c2_i32_971 v13
  let v1205 : BitVec 32 := Scalar.addi v1203 v1204
  let c1_i32_969 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1202 : BitVec 32 := Scalar.subi c1_i32_969 v8
  let v1206 : BitVec 32 := Scalar.addi v1205 v1202
  let c0_i32_980 : BitVec 32 := 0#32
  let c0_i32_981 : BitVec 32 := 0#32
  ![v1206.toNat, 0, 0]
-- ==== GatherRefIdeal.lean ====
abbrev S12x1024 : Shape := ⟨2, ![12, 1024]⟩
abbrev S4x1024 : Shape := ⟨2, ![4, 1024]⟩
abbrev S4x2048 : Shape := ⟨2, ![4, 2048]⟩
abbrev S1x2048 : Shape := ⟨2, ![1, 2048]⟩
abbrev S1x12x1024 : Shape := ⟨3, ![1, 12, 1024]⟩
abbrev S8x12x1024 : Shape := ⟨3, ![8, 12, 1024]⟩
abbrev S1x4x1024 : Shape := ⟨3, ![1, 4, 1024]⟩
abbrev S8x4x1024 : Shape := ⟨3, ![8, 4, 1024]⟩
abbrev S1x4x2048 : Shape := ⟨3, ![1, 4, 2048]⟩
abbrev S8x4x2048 : Shape := ⟨3, ![8, 4, 2048]⟩
abbrev S1x1x2048 : Shape := ⟨3, ![1, 1, 2048]⟩
abbrev S8x1x2048 : Shape := ⟨3, ![8, 1, 2048]⟩

abbrev nBuf : Space → Nat
  | .hbm => 15
  | .vmem => 0
  | .smem => 0
  | _ => 0

abbrev bufTy : (tb : Table) → Fin (tcTables nBuf tb) → BufTy
  | .hbm, ⟨0, _⟩ => ⟨S12x1024, .f32⟩
  | .hbm, ⟨1, _⟩ => ⟨S4x1024, .f32⟩
  | .hbm, ⟨2, _⟩ => ⟨S4x2048, .f32⟩
  | .hbm, ⟨3, _⟩ => ⟨S4x2048, .f32⟩
  | .hbm, ⟨4, _⟩ => ⟨S1x2048, .f32⟩
  | .hbm, ⟨5, _⟩ => ⟨S1x12x1024, .f32⟩
  | .hbm, ⟨6, _⟩ => ⟨S8x12x1024, .f32⟩
  | .hbm, ⟨7, _⟩ => ⟨S1x4x1024, .f32⟩
  | .hbm, ⟨8, _⟩ => ⟨S8x4x1024, .f32⟩
  | .hbm, ⟨9, _⟩ => ⟨S1x4x2048, .f32⟩
  | .hbm, ⟨10, _⟩ => ⟨S8x4x2048, .f32⟩
  | .hbm, ⟨11, _⟩ => ⟨S1x4x2048, .f32⟩
  | .hbm, ⟨12, _⟩ => ⟨S8x4x2048, .f32⟩
  | .hbm, ⟨13, _⟩ => ⟨S1x1x2048, .f32⟩
  | .hbm, ⟨14, _⟩ => ⟨S8x1x2048, .f32⟩
  | _, _ => ⟨S12x1024, .f32⟩

abbrev bufScoped : (cs : CoreSpace) → Fin (nBuf (.core cs)) → Bool
  | _, _ => false

abbrev semScoped : Fin 5 → Bool
  | ⟨0, _⟩ => false
  | ⟨1, _⟩ => false
  | ⟨2, _⟩ => false
  | ⟨3, _⟩ => false
  | ⟨4, _⟩ => false
  | _ => false

abbrev dmaSemScoped : Fin 50 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => false
  | ⟨20, _⟩ => false
  | ⟨21, _⟩ => false
  | ⟨22, _⟩ => false
  | ⟨23, _⟩ => false
  | ⟨24, _⟩ => false
  | ⟨25, _⟩ => false
  | ⟨26, _⟩ => false
  | ⟨27, _⟩ => false
  | ⟨28, _⟩ => false
  | ⟨29, _⟩ => false
  | ⟨30, _⟩ => false
  | ⟨31, _⟩ => false
  | ⟨32, _⟩ => false
  | ⟨33, _⟩ => false
  | ⟨34, _⟩ => false
  | ⟨35, _⟩ => false
  | ⟨36, _⟩ => false
  | ⟨37, _⟩ => false
  | ⟨38, _⟩ => false
  | ⟨39, _⟩ => false
  | ⟨40, _⟩ => false
  | ⟨41, _⟩ => false
  | ⟨42, _⟩ => false
  | ⟨43, _⟩ => false
  | ⟨44, _⟩ => false
  | ⟨45, _⟩ => false
  | ⟨46, _⟩ => false
  | ⟨47, _⟩ => false
  | ⟨48, _⟩ => false
  | ⟨49, _⟩ => false
  | _ => false

abbrev sig : RefSig :=
  ofTc nBuf bufTy 5 50 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev ag0_recv_cw_0_ring : DmaSem sig := 0
abbrev ag0_recv_cw_0_partner : DmaSem sig := 1
abbrev ag0_recv_cw_1_ring : DmaSem sig := 2
abbrev ag0_recv_cw_1_partner : DmaSem sig := 3
abbrev ag0_recv_ccw_0_ring : DmaSem sig := 4
abbrev ag0_recv_ccw_0_partner : DmaSem sig := 5
abbrev ag0_recv_ccw_1_ring : DmaSem sig := 6
abbrev ag0_recv_ccw_1_partner : DmaSem sig := 7
abbrev ag0_send : DmaSem sig := 8
abbrev ag0_copy : DmaSem sig := 9
abbrev ag1_recv_cw_0_ring : DmaSem sig := 10
abbrev ag1_recv_cw_0_partner : DmaSem sig := 11
abbrev ag1_recv_cw_1_ring : DmaSem sig := 12
abbrev ag1_recv_cw_1_partner : DmaSem sig := 13
abbrev ag1_recv_ccw_0_ring : DmaSem sig := 14
abbrev ag1_recv_ccw_0_partner : DmaSem sig := 15
abbrev ag1_recv_ccw_1_ring : DmaSem sig := 16
abbrev ag1_recv_ccw_1_partner : DmaSem sig := 17
abbrev ag1_send : DmaSem sig := 18
abbrev ag1_copy : DmaSem sig := 19
abbrev ag2_recv_cw_0_ring : DmaSem sig := 20
abbrev ag2_recv_cw_0_partner : DmaSem sig := 21
abbrev ag2_recv_cw_1_ring : DmaSem sig := 22
abbrev ag2_recv_cw_1_partner : DmaSem sig := 23
abbrev ag2_recv_ccw_0_ring : DmaSem sig := 24
abbrev ag2_recv_ccw_0_partner : DmaSem sig := 25
abbrev ag2_recv_ccw_1_ring : DmaSem sig := 26
abbrev ag2_recv_ccw_1_partner : DmaSem sig := 27
abbrev ag2_send : DmaSem sig := 28
abbrev ag2_copy : DmaSem sig := 29
abbrev ag3_recv_cw_0_ring : DmaSem sig := 30
abbrev ag3_recv_cw_0_partner : DmaSem sig := 31
abbrev ag3_recv_cw_1_ring : DmaSem sig := 32
abbrev ag3_recv_cw_1_partner : DmaSem sig := 33
abbrev ag3_recv_ccw_0_ring : DmaSem sig := 34
abbrev ag3_recv_ccw_0_partner : DmaSem sig := 35
abbrev ag3_recv_ccw_1_ring : DmaSem sig := 36
abbrev ag3_recv_ccw_1_partner : DmaSem sig := 37
abbrev ag3_send : DmaSem sig := 38
abbrev ag3_copy : DmaSem sig := 39
abbrev ag4_recv_cw_0_ring : DmaSem sig := 40
abbrev ag4_recv_cw_0_partner : DmaSem sig := 41
abbrev ag4_recv_cw_1_ring : DmaSem sig := 42
abbrev ag4_recv_cw_1_partner : DmaSem sig := 43
abbrev ag4_recv_ccw_0_ring : DmaSem sig := 44
abbrev ag4_recv_ccw_0_partner : DmaSem sig := 45
abbrev ag4_recv_ccw_1_ring : DmaSem sig := 46
abbrev ag4_recv_ccw_1_partner : DmaSem sig := 47
abbrev ag4_send : DmaSem sig := 48
abbrev ag4_copy : DmaSem sig := 49
abbrev ag0_barrier : Sem sig := 0
abbrev ag1_barrier : Sem sig := 1
abbrev ag2_barrier : Sem sig := 2
abbrev ag3_barrier : Sem sig := 3
abbrev ag4_barrier : Sem sig := 4

abbrev nD : Nat := 8
abbrev τ : Topo := Topo.v7x

variable {F : FTy → Type} [FloatOps F]

abbrev ag0_mem : Fin 1 × Fin 8 × Fin 1 → Dev nD := fun q => (![![0, 1, 2, 3, 4, 5, 6, 7]] : Fin 1 → Fin 8 → Dev nD) q.1 q.2.1
abbrev ag0_pos : Dev nD → Fin 1 × Fin 8 × Fin 1 := fun c => ((![0, 0, 0, 0, 0, 0, 0, 0] : Fin 8 → Fin 1) c, (![0, 1, 2, 3, 4, 5, 6, 7] : Fin 8 → Fin 8) c, 0)
abbrev ag0_recv : AllGather.Dir → AllGather.Parity → Bool → DmaSem sig := fun | .cw, 0, false => ag0_recv_cw_0_ring | .cw, 0, true => ag0_recv_cw_0_partner | .cw, 1, false => ag0_recv_cw_1_ring | .cw, 1, true => ag0_recv_cw_1_partner | .ccw, 0, false => ag0_recv_ccw_0_ring | .ccw, 0, true => ag0_recv_ccw_0_partner | .ccw, 1, false => ag0_recv_ccw_1_ring | .ccw, 1, true => ag0_recv_ccw_1_partner

abbrev ag1_mem : Fin 1 × Fin 8 × Fin 1 → Dev nD := fun q => (![![0, 1, 2, 3, 4, 5, 6, 7]] : Fin 1 → Fin 8 → Dev nD) q.1 q.2.1
abbrev ag1_pos : Dev nD → Fin 1 × Fin 8 × Fin 1 := fun c => ((![0, 0, 0, 0, 0, 0, 0, 0] : Fin 8 → Fin 1) c, (![0, 1, 2, 3, 4, 5, 6, 7] : Fin 8 → Fin 8) c, 0)
abbrev ag1_recv : AllGather.Dir → AllGather.Parity → Bool → DmaSem sig := fun | .cw, 0, false => ag1_recv_cw_0_ring | .cw, 0, true => ag1_recv_cw_0_partner | .cw, 1, false => ag1_recv_cw_1_ring | .cw, 1, true => ag1_recv_cw_1_partner | .ccw, 0, false => ag1_recv_ccw_0_ring | .ccw, 0, true => ag1_recv_ccw_0_partner | .ccw, 1, false => ag1_recv_ccw_1_ring | .ccw, 1, true => ag1_recv_ccw_1_partner

abbrev ag2_mem : Fin 1 × Fin 8 × Fin 1 → Dev nD := fun q => (![![0, 1, 2, 3, 4, 5, 6, 7]] : Fin 1 → Fin 8 → Dev nD) q.1 q.2.1
abbrev ag2_pos : Dev nD → Fin 1 × Fin 8 × Fin 1 := fun c => ((![0, 0, 0, 0, 0, 0, 0, 0] : Fin 8 → Fin 1) c, (![0, 1, 2, 3, 4, 5, 6, 7] : Fin 8 → Fin 8) c, 0)
abbrev ag2_recv : AllGather.Dir → AllGather.Parity → Bool → DmaSem sig := fun | .cw, 0, false => ag2_recv_cw_0_ring | .cw, 0, true => ag2_recv_cw_0_partner | .cw, 1, false => ag2_recv_cw_1_ring | .cw, 1, true => ag2_recv_cw_1_partner | .ccw, 0, false => ag2_recv_ccw_0_ring | .ccw, 0, true => ag2_recv_ccw_0_partner | .ccw, 1, false => ag2_recv_ccw_1_ring | .ccw, 1, true => ag2_recv_ccw_1_partner

abbrev ag3_mem : Fin 1 × Fin 8 × Fin 1 → Dev nD := fun q => (![![0, 1, 2, 3, 4, 5, 6, 7]] : Fin 1 → Fin 8 → Dev nD) q.1 q.2.1
abbrev ag3_pos : Dev nD → Fin 1 × Fin 8 × Fin 1 := fun c => ((![0, 0, 0, 0, 0, 0, 0, 0] : Fin 8 → Fin 1) c, (![0, 1, 2, 3, 4, 5, 6, 7] : Fin 8 → Fin 8) c, 0)
abbrev ag3_recv : AllGather.Dir → AllGather.Parity → Bool → DmaSem sig := fun | .cw, 0, false => ag3_recv_cw_0_ring | .cw, 0, true => ag3_recv_cw_0_partner | .cw, 1, false => ag3_recv_cw_1_ring | .cw, 1, true => ag3_recv_cw_1_partner | .ccw, 0, false => ag3_recv_ccw_0_ring | .ccw, 0, true => ag3_recv_ccw_0_partner | .ccw, 1, false => ag3_recv_ccw_1_ring | .ccw, 1, true => ag3_recv_ccw_1_partner

abbrev ag4_mem : Fin 1 × Fin 8 × Fin 1 → Dev nD := fun q => (![![0, 1, 2, 3, 4, 5, 6, 7]] : Fin 1 → Fin 8 → Dev nD) q.1 q.2.1
abbrev ag4_pos : Dev nD → Fin 1 × Fin 8 × Fin 1 := fun c => ((![0, 0, 0, 0, 0, 0, 0, 0] : Fin 8 → Fin 1) c, (![0, 1, 2, 3, 4, 5, 6, 7] : Fin 8 → Fin 8) c, 0)
abbrev ag4_recv : AllGather.Dir → AllGather.Parity → Bool → DmaSem sig := fun | .cw, 0, false => ag4_recv_cw_0_ring | .cw, 0, true => ag4_recv_cw_0_partner | .cw, 1, false => ag4_recv_cw_1_ring | .cw, 1, true => ag4_recv_cw_1_partner | .ccw, 0, false => ag4_recv_ccw_0_ring | .ccw, 0, true => ag4_recv_ccw_0_partner | .ccw, 1, false => ag4_recv_ccw_1_ring | .ccw, 1, true => ag4_recv_ccw_1_partner
-- ==== AdamwOwn.lean ====
abbrev S_ : Shape := ⟨0, ![]⟩
abbrev S4x8x256x2048 : Shape := ⟨4, ![4, 8, 256, 2048]⟩
abbrev S4x7x256x2048 : Shape := ⟨4, ![4, 7, 256, 2048]⟩
abbrev S4x256x2048 : Shape := ⟨3, ![4, 256, 2048]⟩
abbrev S1x7x256x2048 : Shape := ⟨4, ![1, 7, 256, 2048]⟩
abbrev S7x256x2048 : Shape := ⟨3, ![7, 256, 2048]⟩
abbrev S1x8x256x2048 : Shape := ⟨4, ![1, 8, 256, 2048]⟩
abbrev S8x256x2048 : Shape := ⟨3, ![8, 256, 2048]⟩
abbrev S1 : Shape := ⟨1, ![1]⟩
abbrev S1x32x2048 : Shape := ⟨3, ![1, 32, 2048]⟩
abbrev S7x32x2048 : Shape := ⟨3, ![7, 32, 2048]⟩
abbrev S4x32x2048 : Shape := ⟨3, ![4, 32, 2048]⟩
abbrev S32x2048 : Shape := ⟨2, ![32, 2048]⟩

abbrev nBuf : Space → Nat
  | .hbm => 26
  | .vmem => 30
  | .smem => 1
  | _ => 0

abbrev bufTy : (tb : Table) → Fin (tcTables nBuf tb) → BufTy
  | .hbm, ⟨0, _⟩ => ⟨S_, .i32⟩
  | .hbm, ⟨1, _⟩ => ⟨S4x8x256x2048, .bf16⟩
  | .hbm, ⟨2, _⟩ => ⟨S4x7x256x2048, .bf16⟩
  | .hbm, ⟨3, _⟩ => ⟨S4x256x2048, .f32⟩
  | .hbm, ⟨4, _⟩ => ⟨S4x256x2048, .f32⟩
  | .hbm, ⟨5, _⟩ => ⟨S4x256x2048, .f32⟩
  | .hbm, ⟨6, _⟩ => ⟨S1x7x256x2048, .bf16⟩
  | .hbm, ⟨7, _⟩ => ⟨S7x256x2048, .bf16⟩
  | .hbm, ⟨8, _⟩ => ⟨S1x7x256x2048, .bf16⟩
  | .hbm, ⟨9, _⟩ => ⟨S7x256x2048, .bf16⟩
  | .hbm, ⟨10, _⟩ => ⟨S1x7x256x2048, .bf16⟩
  | .hbm, ⟨11, _⟩ => ⟨S7x256x2048, .bf16⟩
  | .hbm, ⟨12, _⟩ => ⟨S1x7x256x2048, .bf16⟩
  | .hbm, ⟨13, _⟩ => ⟨S7x256x2048, .bf16⟩
  | .hbm, ⟨14, _⟩ => ⟨S1x8x256x2048, .bf16⟩
  | .hbm, ⟨15, _⟩ => ⟨S8x256x2048, .bf16⟩
  | .hbm, ⟨16, _⟩ => ⟨S1x8x256x2048, .bf16⟩
  | .hbm, ⟨17, _⟩ => ⟨S8x256x2048, .bf16⟩
  | .hbm, ⟨18, _⟩ => ⟨S1x8x256x2048, .bf16⟩
  | .hbm, ⟨19, _⟩ => ⟨S8x256x2048, .bf16⟩
  | .hbm, ⟨20, _⟩ => ⟨S1x8x256x2048, .bf16⟩
  | .hbm, ⟨21, _⟩ => ⟨S8x256x2048, .bf16⟩
  | .hbm, ⟨22, _⟩ => ⟨S4x256x2048, .f32⟩
  | .hbm, ⟨23, _⟩ => ⟨S4x256x2048, .f32⟩
  | .hbm, ⟨24, _⟩ => ⟨S4x256x2048, .f32⟩
  | .hbm, ⟨25, _⟩ => ⟨S4x256x2048, .f32⟩
  | .local _ .vmem, ⟨0, _⟩ => ⟨S1x32x2048, .bf16⟩
  | .local _ .vmem, ⟨1, _⟩ => ⟨S1x32x2048, .bf16⟩
  | .local _ .vmem, ⟨2, _⟩ => ⟨S1x32x2048, .bf16⟩
  | .local _ .vmem, ⟨3, _⟩ => ⟨S1x32x2048, .bf16⟩
  | .local _ .vmem, ⟨4, _⟩ => ⟨S1x32x2048, .bf16⟩
  | .local _ .vmem, ⟨5, _⟩ => ⟨S1x32x2048, .bf16⟩
  | .local _ .vmem, ⟨6, _⟩ => ⟨S1x32x2048, .bf16⟩
  | .local _ .vmem, ⟨7, _⟩ => ⟨S1x32x2048, .bf16⟩
  | .local _ .vmem, ⟨8, _⟩ => ⟨S7x32x2048, .bf16⟩
  | .local _ .vmem, ⟨9, _⟩ => ⟨S7x32x2048, .bf16⟩
  | .local _ .vmem, ⟨10, _⟩ => ⟨S7x32x2048, .bf16⟩
  | .local _ .vmem, ⟨11, _⟩ => ⟨S7x32x2048, .bf16⟩
  | .local _ .vmem, ⟨12, _⟩ => ⟨S7x32x2048, .bf16⟩
  | .local _ .vmem, ⟨13, _⟩ => ⟨S7x32x2048, .bf16⟩
  | .local _ .vmem, ⟨14, _⟩ => ⟨S7x32x2048, .bf16⟩
  | .local _ .vmem, ⟨15, _⟩ => ⟨S7x32x2048, .bf16⟩
  | .local _ .vmem, ⟨16, _⟩ => ⟨S4x32x2048, .f32⟩
  | .local _ .vmem, ⟨17, _⟩ => ⟨S4x32x2048, .f32⟩
  | .local _ .vmem, ⟨18, _⟩ => ⟨S4x32x2048, .f32⟩
  | .local _ .vmem, ⟨19, _⟩ => ⟨S4x32x2048, .f32⟩
  | .local _ .vmem, ⟨20, _⟩ => ⟨S4x32x2048, .f32⟩
  | .local _ .vmem, ⟨21, _⟩ => ⟨S4x32x2048, .f32⟩
  | .local _ .vmem, ⟨22, _⟩ => ⟨S4x32x2048, .f32⟩
  | .local _ .vmem, ⟨23, _⟩ => ⟨S4x32x2048, .f32⟩
  | .local _ .vmem, ⟨24, _⟩ => ⟨S4x32x2048, .f32⟩
  | .local _ .vmem, ⟨25, _⟩ => ⟨S4x32x2048, .f32⟩
  | .local _ .vmem, ⟨26, _⟩ => ⟨S4x32x2048, .f32⟩
  | .local _ .vmem, ⟨27, _⟩ => ⟨S4x32x2048, .f32⟩
  | .local _ .vmem, ⟨28, _⟩ => ⟨S4x32x2048, .f32⟩
  | .local _ .vmem, ⟨29, _⟩ => ⟨S4x32x2048, .f32⟩
  | .local _ .smem, ⟨0, _⟩ => ⟨S1, .i32⟩
  | _, _ => ⟨S_, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v17_0 : Ref sig .tc := ⟨.hbm, 22, rfl⟩
abbrev main_v17_1 : Ref sig .tc := ⟨.hbm, 23, rfl⟩
abbrev main_v17_2 : Ref sig .tc := ⟨.hbm, 24, rfl⟩
abbrev main_v17_3 : Ref sig .tc := ⟨.hbm, 25, rfl⟩
abbrev main_v16 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29

abbrev nD : Nat := 1
abbrev τ : Topo := Topo.v7x

variable {F : FTy → Type} [FloatOps F]

abbrev grid0 : Pipeline.Grid := ⟨1, ![8], ![false]⟩

abbrev pre0 : Pipeline.Prefetch sig := ⟨1, ![main_v16.idx], fun | 0 => main_v16.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_1 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_2 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_3 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x32x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x32x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x32x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x32x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S7x32x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S7x32x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S7x32x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S7x32x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4x32x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S4x32x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S4x32x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S4x32x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S4x32x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S4x32x2048 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S4x32x2048 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== AdamwOwnRefIdeal.lean ====
abbrev S_ : Shape := ⟨0, ![]⟩
abbrev S4x8x256x2048 : Shape := ⟨4, ![4, 8, 256, 2048]⟩
abbrev S4x7x256x2048 : Shape := ⟨4, ![4, 7, 256, 2048]⟩
abbrev S4x256x2048 : Shape := ⟨3, ![4, 256, 2048]⟩
abbrev S8 : Shape := ⟨1, ![8]⟩
abbrev S1x8x1x1 : Shape := ⟨4, ![1, 8, 1, 1]⟩

abbrev nBuf : Space → Nat
  | .hbm => 55
  | .vmem => 0
  | .smem => 0
  | _ => 0

abbrev bufTy : (tb : Table) → Fin (tcTables nBuf tb) → BufTy
  | .hbm, ⟨0, _⟩ => ⟨S_, .i32⟩
  | .hbm, ⟨1, _⟩ => ⟨S4x8x256x2048, .bf16⟩
  | .hbm, ⟨2, _⟩ => ⟨S4x7x256x2048, .bf16⟩
  | .hbm, ⟨3, _⟩ => ⟨S4x256x2048, .f32⟩
  | .hbm, ⟨4, _⟩ => ⟨S4x256x2048, .f32⟩
  | .hbm, ⟨5, _⟩ => ⟨S4x256x2048, .f32⟩
  | .hbm, ⟨6, _⟩ => ⟨S8, .i32⟩
  | .hbm, ⟨7, _⟩ => ⟨S1x8x1x1, .i32⟩
  | .hbm, ⟨8, _⟩ => ⟨S1x8x1x1, .i32⟩
  | .hbm, ⟨9, _⟩ => ⟨S1x8x1x1, .i1⟩
  | .hbm, ⟨10, _⟩ => ⟨S4x8x256x2048, .f32⟩
  | .hbm, ⟨11, _⟩ => ⟨S_, .f32⟩
  | .hbm, ⟨12, _⟩ => ⟨S_, .f32⟩
  | .hbm, ⟨13, _⟩ => ⟨S4x8x256x2048, .i1⟩
  | .hbm, ⟨14, _⟩ => ⟨S4x8x256x2048, .f32⟩
  | .hbm, ⟨15, _⟩ => ⟨S4x8x256x2048, .f32⟩
  | .hbm, ⟨16, _⟩ => ⟨S_, .f32⟩
  | .hbm, ⟨17, _⟩ => ⟨S4x256x2048, .f32⟩
  | .hbm, ⟨18, _⟩ => ⟨S4x7x256x2048, .f32⟩
  | .hbm, ⟨19, _⟩ => ⟨S_, .f32⟩
  | .hbm, ⟨20, _⟩ => ⟨S4x256x2048, .f32⟩
  | .hbm, ⟨21, _⟩ => ⟨S4x256x2048, .f32⟩
  | .hbm, ⟨22, _⟩ => ⟨S_, .f32⟩
  | .hbm, ⟨23, _⟩ => ⟨S4x256x2048, .f32⟩
  | .hbm, ⟨24, _⟩ => ⟨S4x256x2048, .f32⟩
  | .hbm, ⟨25, _⟩ => ⟨S_, .f32⟩
  | .hbm, ⟨26, _⟩ => ⟨S4x256x2048, .f32⟩
  | .hbm, ⟨27, _⟩ => ⟨S4x256x2048, .f32⟩
  | .hbm, ⟨28, _⟩ => ⟨S4x256x2048, .f32⟩
  | .hbm, ⟨29, _⟩ => ⟨S_, .f32⟩
  | .hbm, ⟨30, _⟩ => ⟨S4x256x2048, .f32⟩
  | .hbm, ⟨31, _⟩ => ⟨S4x256x2048, .f32⟩
  | .hbm, ⟨32, _⟩ => ⟨S4x256x2048, .f32⟩
  | .hbm, ⟨33, _⟩ => ⟨S_, .f32⟩
  | .hbm, ⟨34, _⟩ => ⟨S4x256x2048, .f32⟩
  | .hbm, ⟨35, _⟩ => ⟨S4x256x2048, .f32⟩
  | .hbm, ⟨36, _⟩ => ⟨S4x256x2048, .f32⟩
  | .hbm, ⟨37, _⟩ => ⟨S_, .f32⟩
  | .hbm, ⟨38, _⟩ => ⟨S4x256x2048, .f32⟩
  | .hbm, ⟨39, _⟩ => ⟨S4x256x2048, .f32⟩
  | .hbm, ⟨40, _⟩ => ⟨S_, .f32⟩
  | .hbm, ⟨41, _⟩ => ⟨S4x256x2048, .f32⟩
  | .hbm, ⟨42, _⟩ => ⟨S4x256x2048, .f32⟩
  | .hbm, ⟨43, _⟩ => ⟨S4x256x2048, .f32⟩
  | .hbm, ⟨44, _⟩ => ⟨S_, .f32⟩
  | .hbm, ⟨45, _⟩ => ⟨S4x256x2048, .f32⟩
  | .hbm, ⟨46, _⟩ => ⟨S4x256x2048, .f32⟩
  | .hbm, ⟨47, _⟩ => ⟨S4x256x2048, .f32⟩
  | .hbm, ⟨48, _⟩ => ⟨S_, .f32⟩
  | .hbm, ⟨49, _⟩ => ⟨S4x256x2048, .f32⟩
  | .hbm, ⟨50, _⟩ => ⟨S4x256x2048, .f32⟩
  | .hbm, ⟨51, _⟩ => ⟨S4x256x2048, .f32⟩
  | .hbm, ⟨52, _⟩ => ⟨S_, .f32⟩
  | .hbm, ⟨53, _⟩ => ⟨S4x256x2048, .f32⟩
  | .hbm, ⟨54, _⟩ => ⟨S4x256x2048, .f32⟩
  | _, _ => ⟨S_, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_cst_2 : Ref sig .tc := ⟨.hbm, 22, rfl⟩
abbrev main_v10 : Ref sig .tc := ⟨.hbm, 23, rfl⟩
abbrev main_v11 : Ref sig .tc := ⟨.hbm, 24, rfl⟩
abbrev main_cst_3 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_4 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_5 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_6 : Ref sig .tc := ⟨.hbm, 37, rfl⟩
abbrev main_v21 : Ref sig .tc := ⟨.hbm, 38, rfl⟩
abbrev main_v22 : Ref sig .tc := ⟨.hbm, 39, rfl⟩
abbrev main_cst_7 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_8 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_9 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_10 : Ref sig .tc := ⟨.hbm, 52, rfl⟩
abbrev main_v32 : Ref sig .tc := ⟨.hbm, 53, rfl⟩
abbrev main_v33 : Ref sig .tc := ⟨.hbm, 54, rfl⟩

abbrev nD : Nat := 1
abbrev τ : Topo := Topo.v7x

variable {F : FTy → Type} [FloatOps F]
-- ==== NormFirst.lean ====
abbrev S4096x2048 : Shape := ⟨2, ![4096, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 8
  | .vmem => 10
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .f32⟩
  | .hbm, ⟨2, _⟩ => ⟨S2048, .f32⟩
  | .hbm, ⟨3, _⟩ => ⟨S4096x2048, .bf16⟩
  | .hbm, ⟨4, _⟩ => ⟨S4096x2048, .bf16⟩
  | .hbm, ⟨5, _⟩ => ⟨S1x2048, .f32⟩
  | .hbm, ⟨6, _⟩ => ⟨S4096x2048, .f32⟩
  | .hbm, ⟨7, _⟩ => ⟨S1x2048, .f32⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S1x2048, .f32⟩
  | .local _ .vmem, ⟨5, _⟩ => ⟨S512x2048, .bf16⟩
  | .local _ .vmem, ⟨6, _⟩ => ⟨S512x2048, .bf16⟩
  | .local _ .vmem, ⟨7, _⟩ => ⟨S512x2048, .f32⟩
  | .local _ .vmem, ⟨8, _⟩ => ⟨S512x2048, .f32⟩
  | .local _ .vmem, ⟨9, _⟩ => ⟨S1x2048, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v36 : BitVec 1 := Scalar.cmpi .eq arg0 c0_i32
  let v37 : BitVec 32 := Scalar.extui v36
  let c0_i32_14 : BitVec 32 := 0#32
  let v38 : BitVec 1 := Scalar.cmpi .ne v37 c0_i32_14
  v38

def k0_cond2 (i : grid0.Coords) : BitVec 1 :=
  let arg0 : BitVec 32 := BitVec.ofNat 32 (i 0).val
  let c0_i32_15 : BitVec 32 := 0#32
  let v39 : BitVec 1 := Scalar.cmpi .sgt arg0 c0_i32_15
  let v40 : BitVec 32 := Scalar.extui v39
  let c0_i32_16 : BitVec 32 := 0#32
  let v41 : BitVec 1 := Scalar.cmpi .ne v40 c0_i32_16
  v41

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== NormFirstRefIdeal.lean ====
abbrev S4096x2048 : Shape := ⟨2, ![4096, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩

abbrev nBuf : Space → Nat
  | .hbm => 53
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .f32⟩
  | .hbm, ⟨2, _⟩ => ⟨S2048, .f32⟩
  | .hbm, ⟨3, _⟩ => ⟨S4096x2048, .bf16⟩
  | .hbm, ⟨4, _⟩ => ⟨S4096x2048, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x2048, .f32⟩
  | .hbm, ⟨20, _⟩ => ⟨S4096x2048, .f32⟩
  | .hbm, ⟨21, _⟩ => ⟨S1x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S4096x2048, .f32⟩
  | .hbm, ⟨27, _⟩ => ⟨S_, .f32⟩
  | .hbm, ⟨28, _⟩ => ⟨S2048, .f32⟩
  | .hbm, ⟨29, _⟩ => ⟨S1x2048, .f32⟩
  | .hbm, ⟨30, _⟩ => ⟨S4096x2048, .f32⟩
  | .hbm, ⟨31, _⟩ => ⟨S4096x2048, .f32⟩
  | .hbm, ⟨32, _⟩ => ⟨S_, .f32⟩
  | .hbm, ⟨33, _⟩ => ⟨S2048, .f32⟩
  | .hbm, ⟨34, _⟩ => ⟨S4096x2048, .f32⟩
  | .hbm, ⟨35, _⟩ => ⟨S_, .f32⟩
  | .hbm, ⟨36, _⟩ => ⟨S4096, .f32⟩
  | .hbm, ⟨37, _⟩ => ⟨S4096x1, .f32⟩
  | .hbm, ⟨38, _⟩ => ⟨S4096x2048, .f32⟩
  | .hbm, ⟨39, _⟩ => ⟨S4096x2048, .f32⟩
  | .hbm, ⟨40, _⟩ => ⟨S4096x2048, .f32⟩
  | .hbm, ⟨41, _⟩ => ⟨S4096x1, .f32⟩
  | .hbm, ⟨42, _⟩ => ⟨S_, .f32⟩
  | .hbm, ⟨43, _⟩ => ⟨S4096x1, .f32⟩
  | .hbm, ⟨44, _⟩ => ⟨S4096x1, .f32⟩
  | .hbm, ⟨45, _⟩ => ⟨S_, .f32⟩
  | .hbm, ⟨46, _⟩ => ⟨S4096, .f32⟩
  | .hbm, ⟨47, _⟩ => ⟨S4096x2048, .f32⟩
  | .hbm, ⟨48, _⟩ => ⟨S4096x2048, .f32⟩
  | .hbm, ⟨49, _⟩ => ⟨S4096x2048, .f32⟩
  | .hbm, ⟨50, _⟩ => ⟨S4096x2048, .f32⟩
  | .hbm, ⟨51, _⟩ => ⟨S4096x2048, .f32⟩
  | .hbm, ⟨52, _⟩ => ⟨S1x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_4 : Ref sig .tc := ⟨.hbm, 32, rfl⟩
abbrev main_v23 : Ref sig .tc := ⟨.hbm, 33, rfl⟩
abbrev main_v24 : Ref sig .tc := ⟨.hbm, 34, rfl⟩
abbrev main_cst_5 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_6 : Ref sig .tc := ⟨.hbm, 42, rfl⟩
abbrev main_v31 : Ref sig .tc := ⟨.hbm, 43, rfl⟩
abbrev main_v32 : Ref sig .tc := ⟨.hbm, 44, rfl⟩
abbrev main_cst_7 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== InProj.lean ====
abbrev S4096x2048 : Shape := ⟨2, ![4096, 2048]⟩
abbrev S2048x4096 : Shape := ⟨2, ![2048, 4096]⟩
abbrev S2048x8x512 : Shape := ⟨3, ![2048, 8, 512]⟩
abbrev S8x2048x512 : Shape := ⟨3, ![8, 2048, 512]⟩
abbrev S4096x4096 : Shape := ⟨2, ![4096, 4096]⟩
abbrev S1024x2048 : Shape := ⟨2, ![1024, 2048]⟩
abbrev S2x2048x512 : Shape := ⟨3, ![2, 2048, 512]⟩
abbrev S1024x1024 : Shape := ⟨2, ![1024, 1024]⟩
abbrev S1x2048x512 : Shape := ⟨3, ![1, 2048, 512]⟩
abbrev S2048x512 : Shape := ⟨2, ![2048, 512]⟩
abbrev S1024x512 : Shape := ⟨2, ![1024, 512]⟩

abbrev nBuf : Space → Nat
  | .hbm => 5
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x4096, .bf16⟩
  | .hbm, ⟨2, _⟩ => ⟨S2048x8x512, .bf16⟩
  | .hbm, ⟨3, _⟩ => ⟨S8x2048x512, .bf16⟩
  | .hbm, ⟨4, _⟩ => ⟨S4096x4096, .bf16⟩
  | .local _ .vmem, ⟨0, _⟩ => ⟨S1024x2048, .bf16⟩
  | .local _ .vmem, ⟨1, _⟩ => ⟨S1024x2048, .bf16⟩
  | .local _ .vmem, ⟨2, _⟩ => ⟨S2x2048x512, .bf16⟩
  | .local _ .vmem, ⟨3, _⟩ => ⟨S2x2048x512, .bf16⟩
  | .local _ .vmem, ⟨4, _⟩ => ⟨S1024x1024, .bf16⟩
  | .local _ .vmem, ⟨5, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InProjRefIdeal.lean ====
abbrev S4096x2048 : Shape := ⟨2, ![4096, 2048]⟩
abbrev S2048x4096 : Shape := ⟨2, ![2048, 4096]⟩
abbrev S4096x4096 : Shape := ⟨2, ![4096, 4096]⟩

abbrev nBuf : Space → Nat
  | .hbm => 6
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x4096, .bf16⟩
  | .hbm, ⟨2, _⟩ => ⟨S4096x2048, .f32⟩
  | .hbm, ⟨3, _⟩ => ⟨S2048x4096, .f32⟩
  | .hbm, ⟨4, _⟩ => ⟨S4096x4096, .f32⟩
  | .hbm, ⟨5, _⟩ => ⟨S4096x4096, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== InProjDx.lean ====
abbrev S4096x4096 : Shape := ⟨2, ![4096, 4096]⟩
abbrev S2048x4096 : Shape := ⟨2, ![2048, 4096]⟩
abbrev S2048x8x512 : Shape := ⟨3, ![2048, 8, 512]⟩
abbrev S8x2048x512 : Shape := ⟨3, ![8, 2048, 512]⟩
abbrev S4096x2048 : Shape := ⟨2, ![4096, 2048]⟩
abbrev S1024x2048 : Shape := ⟨2, ![1024, 2048]⟩
abbrev S4x1024x512 : Shape := ⟨3, ![4, 1024, 512]⟩
abbrev S1024x1024 : Shape := ⟨2, ![1024, 1024]⟩
abbrev S1024x512 : Shape := ⟨2, ![1024, 512]⟩
abbrev S1x1024x512 : Shape := ⟨3, ![1, 1024, 512]⟩

abbrev nBuf : Space → Nat
  | .hbm => 5
  | .vmem => 7
  | .smem => 0
  | _ => 0

abbrev bufTy : (tb : Table) → Fin (tcTables nBuf tb) → BufTy
  | .hbm, ⟨0, _⟩ => ⟨S4096x4096, .bf16⟩
  | .hbm, ⟨1, _⟩ => ⟨S2048x4096, .bf16⟩
  | .hbm, ⟨2, _⟩ => ⟨S2048x8x512, .bf16⟩
  | .hbm, ⟨3, _⟩ => ⟨S8x2048x512, .bf16⟩
  | .hbm, ⟨4, _⟩ => ⟨S4096x2048, .bf16⟩
  | .local _ .vmem, ⟨0, _⟩ => ⟨S1024x2048, .bf16⟩
  | .local _ .vmem, ⟨1, _⟩ => ⟨S1024x2048, .bf16⟩
  | .local _ .vmem, ⟨2, _⟩ => ⟨S4x1024x512, .bf16⟩
  | .local _ .vmem, ⟨3, _⟩ => ⟨S4x1024x512, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 2], ![false, false, false]⟩

def k0_cond3 (i : grid0.Coords) : BitVec 1 :=
  let arg2 : BitVec 32 := BitVec.ofNat 32 (i 2).val
  let c1_i32_2 : BitVec 32 := 1#32
  let v6 : BitVec 1 := Scalar.cmpi .eq arg2 c1_i32_2
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InProjDxRefIdeal.lean ====
abbrev S4096x4096 : Shape := ⟨2, ![4096, 4096]⟩
abbrev S2048x4096 : Shape := ⟨2, ![2048, 4096]⟩
abbrev S_ : Shape := ⟨0, ![]⟩
abbrev S4096x2048 : Shape := ⟨2, ![4096, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S2048x4096, .bf16⟩
  | .hbm, ⟨2, _⟩ => ⟨S_, .bf16⟩
  | .hbm, ⟨3, _⟩ => ⟨S4096x2048, .bf16⟩
  | .hbm, ⟨4, _⟩ => ⟨S4096x2048, .f32⟩
  | .hbm, ⟨5, _⟩ => ⟨S2048x4096, .f32⟩
  | .hbm, ⟨6, _⟩ => ⟨S4096x4096, .f32⟩
  | .hbm, ⟨7, _⟩ => ⟨S4096x4096, .f32⟩
  | .hbm, ⟨8, _⟩ => ⟨S4096x2048, .f32⟩
  | .hbm, ⟨9, _⟩ => ⟨S4096x2048, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== InProjDw.lean ====
abbrev S4096x2048 : Shape := ⟨2, ![4096, 2048]⟩
abbrev S4096x4096 : Shape := ⟨2, ![4096, 4096]⟩
abbrev S8x2048x512 : Shape := ⟨3, ![8, 2048, 512]⟩
abbrev S2048x1024 : Shape := ⟨2, ![2048, 1024]⟩
abbrev S2x1024x512 : Shape := ⟨3, ![2, 1024, 512]⟩
abbrev S1024x1024 : Shape := ⟨2, ![1024, 1024]⟩
abbrev S1024x512 : Shape := ⟨2, ![1024, 512]⟩
abbrev S1x1024x512 : Shape := ⟨3, ![1, 1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x4096, .bf16⟩
  | .hbm, ⟨2, _⟩ => ⟨S8x2048x512, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S2x1024x512, .bf16⟩
  | .local _ .vmem, ⟨5, _⟩ => ⟨S2x1024x512, .bf16⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 2], ![false, false, false]⟩

def k0_cond3 (i : grid0.Coords) : BitVec 1 :=
  let arg2 : BitVec 32 := BitVec.ofNat 32 (i 2).val
  let c1_i32_2 : BitVec 32 := 1#32
  let v6 : BitVec 1 := Scalar.cmpi .eq arg2 c1_i32_2
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InProjDwRefIdeal.lean ====
abbrev S4096x2048 : Shape := ⟨2, ![4096, 2048]⟩
abbrev S4096x4096 : Shape := ⟨2, ![4096, 4096]⟩
abbrev S_ : Shape := ⟨0, ![]⟩
abbrev S2048x4096 : Shape := ⟨2, ![2048, 4096]⟩
abbrev S2048x8x512 : Shape := ⟨3, ![2048, 8, 512]⟩
abbrev S8x2048x512 : Shape := ⟨3, ![8, 2048, 512]⟩

abbrev nBuf : Space → Nat
  | .hbm => 13
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x4096, .bf16⟩
  | .hbm, ⟨2, _⟩ => ⟨S_, .bf16⟩
  | .hbm, ⟨3, _⟩ => ⟨S2048x4096, .bf16⟩
  | .hbm, ⟨4, _⟩ => ⟨S4096x2048, .f32⟩
  | .hbm, ⟨5, _⟩ => ⟨S2048x4096, .f32⟩
  | .hbm, ⟨6, _⟩ => ⟨S4096x4096, .f32⟩
  | .hbm, ⟨7, _⟩ => ⟨S4096x4096, .f32⟩
  | .hbm, ⟨8, _⟩ => ⟨S4096x2048, .f32⟩
  | .hbm, ⟨9, _⟩ => ⟨S2048x4096, .f32⟩
  | .hbm, ⟨10, _⟩ => ⟨S2048x4096, .bf16⟩
  | .hbm, ⟨11, _⟩ => ⟨S2048x8x512, .bf16⟩
  | .hbm, ⟨12, _⟩ => ⟨S8x2048x512, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== OutProj.lean ====
abbrev S4096x2048 : Shape := ⟨2, ![4096, 2048]⟩
abbrev S2048x2048 : Shape := ⟨2, ![2048, 2048]⟩
abbrev S1x2048x2048 : Shape := ⟨3, ![1, 2048, 2048]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 5
  | .vmem => 8
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S1x2048x2048, .bf16⟩
  | .hbm, ⟨4, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== OutProjRefIdeal.lean ====
abbrev S4096x2048 : Shape := ⟨2, ![4096, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S4096x2048, .f32⟩
  | .hbm, ⟨4, _⟩ => ⟨S2048x2048, .f32⟩
  | .hbm, ⟨5, _⟩ => ⟨S4096x2048, .f32⟩
  | .hbm, ⟨6, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== OutProjDx.lean ====
abbrev S4096x2048 : Shape := ⟨2, ![4096, 2048]⟩
abbrev S2048x2048 : Shape := ⟨2, ![2048, 2048]⟩
abbrev S1x2048x2048 : Shape := ⟨3, ![1, 2048, 2048]⟩
abbrev S1024x2048 : Shape := ⟨2, ![1024, 2048]⟩
abbrev S1x1024x2048 : Shape := ⟨3, ![1, 1024, 2048]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S1x2048x2048, .bf16⟩
  | .hbm, ⟨3, _⟩ => ⟨S4096x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1024x1024, .bf16⟩
  | .local _ .vmem, ⟨5, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutProjDxRefIdeal.lean ====
abbrev S4096x2048 : Shape := ⟨2, ![4096, 2048]⟩
abbrev S2048x2048 : Shape := ⟨2, ![2048, 2048]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S_, .bf16⟩
  | .hbm, ⟨3, _⟩ => ⟨S4096x2048, .bf16⟩
  | .hbm, ⟨4, _⟩ => ⟨S4096x2048, .f32⟩
  | .hbm, ⟨5, _⟩ => ⟨S2048x2048, .f32⟩
  | .hbm, ⟨6, _⟩ => ⟨S4096x2048, .f32⟩
  | .hbm, ⟨7, _⟩ => ⟨S4096x2048, .f32⟩
  | .hbm, ⟨8, _⟩ => ⟨S4096x2048, .f32⟩
  | .hbm, ⟨9, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== OutProjDw.lean ====
abbrev S4096x2048 : Shape := ⟨2, ![4096, 2048]⟩
abbrev S1x2048x2048 : Shape := ⟨3, ![1, 2048, 2048]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S1x2048x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 2], ![false, false, false]⟩

def k0_cond3 (i : grid0.Coords) : BitVec 1 :=
  let arg2 : BitVec 32 := BitVec.ofNat 32 (i 2).val
  let c1_i32_2 : BitVec 32 := 1#32
  let v6 : BitVec 1 := Scalar.cmpi .eq arg2 c1_i32_2
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutProjDwRefIdeal.lean ====
abbrev S4096x2048 : Shape := ⟨2, ![4096, 2048]⟩
abbrev S_ : Shape := ⟨0, ![]⟩
abbrev S2048x2048 : Shape := ⟨2, ![2048, 2048]⟩
abbrev S1x2048x2048 : Shape := ⟨3, ![1, 2048, 2048]⟩

abbrev nBuf : Space → Nat
  | .hbm => 12
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S_, .bf16⟩
  | .hbm, ⟨3, _⟩ => ⟨S2048x2048, .bf16⟩
  | .hbm, ⟨4, _⟩ => ⟨S4096x2048, .f32⟩
  | .hbm, ⟨5, _⟩ => ⟨S2048x2048, .f32⟩
  | .hbm, ⟨6, _⟩ => ⟨S4096x2048, .f32⟩
  | .hbm, ⟨7, _⟩ => ⟨S4096x2048, .f32⟩
  | .hbm, ⟨8, _⟩ => ⟨S2048x2048, .f32⟩
  | .hbm, ⟨9, _⟩ => ⟨S2048x2048, .f32⟩
  | .hbm, ⟨10, _⟩ => ⟨S2048x2048, .bf16⟩
  | .hbm, ⟨11, _⟩ => ⟨S1x2048x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== UpDw.lean ====
abbrev S4096x2048 : Shape := ⟨2, ![4096, 2048]⟩
abbrev S4096x8192 : Shape := ⟨2, ![4096, 8192]⟩
abbrev S8x2048x1024 : Shape := ⟨3, ![8, 2048, 1024]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x8192, .bf16⟩
  | .hbm, ⟨2, _⟩ => ⟨S8x2048x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 2], ![false, false, false]⟩

def k0_cond3 (i : grid0.Coords) : BitVec 1 :=
  let arg2 : BitVec 32 := BitVec.ofNat 32 (i 2).val
  let c1_i32_2 : BitVec 32 := 1#32
  let v6 : BitVec 1 := Scalar.cmpi .eq arg2 c1_i32_2
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpDwRefIdeal.lean ====
abbrev S4096x2048 : Shape := ⟨2, ![4096, 2048]⟩
abbrev S4096x8192 : Shape := ⟨2, ![4096, 8192]⟩
abbrev S_ : Shape := ⟨0, ![]⟩
abbrev S2048x8192 : Shape := ⟨2, ![2048, 8192]⟩
abbrev S8192x2048 : Shape := ⟨2, ![8192, 2048]⟩
abbrev S2048x8x1024 : Shape := ⟨3, ![2048, 8, 1024]⟩
abbrev S8x2048x1024 : Shape := ⟨3, ![8, 2048, 1024]⟩

abbrev nBuf : Space → Nat
  | .hbm => 13
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x8192, .bf16⟩
  | .hbm, ⟨2, _⟩ => ⟨S_, .bf16⟩
  | .hbm, ⟨3, _⟩ => ⟨S2048x8192, .bf16⟩
  | .hbm, ⟨4, _⟩ => ⟨S4096x2048, .f32⟩
  | .hbm, ⟨5, _⟩ => ⟨S2048x8192, .f32⟩
  | .hbm, ⟨6, _⟩ => ⟨S4096x8192, .f32⟩
  | .hbm, ⟨7, _⟩ => ⟨S4096x8192, .f32⟩
  | .hbm, ⟨8, _⟩ => ⟨S8192x2048, .f32⟩
  | .hbm, ⟨9, _⟩ => ⟨S2048x8192, .f32⟩
  | .hbm, ⟨10, _⟩ => ⟨S2048x8192, .bf16⟩
  | .hbm, ⟨11, _⟩ => ⟨S2048x8x1024, .bf16⟩
  | .hbm, ⟨12, _⟩ => ⟨S8x2048x1024, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== CastFirst.lean ====
abbrev S4x2048x1024 : Shape := ⟨3, ![4, 2048, 1024]⟩
abbrev S1x2048x1024 : Shape := ⟨3, ![1, 2048, 1024]⟩
abbrev S1x512x1024 : Shape := ⟨3, ![1, 512, 1024]⟩

abbrev nBuf : Space → Nat
  | .hbm => 2
  | .vmem => 4
  | .smem => 0
  | _ => 0

abbrev bufTy : (tb : Table) → Fin (tcTables nBuf tb) → BufTy
  | .hbm, ⟨0, _⟩ => ⟨S4x2048x1024, .f32⟩
  | .hbm, ⟨1, _⟩ => ⟨S1x2048x1024, .bf16⟩
  | .local _ .vmem, ⟨0, _⟩ => ⟨S1x512x1024, .f32⟩
  | .local _ .vmem, ⟨1, _⟩ => ⟨S1x512x1024, .f32⟩
  | .local _ .vmem, ⟨2, _⟩ => ⟨S1x512x1024, .bf16⟩
  | .local _ .vmem, ⟨3, _⟩ => ⟨S1x512x1024, .bf16⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![1, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== CastFirstRefIdeal.lean ====
abbrev S4x2048x1024 : Shape := ⟨3, ![4, 2048, 1024]⟩
abbrev S1x2048x1024 : Shape := ⟨3, ![1, 2048, 1024]⟩

abbrev nBuf : Space → Nat
  | .hbm => 3
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1x2048x1024, .f32⟩
  | .hbm, ⟨2, _⟩ => ⟨S1x2048x1024, .bf16⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩

abbrev nD : Nat := 1
abbrev τ : Topo := Topo.v7x

variable {F : FTy → Type} [FloatOps F]
-- ==== Proof.Val.Relu2.lean ====
/-
  The gradient of the squared ReLU: what the kernel leaves in its result array, and that `jax.vjp` of the forward lines is the
  same function of the arguments over the extended reals.
-/
module

public import proofs.«01_k».proof.Proof.Gen.Relu2Ideal.Value
public import proofs.«01_k».proof.Proof.Gen.Relu2RefIdeal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Relu2Ideal.Final

open Cert.Relu2Ideal Cert.Relu2Ideal.Gen

variable (m : (ℓ : Loc nD τ sig) → Buf (Elt Ideal) ℓ)

/-- The gradient with respect to the pre-activation: a row of the cotangent against a row of the weights, times twice the
    positive part of the pre-activation. -/
abbrev grad (X : FVec Ideal S4096x2048 .bf16) (A : FVec Ideal S4096x8192 .bf16) (W : FVec Ideal S8192x2048 .bf16) :
    FVec Ideal S4096x8192 .bf16 :=
  fun i => (∑ k : Fin 2048, (show EReal from X (ix2 (i 0) k)) * W (ix2 (i 1) k)) * (Ideal.ofBits .f32 0x40000000#32 * max (A i) 0)

/-- Each window's block index at a point of the grid. -/
theorem idx : ∀ t : Fin cfg0.N, win0_0.index t = ![t.val / 8, 0] ∧ win0_1.index t = ![0, t.val % 8, 0]
    ∧ win0_2.index t = ![t.val / 8, t.val % 8] ∧ win0_3.index t = ![t.val / 8, t.val % 8] :=
  (by decide +kernel : ∀ t : Fin grid0.N, _)

/-- What the body stores at an index of a block is the gradient at the array index it sits at. -/
theorem point (c : Dev nD) (t : Fin cfg0.N) (y : S1024x1024.Idx) :
    k0_pay1 (F := Ideal) (iblk m c 0 t) (iblk m c 1 t) (iblk m c 2 t) y
      = grad (m ((c : Thread nD τ).loc main_arg0)) (m ((c : Thread nD τ).loc main_arg1)) (m ((c : Thread nD τ).loc main_arg2))
          (((cfg0.win 3).blk t).view.emb y) := by
  pointwise [k0_pay1, grad]
  blk_point [iblk, V, idx t]

/-- The result array after the run. -/
theorem final (c : Dev nD) : (dats m 0 c).arrAt 3 (cfgs 0).N
    = grad (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  frame_out
  exact point m c t y

end Cert.Relu2Ideal.Final

namespace Cert.Relu2RefIdeal.Final

open Cert.Relu2RefIdeal Cert.Relu2RefIdeal.Gen

/-- The two spellings of the derivative of a squared positive part, against a cotangent. -/
theorem double_pos (a u : EReal) : (if 0 < a then max a 0 * u + u * max a 0 else 0) = u * (2 * max a 0) := by
  split
  · rw [mul_comm (max a 0) u, ← two_nsmul, EReal.nsmul_eq_mul, mul_left_comm]; rfl
  · rename_i h
    rw [max_eq_right (not_lt.mp h), mul_zero, mul_zero]

/-- The reference's result, read at an index, is that gradient. -/
theorem final (X : FVec Ideal S4096x2048 .bf16) (A : FVec Ideal S4096x8192 .bf16) (W : FVec Ideal S8192x2048 .bf16) :
    Read.val_main_v15 (F := Ideal) X A W = Cert.Relu2Ideal.Final.grad X A W := by
  funext i
  simp only [Read.val_main_v15_apply, Read.val_main_v14_apply, Read.val_main_v12_apply, Read.val_main_v10_apply, Read.val_main_v11_apply,
    Read.val_main_v9_apply, Read.val_main_v3_apply, Read.val_main_v1_apply, Read.val_main_call0_v0_apply, Read.val_main_v2_apply,
    Read.val_main_v13_apply, Read.val_main_cst_apply, Read.val_main_cst_1_apply, Read.val_main_call0_cst_apply, Read.val_main_v0_apply,
    Read.val_main_v6_apply, Read.val_main_v8_apply]
  pointwise
  have e : (∑ x, X (Read.lidx_main_v9 i x) * W (Read.ridx_main_v9 i x) : EReal)
      = ∑ k : Fin 2048, (show EReal from X (ix2 (i 0) k)) * W (ix2 (i 1) k) :=
    Finset.sum_congr rfl fun k _ => by
      congr 1
      · congr 1; funext a; fin_cases a <;> rfl
      · congr 1; funext a; fin_cases a <;> rfl
  have two : Ideal.ofBits .f32 0x40000000#32 = (2 : EReal) := by
    simp [Ideal.ofBits, Ideal.ieee]
    rw [← EReal.coe_mul]; norm_num; rfl
  rw [e]
  show _ = (∑ k : Fin 2048, (show EReal from X (ix2 (i 0) k)) * W (ix2 (i 1) k)) * (Ideal.ofBits .f32 0x40000000#32 * max (A i) 0)
  rw [two]
  exact double_pos _ _

end Cert.Relu2RefIdeal.Final

end
-- ==== Proof.Val.Finite.lean ====
/-
  Real values among the extended reals: sums, products and quotients of them, and what a precondition's comparison says.
-/
module

public import Idealize.ShloMosaic.PureOps.Ideal.Laws
public import Idealize.ShloMosaic.Lib.Pointwise

@[expose] public section

noncomputable section

open Idealize.ShloMosaic

namespace Cert.Finite

/-- A value that is a real number. -/
def Real? (x : EReal) : Prop := x ≠ ⊥ ∧ x ≠ ⊤

theorem Real?.coe (r : ℝ) : Real? (r : EReal) := ⟨EReal.coe_ne_bot r, EReal.coe_ne_top r⟩

theorem Real?.lift {x : EReal} (h : Real? x) : ∃ r : ℝ, x = r := ⟨x.toReal, (EReal.coe_toReal h.2 h.1).symm⟩

theorem Real?.zero : Real? 0 := Real?.coe 0

theorem Real?.add {x y : EReal} (hx : Real? x) (hy : Real? y) : Real? (x + y) := by
  obtain ⟨a, rfl⟩ := hx.lift; obtain ⟨b, rfl⟩ := hy.lift
  rw [← EReal.coe_add]; exact Real?.coe _

theorem Real?.mul {x y : EReal} (hx : Real? x) (hy : Real? y) : Real? (x * y) := by
  obtain ⟨a, rfl⟩ := hx.lift; obtain ⟨b, rfl⟩ := hy.lift
  rw [← EReal.coe_mul]; exact Real?.coe _

theorem Real?.neg {x : EReal} (hx : Real? x) : Real? (-x) := by
  obtain ⟨a, rfl⟩ := hx.lift
  rw [← EReal.coe_neg]; exact Real?.coe _

theorem Real?.sum {ι : Type*} (S : Finset ι) {f : ι → EReal} (h : ∀ i ∈ S, Real? (f i)) : Real? (∑ i ∈ S, f i) :=
  Finset.sum_induction f Real? (fun _ _ => Real?.add) Real?.zero h

theorem Real?.div {x : EReal} (hx : Real? x) {y : ℝ} (hy : y ≠ 0) : Real? (Ideal.div x y) := by
  rw [Ideal.div_coe hy]
  exact hx.mul (Real?.coe _)

theorem add_sub_self {x y : EReal} (hy : Real? y) : x + y - y = x := by
  obtain ⟨b, rfl⟩ := hy.lift
  exact EReal.add_sub_cancel_right

theorem neg_sum {ι : Type*} (S : Finset ι) {f : ι → EReal} (h : ∀ i ∈ S, Real? (f i)) : ∑ i ∈ S, -f i = -∑ i ∈ S, f i := by
  classical
  induction S using Finset.induction_on with
  | empty => simp
  | insert a S ha ih =>
    have hS : Real? (∑ i ∈ S, f i) := Real?.sum S fun i hi => h i (Finset.mem_insert_of_mem hi)
    have h1 := h a (Finset.mem_insert_self a S)
    rw [Finset.sum_insert ha, Finset.sum_insert ha, ih fun i hi => h i (Finset.mem_insert_of_mem hi),
      EReal.neg_add (.inl h1.1) (.inl h1.2), sub_eq_add_neg]

theorem inf_bits : Ideal.ofBits .f32 0x7F800000#32 = (⊤ : EReal) := by
  simp [Ideal.ofBits, Ideal.ieee]

/-- A value whose magnitude a precondition has compared with infinity. -/
theorem real_of_lt {x : EReal} (h : BitVec.ofBool (decide (FloatOps.absf (F := Ideal) (φ := .f32) x < Ideal.ofBits .f32 0x7F800000#32)) = 1#1) : Real? x := by
  have h1 : FloatOps.absf (F := Ideal) (φ := .f32) x < Ideal.ofBits .f32 0x7F800000#32 := by
    by_contra h2
    rw [decide_eq_false h2] at h
    exact absurd h (by decide)
  rw [inf_bits] at h1
  have h3 : max x (-x) < ⊤ := h1
  refine ⟨fun h4 => ?_, fun h4 => ?_⟩
  · rw [h4] at h3; simp at h3
  · rw [h4] at h3; simp at h3

end Cert.Finite
-- ==== Proof.Val.NormForm.lean ====
/-
  An RMS norm over a row of 2048 and its gradient: the closed forms, and the row identity between the gradient written by
  hand and the chain rule's own sum.
-/
module

public import proofs.«01_k».proof.Proof.Val.Finite
public import Idealize.ShloMosaic.Lib.Pointwise

@[expose] public section

noncomputable section

open Idealize.ShloMosaic Cert.Finite

namespace Cert.NormForm

/-- A row of the array. -/
abbrev row {n : ℕ} {φ : FTy} (X : FVec Ideal ⟨2, ![n, 2048]⟩ φ) (l : Fin n) (k : Fin 2048) : EReal := X (ix2 l k)

/-- The gain as a row. -/
abbrev vec (G : FVec Ideal ⟨1, ![2048]⟩ .f32) (k : Fin 2048) : EReal := G (ix1 k)

/-- The row's length, the norm's epsilon and a half's negative, as the programs' literals read. -/
abbrev lenB : EReal := Ideal.ofBits .f32 0x45000000#32
abbrev epsB : EReal := Ideal.ofBits .f32 0x358637BD#32
abbrev nhalfB : EReal := Ideal.ofBits .f32 0xBF000000#32

theorem len_bits : lenB = ((2048 : ℝ) : EReal) := by
  simp [lenB, Ideal.ofBits, Ideal.ieee]
  rw [← EReal.coe_mul]; norm_num

theorem nhalf_bits : nhalfB = ((-(1 / 2) : ℝ) : EReal) := by
  simp [nhalfB, Ideal.ofBits, Ideal.ieee]
  try (rw [← EReal.coe_mul]; norm_num)

theorem eps_bits : ∃ e : ℝ, 0 < e ∧ epsB = (e : EReal) := by
  refine ⟨8796093 * 2 ^ (-43 : ℤ), by positivity, ?_⟩
  simp [epsB, Ideal.ofBits, Ideal.ieee]

/-- The mean square of a row, with the epsilon. -/
def msq (x : Fin 2048 → EReal) : EReal := Ideal.div (∑ k, x k * x k) lenB + epsB

/-- The factor the norm multiplies a row with. -/
def rs (x : Fin 2048 → EReal) : EReal := Ideal.rsqrt (msq x)

/-- The normalised row. -/
def hat (x : Fin 2048 → EReal) (j : Fin 2048) : EReal := x j * rs x

/-- The gradient of the norm at a row, as it is written by hand. -/
def back (x d g : Fin 2048 → EReal) (j : Fin 2048) : EReal :=
  rs x * (d j * g j - hat x j * Ideal.div (∑ k, d k * g k * hat x k) lenB)

/-- What the chain rule sends back through the mean square. -/
def wgt (x d g : Fin 2048 → EReal) : EReal :=
  Ideal.div ((∑ k, x k * (d k * g k)) * (nhalfB * Ideal.div (rs x) (msq x))) lenB

theorem coe_sum {ι : Type*} (S : Finset ι) (f : ι → ℝ) : ∑ i ∈ S, (f i : EReal) = ((∑ i ∈ S, f i : ℝ) : EReal) := by
  classical
  induction S using Finset.induction_on with
  | empty => simp
  | insert a S ha ih => rw [Finset.sum_insert ha, Finset.sum_insert ha, ih, EReal.coe_add]

theorem lift_row {n : ℕ} {x : Fin n → EReal} (h : ∀ k, Real? (x k)) : ∃ X : Fin n → ℝ, x = fun k => (X k : EReal) :=
  ⟨fun k => (x k).toReal, funext fun k => (EReal.coe_toReal (h k).2 (h k).1).symm⟩

/-- Of a row of real numbers the mean square is positive and the factor the inverse of its root. -/
theorem rs_real (X : Fin 2048 → ℝ) : ∃ s r : ℝ, 0 < s ∧ 0 ≤ r ∧ r * r * s = 1 ∧ msq (fun k => (X k : EReal)) = s
    ∧ rs (fun k => (X k : EReal)) = r := by
  obtain ⟨e, he, heq⟩ := eps_bits
  have hs : 0 < (∑ k, X k * X k) * (1 / 2048) + e :=
    add_pos_of_nonneg_of_pos (mul_nonneg (Finset.sum_nonneg fun k _ => mul_self_nonneg _) (by norm_num)) he
  have hm : msq (fun k => (X k : EReal)) = (((∑ k, X k * X k) * (1 / 2048) + e : ℝ) : EReal) := by
    rw [msq, heq, len_bits, Ideal.div_coe (by norm_num), EReal.coe_add, EReal.coe_mul, ← coe_sum]
    simp only [EReal.coe_mul]
  refine ⟨_, (Real.sqrt ((∑ k, X k * X k) * (1 / 2048) + e))⁻¹, hs, inv_nonneg.mpr (Real.sqrt_nonneg _), ?_, hm, ?_⟩
  · have h1 := Real.mul_self_sqrt hs.le
    have h2 := (Real.sqrt_pos.mpr hs).ne'
    rw [← mul_inv, h1, inv_mul_cancel₀ hs.ne']
  · rw [rs, hm]
    show (if _ then _ else _ : EReal) = _
    rw [if_neg (not_lt.mpr hs.le), if_neg hs.ne']

/-- A square is not negative. -/
theorem sq_nonneg (x : EReal) : 0 ≤ x * x := by
  rcases le_total 0 x with h | h
  · exact mul_nonneg h h
  · have h' : 0 ≤ -x := EReal.neg_nonneg.mpr h
    have := mul_nonneg h' h'
    rwa [neg_mul, mul_neg, neg_neg] at this

/-- A factor that is a real number, not negative, is taken out of a sum, whatever the terms are. -/
theorem sum_mul_real {ι : Type*} (S : Finset ι) (f : ι → EReal) {c : ℝ} (hc : 0 ≤ c) : ∑ i ∈ S, f i * (c : EReal) = (∑ i ∈ S, f i) * (c : EReal) := by
  classical
  induction S using Finset.induction_on with
  | empty => simp
  | insert a S ha ih =>
    rw [Finset.sum_insert ha, Finset.sum_insert ha, ih,
      EReal.right_distrib_of_nonneg_of_ne_top (EReal.coe_nonneg.mpr hc) (EReal.coe_ne_top c)]

theorem div_zero_top : Ideal.div 0 ⊤ = 0 := by
  simp [Ideal.div]

/-- With an infinite entry in the row the mean square is infinite, and the factor zero. -/
theorem rs_inf {x : Fin 2048 → EReal} {k : Fin 2048} (h : ¬ Real? (x k)) : msq x = ⊤ ∧ rs x = 0 := by
  have hk : x k * x k = ⊤ := by
    rw [Real?, not_and_or, not_not, not_not] at h
    rcases h with h | h <;> rw [h] <;> rfl
  have hs : ∑ k, x k * x k = ⊤ := by
    refine top_le_iff.mp (hk ▸ ?_)
    exact Finset.single_le_sum (f := fun k => x k * x k) (fun i _ => sq_nonneg (x i)) (Finset.mem_univ k)
  obtain ⟨e, he, heq⟩ := eps_bits
  have hm : msq x = ⊤ := by
    rw [msq, hs, heq, len_bits, Ideal.div_coe (by norm_num), EReal.top_mul_coe_of_pos (by norm_num)]
    rfl
  exact ⟨hm, by rw [rs, hm]; rfl⟩

/-- The gradient by hand is the chain rule's sum, whatever the row, the cotangent and the gain are. -/
theorem chain_eq (x d g : Fin 2048 → EReal) (j : Fin 2048) :
    d j * g j * rs x + x j * wgt x d g + wgt x d g * x j = back x d g j := by
  have h2 : (2048 : ℝ) ≠ 0 := by norm_num
  by_cases hx : ∀ k, Real? (x k)
  · obtain ⟨X, rfl⟩ := lift_row hx
    obtain ⟨s, r, hs, hr0, hr, hm, hR⟩ := rs_real X
    have hsum : ∑ k, d k * g k * ((X k : EReal) * r) = (∑ k, (X k : EReal) * (d k * g k)) * r := by
      rw [← sum_mul_real _ _ hr0]
      exact Finset.sum_congr rfl fun k _ => by rw [← mul_assoc, mul_comm (d k * g k)]
    have hw : wgt (fun k => (X k : EReal)) d g = -((∑ k, (X k : EReal) * (d k * g k)) * ((1 / 2 * (r * (1 / s)) * (1 / 2048) : ℝ) : EReal)) := by
      rw [wgt, hm, hR, len_bits, nhalf_bits, Ideal.div_coe hs.ne', Ideal.div_coe h2, ← mul_neg, mul_assoc]
      simp only [← EReal.coe_mul, ← EReal.coe_neg]
      exact congrArg _ (congrArg _ (by ring))
    have hb : back (fun k => (X k : EReal)) d g j = d j * g j * r
        + -((X j : EReal) * (∑ k, (X k : EReal) * (d k * g k)) * ((r * r * r * (1 / 2048) : ℝ) : EReal)) := by
      simp only [back, hat, hR, len_bits, Ideal.div_coe h2]
      rw [hsum, EReal.mul_sub_of_nonneg_of_ne_top (EReal.coe_nonneg.mpr hr0) (EReal.coe_ne_top r), sub_eq_add_neg, mul_comm (r : EReal)]
      refine congrArg (fun z => d j * g j * (r : EReal) + -z) ?_
      generalize ∑ k, (X k : EReal) * (d k * g k) = S
      simp only [EReal.coe_mul]
      ac_rfl
    have h3 : 1 / s = r * r := by field_simp; linarith
    have h4 : 0 ≤ r * r * r * (1 / 2048) := by positivity
    rw [hw, hb, hR, add_assoc, mul_neg, neg_mul, mul_comm _ (X j : EReal), ← mul_assoc]
    refine congrArg _ ?_
    generalize (X j : EReal) * ∑ k, (X k : EReal) * (d k * g k) = P
    rw [h3]
    have h5 : (1 / 2 * (r * (r * r)) * (1 / 2048) : ℝ) = r * r * r * (1 / 2048) * (1 / 2) := by ring
    have h6 : (r * r * r * (1 / 2048) : ℝ) = r * r * r * (1 / 2048) * (1 / 2) + r * r * r * (1 / 2048) * (1 / 2) := by ring
    have h7 : (0 : EReal) ≤ ((r * r * r * (1 / 2048) * (1 / 2) : ℝ) : EReal) := EReal.coe_nonneg.mpr (by positivity)
    rw [h5]
    conv_rhs => rw [h6, EReal.coe_add, EReal.left_distrib_of_nonneg h7 h7]
    generalize P * ((r * r * r * (1 / 2048) * (1 / 2) : ℝ) : EReal) = Q
    induction Q using EReal.rec with
    | bot => rfl
    | top => rfl
    | coe q => norm_cast; ring
  · obtain ⟨k, hk⟩ := not_forall.mp hx
    obtain ⟨hm, hR⟩ := rs_inf hk
    have hw : wgt x d g = 0 := by
      rw [wgt, hm, hR, div_zero_top, mul_zero, mul_zero, len_bits, Ideal.div_coe h2, zero_mul]
    rw [hw, hR, back, hR, mul_zero, mul_zero, zero_mul, zero_mul, add_zero, add_zero]

theorem chain_res (x d g : Fin 2048 → EReal) (j : Fin 2048)
    (res : EReal) : res + d j * g j * rs x + x j * wgt x d g + wgt x d g * x j = res + back x d g j := by
  rw [← chain_eq x d g j]
  simp only [add_assoc]

end Cert.NormForm
-- ==== Proof.Val.NormKernel.lean ====
/-
  The kernel of an RMS norm's backward pass: what it leaves in its two result arrays.
-/
module

public import proofs.«01_k».proof.Proof.Gen.NormBwdIdeal.Value
public import proofs.«01_k».proof.Proof.Val.NormForm
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.NormForm

/-- The gradient with respect to the norm's input, beside the residual's. -/
def gradX (DH : FVec Ideal ⟨2, ![4096, 2048]⟩ .bf16) (X : FVec Ideal ⟨2, ![4096, 2048]⟩ .f32) (G : FVec Ideal ⟨1, ![2048]⟩ .f32)
    (R : FVec Ideal ⟨2, ![4096, 2048]⟩ .bf16) : FVec Ideal ⟨2, ![4096, 2048]⟩ .bf16 :=
  fun i => (show EReal from R i) + back (row X (i 0)) (row DH (i 0)) (vec G) (i 1)

/-- The gradient with respect to the gain. -/
def gradG (DH : FVec Ideal ⟨2, ![4096, 2048]⟩ .bf16) (X : FVec Ideal ⟨2, ![4096, 2048]⟩ .f32) : FVec Ideal ⟨2, ![1, 2048]⟩ .f32 :=
  fun i => ∑ l : Fin 4096, row DH l (i 1) * hat (row X l) (i 1)

end Cert.NormForm

namespace Cert.NormBwdIdeal.Final

open Cert.NormBwdIdeal Cert.NormBwdIdeal.Gen Cert.NormForm

variable (m : (ℓ : Loc nD τ sig) → Buf (Elt Ideal) ℓ)

/-- Each window's block index at a point of the grid. -/
theorem idx : ∀ t : Fin cfg0.N, win0_0.index t = ![t.val, 0] ∧ win0_1.index t = ![t.val, 0]
    ∧ win0_2.index t = ![0, 0] ∧ win0_3.index t = ![t.val, 0] ∧ win0_4.index t = ![t.val, 0] ∧ win0_5.index t = ![0, 0] :=
  (by decide +kernel : ∀ t : Fin grid0.N, _)

theorem lt8 (t : Fin cfg0.N) : t.val < 8 := lt_of_lt_of_eq t.isLt N_0

theorem not_one (t : Fin cfg0.N) (h : t.val % 8 = 0) : ¬ 1 ≤ t.val := by have := lt8 t; omega

theorem one_le (t : Fin cfg0.N) (h : ¬ t.val % 8 = 0) : 1 ≤ t.val := by omega

/-- What the body stores at an index of a block of rows is the gradient at the array index it sits at. -/
theorem point4 (c : Dev nD) (t : Fin cfg0.N) (y : S512x2048.Idx) :
    k0_pay6 (F := Ideal) (iblk m c 1 t) (iblk m c 0 t) (iblk m c 3 t) (iblk m c 2 t) y
      = gradX (m ((c : Thread nD τ).loc main_arg0)) (m ((c : Thread nD τ).loc main_arg1)) (m ((c : Thread nD τ).loc main_arg2))
          (m ((c : Thread nD τ).loc main_arg3)) (((cfg0.win 4).blk t).view.emb y) := by
  pointwise [k0_pay6, k0_pay5, k0_pay4, k0_pay3, k0_pay2, gradX, back, hat, rs, msq, row, vec]
  blk_point [iblk, V, idx t]

theorem final4 (c : Dev nD) : (dats m 0 c).arrAt 4 (cfgs 0).N
    = gradX (m ((c : Thread nD τ).loc main_arg0)) (m ((c : Thread nD τ).loc main_arg1)) (m ((c : Thread nD τ).loc main_arg2))
        (m ((c : Thread nD τ).loc main_arg3)) := by
  refine (dats m 0 c).arrAt_eq_of_covers 4 _ (by decide +kernel) fun t _ y => ?_
  blk_simp
  rw [after0_4]
  by_cases h : t.val % 8 = 0
  · rw [outsAt0_A m c t h (not_one t h)]; frame_out; exact point4 m c t y
  · rw [outsAt0_B m c t h (one_le t h)]; frame_out; exact point4 m c t y

/-- The part of the gain's gradient that a block of rows adds. -/
abbrev part (c : Dev nD) (y : S1x2048.Idx) (t : Fin cfg0.N) : EReal :=
  ∑ r : Fin 512, row (φ := .bf16) (m ((c : Thread nD τ).loc main_arg0)) ⟨512 * t.val + r.val, by have := lt8 t; omega⟩ (y 1)
    * hat (row (φ := .f32) (m ((c : Thread nD τ).loc main_arg1)) ⟨512 * t.val + r.val, by have := lt8 t; omega⟩) (y 1)

/-- The parts of all blocks are the sum over the rows. -/
theorem sum_part (c : Dev nD) (y : S1x2048.Idx) : ∑ t : Fin cfg0.N, part m c y t
    = gradG (m ((c : Thread nD τ).loc main_arg0)) (m ((c : Thread nD τ).loc main_arg1)) y := by
  let f : Fin 4096 → EReal := fun l => row (φ := .bf16) (m ((c : Thread nD τ).loc main_arg0)) l (y 1)
    * hat (row (φ := .f32) (m ((c : Thread nD τ).loc main_arg1)) l) (y 1)
  refine Eq.trans ?_ (Fin.sum_mul_add_fin 8 512 f)
  exact Finset.sum_congr rfl fun s _ => Finset.sum_congr rfl fun k _ => congrArg f (Fin.ext (by dsimp only; omega))

theorem point5 (c : Dev nD) (t : Fin cfg0.N) (y : S1x2048.Idx) :
    (k0_pay7 (F := Ideal) (iblk m c 1 t) (iblk m c 0 t) y : EReal) = part m c y t := by
  pointwise [k0_pay7, k0_pay5, k0_pay4, k0_pay3, k0_pay2, part, row, hat, rs, msq]
  blk_point [iblk, V, idx t]

theorem point5A (c : Dev nD) (t : Fin cfg0.N) (y : S1x2048.Idx) (h8 : t.val % 8 = 0) :
    (outsAt0 m c t.val t.isLt).2 y = 0 + part m c y t := by
  rw [outsAt0_A m c t h8 (not_one t h8), zero_add]
  frame_out
  exact point5 m c t y

theorem point5B (c : Dev nD) (t : Fin cfg0.N) (y : S1x2048.Idx) (h8 : ¬ t.val % 8 = 0) :
    (outsAt0 m c t.val t.isLt).2 y = (outsAt0 m c (t.val - 1) (Nat.lt_of_le_of_lt (Nat.sub_le _ _) t.isLt)).2 y + part m c y t := by
  rw [outsAt0_B m c t h8 (one_le t h8)]
  frame_out
  rw [← point5 m c t y]
  pointwise [k0_pay1]

theorem final5 (c : Dev nD) : (dats m 0 c).arrAt 5 (cfgs 0).N
    = gradG (m ((c : Thread nD τ).loc main_arg0)) (m ((c : Thread nD τ).loc main_arg1)) := by
  refine (dats m 0 c).arrAt_eq_of_after_last 5 t0_7 (by decide +kernel) _ fun j => ?_
  blk_simp
  rw [after0_5, Pipeline.eq_sum_fin_of_reset_step_apply_last (fun n h => (outsAt0 m c n h).2) 8 (fun _ => (0 : EReal))
    (fun t y => part m c y t) (fun t h y => point5A m c t y h) (fun t h y => point5B m c t y h) (le_of_eq N_0) t0_7 rfl j, zero_add]
  exact sum_part m c j

end Cert.NormBwdIdeal.Final
-- ==== Proof.Val.NormBwd.lean ====
/-
  The reference program of an RMS norm's backward pass: its results, read at an index, are the closed forms of the gradients.
-/
module

public import proofs.«01_k».proof.Proof.Gen.NormBwdRefIdeal.Read
public import proofs.«01_k».proof.Proof.Val.NormKernel

@[expose] public section

set_option maxRecDepth 16384

noncomputable section

open Idealize.ShloMosaic Idealize.ShloMosaic.TcCoe Idealize.SL.Sem

namespace Cert.NormBwdRefIdeal.Final

open Cert.NormBwdRefIdeal.Read Cert.NormForm Cert.Finite

variable (DH : FVec Ideal ⟨2, ![4096, 2048]⟩ .bf16) (X : FVec Ideal ⟨2, ![4096, 2048]⟩ .f32) (G : FVec Ideal ⟨1, ![2048]⟩ .f32)
  (R : FVec Ideal ⟨2, ![4096, 2048]⟩ .bf16) (l : Fin 4096) (k : Fin 2048)

theorem at6 : (val_main_v6 (F := Ideal) X) (ix2 l 0) = msq (row X l) := by
  pointwise [val_main_v6, val_main_v5, val_main_v4, val_main_v3, val_main_v2, val_main_v1, val_main_v0, val_main_cst, val_main_cst_0, val_main_cst_1, msq, row]

theorem at7 : (val_main_v7 (F := Ideal) X) (ix2 l 0) = rs (row X l) := by
  rw [rs, ← at6]
  pointwise [val_main_v7]

theorem at12 : (val_main_v12 (F := Ideal) X) (ix2 l k) = hat (row X l) k := by
  rw [hat, ← at7]
  pointwise [val_main_v12, val_main_v11]

theorem at34 : (val_main_v34 (F := Ideal) DH X G) (ix2 l k) = wgt (row X l) (row DH l) (vec G) := by
  rw [wgt, ← at7, ← at6]
  pointwise [val_main_v34, val_main_v33, val_main_cst_7]
  refine (Fin.sum_univ_one _).trans ?_
  pointwise [val_main_v32, val_main_v31, val_main_cst_6, val_main_v30, val_main_v26, val_main_v25, val_main_cst_5, val_main_v24, val_main_v22,
    val_main_v17, val_main_v21, val_main_v13, val_main_v10, val_main_v9, val_main_cst_2, val_main_v8, row, vec]

theorem at39 : (val_main_v39 (F := Ideal) DH X G R) (ix2 l k) = row R l k + row DH l k * vec G k * rs (row X l)
    + row X l k * wgt (row X l) (row DH l) (vec G) + wgt (row X l) (row DH l) (vec G) * row X l k := by
  rw [← at34 DH X G l k, ← at7]
  pointwise [val_main_v39, val_main_v38, val_main_v37, val_main_v36, val_main_v35, val_main_v29, val_main_v28, val_main_v27, val_main_v22,
    val_main_v21, val_main_v13, val_main_v17, val_main_v16, row, vec]

theorem at40 : (val_main_v40 (F := Ideal) DH X) (ix2 0 k) = ∑ l : Fin 4096, row DH l k * hat (row X l) k := by
  simp only [← at12]
  pointwise [val_main_v40, val_main_v23, val_main_cst_4]
  refine (Fin.sum_univ_one _).trans ?_
  pointwise [val_main_v20, val_main_v19, val_main_cst_3, val_main_v18, val_main_v17, row]
  exact Finset.sum_congr rfl fun l _ => mul_comm _ _

theorem final39 : val_main_v39 (F := Ideal) DH X G R = gradX DH X G R := by
  funext i; rw [eq_ix2 i]
  exact (at39 DH X G R (i 0) (i 1)).trans (chain_res _ _ _ (i 1) _)

theorem final40 : val_main_v40 (F := Ideal) DH X = gradG DH X := by
  funext i
  obtain ⟨a, q, rfl⟩ : ∃ (a : Fin 1) (q : Fin 2048), i = ix2 a q := ⟨i 0, i 1, eq_ix2 i⟩
  rw [Subsingleton.elim a 0]
  exact at40 DH X q

end Cert.NormBwdRefIdeal.Final
-- ==== Proof.Val.LossKernel.lean ====
/-
  The kernel of the loss and of its gradient through the last RMS norm: what it leaves in its three result arrays.
-/
module

public import proofs.«01_k».proof.Proof.Gen.LossIdeal.Value
public import proofs.«01_k».proof.Proof.Val.NormForm
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.LossForm

open Cert.NormForm

section
variable (X : FVec Ideal ⟨2, ![4096, 2048]⟩ .f32) (G : FVec Ideal ⟨1, ![2048]⟩ .f32) (T : FVec Ideal ⟨2, ![4096, 2048]⟩ .f32)

/-- The normalised and scaled input against the target. -/
def gap (l : Fin 4096) (k : Fin 2048) : EReal := hat (row X l) k * vec G k - row T l k

/-- The gradient of the loss with respect to the norm's output. -/
def dyv (l : Fin 4096) (k : Fin 2048) : EReal := Ideal.div (gap X G T l k) lenB

/-- The loss: half the mean square gap of each row, summed over the rows. -/
def lossV : FVec Ideal ⟨2, ![1, 1]⟩ .f32 :=
  fun i => Ideal.ofBits .f32 0x39800000#32 * ∑ k : Fin 2048, ∑ l : Fin 4096, gap X G T l k * gap X G T l k

/-- Its gradient with respect to the norm's input. -/
def lossX : FVec Ideal ⟨2, ![4096, 2048]⟩ .bf16 := fun i => back (row X (i 0)) (dyv X G T (i 0)) (vec G) (i 1)

/-- Its gradient with respect to the gain. -/
def lossG : FVec Ideal ⟨2, ![1, 2048]⟩ .f32 := fun i => ∑ l : Fin 4096, dyv X G T l (i 1) * hat (row X l) (i 1)
end

end Cert.LossForm

namespace Cert.LossIdeal.Final

open Cert.LossIdeal Cert.LossIdeal.Gen Cert.NormForm Cert.LossForm

variable (m : (ℓ : Loc nD τ sig) → Buf (Elt Ideal) ℓ)

/-- Each window's block index at a point of the grid. -/
theorem idx : ∀ t : Fin cfg0.N, win0_0.index t = ![t.val, 0] ∧ win0_1.index t = ![0, 0]
    ∧ win0_2.index t = ![t.val, 0] ∧ win0_3.index t = ![0, 0] ∧ win0_4.index t = ![t.val, 0] ∧ win0_5.index t = ![0, 0] :=
  (by decide +kernel : ∀ t : Fin grid0.N, _)

theorem lt8 (t : Fin cfg0.N) : t.val < 8 := lt_of_lt_of_eq t.isLt N_0

theorem not_one (t : Fin cfg0.N) (h : t.val % 8 = 0) : ¬ 1 ≤ t.val := by have := lt8 t; omega

theorem one_le (t : Fin cfg0.N) (h : ¬ t.val % 8 = 0) : 1 ≤ t.val := by omega

theorem not_seven (t : Fin cfg0.N) (h : t.val % 8 = 0) : ¬ t.val % 8 = 7 := by omega

/-- What the body stores at an index of a block of rows is the gradient at the array index it sits at. -/
theorem point4 (c : Dev nD) (t : Fin cfg0.N) (y : S512x2048.Idx) :
    k0_pay10 (F := Ideal) (iblk m c 0 t) (iblk m c 1 t) (iblk m c 2 t) y
      = lossX (m ((c : Thread nD τ).loc main_arg0)) (m ((c : Thread nD τ).loc main_arg1)) (m ((c : Thread nD τ).loc main_arg2))
          (((cfg0.win 4).blk t).view.emb y) := by
  pointwise [k0_pay10, k0_pay9, k0_pay8, k0_pay7, k0_pay6, k0_pay5, lossX, dyv, gap, back, hat, rs, msq, row, vec]
  blk_point [iblk, V, idx t]

theorem final4 (c : Dev nD) : (dats m 0 c).arrAt 4 (cfgs 0).N
    = lossX (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4]
  by_cases h : t.val % 8 = 0
  · rw [outsAt0_A m c t h (not_one t h) (not_seven t h)]; frame_out; exact point4 m c t y
  · by_cases h7 : t.val % 8 = 7
    · rw [outsAt0_C m c t h (one_le t h) h7]; frame_out; exact point4 m c t y
    · rw [outsAt0_B m c t h (one_le t h) h7]; frame_out; exact point4 m c t y

/-- The part of a sum over the rows that a block of rows adds. -/
abbrev part (f : Fin 4096 → EReal) (t : Fin cfg0.N) : EReal :=
  ∑ r : Fin 512, f ⟨512 * t.val + r.val, by have := lt8 t; omega⟩

/-- The parts of all blocks are the sum over the rows. -/
theorem sum_part (f : Fin 4096 → EReal) : ∑ t : Fin cfg0.N, part f t = ∑ l : Fin 4096, f l := by
  refine Eq.trans ?_ (Fin.sum_mul_add_fin 8 512 f)
  exact Finset.sum_congr rfl fun s _ => Finset.sum_congr rfl fun k _ => congrArg f (Fin.ext (by dsimp only; omega))

/-- A row's term of the gain's gradient. -/
abbrev termG (c : Dev nD) (y : S1x2048.Idx) (l : Fin 4096) : EReal :=
  dyv (m ((c : Thread nD τ).loc main_arg0)) (m ((c : Thread nD τ).loc main_arg1)) (m ((c : Thread nD τ).loc main_arg2)) l (y 1)
    * hat (row (φ := .f32) (m ((c : Thread nD τ).loc main_arg0)) l) (y 1)

/-- A row's term of the squared gaps. -/
abbrev termS (c : Dev nD) (y : S1x2048.Idx) (l : Fin 4096) : EReal :=
  gap (m ((c : Thread nD τ).loc main_arg0)) (m ((c : Thread nD τ).loc main_arg1)) (m ((c : Thread nD τ).loc main_arg2)) l (y 1)
    * gap (m ((c : Thread nD τ).loc main_arg0)) (m ((c : Thread nD τ).loc main_arg1)) (m ((c : Thread nD τ).loc main_arg2)) l (y 1)

theorem pointG (c : Dev nD) (t : Fin cfg0.N) (y : S1x2048.Idx) :
    (k0_pay11 (F := Ideal) (iblk m c 0 t) (iblk m c 1 t) (iblk m c 2 t) y : EReal) = part (termG m c y) t := by
  pointwise [k0_pay11, k0_pay9, k0_pay8, k0_pay7, k0_pay6, k0_pay5, part, termG, dyv, gap, hat, rs, msq, row, vec]
  blk_point [iblk, V, idx t]

theorem pointS (c : Dev nD) (t : Fin cfg0.N) (y : S1x2048.Idx) :
    (k0_pay12 (F := Ideal) (iblk m c 0 t) (iblk m c 1 t) (iblk m c 2 t) y : EReal) = part (termS m c y) t := by
  pointwise [k0_pay12, k0_pay8, k0_pay7, k0_pay6, k0_pay5, part, termS, gap, hat, rs, msq, row, vec]
  blk_point [iblk, V, idx t]

theorem pointGA (c : Dev nD) (t : Fin cfg0.N) (y : S1x2048.Idx) (h : t.val % 8 = 0) :
    (outsAt0 m c t.val t.isLt).2.2.1 y = 0 + part (termG m c y) t := by
  rw [outsAt0_A m c t h (not_one t h) (not_seven t h), zero_add]
  frame_out
  exact pointG m c t y

theorem pointGB (c : Dev nD) (t : Fin cfg0.N) (y : S1x2048.Idx) (h : ¬ t.val % 8 = 0) :
    (outsAt0 m c t.val t.isLt).2.2.1 y
      = (outsAt0 m c (t.val - 1) (Nat.lt_of_le_of_lt (Nat.sub_le _ _) t.isLt)).2.2.1 y + part (termG m c y) t := by
  rw [← pointG m c t y]
  by_cases h7 : t.val % 8 = 7
  · rw [outsAt0_C m c t h (one_le t h) h7]
    frame_out
    pointwise [k0_pay2]
  · rw [outsAt0_B m c t h (one_le t h) h7]
    frame_out
    pointwise [k0_pay2]

theorem pointSA (c : Dev nD) (t : Fin cfg0.N) (y : S1x2048.Idx) (h : t.val % 8 = 0) :
    (outsAt0 m c t.val t.isLt).2.2.2 y = 0 + part (termS m c y) t := by
  rw [outsAt0_A m c t h (not_one t h) (not_seven t h), zero_add, ← pointS m c t y]
  frame_out
  pointwise [k0_pay1]

theorem pointSB (c : Dev nD) (t : Fin cfg0.N) (y : S1x2048.Idx) (h : ¬ t.val % 8 = 0) :
    (outsAt0 m c t.val t.isLt).2.2.2 y
      = (outsAt0 m c (t.val - 1) (Nat.lt_of_le_of_lt (Nat.sub_le _ _) t.isLt)).2.2.2 y + part (termS m c y) t := by
  rw [← pointS m c t y]
  by_cases h7 : t.val % 8 = 7
  · rw [outsAt0_C m c t h (one_le t h) h7]
    frame_out
    pointwise [k0_pay3]
    simp only [read_unread_whole]
  · rw [outsAt0_B m c t h (one_le t h) h7]
    frame_out
    pointwise [k0_pay3]
    simp only [read_unread_whole]

theorem final5 (c : Dev nD) : (dats m 0 c).arrAt 5 (cfgs 0).N
    = lossG (m ((c : Thread nD τ).loc main_arg0)) (m ((c : Thread nD τ).loc main_arg1)) (m ((c : Thread nD τ).loc main_arg2)) := by
  refine (dats m 0 c).arrAt_eq_of_after_last 5 t0_7 (by decide +kernel) _ fun j => ?_
  blk_simp
  rw [after0_5, Pipeline.eq_sum_fin_of_reset_step_apply_last (fun n h => (outsAt0 m c n h).2.2.1) 8 (fun _ => (0 : EReal))
    (fun t y => part (termG m c y) t) (fun t h y => pointGA m c t y h) (fun t h y => pointGB m c t y h) (le_of_eq N_0) t0_7 rfl j, zero_add]
  exact sum_part (termG m c j)

/-- The squared gaps summed over the rows, as the last point leaves them. -/
theorem sumS (c : Dev nD) (y : S1x2048.Idx) : (outsAt0 m c t0_7.val t0_7.isLt).2.2.2 y = ∑ l : Fin 4096, termS m c y l := by
  rw [Pipeline.eq_sum_fin_of_reset_step_apply_last (fun n h => (outsAt0 m c n h).2.2.2) 8 (fun _ => (0 : EReal))
    (fun t y => part (termS m c y) t) (fun t h y => pointSA m c t y h) (fun t h y => pointSB m c t y h) (le_of_eq N_0) t0_7 rfl y, zero_add]
  exact sum_part (termS m c y)

theorem last3 (c : Dev nD) : (outsAt0 m c t0_7.val t0_7.isLt).1 = k0_pay4 (F := Ideal) (outsAt0 m c t0_7.val t0_7.isLt).2.2.2 := by
  rw [outsAt0_C m c t0_7 (by decide) (by decide) (by decide)]
  frame_out

theorem final3 (c : Dev nD) : (dats m 0 c).arrAt 3 (cfgs 0).N
    = lossV (m ((c : Thread nD τ).loc main_arg0)) (m ((c : Thread nD τ).loc main_arg1)) (m ((c : Thread nD τ).loc main_arg2)) := by
  refine (dats m 0 c).arrAt_eq_of_after_last 3 t0_7 (by decide +kernel) _ fun j => ?_
  blk_simp
  rw [after0_3, last3]
  pointwise [k0_pay4, lossV]
  exact congrArg (fun s : EReal => Ideal.ofBits .f32 0x39800000#32 * s) (Finset.sum_congr rfl fun k _ => sumS m c (ix2 0 k))

end Cert.LossIdeal.Final
-- ==== Proof.Val.Loss.lean ====
/-
  The reference program of the loss and its gradients: its results, read at an index, are the closed forms.
-/
module

public import proofs.«01_k».proof.Proof.Gen.LossRefIdeal.Read
public import proofs.«01_k».proof.Proof.Val.LossKernel

@[expose] public section

set_option maxRecDepth 16384

noncomputable section

open Idealize.ShloMosaic Idealize.ShloMosaic.TcCoe Idealize.SL.Sem

namespace Cert.LossRefIdeal.Final

open Cert.LossRefIdeal.Read Cert.NormForm Cert.LossForm Cert.Finite

theorem half_bits : Ideal.ofBits .f32 0x3F000000#32 = ((1 / 2 : ℝ) : EReal) := by
  simp [Ideal.ofBits, Ideal.ieee]
  try (rw [← EReal.coe_mul]; norm_num)

theorem two_bits : Ideal.ofBits .f32 0x40000000#32 = ((2 : ℝ) : EReal) := by
  simp [Ideal.ofBits, Ideal.ieee]; rw [← EReal.coe_mul]; norm_num

theorem scale_bits : Ideal.ofBits .f32 0x39800000#32 = ((1 / 4096 : ℝ) : EReal) := by
  simp [Ideal.ofBits, Ideal.ieee]
  try (rw [← EReal.coe_mul]; norm_num)

variable (X : FVec Ideal ⟨2, ![4096, 2048]⟩ .f32) (G : FVec Ideal ⟨1, ![2048]⟩ .f32) (T : FVec Ideal ⟨2, ![4096, 2048]⟩ .f32)
  (l : Fin 4096) (k : Fin 2048)

theorem at6 : (val_main_v6 (F := Ideal) X) (ix2 l 0) = msq (row X l) := by
  pointwise [val_main_v6, val_main_v5, val_main_v4, val_main_v3, val_main_v2, val_main_v1, val_main_v0, val_main_cst, val_main_cst_0, val_main_cst_1, msq, row]

theorem at7 : (val_main_v7 (F := Ideal) X) (ix2 l 0) = rs (row X l) := by
  rw [rs, ← at6]
  pointwise [val_main_v7]

theorem at12 : (val_main_v12 (F := Ideal) X) (ix2 l k) = hat (row X l) k := by
  rw [hat, ← at7]
  pointwise [val_main_v12, val_main_v11]

theorem at16 : (val_main_v16 (F := Ideal) X G T) (ix2 l k) = gap X G T l k := by
  rw [gap, ← at12]
  pointwise [val_main_v16, val_main_v15, val_main_v14, val_main_v13, row, vec]

theorem at30 : (val_main_v30 (F := Ideal) X G T) (ix2 l k) = dyv X G T l k := by
  rw [dyv, ← at16]
  pointwise [val_main_v30, val_main_v29, val_main_v28, val_main_v27, val_main_cst_10, val_main_v26, val_main_v25, val_main_cst_8, val_main_cst_9,
    val_main_v19, val_main_v18, val_main_cst_3]
  have h2 : (2048 : ℝ) ≠ 0 := by norm_num
  rw [half_bits, two_bits, show Ideal.ofBits .f32 0x45000000#32 = _ from len_bits, show lenB = _ from len_bits, Ideal.div_coe h2, Ideal.div_coe h2, ← mul_assoc]
  simp only [← EReal.coe_mul]
  rw [mul_comm]
  norm_num

theorem at46 : (val_main_v46 (F := Ideal) X G T) (ix2 l k) = wgt (row X l) (dyv X G T l) (vec G) := by
  rw [wgt, ← at7, ← at6]
  simp only [← at30]
  pointwise [val_main_v46, val_main_v45, val_main_cst_15]
  refine (Fin.sum_univ_one _).trans ?_
  pointwise [val_main_v44, val_main_v43, val_main_cst_14, val_main_v42, val_main_v39, val_main_v38, val_main_cst_13, val_main_v37, val_main_v35,
    val_main_v34, val_main_v13, val_main_v10, val_main_v9, val_main_cst_2, val_main_v8, row, vec]

theorem at52 : (val_main_v52 (F := Ideal) X G T) (ix2 l k) = dyv X G T l k * vec G k * rs (row X l)
    + row X l k * wgt (row X l) (dyv X G T l) (vec G) + wgt (row X l) (dyv X G T l) (vec G) * row X l k := by
  rw [← at46 X G T l k, ← at7, ← at30]
  pointwise [val_main_v52, val_main_v50, val_main_v49, val_main_v48, val_main_v47, val_main_v41, val_main_v40, val_main_v35, val_main_v34,
    val_main_v13, row, vec]

theorem at53 : (val_main_v53 (F := Ideal) X G T) (ix2 0 k) = ∑ l : Fin 4096, dyv X G T l k * hat (row X l) k := by
  simp only [← at12, ← at30]
  pointwise [val_main_v53, val_main_v36, val_main_cst_12]
  refine (Fin.sum_univ_one _).trans ?_
  pointwise [val_main_v33, val_main_v32, val_main_cst_11, val_main_v31]
  exact Finset.sum_congr rfl fun l _ => mul_comm _ _

theorem at51 : (val_main_v51 (F := Ideal) X G T) (ix2 0 0)
    = Ideal.ofBits .f32 0x3F000000#32 * ∑ l : Fin 4096, Ideal.div (∑ k : Fin 2048, gap X G T l k * gap X G T l k) lenB := by
  simp only [← at16]
  pointwise [val_main_v51, val_main_v24, val_main_cst_7, val_main_v23, val_main_cst_6, val_main_v22, val_main_v21, val_main_cst_5, val_main_v20,
    val_main_cst_4, val_main_v17]

theorem final52 : val_main_v52 (F := Ideal) X G T = lossX X G T := by
  funext i; rw [eq_ix2 i]
  exact (at52 X G T (i 0) (i 1)).trans (chain_eq _ _ _ (i 1))

theorem final51 : val_main_v51 (F := Ideal) X G T = lossV X G T := by
  funext i
  obtain ⟨a, q, rfl⟩ : ∃ (a : Fin 1) (q : Fin 1), i = ix2 a q := ⟨i 0, i 1, eq_ix2 i⟩
  rw [Subsingleton.elim a 0, Subsingleton.elim q 0]
  refine (at51 X G T).trans ?_
  have h2 : (2048 : ℝ) ≠ 0 := by norm_num
  simp only [lossV, half_bits, scale_bits, len_bits, Ideal.div_coe h2]
  rw [sum_mul_real _ _ (by norm_num), Finset.sum_comm, mul_comm, mul_assoc, ← EReal.coe_mul, mul_comm]
  norm_num

theorem final53 : val_main_v53 (F := Ideal) X G T = lossG X G T := by
  funext i
  obtain ⟨a, q, rfl⟩ : ∃ (a : Fin 1) (q : Fin 2048), i = ix2 a q := ⟨i 0, i 1, eq_ix2 i⟩
  rw [Subsingleton.elim a 0]
  exact at53 X G T q

end Cert.LossRefIdeal.Final
-- ==== Proof.Val.MixerForm.lean ====
/-
  The gradient of the token mixer in closed form: the gated short convolution and the trailing-mean pooling as sums over the
  sequence, named once so that the kernel and the gradient of the forward lines can both be brought to it.
-/
module

public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.MixerForm

/-- The sequence `u`, `k` places earlier; zero before its start. -/
def dn (k : ℕ) (u : Fin 4096 → EReal) (t : Fin 4096) : EReal :=
  if h : k ≤ t.val then u ⟨t.val - k, by omega⟩ else 0

/-- The sequence `u`, `k` places later; zero after its end. -/
def up (k : ℕ) (u : Fin 4096 → EReal) (t : Fin 4096) : EReal :=
  if h : t.val + k < 4096 then u ⟨t.val + k, h⟩ else 0

/-- How many positions a trailing window of `w` has at position `t`. -/
def cnt (w : ℕ) (t : Fin 4096) : EReal := ((min (t.val + 1) w : ℕ) : EReal)

/-! ## Small words as numbers -/

theorem toInt_small (a : ℕ) (h : a < 2 ^ 31) : (BitVec.ofNat 32 a).toInt = a := by
  rw [BitVec.toInt_eq_toNat_cond, BitVec.toNat_ofNat, Nat.mod_eq_of_lt (by omega), if_pos (by omega)]

theorem minsi_small (a w : ℕ) (ha : a < 2 ^ 31) (hw : w < 2 ^ 31) :
    IntOp.minsi (BitVec.ofNat 32 a) (BitVec.ofNat 32 w) = BitVec.ofNat 32 (min a w) := by
  unfold IntOp.minsi
  rw [BitVec.slt, toInt_small a ha, toInt_small w hw]
  by_cases h : a < w
  · rw [if_pos (by simpa using h), min_eq_left h.le]
  · rw [if_neg (by simpa using h), min_eq_right (by omega)]

theorem sitofp_small (a : ℕ) (ha : a < 2 ^ 31) : FloatOps.sitofp (F := Ideal) .f32 (BitVec.ofNat 32 a) = (a : EReal) := by
  show (((BitVec.ofNat 32 a).toInt : ℝ) : EReal) = _
  rw [toInt_small a ha]
  simp

section
variable (P : FVec Ideal ⟨2, ![4096, 4096]⟩ .bf16) (DY : FVec Ideal ⟨2, ![4096, 2048]⟩ .bf16) (CW : FVec Ideal ⟨2, ![3, 1024]⟩ .f32)
  (PW : FVec Ideal ⟨3, ![4, 256, 256]⟩ .f32) (PS : FVec Ideal ⟨1, ![1024]⟩ .f32)

/-- The gated input of the convolution, channel `q`. -/
def gated (q : Fin 1024) (t : Fin 4096) : EReal := (show EReal from P (ix2 t ⟨1024 + q, by omega⟩)) * P (ix2 t ⟨2048 + q, by omega⟩)

/-- The gradient with respect to the convolution's output, channel `q`. -/
def dconv (q : Fin 1024) (t : Fin 4096) : EReal := (show EReal from DY (ix2 t ⟨q, by omega⟩)) * P (ix2 t ⟨q, by omega⟩)

/-- The gradient with respect to the output gate. -/
def dgate (q : Fin 1024) (t : Fin 4096) : EReal :=
  (show EReal from DY (ix2 t ⟨q, by omega⟩))
    * (CW (ix2 0 q) * dn 2 (gated P q) t + CW (ix2 1 q) * dn 1 (gated P q) t + CW (ix2 2 q) * gated P q t)

/-- The gradient with respect to the gated input. -/
def dgated (q : Fin 1024) (t : Fin 4096) : EReal :=
  (show EReal from CW (ix2 2 q)) * dconv P DY q t + CW (ix2 1 q) * up 1 (dconv P DY q) t + CW (ix2 0 q) * up 2 (dconv P DY q) t

/-- The pooled value, group `g`, channel `k`. -/
def pv (g : Fin 4) (k : Fin 256) (t : Fin 4096) : EReal := P (ix2 t ⟨3072 + (256 * g + k), by omega⟩)

/-- The trailing mean less the value itself, over a window of `w`. -/
def dif (w : ℕ) (g : Fin 4) (k : Fin 256) (t : Fin 4096) : EReal :=
  Ideal.div (∑ s ∈ Finset.range w, dn s (pv P g k) t) (cnt w t) - pv P g k t

/-- The cotangent of the group's product, scaled. -/
def dz (g : Fin 4) (e : Fin 256) (t : Fin 4096) : EReal :=
  (show EReal from DY (ix2 t ⟨1024 + (256 * g + e), by omega⟩)) * PS (ix1 ⟨256 * g + e, by omega⟩)

/-- The gradient with respect to the difference. -/
def ddif (g : Fin 4) (k : Fin 256) (t : Fin 4096) : EReal := ∑ e : Fin 256, dz DY PS g e t * PW (ix3 g k e)

/-- The gradient with respect to the pooled value. -/
def dpv (w : ℕ) (g : Fin 4) (k : Fin 256) (t : Fin 4096) : EReal :=
  (∑ s ∈ Finset.range w, up s (fun t => Ideal.div (ddif DY PW PS g k t) (cnt w t)) t) - ddif DY PW PS g k t

/-- The window of a group. -/
def win (g : Fin 4) : ℕ := ![2, 4, 8, 16] g

/-- The gradient with respect to the mixer's input. -/
def gradProj : FVec Ideal ⟨2, ![4096, 4096]⟩ .bf16 := fun i =>
  if h1 : (i 1).val < 1024 then dgate P DY CW ⟨i 1, h1⟩ (i 0)
  else if h2 : (i 1).val < 2048 then
    dgated P DY CW ⟨(i 1).val - 1024, by omega⟩ (i 0) * P (ix2 (i 0) ⟨2048 + ((i 1).val - 1024), by omega⟩)
  else if h3 : (i 1).val < 3072 then
    dgated P DY CW ⟨(i 1).val - 2048, by omega⟩ (i 0) * P (ix2 (i 0) ⟨1024 + ((i 1).val - 2048), by omega⟩)
  else
    have h4 : (i 1).val < 4096 := (i 1).isLt
    dpv DY PW PS (win ⟨((i 1).val - 3072) / 256, by omega⟩) ⟨((i 1).val - 3072) / 256, by omega⟩
      ⟨((i 1).val - 3072) % 256, Nat.mod_lt _ (by norm_num)⟩ (i 0)

section
variable (i : Shape.Idx ⟨2, ![4096, 4096]⟩) (t : Fin 4096) (q : Fin 1024) (g : Fin 4) (k : Fin 256) (h0 : (i 0).val = t.val)
include h0

theorem gradProj_gate (h1 : (i 1).val = q.val) : gradProj P DY CW PW PS i = dgate P DY CW q t := by
  rw [gradProj, dif_pos (by omega)]
  congr 1
  · ext; exact h1
  · ext; exact h0

theorem gradProj_in (h1 : (i 1).val = 1024 + q.val) :
    gradProj P DY CW PW PS i = dgated P DY CW q t * P (ix2 t ⟨2048 + q, by omega⟩) := by
  have e0 : i 0 = t := Fin.ext h0
  have hq : (i 1).val - 1024 = q.val := by omega
  rw [gradProj, dif_neg (by omega), dif_pos (by omega)]
  simp only [hq, e0]

theorem gradProj_out (h1 : (i 1).val = 2048 + q.val) :
    gradProj P DY CW PW PS i = dgated P DY CW q t * P (ix2 t ⟨1024 + q, by omega⟩) := by
  have e0 : i 0 = t := Fin.ext h0
  have hq : (i 1).val - 2048 = q.val := by omega
  rw [gradProj, dif_neg (by omega), dif_neg (by omega), dif_pos (by omega)]
  simp only [hq, e0]

theorem gradProj_pool (h1 : (i 1).val = 3072 + (256 * g + k)) :
    gradProj P DY CW PW PS i = dpv DY PW PS (win g) g k t := by
  have e0 : i 0 = t := Fin.ext h0
  have hg : ((i 1).val - 3072) / 256 = g.val := by omega
  have hk : ((i 1).val - 3072) % 256 = k.val := by omega
  rw [gradProj, dif_neg (by omega), dif_neg (by omega), dif_neg (by omega)]
  simp only [hg, hk, e0]
end

/-- The gradient with respect to the taps. -/
def gradConv : FVec Ideal ⟨2, ![3, 1024]⟩ .f32 := fun i =>
  ∑ t : Fin 4096, dconv P DY (i 1) t * dn (2 - (i 0).val) (gated P (i 1)) t

/-- The gradient with respect to the pooling weights. -/
def gradPool : FVec Ideal ⟨3, ![4, 256, 256]⟩ .f32 := fun i =>
  ∑ t : Fin 4096, dif P (win (i 0)) (i 0) (i 1) t * dz DY PS (i 0) (i 2) t

/-- The gradient with respect to the pooling scales, at group `g` and channel `e`. -/
def dscale (g : Fin 4) (e : Fin 256) : EReal :=
  ∑ t : Fin 4096, (show EReal from DY (ix2 t ⟨1024 + (256 * g + e), by omega⟩)) * ∑ k : Fin 256, dif P (win g) g k t * PW (ix3 g k e)

/-- The gradient with respect to the pooling scales. -/
def gradScale : FVec Ideal ⟨1, ![1024]⟩ .f32 := fun i =>
  have h : (i 0).val < 1024 := (i 0).isLt
  dscale P DY PW ⟨(i 0).val / 256, by omega⟩ ⟨(i 0).val % 256, Nat.mod_lt _ (by norm_num)⟩
end

end Cert.MixerForm
-- ==== Proof.Val.MixerTile.lean ====
/-
  What the mixer's gradient kernel computes on one tile of the sequence, written once for the four column blocks of the
  convolution and once for the four pooling groups, and the closed form it has.
-/
module

public import proofs.«01_k».proof.Proof.Gen.MixerBwdIdeal.Skeleton
public import proofs.«01_k».proof.Proof.Val.MixerForm

@[expose] public section

set_option maxRecDepth 16384

noncomputable section

open Idealize.ShloMosaic Idealize.ShloMosaic.TcCoe Idealize.SL.Sem

namespace Cert.MixerBwdIdeal.Tile

open Cert.MixerBwdIdeal Cert.MixerBwdIdeal.Gen Cert.MixerForm

/-! ## Rows above and below a tile -/

/-- Rows of a halo, zero at the end of the sequence. -/
abbrev sel (b : BitVec 1) (p : FVec Ideal S16x256 .bf16) : FVec Ideal S16x256 .f32 :=
  Scalar.select b (broadcast S16x256 (Scalar.ofBits .f32 0x00000000#32)) (extf .f32 p bitsLt_bf16_f32)

abbrev above (p : FVec Ideal S16x256 .f32) (v : FVec Ideal S512x256 .f32) : FVec Ideal S528x256 .f32 :=
  concatenate S528x256 0 [⟨S16x256, p⟩, ⟨S512x256, v⟩] concatenates_S16x256_S512x256_S528x256_d0

abbrev below (v : FVec Ideal S512x256 .f32) (p : FVec Ideal S16x256 .f32) : FVec Ideal S528x256 .f32 :=
  concatenate S528x256 0 [⟨S512x256, v⟩, ⟨S16x256, p⟩] concatenates_S512x256_S16x256_S528x256_d0

abbrev turn (k : BitVec 32) (e : FVec Ideal S528x256 .f32) : FVec Ideal S528x256 .f32 := dynamicRotate 0 k none e rotates_S528x256_d0

abbrev tail (e : FVec Ideal S528x256 .f32) : FVec Ideal S512x256 .f32 :=
  extractStridedSlice S512x256 ![16, 0] e slices_S528x256_o16_0_S512x256

abbrev head (e : FVec Ideal S528x256 .f32) : FVec Ideal S512x256 .f32 :=
  extractStridedSlice S512x256 ![0, 0] e slices_S528x256_o0_0_S512x256

/-- Tile `n` of a sequence of rows. -/
def IsTile (n : Fin 8) (f : Fin 256 → Fin 4096 → EReal) (v : FVec Ideal S512x256 .f32) : Prop :=
  ∀ (r : Fin 512) (q : Fin 256), v (ix2 r q) = f q ⟨512 * n + r, by omega⟩

/-- Tile `n` with the sixteen rows before it. -/
def IsAbove (n : Fin 8) (f : Fin 256 → Fin 4096 → EReal) (e : FVec Ideal S528x256 .f32) : Prop :=
  ∀ (j : Fin 528) (q : Fin 256), e (ix2 j q) = if h : 16 ≤ 512 * n.val + j.val then f q ⟨512 * n + j - 16, by omega⟩ else 0

/-- Tile `n` with the sixteen rows after it. -/
def IsBelow (n : Fin 8) (f : Fin 256 → Fin 4096 → EReal) (e : FVec Ideal S528x256 .f32) : Prop :=
  ∀ (j : Fin 528) (q : Fin 256), e (ix2 j q) = if h : 512 * n.val + j.val < 4096 then f q ⟨512 * n + j, h⟩ else 0

theorem above_apply (p : FVec Ideal S16x256 .f32) (v : FVec Ideal S512x256 .f32) (j : Fin 528) (q : Fin 256) :
    above p v (ix2 j q) = if h : j.val < 16 then p (ix2 ⟨j, h⟩ q) else v (ix2 ⟨j - 16, by omega⟩ q) := by
  pointwise [above]

theorem below_apply (p : FVec Ideal S16x256 .f32) (v : FVec Ideal S512x256 .f32) (j : Fin 528) (q : Fin 256) :
    below v p (ix2 j q) = if h : j.val < 512 then v (ix2 ⟨j, h⟩ q) else p (ix2 ⟨j - 512, by omega⟩ q) := by
  pointwise [below]

theorem isAbove (n : Fin 8) (f : Fin 256 → Fin 4096 → EReal) (p : FVec Ideal S16x256 .f32) (v : FVec Ideal S512x256 .f32)
    (hv : IsTile n f v)
    (hp : ∀ (r : Fin 16) (q : Fin 256), p (ix2 r q) = if h : 0 < n.val then f q ⟨512 * n + r - 16, by omega⟩ else 0) :
    IsAbove n f (above p v) := by
  intro j q
  rw [above_apply]
  by_cases h : j.val < 16
  · rw [dif_pos h, hp]
    by_cases h' : 0 < n.val
    · rw [dif_pos h', dif_pos (by omega)]
    · rw [dif_neg h', dif_neg (by omega)]
  · rw [dif_neg h, hv, dif_pos (by omega)]
    congr 1
    ext
    simp only
    omega

theorem isBelow (n : Fin 8) (f : Fin 256 → Fin 4096 → EReal) (p : FVec Ideal S16x256 .f32) (v : FVec Ideal S512x256 .f32)
    (hv : IsTile n f v)
    (hp : ∀ (r : Fin 16) (q : Fin 256), p (ix2 r q) = if h : n.val < 7 then f q ⟨512 * n + r + 512, by omega⟩ else 0) :
    IsBelow n f (below v p) := by
  intro j q
  rw [below_apply]
  by_cases h : j.val < 512
  · rw [dif_pos h, hv, dif_pos (by omega)]
  · rw [dif_neg h, hp]
    by_cases h' : n.val < 7
    · rw [dif_pos h', dif_pos (by omega)]
      congr 1
      ext
      simp only
      omega
    · rw [dif_neg h', dif_neg (by omega)]

/-! ## Shifts and window sums of a tile with its halo -/

/-- A row of a tile with its halo above, `s` rows up. -/
theorem IsAbove.row {n : Fin 8} {f : Fin 256 → Fin 4096 → EReal} {e : FVec Ideal S528x256 .f32} (he : IsAbove n f e)
    (s : ℕ) (r : Fin 512) (q : Fin 256) (j : Fin 528) (h : j.val + s = r.val + 16) :
    e (ix2 j q) = dn s (f q) ⟨512 * n + r, by omega⟩ := by
  rw [he, dn]
  by_cases h' : s ≤ 512 * n.val + r.val
  · rw [dif_pos (by omega), dif_pos h']
    congr 1
    ext
    simp only
    omega
  · rw [dif_neg (by omega), dif_neg h']

/-- A row of a tile with its halo below, `s` rows down. -/
theorem IsBelow.row {n : Fin 8} {f : Fin 256 → Fin 4096 → EReal} {e : FVec Ideal S528x256 .f32} (he : IsBelow n f e)
    (s : ℕ) (r : Fin 512) (q : Fin 256) (j : Fin 528) (h : j.val = r.val + s) :
    e (ix2 j q) = up s (f q) ⟨512 * n + r, by omega⟩ := by
  rw [he, up]
  by_cases h' : 512 * n.val + r.val + s < 4096
  · rw [dif_pos (by omega), dif_pos h']
    congr 1
    ext
    simp only
    omega
  · rw [dif_neg (by omega), dif_neg h']

theorem IsAbove.shift1 {n : Fin 8} {f : Fin 256 → Fin 4096 → EReal} {e : FVec Ideal S528x256 .f32} (he : IsAbove n f e) :
    IsTile n (fun q => dn 1 (f q)) (tail (turn 1#32 e)) := by
  intro r q
  pointwise [tail, turn]
  exact he.row 1 r q _ (by dsimp only; omega)

theorem IsAbove.shift2 {n : Fin 8} {f : Fin 256 → Fin 4096 → EReal} {e : FVec Ideal S528x256 .f32} (he : IsAbove n f e) :
    IsTile n (fun q => dn 2 (f q)) (tail (turn 2#32 e)) := by
  intro r q
  pointwise [tail, turn]
  exact he.row 2 r q _ (by dsimp only; omega)

theorem IsBelow.shift1 {n : Fin 8} {f : Fin 256 → Fin 4096 → EReal} {e : FVec Ideal S528x256 .f32} (he : IsBelow n f e) :
    IsTile n (fun q => up 1 (f q)) (head (turn 527#32 e)) := by
  intro r q
  pointwise [head, turn]
  exact he.row 1 r q _ (by dsimp only; omega)

theorem IsBelow.shift2 {n : Fin 8} {f : Fin 256 → Fin 4096 → EReal} {e : FVec Ideal S528x256 .f32} (he : IsBelow n f e) :
    IsTile n (fun q => up 2 (f q)) (head (turn 526#32 e)) := by
  intro r q
  pointwise [head, turn]
  exact he.row 2 r q _ (by dsimp only; omega)

/-- A tile added to itself turned. -/
abbrev dbl (k : BitVec 32) (e : FVec Ideal S528x256 .f32) : FVec Ideal S528x256 .f32 := addf e (turn k e)

/-- Rows of a tile with its halo above, each the sum of `w` rows ending there. -/
def SumAbove (n : Fin 8) (w : ℕ) (f : Fin 256 → Fin 4096 → EReal) (e : FVec Ideal S528x256 .f32) : Prop :=
  ∀ (s0 : ℕ) (r : Fin 512) (q : Fin 256) (j : Fin 528), j.val + s0 = r.val + 16 → s0 + w ≤ 17 →
    e (ix2 j q) = ∑ s ∈ Finset.range w, dn (s0 + s) (f q) ⟨512 * n + r, by omega⟩

/-- Rows of a tile with its halo below, each the sum of `w` rows from there on. -/
def SumBelow (n : Fin 8) (w : ℕ) (f : Fin 256 → Fin 4096 → EReal) (e : FVec Ideal S528x256 .f32) : Prop :=
  ∀ (s0 : ℕ) (r : Fin 512) (q : Fin 256) (j : Fin 528), j.val = r.val + s0 → s0 + w ≤ 17 →
    e (ix2 j q) = ∑ s ∈ Finset.range w, up (s0 + s) (f q) ⟨512 * n + r, by omega⟩

theorem IsAbove.sum {n : Fin 8} {f : Fin 256 → Fin 4096 → EReal} {e : FVec Ideal S528x256 .f32} (he : IsAbove n f e) :
    SumAbove n 1 f e := by
  intro s0 r q j h _
  rw [Finset.sum_range_one, he.row (s0 + 0) r q j h]

theorem IsBelow.sum {n : Fin 8} {f : Fin 256 → Fin 4096 → EReal} {e : FVec Ideal S528x256 .f32} (he : IsBelow n f e) :
    SumBelow n 1 f e := by
  intro s0 r q j h _
  rw [Finset.sum_range_one, he.row (s0 + 0) r q j h]

theorem SumAbove.dbl {n : Fin 8} {w : ℕ} {f : Fin 256 → Fin 4096 → EReal} {e : FVec Ideal S528x256 .f32} (he : SumAbove n w f e)
    {k : BitVec 32} (hk : ∀ (j : Fin 528) (q : Fin 256) (h : w ≤ j.val), turn k e (ix2 j q) = e (ix2 ⟨j - w, by omega⟩ q)) :
    SumAbove n (w + w) f (Tile.dbl k e) := by
  intro s0 r q j h hs
  show (e (ix2 j q) + turn k e (ix2 j q) : EReal) = _
  rw [hk j q (by omega), he s0 r q j h (by omega), he (s0 + w) r q _ (by dsimp only; omega) (by omega), Finset.sum_range_add]
  simp only [Nat.add_assoc]

theorem SumBelow.dbl {n : Fin 8} {w : ℕ} {f : Fin 256 → Fin 4096 → EReal} {e : FVec Ideal S528x256 .f32} (he : SumBelow n w f e)
    {k : BitVec 32} (hk : ∀ (j : Fin 528) (q : Fin 256) (h : j.val + w < 528), turn k e (ix2 j q) = e (ix2 ⟨j + w, h⟩ q)) :
    SumBelow n (w + w) f (Tile.dbl k e) := by
  intro s0 r q j h hs
  show (e (ix2 j q) + turn k e (ix2 j q) : EReal) = _
  rw [hk j q (by omega), he s0 r q j h (by omega), he (s0 + w) r q _ (by dsimp only; omega) (by omega), Finset.sum_range_add]
  simp only [Nat.add_assoc]

section turns
variable (e : FVec Ideal S528x256 .f32) (j : Fin 528) (q : Fin 256)

theorem turn1 (h : 1 ≤ j.val) : turn 1#32 e (ix2 j q) = e (ix2 ⟨j - 1, by omega⟩ q) := by
  pointwise [turn]
  congr 2; ext; dsimp only; omega
theorem turn2 (h : 2 ≤ j.val) : turn 2#32 e (ix2 j q) = e (ix2 ⟨j - 2, by omega⟩ q) := by
  pointwise [turn]
  congr 2; ext; dsimp only; omega
theorem turn4 (h : 4 ≤ j.val) : turn 4#32 e (ix2 j q) = e (ix2 ⟨j - 4, by omega⟩ q) := by
  pointwise [turn]
  congr 2; ext; dsimp only; omega
theorem turn8 (h : 8 ≤ j.val) : turn 8#32 e (ix2 j q) = e (ix2 ⟨j - 8, by omega⟩ q) := by
  pointwise [turn]
  congr 2; ext; dsimp only; omega
theorem turn527 (h : j.val + 1 < 528) : turn 527#32 e (ix2 j q) = e (ix2 ⟨j + 1, h⟩ q) := by
  pointwise [turn]
  congr 2; ext; dsimp only; omega
theorem turn526 (h : j.val + 2 < 528) : turn 526#32 e (ix2 j q) = e (ix2 ⟨j + 2, h⟩ q) := by
  pointwise [turn]
  congr 2; ext; dsimp only; omega
theorem turn524 (h : j.val + 4 < 528) : turn 524#32 e (ix2 j q) = e (ix2 ⟨j + 4, h⟩ q) := by
  pointwise [turn]
  congr 2; ext; dsimp only; omega
theorem turn520 (h : j.val + 8 < 528) : turn 520#32 e (ix2 j q) = e (ix2 ⟨j + 8, h⟩ q) := by
  pointwise [turn]
  congr 2; ext; dsimp only; omega
end turns

/-- The window sums of a tile with its halo above, as the kernel doubles them. -/
def sumsAbove (g : Fin 4) (e : FVec Ideal S528x256 .f32) : FVec Ideal S528x256 .f32 :=
  match g with
  | 0 => dbl 1#32 e
  | 1 => dbl 2#32 (dbl 1#32 e)
  | 2 => dbl 4#32 (dbl 2#32 (dbl 1#32 e))
  | 3 => dbl 8#32 (dbl 4#32 (dbl 2#32 (dbl 1#32 e)))

/-- The window sums of a tile with its halo below. -/
def sumsBelow (g : Fin 4) (e : FVec Ideal S528x256 .f32) : FVec Ideal S528x256 .f32 :=
  match g with
  | 0 => dbl 527#32 e
  | 1 => dbl 526#32 (dbl 527#32 e)
  | 2 => dbl 524#32 (dbl 526#32 (dbl 527#32 e))
  | 3 => dbl 520#32 (dbl 524#32 (dbl 526#32 (dbl 527#32 e)))

theorem IsAbove.sums {n : Fin 8} {f : Fin 256 → Fin 4096 → EReal} {e : FVec Ideal S528x256 .f32} (he : IsAbove n f e) (g : Fin 4) :
    IsTile n (fun q t => ∑ s ∈ Finset.range (win g), dn s (f q) t) (tail (sumsAbove g e)) := by
  have h2 := he.sum.dbl (turn1 e)
  have h4 := h2.dbl (turn2 _)
  have h8 := h4.dbl (turn4 _)
  have h16 := h8.dbl (turn8 _)
  have key : SumAbove n (win g) f (sumsAbove g e) := by
    fin_cases g
    exacts [h2, h4, h8, h16]
  intro r q
  have hw : win g ≤ 17 := by fin_cases g <;> decide
  pointwise [tail]
  rw [key 0 r q _ (by dsimp only; omega) (by omega)]
  simp only [Nat.zero_add]

theorem IsBelow.sums {n : Fin 8} {f : Fin 256 → Fin 4096 → EReal} {e : FVec Ideal S528x256 .f32} (he : IsBelow n f e) (g : Fin 4) :
    IsTile n (fun q t => ∑ s ∈ Finset.range (win g), up s (f q) t) (head (sumsBelow g e)) := by
  have h2 := he.sum.dbl (turn527 e)
  have h4 := h2.dbl (turn526 _)
  have h8 := h4.dbl (turn524 _)
  have h16 := h8.dbl (turn520 _)
  have key : SumBelow n (win g) f (sumsBelow g e) := by
    fin_cases g
    exacts [h2, h4, h8, h16]
  intro r q
  have hw : win g ≤ 17 := by fin_cases g <;> decide
  pointwise [head]
  rw [key 0 r q _ (by dsimp only; omega) (by omega)]
  simp only [Nat.zero_add]

/-! ## The convolution on a tile -/

section conv
variable (first last : BitVec 1) (b c xt dy : FVec Ideal S512x256 .bf16) (pc px dyn bn : FVec Ideal S16x256 .bf16)
  (w0 w1 w2 : FVec Ideal S1x256 .f32)

abbrev wide (v : FVec Ideal S512x256 .bf16) : FVec Ideal S512x256 .f32 := extf .f32 v bitsLt_bf16_f32

abbrev narrow (v : FVec Ideal S512x256 .f32) : FVec Ideal S512x256 .bf16 := truncf .bf16 v bitsLt_bf16_f32

abbrev rows (w : FVec Ideal S1x256 .f32) : FVec Ideal S512x256 .f32 := broadcastTo S512x256 w broadcasts_S1x256_S512x256

/-- The gated input with the rows above. -/
def gatedAbove : FVec Ideal S528x256 .f32 := above (mulf (sel first pc) (sel first px)) (mulf (wide c) (wide xt))

/-- The gradient of the convolution's output with the rows below. -/
def dconvBelow : FVec Ideal S528x256 .f32 := below (mulf (wide dy) (wide b)) (mulf (sel last dyn) (sel last bn))

def dgateT : FVec Ideal S512x256 .bf16 :=
  narrow (mulf (wide dy) (addf (addf (mulf (rows w0) (tail (turn 2#32 (gatedAbove first c xt pc px))))
    (mulf (rows w1) (tail (turn 1#32 (gatedAbove first c xt pc px))))) (mulf (rows w2) (mulf (wide c) (wide xt)))))

def dgatedT : FVec Ideal S512x256 .f32 :=
  addf (addf (mulf (rows w2) (mulf (wide dy) (wide b))) (mulf (rows w1) (head (turn 527#32 (dconvBelow last b dy dyn bn)))))
    (mulf (rows w0) (head (turn 526#32 (dconvBelow last b dy dyn bn))))

/-- A sum over a tile's rows, added to what was there. -/
def addRows (acc : FVec Ideal S1x256 .f32) (v : FVec Ideal S512x256 .f32) : FVec Ideal S1x256 .f32 :=
  addf (shapeCast S1x256 acc shapeCasts_S1x256_S1x256)
    (shapeCast S1x256 (multiReduction .add [0] S256 v 0x00000000#32 reduces_S512x256_S256 (.inl rfl) rfl) shapeCasts_S256_S1x256)

theorem addRows_apply (acc : FVec Ideal S1x256 .f32) (v : FVec Ideal S512x256 .f32) (q : Fin 256) :
    addRows acc v (ix2 0 q) = acc (ix2 0 q) + ∑ r : Fin 512, v (ix2 r q) := by
  pointwise [addRows]

variable (P : FVec Ideal S4096x4096 .bf16) (DY : FVec Ideal S4096x2048 .bf16) (CW : FVec Ideal S3x1024 .f32) (n : Fin 8) (j : Fin 4)

/-- What the loads of a tile and its halos read: columns `o` onwards of an array `A`. -/
def Cur {w : ℕ} (A : FVec Ideal ⟨2, ![4096, w]⟩ .bf16) (o : ℕ) (v : FVec Ideal S512x256 .bf16) : Prop :=
  ∀ (r : Fin 512) (q : Fin 256) (h : o + q < w), v (ix2 r q) = A (ix2 ⟨512 * n + r, by omega⟩ ⟨o + q, h⟩)

def Prev {w : ℕ} (A : FVec Ideal ⟨2, ![4096, w]⟩ .bf16) (o : ℕ) (v : FVec Ideal S16x256 .bf16) : Prop :=
  ∀ (r : Fin 16) (q : Fin 256) (h : o + q < w) (h0 : 0 < n.val), v (ix2 r q) = A (ix2 ⟨512 * n + r - 16, by omega⟩ ⟨o + q, h⟩)

def Next {w : ℕ} (A : FVec Ideal ⟨2, ![4096, w]⟩ .bf16) (o : ℕ) (v : FVec Ideal S16x256 .bf16) : Prop :=
  ∀ (r : Fin 16) (q : Fin 256) (h : o + q < w) (h0 : n.val < 7), v (ix2 r q) = A (ix2 ⟨512 * n + r + 512, by omega⟩ ⟨o + q, h⟩)

theorem sel_apply (b : BitVec 1) (p : FVec Ideal S16x256 .bf16) (r : Fin 16) (q : Fin 256) :
    sel b p (ix2 r q) = Scalar.select b (0 : EReal) (p (ix2 r q)) := by
  pointwise [sel]

/-- The scalar test that a tile is the first. -/
theorem sel_first (x : EReal) : Scalar.select (Scalar.cmpi CmpIPredicate.eq (BitVec.ofNat 32 n.val) 0#32) (0 : EReal) x
    = if 0 < n.val then x else 0 := by
  fin_cases n <;> rfl

theorem sel_last (x : EReal) : Scalar.select (Scalar.cmpi CmpIPredicate.eq (BitVec.ofNat 32 n.val) 7#32) (0 : EReal) x
    = if n.val < 7 then x else 0 := by
  fin_cases n <;> rfl

/-- The block of channels a column block serves. -/
abbrev ch (q : Fin 256) : Fin 1024 := ⟨256 * j + q, by omega⟩

theorem gatedAbove_is (hf : first = Scalar.cmpi CmpIPredicate.eq (BitVec.ofNat 32 n.val) 0#32)
    (hc : Cur n P (1024 + 256 * j) c) (hx : Cur n P (2048 + 256 * j) xt)
    (hpc : Prev n P (1024 + 256 * j) pc) (hpx : Prev n P (2048 + 256 * j) px) :
    IsAbove n (fun q => gated P (ch j q)) (gatedAbove first c xt pc px) := by
  subst hf
  refine isAbove n _ _ _ (fun r q => ?_) (fun r q => ?_)
  · show (c (ix2 r q) * xt (ix2 r q) : EReal) = _
    rw [hc r q (by omega), hx r q (by omega), gated]
    simp only [ch, Nat.add_assoc]
  · show (sel _ pc (ix2 r q) * sel _ px (ix2 r q) : EReal) = _
    rw [sel_apply, sel_apply, sel_first, sel_first]
    by_cases h : 0 < n.val
    · rw [if_pos h, if_pos h, dif_pos h, hpc r q (by omega) h, hpx r q (by omega) h, gated]
      simp only [ch, Nat.add_assoc]
    · rw [if_neg h, if_neg h, dif_neg h, mul_zero]

theorem dconvBelow_is (hl : last = Scalar.cmpi CmpIPredicate.eq (BitVec.ofNat 32 n.val) 7#32)
    (hb : Cur n P (256 * j) b) (hdy : Cur n DY (256 * j) dy) (hdyn : Next n DY (256 * j) dyn) (hbn : Next n P (256 * j) bn) :
    IsBelow n (fun q => dconv P DY (ch j q)) (dconvBelow last b dy dyn bn) := by
  subst hl
  refine isBelow n _ _ _ (fun r q => ?_) (fun r q => ?_)
  · show (dy (ix2 r q) * b (ix2 r q) : EReal) = _
    rw [hdy r q (by omega), hb r q (by omega), dconv]
  · show (sel _ dyn (ix2 r q) * sel _ bn (ix2 r q) : EReal) = _
    rw [sel_apply, sel_apply, sel_last, sel_last]
    by_cases h : n.val < 7
    · rw [if_pos h, if_pos h, dif_pos h, hdyn r q (by omega) h, hbn r q (by omega) h, dconv]
    · rw [if_neg h, if_neg h, dif_neg h, mul_zero]

/-- What the loads of the taps read. -/
def Tap (a : Fin 3) (w : FVec Ideal S1x256 .f32) : Prop := ∀ q : Fin 256, w (ix2 0 q) = CW (ix2 a (ch j q))

theorem rows_apply (w : FVec Ideal S1x256 .f32) (r : Fin 512) (q : Fin 256) : rows w (ix2 r q) = w (ix2 0 q) := by
  pointwise [rows]

/-- The gradient of the output gate on a tile. -/
theorem dgateT_apply (hf : first = Scalar.cmpi CmpIPredicate.eq (BitVec.ofNat 32 n.val) 0#32)
    (hc : Cur n P (1024 + 256 * j) c) (hx : Cur n P (2048 + 256 * j) xt)
    (hpc : Prev n P (1024 + 256 * j) pc) (hpx : Prev n P (2048 + 256 * j) px) (hdy : Cur n DY (256 * j) dy)
    (h0 : Tap CW j 0 w0) (h1 : Tap CW j 1 w1) (h2 : Tap CW j 2 w2) (r : Fin 512) (q : Fin 256) :
    dgateT first c xt dy pc px w0 w1 w2 (ix2 r q) = dgate P DY CW (ch j q) ⟨512 * n + r, by omega⟩ := by
  have e := gatedAbove_is first c xt pc px P n j hf hc hx hpc hpx
  show (dy (ix2 r q) * (rows w0 (ix2 r q) * tail (turn 2#32 (gatedAbove first c xt pc px)) (ix2 r q)
    + rows w1 (ix2 r q) * tail (turn 1#32 (gatedAbove first c xt pc px)) (ix2 r q)
    + rows w2 (ix2 r q) * (c (ix2 r q) * xt (ix2 r q))) : EReal) = _
  rw [rows_apply, rows_apply, rows_apply, e.shift1 r q, e.shift2 r q, h0, h1, h2, hdy r q (by omega), hc r q (by omega),
    hx r q (by omega), dgate]
  simp only [ch, gated, Nat.add_assoc]

/-- The gradient of the gated input on a tile. -/
theorem dgatedT_apply (hl : last = Scalar.cmpi CmpIPredicate.eq (BitVec.ofNat 32 n.val) 7#32)
    (hb : Cur n P (256 * j) b) (hdy : Cur n DY (256 * j) dy) (hdyn : Next n DY (256 * j) dyn) (hbn : Next n P (256 * j) bn)
    (h0 : Tap CW j 0 w0) (h1 : Tap CW j 1 w1) (h2 : Tap CW j 2 w2) (r : Fin 512) (q : Fin 256) :
    dgatedT last b dy dyn bn w0 w1 w2 (ix2 r q) = dgated P DY CW (ch j q) ⟨512 * n + r, by omega⟩ := by
  have e := dconvBelow_is last b dy dyn bn P DY n j hl hb hdy hdyn hbn
  show (rows w2 (ix2 r q) * (dy (ix2 r q) * b (ix2 r q))
    + rows w1 (ix2 r q) * head (turn 527#32 (dconvBelow last b dy dyn bn)) (ix2 r q)
    + rows w0 (ix2 r q) * head (turn 526#32 (dconvBelow last b dy dyn bn)) (ix2 r q) : EReal) = _
  rw [rows_apply, rows_apply, rows_apply, e.shift1 r q, e.shift2 r q, h0, h1, h2, hdy r q (by omega), hb r q (by omega), dgated]
  simp only [ch, dconv]

end conv

/-! ## The pooling on a tile -/

section pool
variable (g : Fin 4) (n : Fin 8) (first last : BitVec 1) (v dy : FVec Ideal S512x256 .bf16) (p dyn : FVec Ideal S16x256 .bf16)
  (sc : FVec Ideal S1x256 .f32) (pw : FVec Ideal S1x256x256 .bf16)

/-- The window of a group, as a word and as a float's bits. -/
abbrev winWord : BitVec 32 := ![2#32, 4#32, 8#32, 16#32] g

abbrev winBits : BitVec 32 := ![0x40000000#32, 0x40800000#32, 0x41000000#32, 0x41800000#32] g

/-- How many positions a window has, on tile number `i`. -/
def cntT (i : BitVec 32) : FVec Ideal S512x256 .f32 :=
  sitofp .f32 (minsi (addi (addi (broadcast S512x256 (Scalar.muli i 512#32)) (iota .tc S512x256 32 [0] iota_S512x256_d0_w32))
    (broadcast S512x256 1#32)) (broadcast S512x256 (winWord g)))

theorem cntT_apply (r : Fin 512) (q : Fin 256) : cntT g (BitVec.ofNat 32 n.val) (ix2 r q) = cnt (win g) ⟨512 * n + r, by omega⟩ := by
  pointwise [cntT]
  have h1 : IntOp.addi (IntOp.addi (Scalar.muli (BitVec.ofNat 32 n.val) 512#32) (BitVec.ofNat 32 r.val)) 1#32
      = BitVec.ofNat 32 (512 * n + r + 1) := by
    apply BitVec.eq_of_toNat_eq
    simp [IntOp.addi, Scalar.muli, IntOp.muli, Nat.mul_comm]
  have h2 : winWord g = BitVec.ofNat 32 (win g) := by fin_cases g <;> rfl
  have h3 : win g ≤ 16 := by fin_cases g <;> decide
  rw [h1, h2, minsi_small _ _ (by omega) (by omega), sitofp_small _ (by omega), cnt]

def difT (cn : FVec Ideal S512x256 .f32) : FVec Ideal S512x256 .bf16 :=
  narrow (subf (divf (tail (sumsAbove g (above (sel first p) (wide v)))) cn) (wide v))

def dzT : FVec Ideal S512x256 .bf16 := narrow (mulf (wide dy) (rows (shapeCast S1x256 sc shapeCasts_S1x256_S1x256)))

def dznT : FVec Ideal S16x256 .bf16 :=
  truncf .bf16 (mulf (sel last dyn) (broadcastTo S16x256 (shapeCast S1x256 sc shapeCasts_S1x256_S1x256) broadcasts_S1x256_S16x256)) bitsLt_bf16_f32

def ddT (d : FVec Ideal S512x256 .bf16) : FVec Ideal S512x256 .f32 :=
  matmul dot_S512x256_S256x256_S512x256_1_1_0_0_n_n none d (shapeCast S256x256 pw shapeCasts_S1x256x256_S256x256)
    (constant S512x256 .f32 0x00000000#32)

def ddnT (d : FVec Ideal S16x256 .bf16) : FVec Ideal S16x256 .f32 :=
  matmul dot_S16x256_S256x256_S16x256_1_1_0_0_n_n none d (shapeCast S256x256 pw shapeCasts_S1x256x256_S256x256)
    (constant S16x256 .f32 0x00000000#32)

def zT (d : FVec Ideal S512x256 .bf16) : FVec Ideal S512x256 .f32 :=
  matmul dot_S512x256_S256x256_S512x256_1_0_0_1_n_n none d (shapeCast S256x256 pw shapeCasts_S1x256x256_S256x256)
    (constant S512x256 .f32 0x00000000#32)

def dpvT (cn dd : FVec Ideal S512x256 .f32) (ddn : FVec Ideal S16x256 .f32) : FVec Ideal S512x256 .bf16 :=
  narrow (subf (head (sumsBelow g (below (divf dd cn) (divf ddn (broadcast S16x256 (Scalar.ofBits .f32 (winBits g))))))) dd)

def dpwT (acc : FVec Ideal S1x256x256 .f32) (d e : FVec Ideal S512x256 .bf16) : FVec Ideal S1x256x256 .f32 :=
  shapeCast S1x256x256 (addf (shapeCast S256x256 acc shapeCasts_S1x256x256_S256x256)
    (matmul dot_S512x256_S512x256_S256x256_0_0_1_1_n_n none d e (constant S256x256 .f32 0x00000000#32))) shapeCasts_S256x256_S1x256x256

theorem dzT_apply (r : Fin 512) (q : Fin 256) : dzT dy sc (ix2 r q) = dy (ix2 r q) * sc (ix2 0 q) := by
  pointwise [dzT]

theorem dznT_apply (r : Fin 16) (q : Fin 256) : dznT last dyn sc (ix2 r q) = Scalar.select last 0 (dyn (ix2 r q)) * sc (ix2 0 q) := by
  pointwise [dznT]

theorem ddT_apply (d : FVec Ideal S512x256 .bf16) (r : Fin 512) (q : Fin 256) :
    ddT pw d (ix2 r q) = ∑ e : Fin 256, d (ix2 r e) * pw (ix3 0 q e) := by
  pointwise [ddT]

theorem ddnT_apply (d : FVec Ideal S16x256 .bf16) (r : Fin 16) (q : Fin 256) :
    ddnT pw d (ix2 r q) = ∑ e : Fin 256, d (ix2 r e) * pw (ix3 0 q e) := by
  pointwise [ddnT]

theorem zT_apply (d : FVec Ideal S512x256 .bf16) (r : Fin 512) (q : Fin 256) :
    zT pw d (ix2 r q) = ∑ k : Fin 256, d (ix2 r k) * pw (ix3 0 k q) := by
  pointwise [zT]

theorem dpwT_apply (acc : FVec Ideal S1x256x256 .f32) (d e : FVec Ideal S512x256 .bf16) (k q : Fin 256) :
    dpwT acc d e (ix3 0 k q) = acc (ix3 0 k q) + ∑ r : Fin 512, d (ix2 r k) * e (ix2 r q) := by
  pointwise [dpwT]

theorem winBits_apply : Ideal.ofBits .f32 (winBits g) = ((win g : ℕ) : EReal) := by
  fin_cases g <;> (simp [Ideal.ofBits, Ideal.ieee, winBits, win]; rw [← EReal.coe_mul]; norm_num; rfl)

variable (P : FVec Ideal S4096x4096 .bf16) (DY : FVec Ideal S4096x2048 .bf16) (PW : FVec Ideal S4x256x256 .f32)
  (PS : FVec Ideal ⟨1, ![1024]⟩ .f32) (cn : FVec Ideal S512x256 .f32)

/-- What the loads of the scales and of a group's weights read. -/
def Scale (sc : FVec Ideal S1x256 .f32) : Prop := ∀ q : Fin 256, sc (ix2 0 q) = PS (ix1 ⟨256 * g + q, by omega⟩)

def Weight (pw : FVec Ideal S1x256x256 .bf16) : Prop := ∀ k q : Fin 256, pw (ix3 0 k q) = PW (ix3 g k q)

/-- The difference on a tile. -/
theorem difT_apply (hf : first = Scalar.cmpi CmpIPredicate.eq (BitVec.ofNat 32 n.val) 0#32)
    (hcn : cn = cntT g (BitVec.ofNat 32 n.val)) (hv : Cur n P (3072 + 256 * g) v) (hp : Prev n P (3072 + 256 * g) p)
    (r : Fin 512) (k : Fin 256) : difT g first v p cn (ix2 r k) = dif P (win g) g k ⟨512 * n + r, by omega⟩ := by
  have hpv (r : Fin 512) (k : Fin 256) : v (ix2 r k) = pv P g k ⟨512 * n + r, by omega⟩ := by
    rw [hv r k (by omega), pv]
    simp only [Nat.add_assoc]
  have e : IsAbove n (fun k => pv P g k) (above (sel first p) (wide v)) := by
    subst hf
    refine isAbove n _ _ _ (fun r q => hpv r q) (fun r q => ?_)
    rw [sel_apply, sel_first]
    by_cases h : 0 < n.val
    · rw [if_pos h, dif_pos h, hp r q (by omega) h, pv]
      simp only [Nat.add_assoc]
    · rw [if_neg h, dif_neg h]
  subst hcn
  show (Ideal.div (tail (sumsAbove g (above (sel first p) (wide v))) (ix2 r k)) (cntT g (BitVec.ofNat 32 n.val) (ix2 r k)) - v (ix2 r k) : EReal) = _
  rw [e.sums g r k, cntT_apply, hpv, dif]

/-- The scaled cotangent on a tile. -/
theorem dzT_is (hdy : Cur n DY (1024 + 256 * g) dy) (hs : Scale g PS sc) (r : Fin 512) (q : Fin 256) :
    dzT dy sc (ix2 r q) = dz DY PS g q ⟨512 * n + r, by omega⟩ := by
  rw [dzT_apply, hdy r q (by omega), hs, dz]
  simp only [Nat.add_assoc]

/-- The gradient of the difference on a tile. -/
theorem ddT_is (hdy : Cur n DY (1024 + 256 * g) dy) (hs : Scale g PS sc) (hw : Weight g PW pw) (r : Fin 512) (q : Fin 256) :
    ddT pw (dzT dy sc) (ix2 r q) = ddif DY PW PS g q ⟨512 * n + r, by omega⟩ := by
  rw [ddT_apply, ddif]
  refine Finset.sum_congr rfl fun e _ => ?_
  rw [dzT_is g n dy sc DY PS hdy hs, hw]

/-- The gradient of the difference on the rows below, zero after the end of the sequence. -/
theorem ddnT_is (hl : last = Scalar.cmpi CmpIPredicate.eq (BitVec.ofNat 32 n.val) 7#32)
    (hdyn : Next n DY (1024 + 256 * g) dyn) (hs : Scale g PS sc) (hw : Weight g PW pw) (r : Fin 16) (q : Fin 256) :
    ddnT pw (dznT last dyn sc) (ix2 r q) = if h : n.val < 7 then ddif DY PW PS g q ⟨512 * n + r + 512, by omega⟩ else 0 := by
  subst hl
  rw [ddnT_apply]
  by_cases h : n.val < 7
  · rw [dif_pos h, ddif]
    refine Finset.sum_congr rfl fun e _ => ?_
    rw [dznT_apply, sel_last, if_pos h, hdyn r e (by omega) h, hs, hw, dz]
    simp only [Nat.add_assoc]
  · rw [dif_neg h]
    refine Finset.sum_eq_zero fun e _ => ?_
    rw [dznT_apply, sel_last, if_neg h, zero_mul, zero_mul]

/-- The gradient of the pooled value on a tile. -/
theorem dpvT_apply (hl : last = Scalar.cmpi CmpIPredicate.eq (BitVec.ofNat 32 n.val) 7#32)
    (hcn : cn = cntT g (BitVec.ofNat 32 n.val)) (hdy : Cur n DY (1024 + 256 * g) dy)
    (hdyn : Next n DY (1024 + 256 * g) dyn) (hs : Scale g PS sc) (hw : Weight g PW pw) (r : Fin 512) (k : Fin 256) :
    dpvT g cn (ddT pw (dzT dy sc)) (ddnT pw (dznT last dyn sc)) (ix2 r k)
      = dpv DY PW PS (win g) g k ⟨512 * n + r, by omega⟩ := by
  subst hcn
  have hdd := ddT_is g n dy sc pw DY PW PS hdy hs hw
  have e : IsBelow n (fun k t => Ideal.div (ddif DY PW PS g k t) (cnt (win g) t))
      (below (divf (ddT pw (dzT dy sc)) (cntT g (BitVec.ofNat 32 n.val)))
        (divf (ddnT pw (dznT last dyn sc)) (broadcast S16x256 (Scalar.ofBits .f32 (winBits g))))) := by
    refine isBelow n _ _ _ (fun r q => ?_) (fun r q => ?_)
    · show Ideal.div (ddT pw (dzT dy sc) (ix2 r q)) (cntT g (BitVec.ofNat 32 n.val) (ix2 r q)) = _
      rw [hdd, cntT_apply]
    · show Ideal.div (ddnT pw (dznT last dyn sc) (ix2 r q)) (Ideal.ofBits .f32 (winBits g)) = _
      rw [ddnT_is g n last dyn sc pw DY PW PS hl hdyn hs hw, winBits_apply]
      have hw16 : 0 < win g ∧ win g ≤ 16 := by fin_cases g <;> decide
      by_cases h : n.val < 7
      · rw [dif_pos h, dif_pos h, cnt, min_eq_right (by dsimp only; omega)]
      · rw [dif_neg h, dif_neg h, Ideal.zero_div (by exact_mod_cast hw16.1.ne')]
  show (head (sumsBelow g _) (ix2 r k) - ddT pw (dzT dy sc) (ix2 r k) : EReal) = _
  rw [e.sums g r k, hdd, dpv]

end pool

end Cert.MixerBwdIdeal.Tile
-- ==== Proof.Val.MixerPoint.lean ====
/-
  What the mixer's gradient kernel reads at a point of its grid, and what it leaves in the block of the input's gradient.
-/
module

public import proofs.«01_k».proof.Proof.Gen.MixerBwdIdeal.Value
public import proofs.«01_k».proof.Proof.Val.MixerTile
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.MixerBwdIdeal.Final

open Cert.MixerBwdIdeal Cert.MixerBwdIdeal.Gen Cert.MixerBwdIdeal.Tile Cert.MixerForm

variable (m : (ℓ : Loc nD τ sig) → Buf (Elt Ideal) ℓ)

/-- Each window's block index at a point of the grid. -/
theorem idx : ∀ t : Fin cfg0.N, win0_0.index t = ![t.val, 0] ∧ win0_1.index t = ![32 * t.val - 1, 0]
    ∧ win0_2.index t = ![min (32 * t.val + 32) 255, 0] ∧ win0_3.index t = ![t.val, 0] ∧ win0_4.index t = ![min (32 * t.val + 32) 255, 0]
    ∧ win0_5.index t = ![0, 0] ∧ win0_6.index t = ![0, 0, 0] ∧ win0_7.index t = ![0, 0] ∧ win0_8.index t = ![t.val, 0] :=
  (by decide +kernel : ∀ t : Fin grid0.N, _)

abbrev tile (t : Fin cfg0.N) : Fin 8 := ⟨t.val, lt_of_lt_of_eq t.isLt N_0⟩

theorem coord (t : Fin cfg0.N) : (grid0.coords t 0).val = t.val :=
  (by decide +kernel : ∀ t : Fin grid0.N, (grid0.coords t 0).val = t.val) t

section loads
variable (c : Dev nD) (t : Fin cfg0.N) (o : ℕ)

theorem cur0 (h) : Cur (tile t) (m ((c : Thread nD τ).loc main_arg0)) o
    (View.ld (iblk m c 0 t) (Rect.unit (s := S512x4096) ![0, o] ![512, 256] h)) := by
  intro r q hq
  pointwise
  blk_point [iblk, V, idx t]

theorem prev0 (h) : Prev (tile t) (m ((c : Thread nD τ).loc main_arg0)) o
    (View.ld (iblk m c 1 t) (Rect.unit (s := S16x4096) ![0, o] ![16, 256] h)) := by
  intro r q hq h0
  change 0 < t.val at h0
  pointwise
  blk_point [iblk, V, idx t]

theorem next0 (h) : Next (tile t) (m ((c : Thread nD τ).loc main_arg0)) o
    (View.ld (iblk m c 2 t) (Rect.unit (s := S16x4096) ![0, o] ![16, 256] h)) := by
  intro r q hq h0
  change t.val < 7 at h0
  pointwise
  blk_point [iblk, V, idx t]

theorem cur1 (h) : Cur (tile t) (m ((c : Thread nD τ).loc main_arg1)) o
    (View.ld (iblk m c 3 t) (Rect.unit (s := S512x2048) ![0, o] ![512, 256] h)) := by
  intro r q hq
  pointwise
  blk_point [iblk, V, idx t]

theorem next1 (h) : Next (tile t) (m ((c : Thread nD τ).loc main_arg1)) o
    (View.ld (iblk m c 4 t) (Rect.unit (s := S16x2048) ![0, o] ![16, 256] h)) := by
  intro r q hq h0
  change t.val < 7 at h0
  pointwise
  blk_point [iblk, V, idx t]

theorem tap (a : Fin 3) (j : Fin 4) (h) : Tap (m ((c : Thread nD τ).loc main_arg2)) j a
    (View.ld (iblk m c 5 t) (Rect.unit (s := S3x1024) ![a, 256 * j] ![1, 256] h)) := by
  intro q
  pointwise
  blk_point [iblk, V, idx t]

theorem scale (g : Fin 4) (h) : Scale g (m ((c : Thread nD τ).loc main_arg4))
    (View.ld (iblk m c 7 t) (Rect.unit (s := S1x1024) ![0, 256 * g] ![1, 256] h)) := by
  intro q
  pointwise
  blk_point [iblk, V, idx t]

theorem weight (g : Fin 4) (h) : Weight g (m ((c : Thread nD τ).loc main_arg3))
    (View.ld (iblk m c 6 t) (Rect.unit (s := S4x256x256) ![g, 0, 0] ![1, 256, 256] h)) := by
  intro k q
  pointwise
  blk_point [iblk, V, idx t]
end loads

/-! ## A point's loads, by column -/

section names
variable (c : Dev nD) (t : Fin cfg0.N)

abbrev L0 (o : ℕ) (h : o + 256 ≤ 4096) : FVec Ideal S512x256 .bf16 :=
  View.ld (iblk m c 0 t) (Rect.unit (s := S512x4096) ![0, o] ![512, 256] (by intro a; fin_cases a <;> (simp; try omega)))

abbrev L1 (o : ℕ) (h : o + 256 ≤ 4096) : FVec Ideal S16x256 .bf16 :=
  View.ld (iblk m c 1 t) (Rect.unit (s := S16x4096) ![0, o] ![16, 256] (by intro a; fin_cases a <;> (simp; try omega)))

abbrev L2 (o : ℕ) (h : o + 256 ≤ 4096) : FVec Ideal S16x256 .bf16 :=
  View.ld (iblk m c 2 t) (Rect.unit (s := S16x4096) ![0, o] ![16, 256] (by intro a; fin_cases a <;> (simp; try omega)))

abbrev L3 (o : ℕ) (h : o + 256 ≤ 2048) : FVec Ideal S512x256 .bf16 :=
  View.ld (iblk m c 3 t) (Rect.unit (s := S512x2048) ![0, o] ![512, 256] (by intro a; fin_cases a <;> (simp; try omega)))

abbrev L4 (o : ℕ) (h : o + 256 ≤ 2048) : FVec Ideal S16x256 .bf16 :=
  View.ld (iblk m c 4 t) (Rect.unit (s := S16x2048) ![0, o] ![16, 256] (by intro a; fin_cases a <;> (simp; try omega)))

abbrev L5 (a : Fin 3) (j : Fin 4) : FVec Ideal S1x256 .f32 :=
  View.ld (iblk m c 5 t) (Rect.unit (s := S3x1024) ![a, 256 * j] ![1, 256] (by intro a; fin_cases a <;> (simp; try omega)))

abbrev L6 (g : Fin 4) : FVec Ideal S1x256x256 .bf16 :=
  View.ld (iblk m c 6 t) (Rect.unit (s := S4x256x256) ![g, 0, 0] ![1, 256, 256] (by intro a; fin_cases a <;> (simp; try omega)))

abbrev L7 (g : Fin 4) : FVec Ideal S1x256 .f32 :=
  View.ld (iblk m c 7 t) (Rect.unit (s := S1x1024) ![0, 256 * g] ![1, 256] (by intro a; fin_cases a <;> (simp; try omega)))

/-- The tests that a point is the first or the last. -/
abbrev first : BitVec 1 := Scalar.cmpi CmpIPredicate.eq (BitVec.ofNat 32 (grid0.coords t 0).val) 0#32

abbrev last : BitVec 1 := Scalar.cmpi CmpIPredicate.eq (BitVec.ofNat 32 (grid0.coords t 0).val) 7#32

theorem first_eq : first t = Scalar.cmpi CmpIPredicate.eq (BitVec.ofNat 32 (tile t).val) 0#32 := by rw [first, coord]

theorem last_eq : last t = Scalar.cmpi CmpIPredicate.eq (BitVec.ofNat 32 (tile t).val) 7#32 := by rw [last, coord]

/-! ## The four kinds of stored block -/

variable (j : Fin 4)

/-- The output gate's gradient, column block `j`. -/
abbrev gateB : FVec Ideal S512x256 .bf16 :=
  dgateT (first t) (L0 m c t (1024 + 256 * j) (by omega)) (L0 m c t (2048 + 256 * j) (by omega)) (L3 m c t (256 * j) (by omega))
    (L1 m c t (1024 + 256 * j) (by omega)) (L1 m c t (2048 + 256 * j) (by omega)) (L5 m c t 0 j) (L5 m c t 1 j) (L5 m c t 2 j)

/-- The gated input's gradient, column block `j`. -/
abbrev gatedB : FVec Ideal S512x256 .f32 :=
  dgatedT (last t) (L0 m c t (256 * j) (by omega)) (L3 m c t (256 * j) (by omega))
    (L4 m c t (256 * j) (by omega)) (L2 m c t (256 * j) (by omega)) (L5 m c t 0 j) (L5 m c t 1 j) (L5 m c t 2 j)

abbrev inB : FVec Ideal S512x256 .bf16 := narrow (mulf (gatedB m c t j) (wide (L0 m c t (2048 + 256 * j) (by omega))))

abbrev outB : FVec Ideal S512x256 .bf16 := narrow (mulf (gatedB m c t j) (wide (L0 m c t (1024 + 256 * j) (by omega))))

/-- The scaled cotangent of group `j`, and the gradient of its difference. -/
abbrev dzB : FVec Ideal S512x256 .bf16 := dzT (L3 m c t (1024 + 256 * j) (by omega)) (L7 m c t j)

abbrev cntB : FVec Ideal S512x256 .f32 := cntT j (BitVec.ofNat 32 (grid0.coords t 0).val)

abbrev poolB : FVec Ideal S512x256 .bf16 :=
  dpvT j (cntB t j) (ddT (L6 m c t j) (dzB m c t j))
    (ddnT (L6 m c t j) (dznT (last t) (L4 m c t (1024 + 256 * j) (by omega)) (L7 m c t j)))

abbrev difB : FVec Ideal S512x256 .bf16 :=
  difT j (first t) (L0 m c t (3072 + 256 * j) (by omega)) (L1 m c t (3072 + 256 * j) (by omega)) (cntB t j)

/-- The gradient of the input, as the closed form has it. -/
abbrev GP : FVec Ideal S4096x4096 .bf16 :=
  gradProj (m ((c : Thread nD τ).loc main_arg0)) (m ((c : Thread nD τ).loc main_arg1)) (m ((c : Thread nD τ).loc main_arg2))
    (m ((c : Thread nD τ).loc main_arg3)) (m ((c : Thread nD τ).loc main_arg4))

variable (r : Fin 512) (q : Fin 256)

theorem gatedB_apply : gatedB m c t j (ix2 r q) = dgated (m ((c : Thread nD τ).loc main_arg0)) (m ((c : Thread nD τ).loc main_arg1))
    (m ((c : Thread nD τ).loc main_arg2)) (ch j q) ⟨512 * tile t + r, by omega⟩ :=
  dgatedT_apply (last t) _ _ _ _ _ _ _ _ _ _ (tile t) j (last_eq t) (cur0 m c t _ _) (cur1 m c t _ _) (next1 m c t _ _)
    (next0 m c t _ _) (tap m c t 0 j _) (tap m c t 1 j _) (tap m c t 2 j _) r q

variable (y : S4096x4096.Idx) (hy0 : (y 0).val = 512 * t.val + r.val)
include hy0

theorem gateB_apply (hy1 : (y 1).val = 256 * j + q.val) : gateB m c t j (ix2 r q) = GP m c y := by
  rw [GP, gradProj_gate _ _ _ _ _ y ⟨512 * tile t + r, by omega⟩ (ch j q) hy0 hy1]
  exact dgateT_apply (first t) _ _ _ _ _ _ _ _ _ _ _ (tile t) j (first_eq t) (cur0 m c t _ _) (cur0 m c t _ _) (prev0 m c t _ _)
    (prev0 m c t _ _) (cur1 m c t _ _) (tap m c t 0 j _) (tap m c t 1 j _) (tap m c t 2 j _) r q

theorem inB_apply (hy1 : (y 1).val = 1024 + 256 * j + q.val) : inB m c t j (ix2 r q) = GP m c y := by
  rw [GP, gradProj_in _ _ _ _ _ y ⟨512 * tile t + r, by omega⟩ (ch j q) hy0 (by rw [hy1, Nat.add_assoc])]
  show (gatedB m c t j (ix2 r q) * L0 m c t (2048 + 256 * j) (by omega) (ix2 r q) : EReal) = _
  refine congrArg₂ (· * ·) (gatedB_apply m c t j r q) ((cur0 m c t (2048 + 256 * j) _ r q (by omega)).trans ?_)
  simp only [ch, Nat.add_assoc]

theorem outB_apply (hy1 : (y 1).val = 2048 + 256 * j + q.val) : outB m c t j (ix2 r q) = GP m c y := by
  rw [GP, gradProj_out _ _ _ _ _ y ⟨512 * tile t + r, by omega⟩ (ch j q) hy0 (by rw [hy1, Nat.add_assoc])]
  show (gatedB m c t j (ix2 r q) * L0 m c t (1024 + 256 * j) (by omega) (ix2 r q) : EReal) = _
  refine congrArg₂ (· * ·) (gatedB_apply m c t j r q) ((cur0 m c t (1024 + 256 * j) _ r q (by omega)).trans ?_)
  simp only [ch, Nat.add_assoc]

theorem poolB_apply (hy1 : (y 1).val = 3072 + 256 * j + q.val) : poolB m c t j (ix2 r q) = GP m c y := by
  rw [GP, gradProj_pool _ _ _ _ _ y ⟨512 * tile t + r, by omega⟩ j q hy0 (by rw [hy1, Nat.add_assoc])]
  exact dpvT_apply j (tile t) (last t) _ _ _ _ _ _ _ _ (last_eq t) (by rw [cntB, coord]) (cur1 m c t _ _) (next1 m c t _ _)
    (scale m c t j _) (weight m c t j _) r q
end names

/-- A value stored at an index of a tile's block is the closed form's at the array index, when it is at every row and channel. -/
theorem at_ix {v : FVec Ideal S512x256 .bf16} {a : EReal} (x : S512x256.Idx) (h : v (ix2 (x 0) (x 1)) = a) : v x = a := by
  rw [← h]
  congr 1
  funext a; fin_cases a <;> rfl

/-- What a point leaves in the block of the input's gradient. -/
theorem point8 (c : Dev nD) (t : Fin cfg0.N) (y : S512x4096.Idx) :
    (outsAt0 m c t.val t.isLt).1 y = GP m c (((cfg0.win 8).blk t).view.emb y) := by
  have e0 : ((((cfg0.win 8).blk t).view.emb y) 0).val = 512 * t.val + (y 0).val := by blk_simp [idx t]; try omega
  have e1 : ((((cfg0.win 8).blk t).view.emb y) 1).val = (y 1).val := by blk_simp [idx t]; try omega
  generalize ((cfg0.win 8).blk t).view.emb y = z at e0 e1 ⊢
  by_cases h8 : t.val % 8 = 0
  on_goal 1 => rw [outsAt0_A m c t h8]
  on_goal 2 => rw [outsAt0_B m c t h8]
  all_goals frame_out
  all_goals canon_tiles x h
  all_goals
    have e3 : (z 0).val = 512 * t.val + (x 0).val := by omega
    first
    | (have e2 : (z 1).val = 0 + (x 1).val := by omega
       exact at_ix x (gateB_apply m c t 0 (x 0) (x 1) z e3 (by dsimp only; omega)))
    | (have e2 : (z 1).val = 256 + (x 1).val := by omega
       exact at_ix x (gateB_apply m c t 1 (x 0) (x 1) z e3 (by dsimp only; omega)))
    | (have e2 : (z 1).val = 512 + (x 1).val := by omega
       exact at_ix x (gateB_apply m c t 2 (x 0) (x 1) z e3 (by dsimp only; omega)))
    | (have e2 : (z 1).val = 768 + (x 1).val := by omega
       exact at_ix x (gateB_apply m c t 3 (x 0) (x 1) z e3 (by dsimp only; omega)))
    | (have e2 : (z 1).val = 1024 + (x 1).val := by omega
       exact at_ix x (inB_apply m c t 0 (x 0) (x 1) z e3 (by dsimp only; omega)))
    | (have e2 : (z 1).val = 1280 + (x 1).val := by omega
       exact at_ix x (inB_apply m c t 1 (x 0) (x 1) z e3 (by dsimp only; omega)))
    | (have e2 : (z 1).val = 1536 + (x 1).val := by omega
       exact at_ix x (inB_apply m c t 2 (x 0) (x 1) z e3 (by dsimp only; omega)))
    | (have e2 : (z 1).val = 1792 + (x 1).val := by omega
       exact at_ix x (inB_apply m c t 3 (x 0) (x 1) z e3 (by dsimp only; omega)))
    | (have e2 : (z 1).val = 2048 + (x 1).val := by omega
       exact at_ix x (outB_apply m c t 0 (x 0) (x 1) z e3 (by dsimp only; omega)))
    | (have e2 : (z 1).val = 2304 + (x 1).val := by omega
       exact at_ix x (outB_apply m c t 1 (x 0) (x 1) z e3 (by dsimp only; omega)))
    | (have e2 : (z 1).val = 2560 + (x 1).val := by omega
       exact at_ix x (outB_apply m c t 2 (x 0) (x 1) z e3 (by dsimp only; omega)))
    | (have e2 : (z 1).val = 2816 + (x 1).val := by omega
       exact at_ix x (outB_apply m c t 3 (x 0) (x 1) z e3 (by dsimp only; omega)))
    | (have e2 : (z 1).val = 3072 + (x 1).val := by omega
       exact at_ix x (poolB_apply m c t 0 (x 0) (x 1) z e3 (by dsimp only; omega)))
    | (have e2 : (z 1).val = 3328 + (x 1).val := by omega
       exact at_ix x (poolB_apply m c t 1 (x 0) (x 1) z e3 (by dsimp only; omega)))
    | (have e2 : (z 1).val = 3584 + (x 1).val := by omega
       exact at_ix x (poolB_apply m c t 2 (x 0) (x 1) z e3 (by dsimp only; omega)))
    | (have e2 : (z 1).val = 3840 + (x 1).val := by omega
       exact at_ix x (poolB_apply m c t 3 (x 0) (x 1) z e3 (by dsimp only; omega)))

theorem final8 (c : Dev nD) : (dats m 0 c).arrAt 8 (cfgs 0).N = GP m c := by
  refine (dats m 0 c).arrAt_eq_of_covers 8 _ (by decide +kernel) fun t _ y => ?_
  blk_simp
  rw [after0_8]
  exact point8 m c t y

end Cert.MixerBwdIdeal.Final
-- ==== Proof.Val.MixerSums.lean ====
/-
  The mixer's gradient kernel: the three sums over the sequence that it accumulates from tile to tile.
-/
module

public import proofs.«01_k».proof.Proof.Val.MixerPoint
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.MixerBwdIdeal.Final

open Cert.MixerBwdIdeal Cert.MixerBwdIdeal.Gen Cert.MixerBwdIdeal.Tile Cert.MixerForm

variable (m : (ℓ : Loc nD τ sig) → Buf (Elt Ideal) ℓ)

/-- The part of a sum over the sequence that tile `t` adds. -/
abbrev part (G : Fin 4096 → EReal) (t : Fin cfg0.N) : EReal := ∑ r : Fin 512, G ⟨512 * tile t + r, by omega⟩

/-- The parts of all tiles are the sum over the sequence. -/
theorem sum_part (G : Fin 4096 → EReal) : ∑ t : Fin cfg0.N, part G t = ∑ l : Fin 4096, G l := by
  refine Eq.trans ?_ (Fin.sum_mul_add_fin 8 512 G)
  exact Finset.sum_congr rfl fun s _ => Finset.sum_congr rfl fun k _ => congrArg G (Fin.ext (by dsimp only; omega))

theorem dn_zero (u : Fin 4096 → EReal) (t : Fin 4096) : dn 0 u t = u t := by
  rw [dn, dif_pos (Nat.zero_le _)]
  rfl

/-- The stores of a point but the first, when they cover the buffer, leave what all of them leave. -/
theorem canon_dropLast {S : Shape} {Val : EltTy → Type} {e : EltTy} [∀ e, Nonempty (Val e)] (y : S.Idx) :
    ∀ L : List (View.Piece Val S e), (∃ p ∈ L.dropLast, y ∈ p.1.set) → View.canon L y = View.canon L.dropLast y
  | [], _ => rfl
  | [p], hc => by obtain ⟨q, hq, _⟩ := hc; exact absurd hq List.not_mem_nil
  | p :: p' :: L, hc => by
    show View.canon (p :: p' :: L) y = View.canon (p :: (p' :: L).dropLast) y
    by_cases hm : y ∈ p.1.set
    · obtain ⟨r, w⟩ := p
      obtain ⟨x, rfl⟩ := r.exists_idx_of_mem hm
      exact (View.canon_cons_emb r w _ x).trans (View.canon_cons_emb r w _ x).symm
    · rw [View.canon_cons_of_not_mem _ _ hm, View.canon_cons_of_not_mem _ _ hm]
      refine canon_dropLast y (p' :: L) ?_
      obtain ⟨q, hq, hyq⟩ := hc
      rcases List.mem_cons.mp hq with rfl | hq'
      · exact absurd hyq hm
      · exact ⟨q, hq', hyq⟩

/-! ## The taps -/

section taps
variable (c : Dev nD) (t : Fin cfg0.N) (j : Fin 4)

abbrev dconvB : FVec Ideal S512x256 .f32 := mulf (wide (L3 m c t (256 * j) (by omega))) (wide (L0 m c t (256 * j) (by omega)))

abbrev aboveB : FVec Ideal S528x256 .f32 :=
  gatedAbove (first t) (L0 m c t (1024 + 256 * j) (by omega)) (L0 m c t (2048 + 256 * j) (by omega))
    (L1 m c t (1024 + 256 * j) (by omega)) (L1 m c t (2048 + 256 * j) (by omega))

/-- The rows the three taps' gradients are sums of, column block `j`. -/
abbrev tap0B : FVec Ideal S512x256 .f32 := mulf (dconvB m c t j) (tail (turn 2#32 (aboveB m c t j)))
abbrev tap1B : FVec Ideal S512x256 .f32 := mulf (dconvB m c t j) (tail (turn 1#32 (aboveB m c t j)))
abbrev tap2B : FVec Ideal S512x256 .f32 :=
  mulf (dconvB m c t j) (mulf (wide (L0 m c t (1024 + 256 * j) (by omega))) (wide (L0 m c t (2048 + 256 * j) (by omega))))

/-- The term of the gradient of tap row `y 0`, channel `y 1`, at a position. -/
abbrev tapG (y : S3x1024.Idx) (l : Fin 4096) : EReal :=
  dconv (m ((c : Thread nD τ).loc main_arg0)) (m ((c : Thread nD τ).loc main_arg1)) (y 1) l
    * dn (2 - (y 0).val) (gated (m ((c : Thread nD τ).loc main_arg0)) (y 1)) l

variable (r : Fin 512) (q : Fin 256)

theorem dconvB_apply : dconvB m c t j (ix2 r q)
    = dconv (m ((c : Thread nD τ).loc main_arg0)) (m ((c : Thread nD τ).loc main_arg1)) (ch j q) ⟨512 * tile t + r, by omega⟩ :=
  congrArg₂ (α := EReal) (β := EReal) (· * ·) (cur1 m c t (256 * j) _ r q (by omega)) (cur0 m c t (256 * j) _ r q (by omega))

theorem aboveB_is : IsAbove (tile t) (fun q => gated (m ((c : Thread nD τ).loc main_arg0)) (ch j q)) (aboveB m c t j) :=
  gatedAbove_is (first t) _ _ _ _ _ (tile t) j (first_eq t) (cur0 m c t _ _) (cur0 m c t _ _) (prev0 m c t _ _) (prev0 m c t _ _)

variable (y : S3x1024.Idx) (x : S1x256.Idx) (acc : FVec Ideal S3x1024 .f32)

/-- The load of one row of 256 of an accumulator. -/
abbrev ldRow {k w : ℕ} (acc : FVec Ideal ⟨2, ![k, w]⟩ .f32) (a o : ℕ)
    (h : ∀ b, (![a, o] : Fin 2 → ℕ) b + (![1, 256] : Fin 2 → ℕ) b ≤ (![k, w] : Fin 2 → ℕ) b) : FVec Ideal S1x256 .f32 :=
  View.ld (Val := Elt Ideal) (e' := .f32) acc (Rect.unit (s := ⟨2, ![k, w]⟩) ![a, o] ![1, 256] h)

/-- A row of a block, added to what the load of that row read, is the part of the sums that the tile adds. -/
theorem addRows_at {k w : ℕ} (acc : FVec Ideal ⟨2, ![k, w]⟩ .f32) (a o : ℕ) (h) (v : FVec Ideal S512x256 .f32) (x : S1x256.Idx)
    (y : Shape.Idx ⟨2, ![k, w]⟩) (G : Fin 4096 → EReal) (h0 : (y 0).val = a + (x 0).val) (h1 : (y 1).val = o + (x 1).val)
    (hv : ∀ (r : Fin 512) (q : Fin 256), (y 1).val = o + q.val → v (ix2 r q) = G ⟨512 * tile t + r, by omega⟩) :
    addRows (ldRow acc a o h) v x = (acc y + part G t : EReal) := by
  obtain ⟨x0, q, rfl⟩ : ∃ (x0 : Fin 1) (q : Fin 256), x = ix2 x0 q := ⟨x 0, x 1, by funext a; fin_cases a <;> rfl⟩
  obtain rfl : x0 = 0 := Subsingleton.elim _ _
  rw [addRows_apply]
  refine congrArg₂ (α := EReal) (β := EReal) (· + ·) (congrArg (β := EReal) acc ?_) (Finset.sum_congr rfl fun r _ => hv r q h1)
  funext b
  fin_cases b
  · exact Fin.ext (h0.trans (by simp)).symm
  · exact Fin.ext (h1.trans (by simp)).symm

theorem inb3 (a : Fin 3) (j : Fin 4) : ∀ b, (![a.val, 256 * j.val] : Fin 2 → ℕ) b + (![1, 256] : Fin 2 → ℕ) b ≤ (![3, 1024] : Fin 2 → ℕ) b := by
  intro b; fin_cases b <;> (simp; try omega)

theorem tap_of (a : Fin 3) (v : FVec Ideal S512x256 .f32)
    (hv : ∀ (r : Fin 512) (q : Fin 256), v (ix2 r q)
      = (dconv (m ((c : Thread nD τ).loc main_arg0)) (m ((c : Thread nD τ).loc main_arg1)) (ch j q) ⟨512 * tile t + r, by omega⟩
        * dn (2 - a.val) (gated (m ((c : Thread nD τ).loc main_arg0)) (ch j q)) ⟨512 * tile t + r, by omega⟩ : EReal))
    (h) (h0 : (y 0).val = a.val + (x 0).val) (x0 : (x 0).val < 1) (h1 : (y 1).val = 256 * j + (x 1).val) :
    addRows (ldRow acc a.val (256 * j) h) v x = (acc y + part (tapG m c y) t : EReal) := by
  refine addRows_at t acc a.val (256 * j) h v x y _ h0 h1 fun r q e => ?_
  have e0 : (y 0).val = a.val := by omega
  have e1 : y 1 = ch j q := Fin.ext e
  rw [hv, tapG, e0, e1]

theorem tap0 (h) (h0 : (y 0).val = 0 + (x 0).val) (x0 : (x 0).val < 1) (h1 : (y 1).val = 256 * j + (x 1).val) :
    addRows (ldRow acc 0 (256 * j) h) (tap0B m c t j) x = (acc y + part (tapG m c y) t : EReal) :=
  tap_of m c t j y x acc 0 _ (fun r q => congrArg₂ (α := EReal) (β := EReal) (· * ·) (dconvB_apply m c t j r q) ((aboveB_is m c t j).shift2 r q))
    h h0 x0 h1

theorem tap1 (h) (h0 : (y 0).val = 1 + (x 0).val) (x0 : (x 0).val < 1) (h1 : (y 1).val = 256 * j + (x 1).val) :
    addRows (ldRow acc 1 (256 * j) h) (tap1B m c t j) x = (acc y + part (tapG m c y) t : EReal) :=
  tap_of m c t j y x acc 1 _ (fun r q => congrArg₂ (α := EReal) (β := EReal) (· * ·) (dconvB_apply m c t j r q) ((aboveB_is m c t j).shift1 r q))
    h h0 x0 h1

theorem tap2 (h) (h0 : (y 0).val = 2 + (x 0).val) (x0 : (x 0).val < 1) (h1 : (y 1).val = 256 * j + (x 1).val) :
    addRows (ldRow acc 2 (256 * j) h) (tap2B m c t j) x = (acc y + part (tapG m c y) t : EReal) := by
  refine tap_of m c t j y x acc 2 _ (fun r q => congrArg₂ (α := EReal) (β := EReal) (· * ·) (dconvB_apply m c t j r q)
    (Eq.trans ?_ (dn_zero _ _).symm)) h h0 x0 h1
  refine (congrArg₂ (α := EReal) (β := EReal) (· * ·) (cur0 m c t (1024 + 256 * j) _ r q (by omega))
    (cur0 m c t (2048 + 256 * j) _ r q (by omega))).trans ?_
  simp only [ch, gated, Nat.add_assoc]
end taps

theorem zero9 (y : S3x1024.Idx) : (k0_pay2 (F := Ideal) y : EReal) = 0 := by
  pointwise [k0_pay2]

theorem point9A (c : Dev nD) (t : Fin cfg0.N) (y : S3x1024.Idx) (h8 : t.val % 8 = 0) :
    (outsAt0 m c t.val t.isLt).2.1 y = 0 + part (tapG m c y) t := by
  rw [outsAt0_A m c t h8]
  frame_out
  simp (disch := decide) only [↓ View.readCov_skip, ↓ View.readCov_cons_toLoadRect, ↓ View.readCov_fill]
  rw [canon_dropLast y _ (View.cover_of_tiled_head _ _ _ (by rfl) y)]
  simp only [List.dropLast]
  canon_tiles x h
  case piece0 => exact (tap2 m c t 3 y x (k0_pay2 (F := Ideal)) (inb3 2 3) (by dsimp only; omega) x0_lt (by dsimp only; omega)).trans (congrArg (α := EReal) (· + part (tapG m c y) t) (zero9 y))
  case piece1 => exact (tap1 m c t 3 y x (k0_pay2 (F := Ideal)) (inb3 1 3) (by dsimp only; omega) x0_lt (by dsimp only; omega)).trans (congrArg (α := EReal) (· + part (tapG m c y) t) (zero9 y))
  case piece2 => exact (tap0 m c t 3 y x (k0_pay2 (F := Ideal)) (inb3 0 3) (by dsimp only; omega) x0_lt (by dsimp only; omega)).trans (congrArg (α := EReal) (· + part (tapG m c y) t) (zero9 y))
  case piece3 => exact (tap2 m c t 2 y x (k0_pay2 (F := Ideal)) (inb3 2 2) (by dsimp only; omega) x0_lt (by dsimp only; omega)).trans (congrArg (α := EReal) (· + part (tapG m c y) t) (zero9 y))
  case piece4 => exact (tap1 m c t 2 y x (k0_pay2 (F := Ideal)) (inb3 1 2) (by dsimp only; omega) x0_lt (by dsimp only; omega)).trans (congrArg (α := EReal) (· + part (tapG m c y) t) (zero9 y))
  case piece5 => exact (tap0 m c t 2 y x (k0_pay2 (F := Ideal)) (inb3 0 2) (by dsimp only; omega) x0_lt (by dsimp only; omega)).trans (congrArg (α := EReal) (· + part (tapG m c y) t) (zero9 y))
  case piece6 => exact (tap2 m c t 1 y x (k0_pay2 (F := Ideal)) (inb3 2 1) (by dsimp only; omega) x0_lt (by dsimp only; omega)).trans (congrArg (α := EReal) (· + part (tapG m c y) t) (zero9 y))
  case piece7 => exact (tap1 m c t 1 y x (k0_pay2 (F := Ideal)) (inb3 1 1) (by dsimp only; omega) x0_lt (by dsimp only; omega)).trans (congrArg (α := EReal) (· + part (tapG m c y) t) (zero9 y))
  case piece8 => exact (tap0 m c t 1 y x (k0_pay2 (F := Ideal)) (inb3 0 1) (by dsimp only; omega) x0_lt (by dsimp only; omega)).trans (congrArg (α := EReal) (· + part (tapG m c y) t) (zero9 y))
  case piece9 => exact (tap2 m c t 0 y x (k0_pay2 (F := Ideal)) (inb3 2 0) (by dsimp only; omega) x0_lt (by dsimp only; omega)).trans (congrArg (α := EReal) (· + part (tapG m c y) t) (zero9 y))
  case piece10 => exact (tap1 m c t 0 y x (k0_pay2 (F := Ideal)) (inb3 1 0) (by dsimp only; omega) x0_lt (by dsimp only; omega)).trans (congrArg (α := EReal) (· + part (tapG m c y) t) (zero9 y))
  case piece11 => exact (tap0 m c t 0 y x (k0_pay2 (F := Ideal)) (inb3 0 0) (by dsimp only; omega) x0_lt (by dsimp only; omega)).trans (congrArg (α := EReal) (· + part (tapG m c y) t) (zero9 y))

theorem point9B (c : Dev nD) (t : Fin cfg0.N) (y : S3x1024.Idx) (h8 : ¬ t.val % 8 = 0) :
    (outsAt0 m c t.val t.isLt).2.1 y = (outsAt0 m c (t.val - 1) (Nat.lt_of_le_of_lt (Nat.sub_le _ _) t.isLt)).2.1 y
      + part (tapG m c y) t := by
  rw [outsAt0_B m c t h8]
  frame_out
  canon_tiles x h
  case piece0 => exact tap2 m c t 3 y x (outsAt0 m c (t.val - 1) (Nat.lt_of_le_of_lt (Nat.sub_le _ _) t.isLt)).2.1 (inb3 2 3) (by dsimp only; omega) x0_lt (by dsimp only; omega)
  case piece1 => exact tap1 m c t 3 y x (outsAt0 m c (t.val - 1) (Nat.lt_of_le_of_lt (Nat.sub_le _ _) t.isLt)).2.1 (inb3 1 3) (by dsimp only; omega) x0_lt (by dsimp only; omega)
  case piece2 => exact tap0 m c t 3 y x (outsAt0 m c (t.val - 1) (Nat.lt_of_le_of_lt (Nat.sub_le _ _) t.isLt)).2.1 (inb3 0 3) (by dsimp only; omega) x0_lt (by dsimp only; omega)
  case piece3 => exact tap2 m c t 2 y x (outsAt0 m c (t.val - 1) (Nat.lt_of_le_of_lt (Nat.sub_le _ _) t.isLt)).2.1 (inb3 2 2) (by dsimp only; omega) x0_lt (by dsimp only; omega)
  case piece4 => exact tap1 m c t 2 y x (outsAt0 m c (t.val - 1) (Nat.lt_of_le_of_lt (Nat.sub_le _ _) t.isLt)).2.1 (inb3 1 2) (by dsimp only; omega) x0_lt (by dsimp only; omega)
  case piece5 => exact tap0 m c t 2 y x (outsAt0 m c (t.val - 1) (Nat.lt_of_le_of_lt (Nat.sub_le _ _) t.isLt)).2.1 (inb3 0 2) (by dsimp only; omega) x0_lt (by dsimp only; omega)
  case piece6 => exact tap2 m c t 1 y x (outsAt0 m c (t.val - 1) (Nat.lt_of_le_of_lt (Nat.sub_le _ _) t.isLt)).2.1 (inb3 2 1) (by dsimp only; omega) x0_lt (by dsimp only; omega)
  case piece7 => exact tap1 m c t 1 y x (outsAt0 m c (t.val - 1) (Nat.lt_of_le_of_lt (Nat.sub_le _ _) t.isLt)).2.1 (inb3 1 1) (by dsimp only; omega) x0_lt (by dsimp only; omega)
  case piece8 => exact tap0 m c t 1 y x (outsAt0 m c (t.val - 1) (Nat.lt_of_le_of_lt (Nat.sub_le _ _) t.isLt)).2.1 (inb3 0 1) (by dsimp only; omega) x0_lt (by dsimp only; omega)
  case piece9 => exact tap2 m c t 0 y x (outsAt0 m c (t.val - 1) (Nat.lt_of_le_of_lt (Nat.sub_le _ _) t.isLt)).2.1 (inb3 2 0) (by dsimp only; omega) x0_lt (by dsimp only; omega)
  case piece10 => exact tap1 m c t 0 y x (outsAt0 m c (t.val - 1) (Nat.lt_of_le_of_lt (Nat.sub_le _ _) t.isLt)).2.1 (inb3 1 0) (by dsimp only; omega) x0_lt (by dsimp only; omega)
  case piece11 => exact tap0 m c t 0 y x (outsAt0 m c (t.val - 1) (Nat.lt_of_le_of_lt (Nat.sub_le _ _) t.isLt)).2.1 (inb3 0 0) (by dsimp only; omega) x0_lt (by dsimp only; omega)

theorem final9 (c : Dev nD) : (dats m 0 c).arrAt 9 (cfgs 0).N
    = gradConv (m ((c : Thread nD τ).loc main_arg0)) (m ((c : Thread nD τ).loc main_arg1)) := by
  refine (dats m 0 c).arrAt_eq_of_after_last 9 t0_7 (by decide +kernel) _ fun j => ?_
  blk_simp
  rw [after0_9, Pipeline.eq_sum_fin_of_reset_step_apply_last (fun n h => (outsAt0 m c n h).2.1) 8 (fun _ => (0 : EReal))
    (fun t y => part (tapG m c y) t) (fun t h y => point9A m c t y h) (fun t h y => point9B m c t y h) (le_of_eq N_0) t0_7 rfl j,
    zero_add, sum_part]
  rfl

/-! ## The pooling weights -/

section pool
variable (c : Dev nD) (t : Fin cfg0.N) (g : Fin 4) (r : Fin 512) (k q : Fin 256)

theorem difB_apply : difB m c t g (ix2 r k) = dif (m ((c : Thread nD τ).loc main_arg0)) (win g) g k ⟨512 * tile t + r, by omega⟩ :=
  difT_apply g (tile t) (first t) _ _ _ _ (first_eq t) (by rw [cntB, coord]) (cur0 m c t _ _) (prev0 m c t _ _) r k

theorem dzB_apply : dzB m c t g (ix2 r q)
    = dz (m ((c : Thread nD τ).loc main_arg1)) (m ((c : Thread nD τ).loc main_arg4)) g q ⟨512 * tile t + r, by omega⟩ :=
  dzT_is g (tile t) _ _ _ _ (cur1 m c t _ _) (scale m c t g _) r q

/-- The load of one group of an accumulator of the weights' shape. -/
abbrev ldGroup (acc : FVec Ideal S4x256x256 .f32)
    (h : ∀ b, (![g.val, 0, 0] : Fin 3 → ℕ) b + (![1, 256, 256] : Fin 3 → ℕ) b ≤ (![4, 256, 256] : Fin 3 → ℕ) b) : FVec Ideal S1x256x256 .f32 :=
  View.ld (Val := Elt Ideal) (e' := .f32) acc (Rect.unit (s := S4x256x256) ![g.val, 0, 0] ![1, 256, 256] h)

theorem inb4 (g : Fin 4) : ∀ b, (![g.val, 0, 0] : Fin 3 → ℕ) b + (![1, 256, 256] : Fin 3 → ℕ) b ≤ (![4, 256, 256] : Fin 3 → ℕ) b := by
  intro b; fin_cases b <;> (simp; try omega)

/-- The term of the gradient of a weight at a position. -/
abbrev weightG (y : S4x256x256.Idx) (l : Fin 4096) : EReal :=
  dif (m ((c : Thread nD τ).loc main_arg0)) (win (y 0)) (y 0) (y 1) l
    * dz (m ((c : Thread nD τ).loc main_arg1)) (m ((c : Thread nD τ).loc main_arg4)) (y 0) (y 2) l

theorem weight_at (y : S4x256x256.Idx) (x : S1x256x256.Idx) (acc : FVec Ideal S4x256x256 .f32) (h)
    (h0 : (y 0).val = g.val + (x 0).val) (h1 : (y 1).val = (x 1).val) (h2 : (y 2).val = (x 2).val) :
    dpwT (ldGroup g acc h) (difB m c t g) (dzB m c t g) x = (acc y + part (weightG m c y) t : EReal) := by
  obtain ⟨x0, k, q, rfl⟩ : ∃ (x0 : Fin 1) (k q : Fin 256), x = ix3 x0 k q := ⟨x 0, x 1, x 2, by funext a; fin_cases a <;> rfl⟩
  obtain rfl : x0 = 0 := Subsingleton.elim _ _
  have e0 : y 0 = g := Fin.ext (h0.trans (by simp))
  have e1 : y 1 = k := Fin.ext h1
  have e2 : y 2 = q := Fin.ext h2
  rw [dpwT_apply]
  refine congrArg₂ (α := EReal) (β := EReal) (· + ·) (congrArg (β := EReal) acc ?_) (Finset.sum_congr rfl fun r _ => ?_)
  · funext b
    fin_cases b
    · exact Fin.ext (h0.trans (by simp)).symm
    · exact Fin.ext (h1.trans (by simp)).symm
    · exact Fin.ext (h2.trans (by simp)).symm
  · rw [weightG, e0, e1, e2]
    exact congrArg₂ (α := EReal) (β := EReal) (· * ·) (difB_apply m c t g r k) (dzB_apply m c t g r q)

/-! ## The scales -/

abbrev scaleB : FVec Ideal S512x256 .f32 := mulf (wide (L3 m c t (1024 + 256 * g) (by omega))) (zT (L6 m c t g) (difB m c t g))

/-- The term of the gradient of a scale at a position. -/
abbrev scaleG (g : Fin 4) (e : Fin 256) (l : Fin 4096) : EReal :=
  (show EReal from m ((c : Thread nD τ).loc main_arg1) (ix2 l ⟨1024 + (256 * g + e), by omega⟩))
    * ∑ k : Fin 256, dif (m ((c : Thread nD τ).loc main_arg0)) (win g) g k l * m ((c : Thread nD τ).loc main_arg3) (ix3 g k e)

abbrev scaleGy (y : S1x1024.Idx) : Fin 4096 → EReal :=
  have h : (y 1).val < 1024 := (y 1).isLt
  scaleG m c ⟨(y 1).val / 256, by omega⟩ ⟨(y 1).val % 256, Nat.mod_lt _ (by norm_num)⟩

theorem scaleB_apply : scaleB m c t g (ix2 r q) = scaleG m c g q ⟨512 * tile t + r, by omega⟩ := by
  show (L3 m c t (1024 + 256 * g) (by omega) (ix2 r q) * zT (L6 m c t g) (difB m c t g) (ix2 r q) : EReal) = _
  rw [zT_apply]
  refine congrArg₂ (α := EReal) (β := EReal) (· * ·) ((cur1 m c t (1024 + 256 * g) _ r q (by omega)).trans ?_)
    (Finset.sum_congr rfl fun k _ => congrArg₂ (α := EReal) (β := EReal) (· * ·) (difB_apply m c t g r k) (weight m c t g _ k q))
  simp only [Nat.add_assoc]

theorem inb1 (g : Fin 4) : ∀ b, (![0, 256 * g.val] : Fin 2 → ℕ) b + (![1, 256] : Fin 2 → ℕ) b ≤ (![1, 1024] : Fin 2 → ℕ) b := by
  intro b; fin_cases b <;> (simp; try omega)

theorem scale_at (y : S1x1024.Idx) (x : S1x256.Idx) (acc : FVec Ideal S1x1024 .f32) (h)
    (h0 : (y 0).val = 0 + (x 0).val) (h1 : (y 1).val = 256 * g + (x 1).val) :
    addRows (ldRow acc 0 (256 * g) h) (scaleB m c t g) x = (acc y + part (scaleGy m c y) t : EReal) := by
  refine addRows_at t acc 0 (256 * g) h _ x y _ h0 h1 fun r q e => ?_
  rw [scaleB_apply]
  have e1 : (y 1).val / 256 = g.val := by omega
  have e2 : (y 1).val % 256 = q.val := by omega
  simp only [scaleGy, e1, e2]
end pool

theorem zero10 (y : S4x256x256.Idx) : (k0_pay3 (F := Ideal) y : EReal) = 0 := by
  pointwise [k0_pay3]

theorem zero11 (y : S1x1024.Idx) : (k0_pay4 (F := Ideal) y : EReal) = 0 := by
  pointwise [k0_pay4]

theorem point10A (c : Dev nD) (t : Fin cfg0.N) (y : S4x256x256.Idx) (h8 : t.val % 8 = 0) :
    (outsAt0 m c t.val t.isLt).2.2.1 y = 0 + part (weightG m c y) t := by
  rw [outsAt0_A m c t h8]
  frame_out
  simp (disch := decide) only [↓ View.readCov_skip, ↓ View.readCov_cons_toLoadRect, ↓ View.readCov_fill]
  rw [canon_dropLast y _ (View.cover_of_tiled_head _ _ _ (by rfl) y)]
  simp only [List.dropLast]
  canon_tiles x h
  case piece0 => exact (weight_at m c t 3 y x (k0_pay3 (F := Ideal)) (inb4 3) (by dsimp only; omega) h1 h2).trans (congrArg (α := EReal) (· + part (weightG m c y) t) (zero10 y))
  case piece1 => exact (weight_at m c t 2 y x (k0_pay3 (F := Ideal)) (inb4 2) (by dsimp only; omega) h1 h2).trans (congrArg (α := EReal) (· + part (weightG m c y) t) (zero10 y))
  case piece2 => exact (weight_at m c t 1 y x (k0_pay3 (F := Ideal)) (inb4 1) (by dsimp only; omega) h1 h2).trans (congrArg (α := EReal) (· + part (weightG m c y) t) (zero10 y))
  case piece3 => exact (weight_at m c t 0 y x (k0_pay3 (F := Ideal)) (inb4 0) (by dsimp only; omega) h1 h2).trans (congrArg (α := EReal) (· + part (weightG m c y) t) (zero10 y))

theorem point10B (c : Dev nD) (t : Fin cfg0.N) (y : S4x256x256.Idx) (h8 : ¬ t.val % 8 = 0) :
    (outsAt0 m c t.val t.isLt).2.2.1 y = (outsAt0 m c (t.val - 1) (Nat.lt_of_le_of_lt (Nat.sub_le _ _) t.isLt)).2.2.1 y
      + part (weightG m c y) t := by
  rw [outsAt0_B m c t h8]
  frame_out
  canon_tiles x h
  case piece0 => exact weight_at m c t 3 y x (outsAt0 m c (t.val - 1) (Nat.lt_of_le_of_lt (Nat.sub_le _ _) t.isLt)).2.2.1 (inb4 3) (by dsimp only; omega) h1 h2
  case piece1 => exact weight_at m c t 2 y x (outsAt0 m c (t.val - 1) (Nat.lt_of_le_of_lt (Nat.sub_le _ _) t.isLt)).2.2.1 (inb4 2) (by dsimp only; omega) h1 h2
  case piece2 => exact weight_at m c t 1 y x (outsAt0 m c (t.val - 1) (Nat.lt_of_le_of_lt (Nat.sub_le _ _) t.isLt)).2.2.1 (inb4 1) (by dsimp only; omega) h1 h2
  case piece3 => exact weight_at m c t 0 y x (outsAt0 m c (t.val - 1) (Nat.lt_of_le_of_lt (Nat.sub_le _ _) t.isLt)).2.2.1 (inb4 0) (by dsimp only; omega) h1 h2

theorem point11A (c : Dev nD) (t : Fin cfg0.N) (y : S1x1024.Idx) (h8 : t.val % 8 = 0) :
    (outsAt0 m c t.val t.isLt).2.2.2 y = 0 + part (scaleGy m c y) t := by
  rw [outsAt0_A m c t h8]
  frame_out
  simp (disch := decide) only [↓ View.readCov_skip, ↓ View.readCov_cons_toLoadRect, ↓ View.readCov_fill]
  rw [canon_dropLast y _ (View.cover_of_tiled_head _ _ _ (by rfl) y)]
  simp only [List.dropLast]
  canon_tiles x h
  case piece0 => exact (scale_at m c t 3 y x (k0_pay4 (F := Ideal)) (inb1 3) (by dsimp only; omega) (by dsimp only; omega)).trans (congrArg (α := EReal) (· + part (scaleGy m c y) t) (zero11 y))
  case piece1 => exact (scale_at m c t 2 y x (k0_pay4 (F := Ideal)) (inb1 2) (by dsimp only; omega) (by dsimp only; omega)).trans (congrArg (α := EReal) (· + part (scaleGy m c y) t) (zero11 y))
  case piece2 => exact (scale_at m c t 1 y x (k0_pay4 (F := Ideal)) (inb1 1) (by dsimp only; omega) (by dsimp only; omega)).trans (congrArg (α := EReal) (· + part (scaleGy m c y) t) (zero11 y))
  case piece3 => exact (scale_at m c t 0 y x (k0_pay4 (F := Ideal)) (inb1 0) (by dsimp only; omega) (by dsimp only; omega)).trans (congrArg (α := EReal) (· + part (scaleGy m c y) t) (zero11 y))

theorem point11B (c : Dev nD) (t : Fin cfg0.N) (y : S1x1024.Idx) (h8 : ¬ t.val % 8 = 0) :
    (outsAt0 m c t.val t.isLt).2.2.2 y = (outsAt0 m c (t.val - 1) (Nat.lt_of_le_of_lt (Nat.sub_le _ _) t.isLt)).2.2.2 y
      + part (scaleGy m c y) t := by
  rw [outsAt0_B m c t h8]
  frame_out
  canon_tiles x h
  case piece0 => exact scale_at m c t 3 y x (outsAt0 m c (t.val - 1) (Nat.lt_of_le_of_lt (Nat.sub_le _ _) t.isLt)).2.2.2 (inb1 3) (by dsimp only; omega) (by dsimp only; omega)
  case piece1 => exact scale_at m c t 2 y x (outsAt0 m c (t.val - 1) (Nat.lt_of_le_of_lt (Nat.sub_le _ _) t.isLt)).2.2.2 (inb1 2) (by dsimp only; omega) (by dsimp only; omega)
  case piece2 => exact scale_at m c t 1 y x (outsAt0 m c (t.val - 1) (Nat.lt_of_le_of_lt (Nat.sub_le _ _) t.isLt)).2.2.2 (inb1 1) (by dsimp only; omega) (by dsimp only; omega)
  case piece3 => exact scale_at m c t 0 y x (outsAt0 m c (t.val - 1) (Nat.lt_of_le_of_lt (Nat.sub_le _ _) t.isLt)).2.2.2 (inb1 0) (by dsimp only; omega) (by dsimp only; omega)

theorem final10 (c : Dev nD) : (dats m 0 c).arrAt 10 (cfgs 0).N
    = gradPool (m ((c : Thread nD τ).loc main_arg0)) (m ((c : Thread nD τ).loc main_arg1)) (m ((c : Thread nD τ).loc main_arg4)) := by
  refine (dats m 0 c).arrAt_eq_of_after_last 10 t0_7 (by decide +kernel) _ fun j => ?_
  blk_simp
  rw [after0_10, Pipeline.eq_sum_fin_of_reset_step_apply_last (fun n h => (outsAt0 m c n h).2.2.1) 8 (fun _ => (0 : EReal))
    (fun t y => part (weightG m c y) t) (fun t h y => point10A m c t y h) (fun t h y => point10B m c t y h) (le_of_eq N_0) t0_7 rfl j,
    zero_add, sum_part]
  rfl

theorem final11 (c : Dev nD) : (dats m 0 c).arrAt 11 (cfgs 0).N
    = fun y => gradScale (m ((c : Thread nD τ).loc main_arg0)) (m ((c : Thread nD τ).loc main_arg1)) (m ((c : Thread nD τ).loc main_arg3)) (ix1 (y 1)) := by
  refine (dats m 0 c).arrAt_eq_of_after_last 11 t0_7 (by decide +kernel) _ fun j => ?_
  blk_simp
  rw [after0_11, Pipeline.eq_sum_fin_of_reset_step_apply_last (fun n h => (outsAt0 m c n h).2.2.2) 8 (fun _ => (0 : EReal))
    (fun t y => part (scaleGy m c y) t) (fun t h y => point11A m c t y h) (fun t h y => point11B m c t y h) (le_of_eq N_0) t0_7 rfl j,
    zero_add, sum_part]
  rfl

end Cert.MixerBwdIdeal.Final
-- ==== Proof.Val.MixerWin.lean ====
/-
  Running sums and the window sums they make, over the extended reals: a difference of two running sums is the sum over the
  window between them where the terms are finite.
-/
module

public import proofs.«01_k».proof.Proof.Val.MixerForm
public import proofs.«01_k».proof.Proof.Val.Finite

@[expose] public section

set_option maxRecDepth 16384

noncomputable section

open Idealize.ShloMosaic Idealize.ShloMosaic.TcCoe Idealize.SL.Sem

namespace Cert.MixerForm

open Cert.Finite

/-- The running sum from the start of the sequence, and from its end. -/
def pre (u : Fin 4096 → EReal) (t : Fin 4096) : EReal := ∑ a ∈ Finset.range 4096, dn a u t
def suf (u : Fin 4096 → EReal) (t : Fin 4096) : EReal := ∑ a ∈ Finset.range 4096, up a u t

theorem dn_big {a : ℕ} (h : 4096 ≤ a) (u : Fin 4096 → EReal) (t : Fin 4096) : dn a u t = 0 := by
  rw [dn, dif_neg (by omega)]

theorem up_big {a : ℕ} (h : 4096 ≤ a) (u : Fin 4096 → EReal) (t : Fin 4096) : up a u t = 0 := by
  rw [up, dif_neg (by omega)]

theorem dn_dn (a w : ℕ) (u : Fin 4096 → EReal) (t : Fin 4096) : dn w (dn a u) t = dn (w + a) u t := by
  unfold dn
  by_cases h : w ≤ t.val
  · rw [dif_pos h]
    by_cases h' : w + a ≤ t.val
    · rw [dif_pos (by dsimp only; omega), dif_pos h']
      congr 1; ext; dsimp only; omega
    · rw [dif_neg (by dsimp only; omega), dif_neg h']
  · rw [dif_neg h, dif_neg (by omega)]

theorem up_up (a w : ℕ) (u : Fin 4096 → EReal) (t : Fin 4096) : up a (up w u) t = up (w + a) u t := by
  unfold up
  by_cases h : t.val + a < 4096
  · rw [dif_pos h]
    by_cases h' : t.val + (w + a) < 4096
    · rw [dif_pos (by dsimp only; omega), dif_pos h']
      congr 1; ext; dsimp only; omega
    · rw [dif_neg (by dsimp only; omega), dif_neg h']
  · rw [dif_neg h, dif_neg (by omega)]

theorem dn_real {u : Fin 4096 → EReal} (h : ∀ t, Real? (u t)) (a : ℕ) (t : Fin 4096) : Real? (dn a u t) := by
  unfold dn; split
  · exact h _
  · exact Real?.zero

theorem up_real {u : Fin 4096 → EReal} (h : ∀ t, Real? (u t)) (a : ℕ) (t : Fin 4096) : Real? (up a u t) := by
  unfold up; split
  · exact h _
  · exact Real?.zero

/-- All terms of a sequence that is zero from 4096 on are its first `w` and the 4096 after them. -/
theorem sum_split (w : ℕ) {F : ℕ → EReal} (h : ∀ a, 4096 ≤ a → F a = 0) :
    ∑ a ∈ Finset.range 4096, F a = ∑ a ∈ Finset.range w, F a + ∑ a ∈ Finset.range 4096, F (w + a) := by
  rw [← Finset.sum_range_add]
  refine Finset.sum_subset (fun a ha => ?_) (fun a _ ha => h a ?_)
  · simp only [Finset.mem_range] at ha ⊢; omega
  · simp only [Finset.mem_range] at ha; omega

theorem dn_pre (w : ℕ) (u : Fin 4096 → EReal) (t : Fin 4096) : dn w (pre u) t = ∑ a ∈ Finset.range 4096, dn (w + a) u t := by
  by_cases h : w ≤ t.val
  · rw [dn, dif_pos h, pre]
    refine Finset.sum_congr rfl fun a _ => ?_
    rw [← dn_dn a w, dn.eq_1 w, dif_pos h]
  · rw [dn, dif_neg h, Finset.sum_eq_zero fun a _ => ?_]
    rw [dn, dif_neg (by omega)]

/-- The running sum less the running sum `w` places before is the sum of the last `w` terms. -/
theorem pre_sub {u : Fin 4096 → EReal} (h : ∀ t, Real? (u t)) (w : ℕ) (t : Fin 4096) :
    pre u t - dn w (pre u) t = ∑ s ∈ Finset.range w, dn s u t := by
  rw [dn_pre, pre, sum_split w fun a ha => dn_big ha u t]
  exact add_sub_self (Real?.sum _ fun a _ => dn_real h _ t)

/-- The running sum from the end, of a sequence less itself `w` places later, is the sum of the next `w` terms. -/
theorem suf_sub {q : Fin 4096 → EReal} (h : ∀ t, Real? (q t)) (w : ℕ) (t : Fin 4096) :
    suf (fun t => q t + -up w q t) t = ∑ s ∈ Finset.range w, up s q t := by
  have e (a : ℕ) : up a (fun t => q t + -up w q t) t = up a q t + -up (w + a) q t := by
    rw [← up_up]
    unfold up
    split
    · rfl
    · simp
  rw [suf, Finset.sum_congr rfl fun a _ => e a, Finset.sum_add_distrib, neg_sum _ fun a _ => up_real h _ t,
    sum_split w fun a ha => up_big ha q t, ← sub_eq_add_neg]
  exact add_sub_self (Real?.sum _ fun a _ => up_real h _ t)

/-- The count as the host takes it: the smaller of the position's number and the window. -/
theorem cnt_min (w : ℕ) (t : Fin 4096) {one W : EReal} (h1 : one = 1) (hW : W = (w : ℕ)) :
    min (FloatOps.sitofp (F := Ideal) .f32 (BitVec.ofNat 32 t.val) + one) W = cnt w t := by
  rw [sitofp_small _ (by omega), h1, hW, cnt, (Nat.mono_cast (α := EReal)).map_min]
  norm_cast

theorem cnt_coe (w : ℕ) (hw : 0 < w) (t : Fin 4096) : ∃ c : ℝ, c ≠ 0 ∧ cnt w t = c := by
  refine ⟨((min (t.val + 1) w : ℕ) : ℝ), ?_, ?_⟩
  · have : min (t.val + 1) w ≠ 0 := by omega
    exact_mod_cast this
  · rw [cnt]; norm_cast

theorem div_cnt_real {x : EReal} (hx : Real? x) {w : ℕ} (hw : 0 < w) (t : Fin 4096) : Real? (Ideal.div x (cnt w t)) := by
  obtain ⟨c, hc, e⟩ := cnt_coe w hw t
  rw [e]
  exact hx.div hc

/-- The trailing mean, as a quotient of a difference of running sums. -/
theorem mean_of {u : Fin 4096 → EReal} (hu : ∀ t, Real? (u t)) (w : ℕ) (t : Fin 4096) {one W zero : EReal} (h1 : one = 1) (hW : W = (w : ℕ))
    (hz : zero = 0) {C : Fin 4096 → EReal} (hC : ∀ t, C t = pre u t) (b : ¬ t.val < w → t.val - w < 4096) :
    Ideal.div (C t - if h : t.val < w then zero else C ⟨t.val - w, b h⟩) (min (FloatOps.sitofp (F := Ideal) .f32 (BitVec.ofNat 32 t.val) + one) W)
      = Ideal.div (∑ s ∈ Finset.range w, dn s u t) (cnt w t) := by
  rw [cnt_min w t h1 hW, ← pre_sub hu, hC, hz]
  congr 2
  unfold dn
  by_cases h : t.val < w
  · rw [dif_pos h, dif_neg (by omega)]
  · rw [dif_neg h, dif_pos (by omega), hC]

/-- A sequence less itself `w` places later, as the sum of it and its negative shifted by a slice and a pad. -/
theorem lag_of {q : Fin 4096 → EReal} (w : ℕ) (t : Fin 4096) {zero : EReal} (hz : zero = 0) {R : Fin 4096 → EReal} (hR : ∀ t, R t = q t)
    (c : Prop) [Decidable c] (hc : c ↔ t.val + w < 4096) (b : c → w + t.val < 4096) :
    (R t + if h : c then -R ⟨w + t.val, b h⟩ else zero) = q t + -up w q t := by
  unfold up
  by_cases h : t.val + w < 4096
  · rw [dif_pos (hc.2 h), dif_pos h, hR, hR]
    simp only [add_comm w]
  · rw [dif_neg fun h' => h (hc.1 h'), dif_neg h, hR, hz, neg_zero]

/-! ## The two windowed sums of the host, read at an index -/

theorem foldl_sum {N : ℕ} (f : Fin N → EReal) (a : EReal) (l : List (Fin N)) :
    l.foldl (fun r n => r + f n) a = a + (l.map f).sum := by
  induction l generalizing a with
  | nil => simp
  | cons n l ih => rw [List.foldl_cons, ih, List.map_cons, List.sum_cons, add_assoc]

abbrev S3 : Shape := ⟨3, ![4096, 4, 256]⟩
abbrev W3 : Shape := ⟨3, ![4096, 1, 1]⟩

/-- A sum over the positions of a window of one column. -/
theorem sum_window (F : W3.Idx → EReal) : ∑ n : Fin W3.numel, F (W3.rowMajor.symm n) = ∑ a : Fin 4096, F (ix3 a 0 0) := by
  rw [Equiv.sum_comp W3.rowMajor.symm F]
  refine (Fintype.sum_equiv ⟨fun a : Fin 4096 => (ix3 a 0 0 : W3.Idx), fun w => w 0, fun a => rfl, fun w => ?_⟩ _ _ fun a => rfl).symm
  funext b
  fin_cases b
  · rfl
  · exact Subsingleton.elim (α := Fin 1) _ _
  · exact Subsingleton.elim (α := Fin 1) _ _

/-- The position a window entry reads, along the first axis and along the two others. -/
theorem window_at (x : S3.Idx → EReal) (lo t : ℕ) (ht : t < 4096) (hlo : lo < 4096) (g : Fin 4) (k : Fin 256) (w : W3.Idx) (p : Fin 3 → ℕ) (l : Fin 3 → ℕ)
    (dec : Decidable (∀ a, l a ≤ p a ∧ p a - l a < S3.size a)) (hl : l = ![lo, 0, 0]) (hp : ∀ a, p a = (![t, g.val, k.val] : Fin 3 → ℕ) a * 1 + (w a).val) :
    @dite EReal (∀ a, l a ≤ p a ∧ p a - l a < S3.size a) dec (fun hin => x fun a => ⟨p a - l a, (hin a).2⟩) (fun _ => 0)
      = if h : lo ≤ t + (w 0).val ∧ t + (w 0).val - lo < 4096 then x (ix3 ⟨t + (w 0).val - lo, h.2⟩ g k) else 0 := by
  subst hl
  have h0 : p 0 = t + (w 0).val := by rw [hp]; simp
  have w1 : (w 1).val = 0 := by have := (w 1).isLt; change (w 1).val < 1 at this; omega
  have w2 : (w 2).val = 0 := by have := (w 2).isLt; change (w 2).val < 1 at this; omega
  have h1 : p 1 = g.val := by rw [hp, w1]; simp
  have h2 : p 2 = k.val := by rw [hp, w2]; simp
  by_cases h : lo ≤ t + (w 0).val ∧ t + (w 0).val - lo < 4096
  · have hin : ∀ a, (![lo, 0, 0] : Fin 3 → ℕ) a ≤ p a ∧ p a - (![lo, 0, 0] : Fin 3 → ℕ) a < S3.size a := by
      intro a
      fin_cases a
      · show lo ≤ p 0 ∧ p 0 - lo < 4096; rw [h0]; exact h
      · show 0 ≤ p 1 ∧ p 1 - 0 < 4; rw [h1]; omega
      · show 0 ≤ p 2 ∧ p 2 - 0 < 256; rw [h2]; omega
    rw [dif_pos hin, dif_pos h]
    congr 1
    funext a
    fin_cases a <;> apply Fin.ext
    · show p 0 - lo = t + (w 0).val - lo; rw [h0]
    · show p 1 - 0 = g.val; rw [h1]; rfl
    · show p 2 - 0 = k.val; rw [h2]; rfl
  · rw [dif_neg h, dif_neg fun hin => h ?_]
    have := hin 0
    rw [h0] at this
    exact this

theorem window_sum (lo hi : Fin 3 → ℕ) (l : ℕ) (hl : lo = ![l, 0, 0]) (l_lt : l < 4096) (x : FVec Ideal S3 .f32) (init : FVec Ideal ⟨0, ![]⟩ .f32) (hi0 : ∀ i, init i = (0 : EReal))
    (h : S3.ReduceWindows (![4096, 1, 1] : Fin 3 → ℕ) ![1, 1, 1] lo hi S3) (hu : 0 < (⟨0, ![]⟩ : Shape).numel)
    (t : Fin 4096) (g : Fin 4) (k : Fin 256) :
    Host.reduceWindowAdd ![4096, 1, 1] ![1, 1, 1] lo hi x init h hu (ix3 t g k)
      = ∑ a : Fin 4096, if h : l ≤ t.val + a.val ∧ t.val + a.val - l < 4096 then x (ix3 ⟨t.val + a.val - l, h.2⟩ g k) else (0 : EReal) := by
  unfold Host.reduceWindowAdd
  rw [Ideal.hostReduceWindowAdd_def, hi0]
  unfold Ideal.hostReduceWindowAdd Host.reduceWindow
  dsimp only
  rw [foldl_sum, zero_add, ← Fin.sum_univ_def]
  refine (Finset.sum_congr rfl fun n _ => ?_).trans
    (sum_window fun w => if h : l ≤ t.val + (w 0).val ∧ t.val + (w 0).val - l < 4096 then x (ix3 ⟨t.val + (w 0).val - l, h.2⟩ g k) else (0 : EReal))
  refine window_at x l t t.isLt l_lt g k (W3.rowMajor.symm n)
    (fun a => (ix3 t g k a).val * (![1, 1, 1] : Fin 3 → ℕ) a + (W3.rowMajor.symm n a).val) lo _ hl fun a => ?_
  fin_cases a <;> rfl

/-- The window that ends at a row: the running sum from the start. -/
theorem window_pre (x : FVec Ideal S3 .f32) (init : FVec Ideal ⟨0, ![]⟩ .f32) (hi0 : ∀ i, init i = (0 : EReal))
    (h : S3.ReduceWindows (![4096, 1, 1] : Fin 3 → ℕ) ![1, 1, 1] ![4095, 0, 0] ![0, 0, 0] S3) (hu : 0 < (⟨0, ![]⟩ : Shape).numel)
    (t : Fin 4096) (g : Fin 4) (k : Fin 256) :
    Host.reduceWindowAdd ![4096, 1, 1] ![1, 1, 1] ![4095, 0, 0] ![0, 0, 0] x init h hu (ix3 t g k)
      = pre (fun t => x (ix3 t g k)) t := by
  rw [window_sum _ _ 4095 rfl (by norm_num) x init hi0, pre, ← Finset.sum_range_reflect,
    ← Fin.sum_univ_eq_sum_range (fun a => dn (4096 - 1 - a) (fun t => x (ix3 t g k)) t) 4096]
  refine Finset.sum_congr rfl fun a _ => ?_
  have := a.isLt
  have := t.isLt
  unfold dn
  by_cases h : 4095 ≤ t.val + a.val
  · rw [dif_pos ⟨h, by omega⟩, dif_pos (by omega)]
    exact congrArg (fun s => x (ix3 s g k)) (Fin.ext (by dsimp only; omega))
  · rw [dif_neg fun h' => h h'.1, dif_neg (by omega)]

/-- The window that starts at a row: the running sum from the end. -/
theorem window_suf (x : FVec Ideal S3 .f32) (init : FVec Ideal ⟨0, ![]⟩ .f32) (hi0 : ∀ i, init i = (0 : EReal))
    (h : S3.ReduceWindows (![4096, 1, 1] : Fin 3 → ℕ) ![1, 1, 1] ![0, 0, 0] ![4095, 0, 0] S3) (hu : 0 < (⟨0, ![]⟩ : Shape).numel)
    (t : Fin 4096) (g : Fin 4) (k : Fin 256) :
    Host.reduceWindowAdd ![4096, 1, 1] ![1, 1, 1] ![0, 0, 0] ![4095, 0, 0] x init h hu (ix3 t g k)
      = suf (fun t => x (ix3 t g k)) t := by
  rw [window_sum _ _ 0 rfl (by norm_num) x init hi0, suf,
    ← Fin.sum_univ_eq_sum_range (fun a => up a (fun t => x (ix3 t g k)) t) 4096]
  refine Finset.sum_congr rfl fun a _ => ?_
  unfold up
  by_cases h : t.val + a.val < 4096
  · rw [dif_pos ⟨by omega, by omega⟩, dif_pos h]
    rfl
  · rw [dif_neg fun h' => h (by omega), dif_neg h]

end Cert.MixerForm
-- ==== Proof.Val.MixerRef.lean ====
/-
  The reference program of the mixer's backward pass: its results, read at an index, are the closed forms of the gradients.
-/
module

public import proofs.«01_k».proof.Proof.Gen.MixerBwdRefIdeal.Read
public import proofs.«01_k».proof.Proof.Val.MixerWin
public import Idealize.ShloMosaic.Lib.Pointwise
public import proofs.«01_k».proof.Defs

@[expose] public section

set_option maxRecDepth 16384

noncomputable section

open Idealize.ShloMosaic Idealize.ShloMosaic.TcCoe Idealize.SL.Sem

namespace Cert.MixerBwdRefIdeal.Final

open Cert.MixerBwdRefIdeal.Read Cert.MixerForm Cert.Finite

variable (P : FVec Ideal ⟨2, ![4096, 4096]⟩ .bf16) (DY : FVec Ideal ⟨2, ![4096, 2048]⟩ .bf16) (CW : FVec Ideal ⟨2, ![3, 1024]⟩ .f32)
  (PW : FVec Ideal ⟨3, ![4, 256, 256]⟩ .f32) (PS : FVec Ideal ⟨1, ![1024]⟩ .f32)

theorem zero_bits : Ideal.ofBits .f32 0x00000000#32 = (0 : EReal) := by
  simp [Ideal.ofBits, Ideal.ieee]

theorem one_bits : Ideal.ofBits .f32 0x3F800000#32 = (1 : EReal) := by
  simp [Ideal.ofBits, Ideal.ieee]; rw [← EReal.coe_mul]; norm_num

theorem two_bits : Ideal.ofBits .f32 0x40000000#32 = ((2 : ℕ) : EReal) := by
  simp [Ideal.ofBits, Ideal.ieee]; rw [← EReal.coe_mul]; norm_num; rfl

theorem four_bits : Ideal.ofBits .f32 0x40800000#32 = ((4 : ℕ) : EReal) := by
  simp [Ideal.ofBits, Ideal.ieee]; rw [← EReal.coe_mul]; norm_num; rfl

theorem eight_bits : Ideal.ofBits .f32 0x41000000#32 = ((8 : ℕ) : EReal) := by
  simp [Ideal.ofBits, Ideal.ieee]; rw [← EReal.coe_mul]; norm_num; rfl

theorem sixteen_bits : Ideal.ofBits .f32 0x41800000#32 = ((16 : ℕ) : EReal) := by
  simp [Ideal.ofBits, Ideal.ieee]; rw [← EReal.coe_mul]; norm_num; rfl

theorem at30 (t : Fin 4096) (g : Fin 4) (k : Fin 256) : (val_main_v30 (F := Ideal) P) (ix3 t g k) = pv P g k t := by
  pointwise [val_main_v30, val_main_v4, val_main_v0, pv]
  exact congrArg (fun i => P (ix2 t i)) (Fin.ext (by dsimp only; omega))

theorem at31 (t : Fin 4096) (g : Fin 4) (k : Fin 256) : (val_main_v31 (F := Ideal) P) (ix3 t g k) = Cert.MixerForm.pre (pv P g k) t := by
  unfold val_main_v31
  rw [window_pre]
  · exact congrArg (fun u => Cert.MixerForm.pre u t) (funext fun t => at30 P t g k)
  · intro i; pointwise [val_main_call0_call0_v0, val_main_call0_call0_cst]

section
variable (hP : ∀ g k t, Real? (pv P g k t))
include hP

theorem at49 (t : Fin 4096) (k : Fin 256) : (val_main_v49 (F := Ideal) P) (ix2 t k) = dif P 2 0 k t := by
  pointwise [val_main_v49, val_main_v48, val_main_v47, val_main_v46, val_main_v45, val_main_v44, val_main_v43, val_main_v42, val_main_v41, val_main_v40, val_main_v39, val_main_v37, val_main_v36, val_main_v35, val_main_v34, val_main_v33, val_main_v32]
  rw [at30]
  refine congrArg (fun x : EReal => x - pv P 0 k t) ?_
  exact mean_of (hP 0 k) 2 t (C := fun t => val_main_v31 (F := Ideal) P (ix3 t 0 k)) one_bits two_bits zero_bits (fun t => at31 P t 0 k) _

theorem at66 (t : Fin 4096) (k : Fin 256) : (val_main_v66 (F := Ideal) P) (ix2 t k) = dif P 4 1 k t := by
  pointwise [val_main_v66, val_main_v65, val_main_v64, val_main_v63, val_main_v62, val_main_v61, val_main_v60, val_main_v59, val_main_v58, val_main_v57, val_main_v56, val_main_v54, val_main_v53, val_main_v52, val_main_v51, val_main_v50, val_main_v32]
  rw [at30]
  refine congrArg (fun x : EReal => x - pv P 1 k t) ?_
  exact mean_of (hP 1 k) 4 t (C := fun t => val_main_v31 (F := Ideal) P (ix3 t 1 k)) one_bits four_bits zero_bits (fun t => at31 P t 1 k) _

theorem at83 (t : Fin 4096) (k : Fin 256) : (val_main_v83 (F := Ideal) P) (ix2 t k) = dif P 8 2 k t := by
  pointwise [val_main_v83, val_main_v82, val_main_v81, val_main_v80, val_main_v79, val_main_v78, val_main_v77, val_main_v76, val_main_v75, val_main_v74, val_main_v73, val_main_v71, val_main_v70, val_main_v69, val_main_v68, val_main_v67, val_main_v32]
  rw [at30]
  refine congrArg (fun x : EReal => x - pv P 2 k t) ?_
  exact mean_of (hP 2 k) 8 t (C := fun t => val_main_v31 (F := Ideal) P (ix3 t 2 k)) one_bits eight_bits zero_bits (fun t => at31 P t 2 k) _

theorem at100 (t : Fin 4096) (k : Fin 256) : (val_main_v100 (F := Ideal) P) (ix2 t k) = dif P 16 3 k t := by
  pointwise [val_main_v100, val_main_v99, val_main_v98, val_main_v97, val_main_v96, val_main_v95, val_main_v94, val_main_v93, val_main_v92, val_main_v91, val_main_v90, val_main_v88, val_main_v87, val_main_v86, val_main_v85, val_main_v84, val_main_v32]
  rw [at30]
  refine congrArg (fun x : EReal => x - pv P 3 k t) ?_
  exact mean_of (hP 3 k) 16 t (C := fun t => val_main_v31 (F := Ideal) P (ix3 t 3 k)) one_bits sixteen_bits zero_bits (fun t => at31 P t 3 k) _

/-- The four groups' differences, stacked. -/
theorem at105 (t : Fin 4096) (g : Fin 4) (k : Fin 256) : (val_main_v105 (F := Ideal) P) (ix3 t g k) = dif P (win g) g k t := by
  fin_cases g
  · pointwise [val_main_v105, val_main_v101]
    exact at49 P hP t k
  · pointwise [val_main_v105, val_main_v102]
    exact at66 P hP t k
  · pointwise [val_main_v105, val_main_v103]
    exact at83 P hP t k
  · pointwise [val_main_v105, val_main_v104]
    exact at100 P hP t k
end

theorem at115 (t : Fin 4096) (q : Fin 1024) : (val_main_v115 (F := Ideal) DY) (ix2 t q) = DY (ix2 t ⟨1024 + q, by omega⟩) := by
  pointwise [val_main_v115, val_main_v113]

theorem at123 (t : Fin 4096) (g : Fin 4) (e : Fin 256) : (val_main_v123 (F := Ideal) DY PS) (ix3 g e t) = dz DY PS g e t := by
  pointwise [val_main_v123, val_main_v122, val_main_v120, val_main_v119, val_main_v109, val_main_v115, val_main_v113, dz]
  simp only [mul_comm 256]

theorem at125 (t : Fin 4096) (g : Fin 4) (k : Fin 256) : (val_main_v125 (F := Ideal) DY PW PS) (ix3 t g k) = ddif DY PW PS g k t := by
  pointwise [val_main_v125, val_main_v124, ddif]
  exact Finset.sum_congr rfl fun e _ => congrArg (fun x : EReal => x * PW (ix3 g k e)) (at123 DY PS t g e)

theorem at127 (hP : ∀ g k t, Real? (pv P g k t)) (g : Fin 4) (k e : Fin 256) : (val_main_v127 (F := Ideal) P DY PS) (ix3 g k e) = gradPool P DY PS (ix3 g k e) := by
  pointwise [val_main_v127, val_main_v126, gradPool]
  refine Finset.sum_congr rfl fun t _ => ?_
  rw [at123, at105 P hP]
  exact mul_comm _ _

theorem at108 (hP : ∀ g k t, Real? (pv P g k t)) (t : Fin 4096) (g : Fin 4) (e : Fin 256) : (val_main_v108 (F := Ideal) P PW) (ix2 t ⟨256 * g + e, by omega⟩) = ∑ k : Fin 256, dif P (win g) g k t * PW (ix3 g k e) := by
  pointwise [val_main_v108, val_main_v107, val_main_v106]
  refine Finset.sum_congr rfl fun k _ => ?_
  rw [at105 P hP]
  exact mul_comm _ _

theorem at238 (hP : ∀ g k t, Real? (pv P g k t)) (q : Fin 1024) : (val_main_v238 (F := Ideal) P DY PW) (ix2 0 q) = gradScale P DY PW (ix1 q) := by
  pointwise [val_main_v238, val_main_v121, val_main_v118, val_main_v117, val_main_v116, gradScale, val_main_v115, val_main_v113, val_main_cst_17, val_main_cst_18]
  obtain ⟨g, e, rfl⟩ : ∃ (g : Fin 4) (e : Fin 256), q = ⟨256 * g + e, by omega⟩ :=
    ⟨⟨q.val / 256, by omega⟩, ⟨q.val % 256, Nat.mod_lt _ (by norm_num)⟩, Fin.ext (by dsimp only; omega)⟩
  rw [show (⟨(256 * g.val + e.val) / 256, by omega⟩ : Fin 4) = g from Fin.ext (by dsimp only; omega),
    show (⟨(256 * g.val + e.val) % 256, by omega⟩ : Fin 256) = e from Fin.ext (by dsimp only; omega), dscale]
  refine (Fin.sum_univ_one _).trans (Finset.sum_congr rfl fun t _ => ?_)
  rw [at108 P PW hP]
  exact mul_comm _ _

theorem at129 (t : Fin 4096) (k : Fin 256) : (val_main_v129 (F := Ideal) DY PW PS) (ix2 t k) = ddif DY PW PS 0 k t := by
  pointwise [val_main_v129, val_main_v128]
  exact at125 DY PW PS t 0 k

theorem at131 (t : Fin 4096) (k : Fin 256) : (val_main_v131 (F := Ideal) DY PW PS) (ix2 t k) = ddif DY PW PS 1 k t := by
  pointwise [val_main_v131, val_main_v130]
  exact at125 DY PW PS t 1 k

theorem at133 (t : Fin 4096) (k : Fin 256) : (val_main_v133 (F := Ideal) DY PW PS) (ix2 t k) = ddif DY PW PS 2 k t := by
  pointwise [val_main_v133, val_main_v132]
  exact at125 DY PW PS t 2 k

theorem at135 (t : Fin 4096) (k : Fin 256) : (val_main_v135 (F := Ideal) DY PW PS) (ix2 t k) = ddif DY PW PS 3 k t := by
  pointwise [val_main_v135, val_main_v134]
  exact at125 DY PW PS t 3 k

/-- The cotangent of a group's window sum: the cotangent of the difference over the count. -/
abbrev quo (w : ℕ) (g : Fin 4) (k : Fin 256) (t : Fin 4096) : EReal := Ideal.div (ddif DY PW PS g k t) (cnt w t)

theorem at181 (t : Fin 4096) (k : Fin 256) : (val_main_v181 (F := Ideal) DY PW PS) (ix2 t k) = quo DY PW PS 2 0 k t := by
  pointwise [val_main_v181, val_main_v180, val_main_v43, val_main_v42, val_main_v41, val_main_v40, val_main_v39, val_main_v32]
  exact congrArg₂ Ideal.div (at129 DY PW PS t k) (cnt_min 2 t one_bits two_bits)

theorem at186 (t : Fin 4096) (k : Fin 256) :
    (val_main_v186 (F := Ideal) DY PW PS) (ix2 t k) = quo DY PW PS 2 0 k t + -up 2 (quo DY PW PS 2 0 k) t := by
  pointwise [val_main_v186, val_main_v185, val_main_v184, val_main_v182]
  exact lag_of (q := quo DY PW PS 2 0 k) 2 t zero_bits (R := fun t => (val_main_v181 (F := Ideal) DY PW PS) (ix2 t k))
    (fun t => at181 DY PW PS t k) _ (by omega) _

theorem at167 (t : Fin 4096) (k : Fin 256) : (val_main_v167 (F := Ideal) DY PW PS) (ix2 t k) = quo DY PW PS 4 1 k t := by
  pointwise [val_main_v167, val_main_v166, val_main_v60, val_main_v59, val_main_v58, val_main_v57, val_main_v56, val_main_v32]
  exact congrArg₂ Ideal.div (at131 DY PW PS t k) (cnt_min 4 t one_bits four_bits)

theorem at172 (t : Fin 4096) (k : Fin 256) :
    (val_main_v172 (F := Ideal) DY PW PS) (ix2 t k) = quo DY PW PS 4 1 k t + -up 4 (quo DY PW PS 4 1 k) t := by
  pointwise [val_main_v172, val_main_v171, val_main_v170, val_main_v168]
  exact lag_of (q := quo DY PW PS 4 1 k) 4 t zero_bits (R := fun t => (val_main_v167 (F := Ideal) DY PW PS) (ix2 t k))
    (fun t => at167 DY PW PS t k) _ (by omega) _

theorem at153 (t : Fin 4096) (k : Fin 256) : (val_main_v153 (F := Ideal) DY PW PS) (ix2 t k) = quo DY PW PS 8 2 k t := by
  pointwise [val_main_v153, val_main_v152, val_main_v77, val_main_v76, val_main_v75, val_main_v74, val_main_v73, val_main_v32]
  exact congrArg₂ Ideal.div (at133 DY PW PS t k) (cnt_min 8 t one_bits eight_bits)

theorem at158 (t : Fin 4096) (k : Fin 256) :
    (val_main_v158 (F := Ideal) DY PW PS) (ix2 t k) = quo DY PW PS 8 2 k t + -up 8 (quo DY PW PS 8 2 k) t := by
  pointwise [val_main_v158, val_main_v157, val_main_v156, val_main_v154]
  exact lag_of (q := quo DY PW PS 8 2 k) 8 t zero_bits (R := fun t => (val_main_v153 (F := Ideal) DY PW PS) (ix2 t k))
    (fun t => at153 DY PW PS t k) _ (by omega) _

theorem at140 (t : Fin 4096) (k : Fin 256) : (val_main_v140 (F := Ideal) DY PW PS) (ix2 t k) = quo DY PW PS 16 3 k t := by
  pointwise [val_main_v140, val_main_v139, val_main_v94, val_main_v93, val_main_v92, val_main_v91, val_main_v90, val_main_v32]
  exact congrArg₂ Ideal.div (at135 DY PW PS t k) (cnt_min 16 t one_bits sixteen_bits)

theorem at145 (t : Fin 4096) (k : Fin 256) :
    (val_main_v145 (F := Ideal) DY PW PS) (ix2 t k) = quo DY PW PS 16 3 k t + -up 16 (quo DY PW PS 16 3 k) t := by
  pointwise [val_main_v145, val_main_v144, val_main_v143, val_main_v141]
  exact lag_of (q := quo DY PW PS 16 3 k) 16 t zero_bits (R := fun t => (val_main_v140 (F := Ideal) DY PW PS) (ix2 t k))
    (fun t => at140 DY PW PS t k) _ (by omega) _

/-- The negated cotangents of the four differences, stacked. -/
theorem at179 (t : Fin 4096) (g : Fin 4) (k : Fin 256) : (val_main_v179 (F := Ideal) DY PW PS) (ix3 t g k) = -ddif DY PW PS g k t := by
  fin_cases g
  · pointwise [val_main_v179, val_main_v178, val_main_v177, val_main_v176, val_main_v165, val_main_v164, val_main_v163, val_main_v162, val_main_v151, val_main_v150, val_main_v149, val_main_v148, val_main_v138, val_main_v137, val_main_v136, val_main_cst_19, val_main_cst_22, val_main_cst_25, val_main_cst_28]
    exact congrArg (fun x : EReal => -x) (at129 DY PW PS t k)
  · pointwise [val_main_v179, val_main_v178, val_main_v177, val_main_v176, val_main_v165, val_main_v164, val_main_v163, val_main_v162, val_main_v151, val_main_v150, val_main_v149, val_main_v148, val_main_v138, val_main_v137, val_main_v136, val_main_cst_19, val_main_cst_22, val_main_cst_25, val_main_cst_28]
    exact congrArg (fun x : EReal => -x) (at131 DY PW PS t k)
  · pointwise [val_main_v179, val_main_v178, val_main_v177, val_main_v176, val_main_v165, val_main_v164, val_main_v163, val_main_v162, val_main_v151, val_main_v150, val_main_v149, val_main_v148, val_main_v138, val_main_v137, val_main_v136, val_main_cst_19, val_main_cst_22, val_main_cst_25, val_main_cst_28]
    exact congrArg (fun x : EReal => -x) (at133 DY PW PS t k)
  · pointwise [val_main_v179, val_main_v178, val_main_v177, val_main_v176, val_main_v165, val_main_v164, val_main_v163, val_main_v162, val_main_v151, val_main_v150, val_main_v149, val_main_v148, val_main_v138, val_main_v137, val_main_v136, val_main_cst_19, val_main_cst_22, val_main_cst_25, val_main_cst_28]
    exact congrArg (fun x : EReal => -x) (at135 DY PW PS t k)

/-- The cotangents of the running sums, stacked. -/
theorem at189 (t : Fin 4096) (g : Fin 4) (k : Fin 256) :
    (val_main_v189 (F := Ideal) DY PW PS) (ix3 t g k) = quo DY PW PS (win g) g k t + -up (win g) (quo DY PW PS (win g) g k) t := by
  fin_cases g
  · pointwise [val_main_v189, val_main_v188, val_main_v187, val_main_v175, val_main_v174, val_main_v173, val_main_v161, val_main_v160, val_main_v159, val_main_v147, val_main_v146, val_main_cst_21, val_main_cst_24, val_main_cst_27, val_main_cst_30]
    exact at186 DY PW PS t k
  · pointwise [val_main_v189, val_main_v188, val_main_v187, val_main_v175, val_main_v174, val_main_v173, val_main_v161, val_main_v160, val_main_v159, val_main_v147, val_main_v146, val_main_cst_21, val_main_cst_24, val_main_cst_27, val_main_cst_30]
    exact at172 DY PW PS t k
  · pointwise [val_main_v189, val_main_v188, val_main_v187, val_main_v175, val_main_v174, val_main_v173, val_main_v161, val_main_v160, val_main_v159, val_main_v147, val_main_v146, val_main_cst_21, val_main_cst_24, val_main_cst_27, val_main_cst_30]
    exact at158 DY PW PS t k
  · pointwise [val_main_v189, val_main_v188, val_main_v187, val_main_v175, val_main_v174, val_main_v173, val_main_v161, val_main_v160, val_main_v159, val_main_v147, val_main_v146, val_main_cst_21, val_main_cst_24, val_main_cst_27, val_main_cst_30]
    exact at145 DY PW PS t k

theorem win_pos (g : Fin 4) : 0 < win g := by
  fin_cases g <;> decide

/-- The gradient with respect to the pooled values. -/
theorem at191 (hD : ∀ g k t, Real? (ddif DY PW PS g k t)) (t : Fin 4096) (g : Fin 4) (k : Fin 256) :
    (val_main_v191 (F := Ideal) DY PW PS) (ix3 t g k) = dpv DY PW PS (win g) g k t := by
  have h : (val_main_v190 (F := Ideal) DY PW PS) (ix3 t g k) = ∑ s ∈ Finset.range (win g), up s (quo DY PW PS (win g) g k) t := by
    unfold val_main_v190
    rw [window_suf]
    · refine (congrArg (fun u => suf u t) (funext fun t => at189 DY PW PS t g k)).trans ?_
      exact suf_sub (fun t => div_cnt_real (hD g k t) (win_pos g) t) (win g) t
    · intro i; pointwise [val_main_call1_call0_v0, val_main_call1_call0_cst]
  pointwise [val_main_v191]
  rw [h, at179, dpv, add_comm, ← sub_eq_add_neg]

/-- The gradient with respect to the pooled values, laid out as the channels are. -/
theorem at192 (hD : ∀ g k t, Real? (ddif DY PW PS g k t)) (t : Fin 4096) (g : Fin 4) (k : Fin 256) :
    (val_main_v192 (F := Ideal) DY PW PS) (ix2 t ⟨256 * g + k, by omega⟩) = dpv DY PW PS (win g) g k t := by
  pointwise [val_main_v192]
  exact at191 DY PW PS hD t g k

/-! ## The convolution -/

theorem at193 (t : Fin 4096) (q : Fin 1024) : (val_main_v193 (F := Ideal) P DY) (ix2 t q) = dconv P DY q t := by
  pointwise [val_main_v193, val_main_v1, val_main_v0, val_main_v114, val_main_v113, dconv]
  exact mul_comm _ _

theorem at24 (t : Fin 4096) (q : Fin 1024) : (val_main_v24 (F := Ideal) P) (ix2 t q) = gated P q t := by
  pointwise [val_main_v24, val_main_v7, val_main_v6, val_main_v5, val_main_v2, val_main_v3, val_main_v0]
  rfl

theorem at17 (t : Fin 4096) (q : Fin 1024) : (val_main_v17 (F := Ideal) P) (ix2 t q) = dn 1 (gated P q) t := by
  pointwise [val_main_v17, val_main_v7, val_main_v6, val_main_v5, val_main_v2, val_main_v3, val_main_v0]
  unfold dn
  by_cases h : 1 + t.val < 2
  · rw [dif_pos h, dif_neg (by omega)]
    exact zero_bits
  · rw [dif_neg h, dif_pos (by omega)]
    simp only [show 1 + t.val - 2 = t.val - 1 by omega]
    rfl

theorem at11 (t : Fin 4096) (q : Fin 1024) : (val_main_v11 (F := Ideal) P) (ix2 t q) = dn 2 (gated P q) t := by
  pointwise [val_main_v11, val_main_v7, val_main_v6, val_main_v5, val_main_v2, val_main_v3, val_main_v0]
  unfold dn
  by_cases h : t.val < 2
  · rw [dif_pos h, dif_neg (by omega)]
    exact zero_bits
  · rw [dif_neg h, dif_pos (by omega)]
    rfl

theorem at10 (q : Fin 1024) : (val_main_v10 (F := Ideal) CW) (ix1 q) = CW (ix2 0 q) := by
  pointwise [val_main_v10, val_main_v9]

theorem at16 (q : Fin 1024) : (val_main_v16 (F := Ideal) CW) (ix1 q) = CW (ix2 1 q) := by
  pointwise [val_main_v16, val_main_v15]

theorem at23 (q : Fin 1024) : (val_main_v23 (F := Ideal) CW) (ix1 q) = CW (ix2 2 q) := by
  pointwise [val_main_v23, val_main_v22]

theorem dn_zero (u : Fin 4096 → EReal) (t : Fin 4096) : dn 0 u t = u t := by
  rw [dn, dif_pos (Nat.zero_le _)]
  rfl

/-- The gradient with respect to the output gate. -/
theorem at194 (t : Fin 4096) (q : Fin 1024) : (val_main_v194 (F := Ideal) P DY CW) (ix2 t q) = dgate P DY CW q t := by
  pointwise [val_main_v194, val_main_v28, val_main_v114, val_main_v113, dgate, val_main_v27, val_main_v26, val_main_v25, val_main_v21, val_main_v20, val_main_v19, val_main_v18, val_main_v14, val_main_v13, val_main_v12]
  rw [at11, at17, at24, at10, at16, at23]

theorem at227 (t : Fin 4096) (q : Fin 1024) : (val_main_v227 (F := Ideal) P DY CW) (ix2 t q) = dgated P DY CW q t := by
  pointwise [val_main_v227, val_main_v222, val_main_v221, val_main_v216, val_main_v215, val_main_v12, val_main_v211, val_main_v210, val_main_v205, val_main_v204, val_main_v18, val_main_v201, val_main_v196, val_main_v195, val_main_v25, dgated]
  have tap (a : ℕ) (w : EReal) {zero : EReal} (hz : zero = 0) (c : Prop) [Decidable c] (hc : c ↔ t.val + a < 4096) {u : ℕ} (hu : u = t.val + a) (b : c → u < 4096) :
      (if h : c then (show EReal from w) * (val_main_v193 (F := Ideal) P DY) (ix2 ⟨u, b h⟩ q) else zero) = w * up a (dconv P DY q) t := by
    subst hu
    unfold up
    by_cases h : t.val + a < 4096
    · rw [dif_pos (hc.2 h), dif_pos h, at193]
    · rw [dif_neg fun h' => h (hc.1 h'), dif_neg h, hz, mul_zero]
  rw [at193, at10, at16, at23]
  refine congrArg₂ (α := EReal) (· + ·) (congrArg₂ (α := EReal) (· + ·) rfl ?_) ?_
  · exact tap 1 _ zero_bits _ (by omega) (by omega) _
  · exact tap 2 _ zero_bits _ (by omega) (by omega) _

/-- The gradient with respect to the taps. -/
theorem at225 (r : Fin 3) (q : Fin 1024) : (val_main_v225 (F := Ideal) P DY) (ix2 r q) = gradConv P DY (ix2 r q) := by
  fin_cases r
  · pointwise [val_main_v225, val_main_v224, val_main_v223, val_main_v220, val_main_v219, val_main_v218, val_main_v217, val_main_v214, val_main_v213, val_main_v203, gradConv, val_main_cst_34, val_main_cst_38, val_main_cst_39, val_main_cst_40]
    refine (Fin.sum_univ_one _).trans (Finset.sum_congr rfl fun t _ => ?_)
    rw [at193, at11]
  · pointwise [val_main_v225, val_main_v224, val_main_v214, val_main_v213, val_main_v212, val_main_v209, val_main_v208, val_main_v207, val_main_v206, val_main_v203, gradConv, val_main_cst_34, val_main_cst_35, val_main_cst_36, val_main_cst_42]
    refine (Fin.sum_univ_one _).trans (Finset.sum_congr rfl fun t _ => ?_)
    rw [at193, at17]
  · pointwise [val_main_v225, val_main_v224, val_main_v214, val_main_v213, val_main_v203, val_main_v202, val_main_v200, val_main_v199, val_main_v198, val_main_v197, gradConv, val_main_cst_31, val_main_cst_32, val_main_cst_38, val_main_cst_42]
    refine (Fin.sum_univ_one _).trans (Finset.sum_congr rfl fun t _ => ?_)
    rw [at193, at24, dn_zero]

theorem at237 (hD : ∀ g k t, Real? (ddif DY PW PS g k t)) (t : Fin 4096) (q : Fin 4096) : (val_main_v237 (F := Ideal) P DY CW PW PS) (ix2 t q) = gradProj P DY CW PW PS (ix2 t q) := by
  pointwise [val_main_v237, val_main_v236, val_main_v235, val_main_v234, val_main_v233, val_main_v232, val_main_v231, val_main_v230, val_main_v229, val_main_v228, val_main_v2, val_main_v3, val_main_v0, val_main_cst_43, val_main_cst_44, val_main_cst_45, val_main_cst_46]
  have := q.isLt
  by_cases h1 : q.val < 1024
  · rw [dif_neg (by omega), dif_neg (by omega), dif_neg (by omega), dif_pos h1, zero_add, zero_add, zero_add, at194]
    exact (gradProj_gate P DY CW PW PS (ix2 t q) t ⟨q.val, h1⟩ rfl rfl).symm
  by_cases h2 : q.val < 2048
  · rw [dif_neg (by omega), dif_neg (by omega), dif_pos (by omega), dif_neg h1, zero_add, zero_add, add_zero, at227]
    exact (gradProj_in P DY CW PW PS (ix2 t q) t ⟨q.val - 1024, by omega⟩ rfl (by dsimp only [ix2_1]; omega)).symm
  by_cases h3 : q.val < 3072
  · rw [dif_neg (by omega), dif_pos (by omega), dif_neg (by omega), dif_neg h1, zero_add, add_zero, add_zero, at227]
    exact (mul_comm _ _).trans (gradProj_out P DY CW PW PS (ix2 t q) t ⟨q.val - 2048, by omega⟩ rfl (by dsimp only [ix2_1]; omega)).symm
  · rw [dif_pos (by omega), dif_neg (by omega), dif_neg (by omega), dif_neg h1, add_zero, add_zero, add_zero]
    obtain ⟨g, k, hq⟩ : ∃ (g : Fin 4) (k : Fin 256), q.val - 3072 = 256 * g + k :=
      ⟨⟨(q.val - 3072) / 256, by omega⟩, ⟨(q.val - 3072) % 256, Nat.mod_lt _ (by norm_num)⟩, by dsimp only; omega⟩
    simp only [hq]
    rw [at192 DY PW PS hD]
    exact (gradProj_pool P DY CW PW PS (ix2 t q) t g k rfl (by dsimp only [ix2_1]; omega)).symm
/-! ## The results, under the precondition -/

section
variable [Cert.Pre_pool_finite.Facts]

theorem finite_pv (h : (Cert.Pre_pool_finite.fn (F := Ideal) P DY CW PW PS).1 = fun _ => 1#1) (g : Fin 4) (k : Fin 256) (t : Fin 4096) :
    Real? (pv P g k t) := by
  have := congrFun h (ix2 t ⟨256 * g + k, by omega⟩)
  pointwise [Cert.Pre_pool_finite.fn] at this
  exact real_of_lt this

theorem finite_ddif (hY : (Cert.Pre_pool_finite.fn (F := Ideal) P DY CW PW PS).2.1 = fun _ => 1#1)
    (hW : (Cert.Pre_pool_finite.fn (F := Ideal) P DY CW PW PS).2.2.1 = fun _ => 1#1)
    (hS : (Cert.Pre_pool_finite.fn (F := Ideal) P DY CW PW PS).2.2.2 = fun _ => 1#1) (g : Fin 4) (k : Fin 256) (t : Fin 4096) :
    Real? (ddif DY PW PS g k t) := by
  refine Real?.sum _ fun e _ => Real?.mul (Real?.mul ?_ ?_) ?_
  · have := congrFun hY (ix2 t ⟨256 * g + e, by omega⟩)
    pointwise [Cert.Pre_pool_finite.fn] at this
    exact real_of_lt this
  · have := congrFun hS (ix1 ⟨256 * g + e, by omega⟩)
    pointwise [Cert.Pre_pool_finite.fn] at this
    exact real_of_lt this
  · have := congrFun hW (ix3 g k e)
    pointwise [Cert.Pre_pool_finite.fn] at this
    exact real_of_lt this
end

theorem final8 (hD : ∀ g k t, Real? (ddif DY PW PS g k t)) : val_main_v237 (F := Ideal) P DY CW PW PS = gradProj P DY CW PW PS := by
  funext i; rw [eq_ix2 i]; exact at237 P DY CW PW PS hD (i 0) (i 1)

theorem final9 : val_main_v225 (F := Ideal) P DY = gradConv P DY := by
  funext i; rw [eq_ix2 i]; exact at225 P DY (i 0) (i 1)

theorem final10 (hP : ∀ g k t, Real? (pv P g k t)) : val_main_v127 (F := Ideal) P DY PS = gradPool P DY PS := by
  funext i; rw [eq_ix3 i]; exact at127 P DY PS hP (i 0) (i 1) (i 2)

theorem final11 (hP : ∀ g k t, Real? (pv P g k t)) : val_main_v238 (F := Ideal) P DY PW = fun y => gradScale P DY PW (ix1 (y 1)) := by
  funext i
  obtain ⟨a, q, rfl⟩ : ∃ (a : Fin 1) (q : Fin 1024), i = ix2 a q := ⟨i 0, i 1, eq_ix2 i⟩
  rw [Subsingleton.elim a 0]
  exact at238 P DY PW hP q

end Cert.MixerBwdRefIdeal.Final
-- ==== Proof.Val.MixerBwd.lean ====
/-
  The mixer's backward pass: what the certificate takes of the kernel's value modules and of the reference's.
-/
module

public import proofs.«01_k».proof.Proof.Val.MixerSums
public import proofs.«01_k».proof.Proof.Val.MixerRef

@[expose] public section

open Idealize.ShloMosaic

/-- The facts the precondition's terms cite. -/
instance Cert.MixerForm.pool_facts : Cert.Pre_pool_finite.Facts := by
  constructor <;> decide
-- ==== Proof.Val.Norm.lean ====
/-
  The RMS norm of the forward pass: what the kernel leaves in its two result arrays, and that the reference's lines give the same.
-/
module

public import proofs.«01_k».proof.Proof.Gen.NormIdeal.Value
public import proofs.«01_k».proof.Proof.Gen.NormRefIdeal.Read
public import proofs.«01_k».proof.Proof.Val.NormForm
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.NormForm

/-- The normalised rows times the gain. -/
def normed (X : FVec Ideal ⟨2, ![4096, 2048]⟩ .f32) (G : FVec Ideal ⟨1, ![2048]⟩ .f32) : FVec Ideal ⟨2, ![4096, 2048]⟩ .bf16 :=
  fun i => hat (row X (i 0)) (i 1) * vec G (i 1)

/-- The rows in the narrow format. -/
def narrow (X : FVec Ideal ⟨2, ![4096, 2048]⟩ .f32) : FVec Ideal ⟨2, ![4096, 2048]⟩ .bf16 :=
  fun i => (show EReal from X i)

end Cert.NormForm

namespace Cert.NormIdeal.Final

open Cert.NormIdeal Cert.NormIdeal.Gen Cert.NormForm

variable (m : (ℓ : Loc nD τ sig) → Buf (Elt Ideal) ℓ)

/-- Each window's block index at a point of the grid. -/
theorem idx : ∀ t : Fin cfg0.N, win0_0.index t = ![t.val, 0] ∧ win0_1.index t = ![0, 0]
    ∧ win0_2.index t = ![t.val, 0] ∧ win0_3.index t = ![t.val, 0] :=
  (by decide +kernel : ∀ t : Fin grid0.N, _)

theorem point2 (c : Dev nD) (t : Fin cfg0.N) (y : S512x2048.Idx) :
    k0_pay1 (F := Ideal) (iblk m c 0 t) (iblk m c 1 t) y
      = normed (m ((c : Thread nD τ).loc main_arg0)) (m ((c : Thread nD τ).loc main_arg1)) (((cfg0.win 2).blk t).view.emb y) := by
  pointwise [k0_pay1, normed, hat, rs, msq, row, vec]
  blk_point [iblk, V, idx t]

theorem point3 (c : Dev nD) (t : Fin cfg0.N) (y : S512x2048.Idx) :
    k0_pay2 (F := Ideal) (iblk m c 0 t) y = narrow (m ((c : Thread nD τ).loc main_arg0)) (((cfg0.win 3).blk t).view.emb y) := by
  pointwise [k0_pay2, narrow]
  blk_point [iblk, V, idx t]

theorem final2 (c : Dev nD) : (dats m 0 c).arrAt 2 (cfgs 0).N
    = normed (m ((c : Thread nD τ).loc main_arg0)) (m ((c : Thread nD τ).loc main_arg1)) := by
  refine (dats m 0 c).arrAt_eq_of_covers 2 _ (by decide +kernel) fun t _ y => ?_
  blk_simp
  rw [after0_2]
  frame_out
  exact point2 m c t y

theorem final3 (c : Dev nD) : (dats m 0 c).arrAt 3 (cfgs 0).N = narrow (m ((c : Thread nD τ).loc main_arg0)) := by
  refine (dats m 0 c).arrAt_eq_of_covers 3 _ (by decide +kernel) fun t _ y => ?_
  blk_simp
  rw [after0_3]
  frame_out
  exact point3 m c t y

end Cert.NormIdeal.Final

namespace Cert.NormRefIdeal.Final

open Cert.NormRefIdeal.Read Cert.NormForm

variable (X : FVec Ideal ⟨2, ![4096, 2048]⟩ .f32) (G : FVec Ideal ⟨1, ![2048]⟩ .f32)

theorem final13 : val_main_v13 (F := Ideal) X G = normed X G := by
  funext i; rw [eq_ix2 i]
  pointwise [val_main_v13, val_main_v12, val_main_v11, val_main_v10, val_main_v9, val_main_v8, val_main_v7, val_main_v6, val_main_v5,
    val_main_v4, val_main_v3, val_main_v2, val_main_v1, val_main_v0, val_main_cst, val_main_cst_0, val_main_cst_1, normed, hat, rs, msq, row, vec]

theorem final14 : val_main_v14 (F := Ideal) X = narrow X := by
  funext i; rw [eq_ix2 i]
  pointwise [val_main_v14, narrow]

end Cert.NormRefIdeal.Final
-- ==== Proof.Val.Up.lean ====
/-
  The squared ReLU of the forward pass, on the product with the weights: what the kernel leaves in its two result arrays, and
  that the reference's lines give the same.
-/
module

public import proofs.«01_k».proof.Proof.Gen.UpIdeal.Value
public import proofs.«01_k».proof.Proof.Gen.UpRefIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.UpForm

/-- The product with the weights, at a row and a column. -/
def pre (H : FVec Ideal ⟨2, ![4096, 2048]⟩ .bf16) (W : FVec Ideal ⟨2, ![2048, 8192]⟩ .bf16) : FVec Ideal ⟨2, ![4096, 8192]⟩ .bf16 :=
  fun i => ∑ k : Fin 2048, (show EReal from H (ix2 (i 0) k)) * W (ix2 k (i 1))

/-- Its positive part, squared. -/
def act (H : FVec Ideal ⟨2, ![4096, 2048]⟩ .bf16) (W : FVec Ideal ⟨2, ![2048, 8192]⟩ .bf16) : FVec Ideal ⟨2, ![4096, 8192]⟩ .bf16 :=
  fun i => max (∑ k : Fin 2048, (show EReal from H (ix2 (i 0) k)) * W (ix2 k (i 1))) 0
    * max (∑ k : Fin 2048, (show EReal from H (ix2 (i 0) k)) * W (ix2 k (i 1))) 0

end Cert.UpForm

namespace Cert.UpIdeal.Final

open Cert.UpIdeal Cert.UpIdeal.Gen Cert.UpForm

variable (m : (ℓ : Loc nD τ sig) → Buf (Elt Ideal) ℓ)

/-- Each window's block index at a point of the grid. -/
theorem idx : ∀ t : Fin cfg0.N, win0_0.index t = ![t.val / 8, 0] ∧ win0_1.index t = ![t.val % 8, 0, 0]
    ∧ win0_2.index t = ![t.val / 8, t.val % 8] ∧ win0_3.index t = ![t.val / 8, t.val % 8] :=
  (by decide +kernel : ∀ t : Fin grid0.N, _)

theorem point2 (c : Dev nD) (t : Fin cfg0.N) (y : S1024x1024.Idx) :
    k0_pay2 (F := Ideal) (iblk m c 0 t) (iblk m c 1 t) y
      = pre (m ((c : Thread nD τ).loc main_arg0)) (m ((c : Thread nD τ).loc main_arg1)) (((cfg0.win 2).blk t).view.emb y) := by
  pointwise [k0_pay2, k0_pay1, pre]
  blk_point [iblk, V, idx t]

theorem point3 (c : Dev nD) (t : Fin cfg0.N) (y : S1024x1024.Idx) :
    k0_pay3 (F := Ideal) (iblk m c 0 t) (iblk m c 1 t) y
      = act (m ((c : Thread nD τ).loc main_arg0)) (m ((c : Thread nD τ).loc main_arg1)) (((cfg0.win 3).blk t).view.emb y) := by
  pointwise [k0_pay3, k0_pay1, act]
  blk_point [iblk, V, idx t]

theorem final2 (c : Dev nD) : (dats m 0 c).arrAt 2 (cfgs 0).N
    = pre (m ((c : Thread nD τ).loc main_arg0)) (m ((c : Thread nD τ).loc main_arg1)) := by
  refine (dats m 0 c).arrAt_eq_of_covers 2 _ (by decide +kernel) fun t _ y => ?_
  blk_simp
  rw [after0_2]
  frame_out
  exact point2 m c t y

theorem final3 (c : Dev nD) : (dats m 0 c).arrAt 3 (cfgs 0).N
    = act (m ((c : Thread nD τ).loc main_arg0)) (m ((c : Thread nD τ).loc main_arg1)) := by
  refine (dats m 0 c).arrAt_eq_of_covers 3 _ (by decide +kernel) fun t _ y => ?_
  blk_simp
  rw [after0_3]
  frame_out
  exact point3 m c t y

end Cert.UpIdeal.Final

namespace Cert.UpRefIdeal.Final

open Cert.UpRefIdeal.Read Cert.UpForm

variable (H : FVec Ideal ⟨2, ![4096, 2048]⟩ .bf16) (W : FVec Ideal ⟨2, ![2048, 8192]⟩ .bf16)

theorem final4 : val_main_v4 (F := Ideal) H W = pre H W := by
  funext i; rw [eq_ix2 i]
  pointwise [val_main_v4, val_main_v2, val_main_v1, val_main_v0, pre]

theorem final6 : val_main_v6 (F := Ideal) H W = act H W := by
  funext i; rw [eq_ix2 i]
  pointwise [val_main_v6, val_main_v5, val_main_v3, val_main_call0_v0, val_main_call0_cst, val_main_v2, val_main_v1, val_main_v0, act]

end Cert.UpRefIdeal.Final
-- ==== Proof.Val.Mixer.lean ====
/-
  The token mixer: each tile the kernel writes and the forward lines, both brought to one closed form.
-/
module

public import proofs.«01_k».proof.Proof.Gen.MixerIdeal.Value
public import proofs.«01_k».proof.Proof.Gen.MixerRefIdeal.Read
public import proofs.«01_k».proof.Proof.Val.MixerTile
public import proofs.«01_k».proof.Proof.Val.MixerWin
public import Idealize.ShloMosaic.Lib.Pipeline.ValueKit
public import Idealize.ShloMosaic.Lib.Pointwise
public import Idealize.ShloMosaic.Lib.Claim
public import proofs.«01_k».proof.Defs

@[expose] public section

set_option maxRecDepth 16384

noncomputable section

open Idealize.ShloMosaic Idealize.ShloMosaic.TcCoe Idealize.SL.Sem
open Idealize.ShloMosaic.Pipeline (Dat)

namespace Cert.MixerForm

variable (P : FVec Ideal ⟨2, ![4096, 4096]⟩ .bf16) (CW : FVec Ideal ⟨2, ![3, 1024]⟩ .f32)
  (PW : FVec Ideal ⟨3, ![4, 256, 256]⟩ .f32) (PS : FVec Ideal ⟨1, ![1024]⟩ .f32)

/-- The columns of the mixer's input that hold the output gate. -/
def gateIn : FVec Ideal ⟨2, ![4096, 2048]⟩ .bf16 := fun i =>
  have h : (i 1).val < 2048 := (i 1).isLt
  P (ix2 (i 0) ⟨(i 1).val, by omega⟩)

/-- The gated short convolution, channel `q`. -/
def convOut (q : Fin 1024) (t : Fin 4096) : EReal := dgate P (gateIn P) CW q t

/-- The pooled group's product with its weights, scaled. -/
def poolOut (g : Fin 4) (e : Fin 256) (t : Fin 4096) : EReal :=
  (∑ k : Fin 256, dif P (win g) g k t * PW (ix3 g k e)) * PS (ix1 ⟨256 * g + e, by omega⟩)

/-- The mixer's output. -/
def mixed : FVec Ideal ⟨2, ![4096, 2048]⟩ .bf16 := fun i =>
  if h1 : (i 1).val < 1024 then convOut P CW ⟨i 1, h1⟩ (i 0)
  else
    have h2 : (i 1).val < 2048 := (i 1).isLt
    poolOut P PW PS ⟨((i 1).val - 1024) / 256, by omega⟩ ⟨((i 1).val - 1024) % 256, Nat.mod_lt _ (by norm_num)⟩ (i 0)

section
variable (i : Shape.Idx ⟨2, ![4096, 2048]⟩) (t : Fin 4096) (q : Fin 1024) (g : Fin 4) (e : Fin 256) (h0 : (i 0).val = t.val)
include h0

theorem mixed_conv (h1 : (i 1).val = q.val) : mixed P CW PW PS i = convOut P CW q t := by
  rw [mixed, dif_pos (by omega)]
  congr 1
  · ext; exact h1
  · ext; exact h0

theorem mixed_pool (h1 : (i 1).val = 1024 + (256 * g + e)) : mixed P CW PW PS i = poolOut P PW PS g e t := by
  have e0 : i 0 = t := Fin.ext h0
  have hg : ((i 1).val - 1024) / 256 = g.val := by omega
  have hk : ((i 1).val - 1024) % 256 = e.val := by omega
  rw [mixed, dif_neg (by omega)]
  simp only [hg, hk, e0]
end

end Cert.MixerForm

/-! ## The kernel -/

namespace Cert.MixerIdeal.Final

open Cert.MixerIdeal Cert.MixerIdeal.Gen Cert.MixerBwdIdeal.Tile Cert.MixerForm

variable (m : (ℓ : Loc nD τ sig) → Buf (Elt Ideal) ℓ)

/-- Each window's block index at a point of the grid. -/
theorem idx : ∀ t : Fin cfg0.N, win0_0.index t = ![t.val, 0] ∧ win0_1.index t = ![32 * t.val - 1, 0]
    ∧ win0_2.index t = ![0, 0] ∧ win0_3.index t = ![0, 0, 0] ∧ win0_4.index t = ![0, 0] ∧ win0_5.index t = ![t.val, 0] :=
  (by decide +kernel : ∀ t : Fin grid0.N, _)

abbrev tile (t : Fin cfg0.N) : Fin 8 := ⟨t.val, lt_of_lt_of_eq t.isLt N_0⟩

theorem coord (t : Fin cfg0.N) : (grid0.coords t 0).val = t.val :=
  (by decide +kernel : ∀ t : Fin grid0.N, (grid0.coords t 0).val = t.val) t

section loads
variable (c : Dev nD) (t : Fin cfg0.N) (o : ℕ)

theorem cur (h) : Cur (tile t) (m ((c : Thread nD τ).loc main_arg0)) o
    (View.ld (iblk m c 0 t) (Rect.unit (s := S512x4096) ![0, o] ![512, 256] h)) := by
  intro r q hq
  pointwise
  blk_point [iblk, V, idx t]

theorem curGate (h) : Cur (tile t) (gateIn (m ((c : Thread nD τ).loc main_arg0))) o
    (View.ld (iblk m c 0 t) (Rect.unit (s := S512x4096) ![0, o] ![512, 256] h)) := by
  intro r q hq
  exact cur m c t o h r q (by omega)

theorem prev (h) : Prev (tile t) (m ((c : Thread nD τ).loc main_arg0)) o
    (View.ld (iblk m c 1 t) (Rect.unit (s := S16x4096) ![0, o] ![16, 256] h)) := by
  intro r q hq h0
  change 0 < t.val at h0
  pointwise
  blk_point [iblk, V, idx t]

theorem tap (a : Fin 3) (j : Fin 4) (h) : Tap (m ((c : Thread nD τ).loc main_arg1)) j a
    (View.ld (iblk m c 2 t) (Rect.unit (s := S3x1024) ![a, 256 * j] ![1, 256] h)) := by
  intro q
  pointwise
  blk_point [iblk, V, idx t]

theorem weight (g : Fin 4) (h) : Weight g (m ((c : Thread nD τ).loc main_arg2))
    (View.ld (iblk m c 3 t) (Rect.unit (s := S4x256x256) ![g, 0, 0] ![1, 256, 256] h)) := by
  intro k q
  pointwise
  blk_point [iblk, V, idx t]

theorem scale (g : Fin 4) (h) : Scale g (m ((c : Thread nD τ).loc main_arg3))
    (View.ld (iblk m c 4 t) (Rect.unit (s := S1x1024) ![0, 256 * g] ![1, 256] h)) := by
  intro q
  pointwise
  blk_point [iblk, V, idx t]
end loads

/-- A reshape to the same shape. -/
theorem keep_apply (v : FVec Ideal S1x256 .f32) (q : Fin 256) : shapeCast S1x256 v shapeCasts_S1x256_S1x256 (ix2 0 q) = v (ix2 0 q) := by
  pointwise

section names
variable (c : Dev nD) (t : Fin cfg0.N)

abbrev L0 (o : ℕ) (h : o + 256 ≤ 4096) : FVec Ideal S512x256 .bf16 :=
  View.ld (iblk m c 0 t) (Rect.unit (s := S512x4096) ![0, o] ![512, 256] (by intro a; fin_cases a <;> (simp; try omega)))

abbrev L1 (o : ℕ) (h : o + 256 ≤ 4096) : FVec Ideal S16x256 .bf16 :=
  View.ld (iblk m c 1 t) (Rect.unit (s := S16x4096) ![0, o] ![16, 256] (by intro a; fin_cases a <;> (simp; try omega)))

abbrev L2 (a : Fin 3) (j : Fin 4) : FVec Ideal S1x256 .f32 :=
  View.ld (iblk m c 2 t) (Rect.unit (s := S3x1024) ![a, 256 * j] ![1, 256] (by intro a; fin_cases a <;> (simp; try omega)))

abbrev L3 (g : Fin 4) : FVec Ideal S1x256x256 .bf16 :=
  View.ld (iblk m c 3 t) (Rect.unit (s := S4x256x256) ![g, 0, 0] ![1, 256, 256] (by intro a; fin_cases a <;> (simp; try omega)))

abbrev L4 (g : Fin 4) : FVec Ideal S1x256 .f32 :=
  View.ld (iblk m c 4 t) (Rect.unit (s := S1x1024) ![0, 256 * g] ![1, 256] (by intro a; fin_cases a <;> (simp; try omega)))

/-- The test that a point is the first. -/
abbrev first : BitVec 1 := Scalar.cmpi CmpIPredicate.eq (BitVec.ofNat 32 (grid0.coords t 0).val) 0#32

theorem first_eq : first t = Scalar.cmpi CmpIPredicate.eq (BitVec.ofNat 32 (tile t).val) 0#32 := by rw [first, coord]

variable (j : Fin 4)

/-- The convolution's output, column block `j`. -/
abbrev convB : FVec Ideal S512x256 .bf16 :=
  dgateT (first t) (L0 m c t (1024 + 256 * j) (by omega)) (L0 m c t (2048 + 256 * j) (by omega)) (L0 m c t (256 * j) (by omega))
    (L1 m c t (1024 + 256 * j) (by omega)) (L1 m c t (2048 + 256 * j) (by omega)) (L2 m c t 0 j) (L2 m c t 1 j) (L2 m c t 2 j)

/-- The pooling's output, group `j`. -/
abbrev poolB : FVec Ideal S512x256 .bf16 :=
  narrow (mulf (zT (L3 m c t j) (difT j (first t) (L0 m c t (3072 + 256 * j) (by omega)) (L1 m c t (3072 + 256 * j) (by omega))
    (cntT j (BitVec.ofNat 32 (grid0.coords t 0).val)))) (rows (shapeCast S1x256 (L4 m c t j) shapeCasts_S1x256_S1x256)))

/-- The output, as the closed form has it. -/
abbrev GM : FVec Ideal S4096x2048 .bf16 :=
  mixed (m ((c : Thread nD τ).loc main_arg0)) (m ((c : Thread nD τ).loc main_arg1)) (m ((c : Thread nD τ).loc main_arg2))
    (m ((c : Thread nD τ).loc main_arg3))

variable (r : Fin 512) (q : Fin 256) (y : S4096x2048.Idx) (hy0 : (y 0).val = 512 * t.val + r.val)
include hy0

theorem convB_apply (hy1 : (y 1).val = 256 * j + q.val) : convB m c t j (ix2 r q) = GM m c y := by
  rw [GM, mixed_conv _ _ _ _ y ⟨512 * tile t + r, by omega⟩ (ch j q) hy0 hy1]
  exact dgateT_apply (first t) _ _ _ _ _ _ _ _ _ _ _ (tile t) j (first_eq t) (cur m c t _ _) (cur m c t _ _) (prev m c t _ _)
    (prev m c t _ _) (curGate m c t _ _) (tap m c t 0 j _) (tap m c t 1 j _) (tap m c t 2 j _) r q

theorem poolB_apply (hy1 : (y 1).val = 1024 + 256 * j + q.val) : poolB m c t j (ix2 r q) = GM m c y := by
  rw [GM, mixed_pool _ _ _ _ y ⟨512 * tile t + r, by omega⟩ j q hy0 (by rw [hy1, Nat.add_assoc]), poolOut]
  have hs : rows (shapeCast S1x256 (L4 m c t j) shapeCasts_S1x256_S1x256) (ix2 r q)
      = (m ((c : Thread nD τ).loc main_arg3)) (ix1 ⟨256 * j + q, by omega⟩) := by
    rw [rows_apply, keep_apply]
    exact scale m c t j _ q
  refine congrArg₂ (α := EReal) (· * ·) ?_ hs
  rw [zT_apply]
  refine Finset.sum_congr rfl fun k _ => congrArg₂ (α := EReal) (· * ·) ?_ (weight m c t j _ k q)
  exact difT_apply j (tile t) (first t) _ _ _ _ (first_eq t) (by rw [coord]) (cur m c t _ _) (prev m c t _ _) r k
end names

/-- A value stored at an index of a tile's block is the closed form's at the array index, when it is at every row and channel. -/
theorem at_ix {v : FVec Ideal S512x256 .bf16} {a : EReal} (x : S512x256.Idx) (h : v (ix2 (x 0) (x 1)) = a) : v x = a := by
  rw [← h]
  congr 1
  funext a; fin_cases a <;> rfl

/-- What a point leaves in its block of the output. -/
theorem point5 (c : Dev nD) (t : Fin cfg0.N) (y : S512x2048.Idx) :
    out0_5 (F := Ideal) (grid0.coords t) (iblk m c 0 t) (iblk m c 1 t) (iblk m c 2 t) (iblk m c 3 t) (iblk m c 4 t) y
      = GM m c (((cfg0.win 5).blk t).view.emb y) := by
  have e0 : ((((cfg0.win 5).blk t).view.emb y) 0).val = 512 * t.val + (y 0).val := by blk_simp [idx t]; try omega
  have e1 : ((((cfg0.win 5).blk t).view.emb y) 1).val = (y 1).val := by blk_simp [idx t]; try omega
  generalize ((cfg0.win 5).blk t).view.emb y = z at e0 e1 ⊢
  frame_out
  canon_tiles x h
  all_goals
    have e3 : (z 0).val = 512 * t.val + (x 0).val := by omega
    first
    | (have e2 : (z 1).val = 0 + (x 1).val := by omega
       exact at_ix x (convB_apply m c t 0 (x 0) (x 1) z e3 (by dsimp only; omega)))
    | (have e2 : (z 1).val = 256 + (x 1).val := by omega
       exact at_ix x (convB_apply m c t 1 (x 0) (x 1) z e3 (by dsimp only; omega)))
    | (have e2 : (z 1).val = 512 + (x 1).val := by omega
       exact at_ix x (convB_apply m c t 2 (x 0) (x 1) z e3 (by dsimp only; omega)))
    | (have e2 : (z 1).val = 768 + (x 1).val := by omega
       exact at_ix x (convB_apply m c t 3 (x 0) (x 1) z e3 (by dsimp only; omega)))
    | (have e2 : (z 1).val = 1024 + (x 1).val := by omega
       exact at_ix x (poolB_apply m c t 0 (x 0) (x 1) z e3 (by dsimp only; omega)))
    | (have e2 : (z 1).val = 1280 + (x 1).val := by omega
       exact at_ix x (poolB_apply m c t 1 (x 0) (x 1) z e3 (by dsimp only; omega)))
    | (have e2 : (z 1).val = 1536 + (x 1).val := by omega
       exact at_ix x (poolB_apply m c t 2 (x 0) (x 1) z e3 (by dsimp only; omega)))
    | (have e2 : (z 1).val = 1792 + (x 1).val := by omega
       exact at_ix x (poolB_apply m c t 3 (x 0) (x 1) z e3 (by dsimp only; omega)))

theorem final5 (c : Dev nD) : (dats m 0 c).arrAt 5 (cfgs 0).N = GM m c := by
  refine (dats m 0 c).arrAt_eq_of_covers 5 _ (by decide +kernel) fun t _ y => ?_
  blk_simp
  rw [after0_5]
  exact point5 m c t y

end Cert.MixerIdeal.Final

/-! ## The forward lines -/

namespace Cert.MixerRefIdeal.Final

open Cert.MixerRefIdeal.Read Cert.MixerForm Cert.Finite

variable (P : FVec Ideal ⟨2, ![4096, 4096]⟩ .bf16) (CW : FVec Ideal ⟨2, ![3, 1024]⟩ .f32)
  (PW : FVec Ideal ⟨3, ![4, 256, 256]⟩ .f32) (PS : FVec Ideal ⟨1, ![1024]⟩ .f32)

theorem zero_bits : Ideal.ofBits .f32 0x00000000#32 = (0 : EReal) := by
  simp [Ideal.ofBits, Ideal.ieee]

theorem one_bits : Ideal.ofBits .f32 0x3F800000#32 = (1 : EReal) := by
  simp [Ideal.ofBits, Ideal.ieee]; rw [← EReal.coe_mul]; norm_num

theorem two_bits : Ideal.ofBits .f32 0x40000000#32 = ((2 : ℕ) : EReal) := by
  simp [Ideal.ofBits, Ideal.ieee]; rw [← EReal.coe_mul]; norm_num; rfl

theorem four_bits : Ideal.ofBits .f32 0x40800000#32 = ((4 : ℕ) : EReal) := by
  simp [Ideal.ofBits, Ideal.ieee]; rw [← EReal.coe_mul]; norm_num; rfl

theorem eight_bits : Ideal.ofBits .f32 0x41000000#32 = ((8 : ℕ) : EReal) := by
  simp [Ideal.ofBits, Ideal.ieee]; rw [← EReal.coe_mul]; norm_num; rfl

theorem sixteen_bits : Ideal.ofBits .f32 0x41800000#32 = ((16 : ℕ) : EReal) := by
  simp [Ideal.ofBits, Ideal.ieee]; rw [← EReal.coe_mul]; norm_num; rfl

theorem at29 (t : Fin 4096) (g : Fin 4) (k : Fin 256) : (val_main_v29 (F := Ideal) P) (ix3 t g k) = pv P g k t := by
  pointwise [val_main_v29, val_main_v4, val_main_v0, pv]
  exact congrArg (fun i => P (ix2 t i)) (Fin.ext (by dsimp only; omega))

theorem at30 (t : Fin 4096) (g : Fin 4) (k : Fin 256) : (val_main_v30 (F := Ideal) P) (ix3 t g k) = Cert.MixerForm.pre (pv P g k) t := by
  unfold val_main_v30
  rw [window_pre]
  · exact congrArg (fun u => Cert.MixerForm.pre u t) (funext fun t => at29 P t g k)
  · intro i; pointwise [val_main_call0_call0_v0, val_main_call0_call0_cst]

section
variable (hP : ∀ g k t, Real? (pv P g k t))
include hP

theorem at47 (t : Fin 4096) (k : Fin 256) : (val_main_v47 (F := Ideal) P) (ix2 t k) = dif P 2 0 k t := by
  pointwise [val_main_v47, val_main_v46, val_main_v45, val_main_v44, val_main_v43, val_main_v42, val_main_v41, val_main_v40, val_main_v39, val_main_v38, val_main_v37, val_main_v36, val_main_v35, val_main_v34, val_main_v33, val_main_v32, val_main_v31]
  rw [at29]
  refine congrArg (fun x : EReal => x - pv P 0 k t) ?_
  exact mean_of (hP 0 k) 2 t (C := fun t => val_main_v30 (F := Ideal) P (ix3 t 0 k)) one_bits two_bits zero_bits (fun t => at30 P t 0 k) _

theorem at63 (t : Fin 4096) (k : Fin 256) : (val_main_v63 (F := Ideal) P) (ix2 t k) = dif P 4 1 k t := by
  pointwise [val_main_v63, val_main_v62, val_main_v61, val_main_v60, val_main_v59, val_main_v58, val_main_v57, val_main_v56, val_main_v55, val_main_v54, val_main_v53, val_main_v52, val_main_v51, val_main_v50, val_main_v49, val_main_v48, val_main_v31]
  rw [at29]
  refine congrArg (fun x : EReal => x - pv P 1 k t) ?_
  exact mean_of (hP 1 k) 4 t (C := fun t => val_main_v30 (F := Ideal) P (ix3 t 1 k)) one_bits four_bits zero_bits (fun t => at30 P t 1 k) _

theorem at79 (t : Fin 4096) (k : Fin 256) : (val_main_v79 (F := Ideal) P) (ix2 t k) = dif P 8 2 k t := by
  pointwise [val_main_v79, val_main_v78, val_main_v77, val_main_v76, val_main_v75, val_main_v74, val_main_v73, val_main_v72, val_main_v71, val_main_v70, val_main_v69, val_main_v68, val_main_v67, val_main_v66, val_main_v65, val_main_v64, val_main_v31]
  rw [at29]
  refine congrArg (fun x : EReal => x - pv P 2 k t) ?_
  exact mean_of (hP 2 k) 8 t (C := fun t => val_main_v30 (F := Ideal) P (ix3 t 2 k)) one_bits eight_bits zero_bits (fun t => at30 P t 2 k) _

theorem at95 (t : Fin 4096) (k : Fin 256) : (val_main_v95 (F := Ideal) P) (ix2 t k) = dif P 16 3 k t := by
  pointwise [val_main_v95, val_main_v94, val_main_v93, val_main_v92, val_main_v91, val_main_v90, val_main_v89, val_main_v88, val_main_v87, val_main_v86, val_main_v85, val_main_v84, val_main_v83, val_main_v82, val_main_v81, val_main_v80, val_main_v31]
  rw [at29]
  refine congrArg (fun x : EReal => x - pv P 3 k t) ?_
  exact mean_of (hP 3 k) 16 t (C := fun t => val_main_v30 (F := Ideal) P (ix3 t 3 k)) one_bits sixteen_bits zero_bits (fun t => at30 P t 3 k) _

/-- The four groups' differences, stacked. -/
theorem at100 (t : Fin 4096) (g : Fin 4) (k : Fin 256) : (val_main_v100 (F := Ideal) P) (ix3 t g k) = dif P (win g) g k t := by
  fin_cases g
  · pointwise [val_main_v100, val_main_v96]
    exact at47 P hP t k
  · pointwise [val_main_v100, val_main_v97]
    exact at63 P hP t k
  · pointwise [val_main_v100, val_main_v98]
    exact at79 P hP t k
  · pointwise [val_main_v100, val_main_v99]
    exact at95 P hP t k

theorem at106 (t : Fin 4096) (g : Fin 4) (e : Fin 256) :
    (val_main_v106 (F := Ideal) P PW PS) (ix2 t ⟨256 * g + e, by omega⟩) = poolOut P PW PS g e t := by
  pointwise [val_main_v106, val_main_v105, val_main_v104, val_main_v103, val_main_v102, val_main_v101, poolOut]
  refine congrArg (fun x : EReal => x * PS (ix1 ⟨256 * g + e, by omega⟩)) (Finset.sum_congr rfl fun k _ => ?_)
  rw [at100 P hP]
  exact mul_comm _ _
end

theorem at23 (t : Fin 4096) (q : Fin 1024) : (val_main_v23 (F := Ideal) P) (ix2 t q) = gated P q t := by
  pointwise [val_main_v23, val_main_v7, val_main_v6, val_main_v5, val_main_v2, val_main_v3, val_main_v0]
  rfl

theorem at16 (t : Fin 4096) (q : Fin 1024) : (val_main_v16 (F := Ideal) P) (ix2 t q) = dn 1 (gated P q) t := by
  pointwise [val_main_v16, val_main_v7, val_main_v6, val_main_v5, val_main_v2, val_main_v3, val_main_v0]
  unfold dn
  by_cases h : 1 + t.val < 2
  · rw [dif_pos h, dif_neg (by omega)]
    exact zero_bits
  · rw [dif_neg h, dif_pos (by omega)]
    simp only [show 1 + t.val - 2 = t.val - 1 by omega]
    rfl

theorem at10 (t : Fin 4096) (q : Fin 1024) : (val_main_v10 (F := Ideal) P) (ix2 t q) = dn 2 (gated P q) t := by
  pointwise [val_main_v10, val_main_v7, val_main_v6, val_main_v5, val_main_v2, val_main_v3, val_main_v0]
  unfold dn
  by_cases h : t.val < 2
  · rw [dif_pos h, dif_neg (by omega)]
    exact zero_bits
  · rw [dif_neg h, dif_pos (by omega)]
    rfl

theorem at28 (t : Fin 4096) (q : Fin 1024) : (val_main_v28 (F := Ideal) P CW) (ix2 t q) = convOut P CW q t := by
  pointwise [val_main_v28, val_main_v27, val_main_v26, val_main_v25, val_main_v24, val_main_v22, val_main_v21, val_main_v20, val_main_v19, val_main_v18, val_main_v17, val_main_v15, val_main_v14, val_main_v13, val_main_v12, val_main_v11, val_main_v9, val_main_v8, val_main_v1, val_main_v0, convOut, dgate, gateIn]
  rw [at10, at16, at23]

theorem final108 (hP : ∀ g k t, Real? (pv P g k t)) : val_main_v108 (F := Ideal) P CW PW PS = mixed P CW PW PS := by
  funext i
  obtain ⟨t, q, rfl⟩ : ∃ (t : Fin 4096) (q : Fin 2048), i = ix2 t q := ⟨i 0, i 1, eq_ix2 i⟩
  have := q.isLt
  pointwise [val_main_v108, val_main_v107]
  by_cases h : q.val < 1024
  · rw [dif_pos h, at28]
    exact (mixed_conv P CW PW PS (ix2 t q) t ⟨q.val, h⟩ rfl rfl).symm
  · rw [dif_neg h]
    obtain ⟨g, e, hq⟩ : ∃ (g : Fin 4) (e : Fin 256), q.val - 1024 = 256 * g + e :=
      ⟨⟨(q.val - 1024) / 256, by omega⟩, ⟨(q.val - 1024) % 256, Nat.mod_lt _ (by norm_num)⟩, by dsimp only; omega⟩
    simp only [hq]
    rw [at106 P PW PS hP]
    exact (mixed_pool P CW PW PS (ix2 t q) t g e rfl (by dsimp only [ix2_1]; omega)).symm

section
variable [Cert.Pre_pool_input_finite.Facts]

theorem finite_pv (h : Cert.Pre_pool_input_finite.fn (F := Ideal) P CW PW PS = fun _ => 1#1) (g : Fin 4) (k : Fin 256) (t : Fin 4096) :
    Real? (pv P g k t) := by
  have := congrFun h (ix2 t ⟨256 * g + k, by omega⟩)
  pointwise [Cert.Pre_pool_input_finite.fn] at this
  exact real_of_lt this
end

end Cert.MixerRefIdeal.Final

/-- The facts the precondition's terms cite. -/
instance Cert.MixerIdeal.Final.pool_input_facts : Cert.Pre_pool_input_finite.Facts := by
  constructor <;> decide
-- ==== Proof.Val.Runs.lean ====
/-
  A sum kept over a run of grid points, which the run's last point does not write back to but reads.
-/
module

public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Runs

variable {N : Nat} {ι : Type}

/-- A run of four points: the last adds its own part to what the three before it left. -/
theorem last4 (f : (n : Nat) → n < N → ι → EReal) (part : Fin N → ι → EReal)
    (h0 : ∀ t : Fin N, t.val % 4 = 0 → ∀ i, f t.val t.isLt i = 0 + part t i)
    (hs : ∀ t : Fin N, ¬ t.val % 4 = 0 → t.val % 4 ≤ 2 → ∀ i,
      f t.val t.isLt i = f (t.val - 1) (Nat.lt_of_le_of_lt (Nat.sub_le _ _) t.isLt) i + part t i)
    (t : Fin N) (h : t.val % 4 = 3) (i : ι) :
    f (t.val - 1) (Nat.lt_of_le_of_lt (Nat.sub_le _ _) t.isLt) i + part t i
      = ∑ s : Fin 4, part ⟨4 * (t.val / 4) + s.val, by have := t.isLt; have := s.isLt; omega⟩ i := by
  have hN := t.isLt
  have e2 := hs ⟨t.val - 1, by omega⟩ (by dsimp only; omega) (by dsimp only; omega) i
  have e1 := hs ⟨t.val - 1 - 1, by omega⟩ (by dsimp only; omega) (by dsimp only; omega) i
  have e0 := h0 ⟨t.val - 1 - 1 - 1, by omega⟩ (by dsimp only; omega) i
  dsimp only at e2 e1 e0
  rw [e2, e1, e0, zero_add, Fin.sum_univ_four]
  have q3 : (⟨4 * (t.val / 4) + (3 : Fin 4).val, by simp; omega⟩ : Fin N) = t := Fin.ext (by simp; omega)
  have q2 : (⟨4 * (t.val / 4) + (2 : Fin 4).val, by simp; omega⟩ : Fin N) = ⟨t.val - 1, by omega⟩ := Fin.ext (by simp; omega)
  have q1 : (⟨4 * (t.val / 4) + (1 : Fin 4).val, by simp; omega⟩ : Fin N) = ⟨t.val - 1 - 1, by omega⟩ := Fin.ext (by simp; omega)
  have q0 : (⟨4 * (t.val / 4) + (0 : Fin 4).val, by simp; omega⟩ : Fin N) = ⟨t.val - 1 - 1 - 1, by omega⟩ := Fin.ext (by simp; omega)
  rw [q3, q2, q1, q0]

/-- A run of two points. -/
theorem last2 (f : (n : Nat) → n < N → ι → EReal) (part : Fin N → ι → EReal)
    (h0 : ∀ t : Fin N, t.val % 2 = 0 → ∀ i, f t.val t.isLt i = 0 + part t i)
    (t : Fin N) (h : t.val % 2 = 1) (i : ι) :
    f (t.val - 1) (Nat.lt_of_le_of_lt (Nat.sub_le _ _) t.isLt) i + part t i
      = ∑ s : Fin 2, part ⟨2 * (t.val / 2) + s.val, by have := t.isLt; have := s.isLt; omega⟩ i := by
  have hN := t.isLt
  have e0 := h0 ⟨t.val - 1, by omega⟩ (by dsimp only; omega) i
  dsimp only at e0
  rw [e0, zero_add, Fin.sum_univ_two]
  have q1 : (⟨2 * (t.val / 2) + (1 : Fin 2).val, by simp; omega⟩ : Fin N) = t := Fin.ext (by simp; omega)
  have q0 : (⟨2 * (t.val / 2) + (0 : Fin 2).val, by simp; omega⟩ : Fin N) = ⟨t.val - 1, by omega⟩ := Fin.ext (by simp; omega)
  rw [q1, q0]

end Cert.Runs
-- ==== Proof.Val.Down.lean ====
/-
  The second product of the feed-forward layer beside the residual: what the kernel leaves in its result array, and that the
  reference's lines give the same.
-/
module

public import proofs.«01_k».proof.Proof.Gen.DownIdeal.Value
public import proofs.«01_k».proof.Proof.Gen.DownRefIdeal.Read
public import proofs.«01_k».proof.Proof.Val.Runs
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.DownForm

/-- The product with the weights, added to the residual. -/
def out (S : FVec Ideal ⟨2, ![4096, 8192]⟩ .bf16) (W : FVec Ideal ⟨2, ![8192, 2048]⟩ .bf16) (X : FVec Ideal ⟨2, ![4096, 2048]⟩ .f32) :
    FVec Ideal ⟨2, ![4096, 2048]⟩ .f32 :=
  fun i => (show EReal from X i) + ∑ k : Fin 8192, (show EReal from S (ix2 (i 0) k)) * W (ix2 k (i 1))

end Cert.DownForm

namespace Cert.DownIdeal.Final

open Cert.DownIdeal Cert.DownIdeal.Gen Cert.DownForm

variable (m : (ℓ : Loc nD τ sig) → Buf (Elt Ideal) ℓ)

/-- Each window's block index at a point of the grid. -/
theorem idx : ∀ t : Fin cfg0.N, win0_0.index t = ![t.val / 8, t.val % 4] ∧ win0_1.index t = ![0, t.val % 4, t.val / 4 % 2]
    ∧ win0_2.index t = ![t.val / 8, t.val / 4 % 2] ∧ win0_3.index t = ![t.val / 8, t.val / 4 % 2] :=
  (by decide +kernel : ∀ t : Fin grid0.N, _)

theorem lt32 (t : Fin cfg0.N) : t.val < 32 := lt_of_lt_of_eq t.isLt N_0

/-- The array row and column of an index of the block, and the columns of the left operand that a point reads. -/
abbrev rowOf (t : Fin cfg0.N) (y : S1024x1024.Idx) : Fin 4096 :=
  ⟨t.val / 8 * 1024 + (y 0).val, by have := lt32 t; have h : (y 0).val < 1024 := (y 0).isLt; omega⟩
abbrev colOf (t : Fin cfg0.N) (y : S1024x1024.Idx) : Fin 2048 :=
  ⟨t.val / 4 % 2 * 1024 + (y 1).val, by have h : (y 1).val < 1024 := (y 1).isLt; omega⟩
abbrev midOf (t : Fin cfg0.N) (k : Fin 2048) : Fin 8192 := ⟨t.val % 4 * 2048 + k.val, by omega⟩

/-- What a point adds at an index of the block: its share of the sum over the columns of the left operand. -/
abbrev part (c : Dev nD) (t : Fin cfg0.N) (y : S1024x1024.Idx) : EReal :=
  ∑ k : Fin 2048, (show EReal from m ((c : Thread nD τ).loc main_arg0) (ix2 (rowOf t y) (midOf t k)))
    * m ((c : Thread nD τ).loc main_arg1) (ix2 (midOf t k) (colOf t y))

theorem pay2 (c : Dev nD) (t : Fin cfg0.N) (a : Vec Ideal S1024x1024 .f32) (y : S1024x1024.Idx) :
    k0_pay2 (F := Ideal) a (iblk m c 0 t) (iblk m c 1 t) y = (show EReal from a y) + part m c t y := by
  pointwise [k0_pay2, part]
  blk_point [iblk, V, idx t]

theorem scratchA (c : Dev nD) (t : Fin cfg0.N) (h : t.val % 4 = 0) (y : S1024x1024.Idx) :
    (outsAt0 m c t.val t.isLt).2 y = 0 + part m c t y := by
  rw [outsAt0_A m c t h (by omega) (by omega)]
  frame_out
  rw [pay2]
  pointwise [k0_pay1]

theorem scratchB (c : Dev nD) (t : Fin cfg0.N) (h : ¬ t.val % 4 = 0) (h2 : t.val % 4 ≤ 2) (y : S1024x1024.Idx) :
    (outsAt0 m c t.val t.isLt).2 y = (outsAt0 m c (t.val - 1) (Nat.lt_of_le_of_lt (Nat.sub_le _ _) t.isLt)).2 y + part m c t y := by
  rw [outsAt0_B m c t h h2 (by omega)]
  frame_out
  simp only [read_unread_whole]
  exact pay2 m c t _ y

theorem lt_run (t : Fin cfg0.N) (s : Fin 4) : 4 * (t.val / 4) + s.val < cfg0.N :=
  lt_of_lt_of_eq (by have := lt32 t; have := s.isLt; omega : _ < 32) N_0.symm

/-- The parts of a run's points are the whole sum. -/
theorem sum_part (c : Dev nD) (t : Fin cfg0.N) (y : S1024x1024.Idx) :
    ∑ s : Fin 4, part m c ⟨4 * (t.val / 4) + s.val, lt_run t s⟩ y
      = ∑ k : Fin 8192, (show EReal from m ((c : Thread nD τ).loc main_arg0) (ix2 (rowOf t y) k))
        * m ((c : Thread nD τ).loc main_arg1) (ix2 k (colOf t y)) := by
  refine Fin.sum_mul_add_congr (S := 4) (n := 2048) fun s k hl => ?_
  have hs := s.isLt
  have ht := lt32 t
  have e0 : rowOf ⟨4 * (t.val / 4) + s.val, lt_run t s⟩ y = rowOf t y := Fin.ext (by dsimp only; omega)
  have e1 : colOf ⟨4 * (t.val / 4) + s.val, lt_run t s⟩ y = colOf t y := Fin.ext (by dsimp only; omega)
  have e2 : midOf ⟨4 * (t.val / 4) + s.val, lt_run t s⟩ k = ⟨s.val * 2048 + k.val, hl⟩ :=
    Fin.ext (by dsimp only; omega)
  rw [e0, e1, e2]

theorem point3 (c : Dev nD) (t : Fin cfg0.N) (h : t.val % 4 = 3) (y : S1024x1024.Idx) :
    (outsAt0 m c t.val t.isLt).1 y = out (m ((c : Thread nD τ).loc main_arg0)) (m ((c : Thread nD τ).loc main_arg1))
      (m ((c : Thread nD τ).loc main_arg2)) (((cfg0.win 3).blk t).view.emb y) := by
  rw [outsAt0_C m c t (by omega) (by omega) h]
  frame_out
  simp only [read_unread_whole]
  have e := (Runs.last4 (fun n h => (outsAt0 m c n h).2) (part m c) (scratchA m c) (scratchB m c) t h y).trans (sum_part m c t y)
  rw [← pay2 m c t _ y] at e
  trans (show EReal from k0_pay2 (F := Ideal) (outsAt0 m c (t.val - 1) (Nat.lt_of_le_of_lt (Nat.sub_le _ _) t.isLt)).2
    (iblk m c 0 t) (iblk m c 1 t) y) + (show EReal from iblk m c 2 t y)
  · pointwise [k0_pay3, k0_pay2]
  rw [e, add_comm]
  pointwise [out]
  blk_point [iblk, V, idx t]

theorem final3 (c : Dev nD) : (dats m 0 c).arrAt 3 (cfgs 0).N
    = out (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  exact point3 m c t ((flush0_3 t).mp hf) y

end Cert.DownIdeal.Final

namespace Cert.DownRefIdeal.Final

open Cert.DownRefIdeal.Read Cert.DownForm

theorem final3 (S : FVec Ideal ⟨2, ![4096, 8192]⟩ .bf16) (W : FVec Ideal ⟨2, ![8192, 2048]⟩ .bf16) (X : FVec Ideal ⟨2, ![4096, 2048]⟩ .f32) :
    val_main_v3 (F := Ideal) S W X = out S W X := by
  funext i; rw [eq_ix2 i]
  pointwise [val_main_v3, val_main_v2, val_main_v1, val_main_v0, out]

end Cert.DownRefIdeal.Final
-- ==== Proof.Val.UpDx.lean ====
/-
  The gradient of the feed-forward layer's first product with respect to its left operand: what the kernel leaves in its
  result array, and that the reference's lines give the same.
-/
module

public import proofs.«01_k».proof.Proof.Gen.UpDxIdeal.Value
public import proofs.«01_k».proof.Proof.Gen.UpDxRefIdeal.Read
public import proofs.«01_k».proof.Proof.Val.Runs
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.UpDxForm

/-- The product with the transposed weights. -/
def dx (D : FVec Ideal ⟨2, ![4096, 8192]⟩ .bf16) (W : FVec Ideal ⟨2, ![2048, 8192]⟩ .bf16) : FVec Ideal ⟨2, ![4096, 2048]⟩ .bf16 :=
  fun i => ∑ k : Fin 8192, (show EReal from D (ix2 (i 0) k)) * W (ix2 (i 1) k)

end Cert.UpDxForm

namespace Cert.UpDxIdeal.Final

open Cert.UpDxIdeal Cert.UpDxIdeal.Gen Cert.UpDxForm

variable (m : (ℓ : Loc nD τ sig) → Buf (Elt Ideal) ℓ)

/-- Each window's block index at a point of the grid. -/
theorem idx : ∀ t : Fin cfg0.N, win0_0.index t = ![t.val / 8, t.val % 4] ∧ win0_1.index t = ![t.val % 4, t.val / 4 % 2, 0]
    ∧ win0_2.index t = ![t.val / 8, t.val / 4 % 2] :=
  (by decide +kernel : ∀ t : Fin grid0.N, _)

theorem lt32 (t : Fin cfg0.N) : t.val < 32 := lt_of_lt_of_eq t.isLt N_0

/-- The array row and column of an index of the block, and the columns that a point reads of both operands, in two halves. -/
abbrev rowOf (t : Fin cfg0.N) (y : S1024x1024.Idx) : Fin 4096 :=
  ⟨t.val / 8 * 1024 + (y 0).val, by have := lt32 t; have h : (y 0).val < 1024 := (y 0).isLt; omega⟩
abbrev colOf (t : Fin cfg0.N) (y : S1024x1024.Idx) : Fin 2048 :=
  ⟨t.val / 4 % 2 * 1024 + (y 1).val, by have h : (y 1).val < 1024 := (y 1).isLt; omega⟩
abbrev midOf (t : Fin cfg0.N) (k : Fin 1024) : Fin 8192 := ⟨t.val % 4 * 2048 + k.val, by omega⟩
abbrev midOf' (t : Fin cfg0.N) (k : Fin 1024) : Fin 8192 := ⟨t.val % 4 * 2048 + (1024 + k.val), by omega⟩

/-- One product at an index of the block, at one of the columns. -/
abbrev prod (c : Dev nD) (t : Fin cfg0.N) (y : S1024x1024.Idx) (k : Fin 8192) : EReal :=
  (show EReal from m ((c : Thread nD τ).loc main_arg0) (ix2 (rowOf t y) k)) * m ((c : Thread nD τ).loc main_arg1) (ix2 (colOf t y) k)

/-- What a point adds at an index of the block: its share of the sum over the columns. -/
abbrev part (c : Dev nD) (t : Fin cfg0.N) (y : S1024x1024.Idx) : EReal :=
  ∑ k : Fin 1024, prod m c t y (midOf t k) + ∑ k : Fin 1024, prod m c t y (midOf' t k)

/-- The halves of a point's blocks, in the order in which the body reads them. -/
abbrev lhs (c : Dev nD) (t : Fin cfg0.N) : Vec Ideal S1024x1024 .bf16 :=
  View.ld (iblk m c 0 t) (Rect.unit ![0, 0] ![1024, 1024] inb_S1024x2048_S1024x1024_0_0)
abbrev rhs (c : Dev nD) (t : Fin cfg0.N) : Vec Ideal S1x1024x1024 .bf16 :=
  View.ld (iblk m c 1 t) (Rect.unit ![0, 0, 0] ![1, 1024, 1024] inb_S2x1024x1024_S1x1024x1024_0_0_0)
abbrev lhs' (c : Dev nD) (t : Fin cfg0.N) : Vec Ideal S1024x1024 .bf16 :=
  View.ld (iblk m c 0 t) (Rect.unit ![0, 1024] ![1024, 1024] inb_S1024x2048_S1024x1024_0_1024)
abbrev rhs' (c : Dev nD) (t : Fin cfg0.N) : Vec Ideal S1x1024x1024 .bf16 :=
  View.ld (iblk m c 1 t) (Rect.unit ![1, 0, 0] ![1, 1024, 1024] inb_S2x1024x1024_S1x1024x1024_1_0_0)

theorem pay2 (c : Dev nD) (t : Fin cfg0.N) (a : Vec Ideal S1024x1024 .f32) (y : S1024x1024.Idx) :
    k0_pay2 (F := Ideal) a (lhs m c t) (rhs m c t) (lhs' m c t) (rhs' m c t) y = (show EReal from a y) + part m c t y := by
  pointwise [k0_pay2, part, prod, lhs, rhs, lhs', rhs']
  blk_point [iblk, V, idx t]

theorem scratchA (c : Dev nD) (t : Fin cfg0.N) (h : t.val % 4 = 0) (y : S1024x1024.Idx) :
    (outsAt0 m c t.val t.isLt).2 y = 0 + part m c t y := by
  rw [outsAt0_A m c t h (by omega) (by omega)]
  frame_out
  exact (pay2 m c t _ y).trans (congrArg (· + part m c t y) (by pointwise [k0_pay1]))

theorem scratchB (c : Dev nD) (t : Fin cfg0.N) (h : ¬ t.val % 4 = 0) (h2 : t.val % 4 ≤ 2) (y : S1024x1024.Idx) :
    (outsAt0 m c t.val t.isLt).2 y = (outsAt0 m c (t.val - 1) (Nat.lt_of_le_of_lt (Nat.sub_le _ _) t.isLt)).2 y + part m c t y := by
  rw [outsAt0_B m c t h h2 (by omega)]
  frame_out
  simp only [read_unread_whole]
  exact pay2 m c t _ y

theorem lt_run (t : Fin cfg0.N) (s : Fin 4) : 4 * (t.val / 4) + s.val < cfg0.N :=
  lt_of_lt_of_eq (by have := lt32 t; have := s.isLt; omega : _ < 32) N_0.symm

/-- The share of a point is the sum over all the columns that it reads. -/
theorem part_eq (c : Dev nD) (t : Fin cfg0.N) (y : S1024x1024.Idx) :
    part m c t y = ∑ k : Fin 2048, prod m c t y ⟨t.val % 4 * 2048 + k.val, by omega⟩ := by
  refine Eq.trans ?_ (Fin.sum_mul_add_congr (S := 2) (n := 1024)
    (F := fun r k => prod m c t y ⟨t.val % 4 * 2048 + (r.val * 1024 + k.val), by omega⟩) fun r k hl => rfl)
  rw [Fin.sum_univ_two]
  exact congrArg₂ (· + ·) (Finset.sum_congr rfl fun k _ => congrArg (prod m c t y) (Fin.ext (by simp)))
    (Finset.sum_congr rfl fun k _ => congrArg (prod m c t y) (Fin.ext (by simp)))

/-- The parts of a run's points are the whole sum. -/
theorem sum_part (c : Dev nD) (t : Fin cfg0.N) (y : S1024x1024.Idx) :
    ∑ s : Fin 4, part m c ⟨4 * (t.val / 4) + s.val, lt_run t s⟩ y = ∑ k : Fin 8192, prod m c t y k := by
  simp only [part_eq]
  refine Fin.sum_mul_add_congr (S := 4) (n := 2048) fun s k hl => ?_
  have hs := s.isLt
  have ht := lt32 t
  have e0 : rowOf ⟨4 * (t.val / 4) + s.val, lt_run t s⟩ y = rowOf t y := Fin.ext (by dsimp only; omega)
  have e1 : colOf ⟨4 * (t.val / 4) + s.val, lt_run t s⟩ y = colOf t y := Fin.ext (by dsimp only; omega)
  have e2 : (⟨(4 * (t.val / 4) + s.val) % 4 * 2048 + k.val, by omega⟩ : Fin 8192) = ⟨s.val * 2048 + k.val, hl⟩ :=
    Fin.ext (by dsimp only; omega)
  dsimp only [prod]
  rw [e0, e1, e2]

theorem point2 (c : Dev nD) (t : Fin cfg0.N) (h : t.val % 4 = 3) (y : S1024x1024.Idx) :
    (outsAt0 m c t.val t.isLt).1 y = dx (m ((c : Thread nD τ).loc main_arg0)) (m ((c : Thread nD τ).loc main_arg1))
      (((cfg0.win 2).blk t).view.emb y) := by
  rw [outsAt0_C m c t (by omega) (by omega) h]
  frame_out
  simp only [read_unread_whole]
  have e := (Runs.last4 (fun n h => (outsAt0 m c n h).2) (part m c) (scratchA m c) (scratchB m c) t h y).trans (sum_part m c t y)
  rw [← pay2 m c t _ y] at e
  refine Eq.trans ?_ (e.trans ?_)
  · pointwise [k0_pay3, k0_pay2, lhs, rhs, lhs', rhs']
  · pointwise [dx, prod]
    blk_point [iblk, V, idx t]

theorem final2 (c : Dev nD) : (dats m 0 c).arrAt 2 (cfgs 0).N
    = dx (m ((c : Thread nD τ).loc main_arg0)) (m ((c : Thread nD τ).loc main_arg1)) := by
  refine (dats m 0 c).arrAt_eq_of_covers 2 _ (by decide +kernel) fun t hf y => ?_
  blk_simp
  rw [after0_2]
  exact point2 m c t ((flush0_2 t).mp hf) y

end Cert.UpDxIdeal.Final

namespace Cert.UpDxRefIdeal.Final

open Cert.UpDxRefIdeal.Read Cert.UpDxForm

theorem final6 (D : FVec Ideal ⟨2, ![4096, 8192]⟩ .bf16) (W : FVec Ideal ⟨2, ![2048, 8192]⟩ .bf16) :
    val_main_v6 (F := Ideal) D W = dx D W := by
  funext i; rw [eq_ix2 i]
  pointwise [val_main_v6, val_main_v5, val_main_v4, val_main_v2, dx]

end Cert.UpDxRefIdeal.Final
-- ==== Proof.Val.DownDw.lean ====
/-
  The gradient of the feed-forward layer's second product with respect to its weights: what the kernel leaves in its
  result array, and that the reference's lines give the same.
-/
module

public import proofs.«01_k».proof.Proof.Gen.DownDwIdeal.Value
public import proofs.«01_k».proof.Proof.Gen.DownDwRefIdeal.Read
public import proofs.«01_k».proof.Proof.Val.Runs
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.DownDwForm

/-- The sum over the tokens of the products of the left operand and the gradient, one leading axis of extent one. -/
def dw (S : FVec Ideal ⟨2, ![4096, 8192]⟩ .bf16) (D : FVec Ideal ⟨2, ![4096, 2048]⟩ .bf16) : FVec Ideal ⟨3, ![1, 8192, 2048]⟩ .bf16 :=
  fun i => ∑ l : Fin 4096, (show EReal from S (ix2 l (i 1))) * D (ix2 l (i 2))

end Cert.DownDwForm

namespace Cert.DownDwIdeal.Final

open Cert.DownDwIdeal Cert.DownDwIdeal.Gen Cert.DownDwForm

variable (m : (ℓ : Loc nD τ sig) → Buf (Elt Ideal) ℓ)

/-- Each window's block index at a point of the grid. -/
theorem idx : ∀ t : Fin cfg0.N, win0_0.index t = ![t.val % 2, t.val / 4] ∧ win0_1.index t = ![t.val % 2, t.val / 2 % 2]
    ∧ win0_2.index t = ![0, t.val / 4, t.val / 2 % 2] :=
  (by decide +kernel : ∀ t : Fin grid0.N, _)

theorem lt32 (t : Fin cfg0.N) : t.val < 32 := lt_of_lt_of_eq t.isLt N_0

/-- The array row and column of an index of the block. -/
abbrev rowOf (t : Fin cfg0.N) (y : S1024x1024.Idx) : Fin 8192 :=
  ⟨t.val / 4 * 1024 + (y 0).val, by have := lt32 t; have h : (y 0).val < 1024 := (y 0).isLt; omega⟩
abbrev colOf (t : Fin cfg0.N) (y : S1024x1024.Idx) : Fin 2048 :=
  ⟨t.val / 2 % 2 * 1024 + (y 1).val, by have h : (y 1).val < 1024 := (y 1).isLt; omega⟩

/-- One product at an index of the block, at one of the tokens. -/
abbrev prod (c : Dev nD) (t : Fin cfg0.N) (y : S1024x1024.Idx) (l : Fin 4096) : EReal :=
  (show EReal from m ((c : Thread nD τ).loc main_arg0) (ix2 l (rowOf t y))) * m ((c : Thread nD τ).loc main_arg1) (ix2 l (colOf t y))

/-- What a point adds at an index of the block: its share of the sum over the tokens. -/
abbrev part (c : Dev nD) (t : Fin cfg0.N) (y : S1024x1024.Idx) : EReal :=
  ∑ k : Fin 2048, prod m c t y ⟨t.val % 2 * 2048 + k.val, by omega⟩

theorem pay2 (c : Dev nD) (t : Fin cfg0.N) (a : Vec Ideal S1024x1024 .f32) (y : S1024x1024.Idx) :
    k0_pay2 (F := Ideal) a (iblk m c 0 t) (iblk m c 1 t) y = (show EReal from a y) + part m c t y := by
  pointwise [k0_pay2, part, prod]
  blk_point [iblk, V, idx t]

theorem scratchA (c : Dev nD) (t : Fin cfg0.N) (h : t.val % 2 = 0) (y : S1024x1024.Idx) :
    (outsAt0 m c t.val t.isLt).2 y = 0 + part m c t y := by
  rw [outsAt0_A m c t h h (by omega)]
  frame_out
  rw [pay2]
  pointwise [k0_pay1]

theorem lt_run (t : Fin cfg0.N) (s : Fin 2) : 2 * (t.val / 2) + s.val < cfg0.N :=
  lt_of_lt_of_eq (by have := lt32 t; have := s.isLt; omega : _ < 32) N_0.symm

/-- The parts of a run's points are the whole sum. -/
theorem sum_part (c : Dev nD) (t : Fin cfg0.N) (y : S1024x1024.Idx) :
    ∑ s : Fin 2, part m c ⟨2 * (t.val / 2) + s.val, lt_run t s⟩ y = ∑ l : Fin 4096, prod m c t y l := by
  refine Fin.sum_mul_add_congr (S := 2) (n := 2048) fun s k hl => ?_
  have hs := s.isLt
  have ht := lt32 t
  have e0 : rowOf ⟨2 * (t.val / 2) + s.val, lt_run t s⟩ y = rowOf t y := Fin.ext (by dsimp only; omega)
  have e1 : colOf ⟨2 * (t.val / 2) + s.val, lt_run t s⟩ y = colOf t y := Fin.ext (by dsimp only; omega)
  have e2 : (⟨(2 * (t.val / 2) + s.val) % 2 * 2048 + k.val, by omega⟩ : Fin 4096) = ⟨s.val * 2048 + k.val, hl⟩ :=
    Fin.ext (by dsimp only; omega)
  dsimp only [prod]
  rw [e0, e1, e2]

theorem point2 (c : Dev nD) (t : Fin cfg0.N) (h : t.val % 2 = 1) (y : S1x1024x1024.Idx) :
    (outsAt0 m c t.val t.isLt).1 y = dw (m ((c : Thread nD τ).loc main_arg0)) (m ((c : Thread nD τ).loc main_arg1))
      (((cfg0.win 2).blk t).view.emb y) := by
  rw [outsAt0_B m c t (by omega) (by omega) h]
  frame_out
  simp only [read_unread_whole]
  have e := (Runs.last2 (fun n h => (outsAt0 m c n h).2) (part m c) (scratchA m c) t h (ix2 (y 1) (y 2))).trans (sum_part m c t _)
  rw [← pay2 m c t _ _] at e
  refine Eq.trans ?_ (e.trans ?_)
  · pointwise [k0_pay3, k0_pay2]
  · pointwise [dw, prod]
    blk_point [iblk, V, idx t] <;> rfl

theorem final2 (c : Dev nD) : (dats m 0 c).arrAt 2 (cfgs 0).N
    = dw (m ((c : Thread nD τ).loc main_arg0)) (m ((c : Thread nD τ).loc main_arg1)) := by
  refine (dats m 0 c).arrAt_eq_of_covers 2 _ (by decide +kernel) fun t hf y => ?_
  blk_simp
  rw [after0_2]
  exact point2 m c t ((flush0_2 t).mp hf) y

end Cert.DownDwIdeal.Final

namespace Cert.DownDwRefIdeal.Final

open Cert.DownDwRefIdeal.Read Cert.DownDwForm

theorem final8 (S : FVec Ideal ⟨2, ![4096, 8192]⟩ .bf16) (D : FVec Ideal ⟨2, ![4096, 2048]⟩ .bf16) :
    val_main_v8 (F := Ideal) S D = dw S D := by
  funext i; rw [eq_ix3 i]
  pointwise [val_main_v8, val_main_v7, val_main_v6, val_main_v5, val_main_v4, val_main_v1, dw]
  exact Finset.sum_congr rfl fun x _ => mul_comm _ _

end Cert.DownDwRefIdeal.Final
-- ==== Proof.Val.Adamw.lean ====
/-
  The optimiser's step on one array: what the kernel leaves in its four result arrays, and that the reference's lines give
  the same.
-/
module

public import proofs.«01_k».proof.Proof.Gen.AdamwIdeal.Frame
public import proofs.«01_k».proof.Proof.Gen.AdamwRefIdeal.Read
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.AdamwForm

variable (P : FVec Ideal ⟨3, ![8, 4, 2048]⟩ .f32) (W M V : FVec Ideal ⟨2, ![4, 2048]⟩ .f32)

/-- The gradient: the sum of the eight devices' parts. -/
def sum8 (a : Fin 4) (b : Fin 2048) : EReal := ∑ s : Fin 8, P (ix3 s a b)

/-- The new first moment. -/
def mom (a : Fin 4) (b : Fin 2048) : EReal :=
  Ideal.ofBits .f32 0x3F666666#32 * M (ix2 a b) + Ideal.ofBits .f32 0x3DCCCCCD#32 * sum8 P a b

/-- The new second moment. -/
def vel (a : Fin 4) (b : Fin 2048) : EReal :=
  Ideal.ofBits .f32 0x3F7FBE77#32 * V (ix2 a b) + Ideal.ofBits .f32 0x3A83126F#32 * (sum8 P a b * sum8 P a b)

/-- What the step adds to the weight. -/
def step (a : Fin 4) (b : Fin 2048) : EReal :=
  Ideal.ofBits .f32 0xBA83126F#32
    * (Ideal.div (Ideal.div (mom P M a b) (Ideal.ofBits .f32 0x3F26BD02#32))
        (Ideal.sqrt (Ideal.div (vel P V a b) (Ideal.ofBits .f32 0x3C231ACC#32)) + Ideal.ofBits .f32 0x322BCC77#32)
      + Ideal.ofBits .f32 0x3C23D70A#32 * W (ix2 a b))

/-- The four results as arrays. -/
def gradA : FVec Ideal ⟨3, ![1, 4, 2048]⟩ .f32 := fun i => sum8 P (i 1) (i 2)
def momA : FVec Ideal ⟨3, ![1, 4, 2048]⟩ .f32 := fun i => mom P M (i 1) (i 2)
def velA : FVec Ideal ⟨3, ![1, 4, 2048]⟩ .f32 := fun i => vel P V (i 1) (i 2)
def stepA : FVec Ideal ⟨3, ![1, 4, 2048]⟩ .f32 := fun i => step P W M V (i 1) (i 2)

end Cert.AdamwForm

namespace Cert.AdamwIdeal.Final

open Cert.AdamwIdeal Cert.AdamwIdeal.Gen Cert.AdamwForm

variable (m : (ℓ : Loc nD τ sig) → Buf (Elt Ideal) ℓ) (hO : Ok m)

/-- The one point of the grid. -/
abbrev pt : Fin (cfgM m hO).N := t0_0

theorem coord (i : Fin 1) : (BitVec.ofNat 32 i.val).toNat = 0 := by
  obtain rfl : i = 0 := Subsingleton.elim _ _; rfl

theorem idx0 (t : Fin (cfgM m hO).N) : ((cfgM m hO).win 0).index t = ![0, 0, 0] :=
  congrArg (fun a : Nat => ![0, a, 0]) (coord (grid0.coords t 0))
theorem idx1 (t : Fin (cfgM m hO).N) : ((cfgM m hO).win 1).index t = ![0, 0, 0] :=
  congrArg (fun a : Nat => ![0, a, 0]) (coord (grid0.coords t 0))
theorem idx2 (t : Fin (cfgM m hO).N) : ((cfgM m hO).win 2).index t = ![0, 0, 0] :=
  congrArg (fun a : Nat => ![0, a, 0]) (coord (grid0.coords t 0))
theorem idx3 (t : Fin (cfgM m hO).N) : ((cfgM m hO).win 3).index t = ![0, 0, 0] :=
  congrArg (fun a : Nat => ![0, a, 0]) (coord (grid0.coords t 0))
theorem idx4 (t : Fin (cfgM m hO).N) : ((cfgM m hO).win 4).index t = ![0, 0, 0] :=
  congrArg (fun a : Nat => ![0, a, 0]) (coord (grid0.coords t 0))
theorem idx5 (t : Fin (cfgM m hO).N) : ((cfgM m hO).win 5).index t = ![0, 0, 0] :=
  congrArg (fun a : Nat => ![0, a, 0]) (coord (grid0.coords t 0))
theorem idx6 (t : Fin (cfgM m hO).N) : ((cfgM m hO).win 6).index t = ![0, 0, 0] :=
  congrArg (fun a : Nat => ![0, a, 0]) (coord (grid0.coords t 0))
theorem idx7 (t : Fin (cfgM m hO).N) : ((cfgM m hO).win 7).index t = ![0, 0, 0] :=
  congrArg (fun a : Nat => ![0, a, 0]) (coord (grid0.coords t 0))

/-- An index whose three entries are all zero is zero at each axis. -/
theorem zero3 (a : Fin 3) : (![0, 0, 0] : Fin 3 → Nat) a = 0 := by
  match a with | 0 => rfl | 1 => rfl | 2 => rfl

theorem whole4 : ((cfgM m hO).win 4).WholeAt (pt m hO) :=
  ⟨flush0_4 _ _, fun t _ => fin_N0 t, fun a => ⟨(congrFun (idx4 m hO _) a).trans (zero3 a), rfl⟩⟩
theorem whole5 : ((cfgM m hO).win 5).WholeAt (pt m hO) :=
  ⟨flush0_5 _ _, fun t _ => fin_N0 t, fun a => ⟨(congrFun (idx5 m hO _) a).trans (zero3 a), rfl⟩⟩
theorem whole6 : ((cfgM m hO).win 6).WholeAt (pt m hO) :=
  ⟨flush0_6 _ _, fun t _ => fin_N0 t, fun a => ⟨(congrFun (idx6 m hO _) a).trans (zero3 a), rfl⟩⟩
theorem whole7 : ((cfgM m hO).win 7).WholeAt (pt m hO) :=
  ⟨flush0_7 _ _, fun t _ => fin_N0 t, fun a => ⟨(congrFun (idx7 m hO _) a).trans (zero3 a), rfl⟩⟩

theorem read0 (c : Dev nD) (t : Fin (cfgM m hO).N) (s : Fin 8) (a : Fin 4) (b : Fin 2048) :
    iblk m hO c 0 t (ix3 s a b) = m ((c : Thread nD τ).loc main_arg1) (ix3 s a b) := by
  have e : (((cfgM m hO).win 0).blk t).view.emb (ix3 s a b) = (ix3 s a b : S8x4x2048.Idx) := by
    funext k; apply Fin.ext
    exact Pipeline.Window.rect_emb_val_of_index_zero ((cfgM m hO).win 0) t k
      ((congrFun (idx0 m hO t) k).trans (zero3 k)) (ix3 s a b)
  unfold iblk
  refine (congrArg (V m c (Pipeline.arrRef spec0 0)) e).trans ?_
  exact congrFun (V_main_arg1 m c) _

theorem read1 (c : Dev nD) (t : Fin (cfgM m hO).N) (a : Fin 4) (b : Fin 2048) :
    iblk m hO c 1 t (ix3 0 a b) = m ((c : Thread nD τ).loc main_arg2) (ix2 a b) := by
  have e : (((cfgM m hO).win 1).blk t).view.emb (ix3 0 a b) = (ix3 0 a b : S1x4x2048.Idx) := by
    funext k; apply Fin.ext
    exact Pipeline.Window.rect_emb_val_of_index_zero ((cfgM m hO).win 1) t k
      ((congrFun (idx1 m hO t) k).trans (zero3 k)) (ix3 0 a b)
  unfold iblk
  refine (congrArg (V m c (Pipeline.arrRef spec0 1)) e).trans ?_
  show V m c main_v0 (ix3 0 a b) = _
  unfold V
  after_results_simp
  pointwise

theorem read2 (c : Dev nD) (t : Fin (cfgM m hO).N) (a : Fin 4) (b : Fin 2048) :
    iblk m hO c 2 t (ix3 0 a b) = m ((c : Thread nD τ).loc main_arg3) (ix2 a b) := by
  have e : (((cfgM m hO).win 2).blk t).view.emb (ix3 0 a b) = (ix3 0 a b : S1x4x2048.Idx) := by
    funext k; apply Fin.ext
    exact Pipeline.Window.rect_emb_val_of_index_zero ((cfgM m hO).win 2) t k
      ((congrFun (idx2 m hO t) k).trans (zero3 k)) (ix3 0 a b)
  unfold iblk
  refine (congrArg (V m c (Pipeline.arrRef spec0 2)) e).trans ?_
  show V m c main_v1 (ix3 0 a b) = _
  unfold V
  after_results_simp
  pointwise

theorem read3 (c : Dev nD) (t : Fin (cfgM m hO).N) (a : Fin 4) (b : Fin 2048) :
    iblk m hO c 3 t (ix3 0 a b) = m ((c : Thread nD τ).loc main_arg4) (ix2 a b) := by
  have e : (((cfgM m hO).win 3).blk t).view.emb (ix3 0 a b) = (ix3 0 a b : S1x4x2048.Idx) := by
    funext k; apply Fin.ext
    exact Pipeline.Window.rect_emb_val_of_index_zero ((cfgM m hO).win 3) t k
      ((congrFun (idx3 m hO t) k).trans (zero3 k)) (ix3 0 a b)
  unfold iblk
  refine (congrArg (V m c (Pipeline.arrRef spec0 3)) e).trans ?_
  show V m c main_v2 (ix3 0 a b) = _
  unfold V
  after_results_simp
  pointwise

/-- An index of a one-row array, by its two other coordinates. -/
theorem at_row (i : S1x4x2048.Idx) : i = ix3 0 (i 1) (i 2) := by
  have h : i 0 = (0 : Fin 1) := Subsingleton.elim (α := Fin 1) _ _
  funext a; match a with | 0 => exact h | 1 => rfl | 2 => rfl

section Payloads

variable (B : Vec Ideal S8x4x2048 .f32) (B1 B2 B3 : Vec Ideal S1x4x2048 .f32)
variable (P : FVec Ideal S8x4x2048 .f32) (W M V : FVec Ideal S4x2048 .f32)

/-- The sum of the eight parts as the kernel forms it. -/
abbrev sumB : FVec Ideal S4x2048 .f32 :=
  k0_pay2 (View.ld B (Rect.unit ![0, 0, 0] ![1, 4, 2048] inb_S8x4x2048_S1x4x2048_0_0_0))
    (View.ld B (Rect.unit ![1, 0, 0] ![1, 4, 2048] inb_S8x4x2048_S1x4x2048_1_0_0))
    (View.ld B (Rect.unit ![2, 0, 0] ![1, 4, 2048] inb_S8x4x2048_S1x4x2048_2_0_0))
    (View.ld B (Rect.unit ![3, 0, 0] ![1, 4, 2048] inb_S8x4x2048_S1x4x2048_3_0_0))
    (View.ld B (Rect.unit ![4, 0, 0] ![1, 4, 2048] inb_S8x4x2048_S1x4x2048_4_0_0))
    (View.ld B (Rect.unit ![5, 0, 0] ![1, 4, 2048] inb_S8x4x2048_S1x4x2048_5_0_0))
    (View.ld B (Rect.unit ![6, 0, 0] ![1, 4, 2048] inb_S8x4x2048_S1x4x2048_6_0_0))
    (View.ld B (Rect.unit ![7, 0, 0] ![1, 4, 2048] inb_S8x4x2048_S1x4x2048_7_0_0))

/-- The new first moment as the kernel forms it. -/
abbrev momB : FVec Ideal S4x2048 .f32 :=
  k0_pay3 (View.ld B (Rect.unit ![0, 0, 0] ![1, 4, 2048] inb_S8x4x2048_S1x4x2048_0_0_0))
    (View.ld B (Rect.unit ![1, 0, 0] ![1, 4, 2048] inb_S8x4x2048_S1x4x2048_1_0_0))
    (View.ld B (Rect.unit ![2, 0, 0] ![1, 4, 2048] inb_S8x4x2048_S1x4x2048_2_0_0))
    (View.ld B (Rect.unit ![3, 0, 0] ![1, 4, 2048] inb_S8x4x2048_S1x4x2048_3_0_0))
    (View.ld B (Rect.unit ![4, 0, 0] ![1, 4, 2048] inb_S8x4x2048_S1x4x2048_4_0_0))
    (View.ld B (Rect.unit ![5, 0, 0] ![1, 4, 2048] inb_S8x4x2048_S1x4x2048_5_0_0))
    (View.ld B (Rect.unit ![6, 0, 0] ![1, 4, 2048] inb_S8x4x2048_S1x4x2048_6_0_0))
    (View.ld B (Rect.unit ![7, 0, 0] ![1, 4, 2048] inb_S8x4x2048_S1x4x2048_7_0_0)) B2

variable (hB : ∀ s a b, B (ix3 s a b) = P (ix3 s a b)) (h1 : ∀ a b, B1 (ix3 0 a b) = W (ix2 a b))
  (h2 : ∀ a b, B2 (ix3 0 a b) = M (ix2 a b)) (h3 : ∀ a b, B3 (ix3 0 a b) = V (ix2 a b))

include hB in
theorem sumB_at (a : Fin 4) (b : Fin 2048) : sumB B (ix2 a b) = sum8 P a b := by
  unfold sum8
  rw [Fin.sum_univ_eight]
  simp only [← hB]
  pointwise [sumB, k0_pay2]

include hB h2 in
theorem momB_at (a : Fin 4) (b : Fin 2048) : momB B B2 (ix2 a b) = mom P M a b := by
  unfold mom
  rw [← sumB_at B P hB, ← h2]
  pointwise [momB, k0_pay3]

include hB h3 in
theorem velB_at (a : Fin 4) (b : Fin 2048) : k0_pay4 (sumB B) B3 (ix2 a b) = vel P V a b := by
  unfold vel
  rw [← sumB_at B P hB, ← h3]
  pointwise [k0_pay4]

include hB h1 h2 h3 in
theorem stepB_at (i : S1x4x2048.Idx) : k0_pay6 (sumB B) (momB B B2) B3 B1 i = stepA P W M V i := by
  have h (a : Fin 4) (b : Fin 2048) : k0_pay6 (sumB B) (momB B B2) B3 B1 (ix3 0 a b) = step P W M V a b := by
    unfold step
    rw [← velB_at B B3 P V hB h3, ← momB_at B B2 P M hB h2, ← h1]
    pointwise [k0_pay6]
  exact (congrArg _ (at_row i)).trans (h (i 1) (i 2))

include hB in
theorem gradB_at (i : S1x4x2048.Idx) : k0_pay5 (sumB B) i = gradA P i := by
  have h (a : Fin 4) (b : Fin 2048) : k0_pay5 (sumB B) (ix3 0 a b) = sum8 P a b := by
    rw [← sumB_at B P hB]
    pointwise [k0_pay5]
  exact (congrArg _ (at_row i)).trans (h (i 1) (i 2))

include hB h2 in
theorem momO_at (i : S1x4x2048.Idx) : k0_pay7 (momB B B2) i = momA P M i := by
  have h (a : Fin 4) (b : Fin 2048) : k0_pay7 (momB B B2) (ix3 0 a b) = mom P M a b := by
    rw [← momB_at B B2 P M hB h2]
    pointwise [k0_pay7]
  exact (congrArg _ (at_row i)).trans (h (i 1) (i 2))

include hB h3 in
theorem velO_at (i : S1x4x2048.Idx) : k0_pay1 (k0_pay4 (sumB B) B3) i = velA P V i := by
  have h (a : Fin 4) (b : Fin 2048) : k0_pay1 (k0_pay4 (sumB B) B3) (ix3 0 a b) = vel P V a b := by
    rw [← velB_at B B3 P V hB h3]
    pointwise [k0_pay1]
  exact (congrArg _ (at_row i)).trans (h (i 1) (i 2))

end Payloads

theorem final4 (c : Dev nD) : (dats m hO 0 c).arrAt 4 (cfgM m hO).N
    = gradA (m ((c : Thread nD τ).loc main_arg1)) := by
  refine (dats m hO 0 c).arrAt_eq_of_after_last 4 (pt m hO) (whole4 m hO) _ fun j => ?_
  blk_simp
  rw [after0_4]
  unfold outsAt0
  frame_out
  exact gradB_at _ _ (fun s a b => (congrFun (Memref.IsWhole.read_unread _ _) _).trans (read0 m hO c _ s a b)) j

theorem final5 (c : Dev nD) : (dats m hO 0 c).arrAt 5 (cfgM m hO).N
    = stepA (m ((c : Thread nD τ).loc main_arg1)) (m ((c : Thread nD τ).loc main_arg2)) (m ((c : Thread nD τ).loc main_arg3)) (m ((c : Thread nD τ).loc main_arg4)) := by
  refine (dats m hO 0 c).arrAt_eq_of_after_last 5 (pt m hO) (whole5 m hO) _ fun j => ?_
  blk_simp
  rw [after0_5]
  unfold outsAt0
  frame_out
  exact stepB_at _ _ _ _ _ _ _ _ (fun s a b => (congrFun (Memref.IsWhole.read_unread _ _) _).trans (read0 m hO c _ s a b)) (fun a b => (congrFun (Memref.IsWhole.read_unread _ _) _).trans (read1 m hO c _ a b)) (fun a b => (congrFun (Memref.IsWhole.read_unread _ _) _).trans (read2 m hO c _ a b)) (fun a b => (congrFun (Memref.IsWhole.read_unread _ _) _).trans (read3 m hO c _ a b)) j

theorem final6 (c : Dev nD) : (dats m hO 0 c).arrAt 6 (cfgM m hO).N
    = momA (m ((c : Thread nD τ).loc main_arg1)) (m ((c : Thread nD τ).loc main_arg3)) := by
  refine (dats m hO 0 c).arrAt_eq_of_after_last 6 (pt m hO) (whole6 m hO) _ fun j => ?_
  blk_simp
  rw [after0_6]
  unfold outsAt0
  frame_out
  exact momO_at _ _ _ _ (fun s a b => (congrFun (Memref.IsWhole.read_unread _ _) _).trans (read0 m hO c _ s a b)) (fun a b => (congrFun (Memref.IsWhole.read_unread _ _) _).trans (read2 m hO c _ a b)) j

theorem final7 (c : Dev nD) : (dats m hO 0 c).arrAt 7 (cfgM m hO).N
    = velA (m ((c : Thread nD τ).loc main_arg1)) (m ((c : Thread nD τ).loc main_arg4)) := by
  refine (dats m hO 0 c).arrAt_eq_of_after_last 7 (pt m hO) (whole7 m hO) _ fun j => ?_
  blk_simp
  rw [after0_7]
  unfold outsAt0
  frame_out
  exact velO_at _ _ _ _ (fun s a b => (congrFun (Memref.IsWhole.read_unread _ _) _).trans (read0 m hO c _ s a b)) (fun a b => (congrFun (Memref.IsWhole.read_unread _ _) _).trans (read3 m hO c _ a b)) j

/-- The kernel's run: what its four result arrays hold at the end. -/
theorem run (hO : Ok m) (g : Dev nD → PrngReg) :
    θ_run defs (onTc (τ := τ) (main (F := Ideal))) ⟨m, fun _ => 0, g⟩ (fun r => ∀ c : Dev nD,
      r.2.mem ((c : Thread nD τ).loc main_v4_0) = gradA (m ((c : Thread nD τ).loc main_arg1))
      ∧ r.2.mem ((c : Thread nD τ).loc main_v4_1) = stepA (m ((c : Thread nD τ).loc main_arg1)) (m ((c : Thread nD τ).loc main_arg2)) (m ((c : Thread nD τ).loc main_arg3)) (m ((c : Thread nD τ).loc main_arg4))
      ∧ r.2.mem ((c : Thread nD τ).loc main_v4_2) = momA (m ((c : Thread nD τ).loc main_arg1)) (m ((c : Thread nD τ).loc main_arg3))
      ∧ r.2.mem ((c : Thread nD τ).loc main_v4_3) = velA (m ((c : Thread nD τ).loc main_arg1)) (m ((c : Thread nD τ).loc main_arg4))) :=
  (θ_run defs _ _).mono (fun _ h c => ⟨((h c).1 4).trans (final4 m hO c), ((h c).1 5).trans (final5 m hO c),
    ((h c).1 6).trans (final6 m hO c), ((h c).1 7).trans (final7 m hO c)⟩) (run_main m g hO)

end Cert.AdamwIdeal.Final

namespace Cert.AdamwRefIdeal.Final

open Cert.AdamwRefIdeal.Read Cert.AdamwForm

variable (P : FVec Ideal ⟨3, ![8, 4, 2048]⟩ .f32) (W M V : FVec Ideal ⟨2, ![4, 2048]⟩ .f32)

theorem sum_at (i : (⟨2, ![4, 2048]⟩ : Shape).Idx) : val_main_v0 (F := Ideal) P i = sum8 P (i 0) (i 1) := by
  rw [val_main_v0_apply]
  have h : val_main_cst (F := Ideal) (Shape.Idx.first Cert.AdamwRefIdeal.Gen.h_S_) = (0 : EReal) := by
    rw [val_main_cst_apply]; show Ideal.ofBits .f32 0x00000000#32 = 0; simp [Ideal.ofBits, Ideal.ieee]
  rw [h, zero_add]
  unfold sum8
  refine Finset.sum_congr rfl fun s _ => congrArg P (funext fun a => ?_)
  match a with | 0 => rfl | 1 => rfl | 2 => rfl

theorem final25 : val_main_v25 (F := Ideal) P = gradA P := by
  funext i
  rw [val_main_v25_apply, sum_at]; rfl

theorem mom_at (i : (⟨2, ![4, 2048]⟩ : Shape).Idx) : val_main_v5 (F := Ideal) P M i = mom P M (i 0) (i 1) := by
  rw [val_main_v5_apply, val_main_v4_apply, sum_at]
  unfold mom
  pointwise [val_main_v2, val_main_v1, val_main_v3, val_main_cst_0, val_main_cst_1]

theorem vel_at (i : (⟨2, ![4, 2048]⟩ : Shape).Idx) : val_main_v11 (F := Ideal) P V i = vel P V (i 0) (i 1) := by
  rw [val_main_v11_apply, val_main_v10_apply, val_main_v8_apply, sum_at]
  unfold vel
  pointwise [val_main_v7, val_main_v6, val_main_v9, val_main_cst_2, val_main_cst_3]

theorem final27 : val_main_v27 (F := Ideal) P M = momA P M := by
  funext i
  rw [val_main_v27_apply, mom_at]; rfl

theorem final28 : val_main_v28 (F := Ideal) P V = velA P V := by
  funext i
  rw [val_main_v28_apply, vel_at]; rfl

theorem step_at (i : (⟨2, ![4, 2048]⟩ : Shape).Idx) : val_main_v24 (F := Ideal) P W M V i = step P W M V (i 0) (i 1) := by
  rw [val_main_v24_apply, val_main_v22_apply, val_main_v19_apply, val_main_v13_apply, val_main_v18_apply, val_main_v16_apply,
    val_main_v15_apply, mom_at, vel_at]
  unfold step
  pointwise [val_main_v12, val_main_v14, val_main_v17, val_main_v20, val_main_v21, val_main_v23, val_main_cst_4, val_main_cst_5,
    val_main_cst_6, val_main_cst_7, val_main_cst_8]

theorem final26 : val_main_v26 (F := Ideal) P W M V = stepA P W M V := by
  funext i
  rw [val_main_v26_apply, step_at]; rfl

/-- The reference's run: what its four result arrays hold at the end, its arguments unchanged. -/
theorem run (m : (ℓ : Loc Cert.AdamwRefIdeal.nD Cert.AdamwRefIdeal.τ Cert.AdamwRefIdeal.sig) → Buf (Elt Ideal) ℓ) (g : Dev Cert.AdamwRefIdeal.nD → PrngReg) :
    θ_run (Cert.AdamwRefIdeal.defs (F := Ideal)) (onTc (τ := Cert.AdamwRefIdeal.τ) (Cert.AdamwRefIdeal.main (F := Ideal))) ⟨m, fun _ => 0, g⟩ (fun r => ∀ c : Dev Cert.AdamwRefIdeal.nD,
      r.2.mem ((c.tc : Thread Cert.AdamwRefIdeal.nD Cert.AdamwRefIdeal.τ).loc Cert.AdamwRefIdeal.main_v25) = gradA (m ((c.tc : Thread Cert.AdamwRefIdeal.nD Cert.AdamwRefIdeal.τ).loc Cert.AdamwRefIdeal.main_arg1))
      ∧ r.2.mem ((c.tc : Thread Cert.AdamwRefIdeal.nD Cert.AdamwRefIdeal.τ).loc Cert.AdamwRefIdeal.main_v26) = stepA (m ((c.tc : Thread Cert.AdamwRefIdeal.nD Cert.AdamwRefIdeal.τ).loc Cert.AdamwRefIdeal.main_arg1)) (m ((c.tc : Thread Cert.AdamwRefIdeal.nD Cert.AdamwRefIdeal.τ).loc Cert.AdamwRefIdeal.main_arg2)) (m ((c.tc : Thread Cert.AdamwRefIdeal.nD Cert.AdamwRefIdeal.τ).loc Cert.AdamwRefIdeal.main_arg3)) (m ((c.tc : Thread Cert.AdamwRefIdeal.nD Cert.AdamwRefIdeal.τ).loc Cert.AdamwRefIdeal.main_arg4))
      ∧ r.2.mem ((c.tc : Thread Cert.AdamwRefIdeal.nD Cert.AdamwRefIdeal.τ).loc Cert.AdamwRefIdeal.main_v27) = momA (m ((c.tc : Thread Cert.AdamwRefIdeal.nD Cert.AdamwRefIdeal.τ).loc Cert.AdamwRefIdeal.main_arg1)) (m ((c.tc : Thread Cert.AdamwRefIdeal.nD Cert.AdamwRefIdeal.τ).loc Cert.AdamwRefIdeal.main_arg3))
      ∧ r.2.mem ((c.tc : Thread Cert.AdamwRefIdeal.nD Cert.AdamwRefIdeal.τ).loc Cert.AdamwRefIdeal.main_v28) = velA (m ((c.tc : Thread Cert.AdamwRefIdeal.nD Cert.AdamwRefIdeal.τ).loc Cert.AdamwRefIdeal.main_arg1)) (m ((c.tc : Thread Cert.AdamwRefIdeal.nD Cert.AdamwRefIdeal.τ).loc Cert.AdamwRefIdeal.main_arg4))
      ∧ r.2.mem ((c.tc : Thread Cert.AdamwRefIdeal.nD Cert.AdamwRefIdeal.τ).loc Cert.AdamwRefIdeal.main_arg0) = m ((c.tc : Thread Cert.AdamwRefIdeal.nD Cert.AdamwRefIdeal.τ).loc Cert.AdamwRefIdeal.main_arg0)
      ∧ r.2.mem ((c.tc : Thread Cert.AdamwRefIdeal.nD Cert.AdamwRefIdeal.τ).loc Cert.AdamwRefIdeal.main_arg1) = m ((c.tc : Thread Cert.AdamwRefIdeal.nD Cert.AdamwRefIdeal.τ).loc Cert.AdamwRefIdeal.main_arg1)
      ∧ r.2.mem ((c.tc : Thread Cert.AdamwRefIdeal.nD Cert.AdamwRefIdeal.τ).loc Cert.AdamwRefIdeal.main_arg2) = m ((c.tc : Thread Cert.AdamwRefIdeal.nD Cert.AdamwRefIdeal.τ).loc Cert.AdamwRefIdeal.main_arg2)
      ∧ r.2.mem ((c.tc : Thread Cert.AdamwRefIdeal.nD Cert.AdamwRefIdeal.τ).loc Cert.AdamwRefIdeal.main_arg3) = m ((c.tc : Thread Cert.AdamwRefIdeal.nD Cert.AdamwRefIdeal.τ).loc Cert.AdamwRefIdeal.main_arg3)
      ∧ r.2.mem ((c.tc : Thread Cert.AdamwRefIdeal.nD Cert.AdamwRefIdeal.τ).loc Cert.AdamwRefIdeal.main_arg4) = m ((c.tc : Thread Cert.AdamwRefIdeal.nD Cert.AdamwRefIdeal.τ).loc Cert.AdamwRefIdeal.main_arg4)) :=
  (θ_run Cert.AdamwRefIdeal.defs _ _).mono (fun _ h c => ⟨(h c).1.trans ((val_main_v25_eq _).trans (final25 _)),
    (h c).2.1.trans ((val_main_v26_eq _ _ _ _).trans (final26 _ _ _ _)),
    (h c).2.2.1.trans ((val_main_v27_eq _ _).trans (final27 _ _)),
    (h c).2.2.2.1.trans ((val_main_v28_eq _ _).trans (final28 _ _)), (h c).2.2.2.2⟩) (Cert.AdamwRefIdeal.Value.run (F := Ideal) m g)

end Cert.AdamwRefIdeal.Final
-- ==== Proof.Val.Cast.lean ====
/-
  The weights of all layers but the first, rounded: what the kernel leaves in its result array, and that the reference's
  lines give the same.
-/
module

public import proofs.«01_k».proof.Proof.Gen.CastIdeal.Value
public import proofs.«01_k».proof.Proof.Gen.CastRefIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.CastForm

/-- The weights of the layers after the first. -/
def rest (W : FVec Ideal ⟨3, ![4, 2048, 1024]⟩ .f32) : FVec Ideal ⟨3, ![3, 2048, 1024]⟩ .bf16 :=
  fun i => W (ix3 ⟨1 + (i 0).val, by have h : (i 0).val < 3 := (i 0).isLt; omega⟩ (i 1) (i 2))

end Cert.CastForm

namespace Cert.CastIdeal.Final

open Cert.CastIdeal Cert.CastIdeal.Gen Cert.CastForm

variable (m : (ℓ : Loc nD τ sig) → Buf (Elt Ideal) ℓ)

/-- Each window's block index at a point of the grid. -/
theorem idx : ∀ t : Fin cfg0.N, win0_0.index t = ![1 + t.val / 4, t.val % 4, 0] ∧ win0_1.index t = ![t.val / 4, t.val % 4, 0] :=
  (by decide +kernel : ∀ t : Fin grid0.N, _)

theorem point1 (c : Dev nD) (t : Fin cfg0.N) (y : S1x512x1024.Idx) :
    k0_pay1 (F := Ideal) (iblk m c 0 t) y = rest (m ((c : Thread nD τ).loc main_arg0)) (((cfg0.win 1).blk t).view.emb y) := by
  pointwise [k0_pay1, rest]
  blk_point [iblk, V, idx t]

theorem final1 (c : Dev nD) : (dats m 0 c).arrAt 1 (cfgs 0).N = rest (m ((c : Thread nD τ).loc main_arg0)) := by
  refine (dats m 0 c).arrAt_eq_of_covers 1 _ (by decide +kernel) fun t _ y => ?_
  blk_simp
  rw [after0_1]
  frame_out
  exact point1 m c t y

end Cert.CastIdeal.Final

namespace Cert.CastRefIdeal.Final

open Cert.CastRefIdeal.Read Cert.CastForm

theorem final1 (W : FVec Ideal ⟨3, ![4, 2048, 1024]⟩ .f32) : val_main_v1 (F := Ideal) W = rest W := by
  funext i; rw [eq_ix3 i]
  pointwise [val_main_v1, val_main_v0, rest]

end Cert.CastRefIdeal.Final
-- ==== Proof.Val.GatherText.lean ====
/-
The gather's kernel restated: one device's program as a short list of copies and waits over the five arrays,
each over the block of one device of one output, the devices named by the flips of the three mesh axes.
-/
module

public import proofs.«01_k».proof.Proof.Gen.Gather
public import proofs.«01_k».proof.Proof.Gen.Gather.Skeleton
public import proofs.«01_k».proof.Proof.Gen.Gather.Launch
public import Idealize.ShloMosaic.Lib.Pipeline.Launch
public import Idealize.ShloMosaic.Lib.Pipeline.Kit
public import Idealize.ShloMosaic.Lib.Tactic

@[expose] public section

noncomputable section

namespace Cert.GatherProof

open Cert.Gather Cert.Gather.Gen
open Idealize.ShloMosaic
open Idealize.ShloMosaic.TcCoe
open Idealize.SL Idealize.SL.Sem

variable {F : FTy → Type} [FloatOps F]

/-! ## The devices -/

/-- The mask the `k`-th exchange flips. -/
abbrev mask : Fin 7 → ℕ := ![1, 4, 2, 6, 1, 1, 1]

/-- The device on the other end of exchange `k`. -/
def mate (k : Fin 7) (c : Dev nD) : Dev nD :=
  ⟨c.val ^^^ mask k, by revert k c; decide⟩

theorem mate_mate (k : Fin 7) (c : Dev nD) : mate k (mate k c) = c := by revert k c; decide
theorem mate_ne (k : Fin 7) (c : Dev nD) : mate k c ≠ c := by revert k c; decide

/-- Exchange `k` as a permutation of the devices. -/
def flip (k : Fin 7) : Dev nD ≃ Dev nD := ⟨mate k, mate k, mate_mate k, mate_mate k⟩

/-- Whose block a device sends in exchange `k`: its own in the first four, then the three it received. -/
def org (k : Fin 7) (c : Dev nD) : Dev nD :=
  ![c, c, c, c, mate 1 c, mate 2 c, mate 3 c] k

/-- Whose block a device receives in exchange `k`. -/
def inc (k : Fin 7) (c : Dev nD) : Dev nD := org k (mate k c)

/-! ## The arrays -/

/-- Rows and columns of the five arrays. -/
abbrev rows : Fin 5 → ℕ := ![12, 4, 4, 4, 1]
abbrev cols : Fin 5 → ℕ := ![1024, 1024, 2048, 2048, 2048]
abbrev sX (a : Fin 5) : Shape := ⟨2, ![rows a, cols a]⟩
abbrev sC (a : Fin 5) : Shape := ⟨3, ![1, rows a, cols a]⟩
abbrev sO (a : Fin 5) : Shape := ⟨3, ![8, rows a, cols a]⟩

theorem squeezes_block : ∀ a : Fin 5, (sC a).Squeezes (sX a) := by decide

/-- The inputs and the outputs. -/
abbrev xM : (a : Fin 5) → Memref sig .tc .hbm (sX a) .f32
  | 0 => Memref.whole main_arg0 | 1 => Memref.whole main_arg1 | 2 => Memref.whole main_arg2
  | 3 => Memref.whole main_arg3 | 4 => Memref.whole main_arg4
abbrev oM : (a : Fin 5) → Memref sig .tc .hbm (sO a) .f32
  | 0 => Memref.whole main_v1_0 | 1 => Memref.whole main_v1_1 | 2 => Memref.whole main_v1_2
  | 3 => Memref.whole main_v1_3 | 4 => Memref.whole main_v1_4

theorem oM_scratch : ∀ a : Fin 5, (oM a).view.ref.isScScratch = false := by decide

/-! ## The blocks -/

theorem blk_inb : ∀ (a : Fin 5) (b : Dev nD) (x : Fin 3), (![b.val, 0, 0] : Fin 3 → Nat) x + (sC a).size x ≤ (sO a).size x := by
  decide

/-- A block of output `a` at an offset, its leading axis of length one dropped. -/
abbrev cut (a : Fin 5) (off : Fin 3 → Nat) (h : ∀ x, off x + (sC a).size x ≤ (sO a).size x) : Memref sig .tc .hbm (sX a) .f32 :=
  ((oM a).slice (Rect.unit (s := sO a) off (sC a).size h) (fun _ => rfl)).squeeze (sX a) (squeezes_block a)

/-- The block of device `b`. -/
abbrev slab (a : Fin 5) (b : Dev nD) : Memref sig .tc .hbm (sX a) .f32 := cut a ![b.val, 0, 0] (blk_inb a b)

theorem cut_eq (a : Fin 5) {off : Fin 3 → Nat} (b : Dev nD) (e : off = ![b.val, 0, 0]) (h) : cut a off h = slab a b := by subst e; rfl

/-- The devices whose blocks the program names: its own, the three it passes on, the four others it receives. -/
def whose (i : Fin 8) (c : Dev nD) : Dev nD :=
  ![c, mate 1 c, mate 2 c, mate 3 c, inc 0 c, inc 4 c, inc 5 c, inc 6 c] i

/-- The offsets the kernel computes for them. -/
abbrev offs (a : Fin 5) (i : Fin 8) : Dev nD → Fin 3 → Nat :=
  (![![k0_off1, k0_off5, k0_off9, k0_off13, k0_off17, k0_off18, k0_off19, k0_off20],
    ![k0_off2, k0_off6, k0_off10, k0_off14, k0_off21, k0_off22, k0_off23, k0_off24],
    ![k0_off3, k0_off7, k0_off11, k0_off15, k0_off25, k0_off26, k0_off27, k0_off28],
    ![k0_off3, k0_off7, k0_off11, k0_off15, k0_off25, k0_off26, k0_off27, k0_off28],
    ![k0_off4, k0_off8, k0_off12, k0_off16, k0_off29, k0_off30, k0_off31, k0_off32]] : Fin 5 → Fin 8 → Dev nD → Fin 3 → Nat) a i

set_option maxRecDepth 8000 in
theorem offs_eq : ∀ (a : Fin 5) (i : Fin 8) (c : Dev nD), offs a i c = ![(whose i c).val, 0, 0] := by decide +kernel

theorem offs_inb (a : Fin 5) (i : Fin 8) (c : Dev nD) (x : Fin 3) : offs a i c x + (sC a).size x ≤ (sO a).size x := by
  rw [offs_eq]; exact blk_inb a _ x

/-- The devices the kernel computes for its sends. -/
abbrev devs (a : Fin 5) (k : Fin 7) : Dev nD → Nat :=
  (![![k0_dev1, k0_dev2, k0_dev3, k0_dev4, k0_dev21, k0_dev26, k0_dev31],
    ![k0_dev5, k0_dev6, k0_dev7, k0_dev8, k0_dev22, k0_dev27, k0_dev32],
    ![k0_dev9, k0_dev10, k0_dev11, k0_dev12, k0_dev23, k0_dev28, k0_dev33],
    ![k0_dev13, k0_dev14, k0_dev15, k0_dev16, k0_dev24, k0_dev29, k0_dev34],
    ![k0_dev17, k0_dev18, k0_dev19, k0_dev20, k0_dev25, k0_dev30, k0_dev35]] : Fin 5 → Fin 7 → Dev nD → Nat) a k

set_option maxRecDepth 8000 in
theorem devs_eq : ∀ (a : Fin 5) (k : Fin 7) (c : Dev nD), devs a k c = (mate k c).val := by decide +kernel

theorem devs_lt (a : Fin 5) (k : Fin 7) (c : Dev nD) : devs a k c < nD := by rw [devs_eq]; exact (mate k c).isLt

/-- The block the kernel names by its `i`-th offset, and the device it names for its `k`-th send. -/
abbrev named (a : Fin 5) (i : Fin 8) (c : Dev nD) : Memref sig .tc .hbm (sX a) .f32 := cut a (offs a i c) (offs_inb a i c)
abbrev dest (a : Fin 5) (k : Fin 7) (c : Dev nD) : Dev nD := ⟨devs a k c, devs_lt a k c⟩

theorem named_eq (a : Fin 5) (i : Fin 8) (c : Dev nD) : named a i c = slab a (whose i c) := cut_eq a _ (offs_eq a i c) _
theorem dest_eq (a : Fin 5) (k : Fin 7) (c : Dev nD) : dest a k c = mate k c := Fin.ext (devs_eq a k c)

/-! ## The semaphores -/

/-- For each array seven semaphores that count sends, seven that count arrivals, one of the local copy. -/
def sS (a : Fin 5) (k : Fin 7) : DmaSem sig := (⟨7 * a.val + k.val, by omega⟩ : Fin 75)
def rS (a : Fin 5) (k : Fin 7) : DmaSem sig := (⟨35 + 7 * a.val + k.val, by omega⟩ : Fin 75)
def lS (a : Fin 5) : DmaSem sig := (⟨70 + a.val, by omega⟩ : Fin 75)

/-! ## The program -/

abbrev Op := Prog (TpuEff nD τ sig (Elt F) Λ₀ .tc) PUnit

theorem cut_exact (a : Fin 5) (off h) : (cut a off h).view.WordExact := (View.wordExact_bits rfl).reshape _ _
theorem x_exact (a : Fin 5) : (xM a).view.WordExact := View.wordExact_bits rfl

/-- The `k`-th send of `src` into the block `dst` of device `n`. -/
abbrev sendOp (a : Fin 5) (k : Fin 7) (n : Dev nD) (src dst : Memref sig .tc .hbm (sX a) .f32) (hs : src.view.WordExact) (hd : dst.view.WordExact)
    (hr : dst.view.ref.isScScratch = false) : Op (F := F) :=
  Prog.lift (.enqueueDma src (.remote (Dev.tc n) dst (.dma (sS a k)) hr) (.dma (rS a k)) hs hd ⟨⟨rfl, Or.inl rfl⟩, trivial⟩)

abbrev waitOp (a : Fin 5) (q : DmaSem sig) (src dst : Memref sig .tc .hbm (sX a) .f32) (hs : src.view.WordExact) (hd : dst.view.WordExact) : Op (F := F) :=
  Prog.lift (.waitDma2 q src dst hs hd)

abbrev copyOp (a : Fin 5) (dst : Memref sig .tc .hbm (sX a) .f32) (hd : dst.view.WordExact) : Op (F := F) :=
  Prog.lift (.enqueueDma (xM a) (.here dst) (.dma (lS a)) (x_exact a) hd ⟨Or.inl rfl, trivial⟩)

/-- Send `k` of the device's own input, and of the block the kernel names by its `i`-th offset. -/
abbrev sendOwn (a : Fin 5) (k : Fin 7) (d : Dev nD) : Op (F := F) :=
  sendOp a k (dest a k d) (xM a) (named a 0 d) (x_exact a) (cut_exact a _ _) (oM_scratch a)
abbrev sendOn (a : Fin 5) (k : Fin 7) (i : Fin 8) (d : Dev nD) : Op (F := F) :=
  sendOp a k (dest a k d) (named a i d) (named a i d) (cut_exact a _ _) (cut_exact a _ _) (oM_scratch a)
abbrev waitOn (a : Fin 5) (q : DmaSem sig) (i : Fin 8) (d : Dev nD) : Op (F := F) :=
  waitOp a q (named a i d) (named a i d) (cut_exact a _ _) (cut_exact a _ _)
abbrev waitOwn (a : Fin 5) (k : Fin 7) (d : Dev nD) : Op (F := F) :=
  waitOp a (sS a k) (named a 0 d) (xM a) (cut_exact a _ _) (x_exact a)

/-- A step on each of the five arrays. -/
abbrev five (f : Fin 5 → Op (F := F)) : Op (F := F) := do
  f 0
  f 1
  f 2
  f 3
  f 4

abbrev stepCopy (d : Dev nD) (a : Fin 5) : Op (F := F) := copyOp a (named a 0 d) (cut_exact a _ _)
abbrev stepFirst (d : Dev nD) (a : Fin 5) : Op (F := F) := do
  sendOwn a 0 d
  sendOwn a 1 d
  sendOwn a 2 d
  sendOwn a 3 d
/-- The block that exchange `k` brings waited for and passed on by exchange `k'`. -/
abbrev stepPass (k k' : Fin 7) (i : Fin 8) (d : Dev nD) (a : Fin 5) : Op (F := F) := do
  waitOn a (rS a k) i d
  sendOn a k' i d
abbrev stepRest (d : Dev nD) (a : Fin 5) : Op (F := F) := do
  waitOn a (rS a 0) 4 d
  waitOn a (rS a 4) 5 d
  waitOn a (rS a 5) 6 d
  waitOn a (rS a 6) 7 d
abbrev stepSent (d : Dev nD) (a : Fin 5) : Op (F := F) := do
  waitOwn a 0 d
  waitOwn a 1 d
  waitOwn a 2 d
  waitOwn a 3 d
abbrev stepPassed (k : Fin 7) (i : Fin 8) (d : Dev nD) (a : Fin 5) : Op (F := F) := waitOn a (sS a k) i d
abbrev stepCopied (d : Dev nD) (a : Fin 5) : Op (F := F) := waitOp a (lS a) (xM a) (named a 0 d) (x_exact a) (cut_exact a _ _)

/-- The program over the offsets and device numbers the kernel computes. -/
def text0 : Op (F := F) := do
  let d ← Prog.lift .deviceId
  five (stepCopy d)
  five (stepFirst d)
  five (stepPass 1 4 1 d)
  five (stepPass 2 5 2 d)
  five (stepPass 3 6 3 d)
  five (stepRest d)
  five (stepSent d)
  five (stepPassed 4 1 d)
  five (stepPassed 5 2 d)
  five (stepPassed 6 3 d)
  five (stepCopied d)

/-- The kernel as the pipeline calls it. -/
abbrev kernel : Op (F := F) :=
  cc0_gather_small_grads (Memref.whole main_arg0) (Memref.isWhole_whole _) (Memref.whole main_arg1) (Memref.isWhole_whole _)
    (Memref.whole main_arg2) (Memref.isWhole_whole _) (Memref.whole main_arg3) (Memref.isWhole_whole _) (Memref.whole main_arg4) (Memref.isWhole_whole _)
    (Memref.whole main_v1_0) (Memref.isWhole_whole _) (Memref.whole main_v1_1) (Memref.isWhole_whole _) (Memref.whole main_v1_2) (Memref.isWhole_whole _)
    (Memref.whole main_v1_3) (Memref.isWhole_whole _) (Memref.whole main_v1_4) (Memref.isWhole_whole _) cc0_scratch0 cc0_scratch1 cc0_scratch2

end Cert.GatherProof

end
-- ==== Proof.Val.GatherMesh.lean ====
/-
The gather's protocol: the blocks of the outputs as sets of elements, what the outputs hold at the end, the
fifteen counters a device has for each array with what each transfer hands over at its one completion, what a
device owes and in which order.
-/
module

public import proofs.«01_k».proof.Proof.Val.GatherText
public import Idealize.ShloMosaic.Lib.SparseCore.Stream
public import Idealize.ShloMosaic.Lib.ValueLayout

@[expose] public section

noncomputable section

namespace Cert.GatherProof

open Cert.Gather Cert.Gather.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

abbrev UU : Type := UR sig nD τ × UR sig nD τ

local notation "𝕄" => MT nD τ sig Unit (Elt F) ℕ UU ℕ

abbrev EP : Emb (UR sig nD τ) (MT nD τ sig Unit (Elt F) ℕ UU ℕ) := embL
abbrev ER : Emb (UR sig nD τ) (MT nD τ sig Unit (Elt F) ℕ UU ℕ) := embR

abbrev 𝒱₀ : Variants := Variants.none

variable (m : (ℓ : Loc nD τ sig) → Buf (Elt F) ℓ) (ρ : Dev nD → PrngReg)

/-! ## The blocks as sets of elements -/

/-- An element of an input, and of an output. -/
abbrev at2 {a : Fin 5} (p : Fin (rows a)) (q : Fin (cols a)) : (sX a).Idx := ix2 p q
abbrev at3 {a : Fin 5} (b : Dev nD) (p : Fin (rows a)) (q : Fin (cols a)) : (sO a).Idx := ix3 (b : Fin 8) p q

theorem slab_emb (a : Fin 5) (b : Dev nD) (x : (sX a).Idx) : (slab a b).view.emb x = (oM a).view.emb (at3 b (x 0) (x 1)) := by
  obtain ⟨p, q, rfl⟩ : ∃ (p : Fin (rows a)) (q : Fin (cols a)), x = at2 p q := ⟨x 0, x 1, eq_ix2 x⟩
  show (oM a).view.emb ((Rect.unit (s := sO a) ![b.val, 0, 0] (sC a).size (blk_inb a b)).emb (Shape.reshapeEquiv _ (at2 p q))) = (oM a).view.emb (at3 b p q)
  refine congrArg _ ((congrArg _ (reshapeEquiv_ix2_1ab _ p q)).trans ?_)
  funext y
  apply Fin.ext
  refine (Rect.emb_apply _ _ y).trans ?_
  match y with
  | ⟨0, _⟩ => show b.val + 1 * 0 = b.val; omega
  | ⟨1, _⟩ => show 0 + 1 * p.val = p.val; omega
  | ⟨2, _⟩ => show 0 + 1 * q.val = q.val; omega

theorem mem_slab (a : Fin 5) (b : Dev nD) (i : (sO a).Idx) : (oM a).view.emb i ∈ (slab a b).view.set ↔ i 0 = b := by
  constructor
  · intro h
    obtain ⟨x, -, hx⟩ := Finset.mem_map.mp h
    rw [slab_emb] at hx
    exact (congrFun ((oM a).view.emb.injective hx) 0).symm
  · intro h
    refine Finset.mem_map.mpr ⟨at2 (i 1) (i 2), Finset.mem_univ _, ?_⟩
    rw [slab_emb, ← h]
    exact congrArg _ (eq_ix3 i).symm

theorem slab_sub (a : Fin 5) (b : Dev nD) {y} (h : y ∈ (slab a b).view.set) : ∃ i : (sO a).Idx, y = (oM a).view.emb i := by
  obtain ⟨x, -, rfl⟩ := Finset.mem_map.mp h
  exact ⟨_, slab_emb a b x⟩

theorem slab_disjoint (a : Fin 5) (b b' : Dev nD) (h : b ≠ b') : Disjoint (slab a b).view.set (slab a b').view.set := by
  rw [Finset.disjoint_left]
  intro y hy hy'
  obtain ⟨i, rfl⟩ := slab_sub a b hy
  exact h (((mem_slab a b i).mp hy).symm.trans ((mem_slab a b' i).mp hy'))

theorem slab_cover (a : Fin 5) : (Finset.univ : Finset (Dev nD)).biUnion (fun b => (slab a b).view.set) = (oM a).view.set := by
  ext y
  constructor
  · intro h
    obtain ⟨b, -, hy⟩ := Finset.mem_biUnion.mp h
    obtain ⟨i, rfl⟩ := slab_sub a b hy
    exact Finset.mem_map.mpr ⟨i, Finset.mem_univ _, rfl⟩
  · intro h
    obtain ⟨i, -, rfl⟩ := Finset.mem_map.mp h
    exact Finset.mem_biUnion.mpr ⟨i 0, Finset.mem_univ _, (mem_slab a _ i).mpr rfl⟩

/-! ## Contents -/

/-- What output `a`'s buffer holds. -/
abbrev Cont (a : Fin 5) : Type := (oM a).view.ref.ty.Contents (Elt F)

/-- Device `d`'s input `a`, in its buffer and element by element. -/
abbrev inBuf (a : Fin 5) (d : Dev nD) : Buf (Elt F) ((xM a).view.loc (d : Thread nD τ)) := m ((xM a).view.loc (d : Thread nD τ))
def inAt (a : Fin 5) (d : Dev nD) : (sX a).Idx → Elt F .f32 := (xM a).view.read (Elt F) (inBuf m a d)

/-- Every device's input at its place: what each output holds at the end. -/
def outAt (a : Fin 5) : (sO a).Idx → Elt F .f32 := fun i => inAt m a (i 0) (at2 (i 1) (i 2))
def out : (a : Fin 5) → Cont (F := F) a
  | 0 => outAt m 0 | 1 => outAt m 1 | 2 => outAt m 2 | 3 => outAt m 3 | 4 => outAt m 4

omit [FloatOps F] in
theorem out_read (a : Fin 5) (i : (sO a).Idx) : (oM a).view.read (Elt F) (out m a) i = outAt m a i := by
  match a with
  | 0 | 1 | 2 | 3 | 4 => rfl

/-- Block `b` of device `e`'s output `a`, at contents `f`. -/
def blk (a : Fin 5) (e b : Dev nD) (f : Cont (F := F) a) : sProp 𝕄 :=
  (slab a b).view.loc (e : Thread nD τ) ↦[(slab a b).view.set]{fullShare} f

/-- One of the five shares in which a device's input is read. -/
def xPart (a : Fin 5) (c : Dev nD) (j : Fin 5) : sProp 𝕄 :=
  (xM a).view.loc (c : Thread nD τ) ↦[(xM a).view.set]{pieceOf fullShare 5 (by decide) j} inBuf m a c

omit [FloatOps F] in
instance blk_storable (a : Fin 5) (e b : Dev nD) (f) : BI.Storable (upEmb : UEmb _ 𝕄) (blk (F := F) a e b f) := by unfold blk; infer_instance
omit [FloatOps F] in
instance xPart_storable (a : Fin 5) (c : Dev nD) (j : Fin 5) : BI.Storable (upEmb : UEmb _ 𝕄) (xPart (F := F) m a c j) := by unfold xPart; infer_instance

/-- A device's whole output `a`, and its whole input. -/
def whole (a : Fin 5) (e : Dev nD) (f : Cont (F := F) a) : sProp 𝕄 :=
  (oM a).view.loc (e : Thread nD τ) ↦[(oM a).view.set]{fullShare} f
def input (a : Fin 5) (c : Dev nD) : sProp 𝕄 :=
  (xM a).view.loc (c : Thread nD τ) ↦[(xM a).view.set]{fullShare} inBuf m a c

omit [FloatOps F] in
theorem blk_all (a : Fin 5) (e : Dev nD) (f : Cont (F := F) a) :
    (whole a e f : sProp 𝕄) = bigSep Finset.univ fun b : Dev nD => blk a e b f := by
  unfold blk whole
  refine Eq.trans ?_ (pointsTo_biUnion (ℓ := (oM a).view.loc (e : Thread nD τ)) (Finset.univ : Finset (Dev nD)) (fun b => (slab a b).view.set)
    (fun b _ b' _ h => slab_disjoint a b b' h))
  exact congrArg (fun S => ((oM a).view.loc (e : Thread nD τ) ↦[S]{fullShare} f : sProp 𝕄)) (slab_cover a).symm

omit [FloatOps F] in
theorem xPart_all (a : Fin 5) (c : Dev nD) : (input m a c : sProp 𝕄) = bigSep Finset.univ fun j : Fin 5 => xPart m a c j := by
  unfold xPart input
  exact pointsTo_piecesOf (ℓ := (xM a).view.loc (c : Thread nD τ)) (xM a).view.set (inBuf m a c) (o := 5) (by decide) fullShare

omit [FloatOps F] in
theorem read_slab (a : Fin 5) (b : Dev nD) (x : (sX a).Idx) :
    (slab a b).view.read (Elt F) (out m a) x = outAt m a (at3 b (x 0) (x 1)) := by
  rw [← out_read]
  exact congrArg (fun j => _root_.cast (congrArg (Elt F) (oM a).view.elt_eq) (out m a j)) (slab_emb a b x)

omit [FloatOps F] in
/-- What lands in a block is what the output holds there, when the source holds it. -/
theorem landed (a : Fin 5) (e b : Dev nD) (fd : Cont (F := F) a) (w : (sX a).Idx → Elt F .f32)
    (hw : ∀ x : (sX a).Idx, w x = outAt m a (at3 b (x 0) (x 1))) :
    ((slab a b).view.loc (e : Thread nD τ) ↦[(slab a b).view.set]{fullShare} (slab a b).view.write (Elt F) fd w Finset.univ : sProp 𝕄)
      = blk a e b (out m a) := by
  unfold blk
  refine pointsTo_congr fun i hi => ?_
  obtain ⟨x, -, rfl⟩ := Finset.mem_map.mp hi
  refine (View.write_emb_of_mem (v := (slab a b).view) fd w (Finset.mem_univ x)).trans ?_
  rw [hw, ← read_slab, View.read_apply, cast_cast, cast_eq]

omit [FloatOps F] in
theorem read_x (a : Fin 5) (b : Dev nD) (x : (sX a).Idx) :
    (xM a).view.read (Elt F) (inBuf m a b) x = outAt m a (at3 b (x 0) (x 1)) := by
  show inAt m a b x = inAt m a b (at2 (x 0) (x 1))
  exact congrArg _ (eq_ix2 x)

/-! ## The counters -/

/-- Counter `i` of array `a`: seven of sends, seven of arrivals, one of the local copy. -/
def osem (ai : Fin 5 × Fin 15) : DmaSem sig :=
  (⟨if ai.2.val < 7 then 7 * ai.1.val + ai.2.val else if ai.2.val < 14 then 28 + 7 * ai.1.val + ai.2.val else 70 + ai.1.val, by
    split_ifs <;> omega⟩ : Fin 75)

theorem osem_bijective : Function.Bijective (osem : Fin 5 × Fin 15 → Fin 75) := by decide +kernel
theorem osem_injective : Function.Injective osem := osem_bijective.1

/-- The array and the counter of a semaphore. -/
def dec (q : DmaSem sig) : Fin 5 × Fin 15 := (Equiv.ofBijective _ osem_bijective).symm q
theorem dec_osem (x : Fin 5 × Fin 15) : dec (osem x) = x := (Equiv.ofBijective _ osem_bijective).symm_apply_apply x

abbrev Ctr : Type := Dev nD × Fin 5 × Fin 15
abbrev kcell (ck : Ctr) : GSem nD τ sig := ((ck.1 : Thread nD τ), .dma (osem ck.2))
/-- The counters of exchange `k`'s send and arrival and of the copy. -/
abbrev sI (k : Fin 7) : Fin 15 := ⟨k.val, by omega⟩
abbrev rI (k : Fin 7) : Fin 15 := ⟨7 + k.val, by omega⟩
abbrev sCell (a : Fin 5) (c : Dev nD) (k : Fin 7) : GSem nD τ sig := kcell (c, a, sI k)
abbrev rCell (a : Fin 5) (c : Dev nD) (k : Fin 7) : GSem nD τ sig := kcell (c, a, rI k)
abbrev lCell (a : Fin 5) (c : Dev nD) : GSem nD τ sig := kcell (c, a, 14)

theorem sS_eq : ∀ (a : Fin 5) (k : Fin 7), sS a k = osem (a, sI k) := by decide
theorem rS_eq : ∀ (a : Fin 5) (k : Fin 7), rS a k = osem (a, rI k) := by decide
theorem lS_eq : ∀ a : Fin 5, lS a = osem (a, 14) := by decide

theorem kcell_injective : Function.Injective (kcell : Ctr → GSem nD τ sig) := by
  rintro ⟨c, k⟩ ⟨c', k'⟩ h
  have h1 : c = c' := congrArg (fun g : GSem nD τ sig => g.1.1) h
  have h2 : (SemLoc.dma (osem k) : SemLoc sig) = .dma (osem k') := congrArg Prod.snd h
  have h3 : k = k' := osem_injective (by injection h2)
  rw [h1, h3]

/-- What one transfer of a block of array `a` counts. -/
def N (a : Fin 5) : ℕ := (slab a 0).view.dmaCredit
theorem N_pos (a : Fin 5) : 0 < N a := View.dmaCredit_pos _ (by revert a; decide)

/-! ## The schedule -/

/-- What the one completion on counter `i` of array `a` of device `c` hands over. -/
def pay (c : Dev nD) (a : Fin 5) : Fin 15 → sProp 𝕄
  | 0 => xPart m a c 0 | 1 => xPart m a c 1 | 2 => xPart m a c 2 | 3 => xPart m a c 3
  | 4 => blk a c (org 4 c) (out m a) | 5 => blk a c (org 5 c) (out m a) | 6 => blk a c (org 6 c) (out m a)
  | 7 => blk a c (inc 0 c) (out m a) | 8 => blk a c (inc 1 c) (out m a) | 9 => blk a c (inc 2 c) (out m a) | 10 => blk a c (inc 3 c) (out m a)
  | 11 => blk a c (inc 4 c) (out m a) | 12 => blk a c (inc 5 c) (out m a) | 13 => blk a c (inc 6 c) (out m a)
  | 14 => iprop(blk a c c (out m a) ∗ xPart m a c 4)

omit [FloatOps F] in
theorem pay_recv (c : Dev nD) (a : Fin 5) (k : Fin 7) : pay m c a (rI k) = blk a c (inc k c) (out m a) := by
  fin_cases k <;> rfl

instance pay_storable (c : Dev nD) (a : Fin 5) (i : Fin 15) : BI.Storable (upEmb : UEmb _ 𝕄) (pay (F := F) m c a i) := by
  match i with
  | 0 | 1 | 2 | 3 => unfold pay; infer_instance
  | 4 | 5 | 6 | 7 | 8 | 9 | 10 | 11 | 12 | 13 => unfold pay; infer_instance
  | 14 => unfold pay; infer_instance

def Rd : Rounds.Schedule (GSem nD τ sig) Unit 𝕄 where
  duties g r := if r = 0 ∧ g.1.2 = .tc then {()} else ∅
  unitless _ := False
  amount g _ _ := match g.2 with
    | .dma q => N (dec q).1
    | .reg _ => 1
  payload g _ _ := match g.2 with
    | .dma q => pay m g.1.1 (dec q).1 (dec q).2
    | .reg _ => iprop(emp)
  amount_pos g _ _ _ := by
    obtain ⟨t, s⟩ := g
    cases s with
    | dma q => exact N_pos _
    | reg q => exact Nat.one_pos

instance Rd_storable (g : GSem nD τ sig) (r : ℕ) (d : Unit) : BI.Storable (upEmb : UEmb _ 𝕄) ((Rd (F := F) m).payload g r d) := by
  obtain ⟨t, s⟩ := g
  cases s with
  | dma q => exact pay_storable m t.1 (dec q).1 (dec q).2
  | reg q => show BI.Storable upEmb (iprop(emp) : sProp 𝕄); infer_instance

section Sched
variable (ck : Ctr)

omit [FloatOps F] in
theorem duties_eq : (Rd (F := F) m).duties (kcell ck) 0 = {()} := by dsimp only [Rd]; exact if_pos ⟨rfl, rfl⟩
omit [FloatOps F] in
theorem duties_mem : () ∈ (Rd (F := F) m).duties (kcell ck) 0 := by rw [duties_eq]; exact Finset.mem_singleton_self _
omit [FloatOps F] in
theorem duties_later (g : GSem nD τ sig) : ∀ r, 1 ≤ r → (Rd (F := F) m).duties g r = ∅ :=
  fun r hr => by dsimp only [Rd]; exact if_neg fun h => by omega
omit [FloatOps F] in
theorem amount_eq (r : ℕ) (u : Unit) : (Rd (F := F) m).amount (kcell ck) r u = N ck.2.1 := by
  show N (dec (osem ck.2)).1 = _
  rw [dec_osem]
omit [FloatOps F] in
theorem expect_eq : (Rd (F := F) m).expect (kcell ck) 0 = N ck.2.1 := by
  unfold Schedule.expect Schedule.amountOf; rw [duties_eq, Finset.sum_singleton, amount_eq]
omit [FloatOps F] in
theorem payload_eq (u : Unit) : (Rd (F := F) m).payload (kcell ck) 0 u = pay m ck.1 ck.2.1 ck.2.2 := by
  show pay m ck.1 (dec (osem ck.2)).1 (dec (osem ck.2)).2 = _
  rw [dec_osem]
omit [FloatOps F] in
theorem rest_eq : bigSep ((Rd (F := F) m).duties (kcell ck) 0 \ ∅) (fun u => (Rd (F := F) m).payload (kcell ck) 0 u) = pay m ck.1 ck.2.1 ck.2.2 := by
  rw [Finset.sdiff_empty, duties_eq, bigSep_singleton, payload_eq]

end Sched

/-! ## What a device owes, and the order of the waits -/

/-- The sends of a device in the program's order: the first four of each array, then the last three. -/
def order : List (Fin 5 × Fin 7) :=
  ((List.finRange 5).flatMap fun a => [(a, 0), (a, 1), (a, 2), (a, 3)])
    ++ [(4 : Fin 7), 5, 6].flatMap fun k => (List.finRange 5).map fun a => (a, k)

theorem order_first : ∀ a : Fin 5, order.drop (4 * a.val) = (a, 0) :: (a, 1) :: (a, 2) :: (a, 3) :: order.drop (4 * (a.val + 1)) := by decide
theorem order_pass : ∀ (j : Fin 3) (a : Fin 5), order.drop (20 + 5 * j.val + a.val) = (a, (⟨4 + j.val, by omega⟩ : Fin 7)) :: order.drop (20 + 5 * j.val + (a.val + 1)) := by decide
theorem order_late : ∀ n : Fin 16, ∀ p ∈ order.drop (20 + n.val), 4 ≤ p.2.val := by decide
theorem order_end : order.drop 35 = [] := by decide
theorem order_nodup : order.Nodup := by decide
theorem order_all : order.toFinset = Finset.univ := by decide

/-- What device `c` owes before the sends of a list. -/
def left (c : Dev nD) : List (Fin 5 × Fin 7) → CellTallies nD τ sig Unit
  | [] => 0
  | p :: l => left c l + tallyAt (rCell p.1 (mate p.2 c) p.2) () (N p.1)

theorem left_sum (c : Dev nD) : left c order = ∑ p : Fin 5 × Fin 7, tallyAt (rCell p.1 (mate p.2 c) p.2) () (N p.1) := by
  have h : ∀ l : List (Fin 5 × Fin 7), left c l = (l.map fun p => tallyAt (rCell p.1 (mate p.2 c) p.2) () (N p.1)).sum := by
    intro l
    induction l with
    | nil => rfl
    | cons p l ih => rw [List.map_cons, List.sum_cons, ← ih, add_comm]; rfl
  rw [h, ← List.sum_toFinset _ order_nodup, order_all]

def L (g : GSem nD τ sig) : Finset Unit := if g.1.2 = .tc then {()} else ∅
/-- Arrivals of the first four exchanges come before those of the last three. -/
def lv (g : GSem nD τ sig) (_ : Unit) : ℕ := match g.2 with
  | .dma q => if (dec q).2.val < 11 then 1 else 2
  | .reg _ => 1
theorem L_of_ne (g : GSem nD τ sig) (h : g.1.2 ≠ .tc) : L g = ∅ := if_neg h
theorem L_tc (c : Dev nD) (sm : SemLoc sig) : L ((c : Thread nD τ), sm) = {()} := if_pos rfl
theorem lv_cell (ck : Ctr) (u : Unit) : lv (kcell ck) u = if ck.2.2.val < 11 then 1 else 2 := by
  show (if (dec (osem ck.2)).2.val < 11 then 1 else 2) = _
  rw [dec_osem]

theorem left_pos {c : Dev nD} {g : GSem nD τ sig} {u : Unit} : ∀ l : List (Fin 5 × Fin 7), (∀ p ∈ l, 4 ≤ p.2.val) →
    0 < left c l g u → ∃ (a : Fin 5) (d : Dev nD) (k : Fin 7), 4 ≤ k.val ∧ g = rCell a d k
  | [], _, h => absurd h (Nat.lt_irrefl 0)
  | p :: l, hl, h => by
    unfold left at h
    rw [Pi.add_apply, Finsupp.add_apply, tallyAt_apply] at h
    by_cases hg : g = rCell p.1 (mate p.2 c) p.2 ∧ u = ()
    · exact ⟨_, _, _, hl p List.mem_cons_self, hg.1⟩
    · rw [if_neg hg] at h
      exact left_pos l (fun q hq => hl q (List.mem_cons_of_mem _ hq)) h

omit [FloatOps F] in
theorem mayWait (c : Dev nD) (a : Fin 5) (i : Fin 15) (hi : i.val < 11) (l : List (Fin 5 × Fin 7)) (hl : ∀ p ∈ l, 4 ≤ p.2.val) :
    (levAts L lv : sProp 𝕄) ⊢ MayWait (c : Thread nD τ) (.dma (osem (a, i))) () (left c l) :=
  MayOwe.of_cut (L := L) (lev := lv) 1 (fun p hp => by rw [Finset.mem_singleton.mp hp, L_tc]; exact Finset.mem_singleton_self _)
    (fun g u hg => by obtain ⟨b, d, k, -, rfl⟩ := left_pos l hl hg; exact Finset.mem_singleton_self _)
    (fun p hp => by rw [Finset.mem_singleton.mp hp]; refine (lv_cell (c, a, i) ()).le.trans ?_; rw [if_pos hi])
    (fun g u hg => by
      obtain ⟨b, d, k, hk, rfl⟩ := left_pos l hl hg
      rw [lv_cell, if_neg (by show ¬ (7 + k.val < 11); omega)]; decide)

end Cert.GatherProof

end
-- ==== Proof.Val.GatherBody.lean ====
/-
The gather's body on one device: each send hands the source to the send's counter and the block to the
mate's arrival counter, each wait takes what its counter was handed; at the end the device holds its input
and every block of its output.
-/
module

public import proofs.«01_k».proof.Proof.Val.GatherMesh

@[expose] public section

noncomputable section

namespace Cert.GatherProof

open Cert.Gather Cert.Gather.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What every device knows -/

/-- Every counter of the mesh keeps the schedule, at its name. -/
def records (K : Ctr → ℕ) : sProp 𝕄 :=
  iprop((bigSep Finset.univ fun ck : Ctr => cellInv ER (Rd m) (K ck) (kcell ck))
    ∗ bigSep Finset.univ fun ck : Ctr => reached ER (kcell ck) 0)
instance records_persistent (K : Ctr → ℕ) : BI.Persistent (records m K) := by unfold records; infer_instance

omit [FloatOps F] in
theorem rec_inv (K : Ctr → ℕ) (ck : Ctr) : records m K ⊢ cellInv ER (Rd m) (K ck) (kcell ck) := by
  have h : (bigSep Finset.univ fun ck : Ctr => (cellInv ER (Rd m) (K ck) (kcell ck) : sProp 𝕄)) ⊢ cellInv ER (Rd m) (K ck) (kcell ck) :=
    bigSep_elim (Finset.mem_univ ck)
  unfold records
  iintro ⟨H, -⟩
  iapply h
  iexact H
omit [FloatOps F] in
theorem rec_reached (K : Ctr → ℕ) (ck : Ctr) : records m K ⊢ reached ER (kcell ck) 0 := by
  have h : (bigSep Finset.univ fun ck : Ctr => (reached ER (kcell ck) 0 : sProp 𝕄)) ⊢ reached ER (kcell ck) 0 :=
    bigSep_elim (Finset.mem_univ ck)
  unfold records
  iintro ⟨-, H⟩
  iapply h
  iexact H

/-- The counters' records and the order of the waits. -/
def know (K : Ctr → ℕ) : sProp 𝕄 := iprop(records m K ∗ levAts L lv)
instance know_persistent (K : Ctr → ℕ) : BI.Persistent (know m K) := by unfold know; infer_instance

/-! ## What a device holds of one transfer -/

/-- What output `a` of device `e` holds before the run. -/
def junk (a : Fin 5) (e : Dev nD) : Cont (F := F) a := m ((oM a).view.loc (e : Thread nD τ))

section Holds
variable (c : Dev nD) (a : Fin 5)

/-- A counter's place before its wait; with the credit of its one completion; and what the wait leaves. -/
def at0 (i : Fin 15) : sProp 𝕄 := atPos ER (kcell (c, a, i)) 0 ∅ 0
def wait (i : Fin 15) : sProp 𝕄 := iprop(cred (tallyAt (kcell (c, a, i)) () (N a)) ∗ at0 c a i)
def zero (i : Fin 15) : sProp 𝕄 := semVal (kcell (c, a, i)) 0
def got (i : Fin 15) : sProp 𝕄 := iprop(zero c a i ∗ pay m c a i)

/-- What exchange `k` needs besides its source: the mate's block and the rights to complete it at both ends. -/
def kit (k : Fin 7) : sProp 𝕄 :=
  iprop(blk a (mate k c) (org k c) (junk m a (mate k c)) ∗ dutyTok ER (sCell a c k) 0 () ∗ dutyTok ER (rCell a (mate k c) k) 0 ())
end Holds

/-! ## One send, one copy, one wait -/

section Steps

variable (K : Ctr → ℕ) (c : Dev nD) (a : Fin 5)

theorem inc_mate (k : Fin 7) : inc k (mate k c) = org k c := by unfold inc; rw [mate_mate]

abbrev WP {α : Type} (p : Prog (TpuEff nD τ sig (Elt F) Λ₀ .tc) α) (Q : α → sProp 𝕄) : sProp 𝕄 :=
  wp frame (wpE (defs₀ (F := F)) 𝒱₀ (c : Thread nD τ) none) Set.univ p Q

theorem credit_cut : ∀ (a : Fin 5) (off h), (cut a off h).view.dmaCredit = N a
  | 0, _, _ => rfl | 1, _, _ => rfl | 2, _, _ => rfl | 3, _, _ => rfl | 4, _, _ => rfl
theorem credit_x : ∀ a : Fin 5, (xM a).view.dmaCredit = N a
  | 0 => rfl | 1 => rfl | 2 => rfl | 3 => rfl | 4 => rfl

theorem send_step (k : Fin 7) (n : Dev nD) (hn : n = mate k c) {src dst : Memref sig .tc .hbm (sX a) .f32} (hd : dst = slab a (org k c))
    {sq rq : DmaSem sig} (hsq : sq = osem (a, sI k)) (hrq : rq = osem (a, rI k))
    {hsc : (dst : Memref sig (Dev.tc n : Thread nD τ).2.kind .hbm (sX a) .f32).view.ref.isScScratch = false}
    {hsrc : src.view.WordExact} {hdst : dst.view.WordExact}
    {hsem : DmaTarget.Typed .hbm (.dma rq) (.remote (Dev.tc n : Thread nD τ) (dst : Memref sig .tc .hbm (sX a) .f32) (.dma sq) hsc)}
    {q : PosShare TreeShare} (fs : Buf (Elt F) (src.view.loc (c : Thread nD τ)))
    (hpay : (src.view.loc (c : Thread nD τ) ↦[src.view.set]{q} fs : sProp 𝕄) ⊢ pay m c a (sI k))
    (hread : ∀ x : (sX a).Idx, src.view.read (Elt F) fs x = outAt m a (at3 (org k c) (x 0) (x 1)))
    (O : CellTallies nD τ sig Unit) (W : Waits sig Unit) :
    iprop((src.view.loc (c : Thread nD τ) ↦[src.view.set]{q} fs) ∗ kit m c a k ∗ at0 c a (sI k) ∗ know m K
        ∗ owes (c : Thread nD τ) (O + tallyAt (rCell a (mate k c) k) () (N a)) W)
      ⊢ WP c (Prog.lift (.enqueueDma src (.remote (Dev.tc n : Thread nD τ) dst (.dma sq) hsc) (.dma rq) hsrc hdst hsem))
          fun _ => iprop(wait c a (sI k) ∗ ∃ W', owes (c : Thread nD τ) O W') := by
  subst hn
  subst hd
  subst hsq
  subst hrq
  have hp : blk a (mate k c) (org k c) (out m a) = pay m (mate k c) a (rI k) := by rw [pay_recv, inc_mate]
  have hs : (Rd (F := F) m).payload (sCell a c k) 0 () = pay m c a (sI k) := payload_eq m (c, a, sI k) ()
  have hr : (Rd (F := F) m).payload (rCell a (mate k c) k) 0 () = pay m (mate k c) a (rI k) := payload_eq m (mate k c, a, rI k) ()
  unfold kit blk know wait
  iintro ⟨Hs, ⟨Hd, Ht1, Ht2⟩, Ha, ⟨#HR, -⟩, HO⟩
  iapply (Rounds.wp_send_pointsTo (defs := defs₀ (F := F)) (Q := fun _ : PUnit => (iprop((cred (tallyAt (sCell a c k) () (N a)) ∗ at0 c a (sI k)) ∗ ∃ W', owes (c : Thread nD τ) O W') : sProp 𝕄))
    (k := fun u => .ret u) (hsrc := hsrc) (hdst := hdst) (hsem := hsem) 𝒱₀ ER (Rd m) (c : Thread nD τ) none (κ₁ := K (c, a, sI k)) (κ₂ := K (mate k c, a, rI k))
    (r₁ := 0) (r₂ := 0) (d₁ := ()) (d₂ := ()) (fd := junk m a (mate k c)) (fs := fs) (q := q)
    (duties_mem m (c, a, sI k)) (duties_mem m (mate k c, a, rI k))
    () () (N a) (credit_cut a _ _) (amount_eq m (c, a, sI k) 0 ()) (amount_eq m (mate k c, a, rI k) 0 ()) O rfl (W := W)
    (hpay.trans (Entails.of_eq hs.symm)) (Entails.of_eq ((landed m a (mate k c) (org k c) (junk m a (mate k c)) _ hread).trans (hp.trans hr.symm)))) $$ [Hs Hd HO Ht1 Ht2]
  · isplitr; · iapply (rec_inv m K (c, a, sI k)); iexact HR
    isplitr; · iapply (rec_inv m K (mate k c, a, rI k)); iexact HR
    isplitl [Hs]; · iexact Hs
    isplitl [Hd]; · iexact Hd
    isplitl [HO]; · iexact HO
    isplitl [Ht1]; · iexact Ht1
    isplitr; · iapply (rec_reached m K (c, a, sI k)); iexact HR
    isplitl [Ht2]; · iexact Ht2
    iapply (rec_reached m K (mate k c, a, rI k)); iexact HR
  iintro ⟨HC, HO⟩
  rw [wp_ret]
  imodintro
  isplitl [HC Ha]
  · isplitl [HC] <;> iassumption
  iexists W; iexact HO

theorem copy_step {dst : Memref sig .tc .hbm (sX a) .f32} (hd : dst = slab a c) {lq : DmaSem sig} (hlq : lq = osem (a, 14))
    {hsrc : (xM a).view.WordExact} {hdst : dst.view.WordExact}
    {hsem : DmaTarget.Typed .hbm (.dma lq) (.here dst : DmaTarget nD τ sig .tc .hbm (sX a) .f32)} :
    iprop((xPart m a c 4 ∗ blk a c c (junk m a c) ∗ dutyTok ER (lCell a c) 0 () ∗ at0 c a 14) ∗ know m K)
      ⊢ WP c (Prog.lift (.enqueueDma (xM a) (.here dst) (.dma lq) hsrc hdst hsem)) fun _ => wait c a 14 := by
  subst hd
  subst hlq
  have hp : (Rd (F := F) m).payload (lCell a c) 0 () = iprop(blk a c c (out m a) ∗ xPart m a c 4) := payload_eq m (c, a, 14) ()
  unfold know wait
  have hl : iprop(((slab a c).view.loc (c : Thread nD τ) ↦[(slab a c).view.set]{fullShare} (slab a c).view.write (Elt F) (junk m a c) ((xM a).view.read (Elt F) (inBuf m a c)) Finset.univ)
      ∗ xPart m a c 4) ⊢ (Rd (F := F) m).payload (lCell a c) 0 () := by
    rw [hp]
    exact sep_mono_left (Entails.of_eq (landed m a c c (junk m a c) _ (read_x m a c)))
  unfold xPart at hl
  unfold xPart blk
  iintro ⟨⟨Hs, Hd, Ht, Ha⟩, ⟨#HR, -⟩⟩
  iapply (Rounds.wp_copy_pointsTo (defs := defs₀ (F := F)) (Q := fun _ : PUnit => (iprop(cred (tallyAt (lCell a c) () (N a)) ∗ at0 c a 14) : sProp 𝕄))
    (k := fun u => .ret u) (hsrc := hsrc) (hdst := hdst) (hsem := hsem) 𝒱₀ ER (Rd m) (c : Thread nD τ) none (κ := K (c, a, 14))
    (r := 0) (d := ()) (fd := junk m a c) (fs := inBuf m a c) (q := pieceOf fullShare 5 (by decide) 4)
    (duties_mem m (c, a, 14)) () (N a) (credit_cut a _ _) (amount_eq m (c, a, 14) 0 ()) hl) $$ [Hs Hd Ht]
  · isplitr; · iapply (rec_inv m K (c, a, 14)); iexact HR
    isplitl [Hs]; · iexact Hs
    isplitl [Hd]; · iexact Hd
    isplitl [Ht]; · iexact Ht
    iapply (rec_reached m K (c, a, 14)); iexact HR
  iintro HC
  rw [wp_ret]
  imodintro
  isplitl [HC] <;> iassumption

theorem wait_step (i : Fin 15) {q : DmaSem sig} (hq : q = osem (a, i)) {src dst : Memref sig .tc .hbm (sX a) .f32}
    {hsrc : src.view.WordExact} {hdst : dst.view.WordExact} (hN : dst.view.dmaCredit = N a)
    (O : CellTallies nD τ sig Unit) (hM : (levAts L lv : sProp 𝕄) ⊢ MayWait (c : Thread nD τ) (.dma (osem (a, i))) () O) (W : Waits sig Unit) :
    iprop(wait c a i ∗ know m K ∗ owes (c : Thread nD τ) O W)
      ⊢ WP c (Prog.lift (.waitDma2 q src dst hsrc hdst)) fun _ => iprop(got m c a i ∗ ∃ W', owes (c : Thread nD τ) O W') := by
  subst hq
  unfold know wait at0 got zero
  iintro ⟨⟨Hc, Ha⟩, ⟨#HR, #HL⟩, HO⟩
  ihave HM := hM $$ HL
  iapply (Rounds.wp_wait_rest_token 𝒱₀ ER (Rd m) (c : Thread nD τ) none (κ := K (c, a, i)) (k := fun u => .ret u)
      (wpE_waitDma2_eq 𝒱₀ (c : Thread nD τ) none Set.univ) (Set.mem_univ _) () (O := O) (W := W) (R := 0) (m := 0) (T := ∅)
      (by rw [Nat.zero_add, hN]; exact (expect_eq m (c, a, i)).symm)) $$ [Hc HO HM Ha]
  · isplitr; · iapply (rec_inv m K (c, a, i)); iexact HR
    isplitl [Hc]; · rw [hN]; iexact Hc
    isplitl [HO]; · iexact HO
    isplitl [HM]; · iexact HM
    iexact Ha
  iintro ⟨HO, Ha, -, Hp⟩
  imod (Rounds.cell_close ER (Rd m) (Set.mem_univ (K (c, a, i))) (fun h => h) (R := 0 + 1) (duties_later m (kcell (c, a, i)))) $$ [Ha] with Hz
  · isplitr; · iapply (rec_inv m K (c, a, i)); iexact HR
    iexact Ha
  rw [wp_ret]
  imodintro
  isplitl [Hz Hp]
  · isplitl [Hz]; · iexact Hz
    iapply (Entails.of_eq (rest_eq m (c, a, i))); iexact Hp
  iexists _; iexact HO

/-- A wait with nothing owed. -/
theorem wait_free (i : Fin 15) {q : DmaSem sig} (hq : q = osem (a, i)) {src dst : Memref sig .tc .hbm (sX a) .f32}
    {hsrc : src.view.WordExact} {hdst : dst.view.WordExact} (hN : dst.view.dmaCredit = N a) (W : Waits sig Unit) :
    iprop(wait c a i ∗ know m K ∗ owes (c : Thread nD τ) 0 W)
      ⊢ WP c (Prog.lift (.waitDma2 q src dst hsrc hdst)) fun _ => iprop(got m c a i ∗ ∃ W', owes (c : Thread nD τ) 0 W') :=
  wait_step m K c a i hq hN 0 (by rw [MayWait_zero]; iintro -; iempintro) W

/-- A send of the device's own input. -/
theorem own_step (k : Fin 7) (j : Fin 5) (hp : pay m c a (sI k) = xPart m a c j) (hb : org k c = c)
    (O : CellTallies nD τ sig Unit) (W : Waits sig Unit) :
    iprop(xPart m a c j ∗ kit m c a k ∗ at0 c a (sI k) ∗ know m K ∗ owes (c : Thread nD τ) (O + tallyAt (rCell a (mate k c) k) () (N a)) W)
      ⊢ WP c (sendOwn a k c) fun _ => iprop(wait c a (sI k) ∗ ∃ W', owes (c : Thread nD τ) O W') := by
  unfold xPart
  refine send_step m K c a k (dest a k c) (dest_eq a k c) (src := xM a) (dst := named a 0 c) ((named_eq a 0 c).trans (congrArg (slab a) hb.symm)) (sS_eq a k) (rS_eq a k)
    (q := pieceOf fullShare 5 (by decide) j) (inBuf m a c) ?_ ?_ O W
  · exact Entails.of_eq hp.symm
  · exact fun x => by rw [hb]; exact read_x m a c x

/-- A send of a block received before. -/
theorem on_step (k : Fin 7) (i : Fin 8) (hp : pay m c a (sI k) = blk a c (org k c) (out m a)) (hb : whose i c = org k c)
    (O : CellTallies nD τ sig Unit) (W : Waits sig Unit) :
    iprop(blk a c (org k c) (out m a) ∗ kit m c a k ∗ at0 c a (sI k) ∗ know m K ∗ owes (c : Thread nD τ) (O + tallyAt (rCell a (mate k c) k) () (N a)) W)
      ⊢ WP c (sendOn a k i c) fun _ => iprop(wait c a (sI k) ∗ ∃ W', owes (c : Thread nD τ) O W') := by
  have e : named a i c = slab a (org k c) := (named_eq a i c).trans (congrArg (slab a) hb)
  have h : ∀ (n : Dev nD) (src : Memref sig .tc .hbm (sX a) .f32) (hs : src.view.WordExact) (hr : src.view.ref.isScScratch = false), n = mate k c → src = slab a (org k c) →
      iprop(blk a c (org k c) (out m a) ∗ kit m c a k ∗ at0 c a (sI k) ∗ know m K ∗ owes (c : Thread nD τ) (O + tallyAt (rCell a (mate k c) k) () (N a)) W)
      ⊢ WP c (sendOp a k n src src hs hs hr) fun _ => iprop(wait c a (sI k) ∗ ∃ W', owes (c : Thread nD τ) O W') := by
    intro n src hs hr hn e
    subst e
    unfold blk
    refine send_step m K c a k n hn (src := slab a (org k c)) (dst := slab a (org k c)) rfl (sS_eq a k) (rS_eq a k) (q := fullShare) (out m a) ?_ ?_ O W
    · exact Entails.of_eq hp.symm
    · exact read_slab m a (org k c)
  exact h _ _ _ _ (dest_eq a k c) e

/-! ## The steps of one array -/

theorem copy_wp (O : CellTallies nD τ sig Unit) (W : Waits sig Unit) :
    iprop((xPart m a c 4 ∗ blk a c c (junk m a c) ∗ dutyTok ER (lCell a c) 0 () ∗ at0 c a 14) ∗ know m K ∗ owes (c : Thread nD τ) O W)
      ⊢ WP c (stepCopy c a) fun _ => iprop(wait c a 14 ∗ ∃ W', owes (c : Thread nD τ) O W') := by
  iintro ⟨H, #HK, HO⟩
  iapply (wp_wand _ _ _ (Q := fun _ => wait c a 14)) $$ [H]
  · iapply (copy_step m K c a (named_eq a 0 c) (lS_eq a))
    isplitl [H]; · iexact H
    iexact HK
  iintro %u HW
  isplitl [HW]; · iexact HW
  iexists W; iexact HO

/-- What a send of the device's own input needs. -/
def pre (k : Fin 7) (j : Fin 5) : sProp 𝕄 := iprop(xPart m a c j ∗ kit m c a k ∗ at0 c a (sI k))

theorem first_wp (l : List (Fin 5 × Fin 7)) (W : Waits sig Unit) :
    iprop((pre m c a 0 0 ∗ pre m c a 1 1 ∗ pre m c a 2 2 ∗ pre m c a 3 3) ∗ know m K
        ∗ owes (c : Thread nD τ) (left c ((a, 0) :: (a, 1) :: (a, 2) :: (a, 3) :: l)) W)
      ⊢ WP c (stepFirst c a) fun _ => iprop((wait c a 0 ∗ wait c a 1 ∗ wait c a 2 ∗ wait c a 3) ∗ ∃ W', owes (c : Thread nD τ) (left c l) W') := by
  unfold pre
  iintro ⟨⟨⟨X0, B0, A0⟩, ⟨X1, B1, A1⟩, ⟨X2, B2, A2⟩, ⟨X3, B3, A3⟩⟩, #HK, HO⟩
  rw [WP, wp_bind]
  iapply (wp_wand _ _ _) $$ [X0 B0 A0 HO]
  · iapply (own_step m K c a 0 0 rfl rfl (left c ((a, 1) :: (a, 2) :: (a, 3) :: l)) W)
    isplitl [X0]; · iexact X0
    isplitl [B0]; · iexact B0
    isplitl [A0]; · iexact A0
    isplitr; · iexact HK
    iexact HO
  iintro %u0 ⟨W0, %V0, HO⟩
  rw [wp_bind]
  iapply (wp_wand _ _ _) $$ [X1 B1 A1 HO]
  · iapply (own_step m K c a 1 1 rfl rfl (left c ((a, 2) :: (a, 3) :: l)) V0)
    isplitl [X1]; · iexact X1
    isplitl [B1]; · iexact B1
    isplitl [A1]; · iexact A1
    isplitr; · iexact HK
    iexact HO
  iintro %u1 ⟨W1, %V1, HO⟩
  rw [wp_bind]
  iapply (wp_wand _ _ _) $$ [X2 B2 A2 HO]
  · iapply (own_step m K c a 2 2 rfl rfl (left c ((a, 3) :: l)) V1)
    isplitl [X2]; · iexact X2
    isplitl [B2]; · iexact B2
    isplitl [A2]; · iexact A2
    isplitr; · iexact HK
    iexact HO
  iintro %u2 ⟨W2, %V2, HO⟩
  iapply (wp_wand _ _ _) $$ [X3 B3 A3 HO]
  · iapply (own_step m K c a 3 3 rfl rfl (left c l) V2)
    isplitl [X3]; · iexact X3
    isplitl [B3]; · iexact B3
    isplitl [A3]; · iexact A3
    isplitr; · iexact HK
    iexact HO
  iintro %u3 ⟨W3, %V3, HO⟩
  isplitl [W0 W1 W2 W3]
  · isplitl [W0]; · iexact W0
    isplitl [W1]; · iexact W1
    isplitl [W2]; · iexact W2
    iexact W3
  iexists V3; iexact HO

theorem pass_wp (k k' : Fin 7) (i : Fin 8) (hk : (rI k).val < 11) (hb : whose i c = org k' c)
    (hr : pay m c a (rI k) = blk a c (org k' c) (out m a)) (hp : pay m c a (sI k') = blk a c (org k' c) (out m a))
    (l : List (Fin 5 × Fin 7)) (hl : ∀ p ∈ (a, k') :: l, 4 ≤ p.2.val) (W : Waits sig Unit) :
    iprop((wait c a (rI k) ∗ kit m c a k' ∗ at0 c a (sI k')) ∗ know m K ∗ owes (c : Thread nD τ) (left c ((a, k') :: l)) W)
      ⊢ WP c (stepPass k k' i c a) fun _ => iprop((zero c a (rI k) ∗ wait c a (sI k')) ∗ ∃ W', owes (c : Thread nD τ) (left c l) W') := by
  iintro ⟨⟨HW, HB, HA⟩, #HK, HO⟩
  rw [WP, wp_bind]
  iapply (wp_wand _ _ _) $$ [HW HO]
  · iapply (wait_step m K c a (rI k) (rS_eq a k) (credit_cut a _ _) (left c ((a, k') :: l)) (mayWait c a (rI k) hk _ hl) W)
    isplitl [HW]; · iexact HW
    isplitr; · iexact HK
    iexact HO
  unfold got
  iintro %u ⟨⟨HZ, HP⟩, %V, HO⟩
  iapply (wp_wand _ _ _) $$ [HP HB HA HO]
  · iapply (on_step m K c a k' i hp hb (left c l) V)
    isplitl [HP]; · iapply (Entails.of_eq hr); iexact HP
    isplitl [HB]; · iexact HB
    isplitl [HA]; · iexact HA
    isplitr; · iexact HK
    iexact HO
  iintro %u' ⟨HW, HO⟩
  isplitl [HZ HW]
  · isplitl [HZ] <;> iassumption
  iexact HO

/-- Four waits in a row with nothing owed. -/
theorem four_wp (i0 i1 i2 i3 : Fin 15) (p0 p1 p2 p3 : Op (F := F))
    (h0 : ∀ W, iprop(wait c a i0 ∗ know m K ∗ owes (c : Thread nD τ) 0 W) ⊢ WP c p0 fun _ => iprop(got m c a i0 ∗ ∃ W', owes (c : Thread nD τ) 0 W'))
    (h1 : ∀ W, iprop(wait c a i1 ∗ know m K ∗ owes (c : Thread nD τ) 0 W) ⊢ WP c p1 fun _ => iprop(got m c a i1 ∗ ∃ W', owes (c : Thread nD τ) 0 W'))
    (h2 : ∀ W, iprop(wait c a i2 ∗ know m K ∗ owes (c : Thread nD τ) 0 W) ⊢ WP c p2 fun _ => iprop(got m c a i2 ∗ ∃ W', owes (c : Thread nD τ) 0 W'))
    (h3 : ∀ W, iprop(wait c a i3 ∗ know m K ∗ owes (c : Thread nD τ) 0 W) ⊢ WP c p3 fun _ => iprop(got m c a i3 ∗ ∃ W', owes (c : Thread nD τ) 0 W'))
    (W : Waits sig Unit) :
    iprop((wait c a i0 ∗ wait c a i1 ∗ wait c a i2 ∗ wait c a i3) ∗ know m K ∗ owes (c : Thread nD τ) 0 W)
      ⊢ WP c (p0 >>= fun _ => p1 >>= fun _ => p2 >>= fun _ => p3)
          fun _ => iprop((got m c a i0 ∗ got m c a i1 ∗ got m c a i2 ∗ got m c a i3) ∗ ∃ W', owes (c : Thread nD τ) 0 W') := by
  iintro ⟨⟨H0, H1, H2, H3⟩, #HK, HO⟩
  rw [WP, wp_bind]
  iapply (wp_wand _ _ _) $$ [H0 HO]
  · iapply (h0 W)
    isplitl [H0]; · iexact H0
    isplitr; · iexact HK
    iexact HO
  iintro %u0 ⟨H0, %V0, HO⟩
  rw [wp_bind]
  iapply (wp_wand _ _ _) $$ [H1 HO]
  · iapply (h1 V0)
    isplitl [H1]; · iexact H1
    isplitr; · iexact HK
    iexact HO
  iintro %u1 ⟨H1, %V1, HO⟩
  rw [wp_bind]
  iapply (wp_wand _ _ _) $$ [H2 HO]
  · iapply (h2 V1)
    isplitl [H2]; · iexact H2
    isplitr; · iexact HK
    iexact HO
  iintro %u2 ⟨H2, %V2, HO⟩
  iapply (wp_wand _ _ _) $$ [H3 HO]
  · iapply (h3 V2)
    isplitl [H3]; · iexact H3
    isplitr; · iexact HK
    iexact HO
  iintro %u3 ⟨H3, HO⟩
  isplitl [H0 H1 H2 H3]
  · isplitl [H0]; · iexact H0
    isplitl [H1]; · iexact H1
    isplitl [H2] <;> iassumption
  iexact HO

theorem rest_wp (W : Waits sig Unit) :
    iprop((wait c a 7 ∗ wait c a 11 ∗ wait c a 12 ∗ wait c a 13) ∗ know m K ∗ owes (c : Thread nD τ) 0 W)
      ⊢ WP c (stepRest c a) fun _ => iprop((got m c a 7 ∗ got m c a 11 ∗ got m c a 12 ∗ got m c a 13) ∗ ∃ W', owes (c : Thread nD τ) 0 W') :=
  four_wp m K c a 7 11 12 13 _ _ _ _
    (wait_free m K c a 7 (rS_eq a 0) (credit_cut a _ _)) (wait_free m K c a 11 (rS_eq a 4) (credit_cut a _ _))
    (wait_free m K c a 12 (rS_eq a 5) (credit_cut a _ _)) (wait_free m K c a 13 (rS_eq a 6) (credit_cut a _ _)) W

theorem sent_wp (W : Waits sig Unit) :
    iprop((wait c a 0 ∗ wait c a 1 ∗ wait c a 2 ∗ wait c a 3) ∗ know m K ∗ owes (c : Thread nD τ) 0 W)
      ⊢ WP c (stepSent c a) fun _ => iprop((got m c a 0 ∗ got m c a 1 ∗ got m c a 2 ∗ got m c a 3) ∗ ∃ W', owes (c : Thread nD τ) 0 W') :=
  four_wp m K c a 0 1 2 3 _ _ _ _
    (wait_free m K c a 0 (sS_eq a 0) (credit_x a)) (wait_free m K c a 1 (sS_eq a 1) (credit_x a))
    (wait_free m K c a 2 (sS_eq a 2) (credit_x a)) (wait_free m K c a 3 (sS_eq a 3) (credit_x a)) W

end Steps

/-! ## A step over the five arrays -/

omit [FloatOps F] in
theorem bigSep5 (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ

/-- A step done on each array in turn, what is owed falling from `O 0` to `O 5`. -/
theorem five_wp (K : Ctr → ℕ) (c : Dev nD) (f : Fin 5 → Op (F := F)) (P Q : Fin 5 → sProp 𝕄) (O : ℕ → CellTallies nD τ sig Unit)
    (h : ∀ (a : Fin 5) W, iprop(P a ∗ know m K ∗ owes (c : Thread nD τ) (O a.val) W) ⊢ WP c (f a) fun _ => iprop(Q a ∗ ∃ W', owes (c : Thread nD τ) (O (a.val + 1)) W'))
    (W : Waits sig Unit) :
    iprop((bigSep Finset.univ P) ∗ know m K ∗ owes (c : Thread nD τ) (O 0) W)
      ⊢ WP c (five f) fun _ => iprop((bigSep Finset.univ Q) ∗ ∃ W', owes (c : Thread nD τ) (O 5) W') := by
  simp only [bigSep5]
  iintro ⟨⟨H0, H1, H2, H3, H4⟩, #HK, HO⟩
  rw [WP, five, wp_bind]
  iapply (wp_wand _ _ _) $$ [H0 HO]
  · iapply (h 0 W)
    isplitl [H0]; · iexact H0
    isplitr; · iexact HK
    iexact HO
  iintro %u0 ⟨H0, %V0, HO⟩
  rw [wp_bind]
  iapply (wp_wand _ _ _) $$ [H1 HO]
  · iapply (h 1 V0)
    isplitl [H1]; · iexact H1
    isplitr; · iexact HK
    iexact HO
  iintro %u1 ⟨H1, %V1, HO⟩
  rw [wp_bind]
  iapply (wp_wand _ _ _) $$ [H2 HO]
  · iapply (h 2 V1)
    isplitl [H2]; · iexact H2
    isplitr; · iexact HK
    iexact HO
  iintro %u2 ⟨H2, %V2, HO⟩
  rw [wp_bind]
  iapply (wp_wand _ _ _) $$ [H3 HO]
  · iapply (h 3 V2)
    isplitl [H3]; · iexact H3
    isplitr; · iexact HK
    iexact HO
  iintro %u3 ⟨H3, %V3, HO⟩
  iapply (wp_wand _ _ _) $$ [H4 HO]
  · iapply (h 4 V3)
    isplitl [H4]; · iexact H4
    isplitr; · iexact HK
    iexact HO
  iintro %u4 ⟨H4, HO⟩
  isplitl [H0 H1 H2 H3 H4]
  · isplitl [H0]; · iexact H0
    isplitl [H1]; · iexact H1
    isplitl [H2]; · iexact H2
    isplitl [H3] <;> iassumption
  iexact HO

/-! ## The body -/

omit [FloatOps F] in
theorem bigSep7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ
omit [FloatOps F] in
theorem bigSep15 (Φ : Fin 15 → sProp 𝕄) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14) :=
  bigSep_univ_eq_bigSepL [0, 1, 2, 3, 4, 5, 6, 7, 8, 9, 10, 11, 12, 13, 14] (by decide) (by decide) Φ

omit [FloatOps F] in
/-- A device's output: its own block and the seven it receives. -/
theorem blk_deal (a : Fin 5) (e : Dev nD) (f : Cont (F := F) a) :
    (whole a e f : sProp 𝕄) = iprop(blk a e e f ∗ bigSep Finset.univ fun k : Fin 7 => blk a e (inc k e) f) := by
  rw [blk_all, bigSep7]
  exact bigSep_univ_eq_bigSepL [e, inc 0 e, inc 1 e, inc 2 e, inc 3 e, inc 4 e, inc 5 e, inc 6 e] (by revert e; decide) (by revert e; decide) _

section One
variable (c : Dev nD) (a : Fin 5)

def ats : sProp 𝕄 := bigSep Finset.univ fun i : Fin 15 => at0 c a i
/-- The right to complete each of the transfers a device issues. -/
def payToks : sProp 𝕄 :=
  iprop((bigSep Finset.univ fun k : Fin 7 => dutyTok ER (sCell a c k) 0 ()) ∗ dutyTok ER (lCell a c) 0 ()
    ∗ bigSep Finset.univ fun k : Fin 7 => dutyTok ER (rCell a (mate k c) k) 0 ())
def recvCreds : sProp 𝕄 := bigSep Finset.univ fun k : Fin 7 => cred (tallyAt (rCell a c k) () (N a))
/-- The blocks a device fills: its own, and one of each mate. -/
def lands : sProp 𝕄 :=
  iprop(blk a c c (junk m a c) ∗ bigSep Finset.univ fun k : Fin 7 => blk a (mate k c) (org k c) (junk m a (mate k c)))

/-- What a device starts from and ends with, for one array. -/
def begin : sProp 𝕄 := iprop(ats c a ∗ payToks c a ∗ recvCreds c a ∗ input m a c ∗ lands m c a)
def finish : sProp 𝕄 := iprop(input m a c ∗ whole a c (out m a) ∗ bigSep Finset.univ fun i : Fin 15 => zero c a i)

def preCopy : sProp 𝕄 := iprop(xPart m a c 4 ∗ blk a c c (junk m a c) ∗ dutyTok ER (lCell a c) 0 () ∗ at0 c a 14)
def preFirst : sProp 𝕄 := iprop(pre m c a 0 0 ∗ pre m c a 1 1 ∗ pre m c a 2 2 ∗ pre m c a 3 3)
def prePass (k k' : Fin 7) : sProp 𝕄 := iprop(wait c a (rI k) ∗ kit m c a k' ∗ at0 c a (sI k'))
def four (i0 i1 i2 i3 : Fin 15) : sProp 𝕄 := iprop(wait c a i0 ∗ wait c a i1 ∗ wait c a i2 ∗ wait c a i3)
def fourGot (i0 i1 i2 i3 : Fin 15) : sProp 𝕄 := iprop(got m c a i0 ∗ got m c a i1 ∗ got m c a i2 ∗ got m c a i3)
def postPass (k k' : Fin 7) : sProp 𝕄 := iprop(zero c a (rI k) ∗ wait c a (sI k'))

omit [FloatOps F] in
theorem begin_split : begin m c a ⊢ iprop(preCopy m c a ∗ preFirst m c a ∗ prePass m c a 1 4 ∗ prePass m c a 2 5 ∗ prePass m c a 3 6 ∗ four c a 7 11 12 13) := by
  unfold begin ats payToks recvCreds lands preCopy preFirst prePass four pre kit wait
  rw [xPart_all]
  simp only [bigSep5, bigSep7, bigSep15]
  iintro ⟨⟨A0, A1, A2, A3, A4, A5, A6, A7, A8, A9, A10, A11, A12, A13, A14⟩, ⟨⟨S0, S1, S2, S3, S4, S5, S6⟩, SL, ⟨T0, T1, T2, T3, T4, T5, T6⟩⟩, ⟨C0, C1, C2, C3, C4, C5, C6⟩, ⟨X0, X1, X2, X3, X4⟩, ⟨B, B0, B1, B2, B3, B4, B5, B6⟩⟩
  isplitl [X4 B SL A14]
  · isplitl [X4]; · iexact X4
    isplitl [B]; · iexact B
    isplitl [SL]; · iexact SL
    iexact A14
  isplitl [X0 X1 X2 X3 B0 B1 B2 B3 S0 S1 S2 S3 T0 T1 T2 T3 A0 A1 A2 A3]
  · isplitl [X0 B0 S0 T0 A0]
    · isplitl [X0]; · iexact X0
      isplitl [B0 S0 T0]
      · isplitl [B0]; · iexact B0
        isplitl [S0]; · iexact S0
        iexact T0
      iexact A0
    isplitl [X1 B1 S1 T1 A1]
    · isplitl [X1]; · iexact X1
      isplitl [B1 S1 T1]
      · isplitl [B1]; · iexact B1
        isplitl [S1]; · iexact S1
        iexact T1
      iexact A1
    isplitl [X2 B2 S2 T2 A2]
    · isplitl [X2]; · iexact X2
      isplitl [B2 S2 T2]
      · isplitl [B2]; · iexact B2
        isplitl [S2]; · iexact S2
        iexact T2
      iexact A2
    isplitl [X3]; · iexact X3
    isplitl [B3 S3 T3]
    · isplitl [B3]; · iexact B3
      isplitl [S3]; · iexact S3
      iexact T3
    iexact A3
  isplitl [C1 A8 B4 S4 T4 A4]
  · isplitl [C1 A8]
    · isplitl [C1]; · iexact C1
      iexact A8
    isplitl [B4 S4 T4]
    · isplitl [B4]; · iexact B4
      isplitl [S4]; · iexact S4
      iexact T4
    iexact A4
  isplitl [C2 A9 B5 S5 T5 A5]
  · isplitl [C2 A9]
    · isplitl [C2]; · iexact C2
      iexact A9
    isplitl [B5 S5 T5]
    · isplitl [B5]; · iexact B5
      isplitl [S5]; · iexact S5
      iexact T5
    iexact A5
  isplitl [C3 A10 B6 S6 T6 A6]
  · isplitl [C3 A10]
    · isplitl [C3]; · iexact C3
      iexact A10
    isplitl [B6 S6 T6]
    · isplitl [B6]; · iexact B6
      isplitl [S6]; · iexact S6
      iexact T6
    iexact A6
  isplitl [C0 A7]
  · isplitl [C0]; · iexact C0
    iexact A7
  isplitl [C4 A11]
  · isplitl [C4]; · iexact C4
    iexact A11
  isplitl [C5 A12]
  · isplitl [C5]; · iexact C5
    iexact A12
  isplitl [C6]; · iexact C6
  iexact A13

omit [FloatOps F] in
theorem finish_join :
    iprop(fourGot m c a 7 11 12 13 ∗ fourGot m c a 0 1 2 3 ∗ zero c a (rI 1) ∗ got m c a 4 ∗ zero c a (rI 2) ∗ got m c a 5 ∗ zero c a (rI 3) ∗ got m c a 6 ∗ got m c a 14)
      ⊢ finish m c a := by
  unfold fourGot finish got
  rw [xPart_all, blk_deal]
  simp only [bigSep5, bigSep7, bigSep15]
  iintro ⟨⟨⟨Z7, R0⟩, ⟨Z11, R4⟩, ⟨Z12, R5⟩, ⟨Z13, R6⟩⟩, ⟨⟨Z0, X0⟩, ⟨Z1, X1⟩, ⟨Z2, X2⟩, ⟨Z3, X3⟩⟩, Z8, ⟨Z4, R1⟩, Z9, ⟨Z5, R2⟩, Z10, ⟨Z6, R3⟩, ⟨Z14, P⟩⟩
  ihave P := (Entails.of_eq (show pay m c a 14 = iprop(blk a c c (out m a) ∗ xPart m a c 4) from rfl)) $$ P
  icases P with ⟨RL, X4⟩
  isplitl [X0 X1 X2 X3 X4]
  · isplitl [X0]; · iapply (Entails.of_eq (show pay m c a 0 = xPart m a c 0 from rfl)); iexact X0
    isplitl [X1]; · iapply (Entails.of_eq (show pay m c a 1 = xPart m a c 1 from rfl)); iexact X1
    isplitl [X2]; · iapply (Entails.of_eq (show pay m c a 2 = xPart m a c 2 from rfl)); iexact X2
    isplitl [X3]; · iapply (Entails.of_eq (show pay m c a 3 = xPart m a c 3 from rfl)); iexact X3
    iexact X4
  isplitl [RL R0 R1 R2 R3 R4 R5 R6]
  · isplitl [RL]; · iexact RL
    isplitl [R0]; · iapply (Entails.of_eq (show pay m c a 7 = blk a c (inc 0 c) (out m a) from rfl)); iexact R0
    isplitl [R1]; · iapply (Entails.of_eq (show pay m c a 4 = blk a c (inc 1 c) (out m a) from rfl)); iexact R1
    isplitl [R2]; · iapply (Entails.of_eq (show pay m c a 5 = blk a c (inc 2 c) (out m a) from rfl)); iexact R2
    isplitl [R3]; · iapply (Entails.of_eq (show pay m c a 6 = blk a c (inc 3 c) (out m a) from rfl)); iexact R3
    isplitl [R4]; · iapply (Entails.of_eq (show pay m c a 11 = blk a c (inc 4 c) (out m a) from rfl)); iexact R4
    isplitl [R5]; · iapply (Entails.of_eq (show pay m c a 12 = blk a c (inc 5 c) (out m a) from rfl)); iexact R5
    iapply (Entails.of_eq (show pay m c a 13 = blk a c (inc 6 c) (out m a) from rfl)); iexact R6
  isplitl [Z0]; · iexact Z0
  isplitl [Z1]; · iexact Z1
  isplitl [Z2]; · iexact Z2
  isplitl [Z3]; · iexact Z3
  isplitl [Z4]; · iexact Z4
  isplitl [Z5]; · iexact Z5
  isplitl [Z6]; · iexact Z6
  isplitl [Z7]; · iexact Z7
  isplitl [Z8]; · iexact Z8
  isplitl [Z9]; · iexact Z9
  isplitl [Z10]; · iexact Z10
  isplitl [Z11]; · iexact Z11
  isplitl [Z12]; · iexact Z12
  isplitl [Z13]; · iexact Z13
  iexact Z14

end One

def start (c : Dev nD) : sProp 𝕄 :=
  iprop((∃ K, records m K) ∗ levAts L lv ∗ bigSep Finset.univ fun a : Fin 5 => begin m c a)
def done (c : Dev nD) : sProp 𝕄 := bigSep Finset.univ fun a : Fin 5 => finish m c a

/-- What a device owes after `n` of its sends. -/
def owed (c : Dev nD) (n : ℕ) : CellTallies nD τ sig Unit := left c (order.drop n)

section Whole
variable (K : Ctr → ℕ) (c : Dev nD) (W : Waits sig Unit)

theorem copy_five : iprop((bigSep Finset.univ fun a => preCopy m c a) ∗ know m K ∗ owes (c : Thread nD τ) (owed c 0) W)
    ⊢ WP c (five (stepCopy c)) fun _ => iprop((bigSep Finset.univ fun a => wait c a 14) ∗ ∃ W', owes (c : Thread nD τ) (owed c 0) W') :=
  five_wp m K c (stepCopy c) (fun a => preCopy m c a) (fun a => wait c a 14) (fun _ => owed c 0) (fun a W => copy_wp m K c a (owed c 0) W) W

theorem first_five : iprop((bigSep Finset.univ fun a => preFirst m c a) ∗ know m K ∗ owes (c : Thread nD τ) (owed c 0) W)
    ⊢ WP c (five (stepFirst c)) fun _ => iprop((bigSep Finset.univ fun a => four c a 0 1 2 3) ∗ ∃ W', owes (c : Thread nD τ) (owed c 20) W') :=
  five_wp m K c (stepFirst c) (fun a => preFirst m c a) (fun a => four c a 0 1 2 3) (fun n => owed c (4 * n))
    (fun a W => by
      show _ ∗ _ ∗ owes _ (left c (order.drop (4 * a.val))) W ⊢ _
      rw [order_first a]
      exact first_wp m K c a _ W) W

theorem pass_five (j : Fin 3) (k k' : Fin 7) (i : Fin 8) (hk' : k' = ⟨4 + j.val, by omega⟩) (hk : (rI k).val < 11) (hb : whose i c = org k' c)
    (hr : ∀ a, pay m c a (rI k) = blk a c (org k' c) (out m a)) (hp : ∀ a, pay m c a (sI k') = blk a c (org k' c) (out m a)) :
    iprop((bigSep Finset.univ fun a => prePass m c a k k') ∗ know m K ∗ owes (c : Thread nD τ) (owed c (20 + 5 * j.val)) W)
    ⊢ WP c (five (stepPass k k' i c)) fun _ => iprop((bigSep Finset.univ fun a => postPass c a k k') ∗ ∃ W', owes (c : Thread nD τ) (owed c (20 + 5 * j.val + 5)) W') :=
  five_wp m K c (stepPass k k' i c) (fun a => prePass m c a k k') (fun a => postPass c a k k') (fun n => owed c (20 + 5 * j.val + n))
    (fun a W => by
      have h := order_late ⟨5 * j.val + a.val, by omega⟩
      have e := order_pass j a
      rw [← hk'] at e
      rw [show 20 + (⟨5 * j.val + a.val, by omega⟩ : Fin 16).val = 20 + 5 * j.val + a.val from (Nat.add_assoc ..).symm, e] at h
      show _ ∗ _ ∗ owes _ (left c (order.drop (20 + 5 * j.val + a.val))) W ⊢ _
      rw [e]
      exact pass_wp m K c a k k' i hk hb (hr a) (hp a) _ h W) W

theorem rest_five : iprop((bigSep Finset.univ fun a => four c a 7 11 12 13) ∗ know m K ∗ owes (c : Thread nD τ) 0 W)
    ⊢ WP c (five (stepRest c)) fun _ => iprop((bigSep Finset.univ fun a => fourGot m c a 7 11 12 13) ∗ ∃ W', owes (c : Thread nD τ) 0 W') :=
  five_wp m K c (stepRest c) _ _ (fun _ => 0) (fun a W => rest_wp m K c a W) W

theorem sent_five : iprop((bigSep Finset.univ fun a => four c a 0 1 2 3) ∗ know m K ∗ owes (c : Thread nD τ) 0 W)
    ⊢ WP c (five (stepSent c)) fun _ => iprop((bigSep Finset.univ fun a => fourGot m c a 0 1 2 3) ∗ ∃ W', owes (c : Thread nD τ) 0 W') :=
  five_wp m K c (stepSent c) _ _ (fun _ => 0) (fun a W => sent_wp m K c a W) W

theorem passed_five (k : Fin 7) (i : Fin 8) : iprop((bigSep Finset.univ fun a => wait c a (sI k)) ∗ know m K ∗ owes (c : Thread nD τ) 0 W)
    ⊢ WP c (five (stepPassed k i c)) fun _ => iprop((bigSep Finset.univ fun a => got m c a (sI k)) ∗ ∃ W', owes (c : Thread nD τ) 0 W') :=
  five_wp m K c (stepPassed k i c) (fun a => wait c a (sI k)) (fun a => got m c a (sI k)) (fun _ => 0)
    (fun a W => wait_free m K c a (sI k) (sS_eq a k) (credit_cut a _ _) W) W

theorem copied_five : iprop((bigSep Finset.univ fun a => wait c a 14) ∗ know m K ∗ owes (c : Thread nD τ) 0 W)
    ⊢ WP c (five (stepCopied c)) fun _ => iprop((bigSep Finset.univ fun a => got m c a 14) ∗ ∃ W', owes (c : Thread nD τ) 0 W') :=
  five_wp m K c (stepCopied c) (fun a => wait c a 14) (fun a => got m c a 14) (fun _ => 0)
    (fun a W => wait_free m K c a 14 (lS_eq a) (credit_cut a _ _) W) W

end Whole

theorem body (c : Dev nD) (W : Waits sig Unit) :
    iprop(start m c ∗ owes (c : Thread nD τ) (left c order) W)
      ⊢ wp frame (wpE (defs₀ (F := F)) 𝒱₀ (c : Thread nD τ) none) Set.univ (text0 (F := F))
          fun _ => iprop(done m c ∗ ∃ W', owes (c : Thread nD τ) 0 W') := by
  have hb : (bigSep Finset.univ fun a : Fin 5 => begin m c a) ⊢ iprop((bigSep Finset.univ fun a => preCopy m c a) ∗ (bigSep Finset.univ fun a => preFirst m c a)
      ∗ (bigSep Finset.univ fun a => prePass m c a 1 4) ∗ (bigSep Finset.univ fun a => prePass m c a 2 5) ∗ (bigSep Finset.univ fun a => prePass m c a 3 6)
      ∗ bigSep Finset.univ fun a => four c a 7 11 12 13) := by
    simp only [← bigSep_sep']
    exact bigSep_mono fun a _ => begin_split m c a
  have he : iprop((bigSep Finset.univ fun a => fourGot m c a 7 11 12 13) ∗ (bigSep Finset.univ fun a => fourGot m c a 0 1 2 3)
      ∗ (bigSep Finset.univ fun a => zero c a (rI 1)) ∗ (bigSep Finset.univ fun a => got m c a 4) ∗ (bigSep Finset.univ fun a => zero c a (rI 2)) ∗ (bigSep Finset.univ fun a => got m c a 5)
      ∗ (bigSep Finset.univ fun a => zero c a (rI 3)) ∗ (bigSep Finset.univ fun a => got m c a 6) ∗ bigSep Finset.univ fun a => got m c a 14) ⊢ done m c := by
    unfold done
    simp only [← bigSep_sep']
    exact bigSep_mono fun a _ => finish_join m c a
  have hp (k k' : Fin 7) : (bigSep Finset.univ fun a => postPass c a k k' : sProp 𝕄) ⊢ iprop((bigSep Finset.univ fun a => zero c a (rI k)) ∗ bigSep Finset.univ fun a => wait c a (sI k')) := by
    unfold postPass
    rw [bigSep_sep']
  unfold start text0
  simp only [Prog.lift, Prog.bind_op, Prog.bind_ret, wp_deviceId]
  iintro ⟨⟨⟨%K, #HR⟩, #HL, HB⟩, HO⟩
  have hk : iprop(records m K ∗ levAts L lv) ⊢ know m K := by unfold know; exact BIBase.Entails.refl
  ihave #HK := hk $$ [HR HL]
  · isplitr; · iexact HR
    iexact HL
  ihave HB := hb $$ HB
  icases HB with ⟨HC, HF, H4, H5, H6, HW⟩
  rw [wp_bind]
  iapply (wp_wand _ _ _) $$ [HC HO]
  · iapply (copy_five m K c W)
    isplitl [HC]; · iexact HC
    isplitr; · iexact HK
    iexact HO
  iintro %u0 ⟨HC, %V0, HO⟩
  rw [wp_bind]
  iapply (wp_wand _ _ _) $$ [HF HO]
  · iapply (first_five m K c V0)
    isplitl [HF]; · iexact HF
    isplitr; · iexact HK
    iexact HO
  iintro %u1 ⟨HF, %V1, HO⟩
  rw [wp_bind]
  iapply (wp_wand _ _ _) $$ [H4 HO]
  · iapply (pass_five m K c V1 0 1 4 1 rfl (by decide) rfl (fun _ => rfl) (fun _ => rfl))
    isplitl [H4]; · iexact H4
    isplitr; · iexact HK
    iexact HO
  iintro %u2 ⟨H4, %V2, HO⟩
  ihave H4 := (hp 1 4) $$ H4
  icases H4 with ⟨Z1, W4⟩
  rw [wp_bind]
  iapply (wp_wand _ _ _) $$ [H5 HO]
  · iapply (pass_five m K c V2 1 2 5 2 rfl (by decide) rfl (fun _ => rfl) (fun _ => rfl))
    isplitl [H5]; · iexact H5
    isplitr; · iexact HK
    iexact HO
  iintro %u3 ⟨H5, %V3, HO⟩
  ihave H5 := (hp 2 5) $$ H5
  icases H5 with ⟨Z2, W5⟩
  rw [wp_bind]
  iapply (wp_wand _ _ _) $$ [H6 HO]
  · iapply (pass_five m K c V3 2 3 6 3 rfl (by decide) rfl (fun _ => rfl) (fun _ => rfl))
    isplitl [H6]; · iexact H6
    isplitr; · iexact HK
    iexact HO
  iintro %u4 ⟨H6, %V4, HO⟩
  ihave H6 := (hp 3 6) $$ H6
  icases H6 with ⟨Z3, W6⟩
  rw [wp_bind]
  iapply (wp_wand _ _ _) $$ [HW HO]
  · iapply (rest_five m K c V4)
    isplitl [HW]; · iexact HW
    isplitr; · iexact HK
    iexact HO
  iintro %u5 ⟨HW, %V5, HO⟩
  rw [wp_bind]
  iapply (wp_wand _ _ _) $$ [HF HO]
  · iapply (sent_five m K c V5)
    isplitl [HF]; · iexact HF
    isplitr; · iexact HK
    iexact HO
  iintro %u6 ⟨HF, %V6, HO⟩
  rw [wp_bind]
  iapply (wp_wand _ _ _) $$ [W4 HO]
  · iapply (passed_five m K c V6 4 1)
    isplitl [W4]; · iexact W4
    isplitr; · iexact HK
    iexact HO
  iintro %u7 ⟨W4, %V7, HO⟩
  rw [wp_bind]
  iapply (wp_wand _ _ _) $$ [W5 HO]
  · iapply (passed_five m K c V7 5 2)
    isplitl [W5]; · iexact W5
    isplitr; · iexact HK
    iexact HO
  iintro %u8 ⟨W5, %V8, HO⟩
  rw [wp_bind]
  iapply (wp_wand _ _ _) $$ [W6 HO]
  · iapply (passed_five m K c V8 6 3)
    isplitl [W6]; · iexact W6
    isplitr; · iexact HK
    iexact HO
  iintro %u9 ⟨W6, %V9, HO⟩
  iapply (wp_wand _ _ _) $$ [HC HO]
  · iapply (copied_five m K c V9)
    isplitl [HC]; · iexact HC
    isplitr; · iexact HK
    iexact HO
  iintro %u10 ⟨HC, %V10, HO⟩
  isplitl [HW HF Z1 W4 Z2 W5 Z3 W6 HC]
  · iapply he
    isplitl [HW]; · iexact HW
    isplitl [HF]; · iexact HF
    isplitl [Z1]; · iexact Z1
    isplitl [W4]; · iexact W4
    isplitl [Z2]; · iexact Z2
    isplitl [W5]; · iexact W5
    isplitl [Z3]; · iexact Z3
    isplitl [W6]; · iexact W6
    iexact HC
  iexists V10; iexact HO

end Cert.GatherProof

end
-- ==== Proof.Val.GatherDeal.lean ====
/-
What the launch deals for the gather: every counter's invariant and the rights to complete the transfers,
every device the blocks its transfers fill — its mates' as well as its own —, and the credit of the
arrivals it waits for.
-/
module

public import proofs.«01_k».proof.Proof.Val.GatherBody

@[expose] public section

noncomputable section

namespace Cert.GatherProof

open Cert.Gather Cert.Gather.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The counters -/

def allCells : Finset (GSem nD τ sig) := Finset.univ.map ⟨kcell, kcell_injective⟩
def allToks : Finset (GSem nD τ sig × ℕ × Unit) :=
  Finset.univ.map ⟨fun ck : Ctr => (kcell ck, 0, ()), fun _ _ h => kcell_injective (congrArg Prod.fst h)⟩

def u₀ : UU := (initOf (Pipeline.cells cfgs cellOf_inj) (Pipeline.launchToks cfgs cellOf_inj), initOf allCells allToks)

omit [FloatOps F] in
/-- The counters funded: the state of each, its owner's place, and the one right to complete on it. -/
theorem fund_cells : BI.own (ER (initOf allCells allToks)) ⊢
    (|==> iprop((bigSep Finset.univ fun ck : Ctr => roundState ER (Rd m) (kcell ck) 0)
      ∗ (bigSep Finset.univ fun ck : Ctr => reached ER (kcell ck) 0)
      ∗ (bigSep Finset.univ fun ck : Ctr => atPos ER (kcell ck) 0 ∅ 0)
      ∗ (bigSep Finset.univ fun ck : Ctr => dutyTok ER (kcell ck) 0 ())) : sProp 𝕄) := by
  have hX (Φ : GSem nD τ sig → sProp 𝕄) : bigSep allCells Φ = bigSep Finset.univ fun ck : Ctr => Φ (kcell ck) := by
    unfold allCells; rw [bigSep_map]; rfl
  have hT : bigSep allToks (fun x => (dutyTok ER x.1 x.2.1 x.2.2 : sProp 𝕄)) = bigSep Finset.univ fun ck : Ctr => dutyTok ER (kcell ck) 0 () := by
    unfold allToks; rw [bigSep_map]; rfl
  iintro H
  imod (Rounds.fund ER (Rd m) allCells allToks) $$ H with ⟨H1, H2, H3, H4⟩
  imodintro
  isplitl [H1]; · iapply (Entails.of_eq (hX fun g => roundState ER (Rd m) g 0)); iexact H1
  isplitl [H2]; · iapply (Entails.of_eq (hX fun g => reached ER g 0)); iexact H2
  isplitl [H3]; · iapply (Entails.of_eq (hX fun g => atPos ER g 0 ∅ 0)); iexact H3
  iapply (Entails.of_eq hT); iexact H4

omit [FloatOps F] in
/-- The counters' invariants allocated, each at some name. -/
theorem alloc_cells : iprop((bigSep Finset.univ fun ck : Ctr => semVal (kcell ck) 0)
      ∗ bigSep Finset.univ fun ck : Ctr => roundState ER (Rd m) (kcell ck) 0)
    ⊢ (|={Set.univ}=> iprop(∃ K : Ctr → ℕ, bigSep Finset.univ fun ck => cellInv ER (Rd m) (K ck) (kcell ck)) : sProp 𝕄) := by
  have h : iprop((bigSep Finset.univ fun ck : Ctr => semVal (kcell ck) 0)
      ∗ bigSep Finset.univ fun ck : Ctr => roundState ER (Rd m) (kcell ck) 0)
    ⊢ (|={Set.univ}=> bigSep Finset.univ fun ck : Ctr => iprop(∃ κ : ℕ, cellInv ER (Rd m) κ (kcell ck)) : sProp 𝕄) := by
    rw [← bigSep_sep']
    exact (bigSep_mono fun ck _ => (Rounds.body_intro ER (Rd m) (kcell ck)).trans inv_alloc).trans (bigSep_fupd _ _)
  iintro H
  imod h $$ H with H
  imodintro
  iapply (BI.bigSep_exists_pi Finset.univ (fun (ck : Ctr) (κ : ℕ) => (cellInv ER (Rd m) κ (kcell ck) : sProp 𝕄)))
  iexact H

omit [FloatOps F] in
/-- Over all devices, what each has of its own counter is what each mate has of it. -/
theorem around (k : Fin 7) (Φ : Dev nD → sProp 𝕄) : bigSep Finset.univ Φ = bigSep Finset.univ fun c : Dev nD => Φ (mate k c) :=
  bigSep_univ_equiv (flip k) Φ

omit [FloatOps F] in
/-- The rights of one array handed to the devices that issue the transfers. -/
theorem deal_toks (a : Fin 5) : (bigSep Finset.univ fun c : Dev nD => bigSep Finset.univ fun i : Fin 15 => (dutyTok ER (kcell (c, a, i)) 0 () : sProp 𝕄))
    ⊢ bigSep Finset.univ fun c : Dev nD => payToks (F := F) c a := by
  unfold payToks
  simp only [bigSep15, bigSep7, bigSep_sep']
  iintro ⟨H0, H1, H2, H3, H4, H5, H6, H7, H8, H9, H10, H11, H12, H13, H14⟩
  isplitl [H0 H1 H2 H3 H4 H5 H6]
  · isplitl [H0]; · iexact H0
    isplitl [H1]; · iexact H1
    isplitl [H2]; · iexact H2
    isplitl [H3]; · iexact H3
    isplitl [H4]; · iexact H4
    isplitl [H5]; · iexact H5
    iexact H6
  isplitl [H14]; · iexact H14
  isplitl [H7]; · iapply (Entails.of_eq (around 0 fun c => (dutyTok ER (rCell a c 0) 0 () : sProp 𝕄))); iexact H7
  isplitl [H8]; · iapply (Entails.of_eq (around 1 fun c => (dutyTok ER (rCell a c 1) 0 () : sProp 𝕄))); iexact H8
  isplitl [H9]; · iapply (Entails.of_eq (around 2 fun c => (dutyTok ER (rCell a c 2) 0 () : sProp 𝕄))); iexact H9
  isplitl [H10]; · iapply (Entails.of_eq (around 3 fun c => (dutyTok ER (rCell a c 3) 0 () : sProp 𝕄))); iexact H10
  isplitl [H11]; · iapply (Entails.of_eq (around 4 fun c => (dutyTok ER (rCell a c 4) 0 () : sProp 𝕄))); iexact H11
  isplitl [H12]; · iapply (Entails.of_eq (around 5 fun c => (dutyTok ER (rCell a c 5) 0 () : sProp 𝕄))); iexact H12
  iapply (Entails.of_eq (around 6 fun c => (dutyTok ER (rCell a c 6) 0 () : sProp 𝕄))); iexact H13

omit [FloatOps F] in
/-- Exchange `k`'s blocks of one array handed to the devices that fill them. -/
theorem deal_block (a : Fin 5) (k : Fin 7) : (bigSep Finset.univ fun c : Dev nD => (blk a c (inc k c) (junk m a c) : sProp 𝕄))
    ⊢ bigSep Finset.univ fun c : Dev nD => blk a (mate k c) (org k c) (junk m a (mate k c)) := by
  rw [around k]
  exact Entails.of_eq (bigSep_congr fun c _ => by rw [inc_mate])

omit [FloatOps F] in
theorem deal_lands (a : Fin 5) : (bigSep Finset.univ fun c : Dev nD => (whole a c (junk m a c) : sProp 𝕄))
    ⊢ bigSep Finset.univ fun c : Dev nD => lands m c a := by
  unfold lands
  simp only [blk_deal, bigSep7, bigSep_sep']
  iintro ⟨H, H0, H1, H2, H3, H4, H5, H6⟩
  isplitl [H]; · iexact H
  isplitl [H0]; · iapply (deal_block m a 0); iexact H0
  isplitl [H1]; · iapply (deal_block m a 1); iexact H1
  isplitl [H2]; · iapply (deal_block m a 2); iexact H2
  isplitl [H3]; · iapply (deal_block m a 3); iexact H3
  isplitl [H4]; · iapply (deal_block m a 4); iexact H4
  isplitl [H5]; · iapply (deal_block m a 5); iexact H5
  iapply (deal_block m a 6); iexact H6

omit [FloatOps F] in
theorem swap (Φ : Dev nD → Fin 5 → sProp 𝕄) :
    (bigSep Finset.univ fun c => bigSep Finset.univ fun a => Φ c a) = bigSep Finset.univ fun a => bigSep Finset.univ fun c => Φ c a := by
  rw [← bigSep_univ_prod (fun p : Dev nD × Fin 5 => Φ p.1 p.2), ← bigSep_univ_prod (fun p : Fin 5 × Dev nD => Φ p.2 p.1)]
  exact bigSep_univ_equiv (Equiv.prodComm (Fin 5) (Dev nD)) fun p : Dev nD × Fin 5 => Φ p.1 p.2

omit [FloatOps F] in
/-- What is dealt array by array, dealt device by device. -/
theorem by_array (Φ Ψ : Dev nD → Fin 5 → sProp 𝕄) (h : ∀ a, (bigSep Finset.univ fun c => Φ c a) ⊢ bigSep Finset.univ fun c => Ψ c a) :
    (bigSep Finset.univ fun c => bigSep Finset.univ (Φ c)) ⊢ bigSep Finset.univ fun c => bigSep Finset.univ (Ψ c) := by
  refine (Entails.of_eq (swap Φ)).trans (BIBase.Entails.trans ?_ (Entails.of_eq (swap Ψ).symm))
  exact bigSep_mono fun a _ => h a

/-! ## The credit -/

/-- What arrives at device `c`. -/
def due (c : Dev nD) : CellTallies nD τ sig Unit := ∑ p : Fin 5 × Fin 7, tallyAt (rCell p.1 c p.2) () (N p.1)

theorem sum_left : (∑ d : Dev nD, left d order) = ∑ d : Dev nD, due d := by
  simp only [left_sum, due]
  rw [Finset.sum_comm, Finset.sum_comm (f := fun (d : Dev nD) (p : Fin 5 × Fin 7) => tallyAt (rCell p.1 d p.2) () (N p.1))]
  exact Finset.sum_congr rfl fun p _ => Equiv.sum_comp (flip p.2) fun d : Dev nD => (tallyAt (rCell p.1 d p.2) () (N p.1) : CellTallies nD τ sig Unit)

theorem due_own (d : Dev nD) (g : GSem nD τ sig) (h : due d g ≠ 0) : g.1 = (d : Thread nD τ) := by
  by_contra hg
  refine h ?_
  unfold due
  rw [Finset.sum_apply]
  refine Finset.sum_eq_zero fun p _ => ?_
  exact tallyAt_ne_cell (g := rCell p.1 d p.2) (fun e => hg (congrArg Prod.fst e)) () (N p.1)

omit [FloatOps F] in
theorem deal_creds (c : Dev nD) : (Pipeline.launchCred (fun d => left d order) c : sProp 𝕄) = bigSep Finset.univ fun a : Fin 5 => recvCreds c a := by
  rw [Pipeline.launchCred_of_sum (fun d => left d order) due sum_left due_own c]
  unfold due recvCreds
  rw [Pipeline.cred_finsetSum, bigSep_univ_prod]

/-! ## All of it -/

omit [FloatOps F] in
/-- From the counters at zero, the memory and the credit of all devices, what each device starts from. -/
theorem deal :
    iprop((bigSep Finset.univ fun c : Dev nD => bigSep Finset.univ fun ai : Fin 5 × Fin 15 => semVal (kcell (c, ai)) 0)
      ∗ BI.own (ER (initOf allCells allToks))
      ∗ levAts L lv
      ∗ (bigSep Finset.univ fun c : Dev nD => Pipeline.launchCred (fun d => left d order) c)
      ∗ (bigSep Finset.univ fun c : Dev nD => bigSep Finset.univ fun a : Fin 5 => input m a c)
      ∗ (bigSep Finset.univ fun c : Dev nD => bigSep Finset.univ fun a : Fin 5 => whole a c (junk m a c)))
    ⊢ (|={Set.univ}=> bigSep Finset.univ (start m) : sProp 𝕄) := by
  rw [← bigSep_univ_prod (fun ck : Ctr => (semVal (kcell ck) 0 : sProp 𝕄))]
  iintro ⟨Hv, Hu, #Hlev, Hc, Hx, Ho⟩
  imod (fund_cells m) $$ Hu with ⟨Hs, #Hr, Ha, Ht⟩
  imod (alloc_cells m) $$ [Hv Hs] with ⟨%K, #HI⟩
  · isplitl [Hv] <;> iassumption
  imodintro
  have ht : (bigSep Finset.univ fun ck : Ctr => (dutyTok ER (kcell ck) 0 () : sProp 𝕄)) ⊢ bigSep Finset.univ fun c : Dev nD => bigSep Finset.univ fun a : Fin 5 => payToks c a := by
    rw [bigSep_univ_prod]
    simp only [bigSep_univ_prod (α := Fin 5) (β := Fin 15)]
    exact by_array _ _ deal_toks
  ihave Ht := ht $$ Ht
  ihave Ho := (by_array _ _ (deal_lands m)) $$ Ho
  simp only [deal_creds]
  have ha : (bigSep Finset.univ fun ck : Ctr => (atPos ER (kcell ck) 0 ∅ 0 : sProp 𝕄)) ⊢ bigSep Finset.univ fun c : Dev nD => bigSep Finset.univ fun a : Fin 5 => ats c a := by
    unfold ats at0
    rw [bigSep_univ_prod]
    simp only [bigSep_univ_prod (α := Fin 5) (β := Fin 15)]
    exact BIBase.Entails.refl
  ihave Ha := ha $$ Ha
  unfold start begin
  simp only [bigSep_sep']
  isplitr
  · have h : records m K ⊢ bigSep Finset.univ fun _ : Dev nD => (iprop(∃ K, records m K) : sProp 𝕄) :=
      BI.bigSep_intro_persistent fun _ _ => by iintro H; iexists K; iexact H
    iapply h
    unfold records
    isplitl; · iexact HI
    iexact Hr
  isplitr
  · have h : levAts L lv ⊢ bigSep Finset.univ fun _ : Dev nD => (levAts L lv : sProp 𝕄) :=
      BI.bigSep_intro_persistent fun _ _ => by iintro H; iexact H
    iapply h; iexact Hlev
  isplitl [Ha]; · iexact Ha
  isplitl [Ht]; · iexact Ht
  isplitl [Hc]; · iexact Hc
  isplitl [Hx]; · iexact Hx
  iexact Ho

end Cert.GatherProof

end
-- ==== Proof.Val.GatherEq.lean ====
module

public import proofs.«01_k».proof.Proof.Val.GatherText

@[expose] public section

noncomputable section

namespace Cert.GatherProof

open Cert.Gather Cert.Gather.Gen
open Idealize.ShloMosaic
open Idealize.ShloMosaic.TcCoe
open Idealize.SL Idealize.SL.Sem

variable {F : FTy → Type} [FloatOps F]

set_option maxRecDepth 65536 in
theorem kernel_eq : kernel (F := F) = text0 := by chain_rfl

end Cert.GatherProof

end
-- ==== Proof.Val.GatherRun.lean ====
/-
The gather's call: the body on one device as the pipeline runs it, and the call from what the launch deals.
-/
module

public import proofs.«01_k».proof.Proof.Val.GatherDeal
public import proofs.«01_k».proof.Proof.Val.GatherEq

@[expose] public section

noncomputable section

namespace Cert.GatherProof

open Cert.Gather Cert.Gather.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The call's body -/

def dats (_ : Fin 1) (c : Dev nD) : Dat τ (Elt F) Unit ℕ UU ℕ cfg0 c where
  A w := w.elim0
  after w _ := w.elim0
  Φ t := match t with
    | ⟨0, _⟩ => start m c
    | ⟨_ + 1, _⟩ => done m c
  q _ := fullShare
  owed t := match t with
    | ⟨0, _⟩ => left c order
    | ⟨_ + 1, _⟩ => 0

omit [FloatOps F] in
theorem bigSep0 (Φ : Fin 0 → sProp 𝕄) : bigSep Finset.univ Φ = (BI.emp : sProp 𝕄) := by
  rw [Finset.univ_eq_empty, bigSep_empty]

abbrev t₀ : Fin cfg0.N := t0_0

set_option maxRecDepth 65536 in
theorem obligation (c : Dev nD) : BodyObligation (dats m 0 c) (defs₀ (F := F)) 𝒱₀ () Set.univ := fun t => by
  rw [fin_N0 t]
  rw [bigSep0, bigSep0]
  show iprop(start m c ∗ (dats m 0 c).owesAt () t₀.castSucc ∗ emp)
    ⊢ wp frame (wpE (defs₀ (F := F)) 𝒱₀ (c : Thread nD τ) none) Set.univ (kernel (F := F))
        fun _ => iprop(done m c ∗ (dats m 0 c).owesAt () t₀.succ ∗ emp)
  rw [kernel_eq]
  unfold Dat.owesAt Pipeline.owesWithin
  rw [show (dats m 0 c).owed t₀.castSucc = left c order from rfl, show (dats m 0 c).owed t₀.succ = 0 from rfl]
  iintro ⟨Hs, ⟨%W, -, HO⟩, -⟩
  have h : ∀ u : PUnit, (iprop(done m c ∗ ∃ W', owes (c : Thread nD τ) 0 W') : sProp 𝕄)
      ⊢ iprop(done m c ∗ (∃ W' : Waits sig Unit, ⌜(↑W' : Set (SemLoc sig × Unit)) ⊆ (dats m 0 c).bound () t₀.succ⌝ ∗ owes (c : Thread nD τ) 0 W') ∗ emp) := fun _ => by
    iintro ⟨H, ⟨%W', HO⟩⟩
    isplitl [H]; · iexact H
    isplitl [HO]
    · iexists W'
      isplitr; · ipureintro; exact fun _ _ => Or.inl trivial
      iexact HO
    iempintro
  iapply (wp_mono _ _ _ h)
  iapply (body m c W)
  isplitl [Hs]; · iexact Hs
  iexact HO

/-! ## The launch -/

/-- The counters as the machine names them. -/
abbrev ownSem (ai : Fin 5 × Fin 15) : SemLoc sig := .dma (osem ai)

theorem semFacts : Pipeline.OwnSemFacts cfg0.spec ownSem :=
  ⟨by decide +kernel, fun x y h => osem_injective (by injection h), fun _ w => w.elim0⟩

/-- The counters the kernel never names. -/
def idle (c : Dev nD) : sProp 𝕄 := Pipeline.idleSems0 cfgs cellOf_inj 0 semFacts c

omit [FloatOps F] in
theorem sems_split (c : Dev nD) : (scopedSems0 (c : Thread nD τ) : sProp 𝕄)
    = iprop((Pipeline.cellsSems0 cfgs 0 c ∗ bigSep Finset.univ fun ai : Fin 5 × Fin 15 => semVal (kcell (c, ai)) 0) ∗ idle c) :=
  Pipeline.scopedSems0_split cfgs cellOf_inj 0 winFacts0.to₀ semFacts c

omit [FloatOps F] in
theorem cells_none (c : Dev nD) : (Pipeline.cellsSems0 cfgs 0 c : sProp 𝕄) = BI.emp := bigSep0 _

omit [FloatOps F] in
theorem scoped_split (c : Dev nD) : (scopedBufs (c : Thread nD τ) : sProp 𝕄)
    = iprop(Dat.staging cfg0 c ∗ Pipeline.scopedRest cfg0.spec c) :=
  Pipeline.scopedBufs_split cfgs 0 winFacts0.stage_scoped winFacts0.stage_inj stage_whole0 c

theorem xM_all : ∀ a : Fin 5, (xM a).view.set = Finset.univ
  | 0 => View.set_whole _ | 1 => View.set_whole _ | 2 => View.set_whole _ | 3 => View.set_whole _ | 4 => View.set_whole _
theorem oM_all : ∀ a : Fin 5, (oM a).view.set = Finset.univ
  | 0 => View.set_whole _ | 1 => View.set_whole _ | 2 => View.set_whole _ | 3 => View.set_whole _ | 4 => View.set_whole _

omit [FloatOps F] in
theorem input_eq (a : Fin 5) (c : Dev nD) : (input m a c : sProp 𝕄) = ((xM a).view.loc (c : Thread nD τ) ↦{fullShare} inBuf m a c) := by
  unfold input; rw [xM_all]
omit [FloatOps F] in
theorem whole_eq (a : Fin 5) (c : Dev nD) (f : Cont (F := F) a) : (whole a c f : sProp 𝕄) = ((oM a).view.loc (c : Thread nD τ) ↦{fullShare} f) := by
  unfold whole; rw [oM_all]

/-- A device's inputs, and its outputs at contents `f`. -/
def inputs (c : Dev nD) : sProp 𝕄 := bigSep Finset.univ fun a : Fin 5 => input m a c
def outputs (c : Dev nD) (f : (a : Fin 5) → Cont (F := F) a) : sProp 𝕄 := bigSep Finset.univ fun a : Fin 5 => whole a c (f a)

omit [FloatOps F] in
theorem bufs_split (c : Dev nD) : (unscopedBufs c (fun b => m ((c : Thread nD τ).loc b)) : sProp 𝕄)
    ⊢ iprop(inputs m c ∗ outputs c fun a => junk m a c) := by
  rw [Pipeline.unscopedBufs_split cfgs 0 winFacts0.arr_unscoped winFacts0.arr_inj c, unscopedRest0_eq]
  unfold inputs outputs
  rw [bigSep5, bigSep5]
  iintro ⟨-, X0, X1, X2, X3, X4, O0, O1, O2, O3, O4⟩
  isplitl [X0 X1 X2 X3 X4]
  · isplitl [X0]; · iapply (Entails.of_eq (input_eq m 0 c).symm); iexact X0
    isplitl [X1]; · iapply (Entails.of_eq (input_eq m 1 c).symm); iexact X1
    isplitl [X2]; · iapply (Entails.of_eq (input_eq m 2 c).symm); iexact X2
    isplitl [X3]; · iapply (Entails.of_eq (input_eq m 3 c).symm); iexact X3
    iapply (Entails.of_eq (input_eq m 4 c).symm); iexact X4
  isplitl [O0]; · iapply (Entails.of_eq (whole_eq 0 c (junk m 0 c)).symm); iexact O0
  isplitl [O1]; · iapply (Entails.of_eq (whole_eq 1 c (junk m 1 c)).symm); iexact O1
  isplitl [O2]; · iapply (Entails.of_eq (whole_eq 2 c (junk m 2 c)).symm); iexact O2
  isplitl [O3]; · iapply (Entails.of_eq (whole_eq 3 c (junk m 3 c)).symm); iexact O3
  iapply (Entails.of_eq (whole_eq 4 c (junk m 4 c)).symm); iexact O4

omit [FloatOps F] in
/-- What the body ends with, kind by kind. -/
theorem done_eq (c : Dev nD) : done m c = iprop(inputs m c ∗ outputs c (out m) ∗ bigSep Finset.univ fun ai : Fin 5 × Fin 15 => semVal (kcell (c, ai)) 0) := by
  unfold done finish inputs outputs zero
  rw [bigSep_univ_prod]
  simp only [bigSep_sep']

def before (c : Dev nD) : sProp 𝕄 :=
  iprop(scopedBufs (c : Thread nD τ) ∗ idle c ∗ owes (c : Thread nD τ) (left c order) ∅ ∗ start m c)
def after (c : Dev nD) : sProp 𝕄 :=
  iprop(inputs m c ∗ outputs c (out m) ∗ scopedSems0 (c : Thread nD τ))

theorem entry_in (c : Dev nD) (q) :
    iprop(start m c ∗ Pipeline.prefHeld Pipeline.Prefetch.none c q (fun k => k.elim0) ∗ Pipeline.scopedRest cfg0.spec c) ⊢ (dats m 0 c).Φ 0 := by
  rw [show (dats m 0 c).Φ 0 = start m c from rfl]
  iintro ⟨H, -, -⟩
  iexact H

theorem entry_out (c : Dev nD) :
    iprop((dats m 0 c).Φ (Fin.last cfg0.N) ∗ Pipeline.cellsSems0 cfgs 0 c ∗ Dat.staging cfg0 c ∗ idle c)
      ⊢ iprop((inputs m c ∗ outputs c (out m)) ∗ scopedSems0 (c : Thread nD τ) ∗ scopedBufs (c : Thread nD τ)) := by
  rw [show (dats m 0 c).Φ (Fin.last cfg0.N) = done m c from rfl, done_eq, sems_split, scoped_split, scopedRest0_eq]
  iintro ⟨⟨Hx, Ho, Hz⟩, Hc, Hs, Hi⟩
  isplitl [Hx Ho]
  · isplitl [Hx] <;> iassumption
  isplitl [Hc Hz Hi]
  · isplitl [Hc Hz]
    · isplitl [Hc] <;> iassumption
    iexact Hi
  isplitl [Hs]; · iexact Hs
  iempintro

/-- The call, from what the device holds before it. -/
theorem entry (c : Dev nD) (Q : PUnit → sProp 𝕄) :
    iprop(Pipeline.EntryPre cfgs (dats m) () EP (fun _ => 0) 0 c ∗ Pipeline.prefHeld Pipeline.Prefetch.none c (fun _ => fullShare) (fun k => k.elim0)
        ∗ start m c ∗ idle c ∗ scopedBufs (c : Thread nD τ))
      ⊢ iprop(((Pipeline.EntryPost cfgs (dats m) () 0 c ∗ (inputs m c ∗ outputs c (out m))
            ∗ scopedSems0 (c : Thread nD τ) ∗ scopedBufs (c : Thread nD τ))
          -∗ wp frame (wpE (Pipeline.defs pcfgs (defs₀ (F := F))) (Variants.lift 𝒱₀) (c : Thread nD τ) none) Set.univ (.ret ⟨⟩) Q)
        -∗ wp frame (wpE (Pipeline.defs pcfgs (defs₀ (F := F))) (Variants.lift 𝒱₀) (c : Thread nD τ) none) Set.univ
            (.op (.customCall (Pipeline.entry 0) ()) fun _ => .ret ⟨⟩) Q) :=
  Pipeline.wp_customCall_entry_frame (pcfgs (F := F)) (fun p => (cfgs p).toPCfg_adm) (dats m) () EP (fun _ => 0) cellOf_inj 0 (defs₀ (F := F)) 𝒱₀ (fun _ => fullShare) c Set.univ
      (fun _ _ => Set.mem_univ _) (obligation m c).loose (fun w => w.elim0) none (fun u h => nomatch h)
      (X := start m c) (Y := iprop(inputs m c ∗ outputs c (out m))) (R := Pipeline.scopedRest cfg0.spec c) (I := idle c)
      (Entails.of_eq (scoped_split c)) (entry_in m c _) (entry_out m c)
      (k := fun _ => .ret ⟨⟩) (Q := Q)

end Cert.GatherProof

end
-- ==== Proof.Val.GatherLaunch.lean ====
/-
The gather's launch: from any memory with every counter at zero the program ends with every device's output
at the devices' inputs, each at its place, with the inputs as they were and with every counter at zero.
-/
module

public import proofs.«01_k».proof.Proof.Val.GatherRun

@[expose] public section

noncomputable section

namespace Cert.GatherProof

open Cert.Gather Cert.Gather.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

omit [FloatOps F] in
theorem pre_intro (c : Dev nD) : (owes (c : Thread nD τ) (left c order) ∅ : sProp 𝕄) ⊢ Pipeline.EntryPre cfgs (dats m) () EP (fun _ => 0) 0 c := by
  unfold Pipeline.EntryPre Pipeline.PerCore.EntryPre Dat.owesAt Pipeline.owesWithin
  rw [show (dats m 0 c).owed 0 = left c order from rfl]
  iintro HO
  isplitr; · iapply (show (BI.emp : sProp 𝕄) ⊢ (dats m 0 c).arrays (fun w => (dats m 0 c).arrAt w 0) from Entails.of_eq (bigSep0 _).symm); iempintro
  isplitl [HO]
  · iexists ∅
    isplitr; · ipureintro; rw [Finset.coe_empty]; exact Set.empty_subset _
    iexact HO
  isplitr; · iapply (show (BI.emp : sProp 𝕄) ⊢ Pipeline.PerCore.cellsWaits (fun _ => cfgs) (dats m) () 0 c from Entails.of_eq (bigSep0 _).symm); iempintro
  isplitr; · iapply (show (BI.emp : sProp 𝕄) ⊢ Pipeline.PerCore.cellsInit (fun _ => cfgs) (dats m) EP (fun _ => 0) 0 c from Entails.of_eq (bigSep0 _).symm); iempintro
  iapply (show (BI.emp : sProp 𝕄) ⊢ Pipeline.PerCore.toksInit (fun _ => cfgs) EP 0 c from Entails.of_eq (bigSep0 _).symm); iempintro

omit [FloatOps F] in
theorem post_elim (c : Dev nD) : (Pipeline.EntryPost cfgs (dats m) () 0 c : sProp 𝕄) ⊢ iprop(∃ W, owes (c : Thread nD τ) 0 W) := by
  unfold Pipeline.EntryPost Pipeline.PerCore.EntryPost Dat.owesAt Pipeline.owesWithin
  rw [show (dats m 0 c).owed (Fin.last cfg0.N) = 0 from rfl]
  iintro ⟨-, ⟨%W, -, HO⟩⟩
  iexists W; iexact HO

theorem core (c : Dev nD) : before m c ⊢ wp frame (wpE (Pipeline.defs pcfgs (defs₀ (F := F))) (Variants.lift 𝒱₀) (c : Thread nD τ) none) Set.univ
    (.op (.customCall (Pipeline.entry 0) ()) fun _ => .ret (⟨⟩ : PUnit)) fun _ => post (liftTc (after m) BI.emp) (c : Thread nD τ) := by
  unfold before
  iintro ⟨Hsc, Hi, HO, Hs⟩
  iapply (entry m c _) $$ [Hsc Hi HO Hs]
  · isplitl [HO]; · iapply (pre_intro m c); iexact HO
    isplitr; · iapply (show (BI.emp : sProp 𝕄) ⊢ Pipeline.prefHeld Pipeline.Prefetch.none c (fun _ => fullShare) (fun k => k.elim0) from Entails.of_eq (bigSep0 _).symm); iempintro
    isplitl [Hs]; · iexact Hs
    isplitl [Hi] <;> iassumption
  iintro ⟨Hp, ⟨Hx, Ho⟩, Hz, -⟩
  rw [wp_ret]; imodintro
  unfold post; simp only [liftTc_tc]
  unfold after
  isplitr [Hp]
  · isplitl [Hx]; · iexact Hx
    isplitl [Ho] <;> iassumption
  · iapply (post_elim m c); iexact Hp

/-! ## The levels -/

omit [FloatOps F] in
/-- The levels of all counters, from the right of each core to choose them. -/
theorem levels_dealt : (bigSep Finset.univ fun c : Dev nD => levels0 (Ix := Unit) (Val := Elt F) (Name := ℕ) (U := UU) (Lvl := ℕ) (τ := τ) (sig := sig) c)
    ⊢ (|==> levAts L lv : sProp 𝕄) := by
  have hn (d : Dev nD) (p : Proc τ) (hp : p ∈ Finset.univ.erase Proc.tc) : (coreLevAts ((d, p) : Thread nD τ) L lv : sProp 𝕄) = BI.emp := by
    unfold coreLevAts
    refine (bigSep_congr (Ψ := fun _ : SemLoc sig => (BI.emp : sProp 𝕄)) fun sm _ => ?_).trans (BI.bigSep_emp_const _)
    rw [L_of_ne (((d, p) : Thread nD τ), sm) (Finset.ne_of_mem_erase hp), bigSep_empty]
  have hsc : (bigSep Finset.univ fun d : Dev nD => bigSep (Finset.univ.erase Proc.tc) fun p => (coreLevAts ((d, p) : Thread nD τ) L lv : sProp 𝕄)) = BI.emp :=
    (bigSep_congr (Ψ := fun _ : Dev nD => (BI.emp : sProp 𝕄)) fun d _ =>
      (bigSep_congr (Ψ := fun _ : Proc τ => (BI.emp : sProp 𝕄)) fun p hp => hn d p hp).trans (BI.bigSep_emp_const _)).trans (BI.bigSep_emp_const _)
  have hall : (levAts L lv : sProp 𝕄) = iprop((bigSep Finset.univ fun d : Dev nD => coreLevAts (d : Thread nD τ) L lv) ∗ BI.emp) := by
    rw [← hsc]
    exact (bigSep_univ_prod fun g : GSem nD τ sig => bigSep (L g) fun i => levAt g i (lv g i)).trans
      (bigSep_threads fun c : Thread nD τ => (coreLevAts c L lv : sProp 𝕄))
  have hstep : (bigSep Finset.univ fun c : Dev nD => levels0 (Ix := Unit) (Val := Elt F) (Name := ℕ) (U := UU) (Lvl := ℕ) (τ := τ) (sig := sig) c)
      ⊢ (|==> bigSep Finset.univ fun c : Dev nD => iprop((bigSep Finset.univ fun sm : SemLoc sig => levels ((c : Thread nD τ), sm) (L ((c : Thread nD τ), sm)))
          ∗ coreLevAts (c : Thread nD τ) L lv) : sProp 𝕄) :=
    BIBase.Entails.trans (bigSep_mono fun c _ => lev_assign_cells (c : Thread nD τ) L lv) (BI.bigSep_bupd _ _)
  rw [hall]
  iintro H
  imod hstep $$ H with H
  imodintro
  ihave H := (Entails.of_eq (bigSep_sep' _ _ _)) $$ H
  icases H with ⟨-, H⟩
  isplitl [H]; · iexact H
  iempintro

/-! ## The run -/

set_option maxRecDepth 8000 in
/-- Every run from memory `m` ends with every output at `out m`, every input as it was, and every counter at zero. -/
theorem run : θ_run (Pipeline.defs pcfgs (defs₀ (F := F))) (onTc (τ := τ) fun _ => .op (.customCall (Pipeline.entry 0) ()) fun _ => .ret (⟨⟩ : PUnit)) ⟨m, fun _ => 0, ρ⟩
    (fun r => (∀ c : Dev nD, (∀ a : Fin 5, r.2.mem ((xM a).view.loc (c : Thread nD τ)) = inBuf m a c)
        ∧ ∀ a : Fin 5, r.2.mem ((oM a).view.loc (c : Thread nD τ)) = out m a)
      ∧ r.2.sem = fun _ => 0) := by
  refine (θ_run (Pipeline.defs pcfgs (defs₀ (F := F))) _ _).mono
    (Q := fun r => (∀ c : Dev nD, ((∀ a : Fin 5, r.2.mem ((xM a).view.loc (c : Thread nD τ)) = inBuf m a c)
        ∧ ∀ a : Fin 5, r.2.mem ((oM a).view.loc (c : Thread nD τ)) = out m a)
        ∧ ∀ sm : SemLoc sig, sm.isScoped .tc = true → r.2.sem ((c : Thread nD τ), sm) = 0)
      ∧ ∀ g : GSem nD τ sig, g.1.2 ≠ .tc → r.2.sem g = 0)
    (fun r hr => ⟨fun c => (hr.1 c).1, sem_eq_zero_of_scoped (by decide) (sems_of_reads (fun c => (hr.1 c).2) hr.2)⟩)
    (adequate_tpu _ _ _ _
      (reflect_intro_fupd_tc_sems (X := Unit) (Variants.lift 𝒱₀) (Pipeline.owing fun d => left d order) 0 (noBookings fun _ => le_rfl) (Pipeline.owing_of_ne _) u₀
        (fun _ => before m) (fun _ => after m) (fun _ => iprop(emp)) Set.univ ?_ (fun _ c => core m c) fun _ => ?_))
  · have hcore (c : Dev nD) :
        coreInit (Ix := Unit) (Name := ℕ) (U := UU) (Lvl := ℕ) (Pipeline.owing fun d => left d order) 0 (⟨m, fun _ => 0, ρ⟩ : MemSt nD τ sig (Elt F)) (c : Thread nD τ)
          ⊢ (iprop((scopedBufs (c : Thread nD τ) ∗ idle c ∗ owes (c : Thread nD τ) (left c order) ∅)
              ∗ (bigSep Finset.univ fun ai : Fin 5 × Fin 15 => semVal (kcell (c, ai)) 0)
              ∗ levels0 c ∗ Pipeline.launchCred (fun d => left d order) c ∗ inputs m c
              ∗ outputs c fun a => junk m a c) : sProp 𝕄) :=
      BIBase.Entails.trans (Pipeline.coreInit_boundary_owing (fun d => left d order) m ρ c) (by
        unfold boundary
        rw [sems_split c]
        iintro ⟨⟨Hsc, ⟨⟨-, Hos⟩, Hi⟩, -⟩, Hub, -, HO, Hl, -, Hcr⟩
        ihave H := (bufs_split m c) $$ Hub
        icases H with ⟨Hx, Ho⟩
        isplitl [Hsc Hi HO]
        · isplitl [Hsc]; · iexact Hsc
          isplitl [Hi] <;> iassumption
        isplitl [Hos]; · iexact Hos
        isplitl [Hl]; · iexact Hl
        isplitl [Hcr]; · iexact Hcr
        isplitl [Hx] <;> iassumption)
    have hcores : (bigSep Finset.univ fun d : Dev nD =>
          coreInit (Ix := Unit) (Name := ℕ) (U := UU) (Lvl := ℕ) (Pipeline.owing fun d => left d order) 0 (⟨m, fun _ => 0, ρ⟩ : MemSt nD τ sig (Elt F)) (d : Thread nD τ))
        ⊢ (iprop((bigSep Finset.univ fun c : Dev nD => iprop(scopedBufs (c : Thread nD τ) ∗ idle c ∗ owes (c : Thread nD τ) (left c order) ∅))
            ∗ (bigSep Finset.univ fun c : Dev nD => bigSep Finset.univ fun ai : Fin 5 × Fin 15 => semVal (kcell (c, ai)) 0)
            ∗ (bigSep Finset.univ fun c : Dev nD => levels0 c)
            ∗ (bigSep Finset.univ fun c : Dev nD => Pipeline.launchCred (fun d => left d order) c)
            ∗ (bigSep Finset.univ fun c : Dev nD => inputs m c)
            ∗ (bigSep Finset.univ fun c : Dev nD => outputs c fun a => junk m a c)) : sProp 𝕄) := by
      refine BIBase.Entails.trans (bigSep_mono fun c _ => hcore c) (Entails.of_eq ?_)
      simp only [bigSep_sep']
    iintro ⟨Hc, Hu⟩
    ihave H := hcores $$ Hc
    icases H with ⟨Hb, Hos, Hl, Hcr, Hx, Ho⟩
    imod levels_dealt $$ Hl with Hla
    ihave Hu := (ownU_pair _ _) $$ Hu
    icases Hu with ⟨-, Hu⟩
    ihave Hx := (Entails.of_eq (show (bigSep Finset.univ fun c : Dev nD => inputs m c : sProp 𝕄) = bigSep Finset.univ fun c : Dev nD => bigSep Finset.univ fun a : Fin 5 => input m a c from rfl)) $$ Hx
    ihave Ho := (Entails.of_eq (show (bigSep Finset.univ fun c : Dev nD => outputs c (fun a => junk m a c) : sProp 𝕄) = bigSep Finset.univ fun c : Dev nD => bigSep Finset.univ fun a : Fin 5 => whole a c (junk m a c) from rfl)) $$ Ho
    imod (deal m) $$ [Hos Hu Hla Hcr Hx Ho] with Hs
    · isplitl [Hos]; · iexact Hos
      isplitl [Hu]; · iexact Hu
      isplitl [Hla]; · iexact Hla
      isplitl [Hcr]; · iexact Hcr
      isplitl [Hx] <;> iassumption
    imodintro
    iexists ()
    isplitl
    · have hjoin : (iprop((bigSep Finset.univ fun c : Dev nD => iprop(scopedBufs (c : Thread nD τ) ∗ idle c ∗ owes (c : Thread nD τ) (left c order) ∅)) ∗ bigSep Finset.univ (start m)) : sProp 𝕄)
          ⊢ bigSep Finset.univ (before m) := by
        rw [← bigSep_sep']
        refine bigSep_mono fun c _ => ?_
        change iprop((scopedBufs (c : Thread nD τ) ∗ idle c ∗ owes (c : Thread nD τ) (left c order) ∅) ∗ start m c) ⊢ before m c
        unfold before
        iintro ⟨⟨H1, H2, H3⟩, H4⟩
        isplitl [H1]; · iexact H1
        isplitl [H2]; · iexact H2
        isplitl [H3] <;> iassumption
      iapply hjoin
      isplitl [Hb] <;> iassumption
    · iempintro
  · have hcore (c : Dev nD) (s' : Phys nD τ sig (Elt F)) : (iprop(after m c ∗ SI s') : sProp 𝕄) ⊢ |={Set.univ}=>
        iprop(⌜((∀ a : Fin 5, s'.mem.mem ((xM a).view.loc (c : Thread nD τ)) = inBuf m a c)
            ∧ ∀ a : Fin 5, s'.mem.mem ((oM a).view.loc (c : Thread nD τ)) = out m a)
          ∧ ∀ sm : SemLoc sig, sm.isScoped .tc = true → s'.mem.sem ((c : Thread nD τ), sm) = 0⌝ ∗ SI s') := by
      unfold after inputs outputs
      simp only [input_eq, whole_eq]
      iintro ⟨⟨Hx, Ho, Hz⟩, HSI⟩
      ihave %hz := (tcScoped_read_pers c s') $$ [Hz HSI]
      · isplitl [Hz] <;> iassumption
      ihave Hx := (pointsTo_read_all Finset.univ (fun a : Fin 5 => (xM a).view.loc (c : Thread nD τ)) (fun a => inBuf m a c) s') $$ [Hx HSI]
      · isplitl [Hx] <;> iassumption
      icases Hx with ⟨%hx, HSI⟩
      ihave Ho := (pointsTo_read_all Finset.univ (fun a : Fin 5 => (oM a).view.loc (c : Thread nD τ)) (fun a => out m a) s') $$ [Ho HSI]
      · isplitl [Ho] <;> iassumption
      icases Ho with ⟨%ho, HSI⟩
      imodintro
      isplitr
      · ipureintro
        exact ⟨⟨fun a => hx a (Finset.mem_univ a), fun a => ho a (Finset.mem_univ a)⟩, hz⟩
      · iexact HSI
    iintro ⟨H, -, Hsc⟩ %s' HSI
    ihave %hsc := (scSems_read_zero m ρ s') $$ [Hsc HSI]
    · isplitl [Hsc] <;> iassumption
    imod (posts_fupd Finset.univ hcore s') $$ [H HSI] with %h
    · isplitl [H] <;> iassumption
    imodintro
    ipureintro
    exact ⟨fun c => h c (Finset.mem_univ c), hsc⟩

end Cert.GatherProof

end
-- ==== Proof.Val.GatherRef.lean ====
/-
The five collectives' run: from any memory with every counter at zero each device ends with what the eight devices
held of every array gathered, its arguments as they were, and every counter at zero.
-/
module

public import proofs.«01_k».proof.Proof.Gen.GatherRefIdeal
public import proofs.«01_k».proof.Proof.Gen.GatherRefIdeal.Launch
public import Idealize.ShloMosaic.Lib.AllGather.Once
public import Idealize.ShloMosaic.Lib.Quiescent
public import Idealize.ShloMosaic.Lib.ValueLayout

@[expose] public section

noncomputable section

namespace Cert.GatherRefProof

open Cert.GatherRefIdeal Cert.GatherRefIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

abbrev UU : Type := UR sig nD τ × Sites.UC

local notation "𝕄" => MT nD τ sig ℕ (Elt F) ℕ UU ℕ

abbrev EC : Emb Sites.UC (MT nD τ sig ℕ (Elt F) ℕ UU ℕ) := embR
abbrev adm : (p : Fin 0) → (pcfgs (F := F) p).Adm := fun p => p.elim0
abbrev dats (p : Fin 0) (c : Dev nD) : Pipeline.Dat τ (Elt F) ℕ ℕ UU ℕ (Pipeline.pin (pcfgs (F := F)) adm p) c := p.elim0

variable (m : (ℓ : Loc nD τ sig) → Buf (Elt F) ℓ) (ρ : Dev nD → PrngReg)

/-! ## What the buffers hold

`Vj` before the `j`-th array's turn, `Xj` when its collective begins. -/

def V0 (c : Dev nD) : Valuation τ sig (Elt F) := fun b => m ((c : Dev nD), b)
def X0 (c : Dev nD) : Valuation τ sig (Elt F) := StableHlo.after hostOps0 (V0 m c)
def V1 (c : Dev nD) : Valuation τ sig (Elt F) := ag0.after₀ ag0_cores (X0 m) c
def X1 (c : Dev nD) : Valuation τ sig (Elt F) := StableHlo.after hostOps1 (V1 m c)
def V2 (c : Dev nD) : Valuation τ sig (Elt F) := ag1.after₀ ag1_cores (X1 m) c
def X2 (c : Dev nD) : Valuation τ sig (Elt F) := StableHlo.after hostOps2 (V2 m c)
def V3 (c : Dev nD) : Valuation τ sig (Elt F) := ag2.after₀ ag2_cores (X2 m) c
def X3 (c : Dev nD) : Valuation τ sig (Elt F) := StableHlo.after hostOps3 (V3 m c)
def V4 (c : Dev nD) : Valuation τ sig (Elt F) := ag3.after₀ ag3_cores (X3 m) c
def X4 (c : Dev nD) : Valuation τ sig (Elt F) := StableHlo.after hostOps4 (V4 m c)
def V5 (c : Dev nD) : Valuation τ sig (Elt F) := ag4.after₀ ag4_cores (X4 m) c

/-! ## The segments

`kept` records that every collective's counters are under their invariants; `Rj` is what rides along to the `j`-th. -/

abbrev kept0 : sProp 𝕄 := iprop(∃ κ, (AllGather.Dat.once (U := UU) ag0 (X0 m) ag0_cores).cellInvs (Sites.E0 EC) κ)
abbrev kept1 : sProp 𝕄 := iprop(∃ κ, (AllGather.Dat.once (U := UU) ag1 (X1 m) ag1_cores).cellInvs (Sites.E1 EC) κ)
abbrev kept2 : sProp 𝕄 := iprop(∃ κ, (AllGather.Dat.once (U := UU) ag2 (X2 m) ag2_cores).cellInvs (Sites.E2 EC) κ)
abbrev kept3 : sProp 𝕄 := iprop(∃ κ, (AllGather.Dat.once (U := UU) ag3 (X3 m) ag3_cores).cellInvs (Sites.E3 EC) κ)
abbrev kept4 : sProp 𝕄 := iprop(∃ κ, (AllGather.Dat.once (U := UU) ag4 (X4 m) ag4_cores).cellInvs (Sites.E4 EC) κ)
abbrev kept : sProp 𝕄 := iprop(kept0 m ∗ kept1 m ∗ kept2 m ∗ kept3 m ∗ kept4 m)

def R0 (c : Dev nD) : sProp 𝕄 := kept m
def R1 (c : Dev nD) : sProp 𝕄 := iprop(Sites.Ghost0 EC c ∗ R0 m c)
def R2 (c : Dev nD) : sProp 𝕄 := iprop(Sites.Ghost1 EC c ∗ R1 m c)
def R3 (c : Dev nD) : sProp 𝕄 := iprop(Sites.Ghost2 EC c ∗ R2 m c)
def R4 (c : Dev nD) : sProp 𝕄 := iprop(Sites.Ghost3 EC c ∗ R3 m c)
def R5 (c : Dev nD) : sProp 𝕄 := iprop(Sites.Ghost4 EC c ∗ R4 m c)

/-- The rest state before the `j`-th array's turn. -/
abbrev E (j : Fin 6) (c : Dev nD) : sProp 𝕄 := Sites.Es EC (X0 m) (X1 m) (X2 m) (X3 m) (X4 m) j c

abbrev Seg := Pipeline.HostSeg (Ix := ℕ) (Name := ℕ) (U := UU) (Lvl := ℕ) (pcfgs (F := F)) defs₀ Variants.none Sites.L Sites.lv

/-- One host operation that touches the TensorCore's references. -/
abbrev step (ops : List (HloOp τ sig (Elt F))) (hs : ops.Forall fun op => op.bufs ⊆ StableHlo.tcRefs τ sig) (hp : ∀ op ∈ ops, op.fresh = ∅)
    (V : Dev nD → Valuation τ sig (Elt F)) (R : Dev nD → sProp 𝕄) : Seg (F := F) :=
  Pipeline.HostSeg.ofOps _ _ _ _ _ (Pipeline.ucRefs τ sig) ops
    (fun op h => Pipeline.sub_ucRefs op (List.forall_iff_forall_mem.mp hs op h)) hp V R

abbrev host0 : Seg (F := F) := step hostOps0 hostOps0_sub (fun op h => by rw [List.mem_singleton.mp h]; rfl) (V0 m) fun c => iprop(E m 0 c ∗ R0 m c)
abbrev coll0 : Seg (F := F) := Sites.seg0 EC Variants.none (X0 m) (Sites.Rest0 EC (X0 m) (X1 m) (X2 m) (X3 m) (X4 m) (R0 m))
abbrev host1 : Seg (F := F) := step hostOps1 hostOps1_sub (fun op h => by rw [List.mem_singleton.mp h]; rfl) (V1 m) fun c => iprop(E m 1 c ∗ R1 m c)
abbrev coll1 : Seg (F := F) := Sites.seg1 EC Variants.none (X1 m) (Sites.Rest1 EC (X0 m) (X1 m) (X2 m) (X3 m) (X4 m) (R1 m))
abbrev host2 : Seg (F := F) := step hostOps2 hostOps2_sub (fun op h => by rw [List.mem_singleton.mp h]; rfl) (V2 m) fun c => iprop(E m 2 c ∗ R2 m c)
abbrev coll2 : Seg (F := F) := Sites.seg2 EC Variants.none (X2 m) (Sites.Rest2 EC (X0 m) (X1 m) (X2 m) (X3 m) (X4 m) (R2 m))
abbrev host3 : Seg (F := F) := step hostOps3 hostOps3_sub (fun op h => by rw [List.mem_singleton.mp h]; rfl) (V3 m) fun c => iprop(E m 3 c ∗ R3 m c)
abbrev coll3 : Seg (F := F) := Sites.seg3 EC Variants.none (X3 m) (Sites.Rest3 EC (X0 m) (X1 m) (X2 m) (X3 m) (X4 m) (R3 m))
abbrev host4 : Seg (F := F) := step hostOps4 hostOps4_sub (fun op h => by rw [List.mem_singleton.mp h]; rfl) (V4 m) fun c => iprop(E m 4 c ∗ R4 m c)
abbrev coll4 : Seg (F := F) := Sites.seg4 EC Variants.none (X4 m) (Sites.Rest4 (X0 m) (X1 m) (X2 m) (X3 m) (X4 m) (R4 m))

abbrev ending (c : Dev nD) : sProp 𝕄 := iprop(StableHlo.held (c : Thread nD τ) (Pipeline.ucRefs τ sig) (V5 m c) ∗ R5 m c)

theorem enter0 (c : Dev nD) : (host0 m).post c ⊢ (coll0 m).pre c := Sites.pre0 EC Variants.none (X0 m) (X1 m) (X2 m) (X3 m) (X4 m) (R0 m) c
theorem enter1 (c : Dev nD) : (host1 m).post c ⊢ (coll1 m).pre c := Sites.pre1 EC Variants.none (X0 m) (X1 m) (X2 m) (X3 m) (X4 m) (R1 m) c
theorem enter2 (c : Dev nD) : (host2 m).post c ⊢ (coll2 m).pre c := Sites.pre2 EC Variants.none (X0 m) (X1 m) (X2 m) (X3 m) (X4 m) (R2 m) c
theorem enter3 (c : Dev nD) : (host3 m).post c ⊢ (coll3 m).pre c := Sites.pre3 EC Variants.none (X0 m) (X1 m) (X2 m) (X3 m) (X4 m) (R3 m) c
theorem enter4 (c : Dev nD) : (host4 m).post c ⊢ (coll4 m).pre c := Sites.pre4 EC Variants.none (X0 m) (X1 m) (X2 m) (X3 m) (X4 m) (R4 m) c
theorem leave0 (c : Dev nD) : (coll0 m).post c ⊢ (host1 m).pre c := Sites.post0 EC Variants.none (X0 m) (X1 m) (X2 m) (X3 m) (X4 m) (R0 m) c
theorem leave1 (c : Dev nD) : (coll1 m).post c ⊢ (host2 m).pre c := Sites.post1 EC Variants.none (X0 m) (X1 m) (X2 m) (X3 m) (X4 m) (R1 m) c
theorem leave2 (c : Dev nD) : (coll2 m).post c ⊢ (host3 m).pre c := Sites.post2 EC Variants.none (X0 m) (X1 m) (X2 m) (X3 m) (X4 m) (R2 m) c
theorem leave3 (c : Dev nD) : (coll3 m).post c ⊢ (host4 m).pre c := Sites.post3 EC Variants.none (X0 m) (X1 m) (X2 m) (X3 m) (X4 m) (R3 m) c

theorem leave4 (c : Dev nD) : (coll4 m).post c ⊢ iprop(ending m c ∗ ∃ W, owes (c : Thread nD τ) (0 : CellTallies nD τ sig ℕ) W) := by
  refine BIBase.Entails.trans (Sites.post4 EC Variants.none (X0 m) (X1 m) (X2 m) (X3 m) (X4 m) (R4 m) c) ?_
  iintro ⟨Hh, HE, HR⟩
  isplitr [HE]
  · isplitl [Hh]; · iexact Hh
    iapply (Entails.of_eq (show (R5 m c : sProp 𝕄) = iprop(Sites.Ghost4 EC c ∗ R4 m c) from rfl).symm)
    iexact HR
  iapply (Sites.hE_last EC (X0 m) (X1 m) (X2 m) (X3 m) (X4 m) c); iexact HE

/-- At the start the records are there to be kept. -/
theorem keep (c : Dev nD) : (E m 0 c : sProp 𝕄) ⊢ iprop(E m 0 c ∗ R0 m c) := by
  unfold E R0 kept
  rw [Sites.Es_0]
  iintro ⟨HO, Hp, H0, H1, H2, H3, H4⟩
  ihave #I0 := (show (Sites.rides0 EC (X0 m) c : sProp 𝕄) ⊢ kept0 m from by
    unfold Sites.rides0 AllGather.Dat.rides; iintro ⟨Hi, -⟩; iexact Hi) $$ H0
  ihave #I1 := (show (Sites.rides1 EC (X1 m) c : sProp 𝕄) ⊢ kept1 m from by
    unfold Sites.rides1 AllGather.Dat.rides; iintro ⟨Hi, -⟩; iexact Hi) $$ H1
  ihave #I2 := (show (Sites.rides2 EC (X2 m) c : sProp 𝕄) ⊢ kept2 m from by
    unfold Sites.rides2 AllGather.Dat.rides; iintro ⟨Hi, -⟩; iexact Hi) $$ H2
  ihave #I3 := (show (Sites.rides3 EC (X3 m) c : sProp 𝕄) ⊢ kept3 m from by
    unfold Sites.rides3 AllGather.Dat.rides; iintro ⟨Hi, -⟩; iexact Hi) $$ H3
  ihave #I4 := (show (Sites.rides4 EC (X4 m) c : sProp 𝕄) ⊢ kept4 m from by
    unfold Sites.rides4 AllGather.Dat.rides; iintro ⟨Hi, -⟩; iexact Hi) $$ H4
  isplitl [HO Hp H0 H1 H2 H3 H4]
  · isplitl [HO]; · iexact HO
    isplitl [Hp]; · iexact Hp
    isplitl [H0]; · iexact H0
    isplitl [H1]; · iexact H1
    isplitl [H2]; · iexact H2
    isplitl [H3]; · iexact H3
    iexact H4
  isplitr; · iexact I0
  isplitr; · iexact I1
  isplitr; · iexact I2
  isplitr; · iexact I3
  iexact I4

theorem deal :
    iprop((bigSep Finset.univ fun c : Dev nD => iprop(unscopedBufs c (fun b => m ((c : Thread nD τ).loc b)) ∗ unscopedSems0 c ∗ owes (c : Thread nD τ) (Sites.O0 c) ∅
          ∗ Pipeline.launchCred Sites.O0 c ∗ prngReg c (ρ c) ∗ Sites.G EC (X0 m) (X1 m) (X2 m) (X3 m) (X4 m) c)) ∗ levAts Sites.L Sites.lv)
      ⊢ (|={Set.univ}=> bigSep Finset.univ (host0 m).pre : sProp 𝕄) := by
  have hb (c : Dev nD) : (unscopedBufs c (fun b => m ((c : Thread nD τ).loc b)) : sProp 𝕄) = StableHlo.held (c : Thread nD τ) (Pipeline.ucRefs τ sig) (V0 m c) :=
    Pipeline.unscopedBufs_held c (V0 m c)
  have hp : (bigSep Finset.univ (host0 m).pre : sProp 𝕄)
      = iprop((bigSep Finset.univ fun c : Dev nD => StableHlo.held (c : Thread nD τ) (Pipeline.ucRefs τ sig) (V0 m c)) ∗ bigSep Finset.univ fun c => iprop(E m 0 c ∗ R0 m c)) :=
    bigSep_sep' _ _ _
  simp only [hb]
  rw [bigSep_sep', hp]
  iintro ⟨⟨Hh, H⟩, Hl⟩
  imod (Sites.hE0 EC (X0 m) (X1 m) (X2 m) (X3 m) (X4 m) ρ) $$ [H Hl] with HE
  · isplitl [H] <;> iassumption
  imodintro
  isplitl [Hh]; · iexact Hh
  iapply (show (bigSep Finset.univ fun c : Dev nD => E m 0 c : sProp 𝕄) ⊢ bigSep Finset.univ fun c => iprop(E m 0 c ∗ R0 m c) from bigSep_mono fun c _ => keep m c)
  iexact HE

/-- The collective `P` has left its counters on device `c` at zero. -/
def Quiet (P : AllGather.Cfg nD τ sig) (c : Dev nD) (s : GSem nD τ sig → ℤ) : Prop :=
  s (P.barrierCell c) = 0 ∧ s (P.sendCell c) = 0 ∧ s (P.copyCell c) = 0
    ∧ ∀ (d : AllGather.Dir) (p : AllGather.Parity) (b : Bool), s (P.recvCell c d p b) = 0

/-- A counter of `P`. -/
def Owns (P : AllGather.Cfg nD τ sig) (sm : SemLoc sig) : Prop :=
  sm = .reg P.barrier ∨ sm = .dma P.send ∨ sm = .dma P.copySem ∨ ∃ d p b, sm = .dma (P.recv d p b)

theorem Quiet.zero {P : AllGather.Cfg nD τ sig} {c : Dev nD} {s : GSem nD τ sig → ℤ} (h : Quiet P c s) {sm : SemLoc sig} (o : Owns P sm) :
    s ((c : Thread nD τ), sm) = 0 := by
  obtain ⟨hb, hs, hc, hr⟩ := h
  rcases o with rfl | rfl | rfl | ⟨d, p, b, rfl⟩
  exacts [hb, hs, hc, hr d p b]

theorem owned : ∀ sm : SemLoc sig, Owns ag0 sm ∨ Owns ag1 sm ∨ Owns ag2 sm ∨ Owns ag3 sm ∨ Owns ag4 sm := by
  unfold Owns
  decide +kernel

set_option backward.isDefEq.respectTransparency.types false in
theorem run_all : θ_run (defs (F := F)) (onTc (τ := τ) (main (F := F))) ⟨m, fun _ => 0, ρ⟩
    (fun r => (∀ (c : Dev nD), ∀ b ∈ Pipeline.ucRefs τ sig, r.2.mem ((c : Dev nD), b) = V5 m c b) ∧ r.2.sem = fun _ => 0) :=
  Pipeline.θ_run_regions_kit_sems (pcfgs (F := F)) adm dats 0 cellOf_inj embL defs₀ Variants.none Sites.L Sites.lv m ρ main
    [.host (host0 m), .host (coll0 m), .host (host1 m), .host (coll1 m), .host (host2 m), .host (coll2 m), .host (host3 m), .host (coll3 m), .host (host4 m), .host (coll4 m)]
    (fun c Q => by rw [main_segs adm dats 0 Variants.none Sites.L Sites.lv (host0 m) (host1 m) (host2 m) (host3 m) (host4 m) (coll0 m) (coll1 m) (coll2 m) (coll3 m) (coll4 m) rfl rfl rfl rfl rfl rfl rfl rfl rfl rfl c])
    (by simp only [Pipeline.Seg.pipes_host, Pipeline.Seg.pipes_nil]; exact List.nodup_nil)
    (O₀ := Sites.O0) (hL := Sites.hL) (G := Sites.G EC (X0 m) (X1 m) (X2 m) (X3 m) (X4 m))
    (u₀ := (Rounds.initOf (Pipeline.cells (Pipeline.pin (pcfgs (F := F)) adm) cellOf_inj) (Pipeline.launchToks (Pipeline.pin (pcfgs (F := F)) adm) cellOf_inj), Sites.uC (U := UU) (X0 m) (X1 m) (X2 m) (X3 m) (X4 m)))
    (hu₀ := by
      iintro Hu
      ihave H := (ownU_pair _ _) $$ Hu
      icases H with ⟨HP, HX⟩
      imodintro
      isplitl [HP]; · iexact HP
      rw [Sites.bigSep_G]; iexact HX)
    (T₀ := (host0 m).pre) (Tₙ := ending m)
    (hch := ⟨fun _ => .rfl, enter0 m, leave0 m, enter1 m, leave1 m, enter2 m, leave2 m, enter3 m, leave3 m, enter4 m, leave4 m⟩)
    (hinit := deal m ρ)
    (QY := fun c s => (∀ b ∈ Pipeline.ucRefs τ sig, s.mem ((c : Dev nD), b) = V5 m c b)
      ∧ Quiet ag0 c s.sem ∧ Quiet ag1 c s.sem ∧ Quiet ag2 c s.sem ∧ Quiet ag3 c s.sem ∧ Quiet ag4 c s.sem)
    (hfin := fun c s' => by
      unfold ending R5 R4 R3 R2 R1 R0 StableHlo.held
      iintro ⟨⟨Hh, G4, G3, G2, G1, G0, K0, K1, K2, K3, K4⟩, HSI⟩
      imod (AllGather.Dat.ghostAfter_read (Sites.E0 EC) ag0_cores (X0 m) c s') $$ [K0 G0 HSI] with ⟨%hz0, HSI⟩
      · isplitl [K0 G0]; · isplitl [K0] <;> iassumption
        iexact HSI
      imod (AllGather.Dat.ghostAfter_read (Sites.E1 EC) ag1_cores (X1 m) c s') $$ [K1 G1 HSI] with ⟨%hz1, HSI⟩
      · isplitl [K1 G1]; · isplitl [K1] <;> iassumption
        iexact HSI
      imod (AllGather.Dat.ghostAfter_read (Sites.E2 EC) ag2_cores (X2 m) c s') $$ [K2 G2 HSI] with ⟨%hz2, HSI⟩
      · isplitl [K2 G2]; · isplitl [K2] <;> iassumption
        iexact HSI
      imod (AllGather.Dat.ghostAfter_read (Sites.E3 EC) ag3_cores (X3 m) c s') $$ [K3 G3 HSI] with ⟨%hz3, HSI⟩
      · isplitl [K3 G3]; · isplitl [K3] <;> iassumption
        iexact HSI
      imod (AllGather.Dat.ghostAfter_read (Sites.E4 EC) ag4_cores (X4 m) c s') $$ [K4 G4 HSI] with ⟨%hz4, HSI⟩
      · isplitl [K4 G4]; · isplitl [K4] <;> iassumption
        iexact HSI
      ihave Hp := (pointsTo_read_all (Pipeline.ucRefs τ sig) (fun b => ((c : Dev nD), b)) (V5 m c) s') $$ [Hh HSI]
      · isplitl [Hh] <;> iassumption
      icases Hp with ⟨%hb, HSI⟩
      imodintro
      isplitr; · ipureintro; exact ⟨hb, hz0, hz1, hz2, hz3, hz4⟩
      iexact HSI)
    (hQ := fun s h hs => ⟨fun c => (h c).1, sem_eq_zero hs fun c sm hsm => by
      obtain ⟨-, h0, h1, h2, h3, h4⟩ := h c
      rcases owned sm with o | o | o | o | o
      exacts [h0.zero o, h1.zero o, h2.zero o, h3.zero o, h4.zero o]⟩)

/-! ## What each buffer ends with -/

omit [FloatOps F] in
/-- An array's turn leaves alone what neither its host operation nor its collective writes. -/
theorem turn_keeps (P : AllGather.Cfg nD τ sig) (hc : P.cores = 1) (ops : List (HloOp τ sig (Elt F))) (o : Ref sig .tc)
    (hW : ops.map HloOp.writes = [o].map fun w => {Proc.devRef (τ := τ) .tc w}) (V : Dev nD → Valuation τ sig (Elt F)) (c : Dev nD)
    {r : Ref sig .tc} (h : r ∉ [o, P.result]) :
    P.after₀ hc (fun c => StableHlo.after ops (V c)) c (Proc.devRef .tc r) = V c (Proc.devRef .tc r) :=
  (P.after₀_of_ne hc _ c fun e => h (by rw [Proc.devRef_injective _ e]; simp)).trans
    (StableHlo.after_of_writes_sub (W := [o]) ops (V c) (StableHlo.forall_writes_sub_of_map hW) fun hr => h (by rw [List.mem_singleton.mp hr]; simp))

theorem keeps0 (c : Dev nD) {r : Ref sig .tc} (h : r ∉ [main_v1, main_v2]) : V1 m c (Proc.devRef .tc r) = V0 m c (Proc.devRef .tc r) :=
  turn_keeps ag0 ag0_cores hostOps0 main_v1 rfl (V0 m) c h
theorem keeps1 (c : Dev nD) {r : Ref sig .tc} (h : r ∉ [main_v3, main_v4]) : V2 m c (Proc.devRef .tc r) = V1 m c (Proc.devRef .tc r) :=
  turn_keeps ag1 ag1_cores hostOps1 main_v3 rfl (V1 m) c h
theorem keeps2 (c : Dev nD) {r : Ref sig .tc} (h : r ∉ [main_v5, main_v6]) : V3 m c (Proc.devRef .tc r) = V2 m c (Proc.devRef .tc r) :=
  turn_keeps ag2 ag2_cores hostOps2 main_v5 rfl (V2 m) c h
theorem keeps3 (c : Dev nD) {r : Ref sig .tc} (h : r ∉ [main_v7, main_v8]) : V4 m c (Proc.devRef .tc r) = V3 m c (Proc.devRef .tc r) :=
  turn_keeps ag3 ag3_cores hostOps3 main_v7 rfl (V3 m) c h
theorem keeps4 (c : Dev nD) {r : Ref sig .tc} (h : r ∉ [main_v9, main_v10]) : V5 m c (Proc.devRef .tc r) = V4 m c (Proc.devRef .tc r) :=
  turn_keeps ag4 ag4_cores hostOps4 main_v9 rfl (V4 m) c h

theorem keeps (c : Dev nD) {r : Ref sig .tc} (h : r ∉ [main_v1, main_v2] ++ [main_v3, main_v4] ++ [main_v5, main_v6] ++ [main_v7, main_v8] ++ [main_v9, main_v10]) :
    V5 m c (Proc.devRef .tc r) = m ((c : Thread nD τ).loc r) := by
  simp only [List.mem_append, not_or] at h
  obtain ⟨⟨⟨⟨h0, h1⟩, h2⟩, h3⟩, h4⟩ := h
  rw [keeps4 m c h4, keeps3 m c h3, keeps2 m c h2, keeps1 m c h1, keeps0 m c h0]
  rfl

/-! Each device ends with the eight devices' blocks of every array, device `d`'s at place `d`. -/

def out0 : (main_v2 : Ref sig .tc).ty.Contents (Elt F) :=
  fun i : S8x12x1024.Idx => m (((i 0 : Fin 8) : Dev nD), Proc.devRef .tc main_arg0) (ix2 (i 1) (i 2) : S12x1024.Idx)
def out1 : (main_v4 : Ref sig .tc).ty.Contents (Elt F) :=
  fun i : S8x4x1024.Idx => m (((i 0 : Fin 8) : Dev nD), Proc.devRef .tc main_arg1) (ix2 (i 1) (i 2) : S4x1024.Idx)
def out2 : (main_v6 : Ref sig .tc).ty.Contents (Elt F) :=
  fun i : S8x4x2048.Idx => m (((i 0 : Fin 8) : Dev nD), Proc.devRef .tc main_arg2) (ix2 (i 1) (i 2) : S4x2048.Idx)
def out3 : (main_v8 : Ref sig .tc).ty.Contents (Elt F) :=
  fun i : S8x4x2048.Idx => m (((i 0 : Fin 8) : Dev nD), Proc.devRef .tc main_arg3) (ix2 (i 1) (i 2) : S4x2048.Idx)
def out4 : (main_v10 : Ref sig .tc).ty.Contents (Elt F) :=
  fun i : S8x1x2048.Idx => m (((i 0 : Fin 8) : Dev nD), Proc.devRef .tc main_arg4) (ix2 (i 1) (i 2) : S1x2048.Idx)

theorem peer0 : ∀ c j : Fin 8, (ag0 : AllGather.Cfg nD τ sig).peer c j = j := by decide
theorem peer1 : ∀ c j : Fin 8, (ag1 : AllGather.Cfg nD τ sig).peer c j = j := by decide
theorem peer2 : ∀ c j : Fin 8, (ag2 : AllGather.Cfg nD τ sig).peer c j = j := by decide
theorem peer3 : ∀ c j : Fin 8, (ag3 : AllGather.Cfg nD τ sig).peer c j = j := by decide
theorem peer4 : ∀ c j : Fin 8, (ag4 : AllGather.Cfg nD τ sig).peer c j = j := by decide

theorem X0_operand (c : Dev nD) : X0 m c (Proc.devRef .tc main_v1)
    = (broadcastInDim S1x12x1024 ![1, 2] bcast_S12x1024_S1x12x1024_1_2 (m ((c : Thread nD τ).loc main_arg0)) : S1x12x1024.Idx → Elt F .f32) := by
  unfold X0
  rw [StableHlo.after_cons, StableHlo.after_nil, StableHlo.unary_result']
  rfl

theorem V1_out (c : Dev nD) : V1 m c (Proc.devRef .tc main_v2) = out0 m := by
  refine (ag0.after₀_result ag0_cores (X0 m) c).trans (funext fun i => ?_)
  have h0 : (i 0).val < 8 := (i 0).isLt
  refine (ag0.gatheredOf_apply ag0_cores (fun _ => rfl) c _ i (i 0) (ix3 (0 : Fin 1) (i 1) (i 2) : S1x12x1024.Idx) ?_ fun b => ?_).trans ?_
  · show (i 0).val = (i 0).val / (8 / (8 * 1))
    omega
  · revert b
    show ∀ b : Fin 3, _
    intro b
    fin_cases b
    · show 0 = (i 0).val % (8 / (8 * 1)); omega
    · rfl
    · rfl
  · rw [show ag0.peer c (i 0) = ((i 0 : Fin 8) : Dev nD) from peer0 c (i 0)]
    refine (congrFun (X0_operand m ((i 0 : Fin 8) : Dev nD)) _).trans ?_
    refine broadcastInDim_apply _ _ _ _ (ix2 (i 1) (i 2) : S12x1024.Idx) fun a => ?_
    fin_cases a <;> rfl

theorem end_out0 (c : Dev nD) : V5 m c (Proc.devRef .tc main_v2) = out0 m := by
  rw [keeps4 m c (by decide), keeps3 m c (by decide), keeps2 m c (by decide), keeps1 m c (by decide), V1_out]

theorem X1_operand (c : Dev nD) : X1 m c (Proc.devRef .tc main_v3)
    = (broadcastInDim S1x4x1024 ![1, 2] bcast_S4x1024_S1x4x1024_1_2 (m ((c : Thread nD τ).loc main_arg1)) : S1x4x1024.Idx → Elt F .f32) := by
  unfold X1
  rw [StableHlo.after_cons, StableHlo.after_nil, StableHlo.unary_result', keeps0 m c (by decide)]
  rfl

theorem V2_out (c : Dev nD) : V2 m c (Proc.devRef .tc main_v4) = out1 m := by
  refine (ag1.after₀_result ag1_cores (X1 m) c).trans (funext fun i => ?_)
  have h0 : (i 0).val < 8 := (i 0).isLt
  refine (ag1.gatheredOf_apply ag1_cores (fun _ => rfl) c _ i (i 0) (ix3 (0 : Fin 1) (i 1) (i 2) : S1x4x1024.Idx) ?_ fun b => ?_).trans ?_
  · show (i 0).val = (i 0).val / (8 / (8 * 1))
    omega
  · revert b
    show ∀ b : Fin 3, _
    intro b
    fin_cases b
    · show 0 = (i 0).val % (8 / (8 * 1)); omega
    · rfl
    · rfl
  · rw [show ag1.peer c (i 0) = ((i 0 : Fin 8) : Dev nD) from peer1 c (i 0)]
    refine (congrFun (X1_operand m ((i 0 : Fin 8) : Dev nD)) _).trans ?_
    refine broadcastInDim_apply _ _ _ _ (ix2 (i 1) (i 2) : S4x1024.Idx) fun a => ?_
    fin_cases a <;> rfl

theorem end_out1 (c : Dev nD) : V5 m c (Proc.devRef .tc main_v4) = out1 m := by
  rw [keeps4 m c (by decide), keeps3 m c (by decide), keeps2 m c (by decide), V2_out]

theorem X2_operand (c : Dev nD) : X2 m c (Proc.devRef .tc main_v5)
    = (broadcastInDim S1x4x2048 ![1, 2] bcast_S4x2048_S1x4x2048_1_2 (m ((c : Thread nD τ).loc main_arg2)) : S1x4x2048.Idx → Elt F .f32) := by
  unfold X2
  rw [StableHlo.after_cons, StableHlo.after_nil, StableHlo.unary_result', keeps1 m c (by decide), keeps0 m c (by decide)]
  rfl

theorem V3_out (c : Dev nD) : V3 m c (Proc.devRef .tc main_v6) = out2 m := by
  refine (ag2.after₀_result ag2_cores (X2 m) c).trans (funext fun i => ?_)
  have h0 : (i 0).val < 8 := (i 0).isLt
  refine (ag2.gatheredOf_apply ag2_cores (fun _ => rfl) c _ i (i 0) (ix3 (0 : Fin 1) (i 1) (i 2) : S1x4x2048.Idx) ?_ fun b => ?_).trans ?_
  · show (i 0).val = (i 0).val / (8 / (8 * 1))
    omega
  · revert b
    show ∀ b : Fin 3, _
    intro b
    fin_cases b
    · show 0 = (i 0).val % (8 / (8 * 1)); omega
    · rfl
    · rfl
  · rw [show ag2.peer c (i 0) = ((i 0 : Fin 8) : Dev nD) from peer2 c (i 0)]
    refine (congrFun (X2_operand m ((i 0 : Fin 8) : Dev nD)) _).trans ?_
    refine broadcastInDim_apply _ _ _ _ (ix2 (i 1) (i 2) : S4x2048.Idx) fun a => ?_
    fin_cases a <;> rfl

theorem end_out2 (c : Dev nD) : V5 m c (Proc.devRef .tc main_v6) = out2 m := by
  rw [keeps4 m c (by decide), keeps3 m c (by decide), V3_out]

theorem X3_operand (c : Dev nD) : X3 m c (Proc.devRef .tc main_v7)
    = (broadcastInDim S1x4x2048 ![1, 2] bcast_S4x2048_S1x4x2048_1_2 (m ((c : Thread nD τ).loc main_arg3)) : S1x4x2048.Idx → Elt F .f32) := by
  unfold X3
  rw [StableHlo.after_cons, StableHlo.after_nil, StableHlo.unary_result', keeps2 m c (by decide), keeps1 m c (by decide), keeps0 m c (by decide)]
  rfl

theorem V4_out (c : Dev nD) : V4 m c (Proc.devRef .tc main_v8) = out3 m := by
  refine (ag3.after₀_result ag3_cores (X3 m) c).trans (funext fun i => ?_)
  have h0 : (i 0).val < 8 := (i 0).isLt
  refine (ag3.gatheredOf_apply ag3_cores (fun _ => rfl) c _ i (i 0) (ix3 (0 : Fin 1) (i 1) (i 2) : S1x4x2048.Idx) ?_ fun b => ?_).trans ?_
  · show (i 0).val = (i 0).val / (8 / (8 * 1))
    omega
  · revert b
    show ∀ b : Fin 3, _
    intro b
    fin_cases b
    · show 0 = (i 0).val % (8 / (8 * 1)); omega
    · rfl
    · rfl
  · rw [show ag3.peer c (i 0) = ((i 0 : Fin 8) : Dev nD) from peer3 c (i 0)]
    refine (congrFun (X3_operand m ((i 0 : Fin 8) : Dev nD)) _).trans ?_
    refine broadcastInDim_apply _ _ _ _ (ix2 (i 1) (i 2) : S4x2048.Idx) fun a => ?_
    fin_cases a <;> rfl

theorem end_out3 (c : Dev nD) : V5 m c (Proc.devRef .tc main_v8) = out3 m := by
  rw [keeps4 m c (by decide), V4_out]

theorem X4_operand (c : Dev nD) : X4 m c (Proc.devRef .tc main_v9)
    = (broadcastInDim S1x1x2048 ![1, 2] bcast_S1x2048_S1x1x2048_1_2 (m ((c : Thread nD τ).loc main_arg4)) : S1x1x2048.Idx → Elt F .f32) := by
  unfold X4
  rw [StableHlo.after_cons, StableHlo.after_nil, StableHlo.unary_result', keeps3 m c (by decide), keeps2 m c (by decide), keeps1 m c (by decide), keeps0 m c (by decide)]
  rfl

theorem V5_out (c : Dev nD) : V5 m c (Proc.devRef .tc main_v10) = out4 m := by
  refine (ag4.after₀_result ag4_cores (X4 m) c).trans (funext fun i => ?_)
  have h0 : (i 0).val < 8 := (i 0).isLt
  refine (ag4.gatheredOf_apply ag4_cores (fun _ => rfl) c _ i (i 0) (ix3 (0 : Fin 1) (i 1) (i 2) : S1x1x2048.Idx) ?_ fun b => ?_).trans ?_
  · show (i 0).val = (i 0).val / (8 / (8 * 1))
    omega
  · revert b
    show ∀ b : Fin 3, _
    intro b
    fin_cases b
    · show 0 = (i 0).val % (8 / (8 * 1)); omega
    · rfl
    · rfl
  · rw [show ag4.peer c (i 0) = ((i 0 : Fin 8) : Dev nD) from peer4 c (i 0)]
    refine (congrFun (X4_operand m ((i 0 : Fin 8) : Dev nD)) _).trans ?_
    refine broadcastInDim_apply _ _ _ _ (ix2 (i 1) (i 2) : S1x2048.Idx) fun a => ?_
    fin_cases a
    · show (i 1).val = 0; have h1 : (i 1).val < 1 := (i 1).isLt; omega
    · rfl

theorem end_out4 (c : Dev nD) : V5 m c (Proc.devRef .tc main_v10) = out4 m := by
  rw [V5_out]

/-- What the run leaves on device `c`. -/
def Ends (s : (ℓ : Loc nD τ sig) → Buf (Elt F) ℓ) (c : Dev nD) : Prop :=
  (s ((c : Thread nD τ).loc main_v2) = out0 m ∧ s ((c : Thread nD τ).loc main_v4) = out1 m ∧ s ((c : Thread nD τ).loc main_v6) = out2 m ∧ s ((c : Thread nD τ).loc main_v8) = out3 m ∧ s ((c : Thread nD τ).loc main_v10) = out4 m)
  ∧ s ((c : Thread nD τ).loc main_arg0) = m ((c : Thread nD τ).loc main_arg0) ∧ s ((c : Thread nD τ).loc main_arg1) = m ((c : Thread nD τ).loc main_arg1) ∧ s ((c : Thread nD τ).loc main_arg2) = m ((c : Thread nD τ).loc main_arg2) ∧ s ((c : Thread nD τ).loc main_arg3) = m ((c : Thread nD τ).loc main_arg3) ∧ s ((c : Thread nD τ).loc main_arg4) = m ((c : Thread nD τ).loc main_arg4)

/-- The run, with the results and the arguments read. -/
theorem run : θ_run (defs (F := F)) (onTc (τ := τ) (main (F := F))) ⟨m, fun _ => 0, ρ⟩
    (fun r => (∀ c : Dev nD, Ends m r.2.mem c) ∧ r.2.sem = fun _ => 0) :=
  (θ_run defs _ _).mono (fun r h => ⟨fun c =>
      ⟨⟨(h.1 c (Proc.devRef .tc main_v2) (by decide)).trans (end_out0 m c),
        (h.1 c (Proc.devRef .tc main_v4) (by decide)).trans (end_out1 m c),
        (h.1 c (Proc.devRef .tc main_v6) (by decide)).trans (end_out2 m c),
        (h.1 c (Proc.devRef .tc main_v8) (by decide)).trans (end_out3 m c),
        (h.1 c (Proc.devRef .tc main_v10) (by decide)).trans (end_out4 m c)⟩,
        (h.1 c (Proc.devRef .tc main_arg0) (by decide)).trans (keeps m c (by decide)),
        (h.1 c (Proc.devRef .tc main_arg1) (by decide)).trans (keeps m c (by decide)),
        (h.1 c (Proc.devRef .tc main_arg2) (by decide)).trans (keeps m c (by decide)),
        (h.1 c (Proc.devRef .tc main_arg3) (by decide)).trans (keeps m c (by decide)),
        (h.1 c (Proc.devRef .tc main_arg4) (by decide)).trans (keeps m c (by decide))⟩, h.2⟩)
    (run_all m ρ)

end Cert.GatherRefProof

end
-- ==== Proof.Val.Gather.lean ====
/-
The gather's claims: both readings of the program run and leave their arguments and every counter alone, and the
results equal the collectives'.
-/
module

public import proofs.«01_k».proof.Defs
public import proofs.«01_k».proof.Proof.Val.GatherLaunch
public import proofs.«01_k».proof.Proof.Val.GatherRef
public import proofs.«01_k».proof.Proof.Gen.GatherIdeal

@[expose] public section

noncomputable section

namespace Cert.GatherPair

open Idealize.ShloMosaic
open Idealize.ShloMosaic.TcCoe
open Idealize.SL.Sem

theorem bits_frame (m : (ℓ : Loc Cert.Gather.nD Cert.Gather.τ Cert.Gather.sig) → Buf (Elt Bits) ℓ) (g : Dev Cert.Gather.nD → PrngReg) :
    θ_run (Cert.Gather.defs (F := Bits)) (onTc (τ := Cert.Gather.τ) (Cert.Gather.main (F := Bits))) ⟨m, fun _ => 0, g⟩ (fun r => (∀ c : Dev Cert.Gather.nD,
      r.2.mem ((c.tc : Thread Cert.Gather.nD Cert.Gather.τ).loc Cert.Gather.main_arg0) = m ((c.tc : Thread Cert.Gather.nD Cert.Gather.τ).loc Cert.Gather.main_arg0)
      ∧ r.2.mem ((c.tc : Thread Cert.Gather.nD Cert.Gather.τ).loc Cert.Gather.main_arg1) = m ((c.tc : Thread Cert.Gather.nD Cert.Gather.τ).loc Cert.Gather.main_arg1)
      ∧ r.2.mem ((c.tc : Thread Cert.Gather.nD Cert.Gather.τ).loc Cert.Gather.main_arg2) = m ((c.tc : Thread Cert.Gather.nD Cert.Gather.τ).loc Cert.Gather.main_arg2)
      ∧ r.2.mem ((c.tc : Thread Cert.Gather.nD Cert.Gather.τ).loc Cert.Gather.main_arg3) = m ((c.tc : Thread Cert.Gather.nD Cert.Gather.τ).loc Cert.Gather.main_arg3)
      ∧ r.2.mem ((c.tc : Thread Cert.Gather.nD Cert.Gather.τ).loc Cert.Gather.main_arg4) = m ((c.tc : Thread Cert.Gather.nD Cert.Gather.τ).loc Cert.Gather.main_arg4))
      ∧ r.2.sem = fun _ => 0) :=
  (θ_run Cert.Gather.defs _ _).mono (fun r h => ⟨fun c => ⟨(h.1 c).1 0, (h.1 c).1 1, (h.1 c).1 2, (h.1 c).1 3, (h.1 c).1 4⟩, h.2⟩) (Cert.GatherProof.run (F := Bits) m g)

/-- The gather read without rounding: the arguments and the results. -/
theorem plain_run (m : (ℓ : Loc Cert.Gather.nD Cert.Gather.τ Cert.Gather.sig) → Buf (Elt Ideal) ℓ) (g : Dev Cert.Gather.nD → PrngReg) :
    θ_run (Cert.Gather.defs (F := Ideal)) (onTc (τ := Cert.Gather.τ) (Cert.Gather.main (F := Ideal))) ⟨m, fun _ => 0, g⟩ (fun r => (∀ c : Dev Cert.Gather.nD,
      (r.2.mem ((c.tc : Thread Cert.Gather.nD Cert.Gather.τ).loc Cert.Gather.main_arg0) = m ((c.tc : Thread Cert.Gather.nD Cert.Gather.τ).loc Cert.Gather.main_arg0)
      ∧ r.2.mem ((c.tc : Thread Cert.Gather.nD Cert.Gather.τ).loc Cert.Gather.main_arg1) = m ((c.tc : Thread Cert.Gather.nD Cert.Gather.τ).loc Cert.Gather.main_arg1)
      ∧ r.2.mem ((c.tc : Thread Cert.Gather.nD Cert.Gather.τ).loc Cert.Gather.main_arg2) = m ((c.tc : Thread Cert.Gather.nD Cert.Gather.τ).loc Cert.Gather.main_arg2)
      ∧ r.2.mem ((c.tc : Thread Cert.Gather.nD Cert.Gather.τ).loc Cert.Gather.main_arg3) = m ((c.tc : Thread Cert.Gather.nD Cert.Gather.τ).loc Cert.Gather.main_arg3)
      ∧ r.2.mem ((c.tc : Thread Cert.Gather.nD Cert.Gather.τ).loc Cert.Gather.main_arg4) = m ((c.tc : Thread Cert.Gather.nD Cert.Gather.τ).loc Cert.Gather.main_arg4))
      ∧ r.2.mem ((c.tc : Thread Cert.Gather.nD Cert.Gather.τ).loc Cert.Gather.main_v1_0) = Cert.GatherProof.out (F := Ideal) m 0
      ∧ r.2.mem ((c.tc : Thread Cert.Gather.nD Cert.Gather.τ).loc Cert.Gather.main_v1_1) = Cert.GatherProof.out (F := Ideal) m 1
      ∧ r.2.mem ((c.tc : Thread Cert.Gather.nD Cert.Gather.τ).loc Cert.Gather.main_v1_2) = Cert.GatherProof.out (F := Ideal) m 2
      ∧ r.2.mem ((c.tc : Thread Cert.Gather.nD Cert.Gather.τ).loc Cert.Gather.main_v1_3) = Cert.GatherProof.out (F := Ideal) m 3
      ∧ r.2.mem ((c.tc : Thread Cert.Gather.nD Cert.Gather.τ).loc Cert.Gather.main_v1_4) = Cert.GatherProof.out (F := Ideal) m 4)
      ∧ r.2.sem = fun _ => 0) :=
  (θ_run Cert.Gather.defs _ _).mono (fun r h => ⟨fun c => ⟨⟨(h.1 c).1 0, (h.1 c).1 1, (h.1 c).1 2, (h.1 c).1 3, (h.1 c).1 4⟩,
      (h.1 c).2 0, (h.1 c).2 1, (h.1 c).2 2, (h.1 c).2 3, (h.1 c).2 4⟩, h.2⟩) (Cert.GatherProof.run (F := Ideal) m g)

/-- The second reading is the same program, so it has the same run. -/
theorem ideal_run (m : (ℓ : Loc Cert.GatherIdeal.nD Cert.GatherIdeal.τ Cert.GatherIdeal.sig) → Buf (Elt Ideal) ℓ) (g : Dev Cert.GatherIdeal.nD → PrngReg) :
    θ_run (Cert.GatherIdeal.defs (F := Ideal)) (onTc (τ := Cert.GatherIdeal.τ) (Cert.GatherIdeal.main (F := Ideal))) ⟨m, fun _ => 0, g⟩ (fun r => (∀ c : Dev Cert.GatherIdeal.nD,
      (r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0)
      ∧ r.2.mem ((c.tc : Thread Cert.GatherIdeal.nD Cert.GatherIdeal.τ).loc Cert.GatherIdeal.main_arg1) = m ((c.tc : Thread Cert.GatherIdeal.nD Cert.GatherIdeal.τ).loc Cert.GatherIdeal.main_arg1)
      ∧ r.2.mem ((c.tc : Thread Cert.GatherIdeal.nD Cert.GatherIdeal.τ).loc Cert.GatherIdeal.main_arg2) = m ((c.tc : Thread Cert.GatherIdeal.nD Cert.GatherIdeal.τ).loc Cert.GatherIdeal.main_arg2)
      ∧ r.2.mem ((c.tc : Thread Cert.GatherIdeal.nD Cert.GatherIdeal.τ).loc Cert.GatherIdeal.main_arg3) = m ((c.tc : Thread Cert.GatherIdeal.nD Cert.GatherIdeal.τ).loc Cert.GatherIdeal.main_arg3)
      ∧ r.2.mem ((c.tc : Thread Cert.GatherIdeal.nD Cert.GatherIdeal.τ).loc Cert.GatherIdeal.main_arg4) = m ((c.tc : Thread Cert.GatherIdeal.nD Cert.GatherIdeal.τ).loc Cert.GatherIdeal.main_arg4))
      ∧ r.2.mem ((c.tc : Thread Cert.GatherIdeal.nD Cert.GatherIdeal.τ).loc Cert.GatherIdeal.main_v1_0) = Cert.GatherProof.out (F := Ideal) m 0
      ∧ r.2.mem ((c.tc : Thread Cert.GatherIdeal.nD Cert.GatherIdeal.τ).loc Cert.GatherIdeal.main_v1_1) = Cert.GatherProof.out (F := Ideal) m 1
      ∧ r.2.mem ((c.tc : Thread Cert.GatherIdeal.nD Cert.GatherIdeal.τ).loc Cert.GatherIdeal.main_v1_2) = Cert.GatherProof.out (F := Ideal) m 2
      ∧ r.2.mem ((c.tc : Thread Cert.GatherIdeal.nD Cert.GatherIdeal.τ).loc Cert.GatherIdeal.main_v1_3) = Cert.GatherProof.out (F := Ideal) m 3
      ∧ r.2.mem ((c.tc : Thread Cert.GatherIdeal.nD Cert.GatherIdeal.τ).loc Cert.GatherIdeal.main_v1_4) = Cert.GatherProof.out (F := Ideal) m 4)
      ∧ r.2.sem = fun _ => 0) :=
  plain_run m g

theorem ideal_frame (m : (ℓ : Loc Cert.GatherIdeal.nD Cert.GatherIdeal.τ Cert.GatherIdeal.sig) → Buf (Elt Ideal) ℓ) (g : Dev Cert.GatherIdeal.nD → PrngReg) :
    θ_run (Cert.GatherIdeal.defs (F := Ideal)) (onTc (τ := Cert.GatherIdeal.τ) (Cert.GatherIdeal.main (F := Ideal))) ⟨m, fun _ => 0, g⟩ (fun r => (∀ c : Dev Cert.GatherIdeal.nD,
      r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0)
      ∧ r.2.mem ((c.tc : Thread Cert.GatherIdeal.nD Cert.GatherIdeal.τ).loc Cert.GatherIdeal.main_arg1) = m ((c.tc : Thread Cert.GatherIdeal.nD Cert.GatherIdeal.τ).loc Cert.GatherIdeal.main_arg1)
      ∧ r.2.mem ((c.tc : Thread Cert.GatherIdeal.nD Cert.GatherIdeal.τ).loc Cert.GatherIdeal.main_arg2) = m ((c.tc : Thread Cert.GatherIdeal.nD Cert.GatherIdeal.τ).loc Cert.GatherIdeal.main_arg2)
      ∧ r.2.mem ((c.tc : Thread Cert.GatherIdeal.nD Cert.GatherIdeal.τ).loc Cert.GatherIdeal.main_arg3) = m ((c.tc : Thread Cert.GatherIdeal.nD Cert.GatherIdeal.τ).loc Cert.GatherIdeal.main_arg3)
      ∧ r.2.mem ((c.tc : Thread Cert.GatherIdeal.nD Cert.GatherIdeal.τ).loc Cert.GatherIdeal.main_arg4) = m ((c.tc : Thread Cert.GatherIdeal.nD Cert.GatherIdeal.τ).loc Cert.GatherIdeal.main_arg4))
      ∧ r.2.sem = fun _ => 0) :=
  (θ_run Cert.GatherIdeal.defs _ _).mono (fun r h => ⟨fun c => (h.1 c).1, h.2⟩) (ideal_run m g)

theorem reference_frame (m : (ℓ : Loc Cert.GatherRefIdeal.nD Cert.GatherRefIdeal.τ Cert.GatherRefIdeal.sig) → Buf (Elt Ideal) ℓ) (g : Dev Cert.GatherRefIdeal.nD → PrngReg) :
    θ_run (Cert.GatherRefIdeal.defs (F := Ideal)) (onTc (τ := Cert.GatherRefIdeal.τ) (Cert.GatherRefIdeal.main (F := Ideal))) ⟨m, fun _ => 0, g⟩ (fun r => (∀ c : Dev Cert.GatherRefIdeal.nD,
      r.2.mem ((c.tc : Thread Cert.GatherRefIdeal.nD Cert.GatherRefIdeal.τ).loc Cert.GatherRefIdeal.main_arg0) = m ((c.tc : Thread Cert.GatherRefIdeal.nD Cert.GatherRefIdeal.τ).loc Cert.GatherRefIdeal.main_arg0)
      ∧ r.2.mem ((c.tc : Thread Cert.GatherRefIdeal.nD Cert.GatherRefIdeal.τ).loc Cert.GatherRefIdeal.main_arg1) = m ((c.tc : Thread Cert.GatherRefIdeal.nD Cert.GatherRefIdeal.τ).loc Cert.GatherRefIdeal.main_arg1)
      ∧ r.2.mem ((c.tc : Thread Cert.GatherRefIdeal.nD Cert.GatherRefIdeal.τ).loc Cert.GatherRefIdeal.main_arg2) = m ((c.tc : Thread Cert.GatherRefIdeal.nD Cert.GatherRefIdeal.τ).loc Cert.GatherRefIdeal.main_arg2)
      ∧ r.2.mem ((c.tc : Thread Cert.GatherRefIdeal.nD Cert.GatherRefIdeal.τ).loc Cert.GatherRefIdeal.main_arg3) = m ((c.tc : Thread Cert.GatherRefIdeal.nD Cert.GatherRefIdeal.τ).loc Cert.GatherRefIdeal.main_arg3)
      ∧ r.2.mem ((c.tc : Thread Cert.GatherRefIdeal.nD Cert.GatherRefIdeal.τ).loc Cert.GatherRefIdeal.main_arg4) = m ((c.tc : Thread Cert.GatherRefIdeal.nD Cert.GatherRefIdeal.τ).loc Cert.GatherRefIdeal.main_arg4))
      ∧ r.2.sem = fun _ => 0) :=
  (θ_run Cert.GatherRefIdeal.defs _ _).mono (fun r h => ⟨fun c => (h.1 c).2, h.2⟩) (Cert.GatherRefProof.run (F := Ideal) m g)

/-- The gather and the collectives leave the same arrays on every device. -/
theorem algebraic : Cert.algebraic_GatherIdeal_GatherRefIdeal := by
  intro m g m' g' _ hagree
  refine ⟨fun _ => Cert.GatherProof.out (F := Ideal) m 0, fun _ => Cert.GatherProof.out (F := Ideal) m 1, fun _ => Cert.GatherProof.out (F := Ideal) m 2, fun _ => Cert.GatherProof.out (F := Ideal) m 3, fun _ => Cert.GatherProof.out (F := Ideal) m 4, ?_, ?_⟩
  · refine (θ_run Cert.GatherIdeal.defs _ _).mono (fun r h c => ?_) (ideal_run m g)
    obtain ⟨ha, h0, h1, h2, h3, h4⟩ := h.1 c
    exact ⟨h0, h1, h2, h3, h4, ha⟩
  · refine (θ_run Cert.GatherRefIdeal.defs _ _).mono (fun r h c => ?_) (Cert.GatherRefProof.run (F := Ideal) m' g')
    obtain ⟨⟨h0, h1, h2, h3, h4⟩, ha⟩ := h.1 c
    refine ⟨h0.trans (funext fun i => ?_), h1.trans (funext fun i => ?_), h2.trans (funext fun i => ?_), h3.trans (funext fun i => ?_), h4.trans (funext fun i => ?_), ha⟩
    · exact congrFun (hagree (i 0)).1 (ValueIdx.ix2 (i 1) (i 2) : Cert.Gather.S12x1024.Idx)
    · exact congrFun (hagree (i 0)).2.1 (ValueIdx.ix2 (i 1) (i 2) : Cert.Gather.S4x1024.Idx)
    · exact congrFun (hagree (i 0)).2.2.1 (ValueIdx.ix2 (i 1) (i 2) : Cert.Gather.S4x2048.Idx)
    · exact congrFun (hagree (i 0)).2.2.2.1 (ValueIdx.ix2 (i 1) (i 2) : Cert.Gather.S4x2048.Idx)
    · exact congrFun (hagree (i 0)).2.2.2.2 (ValueIdx.ix2 (i 1) (i 2) : Cert.Gather.S1x2048.Idx)

end Cert.GatherPair

end
-- ==== Proof.Val.AdamwOwnForm.lean ====
/-
  The optimiser's step with the device's own part: the four results as functions of the arguments, what the precondition says of
  the device's number, and that it puts every block the kernel reads inside its array.
-/
module

public import proofs.«01_k».proof.Pre_own_block
public import proofs.«01_k».proof.Proof.Gen.AdamwOwn.Frame
public import proofs.«01_k».proof.Proof.Gen.AdamwOwnIdeal.Frame
public import Idealize.ShloMosaic.Lib.Pipeline.ValueKit
public import Idealize.ShloMosaic.Lib.Pipeline.ReadBack
public import Idealize.ShloMosaic.Lib.Pointwise
public import Idealize.ShloMosaic.Lib.WordCmp
public import Idealize.ShloMosaic.Lib.WordArith
public import Idealize.ShloMosaic.Lib.Affine

@[expose] public section

set_option maxRecDepth 16384

noncomputable section

open Idealize.ShloMosaic Idealize.ShloMosaic.TcCoe Idealize.SL.Sem

namespace Cert.AdamwOwnForm

/-- The device's number, as an index of the eight blocks. -/
def dev (ME : IVec ⟨0, ![]⟩ 32) : Fin 8 := ⟨(ME ix0).toNat % 8, Nat.mod_lt _ (by decide)⟩

variable (ME : IVec ⟨0, ![]⟩ 32) (OWN : FVec Ideal ⟨4, ![4, 8, 256, 2048]⟩ .bf16) (GOT : FVec Ideal ⟨4, ![4, 7, 256, 2048]⟩ .bf16)
  (W M V : FVec Ideal ⟨3, ![4, 256, 2048]⟩ .f32)

/-- The gradient of one layer: the device's own part and the seven received ones. -/
def grad (l : Fin 4) (a : Fin 256) (b : Fin 2048) : EReal :=
  (show EReal from OWN (ix4 l (dev ME) a b)) + ∑ s : Fin 7, (show EReal from GOT (ix4 l s a b))

/-- The new first moment, of the gradient and the old one. -/
def mom (g m : EReal) : EReal := Ideal.ofBits .f32 0x3F666666#32 * m + Ideal.ofBits .f32 0x3DCCCCCD#32 * g

/-- The new second moment, of the gradient and the old one. -/
def vel (g v : EReal) : EReal := Ideal.ofBits .f32 0x3F7FBE77#32 * v + Ideal.ofBits .f32 0x3A83126F#32 * (g * g)

/-- What the step adds to a weight, of the gradient, the weight and the two old moments. -/
def step (g w m v : EReal) : EReal :=
  Ideal.ofBits .f32 0xBA83126F#32
    * (Ideal.div (Ideal.div (mom g m) (Ideal.ofBits .f32 0x3F26BD02#32))
        (Ideal.sqrt (Ideal.div (vel g v) (Ideal.ofBits .f32 0x3C231ACC#32)) + Ideal.ofBits .f32 0x322BCC77#32)
      + Ideal.ofBits .f32 0x3C23D70A#32 * w)

/-- The four results as arrays. -/
def gradA : FVec Ideal ⟨3, ![4, 256, 2048]⟩ .f32 := fun i => grad ME OWN GOT (i 0) (i 1) (i 2)
def stepA : FVec Ideal ⟨3, ![4, 256, 2048]⟩ .f32 := fun i => step (grad ME OWN GOT (i 0) (i 1) (i 2)) (W i) (M i) (V i)
def momA : FVec Ideal ⟨3, ![4, 256, 2048]⟩ .f32 := fun i => mom (grad ME OWN GOT (i 0) (i 1) (i 2)) (M i)
def velA : FVec Ideal ⟨3, ![4, 256, 2048]⟩ .f32 := fun i => vel (grad ME OWN GOT (i 0) (i 1) (i 2)) (V i)

instance own_facts : Cert.Pre_own_block.Facts := {}

/-- A word that is at least zero and less than eight is one of the eight numbers. -/
theorem lt_eight (x : BitVec 32) (h : IntOp.andi (IntOp.cmpi .sge x 0#32) (IntOp.cmpi .slt x 8#32) = 1#1) : x.toNat < 8 := by
  rw [WordCmp.andi_sge_zero_slt_ofNat (k := 8) (by decide) x] at h
  exact (WordCmp.ofBool_decide_eq_one_iff _).mp h

/-- The precondition bounds the device's number. -/
theorem me_lt {F : FTy → Type} [FloatOps F] (x1 : FVec F ⟨4, ![4, 8, 256, 2048]⟩ .bf16) (x2 : FVec F ⟨4, ![4, 7, 256, 2048]⟩ .bf16)
    (x3 x4 x5 : FVec F ⟨3, ![4, 256, 2048]⟩ .f32)
    (h : (Cert.Pre_own_block.fn ME x1 x2 x3 x4 x5) = fun _ => 1#1) : (ME ix0).toNat < 8 :=
  lt_eight _ (congrFun h ix0)

/-- A point's coordinate, through the word the index maps make of it. -/
theorem coord (i : Fin 8) : (BitVec.ofNat 32 i.val).toNat = i.val := by
  rw [BitVec.toNat_ofNat]; exact Nat.mod_eq_of_lt (by omega)

/-- The block of thirty-two rows the device's number and a point name is inside the array of eight. -/
theorem inside (x : BitVec 32) (h : x.toNat < 8) (i : Fin 8) (a : Fin 3) :
    ((![x.toNat, (BitVec.ofNat 32 i.val).toNat, 0] : Fin 3 → Nat) a + 1) * (![1, 32, 2048] : Fin 3 → Nat) a ≤ (![8, 256, 2048] : Fin 3 → Nat) a := by
  rw [coord]
  match a with
  | 0 => simp; omega
  | 1 => simp; omega
  | 2 => simp

end Cert.AdamwOwnForm

namespace Cert.AdamwOwnIdeal.Final

open Cert.AdamwOwnIdeal Cert.AdamwOwnIdeal.Gen Cert.AdamwOwnForm

variable {F : FTy → Type} [FloatOps F] (m : (ℓ : Loc nD τ sig) → Buf (Elt F) ℓ)

/-- The word the index maps read is the device's number. -/
theorem tbl_at : (tbl m).at 0 (Rect.unit (s := S1) ![0] S1.size inb_S1_S1_0) numel1_S1
    = m (((0 : Dev nD) : Thread nD τ).loc main_arg0) Idealize.ShloMosaic.ix0 := by
  show V m (0 : Dev nD) main_v16 _ = _
  unfold V
  after_results_simp
  exact congrArg (m (((0 : Dev nD) : Thread nD τ).loc main_arg0)) (funext fun a => a.elim0)

/-- Every block the kernel reads is inside its array when the device's number is one of the eight. -/
theorem ok_of_lt (h : (m (((0 : Dev nD) : Thread nD τ).loc main_arg0) Idealize.ShloMosaic.ix0 : BitVec 32).toNat < 8) : Ok m := by
  rw [← tbl_at m] at h
  exact ⟨fun i => ⟨inside _ h (i 0), .inr (Affine.block_words_dvd (of_decide_eq_true rfl) (by decide))⟩,
    fun i => ⟨inside _ h (i 0), .inr (Affine.block_words_dvd (of_decide_eq_true rfl) (by decide))⟩,
    fun i => ⟨inside _ h (i 0), .inr (Affine.block_words_dvd (of_decide_eq_true rfl) (by decide))⟩,
    fun i => ⟨inside _ h (i 0), .inr (Affine.block_words_dvd (of_decide_eq_true rfl) (by decide))⟩⟩

end Cert.AdamwOwnIdeal.Final

namespace Cert.AdamwOwn.Final

open Cert.AdamwOwn Cert.AdamwOwn.Gen Cert.AdamwOwnForm

variable {F : FTy → Type} [FloatOps F] (m : (ℓ : Loc nD τ sig) → Buf (Elt F) ℓ)

/-- The word the index maps read is the device's number. -/
theorem tbl_at : (tbl m).at 0 (Rect.unit (s := S1) ![0] S1.size inb_S1_S1_0) numel1_S1
    = m (((0 : Dev nD) : Thread nD τ).loc main_arg0) Idealize.ShloMosaic.ix0 := by
  show V m (0 : Dev nD) main_v16 _ = _
  unfold V
  after_results_simp
  exact congrArg (m (((0 : Dev nD) : Thread nD τ).loc main_arg0)) (funext fun a => a.elim0)

/-- Every block the kernel reads is inside its array when the device's number is one of the eight. -/
theorem ok_of_lt (h : (m (((0 : Dev nD) : Thread nD τ).loc main_arg0) Idealize.ShloMosaic.ix0 : BitVec 32).toNat < 8) : Ok m := by
  rw [← tbl_at m] at h
  exact ⟨fun i => ⟨inside _ h (i 0), .inr (Affine.block_words_dvd (of_decide_eq_true rfl) (by decide))⟩,
    fun i => ⟨inside _ h (i 0), .inr (Affine.block_words_dvd (of_decide_eq_true rfl) (by decide))⟩,
    fun i => ⟨inside _ h (i 0), .inr (Affine.block_words_dvd (of_decide_eq_true rfl) (by decide))⟩,
    fun i => ⟨inside _ h (i 0), .inr (Affine.block_words_dvd (of_decide_eq_true rfl) (by decide))⟩⟩

end Cert.AdamwOwn.Final

end
-- ==== Proof.Val.AdamwOwnPart.lean ====
/-
  The optimiser's step with the device's own part: what the kernel's lines make of one layer's blocks.
-/
module

public import proofs.«01_k».proof.Proof.Val.AdamwOwnForm

@[expose] public section

set_option maxRecDepth 16384

noncomputable section

open Idealize.ShloMosaic Idealize.ShloMosaic.TcCoe Idealize.SL.Sem

namespace Cert.AdamwOwnIdeal.Final

open Cert.AdamwOwnIdeal Cert.AdamwOwnIdeal.Gen Cert.AdamwOwnForm

variable (Bo : Vec Ideal S1x32x2048 .bf16) (Bg : Vec Ideal S7x32x2048 .bf16) (Bw Bm Bv : Vec Ideal S4x32x2048 .f32)

/-- The sum of a block of the device's own part and the seven received blocks. -/
def blockSum (a : Fin 32) (b : Fin 2048) : EReal :=
  (show EReal from Bo (ix3 0 a b)) + ∑ s : Fin 7, (show EReal from Bg (ix3 s a b))

/-- A received block. -/
abbrev part0 : Vec Ideal S1x32x2048 .bf16 := View.ld Bg (Rect.unit ![0, 0, 0] ![1, 32, 2048] inb_S7x32x2048_S1x32x2048_0_0_0)
abbrev part1 : Vec Ideal S1x32x2048 .bf16 := View.ld Bg (Rect.unit ![1, 0, 0] ![1, 32, 2048] inb_S7x32x2048_S1x32x2048_1_0_0)
abbrev part2 : Vec Ideal S1x32x2048 .bf16 := View.ld Bg (Rect.unit ![2, 0, 0] ![1, 32, 2048] inb_S7x32x2048_S1x32x2048_2_0_0)
abbrev part3 : Vec Ideal S1x32x2048 .bf16 := View.ld Bg (Rect.unit ![3, 0, 0] ![1, 32, 2048] inb_S7x32x2048_S1x32x2048_3_0_0)
abbrev part4 : Vec Ideal S1x32x2048 .bf16 := View.ld Bg (Rect.unit ![4, 0, 0] ![1, 32, 2048] inb_S7x32x2048_S1x32x2048_4_0_0)
abbrev part5 : Vec Ideal S1x32x2048 .bf16 := View.ld Bg (Rect.unit ![5, 0, 0] ![1, 32, 2048] inb_S7x32x2048_S1x32x2048_5_0_0)
abbrev part6 : Vec Ideal S1x32x2048 .bf16 := View.ld Bg (Rect.unit ![6, 0, 0] ![1, 32, 2048] inb_S7x32x2048_S1x32x2048_6_0_0)

/-- A layer of a block. -/
abbrev lay0 : Vec Ideal S1x32x2048 .f32 := View.ld Bm (Rect.unit ![0, 0, 0] ![1, 32, 2048] inb_S4x32x2048_S1x32x2048_0_0_0)
abbrev lay1 : Vec Ideal S1x32x2048 .f32 := View.ld Bm (Rect.unit ![1, 0, 0] ![1, 32, 2048] inb_S4x32x2048_S1x32x2048_1_0_0)
abbrev lay2 : Vec Ideal S1x32x2048 .f32 := View.ld Bm (Rect.unit ![2, 0, 0] ![1, 32, 2048] inb_S4x32x2048_S1x32x2048_2_0_0)
abbrev lay3 : Vec Ideal S1x32x2048 .f32 := View.ld Bm (Rect.unit ![3, 0, 0] ![1, 32, 2048] inb_S4x32x2048_S1x32x2048_3_0_0)

/-- Layer 0's sum as the kernel forms it. -/
abbrev sum0 : FVec Ideal S32x2048 .f32 := k0_pay5 Bo (part0 Bg) (part1 Bg) (part2 Bg) (part3 Bg) (part4 Bg) (part5 Bg) (part6 Bg)

theorem sum0_at (a : Fin 32) (b : Fin 2048) : sum0 Bo Bg (ix2 a b) = blockSum Bo Bg a b := by
  unfold blockSum
  rw [Fin.sum_univ_seven]
  simp only [← add_assoc]
  pointwise [sum0, k0_pay5, part0, part1, part2, part3, part4, part5, part6]

theorem grad0_at (a : Fin 32) (b : Fin 2048) : k0_pay8 (sum0 Bo Bg) (ix3 0 a b) = blockSum Bo Bg a b := by
  rw [← sum0_at]
  pointwise [k0_pay8, sum0]

theorem mom0_at (a : Fin 32) (b : Fin 2048) : k0_pay10 (k0_pay6 (sum0 Bo Bg) (lay0 Bm)) (ix3 0 a b) = mom (blockSum Bo Bg a b) (Bm (ix3 0 a b)) := by
  unfold mom
  rw [← sum0_at]
  pointwise [k0_pay10, k0_pay6, sum0, lay0]

theorem vel0_at (a : Fin 32) (b : Fin 2048) : k0_pay11 (k0_pay7 (sum0 Bo Bg) (lay0 Bv)) (ix3 0 a b) = vel (blockSum Bo Bg a b) (Bv (ix3 0 a b)) := by
  unfold vel
  rw [← sum0_at]
  pointwise [k0_pay11, k0_pay7, sum0, lay0]

theorem step0_at (a : Fin 32) (b : Fin 2048) : k0_pay9 (sum0 Bo Bg) (lay0 Bm) (lay0 Bv) (lay0 Bw) (ix3 0 a b)
    = step (blockSum Bo Bg a b) (Bw (ix3 0 a b)) (Bm (ix3 0 a b)) (Bv (ix3 0 a b)) := by
  unfold step mom vel
  rw [← sum0_at]
  pointwise [k0_pay9, k0_pay6, k0_pay7, sum0, lay0]

/-- Layer 1's sum as the kernel forms it. -/
abbrev sum1 : FVec Ideal S32x2048 .f32 := k0_pay13 (k0_pay12 Bo (part0 Bg) (part1 Bg) (part2 Bg) (part3 Bg) (part4 Bg) (part5 Bg)) (part6 Bg)

theorem sum1_at (a : Fin 32) (b : Fin 2048) : sum1 Bo Bg (ix2 a b) = blockSum Bo Bg a b := by
  unfold blockSum
  rw [Fin.sum_univ_seven]
  simp only [← add_assoc]
  pointwise [sum1, k0_pay13, k0_pay12, part0, part1, part2, part3, part4, part5, part6]

theorem grad1_at (a : Fin 32) (b : Fin 2048) : k0_pay16 (k0_pay12 Bo (part0 Bg) (part1 Bg) (part2 Bg) (part3 Bg) (part4 Bg) (part5 Bg)) (part6 Bg) (ix3 0 a b) = blockSum Bo Bg a b := by
  rw [← sum1_at]
  pointwise [k0_pay16, sum1]

theorem mom1_at (a : Fin 32) (b : Fin 2048) : k0_pay19 (k0_pay14 (k0_pay12 Bo (part0 Bg) (part1 Bg) (part2 Bg) (part3 Bg) (part4 Bg) (part5 Bg)) (part6 Bg) (lay1 Bm)) (ix3 0 a b) = mom (blockSum Bo Bg a b) (Bm (ix3 1 a b)) := by
  unfold mom
  rw [← sum1_at]
  pointwise [k0_pay19, k0_pay14, sum1, lay1]

theorem vel1_at (a : Fin 32) (b : Fin 2048) : k0_pay20 (k0_pay15 (k0_pay12 Bo (part0 Bg) (part1 Bg) (part2 Bg) (part3 Bg) (part4 Bg) (part5 Bg)) (part6 Bg) (lay1 Bv)) (ix3 0 a b) = vel (blockSum Bo Bg a b) (Bv (ix3 1 a b)) := by
  unfold vel
  rw [← sum1_at]
  pointwise [k0_pay20, k0_pay15, sum1, lay1]

theorem step1_at (a : Fin 32) (b : Fin 2048) : k0_pay18 (k0_pay17 (k0_pay12 Bo (part0 Bg) (part1 Bg) (part2 Bg) (part3 Bg) (part4 Bg) (part5 Bg)) (part6 Bg) (lay1 Bm) (lay1 Bv) (lay1 Bw)) (Scalar.ofBits .f32 0xBA83126F#32) (ix3 0 a b)
    = step (blockSum Bo Bg a b) (Bw (ix3 1 a b)) (Bm (ix3 1 a b)) (Bv (ix3 1 a b)) := by
  unfold step mom vel
  rw [← sum1_at]
  pointwise [k0_pay18, k0_pay17, k0_pay14, k0_pay15, sum1, lay1]

/-- Layer 2's sum as the kernel forms it. -/
abbrev sum2 : FVec Ideal S32x2048 .f32 := k0_pay22 (k0_pay21 Bo (part0 Bg) (part1 Bg) (part2 Bg) (part3 Bg)) (part4 Bg) (part5 Bg) (part6 Bg)

theorem sum2_at (a : Fin 32) (b : Fin 2048) : sum2 Bo Bg (ix2 a b) = blockSum Bo Bg a b := by
  unfold blockSum
  rw [Fin.sum_univ_seven]
  simp only [← add_assoc]
  pointwise [sum2, k0_pay22, k0_pay21, part0, part1, part2, part3, part4, part5, part6]

theorem grad2_at (a : Fin 32) (b : Fin 2048) : k0_pay26 (k0_pay21 Bo (part0 Bg) (part1 Bg) (part2 Bg) (part3 Bg)) (part4 Bg) (part5 Bg) (part6 Bg) (ix3 0 a b) = blockSum Bo Bg a b := by
  rw [← sum2_at]
  pointwise [k0_pay26, sum2]

theorem mom2_at (a : Fin 32) (b : Fin 2048) : k0_pay29 (k0_pay23 (k0_pay21 Bo (part0 Bg) (part1 Bg) (part2 Bg) (part3 Bg)) (part4 Bg) (part5 Bg) (part6 Bg) (lay2 Bm)) (ix3 0 a b) = mom (blockSum Bo Bg a b) (Bm (ix3 2 a b)) := by
  unfold mom
  rw [← sum2_at]
  pointwise [k0_pay29, k0_pay23, sum2, lay2]

theorem vel2_at (a : Fin 32) (b : Fin 2048) : k0_pay30 (k0_pay24 (k0_pay21 Bo (part0 Bg) (part1 Bg) (part2 Bg) (part3 Bg)) (part4 Bg) (part5 Bg) (part6 Bg) (lay2 Bv)) (ix3 0 a b) = vel (blockSum Bo Bg a b) (Bv (ix3 2 a b)) := by
  unfold vel
  rw [← sum2_at]
  pointwise [k0_pay30, k0_pay24, sum2, lay2]

theorem step2_at (a : Fin 32) (b : Fin 2048) : k0_pay28 (k0_pay25 (k0_pay21 Bo (part0 Bg) (part1 Bg) (part2 Bg) (part3 Bg)) (part4 Bg) (part5 Bg) (part6 Bg) (lay2 Bm)) (k0_pay27 (k0_pay21 Bo (part0 Bg) (part1 Bg) (part2 Bg) (part3 Bg)) (part4 Bg) (part5 Bg) (part6 Bg) (lay2 Bv)) (lay2 Bw) (ix3 0 a b)
    = step (blockSum Bo Bg a b) (Bw (ix3 2 a b)) (Bm (ix3 2 a b)) (Bv (ix3 2 a b)) := by
  unfold step mom vel
  rw [← sum2_at]
  pointwise [k0_pay28, k0_pay25, k0_pay27, k0_pay23, k0_pay24, sum2, lay2]

/-- Layer 3's sum as the kernel forms it. -/
abbrev sum3 : FVec Ideal S32x2048 .f32 := k0_pay33 (k0_pay31 Bo (part0 Bg) (part1 Bg)) (k0_pay32 (part2 Bg)) (part3 Bg) (part4 Bg) (part5 Bg) (part6 Bg)

theorem sum3_at (a : Fin 32) (b : Fin 2048) : sum3 Bo Bg (ix2 a b) = blockSum Bo Bg a b := by
  unfold blockSum
  rw [Fin.sum_univ_seven]
  simp only [← add_assoc]
  pointwise [sum3, k0_pay33, k0_pay31, k0_pay32, part0, part1, part2, part3, part4, part5, part6]

theorem grad3_at (a : Fin 32) (b : Fin 2048) : k0_pay1 (sum3 Bo Bg) (ix3 0 a b) = blockSum Bo Bg a b := by
  rw [← sum3_at]
  pointwise [k0_pay1, sum3]

theorem mom3_at (a : Fin 32) (b : Fin 2048) : k0_pay3 (k0_pay34 (k0_pay31 Bo (part0 Bg) (part1 Bg)) (k0_pay32 (part2 Bg)) (part3 Bg) (part4 Bg) (part5 Bg) (part6 Bg) (lay3 Bm)) (ix3 0 a b) = mom (blockSum Bo Bg a b) (Bm (ix3 3 a b)) := by
  unfold mom
  rw [← sum3_at]
  pointwise [k0_pay3, k0_pay34, sum3, lay3]

theorem vel3_at (a : Fin 32) (b : Fin 2048) : k0_pay4 (k0_pay35 (k0_pay31 Bo (part0 Bg) (part1 Bg)) (k0_pay32 (part2 Bg)) (part3 Bg) (part4 Bg) (part5 Bg) (part6 Bg) (lay3 Bv)) (ix3 0 a b) = vel (blockSum Bo Bg a b) (Bv (ix3 3 a b)) := by
  unfold vel
  rw [← sum3_at]
  pointwise [k0_pay4, k0_pay35, sum3, lay3]

theorem step3_at (a : Fin 32) (b : Fin 2048) : k0_pay2 (k0_pay36 (k0_pay31 Bo (part0 Bg) (part1 Bg)) (k0_pay32 (part2 Bg)) (part3 Bg) (part4 Bg) (part5 Bg) (part6 Bg) (lay3 Bm)) (k0_pay37 (k0_pay31 Bo (part0 Bg) (part1 Bg)) (k0_pay32 (part2 Bg)) (part3 Bg) (part4 Bg) (part5 Bg) (part6 Bg) (lay3 Bv)) (lay3 Bw) (ix3 0 a b)
    = step (blockSum Bo Bg a b) (Bw (ix3 3 a b)) (Bm (ix3 3 a b)) (Bv (ix3 3 a b)) := by
  unfold step mom vel
  rw [← sum3_at]
  pointwise [k0_pay2, k0_pay36, k0_pay37, k0_pay34, k0_pay35, sum3, lay3]

end Cert.AdamwOwnIdeal.Final

end
-- ==== Proof.Val.AdamwOwn.lean ====
/-
  The optimiser's step with the device's own part: what the kernel leaves in its four result arrays.
-/
module

public import proofs.«01_k».proof.Proof.Val.AdamwOwnPart

@[expose] public section

set_option maxRecDepth 16384

noncomputable section

open Idealize.ShloMosaic Idealize.ShloMosaic.TcCoe Idealize.SL.Sem
open Idealize.ShloMosaic.Pipeline (Dat)

namespace Cert.AdamwOwnIdeal.Final

open Cert.AdamwOwnIdeal Cert.AdamwOwnIdeal.Gen Cert.AdamwOwnForm

variable (m : (ℓ : Loc nD τ sig) → Buf (Elt Ideal) ℓ) (hO : Ok m)

theorem coordN : ∀ t : Fin grid0.N, (grid0.coords t 0).val = t.val := by decide +kernel

/-- The grid's one coordinate at a point, through the word the index maps make of it. -/
theorem coordv (t : Fin (cfgM m hO).N) : (BitVec.ofNat 32 (grid0.coords t 0).val).toNat = t.val :=
  (coord (grid0.coords t 0)).trans (coordN t)

/-- There are eight points. -/
theorem lt8 (t : Fin (cfgM m hO).N) : t.val < 8 := (coordN t).symm.trans_lt (grid0.coords t 0).isLt

/-- The device's number, as the index maps read it. -/
abbrev word : BitVec 32 := m (((0 : Dev nD) : Thread nD τ).loc main_arg0) Idealize.ShloMosaic.ix0

/-- Where each window's block sits in its array at a point. -/
theorem idx0 (t : Fin (cfgM m hO).N) : ((cfgM m hO).win 0).index t = ![(word m).toNat, t.val, 0] := by
  show ![BitVec.toNat ((tbl m).at 0 (Rect.unit (s := S1) ![0] S1.size inb_S1_S1_0) numel1_S1), _, 0] = _
  rw [tbl_at]; exact congrArg (fun a : Nat => ![_, a, 0]) (coordv m hO t)
theorem idx1 (t : Fin (cfgM m hO).N) : ((cfgM m hO).win 1).index t = ![(word m).toNat, t.val, 0] := by
  show ![BitVec.toNat ((tbl m).at 0 (Rect.unit (s := S1) ![0] S1.size inb_S1_S1_0) numel1_S1), _, 0] = _
  rw [tbl_at]; exact congrArg (fun a : Nat => ![_, a, 0]) (coordv m hO t)
theorem idx2 (t : Fin (cfgM m hO).N) : ((cfgM m hO).win 2).index t = ![(word m).toNat, t.val, 0] := by
  show ![BitVec.toNat ((tbl m).at 0 (Rect.unit (s := S1) ![0] S1.size inb_S1_S1_0) numel1_S1), _, 0] = _
  rw [tbl_at]; exact congrArg (fun a : Nat => ![_, a, 0]) (coordv m hO t)
theorem idx3 (t : Fin (cfgM m hO).N) : ((cfgM m hO).win 3).index t = ![(word m).toNat, t.val, 0] := by
  show ![BitVec.toNat ((tbl m).at 0 (Rect.unit (s := S1) ![0] S1.size inb_S1_S1_0) numel1_S1), _, 0] = _
  rw [tbl_at]; exact congrArg (fun a : Nat => ![_, a, 0]) (coordv m hO t)
theorem idx4 (t : Fin (cfgM m hO).N) : ((cfgM m hO).win 4).index t = ![0, t.val, 0] :=
  congrArg (fun a : Nat => ![0, a, 0]) (coordv m hO t)
theorem idx5 (t : Fin (cfgM m hO).N) : ((cfgM m hO).win 5).index t = ![0, t.val, 0] :=
  congrArg (fun a : Nat => ![0, a, 0]) (coordv m hO t)
theorem idx6 (t : Fin (cfgM m hO).N) : ((cfgM m hO).win 6).index t = ![0, t.val, 0] :=
  congrArg (fun a : Nat => ![0, a, 0]) (coordv m hO t)
theorem idx7 (t : Fin (cfgM m hO).N) : ((cfgM m hO).win 7).index t = ![0, t.val, 0] :=
  congrArg (fun a : Nat => ![0, a, 0]) (coordv m hO t)
theorem idx8 (t : Fin (cfgM m hO).N) : ((cfgM m hO).win 8).index t = ![0, t.val, 0] :=
  congrArg (fun a : Nat => ![0, a, 0]) (coordv m hO t)
theorem idx9 (t : Fin (cfgM m hO).N) : ((cfgM m hO).win 9).index t = ![0, t.val, 0] :=
  congrArg (fun a : Nat => ![0, a, 0]) (coordv m hO t)
theorem idx10 (t : Fin (cfgM m hO).N) : ((cfgM m hO).win 10).index t = ![0, t.val, 0] :=
  congrArg (fun a : Nat => ![0, a, 0]) (coordv m hO t)
theorem idx11 (t : Fin (cfgM m hO).N) : ((cfgM m hO).win 11).index t = ![0, t.val, 0] :=
  congrArg (fun a : Nat => ![0, a, 0]) (coordv m hO t)
theorem idx12 (t : Fin (cfgM m hO).N) : ((cfgM m hO).win 12).index t = ![0, t.val, 0] :=
  congrArg (fun a : Nat => ![0, a, 0]) (coordv m hO t)
theorem idx13 (t : Fin (cfgM m hO).N) : ((cfgM m hO).win 13).index t = ![0, t.val, 0] :=
  congrArg (fun a : Nat => ![0, a, 0]) (coordv m hO t)
theorem idx14 (t : Fin (cfgM m hO).N) : ((cfgM m hO).win 14).index t = ![0, t.val, 0] :=
  congrArg (fun a : Nat => ![0, a, 0]) (coordv m hO t)

variable (hw : (word m).toNat < 8) (c : Dev nD) (t : Fin (cfgM m hO).N) (a : Fin 32) (b : Fin 2048) (r : Fin 256)
  (hr : r.val = 32 * t.val + a.val)

/-- The three coordinates in an array of an index of a block, when the block's place is known. -/
theorem emb_eq (w : Pipeline.Window sig grid0) (t : Fin grid0.N) (hk : w.kind = .blocked) (y : (w.xblock (grid0.coords t)).Idx)
    (z : w.shape.Idx) (h : ∀ i, w.index t i * w.size i + (y i).val = (z i).val) : (w.rect t).emb y = z := by
  funext i; apply Fin.ext
  exact (w.rect_emb_val t y i hk).trans (h i)

include hr hw in
theorem own0 : iblk m hO c 0 t (ix3 0 a b) = m ((c : Thread nD τ).loc main_arg1) (ix4 0 (dev (m ((c : Thread nD τ).loc main_arg0))) r b) := by
  obtain rfl : c = 0 := Subsingleton.elim _ _
  have e : (((cfgM m hO).win 0).blk t).view.emb (ix3 0 a b) = (ix3 (dev (m (((0 : Dev nD) : Thread nD τ).loc main_arg0))) r b : S8x256x2048.Idx) := by
    refine emb_eq ((cfgM m hO).win 0) t rfl (ix3 0 a b) _ fun (i : Fin 3) => ?_
    rw [idx0 m hO t]
    match i with
    | 0 => show (word m).toNat * 1 + 0 = (word m).toNat % 8; omega
    | 1 => show t.val * 32 + a.val = r.val; omega
    | 2 => show 0 * 2048 + b.val = b.val; omega
  unfold iblk
  refine (congrArg (V m (0 : Dev nD) (Pipeline.arrRef spec0 0)) e).trans ?_
  show V m (0 : Dev nD) main_v9 (ix3 _ r b) = _
  unfold V
  after_results_simp
  pointwise

include hr hw in
theorem own1 : iblk m hO c 1 t (ix3 0 a b) = m ((c : Thread nD τ).loc main_arg1) (ix4 1 (dev (m ((c : Thread nD τ).loc main_arg0))) r b) := by
  obtain rfl : c = 0 := Subsingleton.elim _ _
  have e : (((cfgM m hO).win 1).blk t).view.emb (ix3 0 a b) = (ix3 (dev (m (((0 : Dev nD) : Thread nD τ).loc main_arg0))) r b : S8x256x2048.Idx) := by
    refine emb_eq ((cfgM m hO).win 1) t rfl (ix3 0 a b) _ fun (i : Fin 3) => ?_
    rw [idx1 m hO t]
    match i with
    | 0 => show (word m).toNat * 1 + 0 = (word m).toNat % 8; omega
    | 1 => show t.val * 32 + a.val = r.val; omega
    | 2 => show 0 * 2048 + b.val = b.val; omega
  unfold iblk
  refine (congrArg (V m (0 : Dev nD) (Pipeline.arrRef spec0 1)) e).trans ?_
  show V m (0 : Dev nD) main_v11 (ix3 _ r b) = _
  unfold V
  after_results_simp
  pointwise

include hr hw in
theorem own2 : iblk m hO c 2 t (ix3 0 a b) = m ((c : Thread nD τ).loc main_arg1) (ix4 2 (dev (m ((c : Thread nD τ).loc main_arg0))) r b) := by
  obtain rfl : c = 0 := Subsingleton.elim _ _
  have e : (((cfgM m hO).win 2).blk t).view.emb (ix3 0 a b) = (ix3 (dev (m (((0 : Dev nD) : Thread nD τ).loc main_arg0))) r b : S8x256x2048.Idx) := by
    refine emb_eq ((cfgM m hO).win 2) t rfl (ix3 0 a b) _ fun (i : Fin 3) => ?_
    rw [idx2 m hO t]
    match i with
    | 0 => show (word m).toNat * 1 + 0 = (word m).toNat % 8; omega
    | 1 => show t.val * 32 + a.val = r.val; omega
    | 2 => show 0 * 2048 + b.val = b.val; omega
  unfold iblk
  refine (congrArg (V m (0 : Dev nD) (Pipeline.arrRef spec0 2)) e).trans ?_
  show V m (0 : Dev nD) main_v13 (ix3 _ r b) = _
  unfold V
  after_results_simp
  pointwise

include hr hw in
theorem own3 : iblk m hO c 3 t (ix3 0 a b) = m ((c : Thread nD τ).loc main_arg1) (ix4 3 (dev (m ((c : Thread nD τ).loc main_arg0))) r b) := by
  obtain rfl : c = 0 := Subsingleton.elim _ _
  have e : (((cfgM m hO).win 3).blk t).view.emb (ix3 0 a b) = (ix3 (dev (m (((0 : Dev nD) : Thread nD τ).loc main_arg0))) r b : S8x256x2048.Idx) := by
    refine emb_eq ((cfgM m hO).win 3) t rfl (ix3 0 a b) _ fun (i : Fin 3) => ?_
    rw [idx3 m hO t]
    match i with
    | 0 => show (word m).toNat * 1 + 0 = (word m).toNat % 8; omega
    | 1 => show t.val * 32 + a.val = r.val; omega
    | 2 => show 0 * 2048 + b.val = b.val; omega
  unfold iblk
  refine (congrArg (V m (0 : Dev nD) (Pipeline.arrRef spec0 3)) e).trans ?_
  show V m (0 : Dev nD) main_v15 (ix3 _ r b) = _
  unfold V
  after_results_simp
  pointwise

include hr in
theorem got0 (s : Fin 7) : iblk m hO c 4 t (ix3 s a b) = m ((c : Thread nD τ).loc main_arg2) (ix4 0 s r b) := by
  have e : (((cfgM m hO).win 4).blk t).view.emb (ix3 s a b) = (ix3 s r b : S7x256x2048.Idx) := by
    refine emb_eq ((cfgM m hO).win 4) t rfl (ix3 s a b) _ fun (i : Fin 3) => ?_
    rw [idx4 m hO t]
    match i with
    | 0 => show 0 * 7 + s.val = s.val; omega
    | 1 => show t.val * 32 + a.val = r.val; omega
    | 2 => show 0 * 2048 + b.val = b.val; omega
  unfold iblk
  refine (congrArg (V m c (Pipeline.arrRef spec0 4)) e).trans ?_
  show V m c main_v1 (ix3 s r b) = _
  unfold V
  after_results_simp
  pointwise

include hr in
theorem got1 (s : Fin 7) : iblk m hO c 5 t (ix3 s a b) = m ((c : Thread nD τ).loc main_arg2) (ix4 1 s r b) := by
  have e : (((cfgM m hO).win 5).blk t).view.emb (ix3 s a b) = (ix3 s r b : S7x256x2048.Idx) := by
    refine emb_eq ((cfgM m hO).win 5) t rfl (ix3 s a b) _ fun (i : Fin 3) => ?_
    rw [idx5 m hO t]
    match i with
    | 0 => show 0 * 7 + s.val = s.val; omega
    | 1 => show t.val * 32 + a.val = r.val; omega
    | 2 => show 0 * 2048 + b.val = b.val; omega
  unfold iblk
  refine (congrArg (V m c (Pipeline.arrRef spec0 5)) e).trans ?_
  show V m c main_v3 (ix3 s r b) = _
  unfold V
  after_results_simp
  pointwise

include hr in
theorem got2 (s : Fin 7) : iblk m hO c 6 t (ix3 s a b) = m ((c : Thread nD τ).loc main_arg2) (ix4 2 s r b) := by
  have e : (((cfgM m hO).win 6).blk t).view.emb (ix3 s a b) = (ix3 s r b : S7x256x2048.Idx) := by
    refine emb_eq ((cfgM m hO).win 6) t rfl (ix3 s a b) _ fun (i : Fin 3) => ?_
    rw [idx6 m hO t]
    match i with
    | 0 => show 0 * 7 + s.val = s.val; omega
    | 1 => show t.val * 32 + a.val = r.val; omega
    | 2 => show 0 * 2048 + b.val = b.val; omega
  unfold iblk
  refine (congrArg (V m c (Pipeline.arrRef spec0 6)) e).trans ?_
  show V m c main_v5 (ix3 s r b) = _
  unfold V
  after_results_simp
  pointwise

include hr in
theorem got3 (s : Fin 7) : iblk m hO c 7 t (ix3 s a b) = m ((c : Thread nD τ).loc main_arg2) (ix4 3 s r b) := by
  have e : (((cfgM m hO).win 7).blk t).view.emb (ix3 s a b) = (ix3 s r b : S7x256x2048.Idx) := by
    refine emb_eq ((cfgM m hO).win 7) t rfl (ix3 s a b) _ fun (i : Fin 3) => ?_
    rw [idx7 m hO t]
    match i with
    | 0 => show 0 * 7 + s.val = s.val; omega
    | 1 => show t.val * 32 + a.val = r.val; omega
    | 2 => show 0 * 2048 + b.val = b.val; omega
  unfold iblk
  refine (congrArg (V m c (Pipeline.arrRef spec0 7)) e).trans ?_
  show V m c main_v7 (ix3 s r b) = _
  unfold V
  after_results_simp
  pointwise

include hr in
theorem keep8 (l : Fin 4) : iblk m hO c 8 t (ix3 l a b) = m ((c : Thread nD τ).loc main_arg3) (ix3 l r b) := by
  have e : (((cfgM m hO).win 8).blk t).view.emb (ix3 l a b) = (ix3 l r b : S4x256x2048.Idx) := by
    refine emb_eq ((cfgM m hO).win 8) t rfl (ix3 l a b) _ fun (i : Fin 3) => ?_
    rw [idx8 m hO t]
    match i with
    | 0 => show 0 * 4 + l.val = l.val; omega
    | 1 => show t.val * 32 + a.val = r.val; omega
    | 2 => show 0 * 2048 + b.val = b.val; omega
  unfold iblk
  refine (congrArg (V m c (Pipeline.arrRef spec0 8)) e).trans ?_
  exact congrFun (V_main_arg3 m c) _

include hr in
theorem keep9 (l : Fin 4) : iblk m hO c 9 t (ix3 l a b) = m ((c : Thread nD τ).loc main_arg4) (ix3 l r b) := by
  have e : (((cfgM m hO).win 9).blk t).view.emb (ix3 l a b) = (ix3 l r b : S4x256x2048.Idx) := by
    refine emb_eq ((cfgM m hO).win 9) t rfl (ix3 l a b) _ fun (i : Fin 3) => ?_
    rw [idx9 m hO t]
    match i with
    | 0 => show 0 * 4 + l.val = l.val; omega
    | 1 => show t.val * 32 + a.val = r.val; omega
    | 2 => show 0 * 2048 + b.val = b.val; omega
  unfold iblk
  refine (congrArg (V m c (Pipeline.arrRef spec0 9)) e).trans ?_
  exact congrFun (V_main_arg4 m c) _

include hr in
theorem keep10 (l : Fin 4) : iblk m hO c 10 t (ix3 l a b) = m ((c : Thread nD τ).loc main_arg5) (ix3 l r b) := by
  have e : (((cfgM m hO).win 10).blk t).view.emb (ix3 l a b) = (ix3 l r b : S4x256x2048.Idx) := by
    refine emb_eq ((cfgM m hO).win 10) t rfl (ix3 l a b) _ fun (i : Fin 3) => ?_
    rw [idx10 m hO t]
    match i with
    | 0 => show 0 * 4 + l.val = l.val; omega
    | 1 => show t.val * 32 + a.val = r.val; omega
    | 2 => show 0 * 2048 + b.val = b.val; omega
  unfold iblk
  refine (congrArg (V m c (Pipeline.arrRef spec0 10)) e).trans ?_
  exact congrFun (V_main_arg5 m c) _

/-- A sum of blocks is the gradient where the blocks are the arrays'. -/
theorem sum_eq {Bo : Vec Ideal S1x32x2048 .bf16} {Bg : Vec Ideal S7x32x2048 .bf16} {ME : IVec S_ 32}
    {OWN : FVec Ideal S4x8x256x2048 .bf16} {GOT : FVec Ideal S4x7x256x2048 .bf16} (l : Fin 4) (a : Fin 32) (b : Fin 2048) (r : Fin 256)
    (ho : Bo (ix3 0 a b) = OWN (ix4 l (dev ME) r b)) (hg : ∀ s, Bg (ix3 s a b) = GOT (ix4 l s r b)) :
    blockSum Bo Bg a b = grad ME OWN GOT l r b :=
  congrArg₂ (α := EReal) (· + ·) ho (Finset.sum_congr rfl fun s _ => hg s)

/-- A value stored at an index of a layer's block is the closed form's, when it is at every row and column. -/
theorem at_x {v : FVec Ideal S1x32x2048 .f32} {e : EReal} (x : S1x32x2048.Idx) (h : v (ix3 0 (x 1) (x 2)) = e) : v x = e := by
  have h0 : x 0 = (0 : Fin 1) := Subsingleton.elim (α := Fin 1) _ _
  have hx : x = ix3 0 (x 1) (x 2) := by
    funext i; match i with | 0 => exact h0 | 1 => rfl | 2 => rfl
  exact (congrArg v hx).trans h

include hr hw in
/-- Layer 0's blocks sum to the gradient. -/
theorem total0 {Bo : Vec Ideal S1x32x2048 .bf16} {Bg : Vec Ideal S7x32x2048 .bf16} (ho : Bo = iblk m hO c 0 t) (hg : Bg = iblk m hO c 4 t) :
    blockSum Bo Bg a b = grad (m ((c : Thread nD τ).loc main_arg0)) (m ((c : Thread nD τ).loc main_arg1)) (m ((c : Thread nD τ).loc main_arg2)) 0 r b := by
  subst ho; subst hg
  exact sum_eq 0 a b r (own0 m hO hw c t a b r hr) fun s => got0 m hO c t a b r hr s

include hr hw in
/-- Layer 1's blocks sum to the gradient. -/
theorem total1 {Bo : Vec Ideal S1x32x2048 .bf16} {Bg : Vec Ideal S7x32x2048 .bf16} (ho : Bo = iblk m hO c 1 t) (hg : Bg = iblk m hO c 5 t) :
    blockSum Bo Bg a b = grad (m ((c : Thread nD τ).loc main_arg0)) (m ((c : Thread nD τ).loc main_arg1)) (m ((c : Thread nD τ).loc main_arg2)) 1 r b := by
  subst ho; subst hg
  exact sum_eq 1 a b r (own1 m hO hw c t a b r hr) fun s => got1 m hO c t a b r hr s

include hr hw in
/-- Layer 2's blocks sum to the gradient. -/
theorem total2 {Bo : Vec Ideal S1x32x2048 .bf16} {Bg : Vec Ideal S7x32x2048 .bf16} (ho : Bo = iblk m hO c 2 t) (hg : Bg = iblk m hO c 6 t) :
    blockSum Bo Bg a b = grad (m ((c : Thread nD τ).loc main_arg0)) (m ((c : Thread nD τ).loc main_arg1)) (m ((c : Thread nD τ).loc main_arg2)) 2 r b := by
  subst ho; subst hg
  exact sum_eq 2 a b r (own2 m hO hw c t a b r hr) fun s => got2 m hO c t a b r hr s

include hr hw in
/-- Layer 3's blocks sum to the gradient. -/
theorem total3 {Bo : Vec Ideal S1x32x2048 .bf16} {Bg : Vec Ideal S7x32x2048 .bf16} (ho : Bo = iblk m hO c 3 t) (hg : Bg = iblk m hO c 7 t) :
    blockSum Bo Bg a b = grad (m ((c : Thread nD τ).loc main_arg0)) (m ((c : Thread nD τ).loc main_arg1)) (m ((c : Thread nD τ).loc main_arg2)) 3 r b := by
  subst ho; subst hg
  exact sum_eq 3 a b r (own3 m hO hw c t a b r hr) fun s => got3 m hO c t a b r hr s

/-- The step at equal values. -/
theorem step_congr {g g' w w' m m' v v' : EReal} (h1 : g = g') (h2 : w = w') (h3 : m = m') (h4 : v = v') : step g w m v = step g' w' m' v' := by
  rw [h1, h2, h3, h4]

theorem cov11 : ((cfgM m hO).win 11).Covers := by
  refine ⟨fun (i : Fin 3) => ?_, fun β => ?_⟩
  · match i with | 0 => exact (show 0 < 4 by decide) | 1 => exact (show 0 < 32 by decide) | 2 => exact (show 0 < 2048 by decide)
  · have b0 : (β (0 : Fin 3)).val < 1 := lt_of_lt_of_eq (β (0 : Fin 3)).isLt (show (4 + 4 - 1) / 4 = 1 by decide)
    have b1 : (β (1 : Fin 3)).val < 8 := lt_of_lt_of_eq (β (1 : Fin 3)).isLt (show (256 + 32 - 1) / 32 = 8 by decide)
    have b2 : (β (2 : Fin 3)).val < 1 := lt_of_lt_of_eq (β (2 : Fin 3)).isLt (show (2048 + 2048 - 1) / 2048 = 1 by decide)
    refine ⟨⟨(β (1 : Fin 3)).val, b1⟩, flush0_11 _ _, fun (i : Fin 3) => ?_⟩
    rw [idx11]
    match i with
    | 0 => exact ⟨(Nat.lt_one_iff.mp b0).symm, .inl rfl⟩
    | 1 => exact ⟨rfl, .inl rfl⟩
    | 2 => exact ⟨(Nat.lt_one_iff.mp b2).symm, .inl rfl⟩

include hw in
theorem point11 (y : S4x32x2048.Idx) (z : S4x256x2048.Idx) (e0 : (z 0).val = (y 0).val) (e1 : (z 1).val = 32 * t.val + (y 1).val) (e2 : (z 2).val = (y 2).val) :
    (outsAt0 m hO c t).1 y = gradA (m ((c : Thread nD τ).loc main_arg0)) (m ((c : Thread nD τ).loc main_arg1)) (m ((c : Thread nD τ).loc main_arg2)) z := by
  unfold outsAt0
  frame_out
  canon_tiles x h
  all_goals have hr : (z 1).val = 32 * t.val + (x 1).val := by omega
  case piece0 =>
    have hz : z = (ix3 (3 : Fin 4) (z 1) (x 2) : S4x256x2048.Idx) := by
      funext i; apply Fin.ext
      match i with
      | 0 => show (z 0).val = 3; omega
      | 1 => rfl
      | 2 => show (z 2).val = (x 2).val; omega
    exact (at_x x ((grad3_at _ _ _ _).trans (total3 m hO hw c t _ _ _ hr (Memref.IsWhole.read_unread _ _) (Memref.IsWhole.read_unread _ _)))).trans (congrArg (gradA (m ((c : Thread nD τ).loc main_arg0)) (m ((c : Thread nD τ).loc main_arg1)) (m ((c : Thread nD τ).loc main_arg2))) hz.symm)
  case piece1 =>
    have hz : z = (ix3 (2 : Fin 4) (z 1) (x 2) : S4x256x2048.Idx) := by
      funext i; apply Fin.ext
      match i with
      | 0 => show (z 0).val = 2; omega
      | 1 => rfl
      | 2 => show (z 2).val = (x 2).val; omega
    exact (at_x x ((grad2_at _ _ _ _).trans (total2 m hO hw c t _ _ _ hr (Memref.IsWhole.read_unread _ _) (Memref.IsWhole.read_unread _ _)))).trans (congrArg (gradA (m ((c : Thread nD τ).loc main_arg0)) (m ((c : Thread nD τ).loc main_arg1)) (m ((c : Thread nD τ).loc main_arg2))) hz.symm)
  case piece2 =>
    have hz : z = (ix3 (1 : Fin 4) (z 1) (x 2) : S4x256x2048.Idx) := by
      funext i; apply Fin.ext
      match i with
      | 0 => show (z 0).val = 1; omega
      | 1 => rfl
      | 2 => show (z 2).val = (x 2).val; omega
    exact (at_x x ((grad1_at _ _ _ _).trans (total1 m hO hw c t _ _ _ hr (Memref.IsWhole.read_unread _ _) (Memref.IsWhole.read_unread _ _)))).trans (congrArg (gradA (m ((c : Thread nD τ).loc main_arg0)) (m ((c : Thread nD τ).loc main_arg1)) (m ((c : Thread nD τ).loc main_arg2))) hz.symm)
  case piece3 =>
    have hz : z = (ix3 (0 : Fin 4) (z 1) (x 2) : S4x256x2048.Idx) := by
      funext i; apply Fin.ext
      match i with
      | 0 => show (z 0).val = 0; omega
      | 1 => rfl
      | 2 => show (z 2).val = (x 2).val; omega
    exact (at_x x ((grad0_at _ _ _ _).trans (total0 m hO hw c t _ _ _ hr (Memref.IsWhole.read_unread _ _) (Memref.IsWhole.read_unread _ _)))).trans (congrArg (gradA (m ((c : Thread nD τ).loc main_arg0)) (m ((c : Thread nD τ).loc main_arg1)) (m ((c : Thread nD τ).loc main_arg2))) hz.symm)

include hw in
theorem final11 : (dats m hO 0 c).arrAt 11 (cfgM m hO).N
    = gradA (m ((c : Thread nD τ).loc main_arg0)) (m ((c : Thread nD τ).loc main_arg1)) (m ((c : Thread nD τ).loc main_arg2)) := by
  refine (dats m hO 0 c).arrAt_eq_of_covers 11 _ (cov11 m hO) fun t _ y => ?_
  blk_simp
  rw [after0_11]
  have e (i : Fin 3) := ((cfgM m hO).win 11).rect_emb_val t y i rfl
  rw [idx11] at e
  exact point11 m hO hw c t y _ ((e 0).trans (show 0 * 4 + (y (0 : Fin 3)).val = (y (0 : Fin 3)).val by omega))
    ((e 1).trans (show t.val * 32 + (y (1 : Fin 3)).val = 32 * t.val + (y (1 : Fin 3)).val by omega))
    ((e 2).trans (show 0 * 2048 + (y (2 : Fin 3)).val = (y (2 : Fin 3)).val by omega))

theorem cov12 : ((cfgM m hO).win 12).Covers := by
  refine ⟨fun (i : Fin 3) => ?_, fun β => ?_⟩
  · match i with | 0 => exact (show 0 < 4 by decide) | 1 => exact (show 0 < 32 by decide) | 2 => exact (show 0 < 2048 by decide)
  · have b0 : (β (0 : Fin 3)).val < 1 := lt_of_lt_of_eq (β (0 : Fin 3)).isLt (show (4 + 4 - 1) / 4 = 1 by decide)
    have b1 : (β (1 : Fin 3)).val < 8 := lt_of_lt_of_eq (β (1 : Fin 3)).isLt (show (256 + 32 - 1) / 32 = 8 by decide)
    have b2 : (β (2 : Fin 3)).val < 1 := lt_of_lt_of_eq (β (2 : Fin 3)).isLt (show (2048 + 2048 - 1) / 2048 = 1 by decide)
    refine ⟨⟨(β (1 : Fin 3)).val, b1⟩, flush0_12 _ _, fun (i : Fin 3) => ?_⟩
    rw [idx12]
    match i with
    | 0 => exact ⟨(Nat.lt_one_iff.mp b0).symm, .inl rfl⟩
    | 1 => exact ⟨rfl, .inl rfl⟩
    | 2 => exact ⟨(Nat.lt_one_iff.mp b2).symm, .inl rfl⟩

include hw in
theorem point12 (y : S4x32x2048.Idx) (z : S4x256x2048.Idx) (e0 : (z 0).val = (y 0).val) (e1 : (z 1).val = 32 * t.val + (y 1).val) (e2 : (z 2).val = (y 2).val) :
    (outsAt0 m hO c t).2.1 y = stepA (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) z := by
  unfold outsAt0
  frame_out
  canon_tiles x h
  all_goals have hr : (z 1).val = 32 * t.val + (x 1).val := by omega
  case piece0 =>
    have hz : z = (ix3 (3 : Fin 4) (z 1) (x 2) : S4x256x2048.Idx) := by
      funext i; apply Fin.ext
      match i with
      | 0 => show (z 0).val = 3; omega
      | 1 => rfl
      | 2 => show (z 2).val = (x 2).val; omega
    exact (at_x x ((step3_at _ _ _ _ _ _ _).trans (step_congr (total3 m hO hw c t _ _ _ hr (Memref.IsWhole.read_unread _ _) (Memref.IsWhole.read_unread _ _)) ((congrFun (Memref.IsWhole.read_unread _ _) _).trans (keep8 m hO c t _ _ _ hr 3)) ((congrFun (Memref.IsWhole.read_unread _ _) _).trans (keep9 m hO c t _ _ _ hr 3)) ((congrFun (Memref.IsWhole.read_unread _ _) _).trans (keep10 m hO c t _ _ _ hr 3))))).trans (congrArg (stepA (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) hz.symm)
  case piece1 =>
    have hz : z = (ix3 (2 : Fin 4) (z 1) (x 2) : S4x256x2048.Idx) := by
      funext i; apply Fin.ext
      match i with
      | 0 => show (z 0).val = 2; omega
      | 1 => rfl
      | 2 => show (z 2).val = (x 2).val; omega
    exact (at_x x ((step2_at _ _ _ _ _ _ _).trans (step_congr (total2 m hO hw c t _ _ _ hr (Memref.IsWhole.read_unread _ _) (Memref.IsWhole.read_unread _ _)) ((congrFun (Memref.IsWhole.read_unread _ _) _).trans (keep8 m hO c t _ _ _ hr 2)) ((congrFun (Memref.IsWhole.read_unread _ _) _).trans (keep9 m hO c t _ _ _ hr 2)) ((congrFun (Memref.IsWhole.read_unread _ _) _).trans (keep10 m hO c t _ _ _ hr 2))))).trans (congrArg (stepA (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) hz.symm)
  case piece2 =>
    have hz : z = (ix3 (1 : Fin 4) (z 1) (x 2) : S4x256x2048.Idx) := by
      funext i; apply Fin.ext
      match i with
      | 0 => show (z 0).val = 1; omega
      | 1 => rfl
      | 2 => show (z 2).val = (x 2).val; omega
    exact (at_x x ((step1_at _ _ _ _ _ _ _).trans (step_congr (total1 m hO hw c t _ _ _ hr (Memref.IsWhole.read_unread _ _) (Memref.IsWhole.read_unread _ _)) ((congrFun (Memref.IsWhole.read_unread _ _) _).trans (keep8 m hO c t _ _ _ hr 1)) ((congrFun (Memref.IsWhole.read_unread _ _) _).trans (keep9 m hO c t _ _ _ hr 1)) ((congrFun (Memref.IsWhole.read_unread _ _) _).trans (keep10 m hO c t _ _ _ hr 1))))).trans (congrArg (stepA (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) hz.symm)
  case piece3 =>
    have hz : z = (ix3 (0 : Fin 4) (z 1) (x 2) : S4x256x2048.Idx) := by
      funext i; apply Fin.ext
      match i with
      | 0 => show (z 0).val = 0; omega
      | 1 => rfl
      | 2 => show (z 2).val = (x 2).val; omega
    exact (at_x x ((step0_at _ _ _ _ _ _ _).trans (step_congr (total0 m hO hw c t _ _ _ hr (Memref.IsWhole.read_unread _ _) (Memref.IsWhole.read_unread _ _)) ((congrFun (Memref.IsWhole.read_unread _ _) _).trans (keep8 m hO c t _ _ _ hr 0)) ((congrFun (Memref.IsWhole.read_unread _ _) _).trans (keep9 m hO c t _ _ _ hr 0)) ((congrFun (Memref.IsWhole.read_unread _ _) _).trans (keep10 m hO c t _ _ _ hr 0))))).trans (congrArg (stepA (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) hz.symm)

include hw in
theorem final12 : (dats m hO 0 c).arrAt 12 (cfgM m hO).N
    = stepA (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m hO 0 c).arrAt_eq_of_covers 12 _ (cov12 m hO) fun t _ y => ?_
  blk_simp
  rw [after0_12]
  have e (i : Fin 3) := ((cfgM m hO).win 12).rect_emb_val t y i rfl
  rw [idx12] at e
  exact point12 m hO hw c t y _ ((e 0).trans (show 0 * 4 + (y (0 : Fin 3)).val = (y (0 : Fin 3)).val by omega))
    ((e 1).trans (show t.val * 32 + (y (1 : Fin 3)).val = 32 * t.val + (y (1 : Fin 3)).val by omega))
    ((e 2).trans (show 0 * 2048 + (y (2 : Fin 3)).val = (y (2 : Fin 3)).val by omega))

theorem cov13 : ((cfgM m hO).win 13).Covers := by
  refine ⟨fun (i : Fin 3) => ?_, fun β => ?_⟩
  · match i with | 0 => exact (show 0 < 4 by decide) | 1 => exact (show 0 < 32 by decide) | 2 => exact (show 0 < 2048 by decide)
  · have b0 : (β (0 : Fin 3)).val < 1 := lt_of_lt_of_eq (β (0 : Fin 3)).isLt (show (4 + 4 - 1) / 4 = 1 by decide)
    have b1 : (β (1 : Fin 3)).val < 8 := lt_of_lt_of_eq (β (1 : Fin 3)).isLt (show (256 + 32 - 1) / 32 = 8 by decide)
    have b2 : (β (2 : Fin 3)).val < 1 := lt_of_lt_of_eq (β (2 : Fin 3)).isLt (show (2048 + 2048 - 1) / 2048 = 1 by decide)
    refine ⟨⟨(β (1 : Fin 3)).val, b1⟩, flush0_13 _ _, fun (i : Fin 3) => ?_⟩
    rw [idx13]
    match i with
    | 0 => exact ⟨(Nat.lt_one_iff.mp b0).symm, .inl rfl⟩
    | 1 => exact ⟨rfl, .inl rfl⟩
    | 2 => exact ⟨(Nat.lt_one_iff.mp b2).symm, .inl rfl⟩

include hw in
theorem point13 (y : S4x32x2048.Idx) (z : S4x256x2048.Idx) (e0 : (z 0).val = (y 0).val) (e1 : (z 1).val = 32 * t.val + (y 1).val) (e2 : (z 2).val = (y 2).val) :
    (outsAt0 m hO c t).2.2.1 y = momA (m ((c : Thread nD τ).loc main_arg0)) (m ((c : Thread nD τ).loc main_arg1)) (m ((c : Thread nD τ).loc main_arg2)) (m ((c : Thread nD τ).loc main_arg4)) z := by
  unfold outsAt0
  frame_out
  canon_tiles x h
  all_goals have hr : (z 1).val = 32 * t.val + (x 1).val := by omega
  case piece0 =>
    have hz : z = (ix3 (3 : Fin 4) (z 1) (x 2) : S4x256x2048.Idx) := by
      funext i; apply Fin.ext
      match i with
      | 0 => show (z 0).val = 3; omega
      | 1 => rfl
      | 2 => show (z 2).val = (x 2).val; omega
    exact (at_x x ((mom3_at _ _ _ _ _).trans (congrArg₂ mom (total3 m hO hw c t _ _ _ hr (Memref.IsWhole.read_unread _ _) (Memref.IsWhole.read_unread _ _)) ((congrFun (Memref.IsWhole.read_unread _ _) _).trans (keep9 m hO c t _ _ _ hr 3))))).trans (congrArg (momA (m ((c : Thread nD τ).loc main_arg0)) (m ((c : Thread nD τ).loc main_arg1)) (m ((c : Thread nD τ).loc main_arg2)) (m ((c : Thread nD τ).loc main_arg4))) hz.symm)
  case piece1 =>
    have hz : z = (ix3 (2 : Fin 4) (z 1) (x 2) : S4x256x2048.Idx) := by
      funext i; apply Fin.ext
      match i with
      | 0 => show (z 0).val = 2; omega
      | 1 => rfl
      | 2 => show (z 2).val = (x 2).val; omega
    exact (at_x x ((mom2_at _ _ _ _ _).trans (congrArg₂ mom (total2 m hO hw c t _ _ _ hr (Memref.IsWhole.read_unread _ _) (Memref.IsWhole.read_unread _ _)) ((congrFun (Memref.IsWhole.read_unread _ _) _).trans (keep9 m hO c t _ _ _ hr 2))))).trans (congrArg (momA (m ((c : Thread nD τ).loc main_arg0)) (m ((c : Thread nD τ).loc main_arg1)) (m ((c : Thread nD τ).loc main_arg2)) (m ((c : Thread nD τ).loc main_arg4))) hz.symm)
  case piece2 =>
    have hz : z = (ix3 (1 : Fin 4) (z 1) (x 2) : S4x256x2048.Idx) := by
      funext i; apply Fin.ext
      match i with
      | 0 => show (z 0).val = 1; omega
      | 1 => rfl
      | 2 => show (z 2).val = (x 2).val; omega
    exact (at_x x ((mom1_at _ _ _ _ _).trans (congrArg₂ mom (total1 m hO hw c t _ _ _ hr (Memref.IsWhole.read_unread _ _) (Memref.IsWhole.read_unread _ _)) ((congrFun (Memref.IsWhole.read_unread _ _) _).trans (keep9 m hO c t _ _ _ hr 1))))).trans (congrArg (momA (m ((c : Thread nD τ).loc main_arg0)) (m ((c : Thread nD τ).loc main_arg1)) (m ((c : Thread nD τ).loc main_arg2)) (m ((c : Thread nD τ).loc main_arg4))) hz.symm)
  case piece3 =>
    have hz : z = (ix3 (0 : Fin 4) (z 1) (x 2) : S4x256x2048.Idx) := by
      funext i; apply Fin.ext
      match i with
      | 0 => show (z 0).val = 0; omega
      | 1 => rfl
      | 2 => show (z 2).val = (x 2).val; omega
    exact (at_x x ((mom0_at _ _ _ _ _).trans (congrArg₂ mom (total0 m hO hw c t _ _ _ hr (Memref.IsWhole.read_unread _ _) (Memref.IsWhole.read_unread _ _)) ((congrFun (Memref.IsWhole.read_unread _ _) _).trans (keep9 m hO c t _ _ _ hr 0))))).trans (congrArg (momA (m ((c : Thread nD τ).loc main_arg0)) (m ((c : Thread nD τ).loc main_arg1)) (m ((c : Thread nD τ).loc main_arg2)) (m ((c : Thread nD τ).loc main_arg4))) hz.symm)

include hw in
theorem final13 : (dats m hO 0 c).arrAt 13 (cfgM m hO).N
    = momA (m ((c : Thread nD τ).loc main_arg0)) (m ((c : Thread nD τ).loc main_arg1)) (m ((c : Thread nD τ).loc main_arg2)) (m ((c : Thread nD τ).loc main_arg4)) := by
  refine (dats m hO 0 c).arrAt_eq_of_covers 13 _ (cov13 m hO) fun t _ y => ?_
  blk_simp
  rw [after0_13]
  have e (i : Fin 3) := ((cfgM m hO).win 13).rect_emb_val t y i rfl
  rw [idx13] at e
  exact point13 m hO hw c t y _ ((e 0).trans (show 0 * 4 + (y (0 : Fin 3)).val = (y (0 : Fin 3)).val by omega))
    ((e 1).trans (show t.val * 32 + (y (1 : Fin 3)).val = 32 * t.val + (y (1 : Fin 3)).val by omega))
    ((e 2).trans (show 0 * 2048 + (y (2 : Fin 3)).val = (y (2 : Fin 3)).val by omega))

theorem cov14 : ((cfgM m hO).win 14).Covers := by
  refine ⟨fun (i : Fin 3) => ?_, fun β => ?_⟩
  · match i with | 0 => exact (show 0 < 4 by decide) | 1 => exact (show 0 < 32 by decide) | 2 => exact (show 0 < 2048 by decide)
  · have b0 : (β (0 : Fin 3)).val < 1 := lt_of_lt_of_eq (β (0 : Fin 3)).isLt (show (4 + 4 - 1) / 4 = 1 by decide)
    have b1 : (β (1 : Fin 3)).val < 8 := lt_of_lt_of_eq (β (1 : Fin 3)).isLt (show (256 + 32 - 1) / 32 = 8 by decide)
    have b2 : (β (2 : Fin 3)).val < 1 := lt_of_lt_of_eq (β (2 : Fin 3)).isLt (show (2048 + 2048 - 1) / 2048 = 1 by decide)
    refine ⟨⟨(β (1 : Fin 3)).val, b1⟩, flush0_14 _ _, fun (i : Fin 3) => ?_⟩
    rw [idx14]
    match i with
    | 0 => exact ⟨(Nat.lt_one_iff.mp b0).symm, .inl rfl⟩
    | 1 => exact ⟨rfl, .inl rfl⟩
    | 2 => exact ⟨(Nat.lt_one_iff.mp b2).symm, .inl rfl⟩

include hw in
theorem point14 (y : S4x32x2048.Idx) (z : S4x256x2048.Idx) (e0 : (z 0).val = (y 0).val) (e1 : (z 1).val = 32 * t.val + (y 1).val) (e2 : (z 2).val = (y 2).val) :
    (outsAt0 m hO c t).2.2.2 y = velA (m ((c : Thread nD τ).loc main_arg0)) (m ((c : Thread nD τ).loc main_arg1)) (m ((c : Thread nD τ).loc main_arg2)) (m ((c : Thread nD τ).loc main_arg5)) z := by
  unfold outsAt0
  frame_out
  canon_tiles x h
  all_goals have hr : (z 1).val = 32 * t.val + (x 1).val := by omega
  case piece0 =>
    have hz : z = (ix3 (3 : Fin 4) (z 1) (x 2) : S4x256x2048.Idx) := by
      funext i; apply Fin.ext
      match i with
      | 0 => show (z 0).val = 3; omega
      | 1 => rfl
      | 2 => show (z 2).val = (x 2).val; omega
    exact (at_x x ((vel3_at _ _ _ _ _).trans (congrArg₂ vel (total3 m hO hw c t _ _ _ hr (Memref.IsWhole.read_unread _ _) (Memref.IsWhole.read_unread _ _)) ((congrFun (Memref.IsWhole.read_unread _ _) _).trans (keep10 m hO c t _ _ _ hr 3))))).trans (congrArg (velA (m ((c : Thread nD τ).loc main_arg0)) (m ((c : Thread nD τ).loc main_arg1)) (m ((c : Thread nD τ).loc main_arg2)) (m ((c : Thread nD τ).loc main_arg5))) hz.symm)
  case piece1 =>
    have hz : z = (ix3 (2 : Fin 4) (z 1) (x 2) : S4x256x2048.Idx) := by
      funext i; apply Fin.ext
      match i with
      | 0 => show (z 0).val = 2; omega
      | 1 => rfl
      | 2 => show (z 2).val = (x 2).val; omega
    exact (at_x x ((vel2_at _ _ _ _ _).trans (congrArg₂ vel (total2 m hO hw c t _ _ _ hr (Memref.IsWhole.read_unread _ _) (Memref.IsWhole.read_unread _ _)) ((congrFun (Memref.IsWhole.read_unread _ _) _).trans (keep10 m hO c t _ _ _ hr 2))))).trans (congrArg (velA (m ((c : Thread nD τ).loc main_arg0)) (m ((c : Thread nD τ).loc main_arg1)) (m ((c : Thread nD τ).loc main_arg2)) (m ((c : Thread nD τ).loc main_arg5))) hz.symm)
  case piece2 =>
    have hz : z = (ix3 (1 : Fin 4) (z 1) (x 2) : S4x256x2048.Idx) := by
      funext i; apply Fin.ext
      match i with
      | 0 => show (z 0).val = 1; omega
      | 1 => rfl
      | 2 => show (z 2).val = (x 2).val; omega
    exact (at_x x ((vel1_at _ _ _ _ _).trans (congrArg₂ vel (total1 m hO hw c t _ _ _ hr (Memref.IsWhole.read_unread _ _) (Memref.IsWhole.read_unread _ _)) ((congrFun (Memref.IsWhole.read_unread _ _) _).trans (keep10 m hO c t _ _ _ hr 1))))).trans (congrArg (velA (m ((c : Thread nD τ).loc main_arg0)) (m ((c : Thread nD τ).loc main_arg1)) (m ((c : Thread nD τ).loc main_arg2)) (m ((c : Thread nD τ).loc main_arg5))) hz.symm)
  case piece3 =>
    have hz : z = (ix3 (0 : Fin 4) (z 1) (x 2) : S4x256x2048.Idx) := by
      funext i; apply Fin.ext
      match i with
      | 0 => show (z 0).val = 0; omega
      | 1 => rfl
      | 2 => show (z 2).val = (x 2).val; omega
    exact (at_x x ((vel0_at _ _ _ _ _).trans (congrArg₂ vel (total0 m hO hw c t _ _ _ hr (Memref.IsWhole.read_unread _ _) (Memref.IsWhole.read_unread _ _)) ((congrFun (Memref.IsWhole.read_unread _ _) _).trans (keep10 m hO c t _ _ _ hr 0))))).trans (congrArg (velA (m ((c : Thread nD τ).loc main_arg0)) (m ((c : Thread nD τ).loc main_arg1)) (m ((c : Thread nD τ).loc main_arg2)) (m ((c : Thread nD τ).loc main_arg5))) hz.symm)

include hw in
theorem final14 : (dats m hO 0 c).arrAt 14 (cfgM m hO).N
    = velA (m ((c : Thread nD τ).loc main_arg0)) (m ((c : Thread nD τ).loc main_arg1)) (m ((c : Thread nD τ).loc main_arg2)) (m ((c : Thread nD τ).loc main_arg5)) := by
  refine (dats m hO 0 c).arrAt_eq_of_covers 14 _ (cov14 m hO) fun t _ y => ?_
  blk_simp
  rw [after0_14]
  have e (i : Fin 3) := ((cfgM m hO).win 14).rect_emb_val t y i rfl
  rw [idx14] at e
  exact point14 m hO hw c t y _ ((e 0).trans (show 0 * 4 + (y (0 : Fin 3)).val = (y (0 : Fin 3)).val by omega))
    ((e 1).trans (show t.val * 32 + (y (1 : Fin 3)).val = 32 * t.val + (y (1 : Fin 3)).val by omega))
    ((e 2).trans (show 0 * 2048 + (y (2 : Fin 3)).val = (y (2 : Fin 3)).val by omega))

/-- The kernel's run: what its four result arrays hold at the end, when the device's number names a block. -/
theorem run (m : (ℓ : Loc nD τ sig) → Buf (Elt Ideal) ℓ) (hO : Ok m) (hw : (word m).toNat < 8) (g : Dev nD → PrngReg) :
    θ_run defs (onTc (τ := τ) (main (F := Ideal))) ⟨m, fun _ => 0, g⟩ (fun r => ∀ c : Dev nD,
      r.2.mem ((c : Thread nD τ).loc main_v17_0) = gradA (m ((c : Thread nD τ).loc main_arg0)) (m ((c : Thread nD τ).loc main_arg1)) (m ((c : Thread nD τ).loc main_arg2))
      ∧ r.2.mem ((c : Thread nD τ).loc main_v17_1) = stepA (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_v17_2) = momA (m ((c : Thread nD τ).loc main_arg0)) (m ((c : Thread nD τ).loc main_arg1)) (m ((c : Thread nD τ).loc main_arg2)) (m ((c : Thread nD τ).loc main_arg4))
      ∧ r.2.mem ((c : Thread nD τ).loc main_v17_3) = velA (m ((c : Thread nD τ).loc main_arg0)) (m ((c : Thread nD τ).loc main_arg1)) (m ((c : Thread nD τ).loc main_arg2)) (m ((c : Thread nD τ).loc main_arg5))) :=
  (θ_run defs _ _).mono (fun _ h c => ⟨((h c).1 11).trans (final11 m hO hw c), ((h c).1 12).trans (final12 m hO hw c),
    ((h c).1 13).trans (final13 m hO hw c), ((h c).1 14).trans (final14 m hO hw c)⟩) (run_main m g hO)

end Cert.AdamwOwnIdeal.Final

end
-- ==== Proof.Val.NormFirst.lean ====
/-
  The first layer's first RMS norm, backward, with a float32 result: the kernel's points are those of the norm with a bfloat16 result
  read at its own blocks, and the reference's stages are that norm's before the last rounding, which changes no extended real.
-/
module

public import proofs.«01_k».proof.Proof.Gen.NormFirst.Frame
public import proofs.«01_k».proof.Proof.Gen.NormFirstIdeal.Value
public import proofs.«01_k».proof.Proof.Gen.NormFirstRefIdeal.Read
public import proofs.«01_k».proof.Proof.Val.NormBwd

@[expose] public section

set_option maxRecDepth 16384

noncomputable section

open Idealize.ShloMosaic Idealize.ShloMosaic.TcCoe Idealize.SL.Sem
open Idealize.ShloMosaic.Pipeline (Dat)

namespace Cert.NormForm

/-- The gradient with respect to the norm's input, kept in float32. -/
def gradX32 (DH : FVec Ideal ⟨2, ![4096, 2048]⟩ .bf16) (X : FVec Ideal ⟨2, ![4096, 2048]⟩ .f32) (G : FVec Ideal ⟨1, ![2048]⟩ .f32)
    (R : FVec Ideal ⟨2, ![4096, 2048]⟩ .bf16) : FVec Ideal ⟨2, ![4096, 2048]⟩ .f32 :=
  fun i => (show EReal from R i) + back (row X (i 0)) (row DH (i 0)) (vec G) (i 1)

/-- The part of the gain's gradient that a block of 512 rows adds. -/
abbrev blockPart (DH : FVec Ideal ⟨2, ![4096, 2048]⟩ .bf16) (X : FVec Ideal ⟨2, ![4096, 2048]⟩ .f32) (q : Fin 2048) (t : Fin 8) : EReal :=
  ∑ r : Fin 512, row DH ⟨512 * t.val + r.val, by omega⟩ q * hat (row X ⟨512 * t.val + r.val, by omega⟩) q

/-- The blocks' parts are the sum over the rows. -/
theorem sum_blockPart (DH : FVec Ideal ⟨2, ![4096, 2048]⟩ .bf16) (X : FVec Ideal ⟨2, ![4096, 2048]⟩ .f32) (y : (⟨2, ![1, 2048]⟩ : Shape).Idx) :
    ∑ t : Fin 8, blockPart DH X (y 1) t = gradG DH X y := by
  let f : Fin 4096 → EReal := fun l => row DH l (y 1) * hat (row X l) (y 1)
  refine Eq.trans ?_ (Fin.sum_mul_add_fin 8 512 f)
  exact Finset.sum_congr rfl fun s _ => Finset.sum_congr rfl fun k _ => congrArg f (Fin.ext (by dsimp only; omega))

end Cert.NormForm

namespace Cert.NormFirstIdeal.Final

open Cert.NormFirstIdeal Cert.NormFirstIdeal.Gen Cert.NormForm

variable (m : (ℓ : Loc nD τ sig) → Buf (Elt Ideal) ℓ)

/-- Each window's block index at a point of the grid. -/
theorem idx : ∀ t : Fin cfg0.N, win0_0.index t = ![t.val, 0] ∧ win0_1.index t = ![t.val, 0]
    ∧ win0_2.index t = ![0, 0] ∧ win0_3.index t = ![t.val, 0] ∧ win0_4.index t = ![t.val, 0] ∧ win0_5.index t = ![0, 0] :=
  (by decide +kernel : ∀ t : Fin grid0.N, _)

theorem cases (t : Fin cfg0.N) : (t.val % 8 = 0 ∧ ¬ 1 ≤ t.val) ∨ (¬ t.val % 8 = 0 ∧ 1 ≤ t.val) := by
  have : t.val < 8 := lt_of_lt_of_eq t.isLt N_0
  omega

theorem point4 (c : Dev nD) (t : Fin cfg0.N) (y : S512x2048.Idx) :
    k0_pay6 (F := Ideal) (iblk m c 1 t) (iblk m c 0 t) (iblk m c 3 t) (iblk m c 2 t) y
      = gradX32 (m ((c : Thread nD τ).loc main_arg0)) (m ((c : Thread nD τ).loc main_arg1)) (m ((c : Thread nD τ).loc main_arg2))
          (m ((c : Thread nD τ).loc main_arg3)) (((cfg0.win 4).blk t).view.emb y) := by
  pointwise [k0_pay6, k0_pay5, k0_pay4, k0_pay3, k0_pay2, gradX32, back, hat, rs, msq, row, vec]
  blk_point [iblk, V, idx t]

theorem final4 (c : Dev nD) : (dats m 0 c).arrAt 4 (cfgs 0).N
    = gradX32 (m ((c : Thread nD τ).loc main_arg0)) (m ((c : Thread nD τ).loc main_arg1)) (m ((c : Thread nD τ).loc main_arg2))
        (m ((c : Thread nD τ).loc main_arg3)) := by
  refine (dats m 0 c).arrAt_eq_of_covers 4 _ (by decide +kernel) fun t _ y => ?_
  blk_simp
  rw [after0_4]
  rcases cases t with ⟨h, h'⟩ | ⟨h, h'⟩
  · rw [outsAt0_A m c t h h']; frame_out; exact point4 m c t y
  · rw [outsAt0_B m c t h h']; frame_out; exact point4 m c t y

/-- The part a point of the grid adds. -/
abbrev part (c : Dev nD) (y : S1x2048.Idx) (t : Fin cfg0.N) : EReal :=
  blockPart (m ((c : Thread nD τ).loc main_arg0)) (m ((c : Thread nD τ).loc main_arg1)) (y 1) t

theorem point5 (c : Dev nD) (t : Fin cfg0.N) (y : S1x2048.Idx) :
    (k0_pay7 (F := Ideal) (iblk m c 1 t) (iblk m c 0 t) y : EReal) = part m c y t := by
  pointwise [k0_pay7, k0_pay5, k0_pay4, k0_pay3, k0_pay2, part, blockPart, row, hat, rs, msq]
  blk_point [iblk, V, idx t]

theorem final5 (c : Dev nD) : (dats m 0 c).arrAt 5 (cfgs 0).N
    = gradG (m ((c : Thread nD τ).loc main_arg0)) (m ((c : Thread nD τ).loc main_arg1)) := by
  refine (dats m 0 c).arrAt_eq_of_after_last 5 t0_7 (by decide +kernel) _ fun j => ?_
  blk_simp
  rw [after0_5, Pipeline.eq_sum_fin_of_reset_step_apply_last (fun n h => (outsAt0 m c n h).2) 8 (fun _ => (0 : EReal))
    (fun t y => part m c y t) (fun t h y => ?_) (fun t h y => ?_) (le_of_eq N_0) t0_7 rfl j, zero_add]
  · exact sum_blockPart _ _ j
  · rw [outsAt0_A m c t h ((cases t).resolve_right fun q => q.1 h).2, zero_add]
    frame_out
    exact point5 m c t y
  · rw [outsAt0_B m c t h ((cases t).resolve_left fun q => h q.1).2]
    frame_out
    rw [← point5 m c t y]
    pointwise [k0_pay1]

end Cert.NormFirstIdeal.Final

namespace Cert.NormFirstRefIdeal.Final

open Cert.NormForm

variable (DH : FVec Ideal ⟨2, ![4096, 2048]⟩ .bf16) (X : FVec Ideal ⟨2, ![4096, 2048]⟩ .f32) (G : FVec Ideal ⟨1, ![2048]⟩ .f32)
  (R : FVec Ideal ⟨2, ![4096, 2048]⟩ .bf16)

theorem final38 : Cert.NormFirstRefIdeal.Read.val_main_v38 (F := Ideal) DH X G R = gradX32 DH X G R := by
  have e : Cert.NormFirstRefIdeal.Read.val_main_v38 (F := Ideal) DH X G R = Cert.NormBwdRefIdeal.Read.val_main_v38 (F := Ideal) DH X G R := rfl
  refine e.trans (funext fun i => ?_)
  exact (congrFun (Cert.NormBwdRefIdeal.Final.final39 DH X G R) i)

theorem final39 : Cert.NormFirstRefIdeal.Read.val_main_v39 (F := Ideal) DH X = gradG DH X := by
  have e : Cert.NormFirstRefIdeal.Read.val_main_v39 (F := Ideal) DH X = Cert.NormBwdRefIdeal.Read.val_main_v40 (F := Ideal) DH X := rfl
  exact e.trans (Cert.NormBwdRefIdeal.Final.final40 DH X)

end Cert.NormFirstRefIdeal.Final

end
-- ==== Proof.Val.InProj.lean ====
/-
  The mixer's input product: what the kernel leaves in its result array, and that the reference's lines give the same.
-/
module

public import proofs.«01_k».proof.Proof.Gen.InProjIdeal.Value
public import proofs.«01_k».proof.Proof.Gen.InProjRefIdeal.Read
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.InProjForm

/-- The product with the weights, at a row and a column. -/
def pre (H : FVec Ideal ⟨2, ![4096, 2048]⟩ .bf16) (W : FVec Ideal ⟨2, ![2048, 4096]⟩ .bf16) : FVec Ideal ⟨2, ![4096, 4096]⟩ .bf16 :=
  fun i => ∑ k : Fin 2048, (show EReal from H (ix2 (i 0) k)) * W (ix2 k (i 1))

end Cert.InProjForm

namespace Cert.InProjIdeal.Final

open Cert.InProjIdeal Cert.InProjIdeal.Gen Cert.InProjForm

variable (m : (ℓ : Loc nD τ sig) → Buf (Elt Ideal) ℓ)

/-- Each window's block index at a point of the grid. -/
theorem idx : ∀ t : Fin cfg0.N, win0_0.index t = ![t.val / 4, 0] ∧ win0_1.index t = ![t.val % 4, 0, 0]
    ∧ win0_2.index t = ![t.val / 4, t.val % 4] :=
  (by decide +kernel : ∀ t : Fin grid0.N, _)

theorem lt16 (t : Fin cfg0.N) : t.val < 16 := lt_of_lt_of_eq t.isLt N_0

/-- The array index of an index of one half of the block, whose columns begin at `o`. -/
abbrev at_ (t : Fin cfg0.N) (o : Nat) (ho : o ≤ 512) (x : S1024x512.Idx) : S4096x4096.Idx :=
  ix2 (⟨t.val / 4 * 1024 + (x 0).val, by have := lt16 t; have h : (x 0).val < 1024 := (x 0).isLt; omega⟩ : Fin 4096)
    (⟨t.val % 4 * 1024 + (o + (x 1).val), by have h : (x 1).val < 512 := (x 1).isLt; omega⟩ : Fin 4096)

theorem at_eq (t : Fin cfg0.N) (o : Nat) (ho : o ≤ 512) (x : S1024x512.Idx) (z : S4096x4096.Idx)
    (h0 : (z 0).val = t.val / 4 * 1024 + (x 0).val) (h1 : (z 1).val = t.val % 4 * 1024 + (o + (x 1).val)) : at_ t o ho x = z :=
  Shape.idx_ext₂ h0.symm h1.symm

theorem half1 (c : Dev nD) (t : Fin cfg0.N) (x : S1024x512.Idx) (z : S4096x4096.Idx) (h0 : (z 0).val = t.val / 4 * 1024 + (x 0).val)
    (h1 : (z 1).val = t.val % 4 * 1024 + (0 + (x 1).val)) :
    k0_pay1 (F := Ideal) (iblk m c 0 t) (View.ld (iblk m c 1 t) r0_1) x
      = pre (m ((c : Thread nD τ).loc main_arg0)) (m ((c : Thread nD τ).loc main_arg1)) z := by
  rw [← at_eq t 0 (by omega) x z h0 h1]
  pointwise [k0_pay1, pre, r0_1]
  blk_point [iblk, V, idx t]

theorem half2 (c : Dev nD) (t : Fin cfg0.N) (x : S1024x512.Idx) (z : S4096x4096.Idx) (h0 : (z 0).val = t.val / 4 * 1024 + (x 0).val)
    (h1 : (z 1).val = t.val % 4 * 1024 + (512 + (x 1).val)) :
    k0_pay2 (F := Ideal) (iblk m c 0 t) (View.ld (iblk m c 1 t) r0_3) x
      = pre (m ((c : Thread nD τ).loc main_arg0)) (m ((c : Thread nD τ).loc main_arg1)) z := by
  rw [← at_eq t 512 (by omega) x z h0 h1]
  pointwise [k0_pay2, pre, r0_3]
  blk_point [iblk, V, idx t]

theorem point2 (c : Dev nD) (t : Fin cfg0.N) (y : S1024x1024.Idx) :
    out0_2 (F := Ideal) (iblk m c 0 t) (iblk m c 1 t) y = pre (m ((c : Thread nD τ).loc main_arg0)) (m ((c : Thread nD τ).loc main_arg1)) (((cfg0.win 2).blk t).view.emb y) := by
  have e0 : ((((cfg0.win 2).blk t).view.emb y) 0).val = t.val / 4 * 1024 + (y 0).val := by blk_simp [idx t]; try omega
  have e1 : ((((cfg0.win 2).blk t).view.emb y) 1).val = t.val % 4 * 1024 + (y 1).val := by blk_simp [idx t]; try omega
  generalize ((cfg0.win 2).blk t).view.emb y = z at e0 e1 ⊢
  frame_out
  canon_tiles x h
  case piece0 =>
    exact half2 m c t x z (by omega) (by omega)
  case piece1 =>
    exact half1 m c t x z (by omega) (by omega)

theorem final2 (c : Dev nD) : (dats m 0 c).arrAt 2 (cfgs 0).N
    = pre (m ((c : Thread nD τ).loc main_arg0)) (m ((c : Thread nD τ).loc main_arg1)) := by
  refine (dats m 0 c).arrAt_eq_of_covers 2 _ (by decide +kernel) fun t _ y => ?_
  blk_simp
  rw [after0_2]
  exact point2 m c t y

end Cert.InProjIdeal.Final

namespace Cert.InProjRefIdeal.Final

open Cert.InProjRefIdeal.Read Cert.InProjForm

theorem final3 (H : FVec Ideal ⟨2, ![4096, 2048]⟩ .bf16) (W : FVec Ideal ⟨2, ![2048, 4096]⟩ .bf16) :
    val_main_v3 (F := Ideal) H W = pre H W := by
  funext i; rw [eq_ix2 i]
  pointwise [val_main_v3, val_main_v2, val_main_v1, val_main_v0, pre]

end Cert.InProjRefIdeal.Final
-- ==== Proof.Val.Halves.lean ====
/-
  A sum over 4096 rows that a run of two grid points adds up, one half at each point.
-/
module

public import proofs.«01_k».proof.Proof.Val.Runs

@[expose] public section

noncomputable section

open Idealize.ShloMosaic Idealize.ShloMosaic.TcCoe Idealize.SL.Sem

namespace Cert.Halves

variable {N : Nat} {ι : Type}

/-- The half of the sum that a point adds. -/
abbrev half (P : Fin N → ι → Fin 4096 → EReal) (t : Fin N) (i : ι) : EReal :=
  ∑ k : Fin 2048, P t i ⟨t.val % 2 * 2048 + k.val, by have := k.isLt; omega⟩

/-- The second point of a run finds the first half and adds the second. -/
theorem whole (f : (n : Nat) → n < N → ι → EReal) (P : Fin N → ι → Fin 4096 → EReal)
    (hP : ∀ a b : Fin N, a.val / 2 = b.val / 2 → P a = P b)
    (h0 : ∀ t : Fin N, t.val % 2 = 0 → ∀ i, f t.val t.isLt i = 0 + half P t i)
    (t : Fin N) (h : t.val % 2 = 1) (i : ι) :
    f (t.val - 1) (Nat.lt_of_le_of_lt (Nat.sub_le _ _) t.isLt) i + half P t i = ∑ l : Fin 4096, P t i l := by
  refine (Runs.last2 f (half P) h0 t h i).trans (Fin.sum_mul_add_congr (S := 2) (n := 2048) fun s k hl => ?_)
  have hs := s.isLt
  rw [hP ⟨2 * (t.val / 2) + s.val, _⟩ t (by dsimp only; omega)]
  exact congrArg (P t i) (Fin.ext (by dsimp only; omega))

end Cert.Halves
-- ==== Proof.Val.InProjDx.lean ====
/-
  The gradient of the mixer's input product with respect to its left operand: what the kernel leaves in its result array, and that
  the reference's lines give the same.
-/
module

public import proofs.«01_k».proof.Proof.Gen.InProjDxIdeal.Value
public import proofs.«01_k».proof.Proof.Gen.InProjDxRefIdeal.Read
public import proofs.«01_k».proof.Proof.Val.Halves
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.InProjDxForm

/-- The product with the transposed weights. -/
def dx (D : FVec Ideal ⟨2, ![4096, 4096]⟩ .bf16) (W : FVec Ideal ⟨2, ![2048, 4096]⟩ .bf16) : FVec Ideal ⟨2, ![4096, 2048]⟩ .bf16 :=
  fun i => ∑ k : Fin 4096, (show EReal from D (ix2 (i 0) k)) * W (ix2 (i 1) k)

end Cert.InProjDxForm

namespace Cert.InProjDxIdeal.Final

open Cert.InProjDxIdeal Cert.InProjDxIdeal.Gen Cert.InProjDxForm

variable (m : (ℓ : Loc nD τ sig) → Buf (Elt Ideal) ℓ)

/-- Each window's block index at a point of the grid. -/
theorem idx : ∀ t : Fin cfg0.N, win0_0.index t = ![t.val / 4, t.val % 2] ∧ win0_1.index t = ![t.val % 2, t.val / 2 % 2, 0]
    ∧ win0_2.index t = ![t.val / 4, t.val / 2 % 2] :=
  (by decide +kernel : ∀ t : Fin grid0.N, _)

theorem lt_N (t : Fin cfg0.N) : t.val < 16 := lt_of_lt_of_eq t.isLt N_0

/-- One product at an index of the block, at one of the columns of the operands. -/
abbrev prod (c : Dev nD) (t : Fin cfg0.N) (y : S1024x1024.Idx) (k : Fin 4096) : EReal :=
  (show EReal from m ((c : Thread nD τ).loc main_arg0)
      (ix2 ⟨t.val / 4 * 1024 + (y 0).val, by have := lt_N t; have h : (y 0).val < 1024 := (y 0).isLt; omega⟩ k))
    * m ((c : Thread nD τ).loc main_arg1) (ix2 ⟨t.val / 2 % 2 * 1024 + (y 1).val, by have h : (y 1).val < 1024 := (y 1).isLt; omega⟩ k)

/-- The products are the same at both points of a run. -/
theorem prod_congr (c : Dev nD) (a b : Fin cfg0.N) (h : a.val / 2 = b.val / 2) : prod m c a = prod m c b := by
  have e : a.val / 4 = b.val / 4 := by omega
  funext y l
  simp only [prod, e, h]

/-- The quarters of a point's blocks, in the order in which the body reads them. -/
abbrev lhs0 (c : Dev nD) (t : Fin cfg0.N) : Vec Ideal S1024x512 .bf16 :=
  View.ld (iblk m c 0 t) (Rect.unit ![0, 0] ![1024, 512] inb_S1024x2048_S1024x512_0_0)
abbrev rhs0 (c : Dev nD) (t : Fin cfg0.N) : Vec Ideal S1x1024x512 .bf16 :=
  View.ld (iblk m c 1 t) (Rect.unit ![0, 0, 0] ![1, 1024, 512] inb_S4x1024x512_S1x1024x512_0_0_0)
abbrev lhs1 (c : Dev nD) (t : Fin cfg0.N) : Vec Ideal S1024x512 .bf16 :=
  View.ld (iblk m c 0 t) (Rect.unit ![0, 512] ![1024, 512] inb_S1024x2048_S1024x512_0_512)
abbrev rhs1 (c : Dev nD) (t : Fin cfg0.N) : Vec Ideal S1x1024x512 .bf16 :=
  View.ld (iblk m c 1 t) (Rect.unit ![1, 0, 0] ![1, 1024, 512] inb_S4x1024x512_S1x1024x512_1_0_0)
abbrev lhs2 (c : Dev nD) (t : Fin cfg0.N) : Vec Ideal S1024x512 .bf16 :=
  View.ld (iblk m c 0 t) (Rect.unit ![0, 1024] ![1024, 512] inb_S1024x2048_S1024x512_0_1024)
abbrev rhs2 (c : Dev nD) (t : Fin cfg0.N) : Vec Ideal S1x1024x512 .bf16 :=
  View.ld (iblk m c 1 t) (Rect.unit ![2, 0, 0] ![1, 1024, 512] inb_S4x1024x512_S1x1024x512_2_0_0)
abbrev lhs3 (c : Dev nD) (t : Fin cfg0.N) : Vec Ideal S1024x512 .bf16 :=
  View.ld (iblk m c 0 t) (Rect.unit ![0, 1536] ![1024, 512] inb_S1024x2048_S1024x512_0_1536)
abbrev rhs3 (c : Dev nD) (t : Fin cfg0.N) : Vec Ideal S1x1024x512 .bf16 :=
  View.ld (iblk m c 1 t) (Rect.unit ![3, 0, 0] ![1, 1024, 512] inb_S4x1024x512_S1x1024x512_3_0_0)

/-- One quarter of what a point adds: its columns begin at `o`. -/
abbrev quarter (c : Dev nD) (t : Fin cfg0.N) (y : S1024x1024.Idx) (o : Nat) (ho : o ≤ 1536) : EReal :=
  ∑ k : Fin 512, prod m c t y ⟨t.val % 2 * 2048 + (o + k.val), by omega⟩

theorem half_eq (c : Dev nD) (t : Fin cfg0.N) (y : S1024x1024.Idx) :
    quarter m c t y 0 (by omega) + quarter m c t y 512 (by omega) + quarter m c t y 1024 (by omega) + quarter m c t y 1536 (by omega)
      = Halves.half (prod m c) t y := by
  refine Eq.trans ?_ (Fin.sum_mul_add_congr (S := 4) (n := 512)
    (F := fun r k => prod m c t y ⟨t.val % 2 * 2048 + (r.val * 512 + k.val), by omega⟩) fun r k hl => rfl)
  rw [Fin.sum_univ_four]
  refine congrArg₂ (· + ·) (congrArg₂ (· + ·) (congrArg₂ (· + ·) ?_ ?_) ?_) ?_
  all_goals exact Finset.sum_congr rfl fun k _ => congrArg (prod m c t y) (Fin.ext (by simp))

theorem pay2 (c : Dev nD) (t : Fin cfg0.N) (a : Vec Ideal S1024x1024 .f32) (y : S1024x1024.Idx) :
    k0_pay2 (F := Ideal) a (lhs0 m c t) (rhs0 m c t) (lhs1 m c t) (rhs1 m c t) (lhs2 m c t) (rhs2 m c t) (lhs3 m c t) (rhs3 m c t) y
      = (show EReal from a y) + Halves.half (prod m c) t y := by
  rw [← half_eq]
  pointwise [k0_pay2, quarter, prod, lhs0, rhs0, lhs1, rhs1, lhs2, rhs2, lhs3, rhs3]
  blk_point [iblk, V, idx t]

theorem scratchA (c : Dev nD) (t : Fin cfg0.N) (h : t.val % 2 = 0) (y : S1024x1024.Idx) :
    (outsAt0 m c t.val t.isLt).2 y = 0 + Halves.half (prod m c) t y := by
  rw [outsAt0_A m c t h h (by omega)]
  frame_out
  exact (pay2 m c t _ y).trans (congrArg (· + Halves.half (prod m c) t y) (by pointwise [k0_pay1]))

theorem point2 (c : Dev nD) (t : Fin cfg0.N) (h : t.val % 2 = 1) (y : S1024x1024.Idx) :
    (outsAt0 m c t.val t.isLt).1 y = dx (m ((c : Thread nD τ).loc main_arg0)) (m ((c : Thread nD τ).loc main_arg1))
      (((cfg0.win 2).blk t).view.emb y) := by
  rw [outsAt0_B m c t (by omega) (by omega) h]
  frame_out
  simp only [read_unread_whole]
  refine Eq.trans ?_ (((pay2 m c t _ y).trans (Halves.whole (fun n h => (outsAt0 m c n h).2) (prod m c) (prod_congr m c)
    (scratchA m c) t h y)).trans ?_)
  · pointwise [k0_pay3, k0_pay2, lhs0, rhs0, lhs1, rhs1, lhs2, rhs2, lhs3, rhs3]
  · pointwise [dx, prod]
    blk_point [iblk, V, idx t]

theorem final2 (c : Dev nD) : (dats m 0 c).arrAt 2 (cfgs 0).N
    = dx (m ((c : Thread nD τ).loc main_arg0)) (m ((c : Thread nD τ).loc main_arg1)) := by
  refine (dats m 0 c).arrAt_eq_of_covers 2 _ (by decide +kernel) fun t hf y => ?_
  blk_simp
  rw [after0_2]
  exact point2 m c t ((flush0_2 t).mp hf) y

end Cert.InProjDxIdeal.Final

namespace Cert.InProjDxRefIdeal.Final

open Cert.InProjDxRefIdeal.Read Cert.InProjDxForm

theorem final6 (D : FVec Ideal ⟨2, ![4096, 4096]⟩ .bf16) (W : FVec Ideal ⟨2, ![2048, 4096]⟩ .bf16) :
    val_main_v6 (F := Ideal) D W = dx D W := by
  funext i; rw [eq_ix2 i]
  pointwise [val_main_v6, val_main_v5, val_main_v4, val_main_v2, dx]

end Cert.InProjDxRefIdeal.Final
-- ==== Proof.Val.InProjDw.lean ====
/-
  The gradient of the mixer's input product with respect to its weights, in the devices' blocks of columns: what the kernel
  leaves in its result array, and that the reference's lines give the same.
-/
module

public import proofs.«01_k».proof.Proof.Gen.InProjDwIdeal.Value
public import proofs.«01_k».proof.Proof.Gen.InProjDwRefIdeal.Read
public import proofs.«01_k».proof.Proof.Val.Halves
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.InProjDwForm

/-- The sum over the tokens of the products of the left operand and the gradient, the columns in eight blocks. -/
def dw (S : FVec Ideal ⟨2, ![4096, 2048]⟩ .bf16) (D : FVec Ideal ⟨2, ![4096, 4096]⟩ .bf16) : FVec Ideal ⟨3, ![8, 2048, 512]⟩ .bf16 :=
  fun i => ∑ l : Fin 4096, (show EReal from S (ix2 l (i 1))) * D (ix2 l ⟨(i 0).val * 512 + (i 2).val,
    by have h0 : (i 0).val < 8 := (i 0).isLt; have h2 : (i 2).val < 512 := (i 2).isLt; omega⟩)

end Cert.InProjDwForm

namespace Cert.InProjDwIdeal.Final

open Cert.InProjDwIdeal Cert.InProjDwIdeal.Gen Cert.InProjDwForm

variable (m : (ℓ : Loc nD τ sig) → Buf (Elt Ideal) ℓ)

/-- Each window's block index at a point of the grid. -/
theorem idx : ∀ t : Fin cfg0.N, win0_0.index t = ![t.val % 2, t.val / 8] ∧ win0_1.index t = ![t.val % 2, t.val / 2 % 4]
    ∧ win0_2.index t = ![t.val / 2 % 4, t.val / 8, 0] :=
  (by decide +kernel : ∀ t : Fin grid0.N, _)

theorem lt_N (t : Fin cfg0.N) : t.val < 16 := lt_of_lt_of_eq t.isLt N_0

/-- One product at an index of the block, at one of the tokens. -/
abbrev prod (c : Dev nD) (t : Fin cfg0.N) (y : S1024x1024.Idx) (l : Fin 4096) : EReal :=
  (show EReal from m ((c : Thread nD τ).loc main_arg0)
      (ix2 l ⟨t.val / 8 * 1024 + (y 0).val, by have := lt_N t; have h : (y 0).val < 1024 := (y 0).isLt; omega⟩))
    * m ((c : Thread nD τ).loc main_arg1) (ix2 l ⟨t.val / 2 % 4 * 1024 + (y 1).val, by have h : (y 1).val < 1024 := (y 1).isLt; omega⟩)

/-- The products are the same at both points of a run. -/
theorem prod_congr (c : Dev nD) (a b : Fin cfg0.N) (h : a.val / 2 = b.val / 2) : prod m c a = prod m c b := by
  have e : a.val / 8 = b.val / 8 := by omega
  funext y l
  simp only [prod, e, h]

theorem pay2 (c : Dev nD) (t : Fin cfg0.N) (a : Vec Ideal S1024x1024 .f32) (y : S1024x1024.Idx) :
    k0_pay2 (F := Ideal) a (iblk m c 0 t) (iblk m c 1 t) y = (show EReal from a y) + Halves.half (prod m c) t y := by
  pointwise [k0_pay2, Halves.half, prod]
  blk_point [iblk, V, idx t]

theorem scratchA (c : Dev nD) (t : Fin cfg0.N) (h : t.val % 2 = 0) (y : S1024x1024.Idx) :
    (outsAt0 m c t.val t.isLt).2 y = 0 + Halves.half (prod m c) t y := by
  rw [outsAt0_A m c t h h (by omega)]
  frame_out
  rw [pay2]
  pointwise [k0_pay1]

/-- The accumulated sum at the second point of a run. -/
theorem total (c : Dev nD) (t : Fin cfg0.N) (h : t.val % 2 = 1) (y : S1024x1024.Idx) :
    k0_pay2 (F := Ideal) (outsAt0 m c (t.val - 1) (Nat.lt_of_le_of_lt (Nat.sub_le _ _) t.isLt)).2 (iblk m c 0 t) (iblk m c 1 t) y
      = ∑ l : Fin 4096, prod m c t y l :=
  (pay2 m c t _ y).trans (Halves.whole (fun n h => (outsAt0 m c n h).2) (prod m c) (prod_congr m c) (scratchA m c) t h y)

/-- The sum over the tokens is the gradient's value at the array index of an index of the block. -/
theorem dw_at (c : Dev nD) (t : Fin cfg0.N) (y : S1024x1024.Idx) (z : S8x2048x512.Idx)
    (h1 : (z 1).val = t.val / 8 * 1024 + (y 0).val) (h2 : (z 0).val * 512 + (z 2).val = t.val / 2 % 4 * 1024 + (y 1).val) :
    ∑ l : Fin 4096, prod m c t y l = dw (m ((c : Thread nD τ).loc main_arg0)) (m ((c : Thread nD τ).loc main_arg1)) z := by
  refine Finset.sum_congr rfl fun l _ => ?_
  exact congrArg₂ (fun a b => (show EReal from m ((c : Thread nD τ).loc main_arg0) (ix2 l a)) * m ((c : Thread nD τ).loc main_arg1) (ix2 l b))
    (Fin.ext h1.symm) (Fin.ext h2.symm)

theorem point2 (c : Dev nD) (t : Fin cfg0.N) (h : t.val % 2 = 1) (y : S2x1024x512.Idx) :
    (outsAt0 m c t.val t.isLt).1 y = dw (m ((c : Thread nD τ).loc main_arg0)) (m ((c : Thread nD τ).loc main_arg1))
      (((cfg0.win 2).blk t).view.emb y) := by
  rw [outsAt0_B m c t (by omega) (by omega) h]
  have e0 : ((((cfg0.win 2).blk t).view.emb y) 0).val = t.val / 2 % 4 * 2 + (y 0).val := by blk_simp [idx t]; try omega
  have e1 : ((((cfg0.win 2).blk t).view.emb y) 1).val = t.val / 8 * 1024 + (y 1).val := by blk_simp [idx t]; try omega
  have e2 : ((((cfg0.win 2).blk t).view.emb y) 2).val = (y 2).val := by blk_simp [idx t]; try omega
  generalize ((cfg0.win 2).blk t).view.emb y = z at e0 e1 e2 ⊢
  frame_out
  simp only [read_unread_whole]
  canon_tiles x h
  case piece0 =>
    refine Eq.trans ?_ ((total m c t h (ix2 (x 1) (⟨512 + (x 2).val, by omega⟩ : Fin 1024))).trans
      (dw_at m c t _ z (by dsimp only [ix2]; omega) (by dsimp only [ix2]; omega)))
    pointwise [k0_pay5, k0_pay3, k0_pay2]
  case piece1 =>
    refine Eq.trans ?_ ((total m c t h (ix2 (x 1) (⟨(x 2).val, by omega⟩ : Fin 1024))).trans
      (dw_at m c t _ z (by dsimp only [ix2]; omega) (by dsimp only [ix2]; omega)))
    pointwise [k0_pay4, k0_pay3, k0_pay2]

theorem final2 (c : Dev nD) : (dats m 0 c).arrAt 2 (cfgs 0).N
    = dw (m ((c : Thread nD τ).loc main_arg0)) (m ((c : Thread nD τ).loc main_arg1)) := by
  refine (dats m 0 c).arrAt_eq_of_covers 2 _ (by decide +kernel) fun t hf y => ?_
  blk_simp
  rw [after0_2]
  exact point2 m c t ((flush0_2 t).mp hf) y

end Cert.InProjDwIdeal.Final

namespace Cert.InProjDwRefIdeal.Final

open Cert.InProjDwRefIdeal.Read Cert.InProjDwForm

theorem final9 (S : FVec Ideal ⟨2, ![4096, 2048]⟩ .bf16) (D : FVec Ideal ⟨2, ![4096, 4096]⟩ .bf16) :
    val_main_v9 (F := Ideal) S D = dw S D := by
  funext i; rw [eq_ix3 i]
  pointwise [val_main_v9, val_main_v8, val_main_v7, val_main_v6, val_main_v5, val_main_v4, val_main_v1, dw]
  exact Finset.sum_congr rfl fun x _ => mul_comm _ _

end Cert.InProjDwRefIdeal.Final
-- ==== Proof.Val.OutProj.lean ====
/-
  The mixer's output product beside the residual: what the kernel leaves in its result array, and that the reference's lines give
  the same.
-/
module

public import proofs.«01_k».proof.Proof.Gen.OutProjIdeal.Value
public import proofs.«01_k».proof.Proof.Gen.OutProjRefIdeal.Read
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.OutProjForm

/-- The product with the weights, added to the residual. -/
def out (Y : FVec Ideal ⟨2, ![4096, 2048]⟩ .bf16) (W : FVec Ideal ⟨2, ![2048, 2048]⟩ .bf16) (X : FVec Ideal ⟨2, ![4096, 2048]⟩ .f32) :
    FVec Ideal ⟨2, ![4096, 2048]⟩ .f32 :=
  fun i => (show EReal from X i) + ∑ k : Fin 2048, (show EReal from Y (ix2 (i 0) k)) * W (ix2 k (i 1))

end Cert.OutProjForm

namespace Cert.OutProjIdeal.Final

open Cert.OutProjIdeal Cert.OutProjIdeal.Gen Cert.OutProjForm

variable (m : (ℓ : Loc nD τ sig) → Buf (Elt Ideal) ℓ)

/-- Each window's block index at a point of the grid. -/
theorem idx : ∀ t : Fin cfg0.N, win0_0.index t = ![t.val / 2, 0] ∧ win0_1.index t = ![0, 0, t.val % 2]
    ∧ win0_2.index t = ![t.val / 2, t.val % 2] ∧ win0_3.index t = ![t.val / 2, t.val % 2] :=
  (by decide +kernel : ∀ t : Fin grid0.N, _)

theorem point3 (c : Dev nD) (t : Fin cfg0.N) (y : S1024x1024.Idx) :
    k0_pay1 (F := Ideal) (iblk m c 0 t) (iblk m c 1 t) (iblk m c 2 t) y = out (m ((c : Thread nD τ).loc main_arg0)) (m ((c : Thread nD τ).loc main_arg1)) (m ((c : Thread nD τ).loc main_arg2))
      (((cfg0.win 3).blk t).view.emb y) := by
  refine Eq.trans ?_ (add_comm (G := EReal) _ _)
  pointwise [k0_pay1]
  blk_point [iblk, V, idx t]

theorem final3 (c : Dev nD) : (dats m 0 c).arrAt 3 (cfgs 0).N
    = out (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  frame_out
  exact point3 m c t y

end Cert.OutProjIdeal.Final

namespace Cert.OutProjRefIdeal.Final

open Cert.OutProjRefIdeal.Read Cert.OutProjForm

theorem final3 (Y : FVec Ideal ⟨2, ![4096, 2048]⟩ .bf16) (W : FVec Ideal ⟨2, ![2048, 2048]⟩ .bf16) (X : FVec Ideal ⟨2, ![4096, 2048]⟩ .f32) :
    val_main_v3 (F := Ideal) Y W X = out Y W X := by
  funext i; rw [eq_ix2 i]
  pointwise [val_main_v3, val_main_v2, val_main_v1, val_main_v0, out]

end Cert.OutProjRefIdeal.Final
-- ==== Proof.Val.OutProjDx.lean ====
/-
  The gradient of the mixer's output product with respect to its left operand: what the kernel leaves in its result array, and that
  the reference's lines give the same.
-/
module

public import proofs.«01_k».proof.Proof.Gen.OutProjDxIdeal.Value
public import proofs.«01_k».proof.Proof.Gen.OutProjDxRefIdeal.Read
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.OutProjDxForm

/-- The product with the transposed weights. -/
def dx (D : FVec Ideal ⟨2, ![4096, 2048]⟩ .bf16) (W : FVec Ideal ⟨2, ![2048, 2048]⟩ .bf16) : FVec Ideal ⟨2, ![4096, 2048]⟩ .bf16 :=
  fun i => ∑ k : Fin 2048, (show EReal from D (ix2 (i 0) k)) * W (ix2 (i 1) k)

end Cert.OutProjDxForm

namespace Cert.OutProjDxIdeal.Final

open Cert.OutProjDxIdeal Cert.OutProjDxIdeal.Gen Cert.OutProjDxForm

variable (m : (ℓ : Loc nD τ sig) → Buf (Elt Ideal) ℓ)

/-- Each window's block index at a point of the grid. -/
theorem idx : ∀ t : Fin cfg0.N, win0_0.index t = ![t.val / 2, 0] ∧ win0_1.index t = ![0, t.val % 2, 0]
    ∧ win0_2.index t = ![t.val / 2, t.val % 2] :=
  (by decide +kernel : ∀ t : Fin grid0.N, _)

theorem point2 (c : Dev nD) (t : Fin cfg0.N) (y : S1024x1024.Idx) :
    k0_pay1 (F := Ideal) (iblk m c 0 t) (iblk m c 1 t) y = dx (m ((c : Thread nD τ).loc main_arg0)) (m ((c : Thread nD τ).loc main_arg1))
      (((cfg0.win 2).blk t).view.emb y) := by
  pointwise [k0_pay1, dx]
  blk_point [iblk, V, idx t]

theorem final2 (c : Dev nD) : (dats m 0 c).arrAt 2 (cfgs 0).N
    = dx (m ((c : Thread nD τ).loc main_arg0)) (m ((c : Thread nD τ).loc main_arg1)) := by
  refine (dats m 0 c).arrAt_eq_of_covers 2 _ (by decide +kernel) fun t _ y => ?_
  blk_simp
  rw [after0_2]
  frame_out
  exact point2 m c t y

end Cert.OutProjDxIdeal.Final

namespace Cert.OutProjDxRefIdeal.Final

open Cert.OutProjDxRefIdeal.Read Cert.OutProjDxForm

theorem final6 (D : FVec Ideal ⟨2, ![4096, 2048]⟩ .bf16) (W : FVec Ideal ⟨2, ![2048, 2048]⟩ .bf16) :
    val_main_v6 (F := Ideal) D W = dx D W := by
  funext i; rw [eq_ix2 i]
  pointwise [val_main_v6, val_main_v5, val_main_v4, val_main_v2, dx]

end Cert.OutProjDxRefIdeal.Final
-- ==== Proof.Val.OutProjDw.lean ====
/-
  The gradient of the mixer's output product with respect to its weights: what the kernel leaves in its result array, and that
  the reference's lines give the same.
-/
module

public import proofs.«01_k».proof.Proof.Gen.OutProjDwIdeal.Value
public import proofs.«01_k».proof.Proof.Gen.OutProjDwRefIdeal.Read
public import proofs.«01_k».proof.Proof.Val.Halves
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.OutProjDwForm

/-- The sum over the tokens of the products of the left operand and the gradient, one leading axis of extent one. -/
def dw (S : FVec Ideal ⟨2, ![4096, 2048]⟩ .bf16) (D : FVec Ideal ⟨2, ![4096, 2048]⟩ .bf16) : FVec Ideal ⟨3, ![1, 2048, 2048]⟩ .bf16 :=
  fun i => ∑ l : Fin 4096, (show EReal from S (ix2 l (i 1))) * D (ix2 l (i 2))

end Cert.OutProjDwForm

namespace Cert.OutProjDwIdeal.Final

open Cert.OutProjDwIdeal Cert.OutProjDwIdeal.Gen Cert.OutProjDwForm

variable (m : (ℓ : Loc nD τ sig) → Buf (Elt Ideal) ℓ)

/-- Each window's block index at a point of the grid. -/
theorem idx : ∀ t : Fin cfg0.N, win0_0.index t = ![t.val % 2, t.val / 4] ∧ win0_1.index t = ![t.val % 2, t.val / 2 % 2]
    ∧ win0_2.index t = ![0, t.val / 4, t.val / 2 % 2] :=
  (by decide +kernel : ∀ t : Fin grid0.N, _)

theorem lt_N (t : Fin cfg0.N) : t.val < 8 := lt_of_lt_of_eq t.isLt N_0

/-- One product at an index of the block, at one of the tokens. -/
abbrev prod (c : Dev nD) (t : Fin cfg0.N) (y : S1024x1024.Idx) (l : Fin 4096) : EReal :=
  (show EReal from m ((c : Thread nD τ).loc main_arg0)
      (ix2 l ⟨t.val / 4 * 1024 + (y 0).val, by have := lt_N t; have h : (y 0).val < 1024 := (y 0).isLt; omega⟩))
    * m ((c : Thread nD τ).loc main_arg1) (ix2 l ⟨t.val / 2 % 2 * 1024 + (y 1).val, by have h : (y 1).val < 1024 := (y 1).isLt; omega⟩)

/-- The products are the same at both points of a run. -/
theorem prod_congr (c : Dev nD) (a b : Fin cfg0.N) (h : a.val / 2 = b.val / 2) : prod m c a = prod m c b := by
  have e : a.val / 4 = b.val / 4 := by omega
  funext y l
  simp only [prod, e, h]

theorem pay2 (c : Dev nD) (t : Fin cfg0.N) (a : Vec Ideal S1024x1024 .f32) (y : S1024x1024.Idx) :
    k0_pay2 (F := Ideal) a (iblk m c 0 t) (iblk m c 1 t) y = (show EReal from a y) + Halves.half (prod m c) t y := by
  pointwise [k0_pay2, Halves.half, prod]
  blk_point [iblk, V, idx t]

theorem scratchA (c : Dev nD) (t : Fin cfg0.N) (h : t.val % 2 = 0) (y : S1024x1024.Idx) :
    (outsAt0 m c t.val t.isLt).2 y = 0 + Halves.half (prod m c) t y := by
  rw [outsAt0_A m c t h h (by omega)]
  frame_out
  rw [pay2]
  pointwise [k0_pay1]

/-- The accumulated sum at the second point of a run. -/
theorem total (c : Dev nD) (t : Fin cfg0.N) (h : t.val % 2 = 1) (y : S1024x1024.Idx) :
    k0_pay2 (F := Ideal) (outsAt0 m c (t.val - 1) (Nat.lt_of_le_of_lt (Nat.sub_le _ _) t.isLt)).2 (iblk m c 0 t) (iblk m c 1 t) y
      = ∑ l : Fin 4096, prod m c t y l :=
  (pay2 m c t _ y).trans (Halves.whole (fun n h => (outsAt0 m c n h).2) (prod m c) (prod_congr m c) (scratchA m c) t h y)

theorem point2 (c : Dev nD) (t : Fin cfg0.N) (h : t.val % 2 = 1) (y : S1x1024x1024.Idx) :
    (outsAt0 m c t.val t.isLt).1 y = dw (m ((c : Thread nD τ).loc main_arg0)) (m ((c : Thread nD τ).loc main_arg1))
      (((cfg0.win 2).blk t).view.emb y) := by
  rw [outsAt0_B m c t (by omega) (by omega) h]
  frame_out
  simp only [read_unread_whole]
  refine Eq.trans ?_ ((total m c t h (ix2 (y 1) (y 2))).trans ?_)
  · pointwise [k0_pay3, k0_pay2]
  · pointwise [dw, prod]
    blk_point [iblk, V, idx t] <;> rfl

theorem final2 (c : Dev nD) : (dats m 0 c).arrAt 2 (cfgs 0).N
    = dw (m ((c : Thread nD τ).loc main_arg0)) (m ((c : Thread nD τ).loc main_arg1)) := by
  refine (dats m 0 c).arrAt_eq_of_covers 2 _ (by decide +kernel) fun t hf y => ?_
  blk_simp
  rw [after0_2]
  exact point2 m c t ((flush0_2 t).mp hf) y

end Cert.OutProjDwIdeal.Final

namespace Cert.OutProjDwRefIdeal.Final

open Cert.OutProjDwRefIdeal.Read Cert.OutProjDwForm

theorem final8 (S : FVec Ideal ⟨2, ![4096, 2048]⟩ .bf16) (D : FVec Ideal ⟨2, ![4096, 2048]⟩ .bf16) :
    val_main_v8 (F := Ideal) S D = dw S D := by
  funext i; rw [eq_ix3 i]
  pointwise [val_main_v8, val_main_v7, val_main_v6, val_main_v5, val_main_v4, val_main_v1, dw]
  exact Finset.sum_congr rfl fun x _ => mul_comm _ _

end Cert.OutProjDwRefIdeal.Final
-- ==== Proof.Val.UpDw.lean ====
/-
  The gradient of the feed-forward layer's first product with respect to its weights, in the devices' blocks of columns: what the
  kernel leaves in its result array, and that the reference's lines give the same.
-/
module

public import proofs.«01_k».proof.Proof.Gen.UpDwIdeal.Value
public import proofs.«01_k».proof.Proof.Gen.UpDwRefIdeal.Read
public import proofs.«01_k».proof.Proof.Val.Halves
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.UpDwForm

/-- The sum over the tokens of the products of the left operand and the gradient, the columns in eight blocks. -/
def dw (S : FVec Ideal ⟨2, ![4096, 2048]⟩ .bf16) (D : FVec Ideal ⟨2, ![4096, 8192]⟩ .bf16) : FVec Ideal ⟨3, ![8, 2048, 1024]⟩ .bf16 :=
  fun i => ∑ l : Fin 4096, (show EReal from S (ix2 l (i 1))) * D (ix2 l ⟨(i 0).val * 1024 + (i 2).val,
    by have h0 : (i 0).val < 8 := (i 0).isLt; have h2 : (i 2).val < 1024 := (i 2).isLt; omega⟩)

end Cert.UpDwForm

namespace Cert.UpDwIdeal.Final

open Cert.UpDwIdeal Cert.UpDwIdeal.Gen Cert.UpDwForm

variable (m : (ℓ : Loc nD τ sig) → Buf (Elt Ideal) ℓ)

/-- Each window's block index at a point of the grid. -/
theorem idx : ∀ t : Fin cfg0.N, win0_0.index t = ![t.val % 2, t.val / 16] ∧ win0_1.index t = ![t.val % 2, t.val / 2 % 8]
    ∧ win0_2.index t = ![t.val / 2 % 8, t.val / 16, 0] :=
  (by decide +kernel : ∀ t : Fin grid0.N, _)

theorem lt_N (t : Fin cfg0.N) : t.val < 32 := lt_of_lt_of_eq t.isLt N_0

/-- One product at an index of the block, at one of the tokens. -/
abbrev prod (c : Dev nD) (t : Fin cfg0.N) (y : S1024x1024.Idx) (l : Fin 4096) : EReal :=
  (show EReal from m ((c : Thread nD τ).loc main_arg0)
      (ix2 l ⟨t.val / 16 * 1024 + (y 0).val, by have := lt_N t; have h : (y 0).val < 1024 := (y 0).isLt; omega⟩))
    * m ((c : Thread nD τ).loc main_arg1) (ix2 l ⟨t.val / 2 % 8 * 1024 + (y 1).val, by have h : (y 1).val < 1024 := (y 1).isLt; omega⟩)

/-- The products are the same at both points of a run. -/
theorem prod_congr (c : Dev nD) (a b : Fin cfg0.N) (h : a.val / 2 = b.val / 2) : prod m c a = prod m c b := by
  have e : a.val / 16 = b.val / 16 := by omega
  funext y l
  simp only [prod, e, h]

theorem pay2 (c : Dev nD) (t : Fin cfg0.N) (a : Vec Ideal S1024x1024 .f32) (y : S1024x1024.Idx) :
    k0_pay2 (F := Ideal) a (iblk m c 0 t) (iblk m c 1 t) y = (show EReal from a y) + Halves.half (prod m c) t y := by
  pointwise [k0_pay2, Halves.half, prod]
  blk_point [iblk, V, idx t]

theorem scratchA (c : Dev nD) (t : Fin cfg0.N) (h : t.val % 2 = 0) (y : S1024x1024.Idx) :
    (outsAt0 m c t.val t.isLt).2 y = 0 + Halves.half (prod m c) t y := by
  rw [outsAt0_A m c t h h (by omega)]
  frame_out
  rw [pay2]
  pointwise [k0_pay1]

/-- The accumulated sum at the second point of a run. -/
theorem total (c : Dev nD) (t : Fin cfg0.N) (h : t.val % 2 = 1) (y : S1024x1024.Idx) :
    k0_pay2 (F := Ideal) (outsAt0 m c (t.val - 1) (Nat.lt_of_le_of_lt (Nat.sub_le _ _) t.isLt)).2 (iblk m c 0 t) (iblk m c 1 t) y
      = ∑ l : Fin 4096, prod m c t y l :=
  (pay2 m c t _ y).trans (Halves.whole (fun n h => (outsAt0 m c n h).2) (prod m c) (prod_congr m c) (scratchA m c) t h y)

theorem point2 (c : Dev nD) (t : Fin cfg0.N) (h : t.val % 2 = 1) (y : S1x1024x1024.Idx) :
    (outsAt0 m c t.val t.isLt).1 y = dw (m ((c : Thread nD τ).loc main_arg0)) (m ((c : Thread nD τ).loc main_arg1))
      (((cfg0.win 2).blk t).view.emb y) := by
  rw [outsAt0_B m c t (by omega) (by omega) h]
  frame_out
  simp only [read_unread_whole]
  refine Eq.trans ?_ ((total m c t h (ix2 (y 1) (y 2))).trans ?_)
  · pointwise [k0_pay3, k0_pay2]
  · pointwise [dw, prod]
    blk_point [iblk, V, idx t] <;> rfl

theorem final2 (c : Dev nD) : (dats m 0 c).arrAt 2 (cfgs 0).N
    = dw (m ((c : Thread nD τ).loc main_arg0)) (m ((c : Thread nD τ).loc main_arg1)) := by
  refine (dats m 0 c).arrAt_eq_of_covers 2 _ (by decide +kernel) fun t hf y => ?_
  blk_simp
  rw [after0_2]
  exact point2 m c t ((flush0_2 t).mp hf) y

end Cert.UpDwIdeal.Final

namespace Cert.UpDwRefIdeal.Final

open Cert.UpDwRefIdeal.Read Cert.UpDwForm

theorem final9 (S : FVec Ideal ⟨2, ![4096, 2048]⟩ .bf16) (D : FVec Ideal ⟨2, ![4096, 8192]⟩ .bf16) :
    val_main_v9 (F := Ideal) S D = dw S D := by
  funext i; rw [eq_ix3 i]
  pointwise [val_main_v9, val_main_v8, val_main_v7, val_main_v6, val_main_v5, val_main_v4, val_main_v1, dw]
  exact Finset.sum_congr rfl fun x _ => mul_comm _ _

end Cert.UpDwRefIdeal.Final
-- ==== Proof.Val.CastFirst.lean ====
/-
  The weights of the first layer, rounded: what the kernel leaves in its result array, and that the reference's lines give the
  same.
-/
module

public import proofs.«01_k».proof.Proof.Gen.CastFirstIdeal.Value
public import proofs.«01_k».proof.Proof.Gen.CastFirstRefIdeal.Read
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.CastFirstForm

/-- The weights of the first layer, one leading axis of extent one. -/
def first (W : FVec Ideal ⟨3, ![4, 2048, 1024]⟩ .f32) : FVec Ideal ⟨3, ![1, 2048, 1024]⟩ .bf16 := fun i => W (ix3 0 (i 1) (i 2))

end Cert.CastFirstForm

namespace Cert.CastFirstIdeal.Final

open Cert.CastFirstIdeal Cert.CastFirstIdeal.Gen Cert.CastFirstForm

variable (m : (ℓ : Loc nD τ sig) → Buf (Elt Ideal) ℓ)

/-- Each window's block index at a point of the grid. -/
theorem idx : ∀ t : Fin cfg0.N, win0_0.index t = ![0, t.val, 0] ∧ win0_1.index t = ![0, t.val, 0] :=
  (by decide +kernel : ∀ t : Fin grid0.N, _)

theorem point1 (c : Dev nD) (t : Fin cfg0.N) (y : S1x512x1024.Idx) :
    k0_pay1 (F := Ideal) (iblk m c 0 t) y = first (m ((c : Thread nD τ).loc main_arg0))
      (((cfg0.win 1).blk t).view.emb y) := by
  pointwise [k0_pay1, first]
  blk_point [iblk, V, idx t]

theorem final1 (c : Dev nD) : (dats m 0 c).arrAt 1 (cfgs 0).N
    = first (m ((c : Thread nD τ).loc main_arg0)) := by
  refine (dats m 0 c).arrAt_eq_of_covers 1 _ (by decide +kernel) fun t _ y => ?_
  blk_simp
  rw [after0_1]
  frame_out
  exact point1 m c t y

end Cert.CastFirstIdeal.Final

namespace Cert.CastFirstRefIdeal.Final

open Cert.CastFirstRefIdeal.Read Cert.CastFirstForm

theorem final1 (W : FVec Ideal ⟨3, ![4, 2048, 1024]⟩ .f32) : val_main_v1 (F := Ideal) W = first W := by
  funext i; rw [eq_ix3 i]
  pointwise [val_main_v1, val_main_v0, first]

end Cert.CastFirstRefIdeal.Final
-- ==== Proof.Val.AdamwOwnRef.lean ====
/-
  The optimiser's step with the device's own part: that the reference's lines give the same four results as the kernel, when the
  device's number names one of the eight blocks.
-/
module

public import proofs.«01_k».proof.Proof.Val.AdamwOwnForm
public import proofs.«01_k».proof.Proof.Gen.AdamwOwnRefIdeal.Read

@[expose] public section

set_option maxRecDepth 16384

noncomputable section

open Idealize.ShloMosaic Idealize.ShloMosaic.TcCoe Idealize.SL.Sem

namespace Cert.AdamwOwnRefIdeal.Final

open Cert.AdamwOwnRefIdeal.Read Cert.AdamwOwnForm

variable (ME : IVec ⟨0, ![]⟩ 32) (OWN : FVec Ideal ⟨4, ![4, 8, 256, 2048]⟩ .bf16) (GOT : FVec Ideal ⟨4, ![4, 7, 256, 2048]⟩ .bf16)
  (W M V : FVec Ideal ⟨3, ![4, 256, 2048]⟩ .f32) (hw : (ME Idealize.ShloMosaic.ix0).toNat < 8)

theorem zero_word : (FloatOps.ofBits (F := Ideal) .f32 0x00000000#32 : EReal) = 0 := by
  show Ideal.ofBits .f32 0x00000000#32 = 0; simp [Ideal.ofBits, Ideal.ieee]

include hw in
/-- A number below eight as a word is the device's word exactly when it is the device's number. -/
theorem word_eq (k : Fin 8) : BitVec.ofNat 32 k.val = ME Idealize.ShloMosaic.ix0 ↔ k = dev ME := by
  rw [← BitVec.toNat_inj, coord k]
  constructor
  · intro h; apply Fin.ext; show k.val = _ % 8; rw [h]; exact (Nat.mod_eq_of_lt hw).symm
  · intro h; rw [h]; exact Nat.mod_eq_of_lt hw

include hw in
/-- The own parts masked: the device's own block, and zero at the other seven. -/
theorem mask_at (i : (⟨3, ![4, 256, 2048]⟩ : Shape).Idx) (k : Fin 8) :
    val_main_v5 (F := Ideal) ME OWN (idx_main_v6 i k) = if k = dev ME then (show EReal from OWN (idx_main_v6 i k)) else 0 := by
  rw [val_main_v5_apply, val_main_call0_v1_apply, val_main_v3_apply, val_main_v1_apply, val_main_v0_apply, val_main_v2_apply,
    val_main_v4_apply, val_main_call0_v2_apply, val_main_call0_v0_apply, val_main_cst_apply, zero_word]
  have e : idx_main_v2 (idx_main_call0_v1 (idx_main_v6 i k)) = Idealize.ShloMosaic.ix0 := funext fun a => a.elim0
  rw [e, WordCmp.cmpi_eq_eq]
  by_cases h : k = dev ME
  · rw [if_pos h]
    exact WordCmp.select_of_eq_one (congrArg BitVec.ofBool (decide_eq_true ((word_eq ME hw k).mpr h))) _ _
  · rw [if_neg h]
    exact WordCmp.select_of_eq_zero (congrArg BitVec.ofBool (decide_eq_false (fun q => h ((word_eq ME hw k).mp q)))) _ _

include hw in
theorem own_at (i : (⟨3, ![4, 256, 2048]⟩ : Shape).Idx) :
    val_main_v6 (F := Ideal) ME OWN i = (show EReal from OWN (ix4 (i 0) (dev ME) (i 1) (i 2))) := by
  rw [val_main_v6_apply, val_main_cst_0_apply, zero_word, zero_add]
  refine (Finset.sum_eq_single (dev ME) (fun k _ hk => ?_) (fun h => absurd (Finset.mem_univ _) h)).trans ?_
  · exact (mask_at ME OWN hw _ _).trans (if_neg hk)
  · refine (mask_at ME OWN hw _ _).trans ((if_pos rfl).trans (congrArg OWN (funext fun a => ?_)))
    match a with | 0 => rfl | 1 => rfl | 2 => rfl | 3 => rfl

theorem got_at (i : (⟨3, ![4, 256, 2048]⟩ : Shape).Idx) :
    val_main_v8 (F := Ideal) GOT i = ∑ s : Fin 7, (show EReal from GOT (ix4 (i 0) s (i 1) (i 2))) := by
  rw [val_main_v8_apply, val_main_cst_1_apply, zero_word, zero_add]
  refine Finset.sum_congr rfl fun s _ => congrArg GOT (funext fun a => ?_)
  match a with | 0 => rfl | 1 => rfl | 2 => rfl | 3 => rfl

include hw in
theorem grad_at (i : (⟨3, ![4, 256, 2048]⟩ : Shape).Idx) : val_main_v9 (F := Ideal) ME OWN GOT i = grad ME OWN GOT (i 0) (i 1) (i 2) := by
  rw [val_main_v9_apply, own_at ME OWN hw, got_at]; rfl

include hw in
theorem mom_at (i : (⟨3, ![4, 256, 2048]⟩ : Shape).Idx) :
    val_main_v14 (F := Ideal) ME OWN GOT M i = mom (grad ME OWN GOT (i 0) (i 1) (i 2)) (M i) := by
  rw [val_main_v14_apply, val_main_v13_apply, grad_at ME OWN GOT hw]
  unfold mom
  pointwise [val_main_v10, val_main_v11, val_main_v12, val_main_cst_2, val_main_cst_3]

include hw in
theorem vel_at (i : (⟨3, ![4, 256, 2048]⟩ : Shape).Idx) :
    val_main_v20 (F := Ideal) ME OWN GOT V i = vel (grad ME OWN GOT (i 0) (i 1) (i 2)) (V i) := by
  rw [val_main_v20_apply, val_main_v19_apply, val_main_v17_apply, grad_at ME OWN GOT hw]
  unfold vel
  pointwise [val_main_v15, val_main_v16, val_main_v18, val_main_cst_4, val_main_cst_5]

include hw in
theorem step_at (i : (⟨3, ![4, 256, 2048]⟩ : Shape).Idx) :
    val_main_v33 (F := Ideal) ME OWN GOT W M V i = step (grad ME OWN GOT (i 0) (i 1) (i 2)) (W i) (M i) (V i) := by
  rw [val_main_v33_apply, val_main_v31_apply, val_main_v28_apply, val_main_v22_apply, val_main_v27_apply, val_main_v25_apply,
    val_main_v24_apply, mom_at ME OWN GOT M hw, vel_at ME OWN GOT V hw]
  unfold step
  pointwise [val_main_v21, val_main_v23, val_main_v26, val_main_v29, val_main_v30, val_main_v32, val_main_cst_6, val_main_cst_7,
    val_main_cst_8, val_main_cst_9, val_main_cst_10]

/-- The reference's run: what its four result arrays hold at the end, its arguments unchanged. -/
theorem run (m : (ℓ : Loc Cert.AdamwOwnRefIdeal.nD Cert.AdamwOwnRefIdeal.τ Cert.AdamwOwnRefIdeal.sig) → Buf (Elt Ideal) ℓ) (g : Dev Cert.AdamwOwnRefIdeal.nD → PrngReg)
    (hm : ∀ c : Dev Cert.AdamwOwnRefIdeal.nD, ((m ((c.tc : Thread Cert.AdamwOwnRefIdeal.nD Cert.AdamwOwnRefIdeal.τ).loc Cert.AdamwOwnRefIdeal.main_arg0)) Idealize.ShloMosaic.ix0).toNat < 8) :
    θ_run (Cert.AdamwOwnRefIdeal.defs (F := Ideal)) (onTc (τ := Cert.AdamwOwnRefIdeal.τ) (Cert.AdamwOwnRefIdeal.main (F := Ideal))) ⟨m, fun _ => 0, g⟩ (fun r => ∀ c : Dev Cert.AdamwOwnRefIdeal.nD,
      r.2.mem ((c.tc : Thread Cert.AdamwOwnRefIdeal.nD Cert.AdamwOwnRefIdeal.τ).loc Cert.AdamwOwnRefIdeal.main_v9) = gradA (m ((c.tc : Thread Cert.AdamwOwnRefIdeal.nD Cert.AdamwOwnRefIdeal.τ).loc Cert.AdamwOwnRefIdeal.main_arg0)) (m ((c.tc : Thread Cert.AdamwOwnRefIdeal.nD Cert.AdamwOwnRefIdeal.τ).loc Cert.AdamwOwnRefIdeal.main_arg1)) (m ((c.tc : Thread Cert.AdamwOwnRefIdeal.nD Cert.AdamwOwnRefIdeal.τ).loc Cert.AdamwOwnRefIdeal.main_arg2))
      ∧ r.2.mem ((c.tc : Thread Cert.AdamwOwnRefIdeal.nD Cert.AdamwOwnRefIdeal.τ).loc Cert.AdamwOwnRefIdeal.main_v33) = stepA (m ((c.tc : Thread Cert.AdamwOwnRefIdeal.nD Cert.AdamwOwnRefIdeal.τ).loc Cert.AdamwOwnRefIdeal.main_arg0)) (m ((c.tc : Thread Cert.AdamwOwnRefIdeal.nD Cert.AdamwOwnRefIdeal.τ).loc Cert.AdamwOwnRefIdeal.main_arg1)) (m ((c.tc : Thread Cert.AdamwOwnRefIdeal.nD Cert.AdamwOwnRefIdeal.τ).loc Cert.AdamwOwnRefIdeal.main_arg2)) (m ((c.tc : Thread Cert.AdamwOwnRefIdeal.nD Cert.AdamwOwnRefIdeal.τ).loc Cert.AdamwOwnRefIdeal.main_arg3)) (m ((c.tc : Thread Cert.AdamwOwnRefIdeal.nD Cert.AdamwOwnRefIdeal.τ).loc Cert.AdamwOwnRefIdeal.main_arg4)) (m ((c.tc : Thread Cert.AdamwOwnRefIdeal.nD Cert.AdamwOwnRefIdeal.τ).loc Cert.AdamwOwnRefIdeal.main_arg5))
      ∧ r.2.mem ((c.tc : Thread Cert.AdamwOwnRefIdeal.nD Cert.AdamwOwnRefIdeal.τ).loc Cert.AdamwOwnRefIdeal.main_v14) = momA (m ((c.tc : Thread Cert.AdamwOwnRefIdeal.nD Cert.AdamwOwnRefIdeal.τ).loc Cert.AdamwOwnRefIdeal.main_arg0)) (m ((c.tc : Thread Cert.AdamwOwnRefIdeal.nD Cert.AdamwOwnRefIdeal.τ).loc Cert.AdamwOwnRefIdeal.main_arg1)) (m ((c.tc : Thread Cert.AdamwOwnRefIdeal.nD Cert.AdamwOwnRefIdeal.τ).loc Cert.AdamwOwnRefIdeal.main_arg2)) (m ((c.tc : Thread Cert.AdamwOwnRefIdeal.nD Cert.AdamwOwnRefIdeal.τ).loc Cert.AdamwOwnRefIdeal.main_arg4))
      ∧ r.2.mem ((c.tc : Thread Cert.AdamwOwnRefIdeal.nD Cert.AdamwOwnRefIdeal.τ).loc Cert.AdamwOwnRefIdeal.main_v20) = velA (m ((c.tc : Thread Cert.AdamwOwnRefIdeal.nD Cert.AdamwOwnRefIdeal.τ).loc Cert.AdamwOwnRefIdeal.main_arg0)) (m ((c.tc : Thread Cert.AdamwOwnRefIdeal.nD Cert.AdamwOwnRefIdeal.τ).loc Cert.AdamwOwnRefIdeal.main_arg1)) (m ((c.tc : Thread Cert.AdamwOwnRefIdeal.nD Cert.AdamwOwnRefIdeal.τ).loc Cert.AdamwOwnRefIdeal.main_arg2)) (m ((c.tc : Thread Cert.AdamwOwnRefIdeal.nD Cert.AdamwOwnRefIdeal.τ).loc Cert.AdamwOwnRefIdeal.main_arg5))
      ∧ r.2.mem ((c.tc : Thread Cert.AdamwOwnRefIdeal.nD Cert.AdamwOwnRefIdeal.τ).loc Cert.AdamwOwnRefIdeal.main_arg0) = m ((c.tc : Thread Cert.AdamwOwnRefIdeal.nD Cert.AdamwOwnRefIdeal.τ).loc Cert.AdamwOwnRefIdeal.main_arg0)
      ∧ r.2.mem ((c.tc : Thread Cert.AdamwOwnRefIdeal.nD Cert.AdamwOwnRefIdeal.τ).loc Cert.AdamwOwnRefIdeal.main_arg1) = m ((c.tc : Thread Cert.AdamwOwnRefIdeal.nD Cert.AdamwOwnRefIdeal.τ).loc Cert.AdamwOwnRefIdeal.main_arg1)
      ∧ r.2.mem ((c.tc : Thread Cert.AdamwOwnRefIdeal.nD Cert.AdamwOwnRefIdeal.τ).loc Cert.AdamwOwnRefIdeal.main_arg2) = m ((c.tc : Thread Cert.AdamwOwnRefIdeal.nD Cert.AdamwOwnRefIdeal.τ).loc Cert.AdamwOwnRefIdeal.main_arg2)
      ∧ r.2.mem ((c.tc : Thread Cert.AdamwOwnRefIdeal.nD Cert.AdamwOwnRefIdeal.τ).loc Cert.AdamwOwnRefIdeal.main_arg3) = m ((c.tc : Thread Cert.AdamwOwnRefIdeal.nD Cert.AdamwOwnRefIdeal.τ).loc Cert.AdamwOwnRefIdeal.main_arg3)
      ∧ r.2.mem ((c.tc : Thread Cert.AdamwOwnRefIdeal.nD Cert.AdamwOwnRefIdeal.τ).loc Cert.AdamwOwnRefIdeal.main_arg4) = m ((c.tc : Thread Cert.AdamwOwnRefIdeal.nD Cert.AdamwOwnRefIdeal.τ).loc Cert.AdamwOwnRefIdeal.main_arg4)
      ∧ r.2.mem ((c.tc : Thread Cert.AdamwOwnRefIdeal.nD Cert.AdamwOwnRefIdeal.τ).loc Cert.AdamwOwnRefIdeal.main_arg5) = m ((c.tc : Thread Cert.AdamwOwnRefIdeal.nD Cert.AdamwOwnRefIdeal.τ).loc Cert.AdamwOwnRefIdeal.main_arg5)) :=
  (θ_run Cert.AdamwOwnRefIdeal.defs _ _).mono (fun _ h c => ⟨(h c).1.trans ((val_main_v9_eq _ _ _).trans (funext (grad_at _ _ _ (hm c)))),
    (h c).2.1.trans ((val_main_v33_eq _ _ _ _ _ _).trans (funext (step_at _ _ _ _ _ _ (hm c)))),
    (h c).2.2.1.trans ((val_main_v14_eq _ _ _ _).trans (funext (mom_at _ _ _ _ (hm c)))),
    (h c).2.2.2.1.trans ((val_main_v20_eq _ _ _ _).trans (funext (vel_at _ _ _ _ (hm c)))), (h c).2.2.2.2⟩) (Cert.AdamwOwnRefIdeal.Value.run (F := Ideal) m g)
end Cert.AdamwOwnRefIdeal.Final

end
-- ==== Proof.lean ====
module

public import proofs.«01_k».proof.Defs
public import proofs.«01_k».proof.Proof.Gen.Relu2
public import proofs.«01_k».proof.Proof.Gen.Relu2.Skeleton
public import proofs.«01_k».proof.Proof.Gen.Relu2.Launch
public import proofs.«01_k».proof.Proof.Gen.Relu2.Points
public import proofs.«01_k».proof.Proof.Gen.Relu2.Frame
public import proofs.«01_k».proof.Proof.Gen.Relu2Ideal
public import proofs.«01_k».proof.Proof.Gen.Relu2Ideal.Skeleton
public import proofs.«01_k».proof.Proof.Gen.Relu2Ideal.Launch
public import proofs.«01_k».proof.Proof.Gen.Relu2Ideal.Points
public import proofs.«01_k».proof.Proof.Gen.Relu2Ideal.Frame
public import proofs.«01_k».proof.Proof.Gen.Relu2Ideal.Value
public import proofs.«01_k».proof.Proof.Gen.Relu2RefIdeal
public import proofs.«01_k».proof.Proof.Gen.Relu2RefIdeal.Run
public import proofs.«01_k».proof.Proof.Gen.Relu2RefIdeal.Read
public import proofs.«01_k».proof.Proof.Gen.NormBwd
public import proofs.«01_k».proof.Proof.Gen.NormBwd.Skeleton
public import proofs.«01_k».proof.Proof.Gen.NormBwd.Launch
public import proofs.«01_k».proof.Proof.Gen.NormBwd.Points
public import proofs.«01_k».proof.Proof.Gen.NormBwd.Frame
public import proofs.«01_k».proof.Proof.Gen.NormBwdIdeal
public import proofs.«01_k».proof.Proof.Gen.NormBwdIdeal.Skeleton
public import proofs.«01_k».proof.Proof.Gen.NormBwdIdeal.Launch
public import proofs.«01_k».proof.Proof.Gen.NormBwdIdeal.Points
public import proofs.«01_k».proof.Proof.Gen.NormBwdIdeal.Frame
public import proofs.«01_k».proof.Proof.Gen.NormBwdIdeal.Value
public import proofs.«01_k».proof.Proof.Gen.NormBwdRefIdeal
public import proofs.«01_k».proof.Proof.Gen.NormBwdRefIdeal.Run
public import proofs.«01_k».proof.Proof.Gen.NormBwdRefIdeal.Read
public import proofs.«01_k».proof.Proof.Gen.Loss
public import proofs.«01_k».proof.Proof.Gen.Loss.Skeleton
public import proofs.«01_k».proof.Proof.Gen.Loss.Launch
public import proofs.«01_k».proof.Proof.Gen.Loss.Points
public import proofs.«01_k».proof.Proof.Gen.Loss.Frame
public import proofs.«01_k».proof.Proof.Gen.LossIdeal
public import proofs.«01_k».proof.Proof.Gen.LossIdeal.Skeleton
public import proofs.«01_k».proof.Proof.Gen.LossIdeal.Launch
public import proofs.«01_k».proof.Proof.Gen.LossIdeal.Points
public import proofs.«01_k».proof.Proof.Gen.LossIdeal.Frame
public import proofs.«01_k».proof.Proof.Gen.LossIdeal.Value
public import proofs.«01_k».proof.Proof.Gen.LossRefIdeal
public import proofs.«01_k».proof.Proof.Gen.LossRefIdeal.Run
public import proofs.«01_k».proof.Proof.Gen.LossRefIdeal.Read
public import proofs.«01_k».proof.Proof.Gen.MixerBwd
public import proofs.«01_k».proof.Proof.Gen.MixerBwd.Skeleton
public import proofs.«01_k».proof.Proof.Gen.MixerBwd.Launch
public import proofs.«01_k».proof.Proof.Gen.MixerBwd.Points
public import proofs.«01_k».proof.Proof.Gen.MixerBwd.Frame
public import proofs.«01_k».proof.Proof.Gen.MixerBwdIdeal
public import proofs.«01_k».proof.Proof.Gen.MixerBwdIdeal.Skeleton
public import proofs.«01_k».proof.Proof.Gen.MixerBwdIdeal.Launch
public import proofs.«01_k».proof.Proof.Gen.MixerBwdIdeal.Points
public import proofs.«01_k».proof.Proof.Gen.MixerBwdIdeal.Frame
public import proofs.«01_k».proof.Proof.Gen.MixerBwdIdeal.Value
public import proofs.«01_k».proof.Proof.Gen.MixerBwdRefIdeal
public import proofs.«01_k».proof.Proof.Gen.MixerBwdRefIdeal.Run
public import proofs.«01_k».proof.Proof.Gen.MixerBwdRefIdeal.Read
public import proofs.«01_k».proof.Proof.Gen.Norm
public import proofs.«01_k».proof.Proof.Gen.Norm.Skeleton
public import proofs.«01_k».proof.Proof.Gen.Norm.Launch
public import proofs.«01_k».proof.Proof.Gen.Norm.Points
public import proofs.«01_k».proof.Proof.Gen.Norm.Frame
public import proofs.«01_k».proof.Proof.Gen.NormIdeal
public import proofs.«01_k».proof.Proof.Gen.NormIdeal.Skeleton
public import proofs.«01_k».proof.Proof.Gen.NormIdeal.Launch
public import proofs.«01_k».proof.Proof.Gen.NormIdeal.Points
public import proofs.«01_k».proof.Proof.Gen.NormIdeal.Frame
public import proofs.«01_k».proof.Proof.Gen.NormIdeal.Value
public import proofs.«01_k».proof.Proof.Gen.NormRefIdeal
public import proofs.«01_k».proof.Proof.Gen.NormRefIdeal.Run
public import proofs.«01_k».proof.Proof.Gen.NormRefIdeal.Read
public import proofs.«01_k».proof.Proof.Gen.Up
public import proofs.«01_k».proof.Proof.Gen.Up.Skeleton
public import proofs.«01_k».proof.Proof.Gen.Up.Launch
public import proofs.«01_k».proof.Proof.Gen.Up.Points
public import proofs.«01_k».proof.Proof.Gen.Up.Frame
public import proofs.«01_k».proof.Proof.Gen.UpIdeal
public import proofs.«01_k».proof.Proof.Gen.UpIdeal.Skeleton
public import proofs.«01_k».proof.Proof.Gen.UpIdeal.Launch
public import proofs.«01_k».proof.Proof.Gen.UpIdeal.Points
public import proofs.«01_k».proof.Proof.Gen.UpIdeal.Frame
public import proofs.«01_k».proof.Proof.Gen.UpIdeal.Value
public import proofs.«01_k».proof.Proof.Gen.UpRefIdeal
public import proofs.«01_k».proof.Proof.Gen.UpRefIdeal.Run
public import proofs.«01_k».proof.Proof.Gen.UpRefIdeal.Read
public import proofs.«01_k».proof.Proof.Gen.Mixer
public import proofs.«01_k».proof.Proof.Gen.Mixer.Skeleton
public import proofs.«01_k».proof.Proof.Gen.Mixer.Launch
public import proofs.«01_k».proof.Proof.Gen.Mixer.Points
public import proofs.«01_k».proof.Proof.Gen.Mixer.Frame
public import proofs.«01_k».proof.Proof.Gen.MixerIdeal
public import proofs.«01_k».proof.Proof.Gen.MixerIdeal.Skeleton
public import proofs.«01_k».proof.Proof.Gen.MixerIdeal.Launch
public import proofs.«01_k».proof.Proof.Gen.MixerIdeal.Points
public import proofs.«01_k».proof.Proof.Gen.MixerIdeal.Frame
public import proofs.«01_k».proof.Proof.Gen.MixerIdeal.Value
public import proofs.«01_k».proof.Proof.Gen.MixerRefIdeal
public import proofs.«01_k».proof.Proof.Gen.MixerRefIdeal.Run
public import proofs.«01_k».proof.Proof.Gen.MixerRefIdeal.Read
public import proofs.«01_k».proof.Proof.Gen.Down
public import proofs.«01_k».proof.Proof.Gen.Down.Skeleton
public import proofs.«01_k».proof.Proof.Gen.Down.Launch
public import proofs.«01_k».proof.Proof.Gen.Down.Points
public import proofs.«01_k».proof.Proof.Gen.Down.Frame
public import proofs.«01_k».proof.Proof.Gen.DownIdeal
public import proofs.«01_k».proof.Proof.Gen.DownIdeal.Skeleton
public import proofs.«01_k».proof.Proof.Gen.DownIdeal.Launch
public import proofs.«01_k».proof.Proof.Gen.DownIdeal.Points
public import proofs.«01_k».proof.Proof.Gen.DownIdeal.Frame
public import proofs.«01_k».proof.Proof.Gen.DownIdeal.Value
public import proofs.«01_k».proof.Proof.Gen.DownRefIdeal
public import proofs.«01_k».proof.Proof.Gen.DownRefIdeal.Run
public import proofs.«01_k».proof.Proof.Gen.DownRefIdeal.Read
public import proofs.«01_k».proof.Proof.Gen.UpDx
public import proofs.«01_k».proof.Proof.Gen.UpDx.Skeleton
public import proofs.«01_k».proof.Proof.Gen.UpDx.Launch
public import proofs.«01_k».proof.Proof.Gen.UpDx.Points
public import proofs.«01_k».proof.Proof.Gen.UpDx.Frame
public import proofs.«01_k».proof.Proof.Gen.UpDxIdeal
public import proofs.«01_k».proof.Proof.Gen.UpDxIdeal.Skeleton
public import proofs.«01_k».proof.Proof.Gen.UpDxIdeal.Launch
public import proofs.«01_k».proof.Proof.Gen.UpDxIdeal.Points
public import proofs.«01_k».proof.Proof.Gen.UpDxIdeal.Frame
public import proofs.«01_k».proof.Proof.Gen.UpDxIdeal.Value
public import proofs.«01_k».proof.Proof.Gen.UpDxRefIdeal
public import proofs.«01_k».proof.Proof.Gen.UpDxRefIdeal.Run
public import proofs.«01_k».proof.Proof.Gen.UpDxRefIdeal.Read
public import proofs.«01_k».proof.Proof.Gen.DownDw
public import proofs.«01_k».proof.Proof.Gen.DownDw.Skeleton
public import proofs.«01_k».proof.Proof.Gen.DownDw.Launch
public import proofs.«01_k».proof.Proof.Gen.DownDw.Points
public import proofs.«01_k».proof.Proof.Gen.DownDw.Frame
public import proofs.«01_k».proof.Proof.Gen.DownDwIdeal
public import proofs.«01_k».proof.Proof.Gen.DownDwIdeal.Skeleton
public import proofs.«01_k».proof.Proof.Gen.DownDwIdeal.Launch
public import proofs.«01_k».proof.Proof.Gen.DownDwIdeal.Points
public import proofs.«01_k».proof.Proof.Gen.DownDwIdeal.Frame
public import proofs.«01_k».proof.Proof.Gen.DownDwIdeal.Value
public import proofs.«01_k».proof.Proof.Gen.DownDwRefIdeal
public import proofs.«01_k».proof.Proof.Gen.DownDwRefIdeal.Run
public import proofs.«01_k».proof.Proof.Gen.DownDwRefIdeal.Read
public import proofs.«01_k».proof.Proof.Gen.Adamw
public import proofs.«01_k».proof.Proof.Gen.Adamw.Skeleton
public import proofs.«01_k».proof.Proof.Gen.Adamw.Launch
public import proofs.«01_k».proof.Proof.Gen.Adamw.Points
public import proofs.«01_k».proof.Proof.Gen.Adamw.Frame
public import proofs.«01_k».proof.Proof.Gen.AdamwIdeal
public import proofs.«01_k».proof.Proof.Gen.AdamwIdeal.Skeleton
public import proofs.«01_k».proof.Proof.Gen.AdamwIdeal.Launch
public import proofs.«01_k».proof.Proof.Gen.AdamwIdeal.Points
public import proofs.«01_k».proof.Proof.Gen.AdamwIdeal.Frame
public import proofs.«01_k».proof.Proof.Gen.AdamwRefIdeal
public import proofs.«01_k».proof.Proof.Gen.AdamwRefIdeal.Run
public import proofs.«01_k».proof.Proof.Gen.AdamwRefIdeal.Read
public import proofs.«01_k».proof.Proof.Gen.Cast
public import proofs.«01_k».proof.Proof.Gen.Cast.Skeleton
public import proofs.«01_k».proof.Proof.Gen.Cast.Launch
public import proofs.«01_k».proof.Proof.Gen.Cast.Points
public import proofs.«01_k».proof.Proof.Gen.Cast.Frame
public import proofs.«01_k».proof.Proof.Gen.CastIdeal
public import proofs.«01_k».proof.Proof.Gen.CastIdeal.Skeleton
public import proofs.«01_k».proof.Proof.Gen.CastIdeal.Launch
public import proofs.«01_k».proof.Proof.Gen.CastIdeal.Points
public import proofs.«01_k».proof.Proof.Gen.CastIdeal.Frame
public import proofs.«01_k».proof.Proof.Gen.CastIdeal.Value
public import proofs.«01_k».proof.Proof.Gen.CastRefIdeal
public import proofs.«01_k».proof.Proof.Gen.CastRefIdeal.Run
public import proofs.«01_k».proof.Proof.Gen.CastRefIdeal.Read
public import proofs.«01_k».proof.Proof.Gen.AdamwOwn
public import proofs.«01_k».proof.Proof.Gen.AdamwOwn.Skeleton
public import proofs.«01_k».proof.Proof.Gen.AdamwOwn.Launch
public import proofs.«01_k».proof.Proof.Gen.AdamwOwn.Points
public import proofs.«01_k».proof.Proof.Gen.AdamwOwn.Frame
public import proofs.«01_k».proof.Proof.Gen.AdamwOwnIdeal
public import proofs.«01_k».proof.Proof.Gen.AdamwOwnIdeal.Skeleton
public import proofs.«01_k».proof.Proof.Gen.AdamwOwnIdeal.Launch
public import proofs.«01_k».proof.Proof.Gen.AdamwOwnIdeal.Points
public import proofs.«01_k».proof.Proof.Gen.AdamwOwnIdeal.Frame
public import proofs.«01_k».proof.Proof.Gen.AdamwOwnRefIdeal
public import proofs.«01_k».proof.Proof.Gen.AdamwOwnRefIdeal.Run
public import proofs.«01_k».proof.Proof.Gen.AdamwOwnRefIdeal.Read
public import proofs.«01_k».proof.Proof.Gen.NormFirst
public import proofs.«01_k».proof.Proof.Gen.NormFirst.Skeleton
public import proofs.«01_k».proof.Proof.Gen.NormFirst.Launch
public import proofs.«01_k».proof.Proof.Gen.NormFirst.Points
public import proofs.«01_k».proof.Proof.Gen.NormFirst.Frame
public import proofs.«01_k».proof.Proof.Gen.NormFirstIdeal
public import proofs.«01_k».proof.Proof.Gen.NormFirstIdeal.Skeleton
public import proofs.«01_k».proof.Proof.Gen.NormFirstIdeal.Launch
public import proofs.«01_k».proof.Proof.Gen.NormFirstIdeal.Points
public import proofs.«01_k».proof.Proof.Gen.NormFirstIdeal.Frame
public import proofs.«01_k».proof.Proof.Gen.NormFirstIdeal.Value
public import proofs.«01_k».proof.Proof.Gen.NormFirstRefIdeal
public import proofs.«01_k».proof.Proof.Gen.NormFirstRefIdeal.Run
public import proofs.«01_k».proof.Proof.Gen.NormFirstRefIdeal.Read
public import proofs.«01_k».proof.Proof.Gen.InProj
public import proofs.«01_k».proof.Proof.Gen.InProj.Skeleton
public import proofs.«01_k».proof.Proof.Gen.InProj.Launch
public import proofs.«01_k».proof.Proof.Gen.InProj.Points
public import proofs.«01_k».proof.Proof.Gen.InProj.Frame
public import proofs.«01_k».proof.Proof.Gen.InProjIdeal
public import proofs.«01_k».proof.Proof.Gen.InProjIdeal.Skeleton
public import proofs.«01_k».proof.Proof.Gen.InProjIdeal.Launch
public import proofs.«01_k».proof.Proof.Gen.InProjIdeal.Points
public import proofs.«01_k».proof.Proof.Gen.InProjIdeal.Frame
public import proofs.«01_k».proof.Proof.Gen.InProjIdeal.Value
public import proofs.«01_k».proof.Proof.Gen.InProjRefIdeal
public import proofs.«01_k».proof.Proof.Gen.InProjRefIdeal.Run
public import proofs.«01_k».proof.Proof.Gen.InProjRefIdeal.Read
public import proofs.«01_k».proof.Proof.Gen.InProjDx
public import proofs.«01_k».proof.Proof.Gen.InProjDx.Skeleton
public import proofs.«01_k».proof.Proof.Gen.InProjDx.Launch
public import proofs.«01_k».proof.Proof.Gen.InProjDx.Points
public import proofs.«01_k».proof.Proof.Gen.InProjDx.Frame
public import proofs.«01_k».proof.Proof.Gen.InProjDxIdeal
public import proofs.«01_k».proof.Proof.Gen.InProjDxIdeal.Skeleton
public import proofs.«01_k».proof.Proof.Gen.InProjDxIdeal.Launch
public import proofs.«01_k».proof.Proof.Gen.InProjDxIdeal.Points
public import proofs.«01_k».proof.Proof.Gen.InProjDxIdeal.Frame
public import proofs.«01_k».proof.Proof.Gen.InProjDxIdeal.Value
public import proofs.«01_k».proof.Proof.Gen.InProjDxRefIdeal
public import proofs.«01_k».proof.Proof.Gen.InProjDxRefIdeal.Run
public import proofs.«01_k».proof.Proof.Gen.InProjDxRefIdeal.Read
public import proofs.«01_k».proof.Proof.Gen.InProjDw
public import proofs.«01_k».proof.Proof.Gen.InProjDw.Skeleton
public import proofs.«01_k».proof.Proof.Gen.InProjDw.Launch
public import proofs.«01_k».proof.Proof.Gen.InProjDw.Points
public import proofs.«01_k».proof.Proof.Gen.InProjDw.Frame
public import proofs.«01_k».proof.Proof.Gen.InProjDwIdeal
public import proofs.«01_k».proof.Proof.Gen.InProjDwIdeal.Skeleton
public import proofs.«01_k».proof.Proof.Gen.InProjDwIdeal.Launch
public import proofs.«01_k».proof.Proof.Gen.InProjDwIdeal.Points
public import proofs.«01_k».proof.Proof.Gen.InProjDwIdeal.Frame
public import proofs.«01_k».proof.Proof.Gen.InProjDwIdeal.Value
public import proofs.«01_k».proof.Proof.Gen.InProjDwRefIdeal
public import proofs.«01_k».proof.Proof.Gen.InProjDwRefIdeal.Run
public import proofs.«01_k».proof.Proof.Gen.InProjDwRefIdeal.Read
public import proofs.«01_k».proof.Proof.Gen.OutProj
public import proofs.«01_k».proof.Proof.Gen.OutProj.Skeleton
public import proofs.«01_k».proof.Proof.Gen.OutProj.Launch
public import proofs.«01_k».proof.Proof.Gen.OutProj.Points
public import proofs.«01_k».proof.Proof.Gen.OutProj.Frame
public import proofs.«01_k».proof.Proof.Gen.OutProjIdeal
public import proofs.«01_k».proof.Proof.Gen.OutProjIdeal.Skeleton
public import proofs.«01_k».proof.Proof.Gen.OutProjIdeal.Launch
public import proofs.«01_k».proof.Proof.Gen.OutProjIdeal.Points
public import proofs.«01_k».proof.Proof.Gen.OutProjIdeal.Frame
public import proofs.«01_k».proof.Proof.Gen.OutProjIdeal.Value
public import proofs.«01_k».proof.Proof.Gen.OutProjRefIdeal
public import proofs.«01_k».proof.Proof.Gen.OutProjRefIdeal.Run
public import proofs.«01_k».proof.Proof.Gen.OutProjRefIdeal.Read
public import proofs.«01_k».proof.Proof.Gen.OutProjDx
public import proofs.«01_k».proof.Proof.Gen.OutProjDx.Skeleton
public import proofs.«01_k».proof.Proof.Gen.OutProjDx.Launch
public import proofs.«01_k».proof.Proof.Gen.OutProjDx.Points
public import proofs.«01_k».proof.Proof.Gen.OutProjDx.Frame
public import proofs.«01_k».proof.Proof.Gen.OutProjDxIdeal
public import proofs.«01_k».proof.Proof.Gen.OutProjDxIdeal.Skeleton
public import proofs.«01_k».proof.Proof.Gen.OutProjDxIdeal.Launch
public import proofs.«01_k».proof.Proof.Gen.OutProjDxIdeal.Points
public import proofs.«01_k».proof.Proof.Gen.OutProjDxIdeal.Frame
public import proofs.«01_k».proof.Proof.Gen.OutProjDxIdeal.Value
public import proofs.«01_k».proof.Proof.Gen.OutProjDxRefIdeal
public import proofs.«01_k».proof.Proof.Gen.OutProjDxRefIdeal.Run
public import proofs.«01_k».proof.Proof.Gen.OutProjDxRefIdeal.Read
public import proofs.«01_k».proof.Proof.Gen.OutProjDw
public import proofs.«01_k».proof.Proof.Gen.OutProjDw.Skeleton
public import proofs.«01_k».proof.Proof.Gen.OutProjDw.Launch
public import proofs.«01_k».proof.Proof.Gen.OutProjDw.Points
public import proofs.«01_k».proof.Proof.Gen.OutProjDw.Frame
public import proofs.«01_k».proof.Proof.Gen.OutProjDwIdeal
public import proofs.«01_k».proof.Proof.Gen.OutProjDwIdeal.Skeleton
public import proofs.«01_k».proof.Proof.Gen.OutProjDwIdeal.Launch
public import proofs.«01_k».proof.Proof.Gen.OutProjDwIdeal.Points
public import proofs.«01_k».proof.Proof.Gen.OutProjDwIdeal.Frame
public import proofs.«01_k».proof.Proof.Gen.OutProjDwIdeal.Value
public import proofs.«01_k».proof.Proof.Gen.OutProjDwRefIdeal
public import proofs.«01_k».proof.Proof.Gen.OutProjDwRefIdeal.Run
public import proofs.«01_k».proof.Proof.Gen.OutProjDwRefIdeal.Read
public import proofs.«01_k».proof.Proof.Gen.UpDw
public import proofs.«01_k».proof.Proof.Gen.UpDw.Skeleton
public import proofs.«01_k».proof.Proof.Gen.UpDw.Launch
public import proofs.«01_k».proof.Proof.Gen.UpDw.Points
public import proofs.«01_k».proof.Proof.Gen.UpDw.Frame
public import proofs.«01_k».proof.Proof.Gen.UpDwIdeal
public import proofs.«01_k».proof.Proof.Gen.UpDwIdeal.Skeleton
public import proofs.«01_k».proof.Proof.Gen.UpDwIdeal.Launch
public import proofs.«01_k».proof.Proof.Gen.UpDwIdeal.Points
public import proofs.«01_k».proof.Proof.Gen.UpDwIdeal.Frame
public import proofs.«01_k».proof.Proof.Gen.UpDwIdeal.Value
public import proofs.«01_k».proof.Proof.Gen.UpDwRefIdeal
public import proofs.«01_k».proof.Proof.Gen.UpDwRefIdeal.Run
public import proofs.«01_k».proof.Proof.Gen.UpDwRefIdeal.Read
public import proofs.«01_k».proof.Proof.Gen.CastFirst
public import proofs.«01_k».proof.Proof.Gen.CastFirst.Skeleton
public import proofs.«01_k».proof.Proof.Gen.CastFirst.Launch
public import proofs.«01_k».proof.Proof.Gen.CastFirst.Points
public import proofs.«01_k».proof.Proof.Gen.CastFirst.Frame
public import proofs.«01_k».proof.Proof.Gen.CastFirstIdeal
public import proofs.«01_k».proof.Proof.Gen.CastFirstIdeal.Skeleton
public import proofs.«01_k».proof.Proof.Gen.CastFirstIdeal.Launch
public import proofs.«01_k».proof.Proof.Gen.CastFirstIdeal.Points
public import proofs.«01_k».proof.Proof.Gen.CastFirstIdeal.Frame
public import proofs.«01_k».proof.Proof.Gen.CastFirstIdeal.Value
public import proofs.«01_k».proof.Proof.Gen.CastFirstRefIdeal
public import proofs.«01_k».proof.Proof.Gen.CastFirstRefIdeal.Run
public import proofs.«01_k».proof.Proof.Gen.CastFirstRefIdeal.Read
public import proofs.«01_k».proof.Proof.Gen.Gather
public import proofs.«01_k».proof.Proof.Gen.Gather.Skeleton
public import proofs.«01_k».proof.Proof.Gen.Gather.Launch
public import proofs.«01_k».proof.Proof.Gen.Gather.Points
public import proofs.«01_k».proof.Proof.Gen.GatherIdeal
public import proofs.«01_k».proof.Proof.Gen.GatherIdeal.Skeleton
public import proofs.«01_k».proof.Proof.Gen.GatherIdeal.Launch
public import proofs.«01_k».proof.Proof.Gen.GatherIdeal.Points
public import proofs.«01_k».proof.Proof.Gen.GatherRefIdeal
public import proofs.«01_k».proof.Proof.Gen.GatherRefIdeal.Launch
public import proofs.«01_k».proof.Proof.Val.Relu2
public import proofs.«01_k».proof.Proof.Val.NormBwd
public import proofs.«01_k».proof.Proof.Val.Loss
public import proofs.«01_k».proof.Proof.Val.MixerBwd
public import proofs.«01_k».proof.Proof.Val.Norm
public import proofs.«01_k».proof.Proof.Val.Up
public import proofs.«01_k».proof.Proof.Val.Mixer
public import proofs.«01_k».proof.Proof.Val.Down
public import proofs.«01_k».proof.Proof.Val.UpDx
public import proofs.«01_k».proof.Proof.Val.DownDw
public import proofs.«01_k».proof.Proof.Val.Adamw
public import proofs.«01_k».proof.Proof.Val.Cast
public import proofs.«01_k».proof.Proof.Val.Gather
public import proofs.«01_k».proof.Proof.Val.AdamwOwn
public import proofs.«01_k».proof.Proof.Val.NormFirst
public import proofs.«01_k».proof.Proof.Val.InProj
public import proofs.«01_k».proof.Proof.Val.InProjDx
public import proofs.«01_k».proof.Proof.Val.InProjDw
public import proofs.«01_k».proof.Proof.Val.OutProj
public import proofs.«01_k».proof.Proof.Val.OutProjDx
public import proofs.«01_k».proof.Proof.Val.OutProjDw
public import proofs.«01_k».proof.Proof.Val.UpDw
public import proofs.«01_k».proof.Proof.Val.CastFirst
public import proofs.«01_k».proof.Proof.Val.AdamwOwnRef
public import Idealize.ShloMosaic.Lib.Claim
public import Idealize.ShloMosaic.Lib.Quiescent

@[expose] public section

noncomputable section

namespace Cert.Proof

open Idealize.ShloMosaic Idealize.SL.Sem

/-- The squared ReLU's gradient: kernel and `jax.vjp` leave the same array. -/
theorem relu2_algebraic : Cert.algebraic_Relu2Ideal_Relu2RefIdeal := by
  pair_intro
  · run_from Cert.Relu2Ideal.Gen.run_main m g
  · run_from Cert.Relu2RefIdeal.Value.run m' g'
    exact (Cert.Relu2RefIdeal.Read.val_main_v15_eq _ _ _).trans
      ((Cert.Relu2RefIdeal.Final.final _ _ _).trans (Cert.Relu2Ideal.Final.final m c).symm)

/-- The mixer's gradients: kernel and `jax.vjp` leave the same four arrays where the pooled values, their cotangents, the weights and
    the scales are finite. -/
theorem mixerBwd_algebraic : Cert.algebraic_MixerBwdIdeal_MixerBwdRefIdeal_pre_pool_finite := by
  pair_intro
  · run_from Cert.MixerBwdIdeal.Gen.run_main m g
  · run_from Cert.MixerBwdRefIdeal.Value.run m' g'
    all_goals obtain ⟨hP, hY, hW, hS⟩ := hpre c
    all_goals obtain ⟨h0, h1, h2, h3, h4⟩ := hagree c
    · refine (Cert.MixerBwdRefIdeal.Read.val_main_v237_eq (Idealize.ShloMosaic.StableHlo.launchContents m' c)).trans ?_
      change Cert.MixerBwdRefIdeal.Read.val_main_v237 (F := Ideal) (m' ((c.tc : Thread Cert.MixerBwdRefIdeal.nD Cert.MixerBwdRefIdeal.τ).loc Cert.MixerBwdRefIdeal.main_arg0)) (m' ((c.tc : Thread Cert.MixerBwdRefIdeal.nD Cert.MixerBwdRefIdeal.τ).loc Cert.MixerBwdRefIdeal.main_arg1)) (m' ((c.tc : Thread Cert.MixerBwdRefIdeal.nD Cert.MixerBwdRefIdeal.τ).loc Cert.MixerBwdRefIdeal.main_arg2)) (m' ((c.tc : Thread Cert.MixerBwdRefIdeal.nD Cert.MixerBwdRefIdeal.τ).loc Cert.MixerBwdRefIdeal.main_arg3)) (m' ((c.tc : Thread Cert.MixerBwdRefIdeal.nD Cert.MixerBwdRefIdeal.τ).loc Cert.MixerBwdRefIdeal.main_arg4)) = _
      rw [h0, h1, h2, h3, h4, Cert.MixerBwdIdeal.Final.final8]
      exact Cert.MixerBwdRefIdeal.Final.final8 _ _ _ _ _ (Cert.MixerBwdRefIdeal.Final.finite_ddif _ _ _ _ _ hY hW hS)
    · refine (Cert.MixerBwdRefIdeal.Read.val_main_v225_eq (Idealize.ShloMosaic.StableHlo.launchContents m' c)).trans ?_
      change Cert.MixerBwdRefIdeal.Read.val_main_v225 (F := Ideal) (m' ((c.tc : Thread Cert.MixerBwdRefIdeal.nD Cert.MixerBwdRefIdeal.τ).loc Cert.MixerBwdRefIdeal.main_arg0)) (m' ((c.tc : Thread Cert.MixerBwdRefIdeal.nD Cert.MixerBwdRefIdeal.τ).loc Cert.MixerBwdRefIdeal.main_arg1)) = _
      rw [h0, h1, Cert.MixerBwdIdeal.Final.final9]
      exact Cert.MixerBwdRefIdeal.Final.final9 _ _
    · refine (Cert.MixerBwdRefIdeal.Read.val_main_v127_eq (Idealize.ShloMosaic.StableHlo.launchContents m' c)).trans ?_
      change Cert.MixerBwdRefIdeal.Read.val_main_v127 (F := Ideal) (m' ((c.tc : Thread Cert.MixerBwdRefIdeal.nD Cert.MixerBwdRefIdeal.τ).loc Cert.MixerBwdRefIdeal.main_arg0)) (m' ((c.tc : Thread Cert.MixerBwdRefIdeal.nD Cert.MixerBwdRefIdeal.τ).loc Cert.MixerBwdRefIdeal.main_arg1)) (m' ((c.tc : Thread Cert.MixerBwdRefIdeal.nD Cert.MixerBwdRefIdeal.τ).loc Cert.MixerBwdRefIdeal.main_arg4)) = _
      rw [h0, h1, h4, Cert.MixerBwdIdeal.Final.final10]
      exact Cert.MixerBwdRefIdeal.Final.final10 _ _ _ (Cert.MixerBwdRefIdeal.Final.finite_pv _ _ _ _ _ hP)
    · refine (Cert.MixerBwdRefIdeal.Read.val_main_v238_eq (Idealize.ShloMosaic.StableHlo.launchContents m' c)).trans ?_
      change Cert.MixerBwdRefIdeal.Read.val_main_v238 (F := Ideal) (m' ((c.tc : Thread Cert.MixerBwdRefIdeal.nD Cert.MixerBwdRefIdeal.τ).loc Cert.MixerBwdRefIdeal.main_arg0)) (m' ((c.tc : Thread Cert.MixerBwdRefIdeal.nD Cert.MixerBwdRefIdeal.τ).loc Cert.MixerBwdRefIdeal.main_arg1)) (m' ((c.tc : Thread Cert.MixerBwdRefIdeal.nD Cert.MixerBwdRefIdeal.τ).loc Cert.MixerBwdRefIdeal.main_arg3)) = _
      rw [h0, h1, h3, Cert.MixerBwdIdeal.Final.final11]
      exact Cert.MixerBwdRefIdeal.Final.final11 _ _ _ (Cert.MixerBwdRefIdeal.Final.finite_pv _ _ _ _ _ hP)

/-- The norm's gradients: kernel and `jax.vjp` leave the same two arrays. -/
theorem normBwd_algebraic : Cert.algebraic_NormBwdIdeal_NormBwdRefIdeal := by
  pair_intro
  · run_from Cert.NormBwdIdeal.Gen.run_main m g
  · run_from Cert.NormBwdRefIdeal.Value.run m' g'
    · obtain ⟨h0, h1, h2, h3⟩ := hagree c
      refine (Cert.NormBwdRefIdeal.Read.val_main_v39_eq m' c).trans ?_
      rw [h0, h1, h2, h3, Cert.NormBwdIdeal.Final.final4]
      exact Cert.NormBwdRefIdeal.Final.final39 _ _ _ _
    · exact (Cert.NormBwdRefIdeal.Read.val_main_v40_eq _ _).trans
        ((Cert.NormBwdRefIdeal.Final.final40 _ _).trans (Cert.NormBwdIdeal.Final.final5 m c).symm)

/-- The loss and its gradients: kernel and `jax.value_and_grad` leave the same three arrays. -/
theorem loss_algebraic : Cert.algebraic_LossIdeal_LossRefIdeal := by
  pair_intro
  · run_from Cert.LossIdeal.Gen.run_main m g
  · run_from Cert.LossRefIdeal.Value.run m' g'
    · exact (Cert.LossRefIdeal.Read.val_main_v51_eq _ _ _).trans
        ((Cert.LossRefIdeal.Final.final51 _ _ _).trans (Cert.LossIdeal.Final.final3 m c).symm)
    · obtain ⟨h0, h1, h2⟩ := hagree c
      refine (Cert.LossRefIdeal.Read.val_main_v52_eq m' c).trans ?_
      rw [h0, h1, h2, Cert.LossIdeal.Final.final4]
      exact Cert.LossRefIdeal.Final.final52 _ _ _
    · exact (Cert.LossRefIdeal.Read.val_main_v53_eq _ _ _).trans
        ((Cert.LossRefIdeal.Final.final53 _ _ _).trans (Cert.LossIdeal.Final.final5 m c).symm)

/-- The forward norm: kernel and forward lines leave the same two arrays. -/
theorem norm_algebraic : Cert.algebraic_NormIdeal_NormRefIdeal := by
  pair_intro
  · run_from Cert.NormIdeal.Gen.run_main m g
  · run_from Cert.NormRefIdeal.Value.run m' g'
    · exact (Cert.NormRefIdeal.Read.val_main_v13_eq _ _).trans
        ((Cert.NormRefIdeal.Final.final13 _ _).trans (Cert.NormIdeal.Final.final2 m c).symm)
    · exact (Cert.NormRefIdeal.Read.val_main_v14_eq _).trans
        ((Cert.NormRefIdeal.Final.final14 _).trans (Cert.NormIdeal.Final.final3 m c).symm)

/-- The product with the squared ReLU: kernel and forward lines leave the same two arrays. -/
theorem up_algebraic : Cert.algebraic_UpIdeal_UpRefIdeal := by
  pair_intro
  · run_from Cert.UpIdeal.Gen.run_main m g
  · run_from Cert.UpRefIdeal.Value.run m' g'
    · exact (Cert.UpRefIdeal.Read.val_main_v4_eq _ _).trans
        ((Cert.UpRefIdeal.Final.final4 _ _).trans (Cert.UpIdeal.Final.final2 m c).symm)
    · exact (Cert.UpRefIdeal.Read.val_main_v6_eq _ _).trans
        ((Cert.UpRefIdeal.Final.final6 _ _).trans (Cert.UpIdeal.Final.final3 m c).symm)

/-- The token mixer: kernel and forward lines leave the same array where the pooled values are finite. -/
theorem mixer_algebraic : Cert.algebraic_MixerIdeal_MixerRefIdeal_pre_pool_input_finite := by
  pair_intro
  · run_from Cert.MixerIdeal.Gen.run_main m g
  · run_from Cert.MixerRefIdeal.Value.run m' g'
    obtain ⟨h0, h1, h2, h3⟩ := hagree c
    refine (Cert.MixerRefIdeal.Read.val_main_v108_eq m' c).trans ?_
    rw [h0, h1, h2, h3, Cert.MixerIdeal.Final.final5]
    exact Cert.MixerRefIdeal.Final.final108 _ _ _ _ (Cert.MixerRefIdeal.Final.finite_pv _ _ _ _ (hpre c))

/-- The down projection's product: kernel and reference leave the same array. -/
theorem down_algebraic : Cert.algebraic_DownIdeal_DownRefIdeal := by
  pair_intro
  · run_from Cert.DownIdeal.Gen.run_main m g
  · run_from Cert.DownRefIdeal.Value.run m' g'
    exact (Cert.DownRefIdeal.Read.val_main_v3_eq _ _ _).trans
      ((Cert.DownRefIdeal.Final.final3 _ _ _).trans (Cert.DownIdeal.Final.final3 m c).symm)

set_option maxRecDepth 16384 in
/-- The up projection's gradient for its input: kernel and `jax.vjp` leave the same array. -/
theorem upDx_algebraic : Cert.algebraic_UpDxIdeal_UpDxRefIdeal := by
  pair_intro
  · run_from Cert.UpDxIdeal.Gen.run_main m g
  · run_from Cert.UpDxRefIdeal.Value.run m' g'
    exact (Cert.UpDxRefIdeal.Read.val_main_v6_eq _ _).trans
      ((Cert.UpDxRefIdeal.Final.final6 _ _).trans (Cert.UpDxIdeal.Final.final2 m c).symm)

/-- The down projection's gradient for its weights: kernel and `jax.vjp` leave the same array. -/
theorem downDw_algebraic : Cert.algebraic_DownDwIdeal_DownDwRefIdeal := by
  pair_intro
  · run_from Cert.DownDwIdeal.Gen.run_main m g
  · run_from Cert.DownDwRefIdeal.Value.run m' g'
    exact (Cert.DownDwRefIdeal.Read.val_main_v8_eq _ _).trans
      ((Cert.DownDwRefIdeal.Final.final8 _ _).trans (Cert.DownDwIdeal.Final.final2 m c).symm)

/-- The optimiser's step: kernel and reference leave the same four arrays. -/
theorem adamw_algebraic : Cert.algebraic_AdamwIdeal_AdamwRefIdeal := by
  intro m g m' g' _ hagree
  refine ⟨fun c => Cert.AdamwForm.gradA (m ((c.tc : Thread Cert.AdamwIdeal.nD Cert.AdamwIdeal.τ).loc Cert.AdamwIdeal.main_arg1)),
    fun c => Cert.AdamwForm.stepA (m ((c.tc : Thread Cert.AdamwIdeal.nD Cert.AdamwIdeal.τ).loc Cert.AdamwIdeal.main_arg1)) (m ((c.tc : Thread Cert.AdamwIdeal.nD Cert.AdamwIdeal.τ).loc Cert.AdamwIdeal.main_arg2)) (m ((c.tc : Thread Cert.AdamwIdeal.nD Cert.AdamwIdeal.τ).loc Cert.AdamwIdeal.main_arg3)) (m ((c.tc : Thread Cert.AdamwIdeal.nD Cert.AdamwIdeal.τ).loc Cert.AdamwIdeal.main_arg4)),
    fun c => Cert.AdamwForm.momA (m ((c.tc : Thread Cert.AdamwIdeal.nD Cert.AdamwIdeal.τ).loc Cert.AdamwIdeal.main_arg1)) (m ((c.tc : Thread Cert.AdamwIdeal.nD Cert.AdamwIdeal.τ).loc Cert.AdamwIdeal.main_arg3)), fun c => Cert.AdamwForm.velA (m ((c.tc : Thread Cert.AdamwIdeal.nD Cert.AdamwIdeal.τ).loc Cert.AdamwIdeal.main_arg1)) (m ((c.tc : Thread Cert.AdamwIdeal.nD Cert.AdamwIdeal.τ).loc Cert.AdamwIdeal.main_arg4)), ?_, ?_⟩
  · exact (θ_run _ _ _).mono (fun r h c => ⟨(h.1 c).1, (h.1 c).2.1, (h.1 c).2.2.1, (h.1 c).2.2.2, h.2 c⟩)
      (Idealize.ShloMosaic.θ_run_and (Cert.AdamwIdeal.Final.run m trivial g) (Cert.AdamwIdeal.Gen.unchanged m g trivial))
  · refine (θ_run _ _ _).mono (fun r h c => ?_) (Cert.AdamwRefIdeal.Final.run m' g')
    obtain ⟨h0, h1, h2, h3, h4⟩ := hagree c
    obtain ⟨a, b, d, e, f⟩ := h c
    rw [h1] at a
    rw [h1, h2, h3, h4] at b
    rw [h1, h3] at d
    rw [h1, h4] at e
    exact ⟨a, b, d, e, f⟩

/-- The cast of the later layers' weights: kernel and reference leave the same array. -/
theorem cast_algebraic : Cert.algebraic_CastIdeal_CastRefIdeal := by
  pair_intro
  · run_from Cert.CastIdeal.Gen.run_main m g
  · run_from Cert.CastRefIdeal.Value.run m' g'
    exact (Cert.CastRefIdeal.Read.val_main_v1_eq _).trans
      ((Cert.CastRefIdeal.Final.final1 _).trans (Cert.CastIdeal.Final.final1 m c).symm)

/-- The optimiser's step with the device's own part: kernel and reference leave the same four arrays when the device's number
    names one of the eight blocks. -/
theorem adamwOwn_algebraic : Cert.algebraic_AdamwOwnIdeal_AdamwOwnRefIdeal := by
  intro m g m' g' hp hagree
  have hw := Cert.AdamwOwnForm.me_lt _ _ _ _ _ _ (hp 0)
  have hO := Cert.AdamwOwnIdeal.Final.ok_of_lt m hw
  refine ⟨fun c => Cert.AdamwOwnForm.gradA (m ((c.tc : Thread Cert.AdamwOwnIdeal.nD Cert.AdamwOwnIdeal.τ).loc Cert.AdamwOwnIdeal.main_arg0)) (m ((c.tc : Thread Cert.AdamwOwnIdeal.nD Cert.AdamwOwnIdeal.τ).loc Cert.AdamwOwnIdeal.main_arg1)) (m ((c.tc : Thread Cert.AdamwOwnIdeal.nD Cert.AdamwOwnIdeal.τ).loc Cert.AdamwOwnIdeal.main_arg2)),
    fun c => Cert.AdamwOwnForm.stepA (m ((c.tc : Thread Cert.AdamwOwnIdeal.nD Cert.AdamwOwnIdeal.τ).loc Cert.AdamwOwnIdeal.main_arg0)) (m ((c.tc : Thread Cert.AdamwOwnIdeal.nD Cert.AdamwOwnIdeal.τ).loc Cert.AdamwOwnIdeal.main_arg1)) (m ((c.tc : Thread Cert.AdamwOwnIdeal.nD Cert.AdamwOwnIdeal.τ).loc Cert.AdamwOwnIdeal.main_arg2)) (m ((c.tc : Thread Cert.AdamwOwnIdeal.nD Cert.AdamwOwnIdeal.τ).loc Cert.AdamwOwnIdeal.main_arg3)) (m ((c.tc : Thread Cert.AdamwOwnIdeal.nD Cert.AdamwOwnIdeal.τ).loc Cert.AdamwOwnIdeal.main_arg4)) (m ((c.tc : Thread Cert.AdamwOwnIdeal.nD Cert.AdamwOwnIdeal.τ).loc Cert.AdamwOwnIdeal.main_arg5)),
    fun c => Cert.AdamwOwnForm.momA (m ((c.tc : Thread Cert.AdamwOwnIdeal.nD Cert.AdamwOwnIdeal.τ).loc Cert.AdamwOwnIdeal.main_arg0)) (m ((c.tc : Thread Cert.AdamwOwnIdeal.nD Cert.AdamwOwnIdeal.τ).loc Cert.AdamwOwnIdeal.main_arg1)) (m ((c.tc : Thread Cert.AdamwOwnIdeal.nD Cert.AdamwOwnIdeal.τ).loc Cert.AdamwOwnIdeal.main_arg2)) (m ((c.tc : Thread Cert.AdamwOwnIdeal.nD Cert.AdamwOwnIdeal.τ).loc Cert.AdamwOwnIdeal.main_arg4)),
    fun c => Cert.AdamwOwnForm.velA (m ((c.tc : Thread Cert.AdamwOwnIdeal.nD Cert.AdamwOwnIdeal.τ).loc Cert.AdamwOwnIdeal.main_arg0)) (m ((c.tc : Thread Cert.AdamwOwnIdeal.nD Cert.AdamwOwnIdeal.τ).loc Cert.AdamwOwnIdeal.main_arg1)) (m ((c.tc : Thread Cert.AdamwOwnIdeal.nD Cert.AdamwOwnIdeal.τ).loc Cert.AdamwOwnIdeal.main_arg2)) (m ((c.tc : Thread Cert.AdamwOwnIdeal.nD Cert.AdamwOwnIdeal.τ).loc Cert.AdamwOwnIdeal.main_arg5)), ?_, ?_⟩
  · exact (θ_run _ _ _).mono (fun r h c => ⟨(h.1 c).1, (h.1 c).2.1, (h.1 c).2.2.1, (h.1 c).2.2.2, h.2 c⟩)
      (Idealize.ShloMosaic.θ_run_and (Cert.AdamwOwnIdeal.Final.run m hO hw g) (Cert.AdamwOwnIdeal.Gen.unchanged m g hO))
  · refine (θ_run _ _ _).mono (fun r h c => ?_) (Cert.AdamwOwnRefIdeal.Final.run m' g' fun c => ?_)
    · obtain ⟨h0, h1, h2, h3, h4, h5⟩ := hagree c
      obtain ⟨a, b, d, e, f⟩ := h c
      rw [h0, h1, h2] at a
      rw [h0, h1, h2, h3, h4, h5] at b
      rw [h0, h1, h2, h4] at d
      rw [h0, h1, h2, h5] at e
      exact ⟨a, b, d, e, f⟩
    · rw [(hagree c).1]
      exact Cert.AdamwOwnForm.me_lt _ _ _ _ _ _ (hp c)

/-- The first layer's first norm, backward: kernel and `jax.vjp` leave the same two arrays. -/
theorem normFirst_algebraic : Cert.algebraic_NormFirstIdeal_NormFirstRefIdeal := by
  pair_intro
  · run_from Cert.NormFirstIdeal.Gen.run_main m g
  · run_from Cert.NormFirstRefIdeal.Value.run m' g'
    · obtain ⟨h0, h1, h2, h3⟩ := hagree c
      refine (Cert.NormFirstRefIdeal.Read.val_main_v38_eq m' c).trans ?_
      rw [h0, h1, h2, h3, Cert.NormFirstIdeal.Final.final4]
      exact Cert.NormFirstRefIdeal.Final.final38 _ _ _ _
    · exact (Cert.NormFirstRefIdeal.Read.val_main_v39_eq _ _).trans
        ((Cert.NormFirstRefIdeal.Final.final39 _ _).trans (Cert.NormFirstIdeal.Final.final5 m c).symm)

/-- The mixer's input product: kernel and reference leave the same array. -/
theorem inProj_algebraic : Cert.algebraic_InProjIdeal_InProjRefIdeal := by
  pair_intro
  · run_from Cert.InProjIdeal.Gen.run_main m g
  · run_from Cert.InProjRefIdeal.Value.run m' g'
    exact (Cert.InProjRefIdeal.Read.val_main_v3_eq _ _).trans
      ((Cert.InProjRefIdeal.Final.final3 _ _).trans (Cert.InProjIdeal.Final.final2 m c).symm)

set_option maxRecDepth 16384 in
/-- The mixer's input product's gradient for its left operand: kernel and `jax.vjp` leave the same array. -/
theorem inProjDx_algebraic : Cert.algebraic_InProjDxIdeal_InProjDxRefIdeal := by
  pair_intro
  · run_from Cert.InProjDxIdeal.Gen.run_main m g
  · run_from Cert.InProjDxRefIdeal.Value.run m' g'
    exact (Cert.InProjDxRefIdeal.Read.val_main_v6_eq _ _).trans
      ((Cert.InProjDxRefIdeal.Final.final6 _ _).trans (Cert.InProjDxIdeal.Final.final2 m c).symm)

/-- The mixer's input product's gradient for its weights: kernel and `jax.vjp` leave the same array. -/
theorem inProjDw_algebraic : Cert.algebraic_InProjDwIdeal_InProjDwRefIdeal := by
  pair_intro
  · run_from Cert.InProjDwIdeal.Gen.run_main m g
  · run_from Cert.InProjDwRefIdeal.Value.run m' g'
    exact (Cert.InProjDwRefIdeal.Read.val_main_v9_eq _ _).trans
      ((Cert.InProjDwRefIdeal.Final.final9 _ _).trans (Cert.InProjDwIdeal.Final.final2 m c).symm)

/-- The mixer's output product: kernel and reference leave the same array. -/
theorem outProj_algebraic : Cert.algebraic_OutProjIdeal_OutProjRefIdeal := by
  pair_intro
  · run_from Cert.OutProjIdeal.Gen.run_main m g
  · run_from Cert.OutProjRefIdeal.Value.run m' g'
    exact (Cert.OutProjRefIdeal.Read.val_main_v3_eq _ _ _).trans
      ((Cert.OutProjRefIdeal.Final.final3 _ _ _).trans (Cert.OutProjIdeal.Final.final3 m c).symm)

/-- The mixer's output product's gradient for its left operand: kernel and `jax.vjp` leave the same array. -/
theorem outProjDx_algebraic : Cert.algebraic_OutProjDxIdeal_OutProjDxRefIdeal := by
  pair_intro
  · run_from Cert.OutProjDxIdeal.Gen.run_main m g
  · run_from Cert.OutProjDxRefIdeal.Value.run m' g'
    exact (Cert.OutProjDxRefIdeal.Read.val_main_v6_eq _ _).trans
      ((Cert.OutProjDxRefIdeal.Final.final6 _ _).trans (Cert.OutProjDxIdeal.Final.final2 m c).symm)

/-- The mixer's output product's gradient for its weights: kernel and `jax.vjp` leave the same array. -/
theorem outProjDw_algebraic : Cert.algebraic_OutProjDwIdeal_OutProjDwRefIdeal := by
  pair_intro
  · run_from Cert.OutProjDwIdeal.Gen.run_main m g
  · run_from Cert.OutProjDwRefIdeal.Value.run m' g'
    exact (Cert.OutProjDwRefIdeal.Read.val_main_v8_eq _ _).trans
      ((Cert.OutProjDwRefIdeal.Final.final8 _ _).trans (Cert.OutProjDwIdeal.Final.final2 m c).symm)

/-- The up projection's gradient for its weights: kernel and `jax.vjp` leave the same array. -/
theorem upDw_algebraic : Cert.algebraic_UpDwIdeal_UpDwRefIdeal := by
  pair_intro
  · run_from Cert.UpDwIdeal.Gen.run_main m g
  · run_from Cert.UpDwRefIdeal.Value.run m' g'
    exact (Cert.UpDwRefIdeal.Read.val_main_v9_eq _ _).trans
      ((Cert.UpDwRefIdeal.Final.final9 _ _).trans (Cert.UpDwIdeal.Final.final2 m c).symm)

/-- The cast of the first layer's weights: kernel and reference leave the same array. -/
theorem castFirst_algebraic : Cert.algebraic_CastFirstIdeal_CastFirstRefIdeal := by
  pair_intro
  · run_from Cert.CastFirstIdeal.Gen.run_main m g
  · run_from Cert.CastFirstRefIdeal.Value.run m' g'
    exact (Cert.CastFirstRefIdeal.Read.val_main_v1_eq _).trans
      ((Cert.CastFirstRefIdeal.Final.final1 _).trans (Cert.CastFirstIdeal.Final.final1 m c).symm)

/-- The reference of Relu2 runs, leaves its arguments alone, and has no semaphore. -/
theorem relu2_reference_frame (m : (ℓ : Loc Cert.Relu2RefIdeal.nD Cert.Relu2RefIdeal.τ Cert.Relu2RefIdeal.sig) → Buf (Elt Ideal) ℓ)
    (g : Dev Cert.Relu2RefIdeal.nD → PrngReg) :
    θ_run (Cert.Relu2RefIdeal.defs (F := Ideal)) (onTc (τ := Cert.Relu2RefIdeal.τ) (Cert.Relu2RefIdeal.main (F := Ideal))) ⟨m, fun _ => 0, g⟩
      (fun r => (∀ c : Dev Cert.Relu2RefIdeal.nD, r.2.mem ((c.tc : Thread Cert.Relu2RefIdeal.nD Cert.Relu2RefIdeal.τ).loc Cert.Relu2RefIdeal.main_arg0) = m ((c.tc : Thread Cert.Relu2RefIdeal.nD Cert.Relu2RefIdeal.τ).loc Cert.Relu2RefIdeal.main_arg0) ∧ r.2.mem ((c.tc : Thread Cert.Relu2RefIdeal.nD Cert.Relu2RefIdeal.τ).loc Cert.Relu2RefIdeal.main_arg1) = m ((c.tc : Thread Cert.Relu2RefIdeal.nD Cert.Relu2RefIdeal.τ).loc Cert.Relu2RefIdeal.main_arg1) ∧ r.2.mem ((c.tc : Thread Cert.Relu2RefIdeal.nD Cert.Relu2RefIdeal.τ).loc Cert.Relu2RefIdeal.main_arg2) = m ((c.tc : Thread Cert.Relu2RefIdeal.nD Cert.Relu2RefIdeal.τ).loc Cert.Relu2RefIdeal.main_arg2)) ∧ r.2.sem = fun _ => 0) :=
  (θ_run Cert.Relu2RefIdeal.defs _ _).mono (fun r h => ⟨fun c => (h c).2,
      Idealize.ShloMosaic.sem_eq_zero_of_no_sems (by decide) r.2⟩)
    (Cert.Relu2RefIdeal.Value.run (F := Ideal) m g)

/-- The reference of NormBwd runs, leaves its arguments alone, and has no semaphore. -/
theorem normBwd_reference_frame (m : (ℓ : Loc Cert.NormBwdRefIdeal.nD Cert.NormBwdRefIdeal.τ Cert.NormBwdRefIdeal.sig) → Buf (Elt Ideal) ℓ)
    (g : Dev Cert.NormBwdRefIdeal.nD → PrngReg) :
    θ_run (Cert.NormBwdRefIdeal.defs (F := Ideal)) (onTc (τ := Cert.NormBwdRefIdeal.τ) (Cert.NormBwdRefIdeal.main (F := Ideal))) ⟨m, fun _ => 0, g⟩
      (fun r => (∀ c : Dev Cert.NormBwdRefIdeal.nD, r.2.mem ((c.tc : Thread Cert.NormBwdRefIdeal.nD Cert.NormBwdRefIdeal.τ).loc Cert.NormBwdRefIdeal.main_arg0) = m ((c.tc : Thread Cert.NormBwdRefIdeal.nD Cert.NormBwdRefIdeal.τ).loc Cert.NormBwdRefIdeal.main_arg0) ∧ r.2.mem ((c.tc : Thread Cert.NormBwdRefIdeal.nD Cert.NormBwdRefIdeal.τ).loc Cert.NormBwdRefIdeal.main_arg1) = m ((c.tc : Thread Cert.NormBwdRefIdeal.nD Cert.NormBwdRefIdeal.τ).loc Cert.NormBwdRefIdeal.main_arg1) ∧ r.2.mem ((c.tc : Thread Cert.NormBwdRefIdeal.nD Cert.NormBwdRefIdeal.τ).loc Cert.NormBwdRefIdeal.main_arg2) = m ((c.tc : Thread Cert.NormBwdRefIdeal.nD Cert.NormBwdRefIdeal.τ).loc Cert.NormBwdRefIdeal.main_arg2) ∧ r.2.mem ((c.tc : Thread Cert.NormBwdRefIdeal.nD Cert.NormBwdRefIdeal.τ).loc Cert.NormBwdRefIdeal.main_arg3) = m ((c.tc : Thread Cert.NormBwdRefIdeal.nD Cert.NormBwdRefIdeal.τ).loc Cert.NormBwdRefIdeal.main_arg3)) ∧ r.2.sem = fun _ => 0) :=
  (θ_run Cert.NormBwdRefIdeal.defs _ _).mono (fun r h => ⟨fun c => (h c).2.2,
      Idealize.ShloMosaic.sem_eq_zero_of_no_sems (by decide) r.2⟩)
    (Cert.NormBwdRefIdeal.Value.run (F := Ideal) m g)

/-- The reference of Loss runs, leaves its arguments alone, and has no semaphore. -/
theorem loss_reference_frame (m : (ℓ : Loc Cert.LossRefIdeal.nD Cert.LossRefIdeal.τ Cert.LossRefIdeal.sig) → Buf (Elt Ideal) ℓ)
    (g : Dev Cert.LossRefIdeal.nD → PrngReg) :
    θ_run (Cert.LossRefIdeal.defs (F := Ideal)) (onTc (τ := Cert.LossRefIdeal.τ) (Cert.LossRefIdeal.main (F := Ideal))) ⟨m, fun _ => 0, g⟩
      (fun r => (∀ c : Dev Cert.LossRefIdeal.nD, r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0) ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1) ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)) ∧ r.2.sem = fun _ => 0) :=
  (θ_run Cert.LossRefIdeal.defs _ _).mono (fun r h => ⟨fun c => (h c).2.2.2,
      Idealize.ShloMosaic.sem_eq_zero_of_no_sems (by decide) r.2⟩)
    (Cert.LossRefIdeal.Value.run (F := Ideal) m g)

/-- The reference of MixerBwd runs, leaves its arguments alone, and has no semaphore. -/
theorem mixerBwd_reference_frame (m : (ℓ : Loc Cert.MixerBwdRefIdeal.nD Cert.MixerBwdRefIdeal.τ Cert.MixerBwdRefIdeal.sig) → Buf (Elt Ideal) ℓ)
    (g : Dev Cert.MixerBwdRefIdeal.nD → PrngReg) :
    θ_run (Cert.MixerBwdRefIdeal.defs (F := Ideal)) (onTc (τ := Cert.MixerBwdRefIdeal.τ) (Cert.MixerBwdRefIdeal.main (F := Ideal))) ⟨m, fun _ => 0, g⟩
      (fun r => (∀ c : Dev Cert.MixerBwdRefIdeal.nD, r.2.mem ((c.tc : Thread Cert.MixerBwdRefIdeal.nD Cert.MixerBwdRefIdeal.τ).loc Cert.MixerBwdRefIdeal.main_arg0) = m ((c.tc : Thread Cert.MixerBwdRefIdeal.nD Cert.MixerBwdRefIdeal.τ).loc Cert.MixerBwdRefIdeal.main_arg0) ∧ r.2.mem ((c.tc : Thread Cert.MixerBwdRefIdeal.nD Cert.MixerBwdRefIdeal.τ).loc Cert.MixerBwdRefIdeal.main_arg1) = m ((c.tc : Thread Cert.MixerBwdRefIdeal.nD Cert.MixerBwdRefIdeal.τ).loc Cert.MixerBwdRefIdeal.main_arg1) ∧ r.2.mem ((c.tc : Thread Cert.MixerBwdRefIdeal.nD Cert.MixerBwdRefIdeal.τ).loc Cert.MixerBwdRefIdeal.main_arg2) = m ((c.tc : Thread Cert.MixerBwdRefIdeal.nD Cert.MixerBwdRefIdeal.τ).loc Cert.MixerBwdRefIdeal.main_arg2) ∧ r.2.mem ((c.tc : Thread Cert.MixerBwdRefIdeal.nD Cert.MixerBwdRefIdeal.τ).loc Cert.MixerBwdRefIdeal.main_arg3) = m ((c.tc : Thread Cert.MixerBwdRefIdeal.nD Cert.MixerBwdRefIdeal.τ).loc Cert.MixerBwdRefIdeal.main_arg3) ∧ r.2.mem ((c.tc : Thread Cert.MixerBwdRefIdeal.nD Cert.MixerBwdRefIdeal.τ).loc Cert.MixerBwdRefIdeal.main_arg4) = m ((c.tc : Thread Cert.MixerBwdRefIdeal.nD Cert.MixerBwdRefIdeal.τ).loc Cert.MixerBwdRefIdeal.main_arg4)) ∧ r.2.sem = fun _ => 0) :=
  (θ_run Cert.MixerBwdRefIdeal.defs _ _).mono (fun r h => ⟨fun c => (h c).2.2.2.2,
      Idealize.ShloMosaic.sem_eq_zero_of_no_sems (by decide) r.2⟩)
    (Cert.MixerBwdRefIdeal.Value.run (F := Ideal) m g)

/-- The reference of Norm runs, leaves its arguments alone, and has no semaphore. -/
theorem norm_reference_frame (m : (ℓ : Loc Cert.NormRefIdeal.nD Cert.NormRefIdeal.τ Cert.NormRefIdeal.sig) → Buf (Elt Ideal) ℓ)
    (g : Dev Cert.NormRefIdeal.nD → PrngReg) :
    θ_run (Cert.NormRefIdeal.defs (F := Ideal)) (onTc (τ := Cert.NormRefIdeal.τ) (Cert.NormRefIdeal.main (F := Ideal))) ⟨m, fun _ => 0, g⟩
      (fun r => (∀ c : Dev Cert.NormRefIdeal.nD, r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0) ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1)) ∧ r.2.sem = fun _ => 0) :=
  (θ_run Cert.NormRefIdeal.defs _ _).mono (fun r h => ⟨fun c => (h c).2.2,
      Idealize.ShloMosaic.sem_eq_zero_of_no_sems (by decide) r.2⟩)
    (Cert.NormRefIdeal.Value.run (F := Ideal) m g)

/-- The reference of Up runs, leaves its arguments alone, and has no semaphore. -/
theorem up_reference_frame (m : (ℓ : Loc Cert.UpRefIdeal.nD Cert.UpRefIdeal.τ Cert.UpRefIdeal.sig) → Buf (Elt Ideal) ℓ)
    (g : Dev Cert.UpRefIdeal.nD → PrngReg) :
    θ_run (Cert.UpRefIdeal.defs (F := Ideal)) (onTc (τ := Cert.UpRefIdeal.τ) (Cert.UpRefIdeal.main (F := Ideal))) ⟨m, fun _ => 0, g⟩
      (fun r => (∀ c : Dev Cert.UpRefIdeal.nD, r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0) ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)) ∧ r.2.sem = fun _ => 0) :=
  (θ_run Cert.UpRefIdeal.defs _ _).mono (fun r h => ⟨fun c => (h c).2.2,
      Idealize.ShloMosaic.sem_eq_zero_of_no_sems (by decide) r.2⟩)
    (Cert.UpRefIdeal.Value.run (F := Ideal) m g)

/-- The reference of Mixer runs, leaves its arguments alone, and has no semaphore. -/
theorem mixer_reference_frame (m : (ℓ : Loc Cert.MixerRefIdeal.nD Cert.MixerRefIdeal.τ Cert.MixerRefIdeal.sig) → Buf (Elt Ideal) ℓ)
    (g : Dev Cert.MixerRefIdeal.nD → PrngReg) :
    θ_run (Cert.MixerRefIdeal.defs (F := Ideal)) (onTc (τ := Cert.MixerRefIdeal.τ) (Cert.MixerRefIdeal.main (F := Ideal))) ⟨m, fun _ => 0, g⟩
      (fun r => (∀ c : Dev Cert.MixerRefIdeal.nD, r.2.mem ((c.tc : Thread Cert.MixerRefIdeal.nD Cert.MixerRefIdeal.τ).loc Cert.MixerRefIdeal.main_arg0) = m ((c.tc : Thread Cert.MixerRefIdeal.nD Cert.MixerRefIdeal.τ).loc Cert.MixerRefIdeal.main_arg0) ∧ r.2.mem ((c.tc : Thread Cert.MixerRefIdeal.nD Cert.MixerRefIdeal.τ).loc Cert.MixerRefIdeal.main_arg1) = m ((c.tc : Thread Cert.MixerRefIdeal.nD Cert.MixerRefIdeal.τ).loc Cert.MixerRefIdeal.main_arg1) ∧ r.2.mem ((c.tc : Thread Cert.MixerRefIdeal.nD Cert.MixerRefIdeal.τ).loc Cert.MixerRefIdeal.main_arg2) = m ((c.tc : Thread Cert.MixerRefIdeal.nD Cert.MixerRefIdeal.τ).loc Cert.MixerRefIdeal.main_arg2) ∧ r.2.mem ((c.tc : Thread Cert.MixerRefIdeal.nD Cert.MixerRefIdeal.τ).loc Cert.MixerRefIdeal.main_arg3) = m ((c.tc : Thread Cert.MixerRefIdeal.nD Cert.MixerRefIdeal.τ).loc Cert.MixerRefIdeal.main_arg3)) ∧ r.2.sem = fun _ => 0) :=
  (θ_run Cert.MixerRefIdeal.defs _ _).mono (fun r h => ⟨fun c => (h c).2,
      Idealize.ShloMosaic.sem_eq_zero_of_no_sems (by decide) r.2⟩)
    (Cert.MixerRefIdeal.Value.run (F := Ideal) m g)

/-- The reference of Down runs, leaves its arguments alone, and has no semaphore. -/
theorem down_reference_frame (m : (ℓ : Loc Cert.DownRefIdeal.nD Cert.DownRefIdeal.τ Cert.DownRefIdeal.sig) → Buf (Elt Ideal) ℓ)
    (g : Dev Cert.DownRefIdeal.nD → PrngReg) :
    θ_run (Cert.DownRefIdeal.defs (F := Ideal)) (onTc (τ := Cert.DownRefIdeal.τ) (Cert.DownRefIdeal.main (F := Ideal))) ⟨m, fun _ => 0, g⟩
      (fun r => (∀ c : Dev Cert.DownRefIdeal.nD, r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0) ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1) ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)) ∧ r.2.sem = fun _ => 0) :=
  (θ_run Cert.DownRefIdeal.defs _ _).mono (fun r h => ⟨fun c => (h c).2,
      Idealize.ShloMosaic.sem_eq_zero_of_no_sems (by decide) r.2⟩)
    (Cert.DownRefIdeal.Value.run (F := Ideal) m g)

/-- The reference of UpDx runs, leaves its arguments alone, and has no semaphore. -/
theorem upDx_reference_frame (m : (ℓ : Loc Cert.UpDxRefIdeal.nD Cert.UpDxRefIdeal.τ Cert.UpDxRefIdeal.sig) → Buf (Elt Ideal) ℓ)
    (g : Dev Cert.UpDxRefIdeal.nD → PrngReg) :
    θ_run (Cert.UpDxRefIdeal.defs (F := Ideal)) (onTc (τ := Cert.UpDxRefIdeal.τ) (Cert.UpDxRefIdeal.main (F := Ideal))) ⟨m, fun _ => 0, g⟩
      (fun r => (∀ c : Dev Cert.UpDxRefIdeal.nD, r.2.mem ((c.tc : Thread Cert.UpDxRefIdeal.nD Cert.UpDxRefIdeal.τ).loc Cert.UpDxRefIdeal.main_arg0) = m ((c.tc : Thread Cert.UpDxRefIdeal.nD Cert.UpDxRefIdeal.τ).loc Cert.UpDxRefIdeal.main_arg0) ∧ r.2.mem ((c.tc : Thread Cert.UpDxRefIdeal.nD Cert.UpDxRefIdeal.τ).loc Cert.UpDxRefIdeal.main_arg1) = m ((c.tc : Thread Cert.UpDxRefIdeal.nD Cert.UpDxRefIdeal.τ).loc Cert.UpDxRefIdeal.main_arg1)) ∧ r.2.sem = fun _ => 0) :=
  (θ_run Cert.UpDxRefIdeal.defs _ _).mono (fun r h => ⟨fun c => (h c).2,
      Idealize.ShloMosaic.sem_eq_zero_of_no_sems (by decide) r.2⟩)
    (Cert.UpDxRefIdeal.Value.run (F := Ideal) m g)

/-- The reference of DownDw runs, leaves its arguments alone, and has no semaphore. -/
theorem downDw_reference_frame (m : (ℓ : Loc Cert.DownDwRefIdeal.nD Cert.DownDwRefIdeal.τ Cert.DownDwRefIdeal.sig) → Buf (Elt Ideal) ℓ)
    (g : Dev Cert.DownDwRefIdeal.nD → PrngReg) :
    θ_run (Cert.DownDwRefIdeal.defs (F := Ideal)) (onTc (τ := Cert.DownDwRefIdeal.τ) (Cert.DownDwRefIdeal.main (F := Ideal))) ⟨m, fun _ => 0, g⟩
      (fun r => (∀ c : Dev Cert.DownDwRefIdeal.nD, r.2.mem ((c.tc : Thread Cert.DownDwRefIdeal.nD Cert.DownDwRefIdeal.τ).loc Cert.DownDwRefIdeal.main_arg0) = m ((c.tc : Thread Cert.DownDwRefIdeal.nD Cert.DownDwRefIdeal.τ).loc Cert.DownDwRefIdeal.main_arg0) ∧ r.2.mem ((c.tc : Thread Cert.DownDwRefIdeal.nD Cert.DownDwRefIdeal.τ).loc Cert.DownDwRefIdeal.main_arg1) = m ((c.tc : Thread Cert.DownDwRefIdeal.nD Cert.DownDwRefIdeal.τ).loc Cert.DownDwRefIdeal.main_arg1)) ∧ r.2.sem = fun _ => 0) :=
  (θ_run Cert.DownDwRefIdeal.defs _ _).mono (fun r h => ⟨fun c => (h c).2,
      Idealize.ShloMosaic.sem_eq_zero_of_no_sems (by decide) r.2⟩)
    (Cert.DownDwRefIdeal.Value.run (F := Ideal) m g)

/-- The reference of Adamw runs, leaves its arguments alone, and has no semaphore. -/
theorem adamw_reference_frame (m : (ℓ : Loc Cert.AdamwRefIdeal.nD Cert.AdamwRefIdeal.τ Cert.AdamwRefIdeal.sig) → Buf (Elt Ideal) ℓ)
    (g : Dev Cert.AdamwRefIdeal.nD → PrngReg) :
    θ_run (Cert.AdamwRefIdeal.defs (F := Ideal)) (onTc (τ := Cert.AdamwRefIdeal.τ) (Cert.AdamwRefIdeal.main (F := Ideal))) ⟨m, fun _ => 0, g⟩
      (fun r => (∀ c : Dev Cert.AdamwRefIdeal.nD, r.2.mem ((c.tc : Thread Cert.AdamwRefIdeal.nD Cert.AdamwRefIdeal.τ).loc Cert.AdamwRefIdeal.main_arg0) = m ((c.tc : Thread Cert.AdamwRefIdeal.nD Cert.AdamwRefIdeal.τ).loc Cert.AdamwRefIdeal.main_arg0) ∧ r.2.mem ((c.tc : Thread Cert.AdamwRefIdeal.nD Cert.AdamwRefIdeal.τ).loc Cert.AdamwRefIdeal.main_arg1) = m ((c.tc : Thread Cert.AdamwRefIdeal.nD Cert.AdamwRefIdeal.τ).loc Cert.AdamwRefIdeal.main_arg1) ∧ r.2.mem ((c.tc : Thread Cert.AdamwRefIdeal.nD Cert.AdamwRefIdeal.τ).loc Cert.AdamwRefIdeal.main_arg2) = m ((c.tc : Thread Cert.AdamwRefIdeal.nD Cert.AdamwRefIdeal.τ).loc Cert.AdamwRefIdeal.main_arg2) ∧ r.2.mem ((c.tc : Thread Cert.AdamwRefIdeal.nD Cert.AdamwRefIdeal.τ).loc Cert.AdamwRefIdeal.main_arg3) = m ((c.tc : Thread Cert.AdamwRefIdeal.nD Cert.AdamwRefIdeal.τ).loc Cert.AdamwRefIdeal.main_arg3) ∧ r.2.mem ((c.tc : Thread Cert.AdamwRefIdeal.nD Cert.AdamwRefIdeal.τ).loc Cert.AdamwRefIdeal.main_arg4) = m ((c.tc : Thread Cert.AdamwRefIdeal.nD Cert.AdamwRefIdeal.τ).loc Cert.AdamwRefIdeal.main_arg4)) ∧ r.2.sem = fun _ => 0) :=
  (θ_run Cert.AdamwRefIdeal.defs _ _).mono (fun r h => ⟨fun c => (h c).2.2.2.2,
      Idealize.ShloMosaic.sem_eq_zero_of_no_sems (by decide) r.2⟩)
    (Cert.AdamwRefIdeal.Value.run (F := Ideal) m g)

/-- The reference of Cast runs, leaves its arguments alone, and has no semaphore. -/
theorem cast_reference_frame (m : (ℓ : Loc Cert.CastRefIdeal.nD Cert.CastRefIdeal.τ Cert.CastRefIdeal.sig) → Buf (Elt Ideal) ℓ)
    (g : Dev Cert.CastRefIdeal.nD → PrngReg) :
    θ_run (Cert.CastRefIdeal.defs (F := Ideal)) (onTc (τ := Cert.CastRefIdeal.τ) (Cert.CastRefIdeal.main (F := Ideal))) ⟨m, fun _ => 0, g⟩
      (fun r => (∀ c : Dev Cert.CastRefIdeal.nD, r.2.mem ((c.tc : Thread Cert.CastRefIdeal.nD Cert.CastRefIdeal.τ).loc Cert.CastRefIdeal.main_arg0) = m ((c.tc : Thread Cert.CastRefIdeal.nD Cert.CastRefIdeal.τ).loc Cert.CastRefIdeal.main_arg0)) ∧ r.2.sem = fun _ => 0) :=
  (θ_run Cert.CastRefIdeal.defs _ _).mono (fun r h => ⟨fun c => (h c).2,
      Idealize.ShloMosaic.sem_eq_zero_of_no_sems (by decide) r.2⟩)
    (Cert.CastRefIdeal.Value.run (F := Ideal) m g)

/-- The reference of AdamwOwn runs, leaves its arguments alone, and has no semaphore. -/
theorem adamwOwn_reference_frame (m : (ℓ : Loc Cert.AdamwOwnRefIdeal.nD Cert.AdamwOwnRefIdeal.τ Cert.AdamwOwnRefIdeal.sig) → Buf (Elt Ideal) ℓ)
    (g : Dev Cert.AdamwOwnRefIdeal.nD → PrngReg) :
    θ_run (Cert.AdamwOwnRefIdeal.defs (F := Ideal)) (onTc (τ := Cert.AdamwOwnRefIdeal.τ) (Cert.AdamwOwnRefIdeal.main (F := Ideal))) ⟨m, fun _ => 0, g⟩
      (fun r => (∀ c : Dev Cert.AdamwOwnRefIdeal.nD, r.2.mem ((c.tc : Thread Cert.AdamwOwnRefIdeal.nD Cert.AdamwOwnRefIdeal.τ).loc Cert.AdamwOwnRefIdeal.main_arg0) = m ((c.tc : Thread Cert.AdamwOwnRefIdeal.nD Cert.AdamwOwnRefIdeal.τ).loc Cert.AdamwOwnRefIdeal.main_arg0) ∧ r.2.mem ((c.tc : Thread Cert.AdamwOwnRefIdeal.nD Cert.AdamwOwnRefIdeal.τ).loc Cert.AdamwOwnRefIdeal.main_arg1) = m ((c.tc : Thread Cert.AdamwOwnRefIdeal.nD Cert.AdamwOwnRefIdeal.τ).loc Cert.AdamwOwnRefIdeal.main_arg1) ∧ r.2.mem ((c.tc : Thread Cert.AdamwOwnRefIdeal.nD Cert.AdamwOwnRefIdeal.τ).loc Cert.AdamwOwnRefIdeal.main_arg2) = m ((c.tc : Thread Cert.AdamwOwnRefIdeal.nD Cert.AdamwOwnRefIdeal.τ).loc Cert.AdamwOwnRefIdeal.main_arg2) ∧ r.2.mem ((c.tc : Thread Cert.AdamwOwnRefIdeal.nD Cert.AdamwOwnRefIdeal.τ).loc Cert.AdamwOwnRefIdeal.main_arg3) = m ((c.tc : Thread Cert.AdamwOwnRefIdeal.nD Cert.AdamwOwnRefIdeal.τ).loc Cert.AdamwOwnRefIdeal.main_arg3) ∧ r.2.mem ((c.tc : Thread Cert.AdamwOwnRefIdeal.nD Cert.AdamwOwnRefIdeal.τ).loc Cert.AdamwOwnRefIdeal.main_arg4) = m ((c.tc : Thread Cert.AdamwOwnRefIdeal.nD Cert.AdamwOwnRefIdeal.τ).loc Cert.AdamwOwnRefIdeal.main_arg4) ∧ r.2.mem ((c.tc : Thread Cert.AdamwOwnRefIdeal.nD Cert.AdamwOwnRefIdeal.τ).loc Cert.AdamwOwnRefIdeal.main_arg5) = m ((c.tc : Thread Cert.AdamwOwnRefIdeal.nD Cert.AdamwOwnRefIdeal.τ).loc Cert.AdamwOwnRefIdeal.main_arg5)) ∧ r.2.sem = fun _ => 0) :=
  (θ_run Cert.AdamwOwnRefIdeal.defs _ _).mono (fun r h => ⟨fun c => (h c).2.2.2.2,
      Idealize.ShloMosaic.sem_eq_zero_of_no_sems (by decide) r.2⟩)
    (Cert.AdamwOwnRefIdeal.Value.run (F := Ideal) m g)

/-- The reference of NormFirst runs, leaves its arguments alone, and has no semaphore. -/
theorem normFirst_reference_frame (m : (ℓ : Loc Cert.NormFirstRefIdeal.nD Cert.NormFirstRefIdeal.τ Cert.NormFirstRefIdeal.sig) → Buf (Elt Ideal) ℓ)
    (g : Dev Cert.NormFirstRefIdeal.nD → PrngReg) :
    θ_run (Cert.NormFirstRefIdeal.defs (F := Ideal)) (onTc (τ := Cert.NormFirstRefIdeal.τ) (Cert.NormFirstRefIdeal.main (F := Ideal))) ⟨m, fun _ => 0, g⟩
      (fun r => (∀ c : Dev Cert.NormFirstRefIdeal.nD, r.2.mem ((c.tc : Thread Cert.NormFirstRefIdeal.nD Cert.NormFirstRefIdeal.τ).loc Cert.NormFirstRefIdeal.main_arg0) = m ((c.tc : Thread Cert.NormFirstRefIdeal.nD Cert.NormFirstRefIdeal.τ).loc Cert.NormFirstRefIdeal.main_arg0) ∧ r.2.mem ((c.tc : Thread Cert.NormFirstRefIdeal.nD Cert.NormFirstRefIdeal.τ).loc Cert.NormFirstRefIdeal.main_arg1) = m ((c.tc : Thread Cert.NormFirstRefIdeal.nD Cert.NormFirstRefIdeal.τ).loc Cert.NormFirstRefIdeal.main_arg1) ∧ r.2.mem ((c.tc : Thread Cert.NormFirstRefIdeal.nD Cert.NormFirstRefIdeal.τ).loc Cert.NormFirstRefIdeal.main_arg2) = m ((c.tc : Thread Cert.NormFirstRefIdeal.nD Cert.NormFirstRefIdeal.τ).loc Cert.NormFirstRefIdeal.main_arg2) ∧ r.2.mem ((c.tc : Thread Cert.NormFirstRefIdeal.nD Cert.NormFirstRefIdeal.τ).loc Cert.NormFirstRefIdeal.main_arg3) = m ((c.tc : Thread Cert.NormFirstRefIdeal.nD Cert.NormFirstRefIdeal.τ).loc Cert.NormFirstRefIdeal.main_arg3)) ∧ r.2.sem = fun _ => 0) :=
  (θ_run Cert.NormFirstRefIdeal.defs _ _).mono (fun r h => ⟨fun c => (h c).2.2,
      Idealize.ShloMosaic.sem_eq_zero_of_no_sems (by decide) r.2⟩)
    (Cert.NormFirstRefIdeal.Value.run (F := Ideal) m g)

/-- The reference of InProj runs, leaves its arguments alone, and has no semaphore. -/
theorem inProj_reference_frame (m : (ℓ : Loc Cert.InProjRefIdeal.nD Cert.InProjRefIdeal.τ Cert.InProjRefIdeal.sig) → Buf (Elt Ideal) ℓ)
    (g : Dev Cert.InProjRefIdeal.nD → PrngReg) :
    θ_run (Cert.InProjRefIdeal.defs (F := Ideal)) (onTc (τ := Cert.InProjRefIdeal.τ) (Cert.InProjRefIdeal.main (F := Ideal))) ⟨m, fun _ => 0, g⟩
      (fun r => (∀ c : Dev Cert.InProjRefIdeal.nD, r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0) ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)) ∧ r.2.sem = fun _ => 0) :=
  (θ_run Cert.InProjRefIdeal.defs _ _).mono (fun r h => ⟨fun c => (h c).2,
      Idealize.ShloMosaic.sem_eq_zero_of_no_sems (by decide) r.2⟩)
    (Cert.InProjRefIdeal.Value.run (F := Ideal) m g)

/-- The reference of InProjDx runs, leaves its arguments alone, and has no semaphore. -/
theorem inProjDx_reference_frame (m : (ℓ : Loc Cert.InProjDxRefIdeal.nD Cert.InProjDxRefIdeal.τ Cert.InProjDxRefIdeal.sig) → Buf (Elt Ideal) ℓ)
    (g : Dev Cert.InProjDxRefIdeal.nD → PrngReg) :
    θ_run (Cert.InProjDxRefIdeal.defs (F := Ideal)) (onTc (τ := Cert.InProjDxRefIdeal.τ) (Cert.InProjDxRefIdeal.main (F := Ideal))) ⟨m, fun _ => 0, g⟩
      (fun r => (∀ c : Dev Cert.InProjDxRefIdeal.nD, r.2.mem ((c.tc : Thread Cert.InProjDxRefIdeal.nD Cert.InProjDxRefIdeal.τ).loc Cert.InProjDxRefIdeal.main_arg0) = m ((c.tc : Thread Cert.InProjDxRefIdeal.nD Cert.InProjDxRefIdeal.τ).loc Cert.InProjDxRefIdeal.main_arg0) ∧ r.2.mem ((c.tc : Thread Cert.InProjDxRefIdeal.nD Cert.InProjDxRefIdeal.τ).loc Cert.InProjDxRefIdeal.main_arg1) = m ((c.tc : Thread Cert.InProjDxRefIdeal.nD Cert.InProjDxRefIdeal.τ).loc Cert.InProjDxRefIdeal.main_arg1)) ∧ r.2.sem = fun _ => 0) :=
  (θ_run Cert.InProjDxRefIdeal.defs _ _).mono (fun r h => ⟨fun c => (h c).2,
      Idealize.ShloMosaic.sem_eq_zero_of_no_sems (by decide) r.2⟩)
    (Cert.InProjDxRefIdeal.Value.run (F := Ideal) m g)

/-- The reference of InProjDw runs, leaves its arguments alone, and has no semaphore. -/
theorem inProjDw_reference_frame (m : (ℓ : Loc Cert.InProjDwRefIdeal.nD Cert.InProjDwRefIdeal.τ Cert.InProjDwRefIdeal.sig) → Buf (Elt Ideal) ℓ)
    (g : Dev Cert.InProjDwRefIdeal.nD → PrngReg) :
    θ_run (Cert.InProjDwRefIdeal.defs (F := Ideal)) (onTc (τ := Cert.InProjDwRefIdeal.τ) (Cert.InProjDwRefIdeal.main (F := Ideal))) ⟨m, fun _ => 0, g⟩
      (fun r => (∀ c : Dev Cert.InProjDwRefIdeal.nD, r.2.mem ((c.tc : Thread Cert.InProjDwRefIdeal.nD Cert.InProjDwRefIdeal.τ).loc Cert.InProjDwRefIdeal.main_arg0) = m ((c.tc : Thread Cert.InProjDwRefIdeal.nD Cert.InProjDwRefIdeal.τ).loc Cert.InProjDwRefIdeal.main_arg0) ∧ r.2.mem ((c.tc : Thread Cert.InProjDwRefIdeal.nD Cert.InProjDwRefIdeal.τ).loc Cert.InProjDwRefIdeal.main_arg1) = m ((c.tc : Thread Cert.InProjDwRefIdeal.nD Cert.InProjDwRefIdeal.τ).loc Cert.InProjDwRefIdeal.main_arg1)) ∧ r.2.sem = fun _ => 0) :=
  (θ_run Cert.InProjDwRefIdeal.defs _ _).mono (fun r h => ⟨fun c => (h c).2,
      Idealize.ShloMosaic.sem_eq_zero_of_no_sems (by decide) r.2⟩)
    (Cert.InProjDwRefIdeal.Value.run (F := Ideal) m g)

/-- The reference of OutProj runs, leaves its arguments alone, and has no semaphore. -/
theorem outProj_reference_frame (m : (ℓ : Loc Cert.OutProjRefIdeal.nD Cert.OutProjRefIdeal.τ Cert.OutProjRefIdeal.sig) → Buf (Elt Ideal) ℓ)
    (g : Dev Cert.OutProjRefIdeal.nD → PrngReg) :
    θ_run (Cert.OutProjRefIdeal.defs (F := Ideal)) (onTc (τ := Cert.OutProjRefIdeal.τ) (Cert.OutProjRefIdeal.main (F := Ideal))) ⟨m, fun _ => 0, g⟩
      (fun r => (∀ c : Dev Cert.OutProjRefIdeal.nD, r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0) ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1) ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)) ∧ r.2.sem = fun _ => 0) :=
  (θ_run Cert.OutProjRefIdeal.defs _ _).mono (fun r h => ⟨fun c => (h c).2,
      Idealize.ShloMosaic.sem_eq_zero_of_no_sems (by decide) r.2⟩)
    (Cert.OutProjRefIdeal.Value.run (F := Ideal) m g)

/-- The reference of OutProjDx runs, leaves its arguments alone, and has no semaphore. -/
theorem outProjDx_reference_frame (m : (ℓ : Loc Cert.OutProjDxRefIdeal.nD Cert.OutProjDxRefIdeal.τ Cert.OutProjDxRefIdeal.sig) → Buf (Elt Ideal) ℓ)
    (g : Dev Cert.OutProjDxRefIdeal.nD → PrngReg) :
    θ_run (Cert.OutProjDxRefIdeal.defs (F := Ideal)) (onTc (τ := Cert.OutProjDxRefIdeal.τ) (Cert.OutProjDxRefIdeal.main (F := Ideal))) ⟨m, fun _ => 0, g⟩
      (fun r => (∀ c : Dev Cert.OutProjDxRefIdeal.nD, r.2.mem ((c.tc : Thread Cert.OutProjDxRefIdeal.nD Cert.OutProjDxRefIdeal.τ).loc Cert.OutProjDxRefIdeal.main_arg0) = m ((c.tc : Thread Cert.OutProjDxRefIdeal.nD Cert.OutProjDxRefIdeal.τ).loc Cert.OutProjDxRefIdeal.main_arg0) ∧ r.2.mem ((c.tc : Thread Cert.OutProjDxRefIdeal.nD Cert.OutProjDxRefIdeal.τ).loc Cert.OutProjDxRefIdeal.main_arg1) = m ((c.tc : Thread Cert.OutProjDxRefIdeal.nD Cert.OutProjDxRefIdeal.τ).loc Cert.OutProjDxRefIdeal.main_arg1)) ∧ r.2.sem = fun _ => 0) :=
  (θ_run Cert.OutProjDxRefIdeal.defs _ _).mono (fun r h => ⟨fun c => (h c).2,
      Idealize.ShloMosaic.sem_eq_zero_of_no_sems (by decide) r.2⟩)
    (Cert.OutProjDxRefIdeal.Value.run (F := Ideal) m g)

/-- The reference of OutProjDw runs, leaves its arguments alone, and has no semaphore. -/
theorem outProjDw_reference_frame (m : (ℓ : Loc Cert.OutProjDwRefIdeal.nD Cert.OutProjDwRefIdeal.τ Cert.OutProjDwRefIdeal.sig) → Buf (Elt Ideal) ℓ)
    (g : Dev Cert.OutProjDwRefIdeal.nD → PrngReg) :
    θ_run (Cert.OutProjDwRefIdeal.defs (F := Ideal)) (onTc (τ := Cert.OutProjDwRefIdeal.τ) (Cert.OutProjDwRefIdeal.main (F := Ideal))) ⟨m, fun _ => 0, g⟩
      (fun r => (∀ c : Dev Cert.OutProjDwRefIdeal.nD, r.2.mem ((c.tc : Thread Cert.OutProjDwRefIdeal.nD Cert.OutProjDwRefIdeal.τ).loc Cert.OutProjDwRefIdeal.main_arg0) = m ((c.tc : Thread Cert.OutProjDwRefIdeal.nD Cert.OutProjDwRefIdeal.τ).loc Cert.OutProjDwRefIdeal.main_arg0) ∧ r.2.mem ((c.tc : Thread Cert.OutProjDwRefIdeal.nD Cert.OutProjDwRefIdeal.τ).loc Cert.OutProjDwRefIdeal.main_arg1) = m ((c.tc : Thread Cert.OutProjDwRefIdeal.nD Cert.OutProjDwRefIdeal.τ).loc Cert.OutProjDwRefIdeal.main_arg1)) ∧ r.2.sem = fun _ => 0) :=
  (θ_run Cert.OutProjDwRefIdeal.defs _ _).mono (fun r h => ⟨fun c => (h c).2,
      Idealize.ShloMosaic.sem_eq_zero_of_no_sems (by decide) r.2⟩)
    (Cert.OutProjDwRefIdeal.Value.run (F := Ideal) m g)

/-- The reference of UpDw runs, leaves its arguments alone, and has no semaphore. -/
theorem upDw_reference_frame (m : (ℓ : Loc Cert.UpDwRefIdeal.nD Cert.UpDwRefIdeal.τ Cert.UpDwRefIdeal.sig) → Buf (Elt Ideal) ℓ)
    (g : Dev Cert.UpDwRefIdeal.nD → PrngReg) :
    θ_run (Cert.UpDwRefIdeal.defs (F := Ideal)) (onTc (τ := Cert.UpDwRefIdeal.τ) (Cert.UpDwRefIdeal.main (F := Ideal))) ⟨m, fun _ => 0, g⟩
      (fun r => (∀ c : Dev Cert.UpDwRefIdeal.nD, r.2.mem ((c.tc : Thread Cert.UpDwRefIdeal.nD Cert.UpDwRefIdeal.τ).loc Cert.UpDwRefIdeal.main_arg0) = m ((c.tc : Thread Cert.UpDwRefIdeal.nD Cert.UpDwRefIdeal.τ).loc Cert.UpDwRefIdeal.main_arg0) ∧ r.2.mem ((c.tc : Thread Cert.UpDwRefIdeal.nD Cert.UpDwRefIdeal.τ).loc Cert.UpDwRefIdeal.main_arg1) = m ((c.tc : Thread Cert.UpDwRefIdeal.nD Cert.UpDwRefIdeal.τ).loc Cert.UpDwRefIdeal.main_arg1)) ∧ r.2.sem = fun _ => 0) :=
  (θ_run Cert.UpDwRefIdeal.defs _ _).mono (fun r h => ⟨fun c => (h c).2,
      Idealize.ShloMosaic.sem_eq_zero_of_no_sems (by decide) r.2⟩)
    (Cert.UpDwRefIdeal.Value.run (F := Ideal) m g)

/-- The reference of CastFirst runs, leaves its arguments alone, and has no semaphore. -/
theorem castFirst_reference_frame (m : (ℓ : Loc Cert.CastFirstRefIdeal.nD Cert.CastFirstRefIdeal.τ Cert.CastFirstRefIdeal.sig) → Buf (Elt Ideal) ℓ)
    (g : Dev Cert.CastFirstRefIdeal.nD → PrngReg) :
    θ_run (Cert.CastFirstRefIdeal.defs (F := Ideal)) (onTc (τ := Cert.CastFirstRefIdeal.τ) (Cert.CastFirstRefIdeal.main (F := Ideal))) ⟨m, fun _ => 0, g⟩
      (fun r => (∀ c : Dev Cert.CastFirstRefIdeal.nD, r.2.mem ((c.tc : Thread Cert.CastFirstRefIdeal.nD Cert.CastFirstRefIdeal.τ).loc Cert.CastFirstRefIdeal.main_arg0) = m ((c.tc : Thread Cert.CastFirstRefIdeal.nD Cert.CastFirstRefIdeal.τ).loc Cert.CastFirstRefIdeal.main_arg0)) ∧ r.2.sem = fun _ => 0) :=
  (θ_run Cert.CastFirstRefIdeal.defs _ _).mono (fun r h => ⟨fun c => (h c).2,
      Idealize.ShloMosaic.sem_eq_zero_of_no_sems (by decide) r.2⟩)
    (Cert.CastFirstRefIdeal.Value.run (F := Ideal) m g)

theorem claim : Cert.Claim :=
  ⟨Cert.Relu2.Gen.facts,
   Cert.Relu2Ideal.Gen.facts,
   Cert.Relu2RefIdeal.Gen.facts,
   Cert.NormBwd.Gen.facts,
   Cert.NormBwdIdeal.Gen.facts,
   Cert.NormBwdRefIdeal.Gen.facts,
   Cert.Loss.Gen.facts,
   Cert.LossIdeal.Gen.facts,
   Cert.LossRefIdeal.Gen.facts,
   Cert.MixerBwd.Gen.facts,
   Cert.MixerBwdIdeal.Gen.facts,
   Cert.MixerBwdRefIdeal.Gen.facts,
   Cert.Norm.Gen.facts,
   Cert.NormIdeal.Gen.facts,
   Cert.NormRefIdeal.Gen.facts,
   Cert.Up.Gen.facts,
   Cert.UpIdeal.Gen.facts,
   Cert.UpRefIdeal.Gen.facts,
   Cert.Mixer.Gen.facts,
   Cert.MixerIdeal.Gen.facts,
   Cert.MixerRefIdeal.Gen.facts,
   Cert.Down.Gen.facts,
   Cert.DownIdeal.Gen.facts,
   Cert.DownRefIdeal.Gen.facts,
   Cert.UpDx.Gen.facts,
   Cert.UpDxIdeal.Gen.facts,
   Cert.UpDxRefIdeal.Gen.facts,
   Cert.DownDw.Gen.facts,
   Cert.DownDwIdeal.Gen.facts,
   Cert.DownDwRefIdeal.Gen.facts,
   Cert.Adamw.Gen.facts,
   Cert.AdamwIdeal.Gen.facts,
   Cert.AdamwRefIdeal.Gen.facts,
   Cert.Cast.Gen.facts,
   Cert.CastIdeal.Gen.facts,
   Cert.CastRefIdeal.Gen.facts,
   Cert.Gather.Gen.facts,
   Cert.GatherIdeal.Gen.facts,
   Cert.GatherRefIdeal.Gen.facts,
   Cert.AdamwOwn.Gen.facts,
   Cert.AdamwOwnIdeal.Gen.facts,
   Cert.AdamwOwnRefIdeal.Gen.facts,
   Cert.NormFirst.Gen.facts,
   Cert.NormFirstIdeal.Gen.facts,
   Cert.NormFirstRefIdeal.Gen.facts,
   Cert.InProj.Gen.facts,
   Cert.InProjIdeal.Gen.facts,
   Cert.InProjRefIdeal.Gen.facts,
   Cert.InProjDx.Gen.facts,
   Cert.InProjDxIdeal.Gen.facts,
   Cert.InProjDxRefIdeal.Gen.facts,
   Cert.InProjDw.Gen.facts,
   Cert.InProjDwIdeal.Gen.facts,
   Cert.InProjDwRefIdeal.Gen.facts,
   Cert.OutProj.Gen.facts,
   Cert.OutProjIdeal.Gen.facts,
   Cert.OutProjRefIdeal.Gen.facts,
   Cert.OutProjDx.Gen.facts,
   Cert.OutProjDxIdeal.Gen.facts,
   Cert.OutProjDxRefIdeal.Gen.facts,
   Cert.OutProjDw.Gen.facts,
   Cert.OutProjDwIdeal.Gen.facts,
   Cert.OutProjDwRefIdeal.Gen.facts,
   Cert.UpDw.Gen.facts,
   Cert.UpDwIdeal.Gen.facts,
   Cert.UpDwRefIdeal.Gen.facts,
   Cert.CastFirst.Gen.facts,
   Cert.CastFirstIdeal.Gen.facts,
   Cert.CastFirstRefIdeal.Gen.facts,
   Cert.MixerForm.pool_facts,
   Cert.MixerIdeal.Final.pool_input_facts,
   Cert.AdamwOwnForm.own_facts,
   fun m ρ _ => Cert.Relu2.Gen.frame m ρ,
   fun m ρ _ => Cert.Relu2Ideal.Gen.frame m ρ,
   fun m ρ _ => relu2_reference_frame m ρ,
   fun m ρ _ => Cert.NormBwd.Gen.frame m ρ,
   fun m ρ _ => Cert.NormBwdIdeal.Gen.frame m ρ,
   fun m ρ _ => normBwd_reference_frame m ρ,
   fun m ρ _ => Cert.Loss.Gen.frame m ρ,
   fun m ρ _ => Cert.LossIdeal.Gen.frame m ρ,
   fun m ρ _ => loss_reference_frame m ρ,
   fun m ρ _ => Cert.MixerBwd.Gen.frame m ρ,
   fun m ρ _ => Cert.MixerBwdIdeal.Gen.frame m ρ,
   fun m ρ _ => Cert.MixerBwdIdeal.Gen.frame m ρ,
   fun m ρ _ => mixerBwd_reference_frame m ρ,
   fun m ρ _ => mixerBwd_reference_frame m ρ,
   fun m ρ _ => Cert.Norm.Gen.frame m ρ,
   fun m ρ _ => Cert.NormIdeal.Gen.frame m ρ,
   fun m ρ _ => norm_reference_frame m ρ,
   fun m ρ _ => Cert.Up.Gen.frame m ρ,
   fun m ρ _ => Cert.UpIdeal.Gen.frame m ρ,
   fun m ρ _ => up_reference_frame m ρ,
   fun m ρ _ => Cert.Mixer.Gen.frame m ρ,
   fun m ρ _ => Cert.MixerIdeal.Gen.frame m ρ,
   fun m ρ _ => Cert.MixerIdeal.Gen.frame m ρ,
   fun m ρ _ => mixer_reference_frame m ρ,
   fun m ρ _ => mixer_reference_frame m ρ,
   fun m ρ _ => Cert.Down.Gen.frame m ρ,
   fun m ρ _ => Cert.DownIdeal.Gen.frame m ρ,
   fun m ρ _ => down_reference_frame m ρ,
   fun m ρ _ => Cert.UpDx.Gen.frame m ρ,
   fun m ρ _ => Cert.UpDxIdeal.Gen.frame m ρ,
   fun m ρ _ => upDx_reference_frame m ρ,
   fun m ρ _ => Cert.DownDw.Gen.frame m ρ,
   fun m ρ _ => Cert.DownDwIdeal.Gen.frame m ρ,
   fun m ρ _ => downDw_reference_frame m ρ,
   fun m ρ _ => Cert.Adamw.Gen.frame m ρ trivial,
   fun m ρ _ => Cert.AdamwIdeal.Gen.frame m ρ trivial,
   fun m ρ _ => adamw_reference_frame m ρ,
   fun m ρ _ => Cert.Cast.Gen.frame m ρ,
   fun m ρ _ => Cert.CastIdeal.Gen.frame m ρ,
   fun m ρ _ => cast_reference_frame m ρ,
   fun m ρ _ => Cert.GatherPair.bits_frame m ρ,
   fun m ρ _ => Cert.GatherPair.ideal_frame m ρ,
   fun m ρ _ => Cert.GatherPair.reference_frame m ρ,
   fun m ρ hp => Cert.AdamwOwn.Gen.frame m ρ (Cert.AdamwOwn.Final.ok_of_lt m (Cert.AdamwOwnForm.me_lt _ _ _ _ _ _ (hp 0))),
   fun m ρ hp => Cert.AdamwOwnIdeal.Gen.frame m ρ (Cert.AdamwOwnIdeal.Final.ok_of_lt m (Cert.AdamwOwnForm.me_lt _ _ _ _ _ _ (hp 0))),
   fun m ρ _ => adamwOwn_reference_frame m ρ,
   fun m ρ _ => adamwOwn_reference_frame m ρ,
   fun m ρ _ => Cert.NormFirst.Gen.frame m ρ,
   fun m ρ _ => Cert.NormFirstIdeal.Gen.frame m ρ,
   fun m ρ _ => normFirst_reference_frame m ρ,
   fun m ρ _ => Cert.InProj.Gen.frame m ρ,
   fun m ρ _ => Cert.InProjIdeal.Gen.frame m ρ,
   fun m ρ _ => inProj_reference_frame m ρ,
   fun m ρ _ => Cert.InProjDx.Gen.frame m ρ,
   fun m ρ _ => Cert.InProjDxIdeal.Gen.frame m ρ,
   fun m ρ _ => inProjDx_reference_frame m ρ,
   fun m ρ _ => Cert.InProjDw.Gen.frame m ρ,
   fun m ρ _ => Cert.InProjDwIdeal.Gen.frame m ρ,
   fun m ρ _ => inProjDw_reference_frame m ρ,
   fun m ρ _ => Cert.OutProj.Gen.frame m ρ,
   fun m ρ _ => Cert.OutProjIdeal.Gen.frame m ρ,
   fun m ρ _ => outProj_reference_frame m ρ,
   fun m ρ _ => Cert.OutProjDx.Gen.frame m ρ,
   fun m ρ _ => Cert.OutProjDxIdeal.Gen.frame m ρ,
   fun m ρ _ => outProjDx_reference_frame m ρ,
   fun m ρ _ => Cert.OutProjDw.Gen.frame m ρ,
   fun m ρ _ => Cert.OutProjDwIdeal.Gen.frame m ρ,
   fun m ρ _ => outProjDw_reference_frame m ρ,
   fun m ρ _ => Cert.UpDw.Gen.frame m ρ,
   fun m ρ _ => Cert.UpDwIdeal.Gen.frame m ρ,
   fun m ρ _ => upDw_reference_frame m ρ,
   fun m ρ _ => Cert.CastFirst.Gen.frame m ρ,
   fun m ρ _ => Cert.CastFirstIdeal.Gen.frame m ρ,
   fun m ρ _ => castFirst_reference_frame m ρ,
   trivial,
   relu2_algebraic,
   trivial,
   normBwd_algebraic,
   trivial,
   loss_algebraic,
   trivial,
   mixerBwd_algebraic,
   trivial,
   norm_algebraic,
   trivial,
   up_algebraic,
   trivial,
   mixer_algebraic,
   trivial,
   down_algebraic,
   trivial,
   upDx_algebraic,
   trivial,
   downDw_algebraic,
   trivial,
   adamw_algebraic,
   trivial,
   cast_algebraic,
   trivial,
   Cert.GatherPair.algebraic,
   trivial,
   adamwOwn_algebraic,
   trivial,
   normFirst_algebraic,
   trivial,
   inProj_algebraic,
   trivial,
   inProjDx_algebraic,
   trivial,
   inProjDw_algebraic,
   trivial,
   outProj_algebraic,
   trivial,
   outProjDx_algebraic,
   trivial,
   outProjDw_algebraic,
   trivial,
   upDw_algebraic,
   trivial,
   castFirst_algebraic⟩

end Cert.Proof

end
